-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10)
      ∧ r.2.mem ((c.tc : Thread Cert.Kernel23.nD Cert.Kernel23.τ).loc Cert.Kernel23.main_arg11) = m ((c.tc : Thread Cert.Kernel23.nD Cert.Kernel23.τ).loc Cert.Kernel23.main_arg11)
      ∧ r.2.mem ((c.tc : Thread Cert.Kernel23.nD Cert.Kernel23.τ).loc Cert.Kernel23.main_arg12) = m ((c.tc : Thread Cert.Kernel23.nD Cert.Kernel23.τ).loc Cert.Kernel23.main_arg12))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
      ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
      ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10)
      ∧ r.2.mem ((c.tc : Thread Cert.Reference23Ideal.nD Cert.Reference23Ideal.τ).loc Cert.Reference23Ideal.main_arg11) = m ((c.tc : Thread Cert.Reference23Ideal.nD Cert.Reference23Ideal.τ).loc Cert.Reference23Ideal.main_arg11)
      ∧ r.2.mem ((c.tc : Thread Cert.Reference23Ideal.nD Cert.Reference23Ideal.τ).loc Cert.Reference23Ideal.main_arg12) = m ((c.tc : Thread Cert.Reference23Ideal.nD Cert.Reference23Ideal.τ).loc Cert.Reference23Ideal.main_arg12))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6)
      ∧ r.2.mem ((c.tc : Thread Cert.Kernel33.nD Cert.Kernel33.τ).loc Cert.Kernel33.main_arg7) = m ((c.tc : Thread Cert.Kernel33.nD Cert.Kernel33.τ).loc Cert.Kernel33.main_arg7)
      ∧ r.2.mem ((c.tc : Thread Cert.Kernel33.nD Cert.Kernel33.τ).loc Cert.Kernel33.main_arg8) = m ((c.tc : Thread Cert.Kernel33.nD Cert.Kernel33.τ).loc Cert.Kernel33.main_arg8)
      ∧ r.2.mem ((c.tc : Thread Cert.Kernel33.nD Cert.Kernel33.τ).loc Cert.Kernel33.main_arg9) = m ((c.tc : Thread Cert.Kernel33.nD Cert.Kernel33.τ).loc Cert.Kernel33.main_arg9)
      ∧ r.2.mem ((c.tc : Thread Cert.Kernel33.nD Cert.Kernel33.τ).loc Cert.Kernel33.main_arg10) = m ((c.tc : Thread Cert.Kernel33.nD Cert.Kernel33.τ).loc Cert.Kernel33.main_arg10)
      ∧ r.2.mem ((c.tc : Thread Cert.Kernel33.nD Cert.Kernel33.τ).loc Cert.Kernel33.main_arg11) = m ((c.tc : Thread Cert.Kernel33.nD Cert.Kernel33.τ).loc Cert.Kernel33.main_arg11)
      ∧ r.2.mem ((c.tc : Thread Cert.Kernel33.nD Cert.Kernel33.τ).loc Cert.Kernel33.main_arg12) = m ((c.tc : Thread Cert.Kernel33.nD Cert.Kernel33.τ).loc Cert.Kernel33.main_arg12)
      ∧ r.2.mem ((c.tc : Thread Cert.Kernel33.nD Cert.Kernel33.τ).loc Cert.Kernel33.main_arg13) = m ((c.tc : Thread Cert.Kernel33.nD Cert.Kernel33.τ).loc Cert.Kernel33.main_arg13)
      ∧ r.2.mem ((c.tc : Thread Cert.Kernel33.nD Cert.Kernel33.τ).loc Cert.Kernel33.main_arg14) = m ((c.tc : Thread Cert.Kernel33.nD Cert.Kernel33.τ).loc Cert.Kernel33.main_arg14)
      ∧ r.2.mem ((c.tc : Thread Cert.Kernel33.nD Cert.Kernel33.τ).loc Cert.Kernel33.main_arg15) = m ((c.tc : Thread Cert.Kernel33.nD Cert.Kernel33.τ).loc Cert.Kernel33.main_arg15)
      ∧ r.2.mem ((c.tc : Thread Cert.Kernel33.nD Cert.Kernel33.τ).loc Cert.Kernel33.main_arg16) = m ((c.tc : Thread Cert.Kernel33.nD Cert.Kernel33.τ).loc Cert.Kernel33.main_arg16)
      ∧ r.2.mem ((c.tc : Thread Cert.Kernel33.nD Cert.Kernel33.τ).loc Cert.Kernel33.main_arg17) = m ((c.tc : Thread Cert.Kernel33.nD Cert.Kernel33.τ).loc Cert.Kernel33.main_arg17)
      ∧ r.2.mem ((c.tc : Thread Cert.Kernel33.nD Cert.Kernel33.τ).loc Cert.Kernel33.main_arg18) = m ((c.tc : Thread Cert.Kernel33.nD Cert.Kernel33.τ).loc Cert.Kernel33.main_arg18)
      ∧ r.2.mem ((c.tc : Thread Cert.Kernel33.nD Cert.Kernel33.τ).loc Cert.Kernel33.main_arg19) = m ((c.tc : Thread Cert.Kernel33.nD Cert.Kernel33.τ).loc Cert.Kernel33.main_arg19)
      ∧ r.2.mem ((c.tc : Thread Cert.Kernel33.nD Cert.Kernel33.τ).loc Cert.Kernel33.main_arg20) = m ((c.tc : Thread Cert.Kernel33.nD Cert.Kernel33.τ).loc Cert.Kernel33.main_arg20)
      ∧ r.2.mem ((c.tc : Thread Cert.Kernel33.nD Cert.Kernel33.τ).loc Cert.Kernel33.main_arg21) = m ((c.tc : Thread Cert.Kernel33.nD Cert.Kernel33.τ).loc Cert.Kernel33.main_arg21)
      ∧ r.2.mem ((c.tc : Thread Cert.Kernel33.nD Cert.Kernel33.τ).loc Cert.Kernel33.main_arg22) = m ((c.tc : Thread Cert.Kernel33.nD Cert.Kernel33.τ).loc Cert.Kernel33.main_arg22)
      ∧ r.2.mem ((c.tc : Thread Cert.Kernel33.nD Cert.Kernel33.τ).loc Cert.Kernel33.main_arg23) = m ((c.tc : Thread Cert.Kernel33.nD Cert.Kernel33.τ).loc Cert.Kernel33.main_arg23)
      ∧ r.2.mem ((c.tc : Thread Cert.Kernel33.nD Cert.Kernel33.τ).loc Cert.Kernel33.main_arg24) = m ((c.tc : Thread Cert.Kernel33.nD Cert.Kernel33.τ).loc Cert.Kernel33.main_arg24)
      ∧ r.2.mem ((c.tc : Thread Cert.Kernel33.nD Cert.Kernel33.τ).loc Cert.Kernel33.main_arg25) = m ((c.tc : Thread Cert.Kernel33.nD Cert.Kernel33.τ).loc Cert.Kernel33.main_arg25)
      ∧ r.2.mem ((c.tc : Thread Cert.Kernel33.nD Cert.Kernel33.τ).loc Cert.Kernel33.main_arg26) = m ((c.tc : Thread Cert.Kernel33.nD Cert.Kernel33.τ).loc Cert.Kernel33.main_arg26)
      ∧ r.2.mem ((c.tc : Thread Cert.Kernel33.nD Cert.Kernel33.τ).loc Cert.Kernel33.main_arg27) = m ((c.tc : Thread Cert.Kernel33.nD Cert.Kernel33.τ).loc Cert.Kernel33.main_arg27)
      ∧ r.2.mem ((c.tc : Thread Cert.Kernel33.nD Cert.Kernel33.τ).loc Cert.Kernel33.main_arg28) = m ((c.tc : Thread Cert.Kernel33.nD Cert.Kernel33.τ).loc Cert.Kernel33.main_arg28)
      ∧ r.2.mem ((c.tc : Thread Cert.Kernel33.nD Cert.Kernel33.τ).loc Cert.Kernel33.main_arg29) = m ((c.tc : Thread Cert.Kernel33.nD Cert.Kernel33.τ).loc Cert.Kernel33.main_arg29)
      ∧ r.2.mem ((c.tc : Thread Cert.Kernel33.nD Cert.Kernel33.τ).loc Cert.Kernel33.main_arg30) = m ((c.tc : Thread Cert.Kernel33.nD Cert.Kernel33.τ).loc Cert.Kernel33.main_arg30)
      ∧ r.2.mem ((c.tc : Thread Cert.Kernel33.nD Cert.Kernel33.τ).loc Cert.Kernel33.main_arg31) = m ((c.tc : Thread Cert.Kernel33.nD Cert.Kernel33.τ).loc Cert.Kernel33.main_arg31)
      ∧ r.2.mem ((c.tc : Thread Cert.Kernel33.nD Cert.Kernel33.τ).loc Cert.Kernel33.main_arg32) = m ((c.tc : Thread Cert.Kernel33.nD Cert.Kernel33.τ).loc Cert.Kernel33.main_arg32)
      ∧ r.2.mem ((c.tc : Thread Cert.Kernel33.nD Cert.Kernel33.τ).loc Cert.Kernel33.main_arg33) = m ((c.tc : Thread Cert.Kernel33.nD Cert.Kernel33.τ).loc Cert.Kernel33.main_arg33)
      ∧ r.2.mem ((c.tc : Thread Cert.Kernel33.nD Cert.Kernel33.τ).loc Cert.Kernel33.main_arg34) = m ((c.tc : Thread Cert.Kernel33.nD Cert.Kernel33.τ).loc Cert.Kernel33.main_arg34)
      ∧ r.2.mem ((c.tc : Thread Cert.Kernel33.nD Cert.Kernel33.τ).loc Cert.Kernel33.main_arg35) = m ((c.tc : Thread Cert.Kernel33.nD Cert.Kernel33.τ).loc Cert.Kernel33.main_arg35)
      ∧ r.2.mem ((c.tc : Thread Cert.Kernel33.nD Cert.Kernel33.τ).loc Cert.Kernel33.main_arg36) = m ((c.tc : Thread Cert.Kernel33.nD Cert.Kernel33.τ).loc Cert.Kernel33.main_arg36)
      ∧ r.2.mem ((c.tc : Thread Cert.Kernel33.nD Cert.Kernel33.τ).loc Cert.Kernel33.main_arg37) = m ((c.tc : Thread Cert.Kernel33.nD Cert.Kernel33.τ).loc Cert.Kernel33.main_arg37)
      ∧ r.2.mem ((c.tc : Thread Cert.Kernel33.nD Cert.Kernel33.τ).loc Cert.Kernel33.main_arg38) = m ((c.tc : Thread Cert.Kernel33.nD Cert.Kernel33.τ).loc Cert.Kernel33.main_arg38)
      ∧ r.2.mem ((c.tc : Thread Cert.Kernel33.nD Cert.Kernel33.τ).loc Cert.Kernel33.main_arg39) = m ((c.tc : Thread Cert.Kernel33.nD Cert.Kernel33.τ).loc Cert.Kernel33.main_arg39)
      ∧ r.2.mem ((c.tc : Thread Cert.Kernel33.nD Cert.Kernel33.τ).loc Cert.Kernel33.main_arg40) = m ((c.tc : Thread Cert.Kernel33.nD Cert.Kernel33.τ).loc Cert.Kernel33.main_arg40)
      ∧ r.2.mem ((c.tc : Thread Cert.Kernel33.nD Cert.Kernel33.τ).loc Cert.Kernel33.main_arg41) = m ((c.tc : Thread Cert.Kernel33.nD Cert.Kernel33.τ).loc Cert.Kernel33.main_arg41)
      ∧ r.2.mem ((c.tc : Thread Cert.Kernel33.nD Cert.Kernel33.τ).loc Cert.Kernel33.main_arg42) = m ((c.tc : Thread Cert.Kernel33.nD Cert.Kernel33.τ).loc Cert.Kernel33.main_arg42)
      ∧ r.2.mem ((c.tc : Thread Cert.Kernel33.nD Cert.Kernel33.τ).loc Cert.Kernel33.main_arg43) = m ((c.tc : Thread Cert.Kernel33.nD Cert.Kernel33.τ).loc Cert.Kernel33.main_arg43)
      ∧ r.2.mem ((c.tc : Thread Cert.Kernel33.nD Cert.Kernel33.τ).loc Cert.Kernel33.main_arg44) = m ((c.tc : Thread Cert.Kernel33.nD Cert.Kernel33.τ).loc Cert.Kernel33.main_arg44)
      ∧ r.2.mem ((c.tc : Thread Cert.Kernel33.nD Cert.Kernel33.τ).loc Cert.Kernel33.main_arg45) = m ((c.tc : Thread Cert.Kernel33.nD Cert.Kernel33.τ).loc Cert.Kernel33.main_arg45)
      ∧ r.2.mem ((c.tc : Thread Cert.Kernel33.nD Cert.Kernel33.τ).loc Cert.Kernel33.main_arg46) = m ((c.tc : Thread Cert.Kernel33.nD Cert.Kernel33.τ).loc Cert.Kernel33.main_arg46)
      ∧ r.2.mem ((c.tc : Thread Cert.Kernel33.nD Cert.Kernel33.τ).loc Cert.Kernel33.main_arg47) = m ((c.tc : Thread Cert.Kernel33.nD Cert.Kernel33.τ).loc Cert.Kernel33.main_arg47)
      ∧ r.2.mem ((c.tc : Thread Cert.Kernel33.nD Cert.Kernel33.τ).loc Cert.Kernel33.main_arg48) = m ((c.tc : Thread Cert.Kernel33.nD Cert.Kernel33.τ).loc Cert.Kernel33.main_arg48)
      ∧ r.2.mem ((c.tc : Thread Cert.Kernel33.nD Cert.Kernel33.τ).loc Cert.Kernel33.main_arg49) = m ((c.tc : Thread Cert.Kernel33.nD Cert.Kernel33.τ).loc Cert.Kernel33.main_arg49)
      ∧ r.2.mem ((c.tc : Thread Cert.Kernel33.nD Cert.Kernel33.τ).loc Cert.Kernel33.main_arg50) = m ((c.tc : Thread Cert.Kernel33.nD Cert.Kernel33.τ).loc Cert.Kernel33.main_arg50)
      ∧ r.2.mem ((c.tc : Thread Cert.Kernel33.nD Cert.Kernel33.τ).loc Cert.Kernel33.main_arg51) = m ((c.tc : Thread Cert.Kernel33.nD Cert.Kernel33.τ).loc Cert.Kernel33.main_arg51)
      ∧ r.2.mem ((c.tc : Thread Cert.Kernel33.nD Cert.Kernel33.τ).loc Cert.Kernel33.main_arg52) = m ((c.tc : Thread Cert.Kernel33.nD Cert.Kernel33.τ).loc Cert.Kernel33.main_arg52)
      ∧ r.2.mem ((c.tc : Thread Cert.Kernel33.nD Cert.Kernel33.τ).loc Cert.Kernel33.main_arg53) = m ((c.tc : Thread Cert.Kernel33.nD Cert.Kernel33.τ).loc Cert.Kernel33.main_arg53)
      ∧ r.2.mem ((c.tc : Thread Cert.Kernel33.nD Cert.Kernel33.τ).loc Cert.Kernel33.main_arg54) = m ((c.tc : Thread Cert.Kernel33.nD Cert.Kernel33.τ).loc Cert.Kernel33.main_arg54)
      ∧ r.2.mem ((c.tc : Thread Cert.Kernel33.nD Cert.Kernel33.τ).loc Cert.Kernel33.main_arg55) = m ((c.tc : Thread Cert.Kernel33.nD Cert.Kernel33.τ).loc Cert.Kernel33.main_arg55)
      ∧ r.2.mem ((c.tc : Thread Cert.Kernel33.nD Cert.Kernel33.τ).loc Cert.Kernel33.main_arg56) = m ((c.tc : Thread Cert.Kernel33.nD Cert.Kernel33.τ).loc Cert.Kernel33.main_arg56)
      ∧ r.2.mem ((c.tc : Thread Cert.Kernel33.nD Cert.Kernel33.τ).loc Cert.Kernel33.main_arg57) = m ((c.tc : Thread Cert.Kernel33.nD Cert.Kernel33.τ).loc Cert.Kernel33.main_arg57))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
      ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
      ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
      ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9)
      ∧ r.2.mem ((c.tc : Thread Cert.Kernel33Ideal.nD Cert.Kernel33Ideal.τ).loc Cert.Kernel33Ideal.main_arg10) = m ((c.tc : Thread Cert.Kernel33Ideal.nD Cert.Kernel33Ideal.τ).loc Cert.Kernel33Ideal.main_arg10)
      ∧ r.2.mem ((c.tc : Thread Cert.Kernel33Ideal.nD Cert.Kernel33Ideal.τ).loc Cert.Kernel33Ideal.main_arg11) = m ((c.tc : Thread Cert.Kernel33Ideal.nD Cert.Kernel33Ideal.τ).loc Cert.Kernel33Ideal.main_arg11)
      ∧ r.2.mem ((c.tc : Thread Cert.Kernel33Ideal.nD Cert.Kernel33Ideal.τ).loc Cert.Kernel33Ideal.main_arg12) = m ((c.tc : Thread Cert.Kernel33Ideal.nD Cert.Kernel33Ideal.τ).loc Cert.Kernel33Ideal.main_arg12)
      ∧ r.2.mem ((c.tc : Thread Cert.Kernel33Ideal.nD Cert.Kernel33Ideal.τ).loc Cert.Kernel33Ideal.main_arg13) = m ((c.tc : Thread Cert.Kernel33Ideal.nD Cert.Kernel33Ideal.τ).loc Cert.Kernel33Ideal.main_arg13)
      ∧ r.2.mem ((c.tc : Thread Cert.Kernel33Ideal.nD Cert.Kernel33Ideal.τ).loc Cert.Kernel33Ideal.main_arg14) = m ((c.tc : Thread Cert.Kernel33Ideal.nD Cert.Kernel33Ideal.τ).loc Cert.Kernel33Ideal.main_arg14)
      ∧ r.2.mem ((c.tc : Thread Cert.Kernel33Ideal.nD Cert.Kernel33Ideal.τ).loc Cert.Kernel33Ideal.main_arg15) = m ((c.tc : Thread Cert.Kernel33Ideal.nD Cert.Kernel33Ideal.τ).loc Cert.Kernel33Ideal.main_arg15)
      ∧ r.2.mem ((c.tc : Thread Cert.Kernel33Ideal.nD Cert.Kernel33Ideal.τ).loc Cert.Kernel33Ideal.main_arg16) = m ((c.tc : Thread Cert.Kernel33Ideal.nD Cert.Kernel33Ideal.τ).loc Cert.Kernel33Ideal.main_arg16)
      ∧ r.2.mem ((c.tc : Thread Cert.Kernel33Ideal.nD Cert.Kernel33Ideal.τ).loc Cert.Kernel33Ideal.main_arg17) = m ((c.tc : Thread Cert.Kernel33Ideal.nD Cert.Kernel33Ideal.τ).loc Cert.Kernel33Ideal.main_arg17)
      ∧ r.2.mem ((c.tc : Thread Cert.Kernel33Ideal.nD Cert.Kernel33Ideal.τ).loc Cert.Kernel33Ideal.main_arg18) = m ((c.tc : Thread Cert.Kernel33Ideal.nD Cert.Kernel33Ideal.τ).loc Cert.Kernel33Ideal.main_arg18)
      ∧ r.2.mem ((c.tc : Thread Cert.Kernel33Ideal.nD Cert.Kernel33Ideal.τ).loc Cert.Kernel33Ideal.main_arg19) = m ((c.tc : Thread Cert.Kernel33Ideal.nD Cert.Kernel33Ideal.τ).loc Cert.Kernel33Ideal.main_arg19)
      ∧ r.2.mem ((c.tc : Thread Cert.Kernel33Ideal.nD Cert.Kernel33Ideal.τ).loc Cert.Kernel33Ideal.main_arg20) = m ((c.tc : Thread Cert.Kernel33Ideal.nD Cert.Kernel33Ideal.τ).loc Cert.Kernel33Ideal.main_arg20)
      ∧ r.2.mem ((c.tc : Thread Cert.Kernel33Ideal.nD Cert.Kernel33Ideal.τ).loc Cert.Kernel33Ideal.main_arg21) = m ((c.tc : Thread Cert.Kernel33Ideal.nD Cert.Kernel33Ideal.τ).loc Cert.Kernel33Ideal.main_arg21)
      ∧ r.2.mem ((c.tc : Thread Cert.Kernel33Ideal.nD Cert.Kernel33Ideal.τ).loc Cert.Kernel33Ideal.main_arg22) = m ((c.tc : Thread Cert.Kernel33Ideal.nD Cert.Kernel33Ideal.τ).loc Cert.Kernel33Ideal.main_arg22)
      ∧ r.2.mem ((c.tc : Thread Cert.Kernel33Ideal.nD Cert.Kernel33Ideal.τ).loc Cert.Kernel33Ideal.main_arg23) = m ((c.tc : Thread Cert.Kernel33Ideal.nD Cert.Kernel33Ideal.τ).loc Cert.Kernel33Ideal.main_arg23)
      ∧ r.2.mem ((c.tc : Thread Cert.Kernel33Ideal.nD Cert.Kernel33Ideal.τ).loc Cert.Kernel33Ideal.main_arg24) = m ((c.tc : Thread Cert.Kernel33Ideal.nD Cert.Kernel33Ideal.τ).loc Cert.Kernel33Ideal.main_arg24)
      ∧ r.2.mem ((c.tc : Thread Cert.Kernel33Ideal.nD Cert.Kernel33Ideal.τ).loc Cert.Kernel33Ideal.main_arg25) = m ((c.tc : Thread Cert.Kernel33Ideal.nD Cert.Kernel33Ideal.τ).loc Cert.Kernel33Ideal.main_arg25)
      ∧ r.2.mem ((c.tc : Thread Cert.Kernel33Ideal.nD Cert.Kernel33Ideal.τ).loc Cert.Kernel33Ideal.main_arg26) = m ((c.tc : Thread Cert.Kernel33Ideal.nD Cert.Kernel33Ideal.τ).loc Cert.Kernel33Ideal.main_arg26)
      ∧ r.2.mem ((c.tc : Thread Cert.Kernel33Ideal.nD Cert.Kernel33Ideal.τ).loc Cert.Kernel33Ideal.main_arg27) = m ((c.tc : Thread Cert.Kernel33Ideal.nD Cert.Kernel33Ideal.τ).loc Cert.Kernel33Ideal.main_arg27)
      ∧ r.2.mem ((c.tc : Thread Cert.Kernel33Ideal.nD Cert.Kernel33Ideal.τ).loc Cert.Kernel33Ideal.main_arg28) = m ((c.tc : Thread Cert.Kernel33Ideal.nD Cert.Kernel33Ideal.τ).loc Cert.Kernel33Ideal.main_arg28)
      ∧ r.2.mem ((c.tc : Thread Cert.Kernel33Ideal.nD Cert.Kernel33Ideal.τ).loc Cert.Kernel33Ideal.main_arg29) = m ((c.tc : Thread Cert.Kernel33Ideal.nD Cert.Kernel33Ideal.τ).loc Cert.Kernel33Ideal.main_arg29)
      ∧ r.2.mem ((c.tc : Thread Cert.Kernel33Ideal.nD Cert.Kernel33Ideal.τ).loc Cert.Kernel33Ideal.main_arg30) = m ((c.tc : Thread Cert.Kernel33Ideal.nD Cert.Kernel33Ideal.τ).loc Cert.Kernel33Ideal.main_arg30)
      ∧ r.2.mem ((c.tc : Thread Cert.Kernel33Ideal.nD Cert.Kernel33Ideal.τ).loc Cert.Kernel33Ideal.main_arg31) = m ((c.tc : Thread Cert.Kernel33Ideal.nD Cert.Kernel33Ideal.τ).loc Cert.Kernel33Ideal.main_arg31)
      ∧ r.2.mem ((c.tc : Thread Cert.Kernel33Ideal.nD Cert.Kernel33Ideal.τ).loc Cert.Kernel33Ideal.main_arg32) = m ((c.tc : Thread Cert.Kernel33Ideal.nD Cert.Kernel33Ideal.τ).loc Cert.Kernel33Ideal.main_arg32)
      ∧ r.2.mem ((c.tc : Thread Cert.Kernel33Ideal.nD Cert.Kernel33Ideal.τ).loc Cert.Kernel33Ideal.main_arg33) = m ((c.tc : Thread Cert.Kernel33Ideal.nD Cert.Kernel33Ideal.τ).loc Cert.Kernel33Ideal.main_arg33)
      ∧ r.2.mem ((c.tc : Thread Cert.Kernel33Ideal.nD Cert.Kernel33Ideal.τ).loc Cert.Kernel33Ideal.main_arg34) = m ((c.tc : Thread Cert.Kernel33Ideal.nD Cert.Kernel33Ideal.τ).loc Cert.Kernel33Ideal.main_arg34)
      ∧ r.2.mem ((c.tc : Thread Cert.Kernel33Ideal.nD Cert.Kernel33Ideal.τ).loc Cert.Kernel33Ideal.main_arg35) = m ((c.tc : Thread Cert.Kernel33Ideal.nD Cert.Kernel33Ideal.τ).loc Cert.Kernel33Ideal.main_arg35)
      ∧ r.2.mem ((c.tc : Thread Cert.Kernel33Ideal.nD Cert.Kernel33Ideal.τ).loc Cert.Kernel33Ideal.main_arg36) = m ((c.tc : Thread Cert.Kernel33Ideal.nD Cert.Kernel33Ideal.τ).loc Cert.Kernel33Ideal.main_arg36)
      ∧ r.2.mem ((c.tc : Thread Cert.Kernel33Ideal.nD Cert.Kernel33Ideal.τ).loc Cert.Kernel33Ideal.main_arg37) = m ((c.tc : Thread Cert.Kernel33Ideal.nD Cert.Kernel33Ideal.τ).loc Cert.Kernel33Ideal.main_arg37)
      ∧ r.2.mem ((c.tc : Thread Cert.Kernel33Ideal.nD Cert.Kernel33Ideal.τ).loc Cert.Kernel33Ideal.main_arg38) = m ((c.tc : Thread Cert.Kernel33Ideal.nD Cert.Kernel33Ideal.τ).loc Cert.Kernel33Ideal.main_arg38)
      ∧ r.2.mem ((c.tc : Thread Cert.Kernel33Ideal.nD Cert.Kernel33Ideal.τ).loc Cert.Kernel33Ideal.main_arg39) = m ((c.tc : Thread Cert.Kernel33Ideal.nD Cert.Kernel33Ideal.τ).loc Cert.Kernel33Ideal.main_arg39)
      ∧ r.2.mem ((c.tc : Thread Cert.Kernel33Ideal.nD Cert.Kernel33Ideal.τ).loc Cert.Kernel33Ideal.main_arg40) = m ((c.tc : Thread Cert.Kernel33Ideal.nD Cert.Kernel33Ideal.τ).loc Cert.Kernel33Ideal.main_arg40)
      ∧ r.2.mem ((c.tc : Thread Cert.Kernel33Ideal.nD Cert.Kernel33Ideal.τ).loc Cert.Kernel33Ideal.main_arg41) = m ((c.tc : Thread Cert.Kernel33Ideal.nD Cert.Kernel33Ideal.τ).loc Cert.Kernel33Ideal.main_arg41)
      ∧ r.2.mem ((c.tc : Thread Cert.Kernel33Ideal.nD Cert.Kernel33Ideal.τ).loc Cert.Kernel33Ideal.main_arg42) = m ((c.tc : Thread Cert.Kernel33Ideal.nD Cert.Kernel33Ideal.τ).loc Cert.Kernel33Ideal.main_arg42)
      ∧ r.2.mem ((c.tc : Thread Cert.Kernel33Ideal.nD Cert.Kernel33Ideal.τ).loc Cert.Kernel33Ideal.main_arg43) = m ((c.tc : Thread Cert.Kernel33Ideal.nD Cert.Kernel33Ideal.τ).loc Cert.Kernel33Ideal.main_arg43)
      ∧ r.2.mem ((c.tc : Thread Cert.Kernel33Ideal.nD Cert.Kernel33Ideal.τ).loc Cert.Kernel33Ideal.main_arg44) = m ((c.tc : Thread Cert.Kernel33Ideal.nD Cert.Kernel33Ideal.τ).loc Cert.Kernel33Ideal.main_arg44)
      ∧ r.2.mem ((c.tc : Thread Cert.Kernel33Ideal.nD Cert.Kernel33Ideal.τ).loc Cert.Kernel33Ideal.main_arg45) = m ((c.tc : Thread Cert.Kernel33Ideal.nD Cert.Kernel33Ideal.τ).loc Cert.Kernel33Ideal.main_arg45)
      ∧ r.2.mem ((c.tc : Thread Cert.Kernel33Ideal.nD Cert.Kernel33Ideal.τ).loc Cert.Kernel33Ideal.main_arg46) = m ((c.tc : Thread Cert.Kernel33Ideal.nD Cert.Kernel33Ideal.τ).loc Cert.Kernel33Ideal.main_arg46)
      ∧ r.2.mem ((c.tc : Thread Cert.Kernel33Ideal.nD Cert.Kernel33Ideal.τ).loc Cert.Kernel33Ideal.main_arg47) = m ((c.tc : Thread Cert.Kernel33Ideal.nD Cert.Kernel33Ideal.τ).loc Cert.Kernel33Ideal.main_arg47)
      ∧ r.2.mem ((c.tc : Thread Cert.Kernel33Ideal.nD Cert.Kernel33Ideal.τ).loc Cert.Kernel33Ideal.main_arg48) = m ((c.tc : Thread Cert.Kernel33Ideal.nD Cert.Kernel33Ideal.τ).loc Cert.Kernel33Ideal.main_arg48)
      ∧ r.2.mem ((c.tc : Thread Cert.Kernel33Ideal.nD Cert.Kernel33Ideal.τ).loc Cert.Kernel33Ideal.main_arg49) = m ((c.tc : Thread Cert.Kernel33Ideal.nD Cert.Kernel33Ideal.τ).loc Cert.Kernel33Ideal.main_arg49)
      ∧ r.2.mem ((c.tc : Thread Cert.Kernel33Ideal.nD Cert.Kernel33Ideal.τ).loc Cert.Kernel33Ideal.main_arg50) = m ((c.tc : Thread Cert.Kernel33Ideal.nD Cert.Kernel33Ideal.τ).loc Cert.Kernel33Ideal.main_arg50)
      ∧ r.2.mem ((c.tc : Thread Cert.Kernel33Ideal.nD Cert.Kernel33Ideal.τ).loc Cert.Kernel33Ideal.main_arg51) = m ((c.tc : Thread Cert.Kernel33Ideal.nD Cert.Kernel33Ideal.τ).loc Cert.Kernel33Ideal.main_arg51)
      ∧ r.2.mem ((c.tc : Thread Cert.Kernel33Ideal.nD Cert.Kernel33Ideal.τ).loc Cert.Kernel33Ideal.main_arg52) = m ((c.tc : Thread Cert.Kernel33Ideal.nD Cert.Kernel33Ideal.τ).loc Cert.Kernel33Ideal.main_arg52)
      ∧ r.2.mem ((c.tc : Thread Cert.Kernel33Ideal.nD Cert.Kernel33Ideal.τ).loc Cert.Kernel33Ideal.main_arg53) = m ((c.tc : Thread Cert.Kernel33Ideal.nD Cert.Kernel33Ideal.τ).loc Cert.Kernel33Ideal.main_arg53)
      ∧ r.2.mem ((c.tc : Thread Cert.Kernel33Ideal.nD Cert.Kernel33Ideal.τ).loc Cert.Kernel33Ideal.main_arg54) = m ((c.tc : Thread Cert.Kernel33Ideal.nD Cert.Kernel33Ideal.τ).loc Cert.Kernel33Ideal.main_arg54)
      ∧ r.2.mem ((c.tc : Thread Cert.Kernel33Ideal.nD Cert.Kernel33Ideal.τ).loc Cert.Kernel33Ideal.main_arg55) = m ((c.tc : Thread Cert.Kernel33Ideal.nD Cert.Kernel33Ideal.τ).loc Cert.Kernel33Ideal.main_arg55)
      ∧ r.2.mem ((c.tc : Thread Cert.Kernel33Ideal.nD Cert.Kernel33Ideal.τ).loc Cert.Kernel33Ideal.main_arg56) = m ((c.tc : Thread Cert.Kernel33Ideal.nD Cert.Kernel33Ideal.τ).loc Cert.Kernel33Ideal.main_arg56)
      ∧ r.2.mem ((c.tc : Thread Cert.Kernel33Ideal.nD Cert.Kernel33Ideal.τ).loc Cert.Kernel33Ideal.main_arg57) = m ((c.tc : Thread Cert.Kernel33Ideal.nD Cert.Kernel33Ideal.τ).loc Cert.Kernel33Ideal.main_arg57))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6)
      ∧ r.2.mem ((c.tc : Thread Cert.Reference33Ideal.nD Cert.Reference33Ideal.τ).loc Cert.Reference33Ideal.main_arg7) = m ((c.tc : Thread Cert.Reference33Ideal.nD Cert.Reference33Ideal.τ).loc Cert.Reference33Ideal.main_arg7)
      ∧ r.2.mem ((c.tc : Thread Cert.Reference33Ideal.nD Cert.Reference33Ideal.τ).loc Cert.Reference33Ideal.main_arg8) = m ((c.tc : Thread Cert.Reference33Ideal.nD Cert.Reference33Ideal.τ).loc Cert.Reference33Ideal.main_arg8)
      ∧ r.2.mem ((c.tc : Thread Cert.Reference33Ideal.nD Cert.Reference33Ideal.τ).loc Cert.Reference33Ideal.main_arg9) = m ((c.tc : Thread Cert.Reference33Ideal.nD Cert.Reference33Ideal.τ).loc Cert.Reference33Ideal.main_arg9)
      ∧ r.2.mem ((c.tc : Thread Cert.Reference33Ideal.nD Cert.Reference33Ideal.τ).loc Cert.Reference33Ideal.main_arg10) = m ((c.tc : Thread Cert.Reference33Ideal.nD Cert.Reference33Ideal.τ).loc Cert.Reference33Ideal.main_arg10)
      ∧ r.2.mem ((c.tc : Thread Cert.Reference33Ideal.nD Cert.Reference33Ideal.τ).loc Cert.Reference33Ideal.main_arg11) = m ((c.tc : Thread Cert.Reference33Ideal.nD Cert.Reference33Ideal.τ).loc Cert.Reference33Ideal.main_arg11)
      ∧ r.2.mem ((c.tc : Thread Cert.Reference33Ideal.nD Cert.Reference33Ideal.τ).loc Cert.Reference33Ideal.main_arg12) = m ((c.tc : Thread Cert.Reference33Ideal.nD Cert.Reference33Ideal.τ).loc Cert.Reference33Ideal.main_arg12)
      ∧ r.2.mem ((c.tc : Thread Cert.Reference33Ideal.nD Cert.Reference33Ideal.τ).loc Cert.Reference33Ideal.main_arg13) = m ((c.tc : Thread Cert.Reference33Ideal.nD Cert.Reference33Ideal.τ).loc Cert.Reference33Ideal.main_arg13)
      ∧ r.2.mem ((c.tc : Thread Cert.Reference33Ideal.nD Cert.Reference33Ideal.τ).loc Cert.Reference33Ideal.main_arg14) = m ((c.tc : Thread Cert.Reference33Ideal.nD Cert.Reference33Ideal.τ).loc Cert.Reference33Ideal.main_arg14)
      ∧ r.2.mem ((c.tc : Thread Cert.Reference33Ideal.nD Cert.Reference33Ideal.τ).loc Cert.Reference33Ideal.main_arg15) = m ((c.tc : Thread Cert.Reference33Ideal.nD Cert.Reference33Ideal.τ).loc Cert.Reference33Ideal.main_arg15)
      ∧ r.2.mem ((c.tc : Thread Cert.Reference33Ideal.nD Cert.Reference33Ideal.τ).loc Cert.Reference33Ideal.main_arg16) = m ((c.tc : Thread Cert.Reference33Ideal.nD Cert.Reference33Ideal.τ).loc Cert.Reference33Ideal.main_arg16)
      ∧ r.2.mem ((c.tc : Thread Cert.Reference33Ideal.nD Cert.Reference33Ideal.τ).loc Cert.Reference33Ideal.main_arg17) = m ((c.tc : Thread Cert.Reference33Ideal.nD Cert.Reference33Ideal.τ).loc Cert.Reference33Ideal.main_arg17)
      ∧ r.2.mem ((c.tc : Thread Cert.Reference33Ideal.nD Cert.Reference33Ideal.τ).loc Cert.Reference33Ideal.main_arg18) = m ((c.tc : Thread Cert.Reference33Ideal.nD Cert.Reference33Ideal.τ).loc Cert.Reference33Ideal.main_arg18)
      ∧ r.2.mem ((c.tc : Thread Cert.Reference33Ideal.nD Cert.Reference33Ideal.τ).loc Cert.Reference33Ideal.main_arg19) = m ((c.tc : Thread Cert.Reference33Ideal.nD Cert.Reference33Ideal.τ).loc Cert.Reference33Ideal.main_arg19)
      ∧ r.2.mem ((c.tc : Thread Cert.Reference33Ideal.nD Cert.Reference33Ideal.τ).loc Cert.Reference33Ideal.main_arg20) = m ((c.tc : Thread Cert.Reference33Ideal.nD Cert.Reference33Ideal.τ).loc Cert.Reference33Ideal.main_arg20)
      ∧ r.2.mem ((c.tc : Thread Cert.Reference33Ideal.nD Cert.Reference33Ideal.τ).loc Cert.Reference33Ideal.main_arg21) = m ((c.tc : Thread Cert.Reference33Ideal.nD Cert.Reference33Ideal.τ).loc Cert.Reference33Ideal.main_arg21)
      ∧ r.2.mem ((c.tc : Thread Cert.Reference33Ideal.nD Cert.Reference33Ideal.τ).loc Cert.Reference33Ideal.main_arg22) = m ((c.tc : Thread Cert.Reference33Ideal.nD Cert.Reference33Ideal.τ).loc Cert.Reference33Ideal.main_arg22)
      ∧ r.2.mem ((c.tc : Thread Cert.Reference33Ideal.nD Cert.Reference33Ideal.τ).loc Cert.Reference33Ideal.main_arg23) = m ((c.tc : Thread Cert.Reference33Ideal.nD Cert.Reference33Ideal.τ).loc Cert.Reference33Ideal.main_arg23)
      ∧ r.2.mem ((c.tc : Thread Cert.Reference33Ideal.nD Cert.Reference33Ideal.τ).loc Cert.Reference33Ideal.main_arg24) = m ((c.tc : Thread Cert.Reference33Ideal.nD Cert.Reference33Ideal.τ).loc Cert.Reference33Ideal.main_arg24)
      ∧ r.2.mem ((c.tc : Thread Cert.Reference33Ideal.nD Cert.Reference33Ideal.τ).loc Cert.Reference33Ideal.main_arg25) = m ((c.tc : Thread Cert.Reference33Ideal.nD Cert.Reference33Ideal.τ).loc Cert.Reference33Ideal.main_arg25)
      ∧ r.2.mem ((c.tc : Thread Cert.Reference33Ideal.nD Cert.Reference33Ideal.τ).loc Cert.Reference33Ideal.main_arg26) = m ((c.tc : Thread Cert.Reference33Ideal.nD Cert.Reference33Ideal.τ).loc Cert.Reference33Ideal.main_arg26)
      ∧ r.2.mem ((c.tc : Thread Cert.Reference33Ideal.nD Cert.Reference33Ideal.τ).loc Cert.Reference33Ideal.main_arg27) = m ((c.tc : Thread Cert.Reference33Ideal.nD Cert.Reference33Ideal.τ).loc Cert.Reference33Ideal.main_arg27)
      ∧ r.2.mem ((c.tc : Thread Cert.Reference33Ideal.nD Cert.Reference33Ideal.τ).loc Cert.Reference33Ideal.main_arg28) = m ((c.tc : Thread Cert.Reference33Ideal.nD Cert.Reference33Ideal.τ).loc Cert.Reference33Ideal.main_arg28)
      ∧ r.2.mem ((c.tc : Thread Cert.Reference33Ideal.nD Cert.Reference33Ideal.τ).loc Cert.Reference33Ideal.main_arg29) = m ((c.tc : Thread Cert.Reference33Ideal.nD Cert.Reference33Ideal.τ).loc Cert.Reference33Ideal.main_arg29)
      ∧ r.2.mem ((c.tc : Thread Cert.Reference33Ideal.nD Cert.Reference33Ideal.τ).loc Cert.Reference33Ideal.main_arg30) = m ((c.tc : Thread Cert.Reference33Ideal.nD Cert.Reference33Ideal.τ).loc Cert.Reference33Ideal.main_arg30)
      ∧ r.2.mem ((c.tc : Thread Cert.Reference33Ideal.nD Cert.Reference33Ideal.τ).loc Cert.Reference33Ideal.main_arg31) = m ((c.tc : Thread Cert.Reference33Ideal.nD Cert.Reference33Ideal.τ).loc Cert.Reference33Ideal.main_arg31)
      ∧ r.2.mem ((c.tc : Thread Cert.Reference33Ideal.nD Cert.Reference33Ideal.τ).loc Cert.Reference33Ideal.main_arg32) = m ((c.tc : Thread Cert.Reference33Ideal.nD Cert.Reference33Ideal.τ).loc Cert.Reference33Ideal.main_arg32)
      ∧ r.2.mem ((c.tc : Thread Cert.Reference33Ideal.nD Cert.Reference33Ideal.τ).loc Cert.Reference33Ideal.main_arg33) = m ((c.tc : Thread Cert.Reference33Ideal.nD Cert.Reference33Ideal.τ).loc Cert.Reference33Ideal.main_arg33)
      ∧ r.2.mem ((c.tc : Thread Cert.Reference33Ideal.nD Cert.Reference33Ideal.τ).loc Cert.Reference33Ideal.main_arg34) = m ((c.tc : Thread Cert.Reference33Ideal.nD Cert.Reference33Ideal.τ).loc Cert.Reference33Ideal.main_arg34)
      ∧ r.2.mem ((c.tc : Thread Cert.Reference33Ideal.nD Cert.Reference33Ideal.τ).loc Cert.Reference33Ideal.main_arg35) = m ((c.tc : Thread Cert.Reference33Ideal.nD Cert.Reference33Ideal.τ).loc Cert.Reference33Ideal.main_arg35)
      ∧ r.2.mem ((c.tc : Thread Cert.Reference33Ideal.nD Cert.Reference33Ideal.τ).loc Cert.Reference33Ideal.main_arg36) = m ((c.tc : Thread Cert.Reference33Ideal.nD Cert.Reference33Ideal.τ).loc Cert.Reference33Ideal.main_arg36)
      ∧ r.2.mem ((c.tc : Thread Cert.Reference33Ideal.nD Cert.Reference33Ideal.τ).loc Cert.Reference33Ideal.main_arg37) = m ((c.tc : Thread Cert.Reference33Ideal.nD Cert.Reference33Ideal.τ).loc Cert.Reference33Ideal.main_arg37)
      ∧ r.2.mem ((c.tc : Thread Cert.Reference33Ideal.nD Cert.Reference33Ideal.τ).loc Cert.Reference33Ideal.main_arg38) = m ((c.tc : Thread Cert.Reference33Ideal.nD Cert.Reference33Ideal.τ).loc Cert.Reference33Ideal.main_arg38)
      ∧ r.2.mem ((c.tc : Thread Cert.Reference33Ideal.nD Cert.Reference33Ideal.τ).loc Cert.Reference33Ideal.main_arg39) = m ((c.tc : Thread Cert.Reference33Ideal.nD Cert.Reference33Ideal.τ).loc Cert.Reference33Ideal.main_arg39)
      ∧ r.2.mem ((c.tc : Thread Cert.Reference33Ideal.nD Cert.Reference33Ideal.τ).loc Cert.Reference33Ideal.main_arg40) = m ((c.tc : Thread Cert.Reference33Ideal.nD Cert.Reference33Ideal.τ).loc Cert.Reference33Ideal.main_arg40)
      ∧ r.2.mem ((c.tc : Thread Cert.Reference33Ideal.nD Cert.Reference33Ideal.τ).loc Cert.Reference33Ideal.main_arg41) = m ((c.tc : Thread Cert.Reference33Ideal.nD Cert.Reference33Ideal.τ).loc Cert.Reference33Ideal.main_arg41)
      ∧ r.2.mem ((c.tc : Thread Cert.Reference33Ideal.nD Cert.Reference33Ideal.τ).loc Cert.Reference33Ideal.main_arg42) = m ((c.tc : Thread Cert.Reference33Ideal.nD Cert.Reference33Ideal.τ).loc Cert.Reference33Ideal.main_arg42)
      ∧ r.2.mem ((c.tc : Thread Cert.Reference33Ideal.nD Cert.Reference33Ideal.τ).loc Cert.Reference33Ideal.main_arg43) = m ((c.tc : Thread Cert.Reference33Ideal.nD Cert.Reference33Ideal.τ).loc Cert.Reference33Ideal.main_arg43)
      ∧ r.2.mem ((c.tc : Thread Cert.Reference33Ideal.nD Cert.Reference33Ideal.τ).loc Cert.Reference33Ideal.main_arg44) = m ((c.tc : Thread Cert.Reference33Ideal.nD Cert.Reference33Ideal.τ).loc Cert.Reference33Ideal.main_arg44)
      ∧ r.2.mem ((c.tc : Thread Cert.Reference33Ideal.nD Cert.Reference33Ideal.τ).loc Cert.Reference33Ideal.main_arg45) = m ((c.tc : Thread Cert.Reference33Ideal.nD Cert.Reference33Ideal.τ).loc Cert.Reference33Ideal.main_arg45)
      ∧ r.2.mem ((c.tc : Thread Cert.Reference33Ideal.nD Cert.Reference33Ideal.τ).loc Cert.Reference33Ideal.main_arg46) = m ((c.tc : Thread Cert.Reference33Ideal.nD Cert.Reference33Ideal.τ).loc Cert.Reference33Ideal.main_arg46)
      ∧ r.2.mem ((c.tc : Thread Cert.Reference33Ideal.nD Cert.Reference33Ideal.τ).loc Cert.Reference33Ideal.main_arg47) = m ((c.tc : Thread Cert.Reference33Ideal.nD Cert.Reference33Ideal.τ).loc Cert.Reference33Ideal.main_arg47)
      ∧ r.2.mem ((c.tc : Thread Cert.Reference33Ideal.nD Cert.Reference33Ideal.τ).loc Cert.Reference33Ideal.main_arg48) = m ((c.tc : Thread Cert.Reference33Ideal.nD Cert.Reference33Ideal.τ).loc Cert.Reference33Ideal.main_arg48)
      ∧ r.2.mem ((c.tc : Thread Cert.Reference33Ideal.nD Cert.Reference33Ideal.τ).loc Cert.Reference33Ideal.main_arg49) = m ((c.tc : Thread Cert.Reference33Ideal.nD Cert.Reference33Ideal.τ).loc Cert.Reference33Ideal.main_arg49)
      ∧ r.2.mem ((c.tc : Thread Cert.Reference33Ideal.nD Cert.Reference33Ideal.τ).loc Cert.Reference33Ideal.main_arg50) = m ((c.tc : Thread Cert.Reference33Ideal.nD Cert.Reference33Ideal.τ).loc Cert.Reference33Ideal.main_arg50)
      ∧ r.2.mem ((c.tc : Thread Cert.Reference33Ideal.nD Cert.Reference33Ideal.τ).loc Cert.Reference33Ideal.main_arg51) = m ((c.tc : Thread Cert.Reference33Ideal.nD Cert.Reference33Ideal.τ).loc Cert.Reference33Ideal.main_arg51)
      ∧ r.2.mem ((c.tc : Thread Cert.Reference33Ideal.nD Cert.Reference33Ideal.τ).loc Cert.Reference33Ideal.main_arg52) = m ((c.tc : Thread Cert.Reference33Ideal.nD Cert.Reference33Ideal.τ).loc Cert.Reference33Ideal.main_arg52)
      ∧ r.2.mem ((c.tc : Thread Cert.Reference33Ideal.nD Cert.Reference33Ideal.τ).loc Cert.Reference33Ideal.main_arg53) = m ((c.tc : Thread Cert.Reference33Ideal.nD Cert.Reference33Ideal.τ).loc Cert.Reference33Ideal.main_arg53)
      ∧ r.2.mem ((c.tc : Thread Cert.Reference33Ideal.nD Cert.Reference33Ideal.τ).loc Cert.Reference33Ideal.main_arg54) = m ((c.tc : Thread Cert.Reference33Ideal.nD Cert.Reference33Ideal.τ).loc Cert.Reference33Ideal.main_arg54)
      ∧ r.2.mem ((c.tc : Thread Cert.Reference33Ideal.nD Cert.Reference33Ideal.τ).loc Cert.Reference33Ideal.main_arg55) = m ((c.tc : Thread Cert.Reference33Ideal.nD Cert.Reference33Ideal.τ).loc Cert.Reference33Ideal.main_arg55)
      ∧ r.2.mem ((c.tc : Thread Cert.Reference33Ideal.nD Cert.Reference33Ideal.τ).loc Cert.Reference33Ideal.main_arg56) = m ((c.tc : Thread Cert.Reference33Ideal.nD Cert.Reference33Ideal.τ).loc Cert.Reference33Ideal.main_arg56)
      ∧ r.2.mem ((c.tc : Thread Cert.Reference33Ideal.nD Cert.Reference33Ideal.τ).loc Cert.Reference33Ideal.main_arg57) = m ((c.tc : Thread Cert.Reference33Ideal.nD Cert.Reference33Ideal.τ).loc Cert.Reference33Ideal.main_arg57))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7)
      ∧ r.2.mem ((c.tc : Thread Cert.Kernel34.nD Cert.Kernel34.τ).loc Cert.Kernel34.main_arg8) = m ((c.tc : Thread Cert.Kernel34.nD Cert.Kernel34.τ).loc Cert.Kernel34.main_arg8)
      ∧ r.2.mem ((c.tc : Thread Cert.Kernel34.nD Cert.Kernel34.τ).loc Cert.Kernel34.main_arg9) = m ((c.tc : Thread Cert.Kernel34.nD Cert.Kernel34.τ).loc Cert.Kernel34.main_arg9)
      ∧ r.2.mem ((c.tc : Thread Cert.Kernel34.nD Cert.Kernel34.τ).loc Cert.Kernel34.main_arg10) = m ((c.tc : Thread Cert.Kernel34.nD Cert.Kernel34.τ).loc Cert.Kernel34.main_arg10)
      ∧ r.2.mem ((c.tc : Thread Cert.Kernel34.nD Cert.Kernel34.τ).loc Cert.Kernel34.main_arg11) = m ((c.tc : Thread Cert.Kernel34.nD Cert.Kernel34.τ).loc Cert.Kernel34.main_arg11)
      ∧ r.2.mem ((c.tc : Thread Cert.Kernel34.nD Cert.Kernel34.τ).loc Cert.Kernel34.main_arg12) = m ((c.tc : Thread Cert.Kernel34.nD Cert.Kernel34.τ).loc Cert.Kernel34.main_arg12)
      ∧ r.2.mem ((c.tc : Thread Cert.Kernel34.nD Cert.Kernel34.τ).loc Cert.Kernel34.main_arg13) = m ((c.tc : Thread Cert.Kernel34.nD Cert.Kernel34.τ).loc Cert.Kernel34.main_arg13)
      ∧ r.2.mem ((c.tc : Thread Cert.Kernel34.nD Cert.Kernel34.τ).loc Cert.Kernel34.main_arg14) = m ((c.tc : Thread Cert.Kernel34.nD Cert.Kernel34.τ).loc Cert.Kernel34.main_arg14)
      ∧ r.2.mem ((c.tc : Thread Cert.Kernel34.nD Cert.Kernel34.τ).loc Cert.Kernel34.main_arg15) = m ((c.tc : Thread Cert.Kernel34.nD Cert.Kernel34.τ).loc Cert.Kernel34.main_arg15))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
      ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9)
      ∧ r.2.mem ((c.tc : Thread Cert.Kernel34Ideal.nD Cert.Kernel34Ideal.τ).loc Cert.Kernel34Ideal.main_arg10) = m ((c.tc : Thread Cert.Kernel34Ideal.nD Cert.Kernel34Ideal.τ).loc Cert.Kernel34Ideal.main_arg10)
      ∧ r.2.mem ((c.tc : Thread Cert.Kernel34Ideal.nD Cert.Kernel34Ideal.τ).loc Cert.Kernel34Ideal.main_arg11) = m ((c.tc : Thread Cert.Kernel34Ideal.nD Cert.Kernel34Ideal.τ).loc Cert.Kernel34Ideal.main_arg11)
      ∧ r.2.mem ((c.tc : Thread Cert.Kernel34Ideal.nD Cert.Kernel34Ideal.τ).loc Cert.Kernel34Ideal.main_arg12) = m ((c.tc : Thread Cert.Kernel34Ideal.nD Cert.Kernel34Ideal.τ).loc Cert.Kernel34Ideal.main_arg12)
      ∧ r.2.mem ((c.tc : Thread Cert.Kernel34Ideal.nD Cert.Kernel34Ideal.τ).loc Cert.Kernel34Ideal.main_arg13) = m ((c.tc : Thread Cert.Kernel34Ideal.nD Cert.Kernel34Ideal.τ).loc Cert.Kernel34Ideal.main_arg13)
      ∧ r.2.mem ((c.tc : Thread Cert.Kernel34Ideal.nD Cert.Kernel34Ideal.τ).loc Cert.Kernel34Ideal.main_arg14) = m ((c.tc : Thread Cert.Kernel34Ideal.nD Cert.Kernel34Ideal.τ).loc Cert.Kernel34Ideal.main_arg14)
      ∧ r.2.mem ((c.tc : Thread Cert.Kernel34Ideal.nD Cert.Kernel34Ideal.τ).loc Cert.Kernel34Ideal.main_arg15) = m ((c.tc : Thread Cert.Kernel34Ideal.nD Cert.Kernel34Ideal.τ).loc Cert.Kernel34Ideal.main_arg15))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8)
      ∧ r.2.mem ((c.tc : Thread Cert.Reference34Ideal.nD Cert.Reference34Ideal.τ).loc Cert.Reference34Ideal.main_arg9) = m ((c.tc : Thread Cert.Reference34Ideal.nD Cert.Reference34Ideal.τ).loc Cert.Reference34Ideal.main_arg9)
      ∧ r.2.mem ((c.tc : Thread Cert.Reference34Ideal.nD Cert.Reference34Ideal.τ).loc Cert.Reference34Ideal.main_arg10) = m ((c.tc : Thread Cert.Reference34Ideal.nD Cert.Reference34Ideal.τ).loc Cert.Reference34Ideal.main_arg10)
      ∧ r.2.mem ((c.tc : Thread Cert.Reference34Ideal.nD Cert.Reference34Ideal.τ).loc Cert.Reference34Ideal.main_arg11) = m ((c.tc : Thread Cert.Reference34Ideal.nD Cert.Reference34Ideal.τ).loc Cert.Reference34Ideal.main_arg11)
      ∧ r.2.mem ((c.tc : Thread Cert.Reference34Ideal.nD Cert.Reference34Ideal.τ).loc Cert.Reference34Ideal.main_arg12) = m ((c.tc : Thread Cert.Reference34Ideal.nD Cert.Reference34Ideal.τ).loc Cert.Reference34Ideal.main_arg12)
      ∧ r.2.mem ((c.tc : Thread Cert.Reference34Ideal.nD Cert.Reference34Ideal.τ).loc Cert.Reference34Ideal.main_arg13) = m ((c.tc : Thread Cert.Reference34Ideal.nD Cert.Reference34Ideal.τ).loc Cert.Reference34Ideal.main_arg13)
      ∧ r.2.mem ((c.tc : Thread Cert.Reference34Ideal.nD Cert.Reference34Ideal.τ).loc Cert.Reference34Ideal.main_arg14) = m ((c.tc : Thread Cert.Reference34Ideal.nD Cert.Reference34Ideal.τ).loc Cert.Reference34Ideal.main_arg14)
      ∧ r.2.mem ((c.tc : Thread Cert.Reference34Ideal.nD Cert.Reference34Ideal.τ).loc Cert.Reference34Ideal.main_arg15) = m ((c.tc : Thread Cert.Reference34Ideal.nD Cert.Reference34Ideal.τ).loc Cert.Reference34Ideal.main_arg15))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)) (v4 : (c : Dev Cert.KernelIdeal.nD) → Buf (Elt Ideal) ((c.tc : Thread Cert.KernelIdeal.nD Cert.KernelIdeal.τ).loc Cert.KernelIdeal.main_v49_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_v49_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v7) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v24) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_v11) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v24) = v1 c
          ∧ r.2.mem ((c.tc : Thread Cert.Reference30Ideal.nD Cert.Reference30Ideal.τ).loc Cert.Reference30Ideal.main_v5) = v2 c
          ∧ r.2.mem ((c.tc : Thread Cert.Reference30Ideal.nD Cert.Reference30Ideal.τ).loc Cert.Reference30Ideal.main_v11) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v24) = v1 c
          ∧ r.2.mem ((c.tc : Thread Cert.Reference31Ideal.nD Cert.Reference31Ideal.τ).loc Cert.Reference31Ideal.main_v5) = v2 c
          ∧ r.2.mem ((c.tc : Thread Cert.Reference31Ideal.nD Cert.Reference31Ideal.τ).loc Cert.Reference31Ideal.main_v11) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v5) = v2 c
          ∧ r.2.mem ((c.tc : Thread Cert.Reference32Ideal.nD Cert.Reference32Ideal.τ).loc Cert.Reference32Ideal.main_v11) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)
      ∧ m' ((c.tc : Thread Cert.Reference23Ideal.nD Cert.Reference23Ideal.τ).loc Cert.Reference23Ideal.main_arg11) = m ((c.tc : Thread Cert.Kernel23Ideal.nD Cert.Kernel23Ideal.τ).loc Cert.Kernel23Ideal.main_arg11)
      ∧ m' ((c.tc : Thread Cert.Reference23Ideal.nD Cert.Reference23Ideal.τ).loc Cert.Reference23Ideal.main_arg12) = m ((c.tc : Thread Cert.Kernel23Ideal.nD Cert.Kernel23Ideal.τ).loc Cert.Kernel23Ideal.main_arg12)) →
    ∃ (v0 : (c : Dev Cert.Kernel23Ideal.nD) → Buf (Elt Ideal) ((c.tc : Thread Cert.Kernel23Ideal.nD Cert.Kernel23Ideal.τ).loc Cert.Kernel23Ideal.main_v21_0)) (v1 : (c : Dev Cert.Kernel23Ideal.nD) → Buf (Elt Ideal) ((c.tc : Thread Cert.Kernel23Ideal.nD Cert.Kernel23Ideal.τ).loc Cert.Kernel23Ideal.main_v21_1)) (v2 : (c : Dev Cert.Kernel23Ideal.nD) → Buf (Elt Ideal) ((c.tc : Thread Cert.Kernel23Ideal.nD Cert.Kernel23Ideal.τ).loc Cert.Kernel23Ideal.main_v21_2)) (v3 : (c : Dev Cert.Kernel23Ideal.nD) → Buf (Elt Ideal) ((c.tc : Thread Cert.Kernel23Ideal.nD Cert.Kernel23Ideal.τ).loc Cert.Kernel23Ideal.main_v21_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v21_0) = v0 c
          ∧ r.2.mem ((c.tc : Thread Cert.Kernel23Ideal.nD Cert.Kernel23Ideal.τ).loc Cert.Kernel23Ideal.main_v21_1) = v1 c
          ∧ r.2.mem ((c.tc : Thread Cert.Kernel23Ideal.nD Cert.Kernel23Ideal.τ).loc Cert.Kernel23Ideal.main_v21_2) = v2 c
          ∧ r.2.mem ((c.tc : Thread Cert.Kernel23Ideal.nD Cert.Kernel23Ideal.τ).loc Cert.Kernel23Ideal.main_v21_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
          ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
          ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v21) = v0 c
          ∧ r.2.mem ((c.tc : Thread Cert.Reference23Ideal.nD Cert.Reference23Ideal.τ).loc Cert.Reference23Ideal.main_v45) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_v32) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10)
          ∧ r.2.mem ((c.tc : Thread Cert.Reference23Ideal.nD Cert.Reference23Ideal.τ).loc Cert.Reference23Ideal.main_arg11) = m' ((c.tc : Thread Cert.Reference23Ideal.nD Cert.Reference23Ideal.τ).loc Cert.Reference23Ideal.main_arg11)
          ∧ r.2.mem ((c.tc : Thread Cert.Reference23Ideal.nD Cert.Reference23Ideal.τ).loc Cert.Reference23Ideal.main_arg12) = m' ((c.tc : Thread Cert.Reference23Ideal.nD Cert.Reference23Ideal.τ).loc Cert.Reference23Ideal.main_arg12))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)
      ∧ m' ((c.tc : Thread Cert.Reference33Ideal.nD Cert.Reference33Ideal.τ).loc Cert.Reference33Ideal.main_arg7) = m ((c.tc : Thread Cert.Kernel33Ideal.nD Cert.Kernel33Ideal.τ).loc Cert.Kernel33Ideal.main_arg7)
      ∧ m' ((c.tc : Thread Cert.Reference33Ideal.nD Cert.Reference33Ideal.τ).loc Cert.Reference33Ideal.main_arg8) = m ((c.tc : Thread Cert.Kernel33Ideal.nD Cert.Kernel33Ideal.τ).loc Cert.Kernel33Ideal.main_arg8)
      ∧ m' ((c.tc : Thread Cert.Reference33Ideal.nD Cert.Reference33Ideal.τ).loc Cert.Reference33Ideal.main_arg9) = m ((c.tc : Thread Cert.Kernel33Ideal.nD Cert.Kernel33Ideal.τ).loc Cert.Kernel33Ideal.main_arg9)
      ∧ m' ((c.tc : Thread Cert.Reference33Ideal.nD Cert.Reference33Ideal.τ).loc Cert.Reference33Ideal.main_arg10) = m ((c.tc : Thread Cert.Kernel33Ideal.nD Cert.Kernel33Ideal.τ).loc Cert.Kernel33Ideal.main_arg10)
      ∧ m' ((c.tc : Thread Cert.Reference33Ideal.nD Cert.Reference33Ideal.τ).loc Cert.Reference33Ideal.main_arg11) = m ((c.tc : Thread Cert.Kernel33Ideal.nD Cert.Kernel33Ideal.τ).loc Cert.Kernel33Ideal.main_arg11)
      ∧ m' ((c.tc : Thread Cert.Reference33Ideal.nD Cert.Reference33Ideal.τ).loc Cert.Reference33Ideal.main_arg12) = m ((c.tc : Thread Cert.Kernel33Ideal.nD Cert.Kernel33Ideal.τ).loc Cert.Kernel33Ideal.main_arg12)
      ∧ m' ((c.tc : Thread Cert.Reference33Ideal.nD Cert.Reference33Ideal.τ).loc Cert.Reference33Ideal.main_arg13) = m ((c.tc : Thread Cert.Kernel33Ideal.nD Cert.Kernel33Ideal.τ).loc Cert.Kernel33Ideal.main_arg13)
      ∧ m' ((c.tc : Thread Cert.Reference33Ideal.nD Cert.Reference33Ideal.τ).loc Cert.Reference33Ideal.main_arg14) = m ((c.tc : Thread Cert.Kernel33Ideal.nD Cert.Kernel33Ideal.τ).loc Cert.Kernel33Ideal.main_arg14)
      ∧ m' ((c.tc : Thread Cert.Reference33Ideal.nD Cert.Reference33Ideal.τ).loc Cert.Reference33Ideal.main_arg15) = m ((c.tc : Thread Cert.Kernel33Ideal.nD Cert.Kernel33Ideal.τ).loc Cert.Kernel33Ideal.main_arg15)
      ∧ m' ((c.tc : Thread Cert.Reference33Ideal.nD Cert.Reference33Ideal.τ).loc Cert.Reference33Ideal.main_arg16) = m ((c.tc : Thread Cert.Kernel33Ideal.nD Cert.Kernel33Ideal.τ).loc Cert.Kernel33Ideal.main_arg16)
      ∧ m' ((c.tc : Thread Cert.Reference33Ideal.nD Cert.Reference33Ideal.τ).loc Cert.Reference33Ideal.main_arg17) = m ((c.tc : Thread Cert.Kernel33Ideal.nD Cert.Kernel33Ideal.τ).loc Cert.Kernel33Ideal.main_arg17)
      ∧ m' ((c.tc : Thread Cert.Reference33Ideal.nD Cert.Reference33Ideal.τ).loc Cert.Reference33Ideal.main_arg18) = m ((c.tc : Thread Cert.Kernel33Ideal.nD Cert.Kernel33Ideal.τ).loc Cert.Kernel33Ideal.main_arg18)
      ∧ m' ((c.tc : Thread Cert.Reference33Ideal.nD Cert.Reference33Ideal.τ).loc Cert.Reference33Ideal.main_arg19) = m ((c.tc : Thread Cert.Kernel33Ideal.nD Cert.Kernel33Ideal.τ).loc Cert.Kernel33Ideal.main_arg19)
      ∧ m' ((c.tc : Thread Cert.Reference33Ideal.nD Cert.Reference33Ideal.τ).loc Cert.Reference33Ideal.main_arg20) = m ((c.tc : Thread Cert.Kernel33Ideal.nD Cert.Kernel33Ideal.τ).loc Cert.Kernel33Ideal.main_arg20)
      ∧ m' ((c.tc : Thread Cert.Reference33Ideal.nD Cert.Reference33Ideal.τ).loc Cert.Reference33Ideal.main_arg21) = m ((c.tc : Thread Cert.Kernel33Ideal.nD Cert.Kernel33Ideal.τ).loc Cert.Kernel33Ideal.main_arg21)
      ∧ m' ((c.tc : Thread Cert.Reference33Ideal.nD Cert.Reference33Ideal.τ).loc Cert.Reference33Ideal.main_arg22) = m ((c.tc : Thread Cert.Kernel33Ideal.nD Cert.Kernel33Ideal.τ).loc Cert.Kernel33Ideal.main_arg22)
      ∧ m' ((c.tc : Thread Cert.Reference33Ideal.nD Cert.Reference33Ideal.τ).loc Cert.Reference33Ideal.main_arg23) = m ((c.tc : Thread Cert.Kernel33Ideal.nD Cert.Kernel33Ideal.τ).loc Cert.Kernel33Ideal.main_arg23)
      ∧ m' ((c.tc : Thread Cert.Reference33Ideal.nD Cert.Reference33Ideal.τ).loc Cert.Reference33Ideal.main_arg24) = m ((c.tc : Thread Cert.Kernel33Ideal.nD Cert.Kernel33Ideal.τ).loc Cert.Kernel33Ideal.main_arg24)
      ∧ m' ((c.tc : Thread Cert.Reference33Ideal.nD Cert.Reference33Ideal.τ).loc Cert.Reference33Ideal.main_arg25) = m ((c.tc : Thread Cert.Kernel33Ideal.nD Cert.Kernel33Ideal.τ).loc Cert.Kernel33Ideal.main_arg25)
      ∧ m' ((c.tc : Thread Cert.Reference33Ideal.nD Cert.Reference33Ideal.τ).loc Cert.Reference33Ideal.main_arg26) = m ((c.tc : Thread Cert.Kernel33Ideal.nD Cert.Kernel33Ideal.τ).loc Cert.Kernel33Ideal.main_arg26)
      ∧ m' ((c.tc : Thread Cert.Reference33Ideal.nD Cert.Reference33Ideal.τ).loc Cert.Reference33Ideal.main_arg27) = m ((c.tc : Thread Cert.Kernel33Ideal.nD Cert.Kernel33Ideal.τ).loc Cert.Kernel33Ideal.main_arg27)
      ∧ m' ((c.tc : Thread Cert.Reference33Ideal.nD Cert.Reference33Ideal.τ).loc Cert.Reference33Ideal.main_arg28) = m ((c.tc : Thread Cert.Kernel33Ideal.nD Cert.Kernel33Ideal.τ).loc Cert.Kernel33Ideal.main_arg28)
      ∧ m' ((c.tc : Thread Cert.Reference33Ideal.nD Cert.Reference33Ideal.τ).loc Cert.Reference33Ideal.main_arg29) = m ((c.tc : Thread Cert.Kernel33Ideal.nD Cert.Kernel33Ideal.τ).loc Cert.Kernel33Ideal.main_arg29)
      ∧ m' ((c.tc : Thread Cert.Reference33Ideal.nD Cert.Reference33Ideal.τ).loc Cert.Reference33Ideal.main_arg30) = m ((c.tc : Thread Cert.Kernel33Ideal.nD Cert.Kernel33Ideal.τ).loc Cert.Kernel33Ideal.main_arg30)
      ∧ m' ((c.tc : Thread Cert.Reference33Ideal.nD Cert.Reference33Ideal.τ).loc Cert.Reference33Ideal.main_arg31) = m ((c.tc : Thread Cert.Kernel33Ideal.nD Cert.Kernel33Ideal.τ).loc Cert.Kernel33Ideal.main_arg31)
      ∧ m' ((c.tc : Thread Cert.Reference33Ideal.nD Cert.Reference33Ideal.τ).loc Cert.Reference33Ideal.main_arg32) = m ((c.tc : Thread Cert.Kernel33Ideal.nD Cert.Kernel33Ideal.τ).loc Cert.Kernel33Ideal.main_arg32)
      ∧ m' ((c.tc : Thread Cert.Reference33Ideal.nD Cert.Reference33Ideal.τ).loc Cert.Reference33Ideal.main_arg33) = m ((c.tc : Thread Cert.Kernel33Ideal.nD Cert.Kernel33Ideal.τ).loc Cert.Kernel33Ideal.main_arg33)
      ∧ m' ((c.tc : Thread Cert.Reference33Ideal.nD Cert.Reference33Ideal.τ).loc Cert.Reference33Ideal.main_arg34) = m ((c.tc : Thread Cert.Kernel33Ideal.nD Cert.Kernel33Ideal.τ).loc Cert.Kernel33Ideal.main_arg34)
      ∧ m' ((c.tc : Thread Cert.Reference33Ideal.nD Cert.Reference33Ideal.τ).loc Cert.Reference33Ideal.main_arg35) = m ((c.tc : Thread Cert.Kernel33Ideal.nD Cert.Kernel33Ideal.τ).loc Cert.Kernel33Ideal.main_arg35)
      ∧ m' ((c.tc : Thread Cert.Reference33Ideal.nD Cert.Reference33Ideal.τ).loc Cert.Reference33Ideal.main_arg36) = m ((c.tc : Thread Cert.Kernel33Ideal.nD Cert.Kernel33Ideal.τ).loc Cert.Kernel33Ideal.main_arg36)
      ∧ m' ((c.tc : Thread Cert.Reference33Ideal.nD Cert.Reference33Ideal.τ).loc Cert.Reference33Ideal.main_arg37) = m ((c.tc : Thread Cert.Kernel33Ideal.nD Cert.Kernel33Ideal.τ).loc Cert.Kernel33Ideal.main_arg37)
      ∧ m' ((c.tc : Thread Cert.Reference33Ideal.nD Cert.Reference33Ideal.τ).loc Cert.Reference33Ideal.main_arg38) = m ((c.tc : Thread Cert.Kernel33Ideal.nD Cert.Kernel33Ideal.τ).loc Cert.Kernel33Ideal.main_arg38)
      ∧ m' ((c.tc : Thread Cert.Reference33Ideal.nD Cert.Reference33Ideal.τ).loc Cert.Reference33Ideal.main_arg39) = m ((c.tc : Thread Cert.Kernel33Ideal.nD Cert.Kernel33Ideal.τ).loc Cert.Kernel33Ideal.main_arg39)
      ∧ m' ((c.tc : Thread Cert.Reference33Ideal.nD Cert.Reference33Ideal.τ).loc Cert.Reference33Ideal.main_arg40) = m ((c.tc : Thread Cert.Kernel33Ideal.nD Cert.Kernel33Ideal.τ).loc Cert.Kernel33Ideal.main_arg40)
      ∧ m' ((c.tc : Thread Cert.Reference33Ideal.nD Cert.Reference33Ideal.τ).loc Cert.Reference33Ideal.main_arg41) = m ((c.tc : Thread Cert.Kernel33Ideal.nD Cert.Kernel33Ideal.τ).loc Cert.Kernel33Ideal.main_arg41)
      ∧ m' ((c.tc : Thread Cert.Reference33Ideal.nD Cert.Reference33Ideal.τ).loc Cert.Reference33Ideal.main_arg42) = m ((c.tc : Thread Cert.Kernel33Ideal.nD Cert.Kernel33Ideal.τ).loc Cert.Kernel33Ideal.main_arg42)
      ∧ m' ((c.tc : Thread Cert.Reference33Ideal.nD Cert.Reference33Ideal.τ).loc Cert.Reference33Ideal.main_arg43) = m ((c.tc : Thread Cert.Kernel33Ideal.nD Cert.Kernel33Ideal.τ).loc Cert.Kernel33Ideal.main_arg43)
      ∧ m' ((c.tc : Thread Cert.Reference33Ideal.nD Cert.Reference33Ideal.τ).loc Cert.Reference33Ideal.main_arg44) = m ((c.tc : Thread Cert.Kernel33Ideal.nD Cert.Kernel33Ideal.τ).loc Cert.Kernel33Ideal.main_arg44)
      ∧ m' ((c.tc : Thread Cert.Reference33Ideal.nD Cert.Reference33Ideal.τ).loc Cert.Reference33Ideal.main_arg45) = m ((c.tc : Thread Cert.Kernel33Ideal.nD Cert.Kernel33Ideal.τ).loc Cert.Kernel33Ideal.main_arg45)
      ∧ m' ((c.tc : Thread Cert.Reference33Ideal.nD Cert.Reference33Ideal.τ).loc Cert.Reference33Ideal.main_arg46) = m ((c.tc : Thread Cert.Kernel33Ideal.nD Cert.Kernel33Ideal.τ).loc Cert.Kernel33Ideal.main_arg46)
      ∧ m' ((c.tc : Thread Cert.Reference33Ideal.nD Cert.Reference33Ideal.τ).loc Cert.Reference33Ideal.main_arg47) = m ((c.tc : Thread Cert.Kernel33Ideal.nD Cert.Kernel33Ideal.τ).loc Cert.Kernel33Ideal.main_arg47)
      ∧ m' ((c.tc : Thread Cert.Reference33Ideal.nD Cert.Reference33Ideal.τ).loc Cert.Reference33Ideal.main_arg48) = m ((c.tc : Thread Cert.Kernel33Ideal.nD Cert.Kernel33Ideal.τ).loc Cert.Kernel33Ideal.main_arg48)
      ∧ m' ((c.tc : Thread Cert.Reference33Ideal.nD Cert.Reference33Ideal.τ).loc Cert.Reference33Ideal.main_arg49) = m ((c.tc : Thread Cert.Kernel33Ideal.nD Cert.Kernel33Ideal.τ).loc Cert.Kernel33Ideal.main_arg49)
      ∧ m' ((c.tc : Thread Cert.Reference33Ideal.nD Cert.Reference33Ideal.τ).loc Cert.Reference33Ideal.main_arg50) = m ((c.tc : Thread Cert.Kernel33Ideal.nD Cert.Kernel33Ideal.τ).loc Cert.Kernel33Ideal.main_arg50)
      ∧ m' ((c.tc : Thread Cert.Reference33Ideal.nD Cert.Reference33Ideal.τ).loc Cert.Reference33Ideal.main_arg51) = m ((c.tc : Thread Cert.Kernel33Ideal.nD Cert.Kernel33Ideal.τ).loc Cert.Kernel33Ideal.main_arg51)
      ∧ m' ((c.tc : Thread Cert.Reference33Ideal.nD Cert.Reference33Ideal.τ).loc Cert.Reference33Ideal.main_arg52) = m ((c.tc : Thread Cert.Kernel33Ideal.nD Cert.Kernel33Ideal.τ).loc Cert.Kernel33Ideal.main_arg52)
      ∧ m' ((c.tc : Thread Cert.Reference33Ideal.nD Cert.Reference33Ideal.τ).loc Cert.Reference33Ideal.main_arg53) = m ((c.tc : Thread Cert.Kernel33Ideal.nD Cert.Kernel33Ideal.τ).loc Cert.Kernel33Ideal.main_arg53)
      ∧ m' ((c.tc : Thread Cert.Reference33Ideal.nD Cert.Reference33Ideal.τ).loc Cert.Reference33Ideal.main_arg54) = m ((c.tc : Thread Cert.Kernel33Ideal.nD Cert.Kernel33Ideal.τ).loc Cert.Kernel33Ideal.main_arg54)
      ∧ m' ((c.tc : Thread Cert.Reference33Ideal.nD Cert.Reference33Ideal.τ).loc Cert.Reference33Ideal.main_arg55) = m ((c.tc : Thread Cert.Kernel33Ideal.nD Cert.Kernel33Ideal.τ).loc Cert.Kernel33Ideal.main_arg55)
      ∧ m' ((c.tc : Thread Cert.Reference33Ideal.nD Cert.Reference33Ideal.τ).loc Cert.Reference33Ideal.main_arg56) = m ((c.tc : Thread Cert.Kernel33Ideal.nD Cert.Kernel33Ideal.τ).loc Cert.Kernel33Ideal.main_arg56)
      ∧ m' ((c.tc : Thread Cert.Reference33Ideal.nD Cert.Reference33Ideal.τ).loc Cert.Reference33Ideal.main_arg57) = m ((c.tc : Thread Cert.Kernel33Ideal.nD Cert.Kernel33Ideal.τ).loc Cert.Kernel33Ideal.main_arg57)) →
    ∃ (v0 : (c : Dev Cert.Kernel33Ideal.nD) → Buf (Elt Ideal) ((c.tc : Thread Cert.Kernel33Ideal.nD Cert.Kernel33Ideal.τ).loc Cert.Kernel33Ideal.main_v33_0)) (v1 : (c : Dev Cert.Kernel33Ideal.nD) → Buf (Elt Ideal) ((c.tc : Thread Cert.Kernel33Ideal.nD Cert.Kernel33Ideal.τ).loc Cert.Kernel33Ideal.main_v33_1)) (v2 : (c : Dev Cert.Kernel33Ideal.nD) → Buf (Elt Ideal) ((c.tc : Thread Cert.Kernel33Ideal.nD Cert.Kernel33Ideal.τ).loc Cert.Kernel33Ideal.main_v33_2)) (v3 : (c : Dev Cert.Kernel33Ideal.nD) → Buf (Elt Ideal) ((c.tc : Thread Cert.Kernel33Ideal.nD Cert.Kernel33Ideal.τ).loc Cert.Kernel33Ideal.main_v33_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v33_0) = v0 c
          ∧ r.2.mem ((c.tc : Thread Cert.Kernel33Ideal.nD Cert.Kernel33Ideal.τ).loc Cert.Kernel33Ideal.main_v33_1) = v1 c
          ∧ r.2.mem ((c.tc : Thread Cert.Kernel33Ideal.nD Cert.Kernel33Ideal.τ).loc Cert.Kernel33Ideal.main_v33_2) = v2 c
          ∧ r.2.mem ((c.tc : Thread Cert.Kernel33Ideal.nD Cert.Kernel33Ideal.τ).loc Cert.Kernel33Ideal.main_v33_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
          ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
          ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
          ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9)
          ∧ r.2.mem ((c.tc : Thread Cert.Kernel33Ideal.nD Cert.Kernel33Ideal.τ).loc Cert.Kernel33Ideal.main_arg10) = m ((c.tc : Thread Cert.Kernel33Ideal.nD Cert.Kernel33Ideal.τ).loc Cert.Kernel33Ideal.main_arg10)
          ∧ r.2.mem ((c.tc : Thread Cert.Kernel33Ideal.nD Cert.Kernel33Ideal.τ).loc Cert.Kernel33Ideal.main_arg11) = m ((c.tc : Thread Cert.Kernel33Ideal.nD Cert.Kernel33Ideal.τ).loc Cert.Kernel33Ideal.main_arg11)
          ∧ r.2.mem ((c.tc : Thread Cert.Kernel33Ideal.nD Cert.Kernel33Ideal.τ).loc Cert.Kernel33Ideal.main_arg12) = m ((c.tc : Thread Cert.Kernel33Ideal.nD Cert.Kernel33Ideal.τ).loc Cert.Kernel33Ideal.main_arg12)
          ∧ r.2.mem ((c.tc : Thread Cert.Kernel33Ideal.nD Cert.Kernel33Ideal.τ).loc Cert.Kernel33Ideal.main_arg13) = m ((c.tc : Thread Cert.Kernel33Ideal.nD Cert.Kernel33Ideal.τ).loc Cert.Kernel33Ideal.main_arg13)
          ∧ r.2.mem ((c.tc : Thread Cert.Kernel33Ideal.nD Cert.Kernel33Ideal.τ).loc Cert.Kernel33Ideal.main_arg14) = m ((c.tc : Thread Cert.Kernel33Ideal.nD Cert.Kernel33Ideal.τ).loc Cert.Kernel33Ideal.main_arg14)
          ∧ r.2.mem ((c.tc : Thread Cert.Kernel33Ideal.nD Cert.Kernel33Ideal.τ).loc Cert.Kernel33Ideal.main_arg15) = m ((c.tc : Thread Cert.Kernel33Ideal.nD Cert.Kernel33Ideal.τ).loc Cert.Kernel33Ideal.main_arg15)
          ∧ r.2.mem ((c.tc : Thread Cert.Kernel33Ideal.nD Cert.Kernel33Ideal.τ).loc Cert.Kernel33Ideal.main_arg16) = m ((c.tc : Thread Cert.Kernel33Ideal.nD Cert.Kernel33Ideal.τ).loc Cert.Kernel33Ideal.main_arg16)
          ∧ r.2.mem ((c.tc : Thread Cert.Kernel33Ideal.nD Cert.Kernel33Ideal.τ).loc Cert.Kernel33Ideal.main_arg17) = m ((c.tc : Thread Cert.Kernel33Ideal.nD Cert.Kernel33Ideal.τ).loc Cert.Kernel33Ideal.main_arg17)
          ∧ r.2.mem ((c.tc : Thread Cert.Kernel33Ideal.nD Cert.Kernel33Ideal.τ).loc Cert.Kernel33Ideal.main_arg18) = m ((c.tc : Thread Cert.Kernel33Ideal.nD Cert.Kernel33Ideal.τ).loc Cert.Kernel33Ideal.main_arg18)
          ∧ r.2.mem ((c.tc : Thread Cert.Kernel33Ideal.nD Cert.Kernel33Ideal.τ).loc Cert.Kernel33Ideal.main_arg19) = m ((c.tc : Thread Cert.Kernel33Ideal.nD Cert.Kernel33Ideal.τ).loc Cert.Kernel33Ideal.main_arg19)
          ∧ r.2.mem ((c.tc : Thread Cert.Kernel33Ideal.nD Cert.Kernel33Ideal.τ).loc Cert.Kernel33Ideal.main_arg20) = m ((c.tc : Thread Cert.Kernel33Ideal.nD Cert.Kernel33Ideal.τ).loc Cert.Kernel33Ideal.main_arg20)
          ∧ r.2.mem ((c.tc : Thread Cert.Kernel33Ideal.nD Cert.Kernel33Ideal.τ).loc Cert.Kernel33Ideal.main_arg21) = m ((c.tc : Thread Cert.Kernel33Ideal.nD Cert.Kernel33Ideal.τ).loc Cert.Kernel33Ideal.main_arg21)
          ∧ r.2.mem ((c.tc : Thread Cert.Kernel33Ideal.nD Cert.Kernel33Ideal.τ).loc Cert.Kernel33Ideal.main_arg22) = m ((c.tc : Thread Cert.Kernel33Ideal.nD Cert.Kernel33Ideal.τ).loc Cert.Kernel33Ideal.main_arg22)
          ∧ r.2.mem ((c.tc : Thread Cert.Kernel33Ideal.nD Cert.Kernel33Ideal.τ).loc Cert.Kernel33Ideal.main_arg23) = m ((c.tc : Thread Cert.Kernel33Ideal.nD Cert.Kernel33Ideal.τ).loc Cert.Kernel33Ideal.main_arg23)
          ∧ r.2.mem ((c.tc : Thread Cert.Kernel33Ideal.nD Cert.Kernel33Ideal.τ).loc Cert.Kernel33Ideal.main_arg24) = m ((c.tc : Thread Cert.Kernel33Ideal.nD Cert.Kernel33Ideal.τ).loc Cert.Kernel33Ideal.main_arg24)
          ∧ r.2.mem ((c.tc : Thread Cert.Kernel33Ideal.nD Cert.Kernel33Ideal.τ).loc Cert.Kernel33Ideal.main_arg25) = m ((c.tc : Thread Cert.Kernel33Ideal.nD Cert.Kernel33Ideal.τ).loc Cert.Kernel33Ideal.main_arg25)
          ∧ r.2.mem ((c.tc : Thread Cert.Kernel33Ideal.nD Cert.Kernel33Ideal.τ).loc Cert.Kernel33Ideal.main_arg26) = m ((c.tc : Thread Cert.Kernel33Ideal.nD Cert.Kernel33Ideal.τ).loc Cert.Kernel33Ideal.main_arg26)
          ∧ r.2.mem ((c.tc : Thread Cert.Kernel33Ideal.nD Cert.Kernel33Ideal.τ).loc Cert.Kernel33Ideal.main_arg27) = m ((c.tc : Thread Cert.Kernel33Ideal.nD Cert.Kernel33Ideal.τ).loc Cert.Kernel33Ideal.main_arg27)
          ∧ r.2.mem ((c.tc : Thread Cert.Kernel33Ideal.nD Cert.Kernel33Ideal.τ).loc Cert.Kernel33Ideal.main_arg28) = m ((c.tc : Thread Cert.Kernel33Ideal.nD Cert.Kernel33Ideal.τ).loc Cert.Kernel33Ideal.main_arg28)
          ∧ r.2.mem ((c.tc : Thread Cert.Kernel33Ideal.nD Cert.Kernel33Ideal.τ).loc Cert.Kernel33Ideal.main_arg29) = m ((c.tc : Thread Cert.Kernel33Ideal.nD Cert.Kernel33Ideal.τ).loc Cert.Kernel33Ideal.main_arg29)
          ∧ r.2.mem ((c.tc : Thread Cert.Kernel33Ideal.nD Cert.Kernel33Ideal.τ).loc Cert.Kernel33Ideal.main_arg30) = m ((c.tc : Thread Cert.Kernel33Ideal.nD Cert.Kernel33Ideal.τ).loc Cert.Kernel33Ideal.main_arg30)
          ∧ r.2.mem ((c.tc : Thread Cert.Kernel33Ideal.nD Cert.Kernel33Ideal.τ).loc Cert.Kernel33Ideal.main_arg31) = m ((c.tc : Thread Cert.Kernel33Ideal.nD Cert.Kernel33Ideal.τ).loc Cert.Kernel33Ideal.main_arg31)
          ∧ r.2.mem ((c.tc : Thread Cert.Kernel33Ideal.nD Cert.Kernel33Ideal.τ).loc Cert.Kernel33Ideal.main_arg32) = m ((c.tc : Thread Cert.Kernel33Ideal.nD Cert.Kernel33Ideal.τ).loc Cert.Kernel33Ideal.main_arg32)
          ∧ r.2.mem ((c.tc : Thread Cert.Kernel33Ideal.nD Cert.Kernel33Ideal.τ).loc Cert.Kernel33Ideal.main_arg33) = m ((c.tc : Thread Cert.Kernel33Ideal.nD Cert.Kernel33Ideal.τ).loc Cert.Kernel33Ideal.main_arg33)
          ∧ r.2.mem ((c.tc : Thread Cert.Kernel33Ideal.nD Cert.Kernel33Ideal.τ).loc Cert.Kernel33Ideal.main_arg34) = m ((c.tc : Thread Cert.Kernel33Ideal.nD Cert.Kernel33Ideal.τ).loc Cert.Kernel33Ideal.main_arg34)
          ∧ r.2.mem ((c.tc : Thread Cert.Kernel33Ideal.nD Cert.Kernel33Ideal.τ).loc Cert.Kernel33Ideal.main_arg35) = m ((c.tc : Thread Cert.Kernel33Ideal.nD Cert.Kernel33Ideal.τ).loc Cert.Kernel33Ideal.main_arg35)
          ∧ r.2.mem ((c.tc : Thread Cert.Kernel33Ideal.nD Cert.Kernel33Ideal.τ).loc Cert.Kernel33Ideal.main_arg36) = m ((c.tc : Thread Cert.Kernel33Ideal.nD Cert.Kernel33Ideal.τ).loc Cert.Kernel33Ideal.main_arg36)
          ∧ r.2.mem ((c.tc : Thread Cert.Kernel33Ideal.nD Cert.Kernel33Ideal.τ).loc Cert.Kernel33Ideal.main_arg37) = m ((c.tc : Thread Cert.Kernel33Ideal.nD Cert.Kernel33Ideal.τ).loc Cert.Kernel33Ideal.main_arg37)
          ∧ r.2.mem ((c.tc : Thread Cert.Kernel33Ideal.nD Cert.Kernel33Ideal.τ).loc Cert.Kernel33Ideal.main_arg38) = m ((c.tc : Thread Cert.Kernel33Ideal.nD Cert.Kernel33Ideal.τ).loc Cert.Kernel33Ideal.main_arg38)
          ∧ r.2.mem ((c.tc : Thread Cert.Kernel33Ideal.nD Cert.Kernel33Ideal.τ).loc Cert.Kernel33Ideal.main_arg39) = m ((c.tc : Thread Cert.Kernel33Ideal.nD Cert.Kernel33Ideal.τ).loc Cert.Kernel33Ideal.main_arg39)
          ∧ r.2.mem ((c.tc : Thread Cert.Kernel33Ideal.nD Cert.Kernel33Ideal.τ).loc Cert.Kernel33Ideal.main_arg40) = m ((c.tc : Thread Cert.Kernel33Ideal.nD Cert.Kernel33Ideal.τ).loc Cert.Kernel33Ideal.main_arg40)
          ∧ r.2.mem ((c.tc : Thread Cert.Kernel33Ideal.nD Cert.Kernel33Ideal.τ).loc Cert.Kernel33Ideal.main_arg41) = m ((c.tc : Thread Cert.Kernel33Ideal.nD Cert.Kernel33Ideal.τ).loc Cert.Kernel33Ideal.main_arg41)
          ∧ r.2.mem ((c.tc : Thread Cert.Kernel33Ideal.nD Cert.Kernel33Ideal.τ).loc Cert.Kernel33Ideal.main_arg42) = m ((c.tc : Thread Cert.Kernel33Ideal.nD Cert.Kernel33Ideal.τ).loc Cert.Kernel33Ideal.main_arg42)
          ∧ r.2.mem ((c.tc : Thread Cert.Kernel33Ideal.nD Cert.Kernel33Ideal.τ).loc Cert.Kernel33Ideal.main_arg43) = m ((c.tc : Thread Cert.Kernel33Ideal.nD Cert.Kernel33Ideal.τ).loc Cert.Kernel33Ideal.main_arg43)
          ∧ r.2.mem ((c.tc : Thread Cert.Kernel33Ideal.nD Cert.Kernel33Ideal.τ).loc Cert.Kernel33Ideal.main_arg44) = m ((c.tc : Thread Cert.Kernel33Ideal.nD Cert.Kernel33Ideal.τ).loc Cert.Kernel33Ideal.main_arg44)
          ∧ r.2.mem ((c.tc : Thread Cert.Kernel33Ideal.nD Cert.Kernel33Ideal.τ).loc Cert.Kernel33Ideal.main_arg45) = m ((c.tc : Thread Cert.Kernel33Ideal.nD Cert.Kernel33Ideal.τ).loc Cert.Kernel33Ideal.main_arg45)
          ∧ r.2.mem ((c.tc : Thread Cert.Kernel33Ideal.nD Cert.Kernel33Ideal.τ).loc Cert.Kernel33Ideal.main_arg46) = m ((c.tc : Thread Cert.Kernel33Ideal.nD Cert.Kernel33Ideal.τ).loc Cert.Kernel33Ideal.main_arg46)
          ∧ r.2.mem ((c.tc : Thread Cert.Kernel33Ideal.nD Cert.Kernel33Ideal.τ).loc Cert.Kernel33Ideal.main_arg47) = m ((c.tc : Thread Cert.Kernel33Ideal.nD Cert.Kernel33Ideal.τ).loc Cert.Kernel33Ideal.main_arg47)
          ∧ r.2.mem ((c.tc : Thread Cert.Kernel33Ideal.nD Cert.Kernel33Ideal.τ).loc Cert.Kernel33Ideal.main_arg48) = m ((c.tc : Thread Cert.Kernel33Ideal.nD Cert.Kernel33Ideal.τ).loc Cert.Kernel33Ideal.main_arg48)
          ∧ r.2.mem ((c.tc : Thread Cert.Kernel33Ideal.nD Cert.Kernel33Ideal.τ).loc Cert.Kernel33Ideal.main_arg49) = m ((c.tc : Thread Cert.Kernel33Ideal.nD Cert.Kernel33Ideal.τ).loc Cert.Kernel33Ideal.main_arg49)
          ∧ r.2.mem ((c.tc : Thread Cert.Kernel33Ideal.nD Cert.Kernel33Ideal.τ).loc Cert.Kernel33Ideal.main_arg50) = m ((c.tc : Thread Cert.Kernel33Ideal.nD Cert.Kernel33Ideal.τ).loc Cert.Kernel33Ideal.main_arg50)
          ∧ r.2.mem ((c.tc : Thread Cert.Kernel33Ideal.nD Cert.Kernel33Ideal.τ).loc Cert.Kernel33Ideal.main_arg51) = m ((c.tc : Thread Cert.Kernel33Ideal.nD Cert.Kernel33Ideal.τ).loc Cert.Kernel33Ideal.main_arg51)
          ∧ r.2.mem ((c.tc : Thread Cert.Kernel33Ideal.nD Cert.Kernel33Ideal.τ).loc Cert.Kernel33Ideal.main_arg52) = m ((c.tc : Thread Cert.Kernel33Ideal.nD Cert.Kernel33Ideal.τ).loc Cert.Kernel33Ideal.main_arg52)
          ∧ r.2.mem ((c.tc : Thread Cert.Kernel33Ideal.nD Cert.Kernel33Ideal.τ).loc Cert.Kernel33Ideal.main_arg53) = m ((c.tc : Thread Cert.Kernel33Ideal.nD Cert.Kernel33Ideal.τ).loc Cert.Kernel33Ideal.main_arg53)
          ∧ r.2.mem ((c.tc : Thread Cert.Kernel33Ideal.nD Cert.Kernel33Ideal.τ).loc Cert.Kernel33Ideal.main_arg54) = m ((c.tc : Thread Cert.Kernel33Ideal.nD Cert.Kernel33Ideal.τ).loc Cert.Kernel33Ideal.main_arg54)
          ∧ r.2.mem ((c.tc : Thread Cert.Kernel33Ideal.nD Cert.Kernel33Ideal.τ).loc Cert.Kernel33Ideal.main_arg55) = m ((c.tc : Thread Cert.Kernel33Ideal.nD Cert.Kernel33Ideal.τ).loc Cert.Kernel33Ideal.main_arg55)
          ∧ r.2.mem ((c.tc : Thread Cert.Kernel33Ideal.nD Cert.Kernel33Ideal.τ).loc Cert.Kernel33Ideal.main_arg56) = m ((c.tc : Thread Cert.Kernel33Ideal.nD Cert.Kernel33Ideal.τ).loc Cert.Kernel33Ideal.main_arg56)
          ∧ r.2.mem ((c.tc : Thread Cert.Kernel33Ideal.nD Cert.Kernel33Ideal.τ).loc Cert.Kernel33Ideal.main_arg57) = m ((c.tc : Thread Cert.Kernel33Ideal.nD Cert.Kernel33Ideal.τ).loc Cert.Kernel33Ideal.main_arg57))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v33) = v0 c
          ∧ r.2.mem ((c.tc : Thread Cert.Reference33Ideal.nD Cert.Reference33Ideal.τ).loc Cert.Reference33Ideal.main_v57) = v1 c
          ∧ r.2.mem ((c.tc : Thread Cert.Reference33Ideal.nD Cert.Reference33Ideal.τ).loc Cert.Reference33Ideal.main_v38) = v2 c
          ∧ r.2.mem ((c.tc : Thread Cert.Reference33Ideal.nD Cert.Reference33Ideal.τ).loc Cert.Reference33Ideal.main_v44) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6)
          ∧ r.2.mem ((c.tc : Thread Cert.Reference33Ideal.nD Cert.Reference33Ideal.τ).loc Cert.Reference33Ideal.main_arg7) = m' ((c.tc : Thread Cert.Reference33Ideal.nD Cert.Reference33Ideal.τ).loc Cert.Reference33Ideal.main_arg7)
          ∧ r.2.mem ((c.tc : Thread Cert.Reference33Ideal.nD Cert.Reference33Ideal.τ).loc Cert.Reference33Ideal.main_arg8) = m' ((c.tc : Thread Cert.Reference33Ideal.nD Cert.Reference33Ideal.τ).loc Cert.Reference33Ideal.main_arg8)
          ∧ r.2.mem ((c.tc : Thread Cert.Reference33Ideal.nD Cert.Reference33Ideal.τ).loc Cert.Reference33Ideal.main_arg9) = m' ((c.tc : Thread Cert.Reference33Ideal.nD Cert.Reference33Ideal.τ).loc Cert.Reference33Ideal.main_arg9)
          ∧ r.2.mem ((c.tc : Thread Cert.Reference33Ideal.nD Cert.Reference33Ideal.τ).loc Cert.Reference33Ideal.main_arg10) = m' ((c.tc : Thread Cert.Reference33Ideal.nD Cert.Reference33Ideal.τ).loc Cert.Reference33Ideal.main_arg10)
          ∧ r.2.mem ((c.tc : Thread Cert.Reference33Ideal.nD Cert.Reference33Ideal.τ).loc Cert.Reference33Ideal.main_arg11) = m' ((c.tc : Thread Cert.Reference33Ideal.nD Cert.Reference33Ideal.τ).loc Cert.Reference33Ideal.main_arg11)
          ∧ r.2.mem ((c.tc : Thread Cert.Reference33Ideal.nD Cert.Reference33Ideal.τ).loc Cert.Reference33Ideal.main_arg12) = m' ((c.tc : Thread Cert.Reference33Ideal.nD Cert.Reference33Ideal.τ).loc Cert.Reference33Ideal.main_arg12)
          ∧ r.2.mem ((c.tc : Thread Cert.Reference33Ideal.nD Cert.Reference33Ideal.τ).loc Cert.Reference33Ideal.main_arg13) = m' ((c.tc : Thread Cert.Reference33Ideal.nD Cert.Reference33Ideal.τ).loc Cert.Reference33Ideal.main_arg13)
          ∧ r.2.mem ((c.tc : Thread Cert.Reference33Ideal.nD Cert.Reference33Ideal.τ).loc Cert.Reference33Ideal.main_arg14) = m' ((c.tc : Thread Cert.Reference33Ideal.nD Cert.Reference33Ideal.τ).loc Cert.Reference33Ideal.main_arg14)
          ∧ r.2.mem ((c.tc : Thread Cert.Reference33Ideal.nD Cert.Reference33Ideal.τ).loc Cert.Reference33Ideal.main_arg15) = m' ((c.tc : Thread Cert.Reference33Ideal.nD Cert.Reference33Ideal.τ).loc Cert.Reference33Ideal.main_arg15)
          ∧ r.2.mem ((c.tc : Thread Cert.Reference33Ideal.nD Cert.Reference33Ideal.τ).loc Cert.Reference33Ideal.main_arg16) = m' ((c.tc : Thread Cert.Reference33Ideal.nD Cert.Reference33Ideal.τ).loc Cert.Reference33Ideal.main_arg16)
          ∧ r.2.mem ((c.tc : Thread Cert.Reference33Ideal.nD Cert.Reference33Ideal.τ).loc Cert.Reference33Ideal.main_arg17) = m' ((c.tc : Thread Cert.Reference33Ideal.nD Cert.Reference33Ideal.τ).loc Cert.Reference33Ideal.main_arg17)
          ∧ r.2.mem ((c.tc : Thread Cert.Reference33Ideal.nD Cert.Reference33Ideal.τ).loc Cert.Reference33Ideal.main_arg18) = m' ((c.tc : Thread Cert.Reference33Ideal.nD Cert.Reference33Ideal.τ).loc Cert.Reference33Ideal.main_arg18)
          ∧ r.2.mem ((c.tc : Thread Cert.Reference33Ideal.nD Cert.Reference33Ideal.τ).loc Cert.Reference33Ideal.main_arg19) = m' ((c.tc : Thread Cert.Reference33Ideal.nD Cert.Reference33Ideal.τ).loc Cert.Reference33Ideal.main_arg19)
          ∧ r.2.mem ((c.tc : Thread Cert.Reference33Ideal.nD Cert.Reference33Ideal.τ).loc Cert.Reference33Ideal.main_arg20) = m' ((c.tc : Thread Cert.Reference33Ideal.nD Cert.Reference33Ideal.τ).loc Cert.Reference33Ideal.main_arg20)
          ∧ r.2.mem ((c.tc : Thread Cert.Reference33Ideal.nD Cert.Reference33Ideal.τ).loc Cert.Reference33Ideal.main_arg21) = m' ((c.tc : Thread Cert.Reference33Ideal.nD Cert.Reference33Ideal.τ).loc Cert.Reference33Ideal.main_arg21)
          ∧ r.2.mem ((c.tc : Thread Cert.Reference33Ideal.nD Cert.Reference33Ideal.τ).loc Cert.Reference33Ideal.main_arg22) = m' ((c.tc : Thread Cert.Reference33Ideal.nD Cert.Reference33Ideal.τ).loc Cert.Reference33Ideal.main_arg22)
          ∧ r.2.mem ((c.tc : Thread Cert.Reference33Ideal.nD Cert.Reference33Ideal.τ).loc Cert.Reference33Ideal.main_arg23) = m' ((c.tc : Thread Cert.Reference33Ideal.nD Cert.Reference33Ideal.τ).loc Cert.Reference33Ideal.main_arg23)
          ∧ r.2.mem ((c.tc : Thread Cert.Reference33Ideal.nD Cert.Reference33Ideal.τ).loc Cert.Reference33Ideal.main_arg24) = m' ((c.tc : Thread Cert.Reference33Ideal.nD Cert.Reference33Ideal.τ).loc Cert.Reference33Ideal.main_arg24)
          ∧ r.2.mem ((c.tc : Thread Cert.Reference33Ideal.nD Cert.Reference33Ideal.τ).loc Cert.Reference33Ideal.main_arg25) = m' ((c.tc : Thread Cert.Reference33Ideal.nD Cert.Reference33Ideal.τ).loc Cert.Reference33Ideal.main_arg25)
          ∧ r.2.mem ((c.tc : Thread Cert.Reference33Ideal.nD Cert.Reference33Ideal.τ).loc Cert.Reference33Ideal.main_arg26) = m' ((c.tc : Thread Cert.Reference33Ideal.nD Cert.Reference33Ideal.τ).loc Cert.Reference33Ideal.main_arg26)
          ∧ r.2.mem ((c.tc : Thread Cert.Reference33Ideal.nD Cert.Reference33Ideal.τ).loc Cert.Reference33Ideal.main_arg27) = m' ((c.tc : Thread Cert.Reference33Ideal.nD Cert.Reference33Ideal.τ).loc Cert.Reference33Ideal.main_arg27)
          ∧ r.2.mem ((c.tc : Thread Cert.Reference33Ideal.nD Cert.Reference33Ideal.τ).loc Cert.Reference33Ideal.main_arg28) = m' ((c.tc : Thread Cert.Reference33Ideal.nD Cert.Reference33Ideal.τ).loc Cert.Reference33Ideal.main_arg28)
          ∧ r.2.mem ((c.tc : Thread Cert.Reference33Ideal.nD Cert.Reference33Ideal.τ).loc Cert.Reference33Ideal.main_arg29) = m' ((c.tc : Thread Cert.Reference33Ideal.nD Cert.Reference33Ideal.τ).loc Cert.Reference33Ideal.main_arg29)
          ∧ r.2.mem ((c.tc : Thread Cert.Reference33Ideal.nD Cert.Reference33Ideal.τ).loc Cert.Reference33Ideal.main_arg30) = m' ((c.tc : Thread Cert.Reference33Ideal.nD Cert.Reference33Ideal.τ).loc Cert.Reference33Ideal.main_arg30)
          ∧ r.2.mem ((c.tc : Thread Cert.Reference33Ideal.nD Cert.Reference33Ideal.τ).loc Cert.Reference33Ideal.main_arg31) = m' ((c.tc : Thread Cert.Reference33Ideal.nD Cert.Reference33Ideal.τ).loc Cert.Reference33Ideal.main_arg31)
          ∧ r.2.mem ((c.tc : Thread Cert.Reference33Ideal.nD Cert.Reference33Ideal.τ).loc Cert.Reference33Ideal.main_arg32) = m' ((c.tc : Thread Cert.Reference33Ideal.nD Cert.Reference33Ideal.τ).loc Cert.Reference33Ideal.main_arg32)
          ∧ r.2.mem ((c.tc : Thread Cert.Reference33Ideal.nD Cert.Reference33Ideal.τ).loc Cert.Reference33Ideal.main_arg33) = m' ((c.tc : Thread Cert.Reference33Ideal.nD Cert.Reference33Ideal.τ).loc Cert.Reference33Ideal.main_arg33)
          ∧ r.2.mem ((c.tc : Thread Cert.Reference33Ideal.nD Cert.Reference33Ideal.τ).loc Cert.Reference33Ideal.main_arg34) = m' ((c.tc : Thread Cert.Reference33Ideal.nD Cert.Reference33Ideal.τ).loc Cert.Reference33Ideal.main_arg34)
          ∧ r.2.mem ((c.tc : Thread Cert.Reference33Ideal.nD Cert.Reference33Ideal.τ).loc Cert.Reference33Ideal.main_arg35) = m' ((c.tc : Thread Cert.Reference33Ideal.nD Cert.Reference33Ideal.τ).loc Cert.Reference33Ideal.main_arg35)
          ∧ r.2.mem ((c.tc : Thread Cert.Reference33Ideal.nD Cert.Reference33Ideal.τ).loc Cert.Reference33Ideal.main_arg36) = m' ((c.tc : Thread Cert.Reference33Ideal.nD Cert.Reference33Ideal.τ).loc Cert.Reference33Ideal.main_arg36)
          ∧ r.2.mem ((c.tc : Thread Cert.Reference33Ideal.nD Cert.Reference33Ideal.τ).loc Cert.Reference33Ideal.main_arg37) = m' ((c.tc : Thread Cert.Reference33Ideal.nD Cert.Reference33Ideal.τ).loc Cert.Reference33Ideal.main_arg37)
          ∧ r.2.mem ((c.tc : Thread Cert.Reference33Ideal.nD Cert.Reference33Ideal.τ).loc Cert.Reference33Ideal.main_arg38) = m' ((c.tc : Thread Cert.Reference33Ideal.nD Cert.Reference33Ideal.τ).loc Cert.Reference33Ideal.main_arg38)
          ∧ r.2.mem ((c.tc : Thread Cert.Reference33Ideal.nD Cert.Reference33Ideal.τ).loc Cert.Reference33Ideal.main_arg39) = m' ((c.tc : Thread Cert.Reference33Ideal.nD Cert.Reference33Ideal.τ).loc Cert.Reference33Ideal.main_arg39)
          ∧ r.2.mem ((c.tc : Thread Cert.Reference33Ideal.nD Cert.Reference33Ideal.τ).loc Cert.Reference33Ideal.main_arg40) = m' ((c.tc : Thread Cert.Reference33Ideal.nD Cert.Reference33Ideal.τ).loc Cert.Reference33Ideal.main_arg40)
          ∧ r.2.mem ((c.tc : Thread Cert.Reference33Ideal.nD Cert.Reference33Ideal.τ).loc Cert.Reference33Ideal.main_arg41) = m' ((c.tc : Thread Cert.Reference33Ideal.nD Cert.Reference33Ideal.τ).loc Cert.Reference33Ideal.main_arg41)
          ∧ r.2.mem ((c.tc : Thread Cert.Reference33Ideal.nD Cert.Reference33Ideal.τ).loc Cert.Reference33Ideal.main_arg42) = m' ((c.tc : Thread Cert.Reference33Ideal.nD Cert.Reference33Ideal.τ).loc Cert.Reference33Ideal.main_arg42)
          ∧ r.2.mem ((c.tc : Thread Cert.Reference33Ideal.nD Cert.Reference33Ideal.τ).loc Cert.Reference33Ideal.main_arg43) = m' ((c.tc : Thread Cert.Reference33Ideal.nD Cert.Reference33Ideal.τ).loc Cert.Reference33Ideal.main_arg43)
          ∧ r.2.mem ((c.tc : Thread Cert.Reference33Ideal.nD Cert.Reference33Ideal.τ).loc Cert.Reference33Ideal.main_arg44) = m' ((c.tc : Thread Cert.Reference33Ideal.nD Cert.Reference33Ideal.τ).loc Cert.Reference33Ideal.main_arg44)
          ∧ r.2.mem ((c.tc : Thread Cert.Reference33Ideal.nD Cert.Reference33Ideal.τ).loc Cert.Reference33Ideal.main_arg45) = m' ((c.tc : Thread Cert.Reference33Ideal.nD Cert.Reference33Ideal.τ).loc Cert.Reference33Ideal.main_arg45)
          ∧ r.2.mem ((c.tc : Thread Cert.Reference33Ideal.nD Cert.Reference33Ideal.τ).loc Cert.Reference33Ideal.main_arg46) = m' ((c.tc : Thread Cert.Reference33Ideal.nD Cert.Reference33Ideal.τ).loc Cert.Reference33Ideal.main_arg46)
          ∧ r.2.mem ((c.tc : Thread Cert.Reference33Ideal.nD Cert.Reference33Ideal.τ).loc Cert.Reference33Ideal.main_arg47) = m' ((c.tc : Thread Cert.Reference33Ideal.nD Cert.Reference33Ideal.τ).loc Cert.Reference33Ideal.main_arg47)
          ∧ r.2.mem ((c.tc : Thread Cert.Reference33Ideal.nD Cert.Reference33Ideal.τ).loc Cert.Reference33Ideal.main_arg48) = m' ((c.tc : Thread Cert.Reference33Ideal.nD Cert.Reference33Ideal.τ).loc Cert.Reference33Ideal.main_arg48)
          ∧ r.2.mem ((c.tc : Thread Cert.Reference33Ideal.nD Cert.Reference33Ideal.τ).loc Cert.Reference33Ideal.main_arg49) = m' ((c.tc : Thread Cert.Reference33Ideal.nD Cert.Reference33Ideal.τ).loc Cert.Reference33Ideal.main_arg49)
          ∧ r.2.mem ((c.tc : Thread Cert.Reference33Ideal.nD Cert.Reference33Ideal.τ).loc Cert.Reference33Ideal.main_arg50) = m' ((c.tc : Thread Cert.Reference33Ideal.nD Cert.Reference33Ideal.τ).loc Cert.Reference33Ideal.main_arg50)
          ∧ r.2.mem ((c.tc : Thread Cert.Reference33Ideal.nD Cert.Reference33Ideal.τ).loc Cert.Reference33Ideal.main_arg51) = m' ((c.tc : Thread Cert.Reference33Ideal.nD Cert.Reference33Ideal.τ).loc Cert.Reference33Ideal.main_arg51)
          ∧ r.2.mem ((c.tc : Thread Cert.Reference33Ideal.nD Cert.Reference33Ideal.τ).loc Cert.Reference33Ideal.main_arg52) = m' ((c.tc : Thread Cert.Reference33Ideal.nD Cert.Reference33Ideal.τ).loc Cert.Reference33Ideal.main_arg52)
          ∧ r.2.mem ((c.tc : Thread Cert.Reference33Ideal.nD Cert.Reference33Ideal.τ).loc Cert.Reference33Ideal.main_arg53) = m' ((c.tc : Thread Cert.Reference33Ideal.nD Cert.Reference33Ideal.τ).loc Cert.Reference33Ideal.main_arg53)
          ∧ r.2.mem ((c.tc : Thread Cert.Reference33Ideal.nD Cert.Reference33Ideal.τ).loc Cert.Reference33Ideal.main_arg54) = m' ((c.tc : Thread Cert.Reference33Ideal.nD Cert.Reference33Ideal.τ).loc Cert.Reference33Ideal.main_arg54)
          ∧ r.2.mem ((c.tc : Thread Cert.Reference33Ideal.nD Cert.Reference33Ideal.τ).loc Cert.Reference33Ideal.main_arg55) = m' ((c.tc : Thread Cert.Reference33Ideal.nD Cert.Reference33Ideal.τ).loc Cert.Reference33Ideal.main_arg55)
          ∧ r.2.mem ((c.tc : Thread Cert.Reference33Ideal.nD Cert.Reference33Ideal.τ).loc Cert.Reference33Ideal.main_arg56) = m' ((c.tc : Thread Cert.Reference33Ideal.nD Cert.Reference33Ideal.τ).loc Cert.Reference33Ideal.main_arg56)
          ∧ r.2.mem ((c.tc : Thread Cert.Reference33Ideal.nD Cert.Reference33Ideal.τ).loc Cert.Reference33Ideal.main_arg57) = m' ((c.tc : Thread Cert.Reference33Ideal.nD Cert.Reference33Ideal.τ).loc Cert.Reference33Ideal.main_arg57))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)
      ∧ m' ((c.tc : Thread Cert.Reference34Ideal.nD Cert.Reference34Ideal.τ).loc Cert.Reference34Ideal.main_arg7) = m ((c.tc : Thread Cert.Kernel34Ideal.nD Cert.Kernel34Ideal.τ).loc Cert.Kernel34Ideal.main_arg7)
      ∧ m' ((c.tc : Thread Cert.Reference34Ideal.nD Cert.Reference34Ideal.τ).loc Cert.Reference34Ideal.main_arg8) = m ((c.tc : Thread Cert.Kernel34Ideal.nD Cert.Kernel34Ideal.τ).loc Cert.Kernel34Ideal.main_arg8)
      ∧ m' ((c.tc : Thread Cert.Reference34Ideal.nD Cert.Reference34Ideal.τ).loc Cert.Reference34Ideal.main_arg9) = m ((c.tc : Thread Cert.Kernel34Ideal.nD Cert.Kernel34Ideal.τ).loc Cert.Kernel34Ideal.main_arg9)
      ∧ m' ((c.tc : Thread Cert.Reference34Ideal.nD Cert.Reference34Ideal.τ).loc Cert.Reference34Ideal.main_arg10) = m ((c.tc : Thread Cert.Kernel34Ideal.nD Cert.Kernel34Ideal.τ).loc Cert.Kernel34Ideal.main_arg10)
      ∧ m' ((c.tc : Thread Cert.Reference34Ideal.nD Cert.Reference34Ideal.τ).loc Cert.Reference34Ideal.main_arg11) = m ((c.tc : Thread Cert.Kernel34Ideal.nD Cert.Kernel34Ideal.τ).loc Cert.Kernel34Ideal.main_arg11)
      ∧ m' ((c.tc : Thread Cert.Reference34Ideal.nD Cert.Reference34Ideal.τ).loc Cert.Reference34Ideal.main_arg12) = m ((c.tc : Thread Cert.Kernel34Ideal.nD Cert.Kernel34Ideal.τ).loc Cert.Kernel34Ideal.main_arg12)
      ∧ m' ((c.tc : Thread Cert.Reference34Ideal.nD Cert.Reference34Ideal.τ).loc Cert.Reference34Ideal.main_arg13) = m ((c.tc : Thread Cert.Kernel34Ideal.nD Cert.Kernel34Ideal.τ).loc Cert.Kernel34Ideal.main_arg13)
      ∧ m' ((c.tc : Thread Cert.Reference34Ideal.nD Cert.Reference34Ideal.τ).loc Cert.Reference34Ideal.main_arg14) = m ((c.tc : Thread Cert.Kernel34Ideal.nD Cert.Kernel34Ideal.τ).loc Cert.Kernel34Ideal.main_arg14)
      ∧ m' ((c.tc : Thread Cert.Reference34Ideal.nD Cert.Reference34Ideal.τ).loc Cert.Reference34Ideal.main_arg15) = m ((c.tc : Thread Cert.Kernel34Ideal.nD Cert.Kernel34Ideal.τ).loc Cert.Kernel34Ideal.main_arg15)) →
    ∃ (v0 : (c : Dev Cert.Kernel34Ideal.nD) → Buf (Elt Ideal) ((c.tc : Thread Cert.Kernel34Ideal.nD Cert.Kernel34Ideal.τ).loc Cert.Kernel34Ideal.main_v15_0)) (v1 : (c : Dev Cert.Kernel34Ideal.nD) → Buf (Elt Ideal) ((c.tc : Thread Cert.Kernel34Ideal.nD Cert.Kernel34Ideal.τ).loc Cert.Kernel34Ideal.main_v15_1)) (v2 : (c : Dev Cert.Kernel34Ideal.nD) → Buf (Elt Ideal) ((c.tc : Thread Cert.Kernel34Ideal.nD Cert.Kernel34Ideal.τ).loc Cert.Kernel34Ideal.main_v15_2)) (v3 : (c : Dev Cert.Kernel34Ideal.nD) → Buf (Elt Ideal) ((c.tc : Thread Cert.Kernel34Ideal.nD Cert.Kernel34Ideal.τ).loc Cert.Kernel34Ideal.main_v15_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v15_0) = v0 c
          ∧ r.2.mem ((c.tc : Thread Cert.Kernel34Ideal.nD Cert.Kernel34Ideal.τ).loc Cert.Kernel34Ideal.main_v15_1) = v1 c
          ∧ r.2.mem ((c.tc : Thread Cert.Kernel34Ideal.nD Cert.Kernel34Ideal.τ).loc Cert.Kernel34Ideal.main_v15_2) = v2 c
          ∧ r.2.mem ((c.tc : Thread Cert.Kernel34Ideal.nD Cert.Kernel34Ideal.τ).loc Cert.Kernel34Ideal.main_v15_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
          ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
          ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
          ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9)
          ∧ r.2.mem ((c.tc : Thread Cert.Kernel34Ideal.nD Cert.Kernel34Ideal.τ).loc Cert.Kernel34Ideal.main_arg10) = m ((c.tc : Thread Cert.Kernel34Ideal.nD Cert.Kernel34Ideal.τ).loc Cert.Kernel34Ideal.main_arg10)
          ∧ r.2.mem ((c.tc : Thread Cert.Kernel34Ideal.nD Cert.Kernel34Ideal.τ).loc Cert.Kernel34Ideal.main_arg11) = m ((c.tc : Thread Cert.Kernel34Ideal.nD Cert.Kernel34Ideal.τ).loc Cert.Kernel34Ideal.main_arg11)
          ∧ r.2.mem ((c.tc : Thread Cert.Kernel34Ideal.nD Cert.Kernel34Ideal.τ).loc Cert.Kernel34Ideal.main_arg12) = m ((c.tc : Thread Cert.Kernel34Ideal.nD Cert.Kernel34Ideal.τ).loc Cert.Kernel34Ideal.main_arg12)
          ∧ r.2.mem ((c.tc : Thread Cert.Kernel34Ideal.nD Cert.Kernel34Ideal.τ).loc Cert.Kernel34Ideal.main_arg13) = m ((c.tc : Thread Cert.Kernel34Ideal.nD Cert.Kernel34Ideal.τ).loc Cert.Kernel34Ideal.main_arg13)
          ∧ r.2.mem ((c.tc : Thread Cert.Kernel34Ideal.nD Cert.Kernel34Ideal.τ).loc Cert.Kernel34Ideal.main_arg14) = m ((c.tc : Thread Cert.Kernel34Ideal.nD Cert.Kernel34Ideal.τ).loc Cert.Kernel34Ideal.main_arg14)
          ∧ r.2.mem ((c.tc : Thread Cert.Kernel34Ideal.nD Cert.Kernel34Ideal.τ).loc Cert.Kernel34Ideal.main_arg15) = m ((c.tc : Thread Cert.Kernel34Ideal.nD Cert.Kernel34Ideal.τ).loc Cert.Kernel34Ideal.main_arg15))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v15) = v0 c
          ∧ r.2.mem ((c.tc : Thread Cert.Reference34Ideal.nD Cert.Reference34Ideal.τ).loc Cert.Reference34Ideal.main_v39) = v1 c
          ∧ r.2.mem ((c.tc : Thread Cert.Reference34Ideal.nD Cert.Reference34Ideal.τ).loc Cert.Reference34Ideal.main_v20) = v2 c
          ∧ r.2.mem ((c.tc : Thread Cert.Reference34Ideal.nD Cert.Reference34Ideal.τ).loc Cert.Reference34Ideal.main_v26) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6)
          ∧ r.2.mem ((c.tc : Thread Cert.Reference34Ideal.nD Cert.Reference34Ideal.τ).loc Cert.Reference34Ideal.main_arg7) = m' ((c.tc : Thread Cert.Reference34Ideal.nD Cert.Reference34Ideal.τ).loc Cert.Reference34Ideal.main_arg7)
          ∧ r.2.mem ((c.tc : Thread Cert.Reference34Ideal.nD Cert.Reference34Ideal.τ).loc Cert.Reference34Ideal.main_arg8) = m' ((c.tc : Thread Cert.Reference34Ideal.nD Cert.Reference34Ideal.τ).loc Cert.Reference34Ideal.main_arg8)
          ∧ r.2.mem ((c.tc : Thread Cert.Reference34Ideal.nD Cert.Reference34Ideal.τ).loc Cert.Reference34Ideal.main_arg9) = m' ((c.tc : Thread Cert.Reference34Ideal.nD Cert.Reference34Ideal.τ).loc Cert.Reference34Ideal.main_arg9)
          ∧ r.2.mem ((c.tc : Thread Cert.Reference34Ideal.nD Cert.Reference34Ideal.τ).loc Cert.Reference34Ideal.main_arg10) = m' ((c.tc : Thread Cert.Reference34Ideal.nD Cert.Reference34Ideal.τ).loc Cert.Reference34Ideal.main_arg10)
          ∧ r.2.mem ((c.tc : Thread Cert.Reference34Ideal.nD Cert.Reference34Ideal.τ).loc Cert.Reference34Ideal.main_arg11) = m' ((c.tc : Thread Cert.Reference34Ideal.nD Cert.Reference34Ideal.τ).loc Cert.Reference34Ideal.main_arg11)
          ∧ r.2.mem ((c.tc : Thread Cert.Reference34Ideal.nD Cert.Reference34Ideal.τ).loc Cert.Reference34Ideal.main_arg12) = m' ((c.tc : Thread Cert.Reference34Ideal.nD Cert.Reference34Ideal.τ).loc Cert.Reference34Ideal.main_arg12)
          ∧ r.2.mem ((c.tc : Thread Cert.Reference34Ideal.nD Cert.Reference34Ideal.τ).loc Cert.Reference34Ideal.main_arg13) = m' ((c.tc : Thread Cert.Reference34Ideal.nD Cert.Reference34Ideal.τ).loc Cert.Reference34Ideal.main_arg13)
          ∧ r.2.mem ((c.tc : Thread Cert.Reference34Ideal.nD Cert.Reference34Ideal.τ).loc Cert.Reference34Ideal.main_arg14) = m' ((c.tc : Thread Cert.Reference34Ideal.nD Cert.Reference34Ideal.τ).loc Cert.Reference34Ideal.main_arg14)
          ∧ r.2.mem ((c.tc : Thread Cert.Reference34Ideal.nD Cert.Reference34Ideal.τ).loc Cert.Reference34Ideal.main_arg15) = m' ((c.tc : Thread Cert.Reference34Ideal.nD Cert.Reference34Ideal.τ).loc Cert.Reference34Ideal.main_arg15))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1_0)) (v1 : (c : Dev Cert.Kernel35Ideal.nD) → Buf (Elt Ideal) ((c.tc : Thread Cert.Kernel35Ideal.nD Cert.Kernel35Ideal.τ).loc Cert.Kernel35Ideal.main_v1_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1_0) = v0 c
          ∧ r.2.mem ((c.tc : Thread Cert.Kernel35Ideal.nD Cert.Kernel35Ideal.τ).loc Cert.Kernel35Ideal.main_v1_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v15) = v0 c
          ∧ r.2.mem ((c.tc : Thread Cert.Reference35Ideal.nD Cert.Reference35Ideal.τ).loc Cert.Reference35Ideal.main_v16) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel23 : Cert.Kernel23.Facts) (hKernel23Ideal : Cert.Kernel23Ideal.Facts) (hReference23Ideal : Cert.Reference23Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel23_Kernel23Ideal
    ∧ algebraic_Kernel23Ideal_Reference23Ideal (hKernel23Ideal := hKernel23Ideal) (hReference23Ideal := hReference23Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Pre_finite.lean ====
abbrev S2x8x2048x64 : Shape := ⟨4, ![2, 8, 2048, 64]⟩
abbrev S2x8x2048x32 : Shape := ⟨4, ![2, 8, 2048, 32]⟩
abbrev S2x1x2048x32 : Shape := ⟨4, ![2, 1, 2048, 32]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S2x8x2048x32 : S_.BroadcastsInDim S2x8x2048x32 (![] : Fin 0 → Fin S2x8x2048x32.rank)
  reducesTo_S2x8x2048x32_S_d0_1_2_3 : S2x8x2048x32.ReducesTo [0, 1, 2, 3] S_
  bcast_S_S2x1x2048x32 : S_.BroadcastsInDim S2x1x2048x32 (![] : Fin 0 → Fin S2x1x2048x32.rank)
  reducesTo_S2x1x2048x32_S_d0_1_2_3 : S2x1x2048x32.ReducesTo [0, 1, 2, 3] S_

variable [Facts]

def fn_part1 {F : FTy → Type} [FloatOps F] (main_arg4 : FVec F S2x8x2048x64 .f32) (main_arg5 : FVec F S2x8x2048x64 .f32) (main_v3 : IVec S_ 1) (main_v7 : IVec S_ 1) (main_v11 : IVec S_ 1) (main_v15 : IVec S_ 1) : IVec S_ 1 :=
  let main_v16 : FVec F S2x8x2048x64 .f32 := Host.absf main_arg4
  let main_cst_6 : FVec F S_ .f32 := constant S_ .f32 0x7F800000#32
  let main_v17 : FVec F S2x8x2048x64 .f32 := broadcastInDim S2x8x2048x64 ![] bcast_S_S2x8x2048x64 main_cst_6
  let main_v18 : IVec S2x8x2048x64 1 := cmpf .olt main_v16 main_v17
  let main_c_7 : IVec S_ 1 := constantI S_ 1 1#1
  let main_v19 : IVec S_ 1 := (fun x v => Host.reduce IntOp.andi x v reducesTo_S2x8x2048x64_S_d0_1_2_3 h_S_) main_v18 main_c_7
  let main_v20 : FVec F S2x8x2048x64 .f32 := Host.absf main_arg5
  let main_cst_8 : FVec F S_ .f32 := constant S_ .f32 0x7F800000#32
  let main_v21 : FVec F S2x8x2048x64 .f32 := broadcastInDim S2x8x2048x64 ![] bcast_S_S2x8x2048x64 main_cst_8
  let main_v22 : IVec S2x8x2048x64 1 := cmpf .olt main_v20 main_v21
  let main_c_9 : IVec S_ 1 := constantI S_ 1 1#1
  let main_v23 : IVec S_ 1 := (fun x v => Host.reduce IntOp.andi x v reducesTo_S2x8x2048x64_S_d0_1_2_3 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x8x2048x64 .f32) (main_arg1 : FVec F S2x8x2048x32 .f32) (main_arg2 : FVec F S2x8x2048x64 .f32) (main_arg3 : FVec F S2x1x2048x32 .f32) (main_arg4 : FVec F S2x8x2048x64 .f32) (main_arg5 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x32 .f32 := Host.absf main_arg1
  let main_cst_0 : FVec F S_ .f32 := constant S_ .f32 0x7F800000#32
  let main_v5 : FVec F S2x8x2048x32 .f32 := broadcastInDim S2x8x2048x32 ![] bcast_S_S2x8x2048x32 main_cst_0
  let main_v6 : IVec S2x8x2048x32 1 := cmpf .olt main_v4 main_v5
  let main_c_1 : IVec S_ 1 := constantI S_ 1 1#1
  let main_v7 : IVec S_ 1 := (fun x v => Host.reduce IntOp.andi x v reducesTo_S2x8x2048x32_S_d0_1_2_3 h_S_) main_v6 main_c_1
  let main_v8 : FVec F S2x8x2048x64 .f32 := Host.absf main_arg2
  let main_cst_2 : FVec F S_ .f32 := constant S_ .f32 0x7F800000#32
  let main_v9 : FVec F S2x8x2048x64 .f32 := broadcastInDim S2x8x2048x64 ![] bcast_S_S2x8x2048x64 main_cst_2
  let main_v10 : IVec S2x8x2048x64 1 := cmpf .olt main_v8 main_v9
  let main_c_3 : IVec S_ 1 := constantI S_ 1 1#1
  let main_v11 : IVec S_ 1 := (fun x v => Host.reduce IntOp.andi x v reducesTo_S2x8x2048x64_S_d0_1_2_3 h_S_) main_v10 main_c_3
  let main_v12 : FVec F S2x1x2048x32 .f32 := Host.absf main_arg3
  let main_cst_4 : FVec F S_ .f32 := constant S_ .f32 0x7F800000#32
  let main_v13 : FVec F S2x1x2048x32 .f32 := broadcastInDim S2x1x2048x32 ![] bcast_S_S2x1x2048x32 main_cst_4
  let main_v14 : IVec S2x1x2048x32 1 := cmpf .olt main_v12 main_v13
  let main_c_5 : IVec S_ 1 := constantI S_ 1 1#1
  let main_v15 : IVec S_ 1 := (fun x v => Host.reduce IntOp.andi x v reducesTo_S2x1x2048x32_S_d0_1_2_3 h_S_) main_v14 main_c_5
  fn_part1 (F := F) main_arg4 main_arg5 main_v3 main_v7 main_v11 main_v15
-- ==== Kernel.lean ====
abbrev S2x8x2048x64 : Shape := ⟨4, ![2, 8, 2048, 64]⟩
abbrev S2x8x2048x32 : Shape := ⟨4, ![2, 8, 2048, 32]⟩
abbrev S2x1x2048x32 : Shape := ⟨4, ![2, 1, 2048, 32]⟩
abbrev S2x8x2048x2048 : Shape := ⟨4, ![2, 8, 2048, 2048]⟩
abbrev S2x2048x32 : Shape := ⟨3, ![2, 2048, 32]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S1x4x128x64 : Shape := ⟨4, ![1, 4, 128, 64]⟩
abbrev S1x4x128x32 : Shape := ⟨4, ![1, 4, 128, 32]⟩
abbrev S1x4x2048x64 : Shape := ⟨4, ![1, 4, 2048, 64]⟩
abbrev S1x1x2048x32 : Shape := ⟨4, ![1, 1, 2048, 32]⟩
abbrev S1x4x128x1 : Shape := ⟨4, ![1, 4, 128, 1]⟩
abbrev S4x2048x64 : Shape := ⟨3, ![4, 2048, 64]⟩
abbrev S2048x32 : Shape := ⟨2, ![2048, 32]⟩
abbrev S1x1x128x64 : Shape := ⟨4, ![1, 1, 128, 64]⟩
abbrev S128x64 : Shape := ⟨2, ![128, 64]⟩
abbrev S1x1x128x32 : Shape := ⟨4, ![1, 1, 128, 32]⟩
abbrev S128x32 : Shape := ⟨2, ![128, 32]⟩
abbrev S1x1x128x1 : Shape := ⟨4, ![1, 1, 128, 1]⟩
abbrev S128x1 : Shape := ⟨2, ![128, 1]⟩
abbrev S128 : Shape := ⟨1, ![128]⟩
abbrev S4x128x64 : Shape := ⟨3, ![4, 128, 64]⟩
abbrev S4x128x32 : Shape := ⟨3, ![4, 128, 32]⟩
abbrev S128x128 : Shape := ⟨2, ![128, 128]⟩

abbrev nBuf : Space → Nat
  | .hbm => 75
  | .vmem => 26
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x32, .f32⟩
  | .hbm, ⟨2, _⟩ => ⟨S2x8x2048x64, .f32⟩
  | .hbm, ⟨3, _⟩ => ⟨S2x1x2048x32, .f32⟩
  | .hbm, ⟨4, _⟩ => ⟨S2x8x2048x64, .f32⟩
  | .hbm, ⟨5, _⟩ => ⟨S2x8x2048x64, .f32⟩
  | .hbm, ⟨6, _⟩ => ⟨S2x8x2048x2048, .f32⟩
  | .hbm, ⟨7, _⟩ => ⟨S2x2048x32, .f32⟩
  | .hbm, ⟨8, _⟩ => ⟨S2x8x2048x2048, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S2x8x2048x2048, .i1⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S_, .f32⟩
  | .hbm, ⟨28, _⟩ => ⟨S2x8x2048, .f32⟩
  | .hbm, ⟨29, _⟩ => ⟨S2x8x2048, .f32⟩
  | .hbm, ⟨30, _⟩ => ⟨S2x8x2048x1, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x2048x64, .f32⟩
  | .hbm, ⟨40, _⟩ => ⟨S2x8x2048x2048, .f32⟩
  | .hbm, ⟨41, _⟩ => ⟨S2x2048x32, .f32⟩
  | .hbm, ⟨42, _⟩ => ⟨S2x8x2048x2048, .f32⟩
  | .hbm, ⟨43, _⟩ => ⟨S2x8x2048x2048, .f32⟩
  | .hbm, ⟨44, _⟩ => ⟨S_, .f32⟩
  | .hbm, ⟨45, _⟩ => ⟨S2x8x2048x2048, .f32⟩
  | .hbm, ⟨46, _⟩ => ⟨S2x8x2048x2048, .f32⟩
  | .hbm, ⟨47, _⟩ => ⟨S2048, .i32⟩
  | .hbm, ⟨48, _⟩ => ⟨S1x2048, .i32⟩
  | .hbm, ⟨49, _⟩ => ⟨S2048, .i32⟩
  | .hbm, ⟨50, _⟩ => ⟨S2048x1, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S_, .f32⟩
  | .hbm, ⟨55, _⟩ => ⟨S_, .f32⟩
  | .hbm, ⟨56, _⟩ => ⟨S2x8x2048x2048, .i1⟩
  | .hbm, ⟨57, _⟩ => ⟨S2x8x2048x2048, .f32⟩
  | .hbm, ⟨58, _⟩ => ⟨S2x8x2048x2048, .f32⟩
  | .hbm, ⟨59, _⟩ => ⟨S_, .f32⟩
  | .hbm, ⟨60, _⟩ => ⟨S2x8x2048, .f32⟩
  | .hbm, ⟨61, _⟩ => ⟨S2x8x2048x1, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S_, .f32⟩
  | .hbm, ⟨66, _⟩ => ⟨S2x8x2048, .f32⟩
  | .hbm, ⟨67, _⟩ => ⟨S2x8x2048x1, .f32⟩
  | .hbm, ⟨68, _⟩ => ⟨S2x8x2048x1, .f32⟩
  | .hbm, ⟨69, _⟩ => ⟨S2x8x2048x1, .f32⟩
  | .hbm, ⟨70, _⟩ => ⟨S2x8x2048x64, .f32⟩
  | .hbm, ⟨71, _⟩ => ⟨S2x8x2048x32, .f32⟩
  | .hbm, ⟨72, _⟩ => ⟨S2x8x2048x64, .f32⟩
  | .hbm, ⟨73, _⟩ => ⟨S2x1x2048x32, .f32⟩
  | .hbm, ⟨74, _⟩ => ⟨S2x8x2048x64, .f32⟩
  | .local _ .vmem, ⟨0, _⟩ => ⟨S1x4x128x64, .f32⟩
  | .local _ .vmem, ⟨1, _⟩ => ⟨S1x4x128x64, .f32⟩
  | .local _ .vmem, ⟨2, _⟩ => ⟨S1x4x128x32, .f32⟩
  | .local _ .vmem, ⟨3, _⟩ => ⟨S1x4x128x32, .f32⟩
  | .local _ .vmem, ⟨4, _⟩ => ⟨S1x4x2048x64, .f32⟩
  | .local _ .vmem, ⟨5, _⟩ => ⟨S1x4x2048x64, .f32⟩
  | .local _ .vmem, ⟨6, _⟩ => ⟨S1x1x2048x32, .f32⟩
  | .local _ .vmem, ⟨7, _⟩ => ⟨S1x1x2048x32, .f32⟩
  | .local _ .vmem, ⟨8, _⟩ => ⟨S1x4x2048x64, .f32⟩
  | .local _ .vmem, ⟨9, _⟩ => ⟨S1x4x2048x64, .f32⟩
  | .local _ .vmem, ⟨10, _⟩ => ⟨S1x4x128x64, .f32⟩
  | .local _ .vmem, ⟨11, _⟩ => ⟨S1x4x128x64, .f32⟩
  | .local _ .vmem, ⟨12, _⟩ => ⟨S1x4x128x1, .f32⟩
  | .local _ .vmem, ⟨13, _⟩ => ⟨S1x4x128x1, .f32⟩
  | .local _ .vmem, ⟨14, _⟩ => ⟨S1x4x128x64, .f32⟩
  | .local _ .vmem, ⟨15, _⟩ => ⟨S1x4x128x64, .f32⟩
  | .local _ .vmem, ⟨16, _⟩ => ⟨S1x4x128x64, .f32⟩
  | .local _ .vmem, ⟨17, _⟩ => ⟨S1x4x128x64, .f32⟩
  | .local _ .vmem, ⟨18, _⟩ => ⟨S1x4x128x32, .f32⟩
  | .local _ .vmem, ⟨19, _⟩ => ⟨S1x4x128x32, .f32⟩
  | .local _ .vmem, ⟨20, _⟩ => ⟨S1x4x2048x64, .f32⟩
  | .local _ .vmem, ⟨21, _⟩ => ⟨S1x4x2048x64, .f32⟩
  | .local _ .vmem, ⟨22, _⟩ => ⟨S1x1x2048x32, .f32⟩
  | .local _ .vmem, ⟨23, _⟩ => ⟨S1x1x2048x32, .f32⟩
  | .local _ .vmem, ⟨24, _⟩ => ⟨S1x4x2048x64, .f32⟩
  | .local _ .vmem, ⟨25, _⟩ => ⟨S1x4x2048x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_v49_2 : Ref sig .tc := ⟨.hbm, 72, rfl⟩
abbrev main_v49_3 : Ref sig .tc := ⟨.hbm, 73, rfl⟩
abbrev main_v49_4 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 2, 16], ![false, false, false]⟩

@[reducible] def k0_t1_loop (i : grid0.Coords) : Scf.Loop 32 :=
  let c0_i32_93 : BitVec 32 := 0#32
  let arg2 : BitVec 32 := BitVec.ofNat 32 (i 2).val
  let c1_i32 : BitVec 32 := 1#32
  let v68 : BitVec 32 := Scalar.addi arg2 c1_i32
  let v69 : BitVec 32 := Scalar.subi v68 c0_i32_93
  let c1_i32_95 : BitVec 32 := 1#32
  let v71 : BitVec 32 := Scalar.divsi v69 c1_i32_95
  let v72 : BitVec 32 := Scalar.muli v71 c1_i32_95
  let v73 : BitVec 32 := Scalar.addi c0_i32_93 v72
  let c1_i32_96 : BitVec 32 := 1#32
  ⟨c0_i32_93, v73, c1_i32_96⟩
def k0_mult1 (i : grid0.Coords) (k0_t1 : Fin (k0_t1_loop i).trips) : BitVec 32 :=
  let c0_i32_93 : BitVec 32 := 0#32
  let c1_i32_96 : BitVec 32 := 1#32
  let arg16 : BitVec 32 := Scf.iv c0_i32_93 c1_i32_96 k0_t1
  let c128_i32 : BitVec 32 := 128#32
  let v76 : BitVec 32 := Scalar.muli arg16 c128_i32
  v76
def k0_off1 (i : grid0.Coords) (k0_t1 : Fin (k0_t1_loop i).trips) : Fin 4 → Nat :=
  let c0_98 : Index := 0#32
  let c0_99 : Index := 0#32
  let c0_i32_93 : BitVec 32 := 0#32
  let c1_i32_96 : BitVec 32 := 1#32
  let arg16 : BitVec 32 := Scf.iv c0_i32_93 c1_i32_96 k0_t1
  let c128_i32 : BitVec 32 := 128#32
  let v76 : BitVec 32 := Scalar.muli arg16 c128_i32
  let v77 : BitVec 32 := v76
  let v78 : Index := Scalar.indexCast v77
  let c0_100 : Index := 0#32
  ![0, 0, v78.toNat, 0]
def k0_off2 (i : grid0.Coords) (k0_t1 : Fin (k0_t1_loop i).trips) : Fin 4 → Nat :=
  let c0_101 : Index := 0#32
  let c1_102 : Index := 1#32
  let c0_i32_93 : BitVec 32 := 0#32
  let c1_i32_96 : BitVec 32 := 1#32
  let arg16 : BitVec 32 := Scf.iv c0_i32_93 c1_i32_96 k0_t1
  let c128_i32 : BitVec 32 := 128#32
  let v76 : BitVec 32 := Scalar.muli arg16 c128_i32
  let v77 : BitVec 32 := v76
  let v81 : Index := Scalar.indexCast v77
  let c0_103 : Index := 0#32
  ![0, 1, v81.toNat, 0]
def k0_off3 (i : grid0.Coords) (k0_t1 : Fin (k0_t1_loop i).trips) : Fin 4 → Nat :=
  let c0_104 : Index := 0#32
  let c2_105 : Index := 2#32
  let c0_i32_93 : BitVec 32 := 0#32
  let c1_i32_96 : BitVec 32 := 1#32
  let arg16 : BitVec 32 := Scf.iv c0_i32_93 c1_i32_96 k0_t1
  let c128_i32 : BitVec 32 := 128#32
  let v76 : BitVec 32 := Scalar.muli arg16 c128_i32
  let v77 : BitVec 32 := v76
  let v84 : Index := Scalar.indexCast v77
  let c0_106 : Index := 0#32
  ![0, 2, v84.toNat, 0]
def k0_off4 (i : grid0.Coords) (k0_t1 : Fin (k0_t1_loop i).trips) : Fin 4 → Nat :=
  let c0_107 : Index := 0#32
  let c3_108 : Index := 3#32
  let c0_i32_93 : BitVec 32 := 0#32
  let c1_i32_96 : BitVec 32 := 1#32
  let arg16 : BitVec 32 := Scf.iv c0_i32_93 c1_i32_96 k0_t1
  let c128_i32 : BitVec 32 := 128#32
  let v76 : BitVec 32 := Scalar.muli arg16 c128_i32
  let v77 : BitVec 32 := v76
  let v87 : Index := Scalar.indexCast v77
  let c0_109 : Index := 0#32
  ![0, 3, v87.toNat, 0]
def k0_off5 (i : grid0.Coords) (k0_t1 : Fin (k0_t1_loop i).trips) : Fin 4 → Nat :=
  let c0_122 : Index := 0#32
  let c0_123 : Index := 0#32
  let c0_i32_93 : BitVec 32 := 0#32
  let c1_i32_96 : BitVec 32 := 1#32
  let arg16 : BitVec 32 := Scf.iv c0_i32_93 c1_i32_96 k0_t1
  let c128_i32 : BitVec 32 := 128#32
  let v76 : BitVec 32 := Scalar.muli arg16 c128_i32
  let v77 : BitVec 32 := v76
  let v102 : Index := Scalar.indexCast v77
  let c0_124 : Index := 0#32
  ![0, 0, v102.toNat, 0]
@[reducible] def k0_t2_loop (i : grid0.Coords) : Scf.Loop 32 :=
  let c0_i32_93 : BitVec 32 := 0#32
  let arg2 : BitVec 32 := BitVec.ofNat 32 (i 2).val
  let c1_i32 : BitVec 32 := 1#32
  let v68 : BitVec 32 := Scalar.addi arg2 c1_i32
  let v69 : BitVec 32 := Scalar.subi v68 c0_i32_93
  let c1_i32_95 : BitVec 32 := 1#32
  let v71 : BitVec 32 := Scalar.divsi v69 c1_i32_95
  let v72 : BitVec 32 := Scalar.muli v71 c1_i32_95
  let v73 : BitVec 32 := Scalar.addi c0_i32_93 v72
  let v70 : BitVec 32 := Scalar.addi c0_i32_93 v69
  let c1_i32_97 : BitVec 32 := 1#32
  ⟨v73, v70, c1_i32_97⟩
def k0_mult2 (i : grid0.Coords) (k0_t2 : Fin (k0_t2_loop i).trips) : BitVec 32 :=
  let c0_i32_93 : BitVec 32 := 0#32
  let arg2 : BitVec 32 := BitVec.ofNat 32 (i 2).val
  let c1_i32 : BitVec 32 := 1#32
  let v68 : BitVec 32 := Scalar.addi arg2 c1_i32
  let v69 : BitVec 32 := Scalar.subi v68 c0_i32_93
  let c1_i32_95 : BitVec 32 := 1#32
  let v71 : BitVec 32 := Scalar.divsi v69 c1_i32_95
  let v72 : BitVec 32 := Scalar.muli v71 c1_i32_95
  let v73 : BitVec 32 := Scalar.addi c0_i32_93 v72
  let c1_i32_97 : BitVec 32 := 1#32
  let arg16 : BitVec 32 := Scf.iv v73 c1_i32_97 k0_t2
  let c128_i32 : BitVec 32 := 128#32
  let v76 : BitVec 32 := Scalar.muli arg16 c128_i32
  v76
def k0_off6 (i : grid0.Coords) (k0_t2 : Fin (k0_t2_loop i).trips) : Fin 4 → Nat :=
  let c0_98 : Index := 0#32
  let c0_99 : Index := 0#32
  let c0_i32_93 : BitVec 32 := 0#32
  let arg2 : BitVec 32 := BitVec.ofNat 32 (i 2).val
  let c1_i32 : BitVec 32 := 1#32
  let v68 : BitVec 32 := Scalar.addi arg2 c1_i32
  let v69 : BitVec 32 := Scalar.subi v68 c0_i32_93
  let c1_i32_95 : BitVec 32 := 1#32
  let v71 : BitVec 32 := Scalar.divsi v69 c1_i32_95
  let v72 : BitVec 32 := Scalar.muli v71 c1_i32_95
  let v73 : BitVec 32 := Scalar.addi c0_i32_93 v72
  let c1_i32_97 : BitVec 32 := 1#32
  let arg16 : BitVec 32 := Scf.iv v73 c1_i32_97 k0_t2
  let c128_i32 : BitVec 32 := 128#32
  let v76 : BitVec 32 := Scalar.muli arg16 c128_i32
  let v77 : BitVec 32 := v76
  let v78 : Index := Scalar.indexCast v77
  let c0_100 : Index := 0#32
  ![0, 0, v78.toNat, 0]
def k0_off7 (i : grid0.Coords) (k0_t2 : Fin (k0_t2_loop i).trips) : Fin 4 → Nat :=
  let c0_101 : Index := 0#32
  let c1_102 : Index := 1#32
  let c0_i32_93 : BitVec 32 := 0#32
  let arg2 : BitVec 32 := BitVec.ofNat 32 (i 2).val
  let c1_i32 : BitVec 32 := 1#32
  let v68 : BitVec 32 := Scalar.addi arg2 c1_i32
  let v69 : BitVec 32 := Scalar.subi v68 c0_i32_93
  let c1_i32_95 : BitVec 32 := 1#32
  let v71 : BitVec 32 := Scalar.divsi v69 c1_i32_95
  let v72 : BitVec 32 := Scalar.muli v71 c1_i32_95
  let v73 : BitVec 32 := Scalar.addi c0_i32_93 v72
  let c1_i32_97 : BitVec 32 := 1#32
  let arg16 : BitVec 32 := Scf.iv v73 c1_i32_97 k0_t2
  let c128_i32 : BitVec 32 := 128#32
  let v76 : BitVec 32 := Scalar.muli arg16 c128_i32
  let v77 : BitVec 32 := v76
  let v81 : Index := Scalar.indexCast v77
  let c0_103 : Index := 0#32
  ![0, 1, v81.toNat, 0]
def k0_off8 (i : grid0.Coords) (k0_t2 : Fin (k0_t2_loop i).trips) : Fin 4 → Nat :=
  let c0_104 : Index := 0#32
  let c2_105 : Index := 2#32
  let c0_i32_93 : BitVec 32 := 0#32
  let arg2 : BitVec 32 := BitVec.ofNat 32 (i 2).val
  let c1_i32 : BitVec 32 := 1#32
  let v68 : BitVec 32 := Scalar.addi arg2 c1_i32
  let v69 : BitVec 32 := Scalar.subi v68 c0_i32_93
  let c1_i32_95 : BitVec 32 := 1#32
  let v71 : BitVec 32 := Scalar.divsi v69 c1_i32_95
  let v72 : BitVec 32 := Scalar.muli v71 c1_i32_95
  let v73 : BitVec 32 := Scalar.addi c0_i32_93 v72
  let c1_i32_97 : BitVec 32 := 1#32
  let arg16 : BitVec 32 := Scf.iv v73 c1_i32_97 k0_t2
  let c128_i32 : BitVec 32 := 128#32
  let v76 : BitVec 32 := Scalar.muli arg16 c128_i32
  let v77 : BitVec 32 := v76
  let v84 : Index := Scalar.indexCast v77
  let c0_106 : Index := 0#32
  ![0, 2, v84.toNat, 0]
def k0_off9 (i : grid0.Coords) (k0_t2 : Fin (k0_t2_loop i).trips) : Fin 4 → Nat :=
  let c0_107 : Index := 0#32
  let c3_108 : Index := 3#32
  let c0_i32_93 : BitVec 32 := 0#32
  let arg2 : BitVec 32 := BitVec.ofNat 32 (i 2).val
  let c1_i32 : BitVec 32 := 1#32
  let v68 : BitVec 32 := Scalar.addi arg2 c1_i32
  let v69 : BitVec 32 := Scalar.subi v68 c0_i32_93
  let c1_i32_95 : BitVec 32 := 1#32
  let v71 : BitVec 32 := Scalar.divsi v69 c1_i32_95
  let v72 : BitVec 32 := Scalar.muli v71 c1_i32_95
  let v73 : BitVec 32 := Scalar.addi c0_i32_93 v72
  let c1_i32_97 : BitVec 32 := 1#32
  let arg16 : BitVec 32 := Scf.iv v73 c1_i32_97 k0_t2
  let c128_i32 : BitVec 32 := 128#32
  let v76 : BitVec 32 := Scalar.muli arg16 c128_i32
  let v77 : BitVec 32 := v76
  let v87 : Index := Scalar.indexCast v77
  let c0_109 : Index := 0#32
  ![0, 3, v87.toNat, 0]
def k0_off10 (i : grid0.Coords) (k0_t2 : Fin (k0_t2_loop i).trips) : Fin 4 → Nat :=
  let c0_122 : Index := 0#32
  let c0_123 : Index := 0#32
  let c0_i32_93 : BitVec 32 := 0#32
  let arg2 : BitVec 32 := BitVec.ofNat 32 (i 2).val
  let c1_i32 : BitVec 32 := 1#32
  let v68 : BitVec 32 := Scalar.addi arg2 c1_i32
  let v69 : BitVec 32 := Scalar.subi v68 c0_i32_93
  let c1_i32_95 : BitVec 32 := 1#32
  let v71 : BitVec 32 := Scalar.divsi v69 c1_i32_95
  let v72 : BitVec 32 := Scalar.muli v71 c1_i32_95
  let v73 : BitVec 32 := Scalar.addi c0_i32_93 v72
  let c1_i32_97 : BitVec 32 := 1#32
  let arg16 : BitVec 32 := Scf.iv v73 c1_i32_97 k0_t2
  let c128_i32 : BitVec 32 := 128#32
  let v76 : BitVec 32 := Scalar.muli arg16 c128_i32
  let v77 : BitVec 32 := v76
  let v102 : Index := Scalar.indexCast v77
  let c0_124 : Index := 0#32
  ![0, 0, v102.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x4x128x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x4x2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x2048x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x4x2048x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2x8x2048x64 : Shape := ⟨4, ![2, 8, 2048, 64]⟩
abbrev S2x8x2048x32 : Shape := ⟨4, ![2, 8, 2048, 32]⟩
abbrev S2x1x2048x32 : Shape := ⟨4, ![2, 1, 2048, 32]⟩
abbrev S2x8x2048x2048 : Shape := ⟨4, ![2, 8, 2048, 2048]⟩
abbrev S2x2048x32 : Shape := ⟨3, ![2, 2048, 32]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x32, .f32⟩
  | .hbm, ⟨2, _⟩ => ⟨S2x8x2048x64, .f32⟩
  | .hbm, ⟨3, _⟩ => ⟨S2x1x2048x32, .f32⟩
  | .hbm, ⟨4, _⟩ => ⟨S2x8x2048x64, .f32⟩
  | .hbm, ⟨5, _⟩ => ⟨S2x8x2048x64, .f32⟩
  | .hbm, ⟨6, _⟩ => ⟨S2x8x2048x2048, .f32⟩
  | .hbm, ⟨7, _⟩ => ⟨S2x2048x32, .f32⟩
  | .hbm, ⟨8, _⟩ => ⟨S2x8x2048x2048, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S2x8x2048x2048, .i1⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .i1⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S_, .f32⟩
  | .hbm, ⟨36, _⟩ => ⟨S2x8x2048, .f32⟩
  | .hbm, ⟨37, _⟩ => ⟨S2x8x2048, .f32⟩
  | .hbm, ⟨38, _⟩ => ⟨S_, .f32⟩
  | .hbm, ⟨39, _⟩ => ⟨S2x8x2048, .f32⟩
  | .hbm, ⟨40, _⟩ => ⟨S2x8x2048, .i1⟩
  | .hbm, ⟨41, _⟩ => ⟨S_, .f32⟩
  | .hbm, ⟨42, _⟩ => ⟨S2x8x2048, .f32⟩
  | .hbm, ⟨43, _⟩ => ⟨S2x8x2048, .i1⟩
  | .hbm, ⟨44, _⟩ => ⟨S_, .f32⟩
  | .hbm, ⟨45, _⟩ => ⟨S2x8x2048, .f32⟩
  | .hbm, ⟨46, _⟩ => ⟨S_, .f32⟩
  | .hbm, ⟨47, _⟩ => ⟨S2x8x2048, .f32⟩
  | .hbm, ⟨48, _⟩ => ⟨S_, .f32⟩
  | .hbm, ⟨49, _⟩ => ⟨S2x8x2048, .f32⟩
  | .hbm, ⟨50, _⟩ => ⟨S2x8x2048, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S_, .f32⟩
  | .hbm, ⟨57, _⟩ => ⟨S2x8x2048, .f32⟩
  | .hbm, ⟨58, _⟩ => ⟨S2x8x2048x1, .f32⟩
  | .hbm, ⟨59, _⟩ => ⟨S2x8x2048x2048, .f32⟩
  | .hbm, ⟨60, _⟩ => ⟨S2x8x2048x2048, .f32⟩
  | .hbm, ⟨61, _⟩ => ⟨S2x8x2048x1, .f32⟩
  | .hbm, ⟨62, _⟩ => ⟨S_, .f32⟩
  | .hbm, ⟨63, _⟩ => ⟨S2x8x2048x1, .f32⟩
  | .hbm, ⟨64, _⟩ => ⟨S2x8x2048x1, .f32⟩
  | .hbm, ⟨65, _⟩ => ⟨S2x8x2048x64, .f32⟩
  | .hbm, ⟨66, _⟩ => ⟨S2x8x64x2048, .f32⟩
  | .hbm, ⟨67, _⟩ => ⟨S2x8x2048x64, .f32⟩
  | .hbm, ⟨68, _⟩ => ⟨S2x8x2048x2048, .f32⟩
  | .hbm, ⟨69, _⟩ => ⟨S2x8x2048x2048, .f32⟩
  | .hbm, ⟨70, _⟩ => ⟨S2x8x2048x2048, .f32⟩
  | .hbm, ⟨71, _⟩ => ⟨S2x8x2048x2048, .f32⟩
  | .hbm, ⟨72, _⟩ => ⟨S_, .f32⟩
  | .hbm, ⟨73, _⟩ => ⟨S2x8x2048, .f32⟩
  | .hbm, ⟨74, _⟩ => ⟨S2x8x2048x1, .f32⟩
  | .hbm, ⟨75, _⟩ => ⟨S2x8x2048x1, .f32⟩
  | .hbm, ⟨76, _⟩ => ⟨S2x8x2048x2048, .f32⟩
  | .hbm, ⟨77, _⟩ => ⟨S2x8x2048x2048, .f32⟩
  | .hbm, ⟨78, _⟩ => ⟨S_, .f32⟩
  | .hbm, ⟨79, _⟩ => ⟨S2x8x2048, .f32⟩
  | .hbm, ⟨80, _⟩ => ⟨S2x8x2048x2048, .f32⟩
  | .hbm, ⟨81, _⟩ => ⟨S2x8x2048x2048, .f32⟩
  | .hbm, ⟨82, _⟩ => ⟨S2x8x2048x2048, .f32⟩
  | .hbm, ⟨83, _⟩ => ⟨S_, .f32⟩
  | .hbm, ⟨84, _⟩ => ⟨S2x8x2048x2048, .f32⟩
  | .hbm, ⟨85, _⟩ => ⟨S2x8x2048x2048, .f32⟩
  | .hbm, ⟨86, _⟩ => ⟨S_, .f32⟩
  | .hbm, ⟨87, _⟩ => ⟨S2x8x2048x2048, .f32⟩
  | .hbm, ⟨88, _⟩ => ⟨S2x8x2048x2048, .f32⟩
  | .hbm, ⟨89, _⟩ => ⟨S2x2048x32, .f32⟩
  | .hbm, ⟨90, _⟩ => ⟨S2x8x2048x32, .f32⟩
  | .hbm, ⟨91, _⟩ => ⟨S2x1x2048x32, .f32⟩
  | .hbm, ⟨92, _⟩ => ⟨S2x8x2048x64, .f32⟩
  | .hbm, ⟨93, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call1_cst : Ref sig .tc := ⟨.hbm, 83, rfl⟩
abbrev main_call1_v0 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S4096x5632 : Shape := ⟨2, ![4096, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x5632, .bf16⟩
  | .hbm, ⟨3, _⟩ => ⟨S4096x5632, .bf16⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond2 (i : grid0.Coords) : BitVec 1 :=
  let arg2 : BitVec 32 := BitVec.ofNat 32 (i 2).val
  let c0_i32_4 : BitVec 32 := 0#32
  let v7 : BitVec 1 := Scalar.cmpi .eq arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S2816x1024, .bf16⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x2816, .f32⟩
  | .hbm, ⟨3, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S1024x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S1024x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .bf16⟩
  | .hbm, ⟨3, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x2816 : Shape := ⟨2, ![4096, 2816]⟩
abbrev S1024x5632 : Shape := ⟨2, ![1024, 5632]⟩
abbrev S4096x1024 : Shape := ⟨2, ![4096, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .f32⟩
  | .hbm, ⟨2, _⟩ => ⟨S4096x1024, .f32⟩
  | .hbm, ⟨3, _⟩ => ⟨S1024x5632, .bf16⟩
  | .hbm, ⟨4, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2816 : Shape := ⟨2, ![4096, 2816]⟩
abbrev S1024x5632 : Shape := ⟨2, ![1024, 5632]⟩
abbrev S4096x1024 : Shape := ⟨2, ![4096, 1024]⟩
abbrev S_ : Shape := ⟨0, ![]⟩
abbrev S4096x5632 : Shape := ⟨2, ![4096, 5632]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x5632, .f32⟩
  | .hbm, ⟨12, _⟩ => ⟨S4096x1024, .f32⟩
  | .hbm, ⟨13, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel8.lean ====
abbrev S4096x2816 : Shape := ⟨2, ![4096, 2816]⟩
abbrev S1024x5632 : Shape := ⟨2, ![1024, 5632]⟩
abbrev S4096x1024 : Shape := ⟨2, ![4096, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .f32⟩
  | .hbm, ⟨2, _⟩ => ⟨S4096x1024, .f32⟩
  | .hbm, ⟨3, _⟩ => ⟨S1024x5632, .bf16⟩
  | .hbm, ⟨4, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.addi arg2 c1_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2816 : Shape := ⟨2, ![4096, 2816]⟩
abbrev S1024x5632 : Shape := ⟨2, ![1024, 5632]⟩
abbrev S4096x1024 : Shape := ⟨2, ![4096, 1024]⟩
abbrev S_ : Shape := ⟨0, ![]⟩
abbrev S4096x5632 : Shape := ⟨2, ![4096, 5632]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x5632, .f32⟩
  | .hbm, ⟨12, _⟩ => ⟨S4096x1024, .f32⟩
  | .hbm, ⟨13, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel9.lean ====
abbrev S4096x1024 : Shape := ⟨2, ![4096, 1024]⟩
abbrev S1024x1952 : Shape := ⟨2, ![1024, 1952]⟩
abbrev S_ : Shape := ⟨0, ![]⟩
abbrev S1024x96 : Shape := ⟨2, ![1024, 96]⟩
abbrev S1024x2048 : Shape := ⟨2, ![1024, 2048]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1952, .f32⟩
  | .hbm, ⟨2, _⟩ => ⟨S1024x1952, .bf16⟩
  | .hbm, ⟨3, _⟩ => ⟨S_, .bf16⟩
  | .hbm, ⟨4, _⟩ => ⟨S1024x96, .bf16⟩
  | .hbm, ⟨5, _⟩ => ⟨S1024x2048, .bf16⟩
  | .hbm, ⟨6, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1952 : Shape := ⟨2, ![1024, 1952]⟩
abbrev S4096x1952 : Shape := ⟨2, ![4096, 1952]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1952, .f32⟩
  | .hbm, ⟨2, _⟩ => ⟨S4096x1952, .f32⟩
  | .hbm, ⟨3, _⟩ => ⟨S_, .i32⟩
  | .hbm, ⟨4, _⟩ => ⟨S_, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S1024x2048, .f32⟩
  | .local _ .vmem, ⟨0, _⟩ => ⟨S4096x512, .f32⟩
  | .local _ .vmem, ⟨1, _⟩ => ⟨S4096x512, .f32⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_4 : BitVec 32 := 0#32
  let v6 : BitVec 1 := Scalar.cmpi .eq arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x2048, .f32⟩
  | .hbm, ⟨6, _⟩ => ⟨S2048x1024, .f32⟩
  | .hbm, ⟨7, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S1024x1952 : Shape := ⟨2, ![1024, 1952]⟩
abbrev S4096x1024 : Shape := ⟨2, ![4096, 1024]⟩
abbrev S_ : Shape := ⟨0, ![]⟩
abbrev S1024x96 : Shape := ⟨2, ![1024, 96]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x1952, .f32⟩
  | .hbm, ⟨2, _⟩ => ⟨S4096x1024, .f32⟩
  | .hbm, ⟨3, _⟩ => ⟨S1024x1952, .bf16⟩
  | .hbm, ⟨4, _⟩ => ⟨S_, .bf16⟩
  | .hbm, ⟨5, _⟩ => ⟨S1024x96, .bf16⟩
  | .hbm, ⟨6, _⟩ => ⟨S1024x2048, .bf16⟩
  | .hbm, ⟨7, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S1024x1952 : Shape := ⟨2, ![1024, 1952]⟩
abbrev S4096x1024 : Shape := ⟨2, ![4096, 1024]⟩
abbrev S4096x1952 : Shape := ⟨2, ![4096, 1952]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x1952, .f32⟩
  | .hbm, ⟨2, _⟩ => ⟨S4096x1024, .f32⟩
  | .hbm, ⟨3, _⟩ => ⟨S4096x2048, .f32⟩
  | .hbm, ⟨4, _⟩ => ⟨S4096x1952, .f32⟩
  | .hbm, ⟨5, _⟩ => ⟨S_, .f32⟩
  | .hbm, ⟨6, _⟩ => ⟨S4096x1024, .f32⟩
  | .hbm, ⟨7, _⟩ => ⟨S4096x1952, .f32⟩
  | .hbm, ⟨8, _⟩ => ⟨S4096x1024, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S4096x1024, .bf16⟩
  | .local _ .vmem, ⟨1, _⟩ => ⟨S4096x256, .f32⟩
  | .local _ .vmem, ⟨2, _⟩ => ⟨S4096x256, .f32⟩
  | .local _ .vmem, ⟨3, _⟩ => ⟨S1024x256, .f32⟩
  | .local _ .vmem, ⟨4, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S4096x1024 : Shape := ⟨2, ![4096, 1024]⟩
abbrev S1024x3336 : Shape := ⟨2, ![1024, 3336]⟩
abbrev S1024x1536 : Shape := ⟨2, ![1024, 1536]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x3456 : Shape := ⟨2, ![1024, 3456]⟩
abbrev S4096x3456 : Shape := ⟨2, ![4096, 3456]⟩
abbrev S256x1024 : Shape := ⟨2, ![256, 1024]⟩
abbrev S256x3456 : Shape := ⟨2, ![256, 3456]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3336, .f32⟩
  | .hbm, ⟨2, _⟩ => ⟨S1024x3336, .bf16⟩
  | .hbm, ⟨3, _⟩ => ⟨S1024x1536, .bf16⟩
  | .hbm, ⟨4, _⟩ => ⟨S1024x1536, .bf16⟩
  | .hbm, ⟨5, _⟩ => ⟨S1024x256, .bf16⟩
  | .hbm, ⟨6, _⟩ => ⟨S1024x8, .bf16⟩
  | .hbm, ⟨7, _⟩ => ⟨S_, .bf16⟩
  | .hbm, ⟨8, _⟩ => ⟨S1024x120, .bf16⟩
  | .hbm, ⟨9, _⟩ => ⟨S1024x3456, .bf16⟩
  | .hbm, ⟨10, _⟩ => ⟨S4096x3456, .f32⟩
  | .local _ .vmem, ⟨0, _⟩ => ⟨S256x1024, .f32⟩
  | .local _ .vmem, ⟨1, _⟩ => ⟨S256x1024, .f32⟩
  | .local _ .vmem, ⟨2, _⟩ => ⟨S1024x3456, .bf16⟩
  | .local _ .vmem, ⟨3, _⟩ => ⟨S256x3456, .f32⟩
  | .local _ .vmem, ⟨4, _⟩ => ⟨S256x3456, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x3456 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x3336 : Shape := ⟨2, ![1024, 3336]⟩
abbrev S4096x3336 : Shape := ⟨2, ![4096, 3336]⟩
abbrev S4096x1536 : Shape := ⟨2, ![4096, 1536]⟩
abbrev S4096x256 : Shape := ⟨2, ![4096, 256]⟩
abbrev S4096x8 : Shape := ⟨2, ![4096, 8]⟩
abbrev S_ : Shape := ⟨0, ![]⟩
abbrev S4096x120 : Shape := ⟨2, ![4096, 120]⟩
abbrev S4096x3456 : Shape := ⟨2, ![4096, 3456]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3336, .f32⟩
  | .hbm, ⟨2, _⟩ => ⟨S4096x3336, .f32⟩
  | .hbm, ⟨3, _⟩ => ⟨S4096x1536, .f32⟩
  | .hbm, ⟨4, _⟩ => ⟨S4096x256, .f32⟩
  | .hbm, ⟨5, _⟩ => ⟨S4096x1536, .f32⟩
  | .hbm, ⟨6, _⟩ => ⟨S4096x8, .f32⟩
  | .hbm, ⟨7, _⟩ => ⟨S_, .f32⟩
  | .hbm, ⟨8, _⟩ => ⟨S4096x120, .f32⟩
  | .hbm, ⟨9, _⟩ => ⟨S4096x3456, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x1024 : Shape := ⟨2, ![4096, 1024]⟩
abbrev S4096x3456 : Shape := ⟨2, ![4096, 3456]⟩
abbrev S1024x3456 : Shape := ⟨2, ![1024, 3456]⟩
abbrev S4096x512 : Shape := ⟨2, ![4096, 512]⟩
abbrev S4096x384 : Shape := ⟨2, ![4096, 384]⟩
abbrev S512x384 : Shape := ⟨2, ![512, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3456, .bf16⟩
  | .hbm, ⟨2, _⟩ => ⟨S1024x3456, .f32⟩
  | .local _ .vmem, ⟨0, _⟩ => ⟨S4096x512, .f32⟩
  | .local _ .vmem, ⟨1, _⟩ => ⟨S4096x512, .f32⟩
  | .local _ .vmem, ⟨2, _⟩ => ⟨S4096x384, .bf16⟩
  | .local _ .vmem, ⟨3, _⟩ => ⟨S4096x384, .bf16⟩
  | .local _ .vmem, ⟨4, _⟩ => ⟨S512x384, .f32⟩
  | .local _ .vmem, ⟨5, _⟩ => ⟨S512x384, .f32⟩
  | .local _ .vmem, ⟨6, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def k0_cond2 (i : grid0.Coords) : BitVec 1 :=
  let arg2 : BitVec 32 := BitVec.ofNat 32 (i 2).val
  let c0_i32_4 : BitVec 32 := 0#32
  let v6 : BitVec 1 := Scalar.cmpi .eq arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x3456 : Shape := ⟨2, ![4096, 3456]⟩
abbrev S_ : Shape := ⟨0, ![]⟩
abbrev S1024x3456 : Shape := ⟨2, ![1024, 3456]⟩
abbrev S3456x1024 : Shape := ⟨2, ![3456, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3456, .bf16⟩
  | .hbm, ⟨2, _⟩ => ⟨S_, .f32⟩
  | .hbm, ⟨3, _⟩ => ⟨S1024x3456, .f32⟩
  | .hbm, ⟨4, _⟩ => ⟨S4096x3456, .f32⟩
  | .hbm, ⟨5, _⟩ => ⟨S4096x3456, .f32⟩
  | .hbm, ⟨6, _⟩ => ⟨S3456x1024, .f32⟩
  | .hbm, ⟨7, _⟩ => ⟨S1024x3456, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x3456 : Shape := ⟨2, ![4096, 3456]⟩
abbrev S1024x3336 : Shape := ⟨2, ![1024, 3336]⟩
abbrev S4096x1024 : Shape := ⟨2, ![4096, 1024]⟩
abbrev S1024x1536 : Shape := ⟨2, ![1024, 1536]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x3456 : Shape := ⟨2, ![1024, 3456]⟩
abbrev S256x3456 : Shape := ⟨2, ![256, 3456]⟩
abbrev S256x1024 : Shape := ⟨2, ![256, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x3456, .bf16⟩
  | .hbm, ⟨1, _⟩ => ⟨S1024x3336, .f32⟩
  | .hbm, ⟨2, _⟩ => ⟨S4096x1024, .f32⟩
  | .hbm, ⟨3, _⟩ => ⟨S1024x3336, .bf16⟩
  | .hbm, ⟨4, _⟩ => ⟨S1024x1536, .bf16⟩
  | .hbm, ⟨5, _⟩ => ⟨S1024x1536, .bf16⟩
  | .hbm, ⟨6, _⟩ => ⟨S1024x256, .bf16⟩
  | .hbm, ⟨7, _⟩ => ⟨S1024x8, .bf16⟩
  | .hbm, ⟨8, _⟩ => ⟨S_, .bf16⟩
  | .hbm, ⟨9, _⟩ => ⟨S1024x120, .bf16⟩
  | .hbm, ⟨10, _⟩ => ⟨S1024x3456, .bf16⟩
  | .hbm, ⟨11, _⟩ => ⟨S4096x1024, .f32⟩
  | .local _ .vmem, ⟨0, _⟩ => ⟨S256x3456, .bf16⟩
  | .local _ .vmem, ⟨1, _⟩ => ⟨S256x3456, .bf16⟩
  | .local _ .vmem, ⟨2, _⟩ => ⟨S1024x3456, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x3456 : Shape := ⟨2, ![4096, 3456]⟩
abbrev S1024x3336 : Shape := ⟨2, ![1024, 3336]⟩
abbrev S4096x1024 : Shape := ⟨2, ![4096, 1024]⟩
abbrev S4096x1536 : Shape := ⟨2, ![4096, 1536]⟩
abbrev S4096x256 : Shape := ⟨2, ![4096, 256]⟩
abbrev S4096x8 : Shape := ⟨2, ![4096, 8]⟩
abbrev S4096x120 : Shape := ⟨2, ![4096, 120]⟩
abbrev S4096x3336 : Shape := ⟨2, ![4096, 3336]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x3456, .bf16⟩
  | .hbm, ⟨1, _⟩ => ⟨S1024x3336, .f32⟩
  | .hbm, ⟨2, _⟩ => ⟨S4096x1024, .f32⟩
  | .hbm, ⟨3, _⟩ => ⟨S4096x3456, .f32⟩
  | .hbm, ⟨4, _⟩ => ⟨S4096x1536, .f32⟩
  | .hbm, ⟨5, _⟩ => ⟨S4096x1536, .f32⟩
  | .hbm, ⟨6, _⟩ => ⟨S4096x256, .f32⟩
  | .hbm, ⟨7, _⟩ => ⟨S4096x8, .f32⟩
  | .hbm, ⟨8, _⟩ => ⟨S4096x120, .f32⟩
  | .hbm, ⟨9, _⟩ => ⟨S4096x3336, .f32⟩
  | .hbm, ⟨10, _⟩ => ⟨S_, .f32⟩
  | .hbm, ⟨11, _⟩ => ⟨S4096x1024, .f32⟩
  | .hbm, ⟨12, _⟩ => ⟨S4096x3336, .f32⟩
  | .hbm, ⟨13, _⟩ => ⟨S4096x1024, .f32⟩
  | .hbm, ⟨14, _⟩ => ⟨S4096x1024, .f32⟩
  | _, _ => ⟨S4096x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel18.lean ====
abbrev S4096x512 : Shape := ⟨2, ![4096, 512]⟩
abbrev S1024x1024 : Shape := ⟨2, ![1024, 1024]⟩
abbrev S4096x1024 : Shape := ⟨2, ![4096, 1024]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x512, .f32⟩
  | .local _ .vmem, ⟨1, _⟩ => ⟨S2048x512, .f32⟩
  | .local _ .vmem, ⟨2, _⟩ => ⟨S512x1024, .bf16⟩
  | .local _ .vmem, ⟨3, _⟩ => ⟨S2048x1024, .f32⟩
  | .local _ .vmem, ⟨4, _⟩ => ⟨S2048x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S1024x1024 : Shape := ⟨2, ![1024, 1024]⟩
abbrev S512x1024 : Shape := ⟨2, ![512, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1024x1024, .f32⟩
  | .hbm, ⟨2, _⟩ => ⟨S512x1024, .f32⟩
  | .hbm, ⟨3, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4096x512 : Shape := ⟨2, ![4096, 512]⟩
abbrev S1024x1024 : Shape := ⟨2, ![1024, 1024]⟩
abbrev S4096x1024 : Shape := ⟨2, ![4096, 1024]⟩
abbrev S1024x512 : Shape := ⟨2, ![1024, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x512 : Shape := ⟨2, ![4096, 512]⟩
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1024x1024, .f32⟩
  | .hbm, ⟨2, _⟩ => ⟨S4096x1024, .f32⟩
  | .hbm, ⟨3, _⟩ => ⟨S512x1024, .f32⟩
  | .hbm, ⟨4, _⟩ => ⟨S4096x1024, .f32⟩
  | .hbm, ⟨5, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩
abbrev S4096x512 : Shape := ⟨2, ![4096, 512]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x512, .f32⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S1024x1024 : Shape := ⟨2, ![1024, 1024]⟩
abbrev S_ : Shape := ⟨0, ![]⟩
abbrev S4096x512 : Shape := ⟨2, ![4096, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩
abbrev S4096x512 : Shape := ⟨2, ![4096, 512]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x512, .f32⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S1024x1024 : Shape := ⟨2, ![1024, 1024]⟩
abbrev S_ : Shape := ⟨0, ![]⟩
abbrev S4096x512 : Shape := ⟨2, ![4096, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S8x1024x704 : Shape := ⟨3, ![8, 1024, 704]⟩
abbrev S1024x704 : Shape := ⟨2, ![1024, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x128x704, .f32⟩
  | .local _ .vmem, ⟨1, _⟩ => ⟨S8x128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel24Ideal.lean ====
abbrev S8x1024x704 : Shape := ⟨3, ![8, 1024, 704]⟩
abbrev S1024x704 : Shape := ⟨2, ![1024, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x128x704, .f32⟩
  | .local _ .vmem, ⟨1, _⟩ => ⟨S8x128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S8x352x1024 : Shape := ⟨3, ![8, 352, 1024]⟩
abbrev S352x1024 : Shape := ⟨2, ![352, 1024]⟩
abbrev S8x88x1024 : Shape := ⟨3, ![8, 88, 1024]⟩
abbrev S88x1024 : Shape := ⟨2, ![88, 1024]⟩
abbrev S1x88x1024 : Shape := ⟨3, ![1, 88, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x88x1024, .f32⟩
  | .local _ .vmem, ⟨1, _⟩ => ⟨S8x88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel25Ideal.lean ====
abbrev S8x352x1024 : Shape := ⟨3, ![8, 352, 1024]⟩
abbrev S352x1024 : Shape := ⟨2, ![352, 1024]⟩
abbrev S8x88x1024 : Shape := ⟨3, ![8, 88, 1024]⟩
abbrev S88x1024 : Shape := ⟨2, ![88, 1024]⟩
abbrev S1x88x1024 : Shape := ⟨3, ![1, 88, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x88x1024, .f32⟩
  | .local _ .vmem, ⟨1, _⟩ => ⟨S8x88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S8x1024x417 : Shape := ⟨3, ![8, 1024, 417]⟩
abbrev S1024x417 : Shape := ⟨2, ![1024, 417]⟩
abbrev S8x256x417 : Shape := ⟨3, ![8, 256, 417]⟩
abbrev S256x417 : Shape := ⟨2, ![256, 417]⟩
abbrev S1x256x417 : Shape := ⟨3, ![1, 256, 417]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x417, .f32⟩
  | .hbm, ⟨1, _⟩ => ⟨S1024x417, .f32⟩
  | .hbm, ⟨2, _⟩ => ⟨S1024x417, .f32⟩
  | .hbm, ⟨3, _⟩ => ⟨S1024x417, .f32⟩
  | .hbm, ⟨4, _⟩ => ⟨S1024x417, .f32⟩
  | .hbm, ⟨5, _⟩ => ⟨S1024x417, .f32⟩
  | .hbm, ⟨6, _⟩ => ⟨S1024x417, .f32⟩
  | .hbm, ⟨7, _⟩ => ⟨S1024x417, .f32⟩
  | .local _ .vmem, ⟨0, _⟩ => ⟨S8x256x417, .f32⟩
  | .local _ .vmem, ⟨1, _⟩ => ⟨S8x256x417, .f32⟩
  | .local _ .vmem, ⟨2, _⟩ => ⟨S256x417, .f32⟩
  | .local _ .vmem, ⟨3, _⟩ => ⟨S256x417, .f32⟩
  | .local _ .vmem, ⟨4, _⟩ => ⟨S256x417, .f32⟩
  | .local _ .vmem, ⟨5, _⟩ => ⟨S256x417, .f32⟩
  | .local _ .vmem, ⟨6, _⟩ => ⟨S256x417, .f32⟩
  | .local _ .vmem, ⟨7, _⟩ => ⟨S256x417, .f32⟩
  | .local _ .vmem, ⟨8, _⟩ => ⟨S256x417, .f32⟩
  | .local _ .vmem, ⟨9, _⟩ => ⟨S256x417, .f32⟩
  | .local _ .vmem, ⟨10, _⟩ => ⟨S256x417, .f32⟩
  | .local _ .vmem, ⟨11, _⟩ => ⟨S256x417, .f32⟩
  | .local _ .vmem, ⟨12, _⟩ => ⟨S256x417, .f32⟩
  | .local _ .vmem, ⟨13, _⟩ => ⟨S256x417, .f32⟩
  | .local _ .vmem, ⟨14, _⟩ => ⟨S256x417, .f32⟩
  | .local _ .vmem, ⟨15, _⟩ => ⟨S256x417, .f32⟩
  | _, _ => ⟨S8x1024x417, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x417 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x417 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x417 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x417 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x417 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x417 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x417 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x417 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel26Ideal.lean ====
abbrev S8x1024x417 : Shape := ⟨3, ![8, 1024, 417]⟩
abbrev S1024x417 : Shape := ⟨2, ![1024, 417]⟩
abbrev S8x256x417 : Shape := ⟨3, ![8, 256, 417]⟩
abbrev S256x417 : Shape := ⟨2, ![256, 417]⟩
abbrev S1x256x417 : Shape := ⟨3, ![1, 256, 417]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x417, .f32⟩
  | .hbm, ⟨1, _⟩ => ⟨S1024x417, .f32⟩
  | .hbm, ⟨2, _⟩ => ⟨S1024x417, .f32⟩
  | .hbm, ⟨3, _⟩ => ⟨S1024x417, .f32⟩
  | .hbm, ⟨4, _⟩ => ⟨S1024x417, .f32⟩
  | .hbm, ⟨5, _⟩ => ⟨S1024x417, .f32⟩
  | .hbm, ⟨6, _⟩ => ⟨S1024x417, .f32⟩
  | .hbm, ⟨7, _⟩ => ⟨S1024x417, .f32⟩
  | .local _ .vmem, ⟨0, _⟩ => ⟨S8x256x417, .f32⟩
  | .local _ .vmem, ⟨1, _⟩ => ⟨S8x256x417, .f32⟩
  | .local _ .vmem, ⟨2, _⟩ => ⟨S256x417, .f32⟩
  | .local _ .vmem, ⟨3, _⟩ => ⟨S256x417, .f32⟩
  | .local _ .vmem, ⟨4, _⟩ => ⟨S256x417, .f32⟩
  | .local _ .vmem, ⟨5, _⟩ => ⟨S256x417, .f32⟩
  | .local _ .vmem, ⟨6, _⟩ => ⟨S256x417, .f32⟩
  | .local _ .vmem, ⟨7, _⟩ => ⟨S256x417, .f32⟩
  | .local _ .vmem, ⟨8, _⟩ => ⟨S256x417, .f32⟩
  | .local _ .vmem, ⟨9, _⟩ => ⟨S256x417, .f32⟩
  | .local _ .vmem, ⟨10, _⟩ => ⟨S256x417, .f32⟩
  | .local _ .vmem, ⟨11, _⟩ => ⟨S256x417, .f32⟩
  | .local _ .vmem, ⟨12, _⟩ => ⟨S256x417, .f32⟩
  | .local _ .vmem, ⟨13, _⟩ => ⟨S256x417, .f32⟩
  | .local _ .vmem, ⟨14, _⟩ => ⟨S256x417, .f32⟩
  | .local _ .vmem, ⟨15, _⟩ => ⟨S256x417, .f32⟩
  | _, _ => ⟨S8x1024x417, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x417 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x417 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x417 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x417 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x417 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x417 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x417 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x417 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x1024x417 : Shape := ⟨3, ![8, 1024, 417]⟩
abbrev S1024x417 : Shape := ⟨2, ![1024, 417]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x417, .f32⟩
  | .hbm, ⟨1, _⟩ => ⟨S1024x417, .f32⟩
  | .hbm, ⟨2, _⟩ => ⟨S1024x417, .f32⟩
  | .hbm, ⟨3, _⟩ => ⟨S1024x417, .f32⟩
  | .hbm, ⟨4, _⟩ => ⟨S_, .f32⟩
  | .hbm, ⟨5, _⟩ => ⟨S1024x417, .f32⟩
  | .hbm, ⟨6, _⟩ => ⟨S_, .f32⟩
  | .hbm, ⟨7, _⟩ => ⟨S1024x417, .f32⟩
  | .hbm, ⟨8, _⟩ => ⟨S1024x417, .f32⟩
  | .hbm, ⟨9, _⟩ => ⟨S_, .f32⟩
  | .hbm, ⟨10, _⟩ => ⟨S1024x417, .f32⟩
  | .hbm, ⟨11, _⟩ => ⟨S1024x417, .f32⟩
  | .hbm, ⟨12, _⟩ => ⟨S1024x417, .f32⟩
  | .hbm, ⟨13, _⟩ => ⟨S_, .f32⟩
  | .hbm, ⟨14, _⟩ => ⟨S1024x417, .f32⟩
  | .hbm, ⟨15, _⟩ => ⟨S1024x417, .f32⟩
  | .hbm, ⟨16, _⟩ => ⟨S1024x417, .f32⟩
  | .hbm, ⟨17, _⟩ => ⟨S_, .f32⟩
  | .hbm, ⟨18, _⟩ => ⟨S1024x417, .f32⟩
  | .hbm, ⟨19, _⟩ => ⟨S1024x417, .f32⟩
  | .hbm, ⟨20, _⟩ => ⟨S1024x417, .f32⟩
  | .hbm, ⟨21, _⟩ => ⟨S_, .f32⟩
  | .hbm, ⟨22, _⟩ => ⟨S1024x417, .f32⟩
  | .hbm, ⟨23, _⟩ => ⟨S1024x417, .f32⟩
  | .hbm, ⟨24, _⟩ => ⟨S_, .f32⟩
  | .hbm, ⟨25, _⟩ => ⟨S1024x417, .f32⟩
  | .hbm, ⟨26, _⟩ => ⟨S1024x417, .f32⟩
  | .hbm, ⟨27, _⟩ => ⟨S1024x417, .f32⟩
  | .hbm, ⟨28, _⟩ => ⟨S_, .f32⟩
  | .hbm, ⟨29, _⟩ => ⟨S1024x417, .f32⟩
  | .hbm, ⟨30, _⟩ => ⟨S1024x417, .f32⟩
  | .hbm, ⟨31, _⟩ => ⟨S1024x417, .f32⟩
  | .hbm, ⟨32, _⟩ => ⟨S_, .f32⟩
  | .hbm, ⟨33, _⟩ => ⟨S1024x417, .f32⟩
  | .hbm, ⟨34, _⟩ => ⟨S1024x417, .f32⟩
  | .hbm, ⟨35, _⟩ => ⟨S1024x417, .f32⟩
  | .hbm, ⟨36, _⟩ => ⟨S_, .f32⟩
  | .hbm, ⟨37, _⟩ => ⟨S1024x417, .f32⟩
  | .hbm, ⟨38, _⟩ => ⟨S1024x417, .f32⟩
  | _, _ => ⟨S8x1024x417, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S8x1024x244 : Shape := ⟨3, ![8, 1024, 244]⟩
abbrev S1024x244 : Shape := ⟨2, ![1024, 244]⟩
abbrev S8x512x244 : Shape := ⟨3, ![8, 512, 244]⟩
abbrev S512x244 : Shape := ⟨2, ![512, 244]⟩
abbrev S1x512x244 : Shape := ⟨3, ![1, 512, 244]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x244, .f32⟩
  | .hbm, ⟨1, _⟩ => ⟨S1024x244, .f32⟩
  | .hbm, ⟨2, _⟩ => ⟨S1024x244, .f32⟩
  | .hbm, ⟨3, _⟩ => ⟨S1024x244, .f32⟩
  | .hbm, ⟨4, _⟩ => ⟨S1024x244, .f32⟩
  | .hbm, ⟨5, _⟩ => ⟨S1024x244, .f32⟩
  | .hbm, ⟨6, _⟩ => ⟨S1024x244, .f32⟩
  | .hbm, ⟨7, _⟩ => ⟨S1024x244, .f32⟩
  | .local _ .vmem, ⟨0, _⟩ => ⟨S8x512x244, .f32⟩
  | .local _ .vmem, ⟨1, _⟩ => ⟨S8x512x244, .f32⟩
  | .local _ .vmem, ⟨2, _⟩ => ⟨S512x244, .f32⟩
  | .local _ .vmem, ⟨3, _⟩ => ⟨S512x244, .f32⟩
  | .local _ .vmem, ⟨4, _⟩ => ⟨S512x244, .f32⟩
  | .local _ .vmem, ⟨5, _⟩ => ⟨S512x244, .f32⟩
  | .local _ .vmem, ⟨6, _⟩ => ⟨S512x244, .f32⟩
  | .local _ .vmem, ⟨7, _⟩ => ⟨S512x244, .f32⟩
  | .local _ .vmem, ⟨8, _⟩ => ⟨S512x244, .f32⟩
  | .local _ .vmem, ⟨9, _⟩ => ⟨S512x244, .f32⟩
  | .local _ .vmem, ⟨10, _⟩ => ⟨S512x244, .f32⟩
  | .local _ .vmem, ⟨11, _⟩ => ⟨S512x244, .f32⟩
  | .local _ .vmem, ⟨12, _⟩ => ⟨S512x244, .f32⟩
  | .local _ .vmem, ⟨13, _⟩ => ⟨S512x244, .f32⟩
  | .local _ .vmem, ⟨14, _⟩ => ⟨S512x244, .f32⟩
  | .local _ .vmem, ⟨15, _⟩ => ⟨S512x244, .f32⟩
  | _, _ => ⟨S8x1024x244, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x244 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x244 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x244 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x244 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x244 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x244 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x244 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x244 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel27Ideal.lean ====
abbrev S8x1024x244 : Shape := ⟨3, ![8, 1024, 244]⟩
abbrev S1024x244 : Shape := ⟨2, ![1024, 244]⟩
abbrev S8x512x244 : Shape := ⟨3, ![8, 512, 244]⟩
abbrev S512x244 : Shape := ⟨2, ![512, 244]⟩
abbrev S1x512x244 : Shape := ⟨3, ![1, 512, 244]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x244, .f32⟩
  | .hbm, ⟨1, _⟩ => ⟨S1024x244, .f32⟩
  | .hbm, ⟨2, _⟩ => ⟨S1024x244, .f32⟩
  | .hbm, ⟨3, _⟩ => ⟨S1024x244, .f32⟩
  | .hbm, ⟨4, _⟩ => ⟨S1024x244, .f32⟩
  | .hbm, ⟨5, _⟩ => ⟨S1024x244, .f32⟩
  | .hbm, ⟨6, _⟩ => ⟨S1024x244, .f32⟩
  | .hbm, ⟨7, _⟩ => ⟨S1024x244, .f32⟩
  | .local _ .vmem, ⟨0, _⟩ => ⟨S8x512x244, .f32⟩
  | .local _ .vmem, ⟨1, _⟩ => ⟨S8x512x244, .f32⟩
  | .local _ .vmem, ⟨2, _⟩ => ⟨S512x244, .f32⟩
  | .local _ .vmem, ⟨3, _⟩ => ⟨S512x244, .f32⟩
  | .local _ .vmem, ⟨4, _⟩ => ⟨S512x244, .f32⟩
  | .local _ .vmem, ⟨5, _⟩ => ⟨S512x244, .f32⟩
  | .local _ .vmem, ⟨6, _⟩ => ⟨S512x244, .f32⟩
  | .local _ .vmem, ⟨7, _⟩ => ⟨S512x244, .f32⟩
  | .local _ .vmem, ⟨8, _⟩ => ⟨S512x244, .f32⟩
  | .local _ .vmem, ⟨9, _⟩ => ⟨S512x244, .f32⟩
  | .local _ .vmem, ⟨10, _⟩ => ⟨S512x244, .f32⟩
  | .local _ .vmem, ⟨11, _⟩ => ⟨S512x244, .f32⟩
  | .local _ .vmem, ⟨12, _⟩ => ⟨S512x244, .f32⟩
  | .local _ .vmem, ⟨13, _⟩ => ⟨S512x244, .f32⟩
  | .local _ .vmem, ⟨14, _⟩ => ⟨S512x244, .f32⟩
  | .local _ .vmem, ⟨15, _⟩ => ⟨S512x244, .f32⟩
  | _, _ => ⟨S8x1024x244, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x244 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x244 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x244 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x244 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x244 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x244 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x244 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x244 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S8x1024x244 : Shape := ⟨3, ![8, 1024, 244]⟩
abbrev S1024x244 : Shape := ⟨2, ![1024, 244]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x244, .f32⟩
  | .hbm, ⟨1, _⟩ => ⟨S1024x244, .f32⟩
  | .hbm, ⟨2, _⟩ => ⟨S1024x244, .f32⟩
  | .hbm, ⟨3, _⟩ => ⟨S1024x244, .f32⟩
  | .hbm, ⟨4, _⟩ => ⟨S_, .f32⟩
  | .hbm, ⟨5, _⟩ => ⟨S1024x244, .f32⟩
  | .hbm, ⟨6, _⟩ => ⟨S_, .f32⟩
  | .hbm, ⟨7, _⟩ => ⟨S1024x244, .f32⟩
  | .hbm, ⟨8, _⟩ => ⟨S1024x244, .f32⟩
  | .hbm, ⟨9, _⟩ => ⟨S_, .f32⟩
  | .hbm, ⟨10, _⟩ => ⟨S1024x244, .f32⟩
  | .hbm, ⟨11, _⟩ => ⟨S1024x244, .f32⟩
  | .hbm, ⟨12, _⟩ => ⟨S1024x244, .f32⟩
  | .hbm, ⟨13, _⟩ => ⟨S_, .f32⟩
  | .hbm, ⟨14, _⟩ => ⟨S1024x244, .f32⟩
  | .hbm, ⟨15, _⟩ => ⟨S1024x244, .f32⟩
  | .hbm, ⟨16, _⟩ => ⟨S1024x244, .f32⟩
  | .hbm, ⟨17, _⟩ => ⟨S_, .f32⟩
  | .hbm, ⟨18, _⟩ => ⟨S1024x244, .f32⟩
  | .hbm, ⟨19, _⟩ => ⟨S1024x244, .f32⟩
  | .hbm, ⟨20, _⟩ => ⟨S1024x244, .f32⟩
  | .hbm, ⟨21, _⟩ => ⟨S_, .f32⟩
  | .hbm, ⟨22, _⟩ => ⟨S1024x244, .f32⟩
  | .hbm, ⟨23, _⟩ => ⟨S1024x244, .f32⟩
  | .hbm, ⟨24, _⟩ => ⟨S_, .f32⟩
  | .hbm, ⟨25, _⟩ => ⟨S1024x244, .f32⟩
  | .hbm, ⟨26, _⟩ => ⟨S1024x244, .f32⟩
  | .hbm, ⟨27, _⟩ => ⟨S1024x244, .f32⟩
  | .hbm, ⟨28, _⟩ => ⟨S_, .f32⟩
  | .hbm, ⟨29, _⟩ => ⟨S1024x244, .f32⟩
  | .hbm, ⟨30, _⟩ => ⟨S1024x244, .f32⟩
  | .hbm, ⟨31, _⟩ => ⟨S1024x244, .f32⟩
  | .hbm, ⟨32, _⟩ => ⟨S_, .f32⟩
  | .hbm, ⟨33, _⟩ => ⟨S1024x244, .f32⟩
  | .hbm, ⟨34, _⟩ => ⟨S1024x244, .f32⟩
  | .hbm, ⟨35, _⟩ => ⟨S1024x244, .f32⟩
  | .hbm, ⟨36, _⟩ => ⟨S_, .f32⟩
  | .hbm, ⟨37, _⟩ => ⟨S1024x244, .f32⟩
  | .hbm, ⟨38, _⟩ => ⟨S1024x244, .f32⟩
  | _, _ => ⟨S8x1024x244, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel28Ideal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel29.lean ====
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .local _ .vmem, ⟨0, _⟩ => ⟨S8x64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel29Ideal.lean ====
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .local _ .vmem, ⟨0, _⟩ => ⟨S8x64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S8x64x64 : Shape := ⟨3, ![8, 64, 64]⟩
abbrev S64x64 : Shape := ⟨2, ![64, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S8x128x64 : Shape := ⟨3, ![8, 128, 64]⟩
abbrev S128x64 : Shape := ⟨2, ![128, 64]⟩
abbrev S1x128x64 : Shape := ⟨3, ![1, 128, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .local _ .vmem, ⟨0, _⟩ => ⟨S8x128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | _, _ => ⟨S8x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel30Ideal.lean ====
abbrev S8x128x64 : Shape := ⟨3, ![8, 128, 64]⟩
abbrev S128x64 : Shape := ⟨2, ![128, 64]⟩
abbrev S1x128x64 : Shape := ⟨3, ![1, 128, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .local _ .vmem, ⟨0, _⟩ => ⟨S8x128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | _, _ => ⟨S8x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference30Ideal.lean ====
abbrev S8x128x64 : Shape := ⟨3, ![8, 128, 64]⟩
abbrev S128x64 : Shape := ⟨2, ![128, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S_, .f32⟩
  | .hbm, ⟨5, _⟩ => ⟨S128x64, .f32⟩
  | .hbm, ⟨6, _⟩ => ⟨S_, .f32⟩
  | .hbm, ⟨7, _⟩ => ⟨S128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S_, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S_, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S_, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S_, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S_, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S_, .f32⟩
  | .hbm, ⟨37, _⟩ => ⟨S128x64, .f32⟩
  | .hbm, ⟨38, _⟩ => ⟨S128x64, .f32⟩
  | _, _ => ⟨S8x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel31.lean ====
abbrev S8x256x96 : Shape := ⟨3, ![8, 256, 96]⟩
abbrev S256x96 : Shape := ⟨2, ![256, 96]⟩
abbrev S1x256x96 : Shape := ⟨3, ![1, 256, 96]⟩

abbrev nBuf : Space → Nat
  | .hbm => 8
  | .vmem => 8
  | .smem => 0
  | _ => 0

abbrev bufTy : (tb : Table) → Fin (tcTables nBuf tb) → BufTy
  | .hbm, ⟨0, _⟩ => ⟨S8x256x96, .f32⟩
  | .hbm, ⟨1, _⟩ => ⟨S256x96, .f32⟩
  | .hbm, ⟨2, _⟩ => ⟨S256x96, .f32⟩
  | .hbm, ⟨3, _⟩ => ⟨S256x96, .f32⟩
  | .hbm, ⟨4, _⟩ => ⟨S256x96, .f32⟩
  | .hbm, ⟨5, _⟩ => ⟨S256x96, .f32⟩
  | .hbm, ⟨6, _⟩ => ⟨S256x96, .f32⟩
  | .hbm, ⟨7, _⟩ => ⟨S256x96, .f32⟩
  | .local _ .vmem, ⟨0, _⟩ => ⟨S8x256x96, .f32⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | _, _ => ⟨S8x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel31Ideal.lean ====
abbrev S8x256x96 : Shape := ⟨3, ![8, 256, 96]⟩
abbrev S256x96 : Shape := ⟨2, ![256, 96]⟩
abbrev S1x256x96 : Shape := ⟨3, ![1, 256, 96]⟩

abbrev nBuf : Space → Nat
  | .hbm => 8
  | .vmem => 8
  | .smem => 0
  | _ => 0

abbrev bufTy : (tb : Table) → Fin (tcTables nBuf tb) → BufTy
  | .hbm, ⟨0, _⟩ => ⟨S8x256x96, .f32⟩
  | .hbm, ⟨1, _⟩ => ⟨S256x96, .f32⟩
  | .hbm, ⟨2, _⟩ => ⟨S256x96, .f32⟩
  | .hbm, ⟨3, _⟩ => ⟨S256x96, .f32⟩
  | .hbm, ⟨4, _⟩ => ⟨S256x96, .f32⟩
  | .hbm, ⟨5, _⟩ => ⟨S256x96, .f32⟩
  | .hbm, ⟨6, _⟩ => ⟨S256x96, .f32⟩
  | .hbm, ⟨7, _⟩ => ⟨S256x96, .f32⟩
  | .local _ .vmem, ⟨0, _⟩ => ⟨S8x256x96, .f32⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | _, _ => ⟨S8x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference31Ideal.lean ====
abbrev S8x256x96 : Shape := ⟨3, ![8, 256, 96]⟩
abbrev S256x96 : Shape := ⟨2, ![256, 96]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x96, .f32⟩
  | .hbm, ⟨1, _⟩ => ⟨S256x96, .f32⟩
  | .hbm, ⟨2, _⟩ => ⟨S256x96, .f32⟩
  | .hbm, ⟨3, _⟩ => ⟨S256x96, .f32⟩
  | .hbm, ⟨4, _⟩ => ⟨S_, .f32⟩
  | .hbm, ⟨5, _⟩ => ⟨S256x96, .f32⟩
  | .hbm, ⟨6, _⟩ => ⟨S_, .f32⟩
  | .hbm, ⟨7, _⟩ => ⟨S256x96, .f32⟩
  | .hbm, ⟨8, _⟩ => ⟨S256x96, .f32⟩
  | .hbm, ⟨9, _⟩ => ⟨S_, .f32⟩
  | .hbm, ⟨10, _⟩ => ⟨S256x96, .f32⟩
  | .hbm, ⟨11, _⟩ => ⟨S256x96, .f32⟩
  | .hbm, ⟨12, _⟩ => ⟨S256x96, .f32⟩
  | .hbm, ⟨13, _⟩ => ⟨S_, .f32⟩
  | .hbm, ⟨14, _⟩ => ⟨S256x96, .f32⟩
  | .hbm, ⟨15, _⟩ => ⟨S256x96, .f32⟩
  | .hbm, ⟨16, _⟩ => ⟨S256x96, .f32⟩
  | .hbm, ⟨17, _⟩ => ⟨S_, .f32⟩
  | .hbm, ⟨18, _⟩ => ⟨S256x96, .f32⟩
  | .hbm, ⟨19, _⟩ => ⟨S256x96, .f32⟩
  | .hbm, ⟨20, _⟩ => ⟨S256x96, .f32⟩
  | .hbm, ⟨21, _⟩ => ⟨S_, .f32⟩
  | .hbm, ⟨22, _⟩ => ⟨S256x96, .f32⟩
  | .hbm, ⟨23, _⟩ => ⟨S256x96, .f32⟩
  | .hbm, ⟨24, _⟩ => ⟨S_, .f32⟩
  | .hbm, ⟨25, _⟩ => ⟨S256x96, .f32⟩
  | .hbm, ⟨26, _⟩ => ⟨S256x96, .f32⟩
  | .hbm, ⟨27, _⟩ => ⟨S256x96, .f32⟩
  | .hbm, ⟨28, _⟩ => ⟨S_, .f32⟩
  | .hbm, ⟨29, _⟩ => ⟨S256x96, .f32⟩
  | .hbm, ⟨30, _⟩ => ⟨S256x96, .f32⟩
  | .hbm, ⟨31, _⟩ => ⟨S256x96, .f32⟩
  | .hbm, ⟨32, _⟩ => ⟨S_, .f32⟩
  | .hbm, ⟨33, _⟩ => ⟨S256x96, .f32⟩
  | .hbm, ⟨34, _⟩ => ⟨S256x96, .f32⟩
  | .hbm, ⟨35, _⟩ => ⟨S256x96, .f32⟩
  | .hbm, ⟨36, _⟩ => ⟨S_, .f32⟩
  | .hbm, ⟨37, _⟩ => ⟨S256x96, .f32⟩
  | .hbm, ⟨38, _⟩ => ⟨S256x96, .f32⟩
  | _, _ => ⟨S8x256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel32.lean ====
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S8x128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference32Ideal.lean ====
abbrev S8x128x128 : Shape := ⟨3, ![8, 128, 128]⟩
abbrev S128x128 : Shape := ⟨2, ![128, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8x512x128 : Shape := ⟨3, ![8, 512, 128]⟩
abbrev S3x352 : Shape := ⟨2, ![3, 352]⟩
abbrev S2816 : Shape := ⟨1, ![2816]⟩
abbrev S1024 : Shape := ⟨1, ![1024]⟩
abbrev S1056 : Shape := ⟨1, ![1056]⟩
abbrev S_ : Shape := ⟨0, ![]⟩
abbrev S2048 : Shape := ⟨1, ![2048]⟩
abbrev S4864 : Shape := ⟨1, ![4864]⟩
abbrev S5120 : Shape := ⟨1, ![5120]⟩
abbrev S58368 : Shape := ⟨1, ![58368]⟩
abbrev S65536 : Shape := ⟨1, ![65536]⟩
abbrev S512x128 : Shape := ⟨2, ![512, 128]⟩
abbrev S1x512x128 : Shape := ⟨3, ![1, 512, 128]⟩

abbrev nBuf : Space → Nat
  | .hbm => 53
  | .vmem => 8
  | .smem => 0
  | _ => 0

abbrev bufTy : (tb : Table) → Fin (tcTables nBuf tb) → BufTy
  | .hbm, ⟨0, _⟩ => ⟨S8x512x128, .f32⟩
  | .hbm, ⟨1, _⟩ => ⟨S3x352, .f32⟩
  | .hbm, ⟨2, _⟩ => ⟨S2816, .f32⟩
  | .hbm, ⟨3, _⟩ => ⟨S1024, .f32⟩
  | .hbm, ⟨4, _⟩ => ⟨S1024, .f32⟩
  | .hbm, ⟨5, _⟩ => ⟨S3x352, .f32⟩
  | .hbm, ⟨6, _⟩ => ⟨S2816, .f32⟩
  | .hbm, ⟨7, _⟩ => ⟨S1024, .f32⟩
  | .hbm, ⟨8, _⟩ => ⟨S1024, .f32⟩
  | .hbm, ⟨9, _⟩ => ⟨S3x352, .f32⟩
  | .hbm, ⟨10, _⟩ => ⟨S2816, .f32⟩
  | .hbm, ⟨11, _⟩ => ⟨S1024, .f32⟩
  | .hbm, ⟨12, _⟩ => ⟨S1024, .f32⟩
  | .hbm, ⟨13, _⟩ => ⟨S1056, .f32⟩
  | .hbm, ⟨14, _⟩ => ⟨S_, .i32⟩
  | .hbm, ⟨15, _⟩ => ⟨S_, .f32⟩
  | .hbm, ⟨16, _⟩ => ⟨S2048, .f32⟩
  | .hbm, ⟨17, _⟩ => ⟨S4864, .f32⟩
  | .hbm, ⟨18, _⟩ => ⟨S_, .i32⟩
  | .hbm, ⟨19, _⟩ => ⟨S_, .f32⟩
  | .hbm, ⟨20, _⟩ => ⟨S5120, .f32⟩
  | .hbm, ⟨21, _⟩ => ⟨S_, .f32⟩
  | .hbm, ⟨22, _⟩ => ⟨S58368, .f32⟩
  | .hbm, ⟨23, _⟩ => ⟨S65536, .f32⟩
  | .hbm, ⟨24, _⟩ => ⟨S512x128, .f32⟩
  | .hbm, ⟨25, _⟩ => ⟨S1056, .f32⟩
  | .hbm, ⟨26, _⟩ => ⟨S_, .i32⟩
  | .hbm, ⟨27, _⟩ => ⟨S_, .f32⟩
  | .hbm, ⟨28, _⟩ => ⟨S2048, .f32⟩
  | .hbm, ⟨29, _⟩ => ⟨S4864, .f32⟩
  | .hbm, ⟨30, _⟩ => ⟨S_, .i32⟩
  | .hbm, ⟨31, _⟩ => ⟨S_, .f32⟩
  | .hbm, ⟨32, _⟩ => ⟨S5120, .f32⟩
  | .hbm, ⟨33, _⟩ => ⟨S_, .f32⟩
  | .hbm, ⟨34, _⟩ => ⟨S58368, .f32⟩
  | .hbm, ⟨35, _⟩ => ⟨S65536, .f32⟩
  | .hbm, ⟨36, _⟩ => ⟨S512x128, .f32⟩
  | .hbm, ⟨37, _⟩ => ⟨S1056, .f32⟩
  | .hbm, ⟨38, _⟩ => ⟨S_, .i32⟩
  | .hbm, ⟨39, _⟩ => ⟨S_, .f32⟩
  | .hbm, ⟨40, _⟩ => ⟨S2048, .f32⟩
  | .hbm, ⟨41, _⟩ => ⟨S4864, .f32⟩
  | .hbm, ⟨42, _⟩ => ⟨S_, .i32⟩
  | .hbm, ⟨43, _⟩ => ⟨S_, .f32⟩
  | .hbm, ⟨44, _⟩ => ⟨S5120, .f32⟩
  | .hbm, ⟨45, _⟩ => ⟨S_, .f32⟩
  | .hbm, ⟨46, _⟩ => ⟨S58368, .f32⟩
  | .hbm, ⟨47, _⟩ => ⟨S65536, .f32⟩
  | .hbm, ⟨48, _⟩ => ⟨S512x128, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S512x128, .f32⟩
  | .local _ .vmem, ⟨0, _⟩ => ⟨S8x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_call2_v0 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_call3_v0 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_4 : Ref sig .tc := ⟨.hbm, 38, rfl⟩
abbrev main_call4_v0 : Ref sig .tc := ⟨.hbm, 39, rfl⟩
abbrev main_v15 : Ref sig .tc := ⟨.hbm, 40, rfl⟩
abbrev main_v16 : Ref sig .tc := ⟨.hbm, 41, rfl⟩
abbrev main_c_5 : Ref sig .tc := ⟨.hbm, 42, rfl⟩
abbrev main_call5_v0 : Ref sig .tc := ⟨.hbm, 43, rfl⟩
abbrev main_v17 : Ref sig .tc := ⟨.hbm, 44, rfl⟩
abbrev main_cst_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21_0 : Ref sig .tc := ⟨.hbm, 49, rfl⟩
abbrev main_v21_1 : Ref sig .tc := ⟨.hbm, 50, rfl⟩
abbrev main_v21_2 : Ref sig .tc := ⟨.hbm, 51, rfl⟩
abbrev main_v21_3 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x512x128 : Shape := ⟨3, ![8, 512, 128]⟩
abbrev S3x352 : Shape := ⟨2, ![3, 352]⟩
abbrev S2816 : Shape := ⟨1, ![2816]⟩
abbrev S1024 : Shape := ⟨1, ![1024]⟩
abbrev S4864 : Shape := ⟨1, ![4864]⟩
abbrev S1056 : Shape := ⟨1, ![1056]⟩
abbrev S_ : Shape := ⟨0, ![]⟩
abbrev S2048 : Shape := ⟨1, ![2048]⟩
abbrev S5120 : Shape := ⟨1, ![5120]⟩
abbrev S58368 : Shape := ⟨1, ![58368]⟩
abbrev S65536 : Shape := ⟨1, ![65536]⟩
abbrev S512x128 : Shape := ⟨2, ![512, 128]⟩

abbrev nBuf : Space → Nat
  | .hbm => 84
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S3x352, .f32⟩
  | .hbm, ⟨2, _⟩ => ⟨S2816, .f32⟩
  | .hbm, ⟨3, _⟩ => ⟨S1024, .f32⟩
  | .hbm, ⟨4, _⟩ => ⟨S1024, .f32⟩
  | .hbm, ⟨5, _⟩ => ⟨S3x352, .f32⟩
  | .hbm, ⟨6, _⟩ => ⟨S2816, .f32⟩
  | .hbm, ⟨7, _⟩ => ⟨S1024, .f32⟩
  | .hbm, ⟨8, _⟩ => ⟨S1024, .f32⟩
  | .hbm, ⟨9, _⟩ => ⟨S3x352, .f32⟩
  | .hbm, ⟨10, _⟩ => ⟨S2816, .f32⟩
  | .hbm, ⟨11, _⟩ => ⟨S1024, .f32⟩
  | .hbm, ⟨12, _⟩ => ⟨S1024, .f32⟩
  | .hbm, ⟨13, _⟩ => ⟨S4864, .f32⟩
  | .hbm, ⟨14, _⟩ => ⟨S1056, .f32⟩
  | .hbm, ⟨15, _⟩ => ⟨S_, .i32⟩
  | .hbm, ⟨16, _⟩ => ⟨S_, .f32⟩
  | .hbm, ⟨17, _⟩ => ⟨S2048, .f32⟩
  | .hbm, ⟨18, _⟩ => ⟨S_, .i32⟩
  | .hbm, ⟨19, _⟩ => ⟨S_, .f32⟩
  | .hbm, ⟨20, _⟩ => ⟨S5120, .f32⟩
  | .hbm, ⟨21, _⟩ => ⟨S_, .f32⟩
  | .hbm, ⟨22, _⟩ => ⟨S58368, .f32⟩
  | .hbm, ⟨23, _⟩ => ⟨S65536, .f32⟩
  | .hbm, ⟨24, _⟩ => ⟨S512x128, .f32⟩
  | .hbm, ⟨25, _⟩ => ⟨S4864, .f32⟩
  | .hbm, ⟨26, _⟩ => ⟨S1056, .f32⟩
  | .hbm, ⟨27, _⟩ => ⟨S_, .i32⟩
  | .hbm, ⟨28, _⟩ => ⟨S_, .f32⟩
  | .hbm, ⟨29, _⟩ => ⟨S2048, .f32⟩
  | .hbm, ⟨30, _⟩ => ⟨S_, .i32⟩
  | .hbm, ⟨31, _⟩ => ⟨S_, .f32⟩
  | .hbm, ⟨32, _⟩ => ⟨S5120, .f32⟩
  | .hbm, ⟨33, _⟩ => ⟨S_, .f32⟩
  | .hbm, ⟨34, _⟩ => ⟨S58368, .f32⟩
  | .hbm, ⟨35, _⟩ => ⟨S65536, .f32⟩
  | .hbm, ⟨36, _⟩ => ⟨S512x128, .f32⟩
  | .hbm, ⟨37, _⟩ => ⟨S4864, .f32⟩
  | .hbm, ⟨38, _⟩ => ⟨S1056, .f32⟩
  | .hbm, ⟨39, _⟩ => ⟨S_, .i32⟩
  | .hbm, ⟨40, _⟩ => ⟨S_, .f32⟩
  | .hbm, ⟨41, _⟩ => ⟨S2048, .f32⟩
  | .hbm, ⟨42, _⟩ => ⟨S_, .i32⟩
  | .hbm, ⟨43, _⟩ => ⟨S_, .f32⟩
  | .hbm, ⟨44, _⟩ => ⟨S5120, .f32⟩
  | .hbm, ⟨45, _⟩ => ⟨S_, .f32⟩
  | .hbm, ⟨46, _⟩ => ⟨S58368, .f32⟩
  | .hbm, ⟨47, _⟩ => ⟨S65536, .f32⟩
  | .hbm, ⟨48, _⟩ => ⟨S512x128, .f32⟩
  | .hbm, ⟨49, _⟩ => ⟨S_, .f32⟩
  | .hbm, ⟨50, _⟩ => ⟨S512x128, .f32⟩
  | .hbm, ⟨51, _⟩ => ⟨S_, .f32⟩
  | .hbm, ⟨52, _⟩ => ⟨S512x128, .f32⟩
  | .hbm, ⟨53, _⟩ => ⟨S512x128, .f32⟩
  | .hbm, ⟨54, _⟩ => ⟨S_, .f32⟩
  | .hbm, ⟨55, _⟩ => ⟨S512x128, .f32⟩
  | .hbm, ⟨56, _⟩ => ⟨S512x128, .f32⟩
  | .hbm, ⟨57, _⟩ => ⟨S512x128, .f32⟩
  | .hbm, ⟨58, _⟩ => ⟨S_, .f32⟩
  | .hbm, ⟨59, _⟩ => ⟨S512x128, .f32⟩
  | .hbm, ⟨60, _⟩ => ⟨S512x128, .f32⟩
  | .hbm, ⟨61, _⟩ => ⟨S512x128, .f32⟩
  | .hbm, ⟨62, _⟩ => ⟨S_, .f32⟩
  | .hbm, ⟨63, _⟩ => ⟨S512x128, .f32⟩
  | .hbm, ⟨64, _⟩ => ⟨S512x128, .f32⟩
  | .hbm, ⟨65, _⟩ => ⟨S512x128, .f32⟩
  | .hbm, ⟨66, _⟩ => ⟨S_, .f32⟩
  | .hbm, ⟨67, _⟩ => ⟨S512x128, .f32⟩
  | .hbm, ⟨68, _⟩ => ⟨S512x128, .f32⟩
  | .hbm, ⟨69, _⟩ => ⟨S_, .f32⟩
  | .hbm, ⟨70, _⟩ => ⟨S512x128, .f32⟩
  | .hbm, ⟨71, _⟩ => ⟨S512x128, .f32⟩
  | .hbm, ⟨72, _⟩ => ⟨S512x128, .f32⟩
  | .hbm, ⟨73, _⟩ => ⟨S_, .f32⟩
  | .hbm, ⟨74, _⟩ => ⟨S512x128, .f32⟩
  | .hbm, ⟨75, _⟩ => ⟨S512x128, .f32⟩
  | .hbm, ⟨76, _⟩ => ⟨S512x128, .f32⟩
  | .hbm, ⟨77, _⟩ => ⟨S_, .f32⟩
  | .hbm, ⟨78, _⟩ => ⟨S512x128, .f32⟩
  | .hbm, ⟨79, _⟩ => ⟨S512x128, .f32⟩
  | .hbm, ⟨80, _⟩ => ⟨S512x128, .f32⟩
  | .hbm, ⟨81, _⟩ => ⟨S_, .f32⟩
  | .hbm, ⟨82, _⟩ => ⟨S512x128, .f32⟩
  | .hbm, ⟨83, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_call2_v0 : Ref sig .tc := ⟨.hbm, 28, rfl⟩
abbrev main_v9 : Ref sig .tc := ⟨.hbm, 29, rfl⟩
abbrev main_c_2 : Ref sig .tc := ⟨.hbm, 30, rfl⟩
abbrev main_call3_v0 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_call4_v0 : Ref sig .tc := ⟨.hbm, 40, rfl⟩
abbrev main_v16 : Ref sig .tc := ⟨.hbm, 41, rfl⟩
abbrev main_c_5 : Ref sig .tc := ⟨.hbm, 42, rfl⟩
abbrev main_call5_v0 : Ref sig .tc := ⟨.hbm, 43, rfl⟩
abbrev main_v17 : Ref sig .tc := ⟨.hbm, 44, rfl⟩
abbrev main_cst_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_7 : Ref sig .tc := ⟨.hbm, 49, rfl⟩
abbrev main_v21 : Ref sig .tc := ⟨.hbm, 50, rfl⟩
abbrev main_cst_8 : Ref sig .tc := ⟨.hbm, 51, rfl⟩
abbrev main_v22 : Ref sig .tc := ⟨.hbm, 52, rfl⟩
abbrev main_v23 : Ref sig .tc := ⟨.hbm, 53, rfl⟩
abbrev main_cst_9 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_10 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_11 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_12 : Ref sig .tc := ⟨.hbm, 66, rfl⟩
abbrev main_v33 : Ref sig .tc := ⟨.hbm, 67, rfl⟩
abbrev main_v34 : Ref sig .tc := ⟨.hbm, 68, rfl⟩
abbrev main_cst_13 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_14 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_15 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_16 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]
-- ==== Kernel33.lean ====
abbrev S8x512x128 : Shape := ⟨3, ![8, 512, 128]⟩
abbrev S4x128 : Shape := ⟨2, ![4, 128]⟩
abbrev S3x352 : Shape := ⟨2, ![3, 352]⟩
abbrev S8x64 : Shape := ⟨2, ![8, 64]⟩
abbrev S512 : Shape := ⟨1, ![512]⟩
abbrev S1024 : Shape := ⟨1, ![1024]⟩
abbrev S8 : Shape := ⟨1, ![8]⟩
abbrev S2816 : Shape := ⟨1, ![2816]⟩
abbrev S256 : Shape := ⟨1, ![256]⟩
abbrev S128 : Shape := ⟨1, ![128]⟩
abbrev S_ : Shape := ⟨0, ![]⟩
abbrev S1056 : Shape := ⟨1, ![1056]⟩
abbrev S2048 : Shape := ⟨1, ![2048]⟩
abbrev S11416 : Shape := ⟨1, ![11416]⟩
abbrev S12440 : Shape := ⟨1, ![12440]⟩
abbrev S13312 : Shape := ⟨1, ![13312]⟩
abbrev S49152 : Shape := ⟨1, ![49152]⟩
abbrev S65536 : Shape := ⟨1, ![65536]⟩
abbrev S512x128 : Shape := ⟨2, ![512, 128]⟩
abbrev S1x512x128 : Shape := ⟨3, ![1, 512, 128]⟩

abbrev nBuf : Space → Nat
  | .hbm => 116
  | .vmem => 8
  | .smem => 0
  | _ => 0

abbrev bufTy : (tb : Table) → Fin (tcTables nBuf tb) → BufTy
  | .hbm, ⟨0, _⟩ => ⟨S8x512x128, .f32⟩
  | .hbm, ⟨1, _⟩ => ⟨S4x128, .f32⟩
  | .hbm, ⟨2, _⟩ => ⟨S3x352, .f32⟩
  | .hbm, ⟨3, _⟩ => ⟨S8x64, .f32⟩
  | .hbm, ⟨4, _⟩ => ⟨S512, .f32⟩
  | .hbm, ⟨5, _⟩ => ⟨S512, .f32⟩
  | .hbm, ⟨6, _⟩ => ⟨S1024, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S512, .f32⟩
  | .hbm, ⟨11, _⟩ => ⟨S1024, .f32⟩
  | .hbm, ⟨12, _⟩ => ⟨S1024, .f32⟩
  | .hbm, ⟨13, _⟩ => ⟨S2816, .f32⟩
  | .hbm, ⟨14, _⟩ => ⟨S1024, .f32⟩
  | .hbm, ⟨15, _⟩ => ⟨S1024, .f32⟩
  | .hbm, ⟨16, _⟩ => ⟨S256, .f32⟩
  | .hbm, ⟨17, _⟩ => ⟨S128, .f32⟩
  | .hbm, ⟨18, _⟩ => ⟨S1024, .f32⟩
  | .hbm, ⟨19, _⟩ => ⟨S1024, .f32⟩
  | .hbm, ⟨20, _⟩ => ⟨S4x128, .f32⟩
  | .hbm, ⟨21, _⟩ => ⟨S3x352, .f32⟩
  | .hbm, ⟨22, _⟩ => ⟨S8x64, .f32⟩
  | .hbm, ⟨23, _⟩ => ⟨S512, .f32⟩
  | .hbm, ⟨24, _⟩ => ⟨S512, .f32⟩
  | .hbm, ⟨25, _⟩ => ⟨S1024, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S512, .f32⟩
  | .hbm, ⟨30, _⟩ => ⟨S1024, .f32⟩
  | .hbm, ⟨31, _⟩ => ⟨S1024, .f32⟩
  | .hbm, ⟨32, _⟩ => ⟨S2816, .f32⟩
  | .hbm, ⟨33, _⟩ => ⟨S1024, .f32⟩
  | .hbm, ⟨34, _⟩ => ⟨S1024, .f32⟩
  | .hbm, ⟨35, _⟩ => ⟨S256, .f32⟩
  | .hbm, ⟨36, _⟩ => ⟨S128, .f32⟩
  | .hbm, ⟨37, _⟩ => ⟨S1024, .f32⟩
  | .hbm, ⟨38, _⟩ => ⟨S1024, .f32⟩
  | .hbm, ⟨39, _⟩ => ⟨S4x128, .f32⟩
  | .hbm, ⟨40, _⟩ => ⟨S3x352, .f32⟩
  | .hbm, ⟨41, _⟩ => ⟨S8x64, .f32⟩
  | .hbm, ⟨42, _⟩ => ⟨S512, .f32⟩
  | .hbm, ⟨43, _⟩ => ⟨S512, .f32⟩
  | .hbm, ⟨44, _⟩ => ⟨S1024, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S512, .f32⟩
  | .hbm, ⟨49, _⟩ => ⟨S1024, .f32⟩
  | .hbm, ⟨50, _⟩ => ⟨S1024, .f32⟩
  | .hbm, ⟨51, _⟩ => ⟨S2816, .f32⟩
  | .hbm, ⟨52, _⟩ => ⟨S1024, .f32⟩
  | .hbm, ⟨53, _⟩ => ⟨S1024, .f32⟩
  | .hbm, ⟨54, _⟩ => ⟨S256, .f32⟩
  | .hbm, ⟨55, _⟩ => ⟨S128, .f32⟩
  | .hbm, ⟨56, _⟩ => ⟨S1024, .f32⟩
  | .hbm, ⟨57, _⟩ => ⟨S1024, .f32⟩
  | .hbm, ⟨58, _⟩ => ⟨S512, .f32⟩
  | .hbm, ⟨59, _⟩ => ⟨S_, .i32⟩
  | .hbm, ⟨60, _⟩ => ⟨S_, .f32⟩
  | .hbm, ⟨61, _⟩ => ⟨S1024, .f32⟩
  | .hbm, ⟨62, _⟩ => ⟨S1056, .f32⟩
  | .hbm, ⟨63, _⟩ => ⟨S_, .i32⟩
  | .hbm, ⟨64, _⟩ => ⟨S_, .f32⟩
  | .hbm, ⟨65, _⟩ => ⟨S2048, .f32⟩
  | .hbm, ⟨66, _⟩ => ⟨S512, .f32⟩
  | .hbm, ⟨67, _⟩ => ⟨S11416, .f32⟩
  | .hbm, ⟨68, _⟩ => ⟨S12440, .f32⟩
  | .hbm, ⟨69, _⟩ => ⟨S_, .i32⟩
  | .hbm, ⟨70, _⟩ => ⟨S_, .f32⟩
  | .hbm, ⟨71, _⟩ => ⟨S13312, .f32⟩
  | .hbm, ⟨72, _⟩ => ⟨S_, .f32⟩
  | .hbm, ⟨73, _⟩ => ⟨S49152, .f32⟩
  | .hbm, ⟨74, _⟩ => ⟨S65536, .f32⟩
  | .hbm, ⟨75, _⟩ => ⟨S512x128, .f32⟩
  | .hbm, ⟨76, _⟩ => ⟨S512, .f32⟩
  | .hbm, ⟨77, _⟩ => ⟨S_, .i32⟩
  | .hbm, ⟨78, _⟩ => ⟨S_, .f32⟩
  | .hbm, ⟨79, _⟩ => ⟨S1024, .f32⟩
  | .hbm, ⟨80, _⟩ => ⟨S1056, .f32⟩
  | .hbm, ⟨81, _⟩ => ⟨S_, .i32⟩
  | .hbm, ⟨82, _⟩ => ⟨S_, .f32⟩
  | .hbm, ⟨83, _⟩ => ⟨S2048, .f32⟩
  | .hbm, ⟨84, _⟩ => ⟨S512, .f32⟩
  | .hbm, ⟨85, _⟩ => ⟨S11416, .f32⟩
  | .hbm, ⟨86, _⟩ => ⟨S12440, .f32⟩
  | .hbm, ⟨87, _⟩ => ⟨S_, .i32⟩
  | .hbm, ⟨88, _⟩ => ⟨S_, .f32⟩
  | .hbm, ⟨89, _⟩ => ⟨S13312, .f32⟩
  | .hbm, ⟨90, _⟩ => ⟨S_, .f32⟩
  | .hbm, ⟨91, _⟩ => ⟨S49152, .f32⟩
  | .hbm, ⟨92, _⟩ => ⟨S65536, .f32⟩
  | .hbm, ⟨93, _⟩ => ⟨S512x128, .f32⟩
  | .hbm, ⟨94, _⟩ => ⟨S512, .f32⟩
  | .hbm, ⟨95, _⟩ => ⟨S_, .i32⟩
  | .hbm, ⟨96, _⟩ => ⟨S_, .f32⟩
  | .hbm, ⟨97, _⟩ => ⟨S1024, .f32⟩
  | .hbm, ⟨98, _⟩ => ⟨S1056, .f32⟩
  | .hbm, ⟨99, _⟩ => ⟨S_, .i32⟩
  | .hbm, ⟨100, _⟩ => ⟨S_, .f32⟩
  | .hbm, ⟨101, _⟩ => ⟨S2048, .f32⟩
  | .hbm, ⟨102, _⟩ => ⟨S512, .f32⟩
  | .hbm, ⟨103, _⟩ => ⟨S11416, .f32⟩
  | .hbm, ⟨104, _⟩ => ⟨S12440, .f32⟩
  | .hbm, ⟨105, _⟩ => ⟨S_, .i32⟩
  | .hbm, ⟨106, _⟩ => ⟨S_, .f32⟩
  | .hbm, ⟨107, _⟩ => ⟨S13312, .f32⟩
  | .hbm, ⟨108, _⟩ => ⟨S_, .f32⟩
  | .hbm, ⟨109, _⟩ => ⟨S49152, .f32⟩
  | .hbm, ⟨110, _⟩ => ⟨S65536, .f32⟩
  | .hbm, ⟨111, _⟩ => ⟨S512x128, .f32⟩
  | .hbm, ⟨112, _⟩ => ⟨S512x128, .f32⟩
  | .hbm, ⟨113, _⟩ => ⟨S512x128, .f32⟩
  | .hbm, ⟨114, _⟩ => ⟨S512x128, .f32⟩
  | .hbm, ⟨115, _⟩ => ⟨S512x128, .f32⟩
  | .local _ .vmem, ⟨0, _⟩ => ⟨S8x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_v0 : Ref sig .tc := ⟨.hbm, 58, rfl⟩
abbrev main_c : Ref sig .tc := ⟨.hbm, 59, rfl⟩
abbrev main_call0_v0 : Ref sig .tc := ⟨.hbm, 60, rfl⟩
abbrev main_v1 : Ref sig .tc := ⟨.hbm, 61, rfl⟩
abbrev main_v2 : Ref sig .tc := ⟨.hbm, 62, rfl⟩
abbrev main_c_0 : Ref sig .tc := ⟨.hbm, 63, rfl⟩
abbrev main_call1_v0 : Ref sig .tc := ⟨.hbm, 64, rfl⟩
abbrev main_v3 : Ref sig .tc := ⟨.hbm, 65, rfl⟩
abbrev main_v4 : Ref sig .tc := ⟨.hbm, 66, rfl⟩
abbrev main_v5 : Ref sig .tc := ⟨.hbm, 67, rfl⟩
abbrev main_v6 : Ref sig .tc := ⟨.hbm, 68, rfl⟩
abbrev main_c_1 : Ref sig .tc := ⟨.hbm, 69, rfl⟩
abbrev main_call2_v0 : Ref sig .tc := ⟨.hbm, 70, rfl⟩
abbrev main_v7 : Ref sig .tc := ⟨.hbm, 71, rfl⟩
abbrev main_cst : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_c_2 : Ref sig .tc := ⟨.hbm, 77, rfl⟩
abbrev main_call3_v0 : Ref sig .tc := ⟨.hbm, 78, rfl⟩
abbrev main_v12 : Ref sig .tc := ⟨.hbm, 79, rfl⟩
abbrev main_v13 : Ref sig .tc := ⟨.hbm, 80, rfl⟩
abbrev main_c_3 : Ref sig .tc := ⟨.hbm, 81, rfl⟩
abbrev main_call4_v0 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_c_4 : Ref sig .tc := ⟨.hbm, 87, rfl⟩
abbrev main_call5_v0 : Ref sig .tc := ⟨.hbm, 88, rfl⟩
abbrev main_v18 : Ref sig .tc := ⟨.hbm, 89, rfl⟩
abbrev main_cst_5 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_c_6 : Ref sig .tc := ⟨.hbm, 95, rfl⟩
abbrev main_call6_v0 : Ref sig .tc := ⟨.hbm, 96, rfl⟩
abbrev main_v23 : Ref sig .tc := ⟨.hbm, 97, rfl⟩
abbrev main_v24 : Ref sig .tc := ⟨.hbm, 98, rfl⟩
abbrev main_c_7 : Ref sig .tc := ⟨.hbm, 99, rfl⟩
abbrev main_call7_v0 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_c_8 : Ref sig .tc := ⟨.hbm, 105, rfl⟩
abbrev main_call8_v0 : Ref sig .tc := ⟨.hbm, 106, rfl⟩
abbrev main_v29 : Ref sig .tc := ⟨.hbm, 107, rfl⟩
abbrev main_cst_9 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33_0 : Ref sig .tc := ⟨.hbm, 112, rfl⟩
abbrev main_v33_1 : Ref sig .tc := ⟨.hbm, 113, rfl⟩
abbrev main_v33_2 : Ref sig .tc := ⟨.hbm, 114, rfl⟩
abbrev main_v33_3 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference33Ideal.lean ====
abbrev S8x512x128 : Shape := ⟨3, ![8, 512, 128]⟩
abbrev S4x128 : Shape := ⟨2, ![4, 128]⟩
abbrev S3x352 : Shape := ⟨2, ![3, 352]⟩
abbrev S8x64 : Shape := ⟨2, ![8, 64]⟩
abbrev S512 : Shape := ⟨1, ![512]⟩
abbrev S1024 : Shape := ⟨1, ![1024]⟩
abbrev S8 : Shape := ⟨1, ![8]⟩
abbrev S2816 : Shape := ⟨1, ![2816]⟩
abbrev S256 : Shape := ⟨1, ![256]⟩
abbrev S128 : Shape := ⟨1, ![128]⟩
abbrev S11416 : Shape := ⟨1, ![11416]⟩
abbrev S12440 : Shape := ⟨1, ![12440]⟩
abbrev S_ : Shape := ⟨0, ![]⟩
abbrev S1056 : Shape := ⟨1, ![1056]⟩
abbrev S2048 : Shape := ⟨1, ![2048]⟩
abbrev S13312 : Shape := ⟨1, ![13312]⟩
abbrev S49152 : Shape := ⟨1, ![49152]⟩
abbrev S65536 : Shape := ⟨1, ![65536]⟩
abbrev S512x128 : Shape := ⟨2, ![512, 128]⟩

abbrev nBuf : Space → Nat
  | .hbm => 147
  | .vmem => 0
  | .smem => 0
  | _ => 0

abbrev hbmTy0_0 (i : Nat) : BufTy := match i % 128 with
  | 0 => ⟨S8x512x128, .f32⟩
  | 1 => ⟨S4x128, .f32⟩
  | 2 => ⟨S3x352, .f32⟩
  | 3 => ⟨S8x64, .f32⟩
  | 4 => ⟨S512, .f32⟩
  | 5 => ⟨S512, .f32⟩
  | 6 => ⟨S1024, .f32⟩
  | 7 => ⟨S8, .f32⟩
  | 8 => ⟨S8, .f32⟩
  | 9 => ⟨S8, .f32⟩
  | 10 => ⟨S512, .f32⟩
  | 11 => ⟨S1024, .f32⟩
  | 12 => ⟨S1024, .f32⟩
  | 13 => ⟨S2816, .f32⟩
  | 14 => ⟨S1024, .f32⟩
  | 15 => ⟨S1024, .f32⟩
  | 16 => ⟨S256, .f32⟩
  | 17 => ⟨S128, .f32⟩
  | 18 => ⟨S1024, .f32⟩
  | 19 => ⟨S1024, .f32⟩
  | 20 => ⟨S4x128, .f32⟩
  | 21 => ⟨S3x352, .f32⟩
  | 22 => ⟨S8x64, .f32⟩
  | 23 => ⟨S512, .f32⟩
  | 24 => ⟨S512, .f32⟩
  | 25 => ⟨S1024, .f32⟩
  | 26 => ⟨S8, .f32⟩
  | 27 => ⟨S8, .f32⟩
  | 28 => ⟨S8, .f32⟩
  | 29 => ⟨S512, .f32⟩
  | 30 => ⟨S1024, .f32⟩
  | 31 => ⟨S1024, .f32⟩
  | 32 => ⟨S2816, .f32⟩
  | 33 => ⟨S1024, .f32⟩
  | 34 => ⟨S1024, .f32⟩
  | 35 => ⟨S256, .f32⟩
  | 36 => ⟨S128, .f32⟩
  | 37 => ⟨S1024, .f32⟩
  | 38 => ⟨S1024, .f32⟩
  | 39 => ⟨S4x128, .f32⟩
  | 40 => ⟨S3x352, .f32⟩
  | 41 => ⟨S8x64, .f32⟩
  | 42 => ⟨S512, .f32⟩
  | 43 => ⟨S512, .f32⟩
  | 44 => ⟨S1024, .f32⟩
  | 45 => ⟨S8, .f32⟩
  | 46 => ⟨S8, .f32⟩
  | 47 => ⟨S8, .f32⟩
  | 48 => ⟨S512, .f32⟩
  | 49 => ⟨S1024, .f32⟩
  | 50 => ⟨S1024, .f32⟩
  | 51 => ⟨S2816, .f32⟩
  | 52 => ⟨S1024, .f32⟩
  | 53 => ⟨S1024, .f32⟩
  | 54 => ⟨S256, .f32⟩
  | 55 => ⟨S128, .f32⟩
  | 56 => ⟨S1024, .f32⟩
  | 57 => ⟨S1024, .f32⟩
  | 58 => ⟨S512, .f32⟩
  | 59 => ⟨S11416, .f32⟩
  | 60 => ⟨S12440, .f32⟩
  | 61 => ⟨S512, .f32⟩
  | 62 => ⟨S_, .i32⟩
  | 63 => ⟨S_, .f32⟩
  | 64 => ⟨S1024, .f32⟩
  | 65 => ⟨S1056, .f32⟩
  | 66 => ⟨S_, .i32⟩
  | 67 => ⟨S_, .f32⟩
  | 68 => ⟨S2048, .f32⟩
  | 69 => ⟨S_, .i32⟩
  | 70 => ⟨S_, .f32⟩
  | 71 => ⟨S13312, .f32⟩
  | 72 => ⟨S_, .f32⟩
  | 73 => ⟨S49152, .f32⟩
  | 74 => ⟨S65536, .f32⟩
  | 75 => ⟨S512x128, .f32⟩
  | 76 => ⟨S512, .f32⟩
  | 77 => ⟨S11416, .f32⟩
  | 78 => ⟨S12440, .f32⟩
  | 79 => ⟨S512, .f32⟩
  | 80 => ⟨S_, .i32⟩
  | 81 => ⟨S_, .f32⟩
  | 82 => ⟨S1024, .f32⟩
  | 83 => ⟨S1056, .f32⟩
  | 84 => ⟨S_, .i32⟩
  | 85 => ⟨S_, .f32⟩
  | 86 => ⟨S2048, .f32⟩
  | 87 => ⟨S_, .i32⟩
  | 88 => ⟨S_, .f32⟩
  | 89 => ⟨S13312, .f32⟩
  | 90 => ⟨S_, .f32⟩
  | 91 => ⟨S49152, .f32⟩
  | 92 => ⟨S65536, .f32⟩
  | 93 => ⟨S512x128, .f32⟩
  | 94 => ⟨S512, .f32⟩
  | 95 => ⟨S11416, .f32⟩
  | 96 => ⟨S12440, .f32⟩
  | 97 => ⟨S512, .f32⟩
  | 98 => ⟨S_, .i32⟩
  | 99 => ⟨S_, .f32⟩
  | 100 => ⟨S1024, .f32⟩
  | 101 => ⟨S1056, .f32⟩
  | 102 => ⟨S_, .i32⟩
  | 103 => ⟨S_, .f32⟩
  | 104 => ⟨S2048, .f32⟩
  | 105 => ⟨S_, .i32⟩
  | 106 => ⟨S_, .f32⟩
  | 107 => ⟨S13312, .f32⟩
  | 108 => ⟨S_, .f32⟩
  | 109 => ⟨S49152, .f32⟩
  | 110 => ⟨S65536, .f32⟩
  | 111 => ⟨S512x128, .f32⟩
  | 112 => ⟨S_, .f32⟩
  | 113 => ⟨S512x128, .f32⟩
  | 114 => ⟨S_, .f32⟩
  | 115 => ⟨S512x128, .f32⟩
  | 116 => ⟨S512x128, .f32⟩
  | 117 => ⟨S_, .f32⟩
  | 118 => ⟨S512x128, .f32⟩
  | 119 => ⟨S512x128, .f32⟩
  | 120 => ⟨S512x128, .f32⟩
  | 121 => ⟨S_, .f32⟩
  | 122 => ⟨S512x128, .f32⟩
  | 123 => ⟨S512x128, .f32⟩
  | 124 => ⟨S512x128, .f32⟩
  | 125 => ⟨S_, .f32⟩
  | 126 => ⟨S512x128, .f32⟩
  | 127 => ⟨S512x128, .f32⟩
  | _ => ⟨S8x512x128, .f32⟩

abbrev hbmTy0_1 (i : Nat) : BufTy := match i % 128 with
  | 0 => ⟨S512x128, .f32⟩
  | 1 => ⟨S_, .f32⟩
  | 2 => ⟨S512x128, .f32⟩
  | 3 => ⟨S512x128, .f32⟩
  | 4 => ⟨S_, .f32⟩
  | 5 => ⟨S512x128, .f32⟩
  | 6 => ⟨S512x128, .f32⟩
  | 7 => ⟨S512x128, .f32⟩
  | 8 => ⟨S_, .f32⟩
  | 9 => ⟨S512x128, .f32⟩
  | 10 => ⟨S512x128, .f32⟩
  | 11 => ⟨S512x128, .f32⟩
  | 12 => ⟨S_, .f32⟩
  | 13 => ⟨S512x128, .f32⟩
  | 14 => ⟨S512x128, .f32⟩
  | 15 => ⟨S512x128, .f32⟩
  | 16 => ⟨S_, .f32⟩
  | 17 => ⟨S512x128, .f32⟩
  | 18 => ⟨S512x128, .f32⟩
  | _ => ⟨S8x512x128, .f32⟩

abbrev hbmTy (i : Nat) : BufTy := match i / 128 with
  | 0 => hbmTy0_0 i
  | 1 => hbmTy0_1 i
  | _ => ⟨S8x512x128, .f32⟩

abbrev bufTy : (tb : Table) → Fin (tcTables nBuf tb) → BufTy
  | .hbm, ⟨i, _⟩ => hbmTy i
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_v0 : Ref sig .tc := ⟨.hbm, 58, rfl⟩
abbrev main_v1 : Ref sig .tc := ⟨.hbm, 59, rfl⟩
abbrev main_v2 : Ref sig .tc := ⟨.hbm, 60, rfl⟩
abbrev main_v3 : Ref sig .tc := ⟨.hbm, 61, rfl⟩
abbrev main_c : Ref sig .tc := ⟨.hbm, 62, rfl⟩
abbrev main_call0_v0 : Ref sig .tc := ⟨.hbm, 63, rfl⟩
abbrev main_v4 : Ref sig .tc := ⟨.hbm, 64, rfl⟩
abbrev main_v5 : Ref sig .tc := ⟨.hbm, 65, rfl⟩
abbrev main_c_0 : Ref sig .tc := ⟨.hbm, 66, rfl⟩
abbrev main_call1_v0 : Ref sig .tc := ⟨.hbm, 67, rfl⟩
abbrev main_v6 : Ref sig .tc := ⟨.hbm, 68, rfl⟩
abbrev main_c_1 : Ref sig .tc := ⟨.hbm, 69, rfl⟩
abbrev main_call2_v0 : Ref sig .tc := ⟨.hbm, 70, rfl⟩
abbrev main_v7 : Ref sig .tc := ⟨.hbm, 71, rfl⟩
abbrev main_cst : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_c_2 : Ref sig .tc := ⟨.hbm, 80, rfl⟩
abbrev main_call3_v0 : Ref sig .tc := ⟨.hbm, 81, rfl⟩
abbrev main_v15 : Ref sig .tc := ⟨.hbm, 82, rfl⟩
abbrev main_v16 : Ref sig .tc := ⟨.hbm, 83, rfl⟩
abbrev main_c_3 : Ref sig .tc := ⟨.hbm, 84, rfl⟩
abbrev main_call4_v0 : Ref sig .tc := ⟨.hbm, 85, rfl⟩
abbrev main_v17 : Ref sig .tc := ⟨.hbm, 86, rfl⟩
abbrev main_c_4 : Ref sig .tc := ⟨.hbm, 87, rfl⟩
abbrev main_call5_v0 : Ref sig .tc := ⟨.hbm, 88, rfl⟩
abbrev main_v18 : Ref sig .tc := ⟨.hbm, 89, rfl⟩
abbrev main_cst_5 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_c_6 : Ref sig .tc := ⟨.hbm, 98, rfl⟩
abbrev main_call6_v0 : Ref sig .tc := ⟨.hbm, 99, rfl⟩
abbrev main_v26 : Ref sig .tc := ⟨.hbm, 100, rfl⟩
abbrev main_v27 : Ref sig .tc := ⟨.hbm, 101, rfl⟩
abbrev main_c_7 : Ref sig .tc := ⟨.hbm, 102, rfl⟩
abbrev main_call7_v0 : Ref sig .tc := ⟨.hbm, 103, rfl⟩
abbrev main_v28 : Ref sig .tc := ⟨.hbm, 104, rfl⟩
abbrev main_c_8 : Ref sig .tc := ⟨.hbm, 105, rfl⟩
abbrev main_call8_v0 : Ref sig .tc := ⟨.hbm, 106, rfl⟩
abbrev main_v29 : Ref sig .tc := ⟨.hbm, 107, rfl⟩
abbrev main_cst_9 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_cst_10 : Ref sig .tc := ⟨.hbm, 112, rfl⟩
abbrev main_v33 : Ref sig .tc := ⟨.hbm, 113, rfl⟩
abbrev main_cst_11 : Ref sig .tc := ⟨.hbm, 114, rfl⟩
abbrev main_v34 : Ref sig .tc := ⟨.hbm, 115, rfl⟩
abbrev main_v35 : Ref sig .tc := ⟨.hbm, 116, rfl⟩
abbrev main_cst_12 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_cst_13 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_cst_14 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_cst_15 : Ref sig .tc := ⟨.hbm, 129, rfl⟩
abbrev main_v45 : Ref sig .tc := ⟨.hbm, 130, rfl⟩
abbrev main_v46 : Ref sig .tc := ⟨.hbm, 131, rfl⟩
abbrev main_cst_16 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_cst_17 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_cst_18 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_cst_19 : Ref sig .tc := ⟨.hbm, 144, rfl⟩
abbrev main_v56 : Ref sig .tc := ⟨.hbm, 145, rfl⟩
abbrev main_v57 : Ref sig .tc := ⟨.hbm, 146, rfl⟩

abbrev nD : Nat := 1
abbrev τ : Topo := Topo.v7x

variable {F : FTy → Type} [FloatOps F]
-- ==== Kernel34.lean ====
abbrev S8x512x128 : Shape := ⟨3, ![8, 512, 128]⟩
abbrev S1792 : Shape := ⟨1, ![1792]⟩
abbrev S512 : Shape := ⟨1, ![512]⟩
abbrev S3840 : Shape := ⟨1, ![3840]⟩
abbrev S_ : Shape := ⟨0, ![]⟩
abbrev S4096 : Shape := ⟨1, ![4096]⟩
abbrev S61440 : Shape := ⟨1, ![61440]⟩
abbrev S65536 : Shape := ⟨1, ![65536]⟩
abbrev S512x128 : Shape := ⟨2, ![512, 128]⟩
abbrev S1x512x128 : Shape := ⟨3, ![1, 512, 128]⟩

abbrev nBuf : Space → Nat
  | .hbm => 44
  | .vmem => 8
  | .smem => 0
  | _ => 0

abbrev bufTy : (tb : Table) → Fin (tcTables nBuf tb) → BufTy
  | .hbm, ⟨0, _⟩ => ⟨S8x512x128, .f32⟩
  | .hbm, ⟨1, _⟩ => ⟨S1792, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1792, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1792, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S3840, .f32⟩
  | .hbm, ⟨17, _⟩ => ⟨S_, .i32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S61440, .f32⟩
  | .hbm, ⟨22, _⟩ => ⟨S65536, .f32⟩
  | .hbm, ⟨23, _⟩ => ⟨S512x128, .f32⟩
  | .hbm, ⟨24, _⟩ => ⟨S3840, .f32⟩
  | .hbm, ⟨25, _⟩ => ⟨S_, .i32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S61440, .f32⟩
  | .hbm, ⟨30, _⟩ => ⟨S65536, .f32⟩
  | .hbm, ⟨31, _⟩ => ⟨S512x128, .f32⟩
  | .hbm, ⟨32, _⟩ => ⟨S3840, .f32⟩
  | .hbm, ⟨33, _⟩ => ⟨S_, .i32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S61440, .f32⟩
  | .hbm, ⟨38, _⟩ => ⟨S65536, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S512x128, .f32⟩
  | .local _ .vmem, ⟨0, _⟩ => ⟨S8x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_2 : Ref sig .tc := ⟨.hbm, 33, rfl⟩
abbrev main_call2_v0 : Ref sig .tc := ⟨.hbm, 34, rfl⟩
abbrev main_v11 : Ref sig .tc := ⟨.hbm, 35, rfl⟩
abbrev main_cst_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15_0 : Ref sig .tc := ⟨.hbm, 40, rfl⟩
abbrev main_v15_1 : Ref sig .tc := ⟨.hbm, 41, rfl⟩
abbrev main_v15_2 : Ref sig .tc := ⟨.hbm, 42, rfl⟩
abbrev main_v15_3 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34Ideal.lean ====
abbrev S8x512x128 : Shape := ⟨3, ![8, 512, 128]⟩
abbrev S1792 : Shape := ⟨1, ![1792]⟩
abbrev S512 : Shape := ⟨1, ![512]⟩
abbrev S3840 : Shape := ⟨1, ![3840]⟩
abbrev S_ : Shape := ⟨0, ![]⟩
abbrev S4096 : Shape := ⟨1, ![4096]⟩
abbrev S61440 : Shape := ⟨1, ![61440]⟩
abbrev S65536 : Shape := ⟨1, ![65536]⟩
abbrev S512x128 : Shape := ⟨2, ![512, 128]⟩

abbrev nBuf : Space → Nat
  | .hbm => 75
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S1792, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1792, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1792, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S3840, .f32⟩
  | .hbm, ⟨17, _⟩ => ⟨S_, .i32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S61440, .f32⟩
  | .hbm, ⟨22, _⟩ => ⟨S65536, .f32⟩
  | .hbm, ⟨23, _⟩ => ⟨S512x128, .f32⟩
  | .hbm, ⟨24, _⟩ => ⟨S3840, .f32⟩
  | .hbm, ⟨25, _⟩ => ⟨S_, .i32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S61440, .f32⟩
  | .hbm, ⟨30, _⟩ => ⟨S65536, .f32⟩
  | .hbm, ⟨31, _⟩ => ⟨S512x128, .f32⟩
  | .hbm, ⟨32, _⟩ => ⟨S3840, .f32⟩
  | .hbm, ⟨33, _⟩ => ⟨S_, .i32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S61440, .f32⟩
  | .hbm, ⟨38, _⟩ => ⟨S65536, .f32⟩
  | .hbm, ⟨39, _⟩ => ⟨S512x128, .f32⟩
  | .hbm, ⟨40, _⟩ => ⟨S_, .f32⟩
  | .hbm, ⟨41, _⟩ => ⟨S512x128, .f32⟩
  | .hbm, ⟨42, _⟩ => ⟨S_, .f32⟩
  | .hbm, ⟨43, _⟩ => ⟨S512x128, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S512x128, .f32⟩
  | .hbm, ⟨49, _⟩ => ⟨S_, .f32⟩
  | .hbm, ⟨50, _⟩ => ⟨S512x128, .f32⟩
  | .hbm, ⟨51, _⟩ => ⟨S512x128, .f32⟩
  | .hbm, ⟨52, _⟩ => ⟨S512x128, .f32⟩
  | .hbm, ⟨53, _⟩ => ⟨S_, .f32⟩
  | .hbm, ⟨54, _⟩ => ⟨S512x128, .f32⟩
  | .hbm, ⟨55, _⟩ => ⟨S512x128, .f32⟩
  | .hbm, ⟨56, _⟩ => ⟨S512x128, .f32⟩
  | .hbm, ⟨57, _⟩ => ⟨S_, .f32⟩
  | .hbm, ⟨58, _⟩ => ⟨S512x128, .f32⟩
  | .hbm, ⟨59, _⟩ => ⟨S512x128, .f32⟩
  | .hbm, ⟨60, _⟩ => ⟨S_, .f32⟩
  | .hbm, ⟨61, _⟩ => ⟨S512x128, .f32⟩
  | .hbm, ⟨62, _⟩ => ⟨S512x128, .f32⟩
  | .hbm, ⟨63, _⟩ => ⟨S512x128, .f32⟩
  | .hbm, ⟨64, _⟩ => ⟨S_, .f32⟩
  | .hbm, ⟨65, _⟩ => ⟨S512x128, .f32⟩
  | .hbm, ⟨66, _⟩ => ⟨S512x128, .f32⟩
  | .hbm, ⟨67, _⟩ => ⟨S512x128, .f32⟩
  | .hbm, ⟨68, _⟩ => ⟨S_, .f32⟩
  | .hbm, ⟨69, _⟩ => ⟨S512x128, .f32⟩
  | .hbm, ⟨70, _⟩ => ⟨S512x128, .f32⟩
  | .hbm, ⟨71, _⟩ => ⟨S512x128, .f32⟩
  | .hbm, ⟨72, _⟩ => ⟨S_, .f32⟩
  | .hbm, ⟨73, _⟩ => ⟨S512x128, .f32⟩
  | .hbm, ⟨74, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_2 : Ref sig .tc := ⟨.hbm, 33, rfl⟩
abbrev main_call2_v0 : Ref sig .tc := ⟨.hbm, 34, rfl⟩
abbrev main_v11 : Ref sig .tc := ⟨.hbm, 35, rfl⟩
abbrev main_cst_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_cst_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_7 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_9 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_13 : Ref sig .tc := ⟨.hbm, 72, rfl⟩
abbrev main_v38 : Ref sig .tc := ⟨.hbm, 73, rfl⟩
abbrev main_v39 : Ref sig .tc := ⟨.hbm, 74, rfl⟩

abbrev nD : Nat := 1
abbrev τ : Topo := Topo.v7x

variable {F : FTy → Type} [FloatOps F]
-- ==== Kernel35.lean ====
abbrev S4096x1024 : Shape := ⟨2, ![4096, 1024]⟩
abbrev S2x2048x1024 : Shape := ⟨3, ![2, 2048, 1024]⟩
abbrev S8x128 : Shape := ⟨2, ![8, 128]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x2048x1024, .f32⟩
  | .hbm, ⟨2, _⟩ => ⟨S4096x1024, .f32⟩
  | .hbm, ⟨3, _⟩ => ⟨S4096x1024, .f32⟩
  | .hbm, ⟨4, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference35Ideal.lean ====
abbrev S4096x1024 : Shape := ⟨2, ![4096, 1024]⟩
abbrev S2x2048x1024 : Shape := ⟨3, ![2, 2048, 1024]⟩
abbrev S_ : Shape := ⟨0, ![]⟩
abbrev S4096 : Shape := ⟨1, ![4096]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x2048x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Mla.Reals.lean ====
/-
  The attention gradients over the real numbers. `S` is the scaled score of a query row and a key row, `E` its masked
  exponential against the row's largest score, `Z` the row's sum, `P = E / Z` the probability, `DP` the product of the
  incoming gradient with the value row, `O` the attention's output, and `DS` the gradient of the score. Two spellings of
  `DS` are shown equal: the one that subtracts the row sum of `dO * O` from `DP`, and the one that differentiates the
  quotient `E / Z`. Every array is a function of natural numbers (batch, head, row, lane).
-/
module

public import Mathlib.Analysis.SpecialFunctions.Exp
public import Mathlib.Analysis.SpecialFunctions.Log.Basic
public import Mathlib.Data.EReal.Basic
public import Mathlib.Data.EReal.Operations
public import Idealize.ShloMosaic.Lib.Pointwise

@[expose] public section

noncomputable section

namespace Cert.Mla

open Finset

/-- The six arrays the gradient reads, over the reals, with the score's scale. -/
structure Inp where
  qn : ℕ → ℕ → ℕ → ℕ → ℝ
  qp : ℕ → ℕ → ℕ → ℕ → ℝ
  kn : ℕ → ℕ → ℕ → ℕ → ℝ
  kp : ℕ → ℕ → ℕ → ℝ
  v : ℕ → ℕ → ℕ → ℕ → ℝ
  dd : ℕ → ℕ → ℕ → ℕ → ℝ
  sc : ℝ

namespace Inp

variable (I : Inp) (b h q k d : ℕ)

/-- The scaled score of query row `q` against key row `k`. -/
def S : ℝ := ((∑ d ∈ range 64, I.qn b h q d * I.kn b h k d) + ∑ d ∈ range 32, I.qp b h q d * I.kp b k d) * I.sc
/-- The largest score of query row `q` over the keys it sees. -/
def M : ℝ := (range (q + 1)).sup' ⟨0, by simp⟩ (I.S b h q)
/-- The masked exponential. -/
def E : ℝ := if k ≤ q then Real.exp (I.S b h q k - I.M b h q) else 0
/-- The row's sum of exponentials. -/
def Z : ℝ := ∑ k ∈ range 2048, I.E b h q k
/-- The probability. -/
def P : ℝ := I.E b h q k / I.Z b h q
/-- The gradient of the probability. -/
def DP : ℝ := ∑ d ∈ range 64, I.dd b h q d * I.v b h k d
/-- The attention's output. -/
def O : ℝ := ∑ k ∈ range 2048, I.P b h q k * I.v b h k d
/-- The row sum of the incoming gradient times the output. -/
def Del : ℝ := ∑ d ∈ range 64, I.dd b h q d * I.O b h q d
/-- The gradient of the score. -/
def DS : ℝ := I.P b h q k * (I.DP b h q k - I.Del b h q) * I.sc
/-- The row's log-sum-exp. -/
def Lse : ℝ := I.M b h q + Real.log (I.Z b h q)

theorem E_nonneg : 0 ≤ I.E b h q k := by
  unfold E; split
  · exact (Real.exp_pos _).le
  · exact le_rfl

theorem Z_pos (hq : q < 2048) : 0 < I.Z b h q := by
  unfold Z
  refine Finset.sum_pos' (fun k _ => I.E_nonneg b h q k) ⟨q, by simpa using hq, ?_⟩
  unfold E; rw [if_pos le_rfl]; exact Real.exp_pos _

theorem P_masked (hk : ¬ k ≤ q) : I.P b h q k = 0 := by unfold P E; rw [if_neg hk, zero_div]

theorem DS_masked (hk : ¬ k ≤ q) : I.DS b h q k = 0 := by unfold DS; rw [I.P_masked b h q k hk]; ring

/-- Below the mask the probability is the exponential of the score less the log-sum-exp. -/
theorem exp_sub_Lse (hq : q < 2048) (hk : k ≤ q) : Real.exp (I.S b h q k - I.Lse b h q) = I.P b h q k := by
  unfold P E Lse
  rw [if_pos hk, ← sub_sub, Real.exp_sub _ (Real.log _), Real.exp_log (I.Z_pos b h q hq)]

/-- The row sum of `dO * O` is the row sum of `P * DP`. -/
theorem Del_eq : I.Del b h q = ∑ k ∈ range 2048, I.P b h q k * I.DP b h q k := by
  unfold Del O DP
  simp only [Finset.mul_sum]
  rw [Finset.sum_comm]
  exact Finset.sum_congr rfl fun k _ => Finset.sum_congr rfl fun d _ => by ring

/-- The quotient rule's spelling of the score's gradient. -/
theorem DS_eq (hq : q < 2048) :
    (I.DP b h q k / I.Z b h q + -(∑ k ∈ range 2048, I.DP b h q k * (1 / (I.Z b h q * I.Z b h q)) * I.E b h q k)) * I.E b h q k * I.sc
      = I.DS b h q k := by
  have hZ := (I.Z_pos b h q hq).ne'
  have hs : (∑ k ∈ range 2048, I.DP b h q k * (1 / (I.Z b h q * I.Z b h q)) * I.E b h q k) = I.Del b h q / I.Z b h q := by
    rw [I.Del_eq, Finset.sum_div]
    refine Finset.sum_congr rfl fun k _ => ?_
    unfold P; field_simp
  rw [hs]; unfold DS P; field_simp; ring

end Inp

/-- A sum over the first `128 * (j + 1)` numbers splits off the last 128. -/
theorem sum_tile (f : ℕ → ℝ) (j : ℕ) : ∑ x ∈ range (128 * (j + 1)), f x = ∑ x ∈ range (128 * j), f x + ∑ i ∈ range 128, f (128 * j + i) := by
  rw [show 128 * (j + 1) = 128 * j + 128 by ring, Finset.sum_range_add]

/-- Coercion of a finite real sum over `Fin n`, the summand given by naturals. -/
theorem coe_sum_fin {n : ℕ} (f : ℕ → ℝ) (g : Fin n → EReal) (hg : ∀ i : Fin n, g i = ((f i.val : ℝ) : EReal)) :
    ∑ i, g i = ((∑ i ∈ range n, f i : ℝ) : EReal) := by
  rw [Finset.sum_congr rfl fun i _ => hg i, Finset.sum_range]
  induction (Finset.univ : Finset (Fin n)) using Finset.cons_induction with
  | empty => simp
  | cons a s ha ih => rw [Finset.sum_cons, Finset.sum_cons, ih, EReal.coe_add]

end Cert.Mla

end
-- ==== Proof.Mla.Tile.lean ====
/-
  One tile of the backward kernel over the extended reals: 128 query rows against 128 key rows of one head. The scores,
  their exponentials less the saved log-sum-exp, the score's gradient and the tile's five products, each read at an index
  and shown to be the real number Reals.lean names. The four heads of a grid point run the same operations; the equalities
  at the end say so.
-/
module

public import proofs.«01_k».proof.Proof.Gen.KernelIdeal.Skeleton
public import proofs.«01_k».proof.Proof.Mla.Reals
public import Idealize.ShloMosaic.Lib.Pointwise
public import Idealize.ShloMosaic.Lib.IdealHost
public import Idealize.ShloMosaic.Lib.WordCmp

@[expose] public section

set_option maxRecDepth 16384

noncomputable section

open Idealize.ShloMosaic Idealize.ShloMosaic.TcCoe Idealize.SL.Sem
open Cert.KernelIdeal Cert.KernelIdeal.Gen

namespace Cert.Mla

/-- The mask constant is the bottom element. -/
theorem mask_eq : Named.named (F := Ideal) Cert.KernelIdeal.κ "mask" (φ := .f32) 0xF149F2CA#32 = (⊥ : EReal) :=
  IdealRules.named_const.ideal_named_scalar _ _ _ _ rfl

/-- The scale as a real number. -/
def scale : ℝ := (Ideal.ofBits .f32 0x3DD105EC#32).toReal

theorem scale_eq : Ideal.ofBits .f32 0x3DD105EC#32 = (scale : EReal) := by
  unfold scale
  refine (EReal.coe_toReal ?_ ?_).symm <;> simp [Ideal.ofBits, Ideal.ieee, -EReal.coe_mul]

/-- The causal mask at an index. -/
theorem pay16_apply (qi j : ℕ) (hq : qi < 16) (hj : j < 16) (r c : Fin 128) :
    k0_pay16 (BitVec.ofNat 32 qi) (BitVec.ofNat 32 (128 * j)) (ix2 r c)
      = BitVec.ofBool (decide (128 * j + c.val ≤ 128 * qi + r.val)) := by
  pointwise [k0_pay16]
  have e1 : IntOp.addi (BitVec.ofNat 32 (128 * j)) (BitVec.ofNat 32 c.val) = BitVec.ofNat 32 (128 * j + c.val) := by
    rw [BitVec.ofNat_add]; rfl
  have e2 : IntOp.addi (Scalar.muli (BitVec.ofNat 32 qi) 128#32) (BitVec.ofNat 32 r.val) = BitVec.ofNat 32 (128 * qi + r.val) := by
    rw [BitVec.ofNat_add, Nat.mul_comm, BitVec.ofNat_mul]; rfl
  rw [e1, e2, Idealize.ShloMosaic.WordCmp.cmpi_sle_ofNat (by omega) (by omega)]

section Tile

variable (I : Inp) (b h qi j : ℕ) (hqi : qi < 16) (hj : j ≤ qi) (hsc : I.sc = scale)
  (q d : FVec Ideal S128x64 .f32) (qp : FVec Ideal S128x32 .f32) (l e : FVec Ideal S128x1 .f32)
  (kn v : FVec Ideal S128x64 .f32) (kp : FVec Ideal S128x32 .f32)
  (hq : ∀ (r : Fin 128) (x : Fin 64), q (ix2 r x) = (I.qn b h (128 * qi + r.val) x.val : EReal))
  (hd : ∀ (r : Fin 128) (x : Fin 64), d (ix2 r x) = (I.dd b h (128 * qi + r.val) x.val : EReal))
  (hqp : ∀ (r : Fin 128) (x : Fin 32), qp (ix2 r x) = (I.qp b h (128 * qi + r.val) x.val : EReal))
  (hl : ∀ r : Fin 128, l (ix2 r 0) = (I.Lse b h (128 * qi + r.val) : EReal))
  (he : ∀ r : Fin 128, e (ix2 r 0) = (I.Del b h (128 * qi + r.val) : EReal))
  (hkn : ∀ (r : Fin 128) (x : Fin 64), kn (ix2 r x) = (I.kn b h (128 * j + r.val) x.val : EReal))
  (hv : ∀ (r : Fin 128) (x : Fin 64), v (ix2 r x) = (I.v b h (128 * j + r.val) x.val : EReal))
  (hkp : ∀ (r : Fin 128) (x : Fin 32), kp (ix2 r x) = (I.kp b (128 * j + r.val) x.val : EReal))

/-- A head's scores. -/
abbrev tS (qi j : ℕ) (q : FVec Ideal S128x64 .f32) (qp : FVec Ideal S128x32 .f32) (kn : FVec Ideal S128x64 .f32)
    (kp : FVec Ideal S128x32 .f32) : FVec Ideal S128x128 .f32 :=
  k0_pay17 (F := Ideal) (BitVec.ofNat 32 qi) q qp kn kp (BitVec.ofNat 32 (128 * j))
/-- A head's probabilities. -/
abbrev tP (qi j : ℕ) (q : FVec Ideal S128x64 .f32) (qp : FVec Ideal S128x32 .f32) (l : FVec Ideal S128x1 .f32)
    (kn : FVec Ideal S128x64 .f32) (kp : FVec Ideal S128x32 .f32) : FVec Ideal S128x128 .f32 :=
  k0_pay23 (F := Ideal) l (tS qi j q qp kn kp)
/-- A head's score gradients. -/
abbrev tG (qi j : ℕ) (q d : FVec Ideal S128x64 .f32) (qp : FVec Ideal S128x32 .f32) (l e : FVec Ideal S128x1 .f32)
    (kn v : FVec Ideal S128x64 .f32) (kp : FVec Ideal S128x32 .f32) : FVec Ideal S128x128 .f32 :=
  k0_pay27 (F := Ideal) d l e v (tS qi j q qp kn kp)

include hqi hj hsc hq hqp hkn hkp in
theorem tS_apply (r c : Fin 128) : tS qi j q qp kn kp (ix2 r c)
    = if 128 * j + c.val ≤ 128 * qi + r.val then (I.S b h (128 * qi + r.val) (128 * j + c.val) : EReal) else ⊥ := by
  unfold tS
  pointwise [k0_pay17]
  rw [pay16_apply qi j hqi (by omega), mask_eq, scale_eq,
    coe_sum_fin (fun x => I.qn b h (128 * qi + r.val) x * I.kn b h (128 * j + c.val) x) _
      (fun x => by rw [hq, hkn, EReal.coe_mul]),
    coe_sum_fin (fun x => I.qp b h (128 * qi + r.val) x * I.kp b (128 * j + c.val) x) _
      (fun x => by rw [hqp, hkp, EReal.coe_mul]), ← EReal.coe_add, ← EReal.coe_mul, ← hsc]
  by_cases hc : 128 * j + c.val ≤ 128 * qi + r.val
  · rw [if_pos hc, decide_eq_true hc]; rfl
  · rw [if_neg hc, decide_eq_false hc]; rfl

include hqi hj hsc hq hqp hkn hkp hl in
theorem tP_apply (r c : Fin 128) : tP qi j q qp l kn kp (ix2 r c)
    = (I.P b h (128 * qi + r.val) (128 * j + c.val) : EReal) := by
  unfold tP
  pointwise [k0_pay23]
  rw [tS_apply I b h qi j hqi hj hsc q qp kn kp hq hqp hkn hkp, hl]
  split
  · next hc =>
    rw [← EReal.coe_sub, ← I.exp_sub_Lse b h _ _ (by omega) hc]; rfl
  · next hc =>
    rw [I.P_masked b h _ _ hc, EReal.bot_sub]; rfl

include hqi hj hsc hq hqp hkn hkp hl hd he hv in
theorem tG_apply (r c : Fin 128) : tG qi j q d qp l e kn v kp (ix2 r c)
    = (I.DS b h (128 * qi + r.val) (128 * j + c.val) : EReal) := by
  have hp := tP_apply I b h qi j hqi hj hsc q qp l kn kp hq hqp hl hkn hkp r c
  unfold tP at hp
  unfold tG
  pointwise [k0_pay27]
  rw [hp, he, scale_eq, coe_sum_fin (fun x => I.dd b h (128 * qi + r.val) x * I.v b h (128 * j + c.val) x) _
      (fun x => by rw [hd, hv, EReal.coe_mul]), ← EReal.coe_sub, ← EReal.coe_mul, ← EReal.coe_mul, ← hsc]
  rfl

end Tile

/-- A tile's product over its key rows, 64 lanes. -/
theorem pay33_apply (g : FVec Ideal S128x128 .f32) (a : FVec Ideal S128x64 .f32) (G : ℕ → ℕ → ℝ) (A : ℕ → ℕ → ℝ)
    (hg : ∀ r c : Fin 128, g (ix2 r c) = (G r.val c.val : EReal))
    (ha : ∀ (r : Fin 128) (x : Fin 64), a (ix2 r x) = (A r.val x.val : EReal)) (r : Fin 128) (x : Fin 64) :
    k0_pay33 (F := Ideal) a g (ix2 r x) = ((∑ i ∈ Finset.range 128, G r.val i * A i x.val : ℝ) : EReal) := by
  pointwise [k0_pay33]
  exact coe_sum_fin (fun i => G r.val i * A i x.val) _ fun i => by rw [hg, ha, EReal.coe_mul]

/-- A tile's product over its key rows, 32 lanes. -/
theorem pay37_apply (g : FVec Ideal S128x128 .f32) (a : FVec Ideal S128x32 .f32) (G : ℕ → ℕ → ℝ) (A : ℕ → ℕ → ℝ)
    (hg : ∀ r c : Fin 128, g (ix2 r c) = (G r.val c.val : EReal))
    (ha : ∀ (r : Fin 128) (x : Fin 32), a (ix2 r x) = (A r.val x.val : EReal)) (r : Fin 128) (x : Fin 32) :
    k0_pay37 (F := Ideal) a g (ix2 r x) = ((∑ i ∈ Finset.range 128, G r.val i * A i x.val : ℝ) : EReal) := by
  pointwise [k0_pay37]
  exact coe_sum_fin (fun i => G r.val i * A i x.val) _ fun i => by rw [hg, ha, EReal.coe_mul]

/-- A tile's product over its query rows, 64 lanes. -/
theorem pay41_apply (g : FVec Ideal S128x128 .f32) (a : FVec Ideal S128x64 .f32) (G : ℕ → ℕ → ℝ) (A : ℕ → ℕ → ℝ)
    (hg : ∀ r c : Fin 128, g (ix2 r c) = (G r.val c.val : EReal))
    (ha : ∀ (r : Fin 128) (x : Fin 64), a (ix2 r x) = (A r.val x.val : EReal)) (r : Fin 128) (x : Fin 64) :
    k0_pay41 (F := Ideal) a g (ix2 r x) = ((∑ i ∈ Finset.range 128, G i r.val * A i x.val : ℝ) : EReal) := by
  pointwise [k0_pay41]
  exact coe_sum_fin (fun i => G i r.val * A i x.val) _ fun i => by rw [hg, ha, EReal.coe_mul]

/-- A tile's product over its query rows, 32 lanes. -/
theorem pay51_apply (g : FVec Ideal S128x128 .f32) (a : FVec Ideal S128x32 .f32) (G : ℕ → ℕ → ℝ) (A : ℕ → ℕ → ℝ)
    (hg : ∀ r c : Fin 128, g (ix2 r c) = (G r.val c.val : EReal))
    (ha : ∀ (r : Fin 128) (x : Fin 32), a (ix2 r x) = (A r.val x.val : EReal)) (r : Fin 128) (x : Fin 32) :
    k0_pay51 (F := Ideal) a g (ix2 r x) = ((∑ i ∈ Finset.range 128, G i r.val * A i x.val : ℝ) : EReal) := by
  pointwise [k0_pay51]
  exact coe_sum_fin (fun i => G i r.val * A i x.val) _ fun i => by rw [hg, ha, EReal.coe_mul]

theorem pay45_eq (p : FVec Ideal S128x128 .f32) (a : FVec Ideal S128x64 .f32) : k0_pay45 a p = k0_pay41 a p := rfl

/-- The stores: the block's old value plus the tile's. -/
theorem pay55_apply (a : FVec Ideal S128x64 .f32) (w : Vec Ideal S1x1x128x64 .f32) (r : Fin 128) (x : Fin 64) :
    k0_pay55 (F := Ideal) a w (ix4 0 0 r x) = w (ix4 0 0 r x) + a (ix2 r x) := by pointwise [k0_pay55]
theorem pay56_apply (a : FVec Ideal S128x32 .f32) (w : Vec Ideal S1x1x128x32 .f32) (r : Fin 128) (x : Fin 32) :
    k0_pay56 (F := Ideal) a w (ix4 0 0 r x) = w (ix4 0 0 r x) + a (ix2 r x) := by pointwise [k0_pay56]
theorem pay3_apply (a1 a2 a3 a4 : FVec Ideal S128x32 .f32) (w : Vec Ideal S1x1x128x32 .f32) (r : Fin 128) (x : Fin 32) :
    k0_pay3 (F := Ideal) a1 a2 a3 a4 w (ix4 0 0 r x)
      = w (ix4 0 0 r x) + (((a1 (ix2 r x) + a2 (ix2 r x)) + a3 (ix2 r x)) + a4 (ix2 r x)) := by pointwise [k0_pay3]
theorem pay7_apply (w : Vec Ideal S1x1x128x64 .f32) (r : Fin 128) (x : Fin 64) :
    k0_pay7 (F := Ideal) w (ix2 r x) = w (ix4 0 0 r x) := by pointwise [k0_pay7]

theorem pay15_apply (w : Vec Ideal S1x1x128x32 .f32) (r : Fin 128) (x : Fin 32) :
    k0_pay15 (F := Ideal) w (ix2 r x) = w (ix4 0 0 r x) := by pointwise [k0_pay15]

/-! The four heads run one text. -/
theorem pay58_eq (a : FVec Ideal S128x64 .f32) (w : Vec Ideal S1x1x128x64 .f32) : k0_pay58 (k0_pay57 a w) = k0_pay55 a w := rfl
theorem pay32_eq (arg2 v105 : BitVec 32) (v15 v31 v89 v101 : FVec Ideal S128x64 .f32) (v23 v104 : FVec Ideal S128x32 .f32)
    (v39 v59 : FVec Ideal S128x1 .f32) :
    k0_pay32 (k0_pay30 v31 v39 v59 v101 (k0_pay16 arg2 v105) (k0_pay20 v15 v89) (k0_pay21 v23) (k0_pay22 v104)) k0_pay31
      = k0_pay27 v31 v39 v59 v101 (k0_pay17 arg2 v15 v23 v89 v104 v105) := rfl

end Cert.Mla

end
-- ==== Proof.Mla.Rows.lean ====
/-
  Row blocks of a rank-4 buffer: a block of 128 rows of one head, read at an index and written at one. A trip of the
  kernel's loop adds a tile to such a block of every head.
-/
module

public import Idealize.ShloMosaic.Lib.Pointwise
public import Idealize.ShloMosaic.Lib.Pipeline.Value
public import Idealize.ShloMosaic.Lib.WritesUnit
public import Idealize.ShloMosaic.Lib.Pipeline.ValueKit.Tiles

@[expose] public section

noncomputable section

open Idealize.ShloMosaic

namespace Cert.Mla

variable {sig : RefSig} {κ : Kind} {sp : Space} {e : EltTy} {Val : EltTy → Type} {H N W : ℕ}

/-- A block of 128 rows of head `hn` from row `ρ` on, read at an index. -/
theorem readAt_rows (v : View sig κ sp ⟨4, ![1, H, N, W]⟩ e) (f : v.ty.Contents Val) (o : Fin 4 → ℕ) (hn ρ : ℕ)
    (eo : o = ![0, hn, ρ, 0]) (inb : ∀ a : Fin 4, o a + (![1, 1, 128, W] : Fin 4 → ℕ) a ≤ (![1, H, N, W] : Fin 4 → ℕ) a)
    (r : Fin 128) (x : Fin W) (hh : hn < H) (hr : ρ + r.val < N) :
    v.readAt Val (Rect.unit (s := ⟨4, ![1, H, N, W]⟩) o ![1, 1, 128, W] inb).toLoadRect f (ix4 0 0 r x)
      = v.read Val f (ix4 0 ⟨hn, hh⟩ ⟨ρ + r.val, hr⟩ x) := by
  subst eo
  rw [View.readAt_eq_ld]
  refine View.ld_unit_apply_of _ _ _ _ _ _ fun a => ?_
  fin_cases a <;> simp [ix4]

/-- A block of 128 rows of head `hn` from row `ρ` on, written last: the index it holds reads the block, any other what was
there before. -/
theorem read_rows (v : View sig κ sp ⟨4, ![1, H, N, W]⟩ e) (f : v.ty.Contents Val) (o : Fin 4 → ℕ) (hn ρ : ℕ)
    (eo : o = ![0, hn, ρ, 0]) (inb : ∀ a : Fin 4, o a + (![1, 1, 128, W] : Fin 4 → ℕ) a ≤ (![1, H, N, W] : Fin 4 → ℕ) a)
    (w : (⟨4, ![1, 1, 128, W]⟩ : Shape).Idx → Val e) (L : List (View.Piece Val ⟨4, ![1, H, N, W]⟩ e))
    (hh : Fin H) (y : Fin N) (x : Fin W) :
    v.read Val (v.writes Val f ((⟨Rect.unit (s := ⟨4, ![1, H, N, W]⟩) o ![1, 1, 128, W] inb, w⟩ : View.Piece Val _ e) :: L)) (ix4 0 hh y x)
      = if h : hh.val = hn ∧ ρ ≤ y.val ∧ y.val < ρ + 128 then w (ix4 0 0 ⟨y.val - ρ, by omega⟩ x)
        else v.read Val (v.writes Val f L) (ix4 0 hh y x) := by
  split
  · next h =>
    refine View.read_writes_cons_unit_of_mem v f inb w L _ _ eo fun a => ?_
    fin_cases a <;> simp [ix4] <;> omega
  · next h =>
    by_cases h1 : hh.val = hn
    · refine View.read_writes_cons_unit_of_not_mem v f inb w L _ eo (2 : Fin 4) ?_
      simp [ix4]; omega
    · refine View.read_writes_cons_unit_of_not_mem v f inb w L _ eo (1 : Fin 4) ?_
      simp [ix4]; omega

/-- One block per head, four heads. -/
theorem read_heads (v : View sig κ sp ⟨4, ![1, 4, N, W]⟩ e) (f : v.ty.Contents Val) (o0 o1 o2 o3 : Fin 4 → ℕ) (ρ : ℕ)
    (e0 : o0 = ![0, 0, ρ, 0]) (e1 : o1 = ![0, 1, ρ, 0]) (e2 : o2 = ![0, 2, ρ, 0]) (e3 : o3 = ![0, 3, ρ, 0])
    (i0 : ∀ a : Fin 4, o0 a + (![1, 1, 128, W] : Fin 4 → ℕ) a ≤ (![1, 4, N, W] : Fin 4 → ℕ) a)
    (i1 : ∀ a : Fin 4, o1 a + (![1, 1, 128, W] : Fin 4 → ℕ) a ≤ (![1, 4, N, W] : Fin 4 → ℕ) a)
    (i2 : ∀ a : Fin 4, o2 a + (![1, 1, 128, W] : Fin 4 → ℕ) a ≤ (![1, 4, N, W] : Fin 4 → ℕ) a)
    (i3 : ∀ a : Fin 4, o3 a + (![1, 1, 128, W] : Fin 4 → ℕ) a ≤ (![1, 4, N, W] : Fin 4 → ℕ) a)
    (w0 w1 w2 w3 : (⟨4, ![1, 1, 128, W]⟩ : Shape).Idx → Val e)
    (hh : Fin 4) (y : Fin N) (x : Fin W) :
    v.read Val (v.writes Val f
        [(⟨Rect.unit (s := ⟨4, ![1, 4, N, W]⟩) o3 ![1, 1, 128, W] i3, w3⟩ : View.Piece Val _ e),
         (⟨Rect.unit (s := ⟨4, ![1, 4, N, W]⟩) o2 ![1, 1, 128, W] i2, w2⟩ : View.Piece Val _ e),
         (⟨Rect.unit (s := ⟨4, ![1, 4, N, W]⟩) o1 ![1, 1, 128, W] i1, w1⟩ : View.Piece Val _ e),
         (⟨Rect.unit (s := ⟨4, ![1, 4, N, W]⟩) o0 ![1, 1, 128, W] i0, w0⟩ : View.Piece Val _ e)]) (ix4 0 hh y x)
      = if h : ρ ≤ y.val ∧ y.val < ρ + 128 then (![w0, w1, w2, w3] : Fin 4 → _) hh (ix4 0 0 ⟨y.val - ρ, by omega⟩ x)
        else v.read Val f (ix4 0 hh y x) := by
  rw [read_rows v f o3 3 ρ e3 i3, read_rows v f o2 2 ρ e2 i2, read_rows v f o1 1 ρ e1 i1, read_rows v f o0 0 ρ e0 i0,
    View.writes_nil]
  by_cases h : ρ ≤ y.val ∧ y.val < ρ + 128
  · rw [dif_pos h]
    fin_cases hh <;> simp [h]
  · rw [dif_neg h]
    simp [h]

end Cert.Mla

end
-- ==== Proof.Mla.Words.lean ====
/-
  The kernel's integer words at a grid point: the number of trips of its two loops and the rows a trip addresses.
-/
module

public import proofs.«01_k».proof.Proof.Gen.KernelIdeal.Skeleton

@[expose] public section

set_option maxRecDepth 16384

noncomputable section

open Idealize.ShloMosaic Idealize.ShloMosaic.TcCoe Idealize.SL.Sem
open Cert.KernelIdeal Cert.KernelIdeal.Gen

namespace Cert.Mla

/-- The loop over key blocks runs up to the query block's own. -/
theorem t1_trips (i : grid0.Coords) : (k0_t1_loop i).trips = (i 2).val + 1 := by
  have key : ∀ n : Fin 16, (Scf.Loop.mk 0#32 (Scalar.addi 0#32 (Scalar.muli (Scalar.divsi (Scalar.subi
      (Scalar.addi (BitVec.ofNat 32 n.val) 1#32) 0#32) 1#32) 1#32)) 1#32).trips = n.val + 1 := by decide +kernel
  exact key (i 2)

/-- The loop over what is left runs no trip. -/
theorem t2_trips (i : grid0.Coords) : (k0_t2_loop i).trips = 0 := by
  have key : ∀ n : Fin 16, (Scf.Loop.mk (Scalar.addi 0#32 (Scalar.muli (Scalar.divsi (Scalar.subi
      (Scalar.addi (BitVec.ofNat 32 n.val) 1#32) 0#32) 1#32) 1#32))
      (Scalar.addi 0#32 (Scalar.subi (Scalar.addi (BitVec.ofNat 32 n.val) 1#32) 0#32)) 1#32).trips = 0 := by decide +kernel
  exact key (i 2)

/-- A trip's first key row, as a word. -/
theorem row_word (k : ℕ) (hk : k < 16) : Scalar.muli (Scf.iv 0#32 1#32 k) 128#32 = BitVec.ofNat 32 (128 * k) := by
  have key : ∀ n : Fin 16, Scalar.muli (Scf.iv 0#32 1#32 n.val) 128#32 = BitVec.ofNat 32 (128 * n.val) := by decide +kernel
  exact key ⟨k, hk⟩

theorem row_nat (k : ℕ) (hk : k < 16) : (Scalar.indexCast (Scalar.muli (Scf.iv 0#32 1#32 k) 128#32)).toNat = 128 * k := by
  have key : ∀ n : Fin 16, (Scalar.indexCast (Scalar.muli (Scf.iv 0#32 1#32 n.val) 128#32)).toNat = 128 * n.val := by decide +kernel
  exact key ⟨k, hk⟩

variable (i : grid0.Coords) (k : Fin (k0_t1_loop i).trips)

theorem trip_le : k.val ≤ (i 2).val := Nat.lt_succ_iff.mp (lt_of_lt_of_eq k.isLt (t1_trips i))
theorem trip_lt : k.val < 16 := lt_of_le_of_lt (trip_le i k) (i 2).isLt

theorem off1_eq : k0_off1 i k = ![0, 0, 128 * k.val, 0] := by unfold k0_off1; dsimp only; rw [row_nat _ (trip_lt i k)]
theorem off2_eq : k0_off2 i k = ![0, 1, 128 * k.val, 0] := by unfold k0_off2; dsimp only; rw [row_nat _ (trip_lt i k)]
theorem off3_eq : k0_off3 i k = ![0, 2, 128 * k.val, 0] := by unfold k0_off3; dsimp only; rw [row_nat _ (trip_lt i k)]
theorem off4_eq : k0_off4 i k = ![0, 3, 128 * k.val, 0] := by unfold k0_off4; dsimp only; rw [row_nat _ (trip_lt i k)]
theorem off5_eq : k0_off5 i k = ![0, 0, 128 * k.val, 0] := by unfold k0_off5; dsimp only; rw [row_nat _ (trip_lt i k)]

end Cert.Mla

end
-- ==== Proof.Mla.Trip.lean ====
/-
  One trip of the kernel's loop over key rows. The pieces a trip stores into the five outputs, head by head, are the tiles
  of Tile.lean added to what the outputs held; each output after the trip is read at an index.
-/
module

public import proofs.«01_k».proof.Proof.Gen.KernelIdeal.Loops
public import proofs.«01_k».proof.Proof.Mla.Tile
public import proofs.«01_k».proof.Proof.Mla.Rows
public import proofs.«01_k».proof.Proof.Mla.Words

@[expose] public section

set_option maxRecDepth 16384

noncomputable section

open Idealize.ShloMosaic Idealize.ShloMosaic.TcCoe Idealize.SL.Sem
open Cert.KernelIdeal Cert.KernelIdeal.Gen

namespace Cert.Mla

variable (𝒱 : Variants)
  (c : Dev nD)
  (bd : Option 𝒱.V)
  (i : grid0.Coords)
  (arg3 : Memref sig .tc .vmem S1x4x128x64 .f32)
  (harg3 : arg3.IsWhole)
  (arg4 : Memref sig .tc .vmem S1x4x128x32 .f32)
  (harg4 : arg4.IsWhole)
  (arg5 : Memref sig .tc .vmem S1x4x2048x64 .f32)
  (harg5 : arg5.IsWhole)
  (arg6 : Memref sig .tc .vmem S1x1x2048x32 .f32)
  (harg6 : arg6.IsWhole)
  (arg7 : Memref sig .tc .vmem S1x4x2048x64 .f32)
  (harg7 : arg7.IsWhole)
  (arg8 : Memref sig .tc .vmem S1x4x128x64 .f32)
  (harg8 : arg8.IsWhole)
  (arg9 : Memref sig .tc .vmem S1x4x128x1 .f32)
  (harg9 : arg9.IsWhole)
  (arg10 : Memref sig .tc .vmem S1x4x128x64 .f32)
  (harg10 : arg10.IsWhole)
  (arg11 : Memref sig .tc .vmem S1x4x128x64 .f32)
  (harg11 : arg11.IsWhole)
  (arg12 : Memref sig .tc .vmem S1x4x128x32 .f32)
  (harg12 : arg12.IsWhole)
  (arg13 : Memref sig .tc .vmem S1x4x2048x64 .f32)
  (harg13 : arg13.IsWhole)
  (arg14 : Memref sig .tc .vmem S1x1x2048x32 .f32)
  (harg14 : arg14.IsWhole)
  (arg15 : Memref sig .tc .vmem S1x4x2048x64 .f32)
  (harg15 : arg15.IsWhole)
  (arg2 : BitVec 32)
  (v9 : FVec Ideal S128x64 .f32)
  (v11 : FVec Ideal S128x64 .f32)
  (v13 : FVec Ideal S128x64 .f32)
  (v15 : FVec Ideal S128x64 .f32)
  (v17 : FVec Ideal S128x32 .f32)
  (v19 : FVec Ideal S128x32 .f32)
  (v21 : FVec Ideal S128x32 .f32)
  (v23 : FVec Ideal S128x32 .f32)
  (v25 : FVec Ideal S128x64 .f32)
  (v27 : FVec Ideal S128x64 .f32)
  (v29 : FVec Ideal S128x64 .f32)
  (v31 : FVec Ideal S128x64 .f32)
  (v33 : FVec Ideal S128x1 .f32)
  (v35 : FVec Ideal S128x1 .f32)
  (v37 : FVec Ideal S128x1 .f32)
  (v39 : FVec Ideal S128x1 .f32)
  (v44 : FVec Ideal S128x1 .f32)
  (v49 : FVec Ideal S128x1 .f32)
  (v54 : FVec Ideal S128x1 .f32)
  (v59 : FVec Ideal S128x1 .f32)
  (X_arg5 : BufTy.Contents (Elt Ideal) arg5.view.ty)
  (X_arg6 : BufTy.Contents (Elt Ideal) arg6.view.ty)
  (X_arg7 : BufTy.Contents (Elt Ideal) arg7.view.ty)
  (k : Fin (k0_t1_loop i).trips) (acc : BitVec 32)
  (f11 : BufTy.Contents (Elt Ideal) arg11.view.ty) (f12 : BufTy.Contents (Elt Ideal) arg12.view.ty)
  (f13 : BufTy.Contents (Elt Ideal) arg13.view.ty) (f14 : BufTy.Contents (Elt Ideal) arg14.view.ty)
  (f15 : BufTy.Contents (Elt Ideal) arg15.view.ty)

/-- The first key row of a trip, as a word. -/
abbrev row0 : BitVec 32 := Scalar.muli (Scf.iv 0#32 1#32 k.val) 128#32

/-- Head 0's key rows of the trip. -/
abbrev kn0 : FVec Ideal S128x64 .f32 := k0_pay7 (F := Ideal) (arg5.view.readAt (Elt Ideal) (Rect.unit (s := S1x4x2048x64) (k0_off1 i k) S1x1x128x64.size (k0_off1_inb i k)).toLoadRect X_arg5)
/-- Head 0's value rows of the trip. -/
abbrev vv0 : FVec Ideal S128x64 .f32 := k0_pay7 (F := Ideal) (arg7.view.readAt (Elt Ideal) (Rect.unit (s := S1x4x2048x64) (k0_off1 i k) S1x1x128x64.size (k0_off1_inb i k)).toLoadRect X_arg7)
/-- Head 1's key rows of the trip. -/
abbrev kn1 : FVec Ideal S128x64 .f32 := k0_pay7 (F := Ideal) (arg5.view.readAt (Elt Ideal) (Rect.unit (s := S1x4x2048x64) (k0_off2 i k) S1x1x128x64.size (k0_off2_inb i k)).toLoadRect X_arg5)
/-- Head 1's value rows of the trip. -/
abbrev vv1 : FVec Ideal S128x64 .f32 := k0_pay7 (F := Ideal) (arg7.view.readAt (Elt Ideal) (Rect.unit (s := S1x4x2048x64) (k0_off2 i k) S1x1x128x64.size (k0_off2_inb i k)).toLoadRect X_arg7)
/-- Head 2's key rows of the trip. -/
abbrev kn2 : FVec Ideal S128x64 .f32 := k0_pay7 (F := Ideal) (arg5.view.readAt (Elt Ideal) (Rect.unit (s := S1x4x2048x64) (k0_off3 i k) S1x1x128x64.size (k0_off3_inb i k)).toLoadRect X_arg5)
/-- Head 2's value rows of the trip. -/
abbrev vv2 : FVec Ideal S128x64 .f32 := k0_pay7 (F := Ideal) (arg7.view.readAt (Elt Ideal) (Rect.unit (s := S1x4x2048x64) (k0_off3 i k) S1x1x128x64.size (k0_off3_inb i k)).toLoadRect X_arg7)
/-- Head 3's key rows of the trip. -/
abbrev kn3 : FVec Ideal S128x64 .f32 := k0_pay7 (F := Ideal) (arg5.view.readAt (Elt Ideal) (Rect.unit (s := S1x4x2048x64) (k0_off4 i k) S1x1x128x64.size (k0_off4_inb i k)).toLoadRect X_arg5)
/-- Head 3's value rows of the trip. -/
abbrev vv3 : FVec Ideal S128x64 .f32 := k0_pay7 (F := Ideal) (arg7.view.readAt (Elt Ideal) (Rect.unit (s := S1x4x2048x64) (k0_off4 i k) S1x1x128x64.size (k0_off4_inb i k)).toLoadRect X_arg7)
/-- The shared rotary key rows of the trip. -/
abbrev kpr : FVec Ideal S128x32 .f32 := k0_pay15 (F := Ideal) (arg6.view.readAt (Elt Ideal) (Rect.unit (s := S1x1x2048x32) (k0_off5 i k) S1x1x128x32.size (k0_off5_inb i k)).toLoadRect X_arg6)

/-- The pieces a trip stores into the gradient of the queries. -/
theorem trip11 : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.1 acc f11 f12 f13 f14 f15
    = [⟨Rect.unit (s := S1x4x128x64) ![0, 3, 0, 0] S1x1x128x64.size (by decide), k0_pay55 (k0_pay33 (kn3 i arg5 X_arg5 k) (k0_pay27 (F := Ideal) v31 v39 v59 (vv3 i arg7 X_arg7 k) (k0_pay17 (F := Ideal) arg2 v15 v23 (kn3 i arg5 X_arg5 k) (kpr i arg6 X_arg6 k) (row0 i k)))) (arg11.view.readAt (Elt Ideal) (Rect.unit (s := S1x4x128x64) ![0, 3, 0, 0] S1x1x128x64.size (by decide)).toLoadRect f11)⟩,
       ⟨Rect.unit (s := S1x4x128x64) ![0, 2, 0, 0] S1x1x128x64.size (by decide), k0_pay55 (k0_pay33 (kn2 i arg5 X_arg5 k) (k0_pay27 (F := Ideal) v29 v37 v54 (vv2 i arg7 X_arg7 k) (k0_pay17 (F := Ideal) arg2 v13 v21 (kn2 i arg5 X_arg5 k) (kpr i arg6 X_arg6 k) (row0 i k)))) (arg11.view.readAt (Elt Ideal) (Rect.unit (s := S1x4x128x64) ![0, 2, 0, 0] S1x1x128x64.size (by decide)).toLoadRect f11)⟩,
       ⟨Rect.unit (s := S1x4x128x64) ![0, 1, 0, 0] S1x1x128x64.size (by decide), k0_pay55 (k0_pay33 (kn1 i arg5 X_arg5 k) (k0_pay27 (F := Ideal) v27 v35 v49 (vv1 i arg7 X_arg7 k) (k0_pay17 (F := Ideal) arg2 v11 v19 (kn1 i arg5 X_arg5 k) (kpr i arg6 X_arg6 k) (row0 i k)))) (arg11.view.readAt (Elt Ideal) (Rect.unit (s := S1x4x128x64) ![0, 1, 0, 0] S1x1x128x64.size (by decide)).toLoadRect f11)⟩,
       ⟨Rect.unit (s := S1x4x128x64) ![0, 0, 0, 0] S1x1x128x64.size (by decide), k0_pay55 (k0_pay33 (kn0 i arg5 X_arg5 k) (k0_pay27 (F := Ideal) v25 v33 v44 (vv0 i arg7 X_arg7 k) (k0_pay17 (F := Ideal) arg2 v9 v17 (kn0 i arg5 X_arg5 k) (kpr i arg6 X_arg6 k) (row0 i k)))) (arg11.view.readAt (Elt Ideal) (Rect.unit (s := S1x4x128x64) ![0, 0, 0, 0] S1x1x128x64.size (by decide)).toLoadRect f11)⟩] := by
  unfold trip_k0_t1; rfl

/-- The pieces a trip stores into the gradient of the rotary queries. -/
theorem trip12 : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.2.1 acc f11 f12 f13 f14 f15
    = [⟨Rect.unit (s := S1x4x128x32) ![0, 3, 0, 0] S1x1x128x32.size (by decide), k0_pay56 (k0_pay37 (kpr i arg6 X_arg6 k) (k0_pay27 (F := Ideal) v31 v39 v59 (vv3 i arg7 X_arg7 k) (k0_pay17 (F := Ideal) arg2 v15 v23 (kn3 i arg5 X_arg5 k) (kpr i arg6 X_arg6 k) (row0 i k)))) (arg12.view.readAt (Elt Ideal) (Rect.unit (s := S1x4x128x32) ![0, 3, 0, 0] S1x1x128x32.size (by decide)).toLoadRect f12)⟩,
       ⟨Rect.unit (s := S1x4x128x32) ![0, 2, 0, 0] S1x1x128x32.size (by decide), k0_pay56 (k0_pay37 (kpr i arg6 X_arg6 k) (k0_pay27 (F := Ideal) v29 v37 v54 (vv2 i arg7 X_arg7 k) (k0_pay17 (F := Ideal) arg2 v13 v21 (kn2 i arg5 X_arg5 k) (kpr i arg6 X_arg6 k) (row0 i k)))) (arg12.view.readAt (Elt Ideal) (Rect.unit (s := S1x4x128x32) ![0, 2, 0, 0] S1x1x128x32.size (by decide)).toLoadRect f12)⟩,
       ⟨Rect.unit (s := S1x4x128x32) ![0, 1, 0, 0] S1x1x128x32.size (by decide), k0_pay56 (k0_pay37 (kpr i arg6 X_arg6 k) (k0_pay27 (F := Ideal) v27 v35 v49 (vv1 i arg7 X_arg7 k) (k0_pay17 (F := Ideal) arg2 v11 v19 (kn1 i arg5 X_arg5 k) (kpr i arg6 X_arg6 k) (row0 i k)))) (arg12.view.readAt (Elt Ideal) (Rect.unit (s := S1x4x128x32) ![0, 1, 0, 0] S1x1x128x32.size (by decide)).toLoadRect f12)⟩,
       ⟨Rect.unit (s := S1x4x128x32) ![0, 0, 0, 0] S1x1x128x32.size (by decide), k0_pay56 (k0_pay37 (kpr i arg6 X_arg6 k) (k0_pay27 (F := Ideal) v25 v33 v44 (vv0 i arg7 X_arg7 k) (k0_pay17 (F := Ideal) arg2 v9 v17 (kn0 i arg5 X_arg5 k) (kpr i arg6 X_arg6 k) (row0 i k)))) (arg12.view.readAt (Elt Ideal) (Rect.unit (s := S1x4x128x32) ![0, 0, 0, 0] S1x1x128x32.size (by decide)).toLoadRect f12)⟩] := by
  unfold trip_k0_t1; rfl

/-- The pieces a trip stores into the gradient of the keys. -/
theorem trip13 : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.2.2.1 acc f11 f12 f13 f14 f15
    = [⟨Rect.unit (s := S1x4x2048x64) (k0_off4 i k) S1x1x128x64.size (k0_off4_inb i k), k0_pay55 (k0_pay41 v15 (k0_pay27 (F := Ideal) v31 v39 v59 (vv3 i arg7 X_arg7 k) (k0_pay17 (F := Ideal) arg2 v15 v23 (kn3 i arg5 X_arg5 k) (kpr i arg6 X_arg6 k) (row0 i k)))) (arg13.view.readAt (Elt Ideal) (Rect.unit (s := S1x4x2048x64) (k0_off4 i k) S1x1x128x64.size (k0_off4_inb i k)).toLoadRect f13)⟩,
       ⟨Rect.unit (s := S1x4x2048x64) (k0_off3 i k) S1x1x128x64.size (k0_off3_inb i k), k0_pay55 (k0_pay41 v13 (k0_pay27 (F := Ideal) v29 v37 v54 (vv2 i arg7 X_arg7 k) (k0_pay17 (F := Ideal) arg2 v13 v21 (kn2 i arg5 X_arg5 k) (kpr i arg6 X_arg6 k) (row0 i k)))) (arg13.view.readAt (Elt Ideal) (Rect.unit (s := S1x4x2048x64) (k0_off3 i k) S1x1x128x64.size (k0_off3_inb i k)).toLoadRect f13)⟩,
       ⟨Rect.unit (s := S1x4x2048x64) (k0_off2 i k) S1x1x128x64.size (k0_off2_inb i k), k0_pay55 (k0_pay41 v11 (k0_pay27 (F := Ideal) v27 v35 v49 (vv1 i arg7 X_arg7 k) (k0_pay17 (F := Ideal) arg2 v11 v19 (kn1 i arg5 X_arg5 k) (kpr i arg6 X_arg6 k) (row0 i k)))) (arg13.view.readAt (Elt Ideal) (Rect.unit (s := S1x4x2048x64) (k0_off2 i k) S1x1x128x64.size (k0_off2_inb i k)).toLoadRect f13)⟩,
       ⟨Rect.unit (s := S1x4x2048x64) (k0_off1 i k) S1x1x128x64.size (k0_off1_inb i k), k0_pay55 (k0_pay41 v9 (k0_pay27 (F := Ideal) v25 v33 v44 (vv0 i arg7 X_arg7 k) (k0_pay17 (F := Ideal) arg2 v9 v17 (kn0 i arg5 X_arg5 k) (kpr i arg6 X_arg6 k) (row0 i k)))) (arg13.view.readAt (Elt Ideal) (Rect.unit (s := S1x4x2048x64) (k0_off1 i k) S1x1x128x64.size (k0_off1_inb i k)).toLoadRect f13)⟩] := by
  unfold trip_k0_t1; rfl

/-- The piece a trip stores into the gradient of the rotary keys. -/
theorem trip14 : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.2.2.2.1 acc f11 f12 f13 f14 f15
    = [⟨Rect.unit (s := S1x1x2048x32) (k0_off5 i k) S1x1x128x32.size (k0_off5_inb i k), k0_pay3 (k0_pay51 v17 (k0_pay27 (F := Ideal) v25 v33 v44 (vv0 i arg7 X_arg7 k) (k0_pay17 (F := Ideal) arg2 v9 v17 (kn0 i arg5 X_arg5 k) (kpr i arg6 X_arg6 k) (row0 i k)))) (k0_pay51 v19 (k0_pay27 (F := Ideal) v27 v35 v49 (vv1 i arg7 X_arg7 k) (k0_pay17 (F := Ideal) arg2 v11 v19 (kn1 i arg5 X_arg5 k) (kpr i arg6 X_arg6 k) (row0 i k)))) (k0_pay51 v21 (k0_pay27 (F := Ideal) v29 v37 v54 (vv2 i arg7 X_arg7 k) (k0_pay17 (F := Ideal) arg2 v13 v21 (kn2 i arg5 X_arg5 k) (kpr i arg6 X_arg6 k) (row0 i k)))) (k0_pay51 v23 (k0_pay27 (F := Ideal) v31 v39 v59 (vv3 i arg7 X_arg7 k) (k0_pay17 (F := Ideal) arg2 v15 v23 (kn3 i arg5 X_arg5 k) (kpr i arg6 X_arg6 k) (row0 i k)))) (arg14.view.readAt (Elt Ideal) (Rect.unit (s := S1x1x2048x32) (k0_off5 i k) S1x1x128x32.size (k0_off5_inb i k)).toLoadRect f14)⟩] := by
  unfold trip_k0_t1; rfl

/-- The pieces a trip stores into the gradient of the values. -/
theorem trip15 : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.2.2.2.2.1 acc f11 f12 f13 f14 f15
    = [⟨Rect.unit (s := S1x4x2048x64) (k0_off4 i k) S1x1x128x64.size (k0_off4_inb i k), k0_pay55 (k0_pay41 v31 (k0_pay23 (F := Ideal) v39 (k0_pay17 (F := Ideal) arg2 v15 v23 (kn3 i arg5 X_arg5 k) (kpr i arg6 X_arg6 k) (row0 i k)))) (arg15.view.readAt (Elt Ideal) (Rect.unit (s := S1x4x2048x64) (k0_off4 i k) S1x1x128x64.size (k0_off4_inb i k)).toLoadRect f15)⟩,
       ⟨Rect.unit (s := S1x4x2048x64) (k0_off3 i k) S1x1x128x64.size (k0_off3_inb i k), k0_pay55 (k0_pay41 v29 (k0_pay23 (F := Ideal) v37 (k0_pay17 (F := Ideal) arg2 v13 v21 (kn2 i arg5 X_arg5 k) (kpr i arg6 X_arg6 k) (row0 i k)))) (arg15.view.readAt (Elt Ideal) (Rect.unit (s := S1x4x2048x64) (k0_off3 i k) S1x1x128x64.size (k0_off3_inb i k)).toLoadRect f15)⟩,
       ⟨Rect.unit (s := S1x4x2048x64) (k0_off2 i k) S1x1x128x64.size (k0_off2_inb i k), k0_pay55 (k0_pay41 v27 (k0_pay23 (F := Ideal) v35 (k0_pay17 (F := Ideal) arg2 v11 v19 (kn1 i arg5 X_arg5 k) (kpr i arg6 X_arg6 k) (row0 i k)))) (arg15.view.readAt (Elt Ideal) (Rect.unit (s := S1x4x2048x64) (k0_off2 i k) S1x1x128x64.size (k0_off2_inb i k)).toLoadRect f15)⟩,
       ⟨Rect.unit (s := S1x4x2048x64) (k0_off1 i k) S1x1x128x64.size (k0_off1_inb i k), k0_pay55 (k0_pay41 v25 (k0_pay23 (F := Ideal) v33 (k0_pay17 (F := Ideal) arg2 v9 v17 (kn0 i arg5 X_arg5 k) (kpr i arg6 X_arg6 k) (row0 i k)))) (arg15.view.readAt (Elt Ideal) (Rect.unit (s := S1x4x2048x64) (k0_off1 i k) S1x1x128x64.size (k0_off1_inb i k)).toLoadRect f15)⟩] := by
  unfold trip_k0_t1; rfl

section Values

variable (I : Inp) (b hg : ℕ) (hsc : I.sc = scale) (ha2 : arg2 = BitVec.ofNat 32 (i 2).val)
  (hq : ∀ (hh : Fin 4) (r : Fin 128) (x : Fin 64), (![v9, v11, v13, v15] : Fin 4 → FVec Ideal S128x64 .f32) hh (ix2 r x) = (I.qn b (4 * hg + hh.val) (128 * (i 2).val + r.val) x.val : EReal))
  (hqp : ∀ (hh : Fin 4) (r : Fin 128) (x : Fin 32), (![v17, v19, v21, v23] : Fin 4 → FVec Ideal S128x32 .f32) hh (ix2 r x) = (I.qp b (4 * hg + hh.val) (128 * (i 2).val + r.val) x.val : EReal))
  (hd : ∀ (hh : Fin 4) (r : Fin 128) (x : Fin 64), (![v25, v27, v29, v31] : Fin 4 → FVec Ideal S128x64 .f32) hh (ix2 r x) = (I.dd b (4 * hg + hh.val) (128 * (i 2).val + r.val) x.val : EReal))
  (hl : ∀ (hh : Fin 4) (r : Fin 128), (![v33, v35, v37, v39] : Fin 4 → FVec Ideal S128x1 .f32) hh (ix2 r 0) = (I.Lse b (4 * hg + hh.val) (128 * (i 2).val + r.val) : EReal))
  (he : ∀ (hh : Fin 4) (r : Fin 128), (![v44, v49, v54, v59] : Fin 4 → FVec Ideal S128x1 .f32) hh (ix2 r 0) = (I.Del b (4 * hg + hh.val) (128 * (i 2).val + r.val) : EReal))
  (hX5 : ∀ (hh : Fin 4) (y : Fin 2048) (x : Fin 64), arg5.view.read (Elt Ideal) X_arg5 (ix4 0 hh y x) = (I.kn b (4 * hg + hh.val) y.val x.val : EReal))
  (hX6 : ∀ (y : Fin 2048) (x : Fin 32), arg6.view.read (Elt Ideal) X_arg6 (ix4 0 0 y x) = (I.kp b y.val x.val : EReal))
  (hX7 : ∀ (hh : Fin 4) (y : Fin 2048) (x : Fin 64), arg7.view.read (Elt Ideal) X_arg7 (ix4 0 hh y x) = (I.v b (4 * hg + hh.val) y.val x.val : EReal))

include hX5 in
theorem kn_apply (hh : Fin 4) (r : Fin 128) (x : Fin 64) :
    (![(kn0 i arg5 X_arg5 k), (kn1 i arg5 X_arg5 k), (kn2 i arg5 X_arg5 k), (kn3 i arg5 X_arg5 k)] : Fin 4 → FVec Ideal S128x64 .f32) hh (ix2 r x) = (I.kn b (4 * hg + hh.val) (128 * k.val + r.val) x.val : EReal) := by
  have hk := trip_lt i k
  fin_cases hh
  · exact ((pay7_apply _ r x).trans (readAt_rows arg5.view X_arg5 _ 0 (128 * k.val) (off1_eq i k) _ r x (by decide) (by omega))).trans (hX5 _ _ _)
  · exact ((pay7_apply _ r x).trans (readAt_rows arg5.view X_arg5 _ 1 (128 * k.val) (off2_eq i k) _ r x (by decide) (by omega))).trans (hX5 _ _ _)
  · exact ((pay7_apply _ r x).trans (readAt_rows arg5.view X_arg5 _ 2 (128 * k.val) (off3_eq i k) _ r x (by decide) (by omega))).trans (hX5 _ _ _)
  · exact ((pay7_apply _ r x).trans (readAt_rows arg5.view X_arg5 _ 3 (128 * k.val) (off4_eq i k) _ r x (by decide) (by omega))).trans (hX5 _ _ _)

include hX7 in
theorem vv_apply (hh : Fin 4) (r : Fin 128) (x : Fin 64) :
    (![(vv0 i arg7 X_arg7 k), (vv1 i arg7 X_arg7 k), (vv2 i arg7 X_arg7 k), (vv3 i arg7 X_arg7 k)] : Fin 4 → FVec Ideal S128x64 .f32) hh (ix2 r x) = (I.v b (4 * hg + hh.val) (128 * k.val + r.val) x.val : EReal) := by
  have hk := trip_lt i k
  fin_cases hh
  · exact ((pay7_apply _ r x).trans (readAt_rows arg7.view X_arg7 _ 0 (128 * k.val) (off1_eq i k) _ r x (by decide) (by omega))).trans (hX7 _ _ _)
  · exact ((pay7_apply _ r x).trans (readAt_rows arg7.view X_arg7 _ 1 (128 * k.val) (off2_eq i k) _ r x (by decide) (by omega))).trans (hX7 _ _ _)
  · exact ((pay7_apply _ r x).trans (readAt_rows arg7.view X_arg7 _ 2 (128 * k.val) (off3_eq i k) _ r x (by decide) (by omega))).trans (hX7 _ _ _)
  · exact ((pay7_apply _ r x).trans (readAt_rows arg7.view X_arg7 _ 3 (128 * k.val) (off4_eq i k) _ r x (by decide) (by omega))).trans (hX7 _ _ _)

include hX6 in
theorem kpr_apply (r : Fin 128) (x : Fin 32) : (kpr i arg6 X_arg6 k) (ix2 r x) = (I.kp b (128 * k.val + r.val) x.val : EReal) := by
  have hk := trip_lt i k
  exact ((pay15_apply _ r x).trans (readAt_rows arg6.view X_arg6 _ 0 (128 * k.val) (off5_eq i k) _ r x (by decide) (by omega))).trans (hX6 _ _)

include hsc ha2 hq hqp hl hX5 hX6 in
theorem P_apply (hh : Fin 4) (r c : Fin 128) : (![(k0_pay23 (F := Ideal) v33 (k0_pay17 (F := Ideal) arg2 v9 v17 (kn0 i arg5 X_arg5 k) (kpr i arg6 X_arg6 k) (row0 i k))), (k0_pay23 (F := Ideal) v35 (k0_pay17 (F := Ideal) arg2 v11 v19 (kn1 i arg5 X_arg5 k) (kpr i arg6 X_arg6 k) (row0 i k))), (k0_pay23 (F := Ideal) v37 (k0_pay17 (F := Ideal) arg2 v13 v21 (kn2 i arg5 X_arg5 k) (kpr i arg6 X_arg6 k) (row0 i k))), (k0_pay23 (F := Ideal) v39 (k0_pay17 (F := Ideal) arg2 v15 v23 (kn3 i arg5 X_arg5 k) (kpr i arg6 X_arg6 k) (row0 i k)))] : Fin 4 → FVec Ideal S128x128 .f32) hh (ix2 r c)
    = (I.P b (4 * hg + hh.val) (128 * (i 2).val + r.val) (128 * k.val + c.val) : EReal) := by
  have hr : row0 i k = BitVec.ofNat 32 (128 * k.val) := row_word _ (trip_lt i k)
  rw [hr, ha2]
  have hk' := kpr_apply i arg6 X_arg6 k I b hX6
  fin_cases hh
  · exact tP_apply I b (4 * hg + 0) (i 2).val k.val (i 2).isLt (trip_le i k) hsc _ _ _ _ _ (hq 0) (hqp 0) (hl 0) (kn_apply i arg5 X_arg5 k I b hg hX5 0) hk' r c
  · exact tP_apply I b (4 * hg + 1) (i 2).val k.val (i 2).isLt (trip_le i k) hsc _ _ _ _ _ (hq 1) (hqp 1) (hl 1) (kn_apply i arg5 X_arg5 k I b hg hX5 1) hk' r c
  · exact tP_apply I b (4 * hg + 2) (i 2).val k.val (i 2).isLt (trip_le i k) hsc _ _ _ _ _ (hq 2) (hqp 2) (hl 2) (kn_apply i arg5 X_arg5 k I b hg hX5 2) hk' r c
  · exact tP_apply I b (4 * hg + 3) (i 2).val k.val (i 2).isLt (trip_le i k) hsc _ _ _ _ _ (hq 3) (hqp 3) (hl 3) (kn_apply i arg5 X_arg5 k I b hg hX5 3) hk' r c

include hsc ha2 hq hqp hd hl he hX5 hX6 hX7 in
theorem G_apply (hh : Fin 4) (r c : Fin 128) : (![(k0_pay27 (F := Ideal) v25 v33 v44 (vv0 i arg7 X_arg7 k) (k0_pay17 (F := Ideal) arg2 v9 v17 (kn0 i arg5 X_arg5 k) (kpr i arg6 X_arg6 k) (row0 i k))), (k0_pay27 (F := Ideal) v27 v35 v49 (vv1 i arg7 X_arg7 k) (k0_pay17 (F := Ideal) arg2 v11 v19 (kn1 i arg5 X_arg5 k) (kpr i arg6 X_arg6 k) (row0 i k))), (k0_pay27 (F := Ideal) v29 v37 v54 (vv2 i arg7 X_arg7 k) (k0_pay17 (F := Ideal) arg2 v13 v21 (kn2 i arg5 X_arg5 k) (kpr i arg6 X_arg6 k) (row0 i k))), (k0_pay27 (F := Ideal) v31 v39 v59 (vv3 i arg7 X_arg7 k) (k0_pay17 (F := Ideal) arg2 v15 v23 (kn3 i arg5 X_arg5 k) (kpr i arg6 X_arg6 k) (row0 i k)))] : Fin 4 → FVec Ideal S128x128 .f32) hh (ix2 r c)
    = (I.DS b (4 * hg + hh.val) (128 * (i 2).val + r.val) (128 * k.val + c.val) : EReal) := by
  have hr : row0 i k = BitVec.ofNat 32 (128 * k.val) := row_word _ (trip_lt i k)
  rw [hr, ha2]
  have hk' := kpr_apply i arg6 X_arg6 k I b hX6
  fin_cases hh
  · exact tG_apply I b (4 * hg + 0) (i 2).val k.val (i 2).isLt (trip_le i k) hsc _ _ _ _ _ _ _ _ (hq 0) (hd 0) (hqp 0) (hl 0) (he 0) (kn_apply i arg5 X_arg5 k I b hg hX5 0) (vv_apply i arg7 X_arg7 k I b hg hX7 0) hk' r c
  · exact tG_apply I b (4 * hg + 1) (i 2).val k.val (i 2).isLt (trip_le i k) hsc _ _ _ _ _ _ _ _ (hq 1) (hd 1) (hqp 1) (hl 1) (he 1) (kn_apply i arg5 X_arg5 k I b hg hX5 1) (vv_apply i arg7 X_arg7 k I b hg hX7 1) hk' r c
  · exact tG_apply I b (4 * hg + 2) (i 2).val k.val (i 2).isLt (trip_le i k) hsc _ _ _ _ _ _ _ _ (hq 2) (hd 2) (hqp 2) (hl 2) (he 2) (kn_apply i arg5 X_arg5 k I b hg hX5 2) (vv_apply i arg7 X_arg7 k I b hg hX7 2) hk' r c
  · exact tG_apply I b (4 * hg + 3) (i 2).val k.val (i 2).isLt (trip_le i k) hsc _ _ _ _ _ _ _ _ (hq 3) (hd 3) (hqp 3) (hl 3) (he 3) (kn_apply i arg5 X_arg5 k I b hg hX5 3) (vv_apply i arg7 X_arg7 k I b hg hX7 3) hk' r c

include hsc ha2 hq hqp hd hl he hX5 hX6 hX7 in
/-- The gradient of the queries after a trip. -/
theorem trip11_read (hh : Fin 4) (r : Fin 128) (x : Fin 64) :
    arg11.view.read (Elt Ideal) (arg11.view.writes (Elt Ideal) f11 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.1 acc f11 f12 f13 f14 f15)) (ix4 0 hh r x)
      = arg11.view.read (Elt Ideal) f11 (ix4 0 hh r x)
        + ((∑ j ∈ Finset.range 128, I.DS b (4 * hg + hh.val) (128 * (i 2).val + r.val) (128 * k.val + j) * I.kn b (4 * hg + hh.val) (128 * k.val + j) x.val : ℝ) : EReal) := by
  have hk5 := kn_apply i arg5 X_arg5 k I b hg hX5
  have hG : ∀ (hh : Fin 4) (r c : Fin 128), (![(k0_pay27 (F := Ideal) v25 v33 v44 (vv0 i arg7 X_arg7 k) (k0_pay17 (F := Ideal) arg2 v9 v17 (kn0 i arg5 X_arg5 k) (kpr i arg6 X_arg6 k) (row0 i k))), (k0_pay27 (F := Ideal) v27 v35 v49 (vv1 i arg7 X_arg7 k) (k0_pay17 (F := Ideal) arg2 v11 v19 (kn1 i arg5 X_arg5 k) (kpr i arg6 X_arg6 k) (row0 i k))), (k0_pay27 (F := Ideal) v29 v37 v54 (vv2 i arg7 X_arg7 k) (k0_pay17 (F := Ideal) arg2 v13 v21 (kn2 i arg5 X_arg5 k) (kpr i arg6 X_arg6 k) (row0 i k))), (k0_pay27 (F := Ideal) v31 v39 v59 (vv3 i arg7 X_arg7 k) (k0_pay17 (F := Ideal) arg2 v15 v23 (kn3 i arg5 X_arg5 k) (kpr i arg6 X_arg6 k) (row0 i k)))] : Fin 4 → FVec Ideal S128x128 .f32) hh (ix2 r c) = (I.DS b (4 * hg + hh.val) (128 * (i 2).val + r.val) (128 * k.val + c.val) : EReal) :=
    fun hh r c => by apply G_apply <;> assumption
  rw [trip11]
  refine (read_heads arg11.view f11 _ _ _ _ 0 rfl rfl rfl rfl _ _ _ _ _ _ _ _ hh r x).trans ?_
  rw [dif_pos (by omega)]
  fin_cases hh
  · refine (pay55_apply _ _ _ _).trans (congrArg₂ (· + ·) ?_ (pay33_apply _ _ (fun r c => I.DS b (4 * hg + 0) (128 * (i 2).val + r) (128 * k.val + c)) (fun r x => I.kn b (4 * hg + 0) (128 * k.val + r) x) (hG 0) (hk5 0) _ x))
    refine (readAt_rows arg11.view f11 _ 0 0 rfl _ _ x (by decide) (by simp)).trans ?_
    exact congrArg (fun y => arg11.view.read (Elt Ideal) f11 (ix4 0 0 y x)) (Fin.ext (by simp))
  · refine (pay55_apply _ _ _ _).trans (congrArg₂ (· + ·) ?_ (pay33_apply _ _ (fun r c => I.DS b (4 * hg + 1) (128 * (i 2).val + r) (128 * k.val + c)) (fun r x => I.kn b (4 * hg + 1) (128 * k.val + r) x) (hG 1) (hk5 1) _ x))
    refine (readAt_rows arg11.view f11 _ 1 0 rfl _ _ x (by decide) (by simp)).trans ?_
    exact congrArg (fun y => arg11.view.read (Elt Ideal) f11 (ix4 0 1 y x)) (Fin.ext (by simp))
  · refine (pay55_apply _ _ _ _).trans (congrArg₂ (· + ·) ?_ (pay33_apply _ _ (fun r c => I.DS b (4 * hg + 2) (128 * (i 2).val + r) (128 * k.val + c)) (fun r x => I.kn b (4 * hg + 2) (128 * k.val + r) x) (hG 2) (hk5 2) _ x))
    refine (readAt_rows arg11.view f11 _ 2 0 rfl _ _ x (by decide) (by simp)).trans ?_
    exact congrArg (fun y => arg11.view.read (Elt Ideal) f11 (ix4 0 2 y x)) (Fin.ext (by simp))
  · refine (pay55_apply _ _ _ _).trans (congrArg₂ (· + ·) ?_ (pay33_apply _ _ (fun r c => I.DS b (4 * hg + 3) (128 * (i 2).val + r) (128 * k.val + c)) (fun r x => I.kn b (4 * hg + 3) (128 * k.val + r) x) (hG 3) (hk5 3) _ x))
    refine (readAt_rows arg11.view f11 _ 3 0 rfl _ _ x (by decide) (by simp)).trans ?_
    exact congrArg (fun y => arg11.view.read (Elt Ideal) f11 (ix4 0 3 y x)) (Fin.ext (by simp))

include hsc ha2 hq hqp hd hl he hX5 hX6 hX7 in
/-- The gradient of the rotary queries after a trip. -/
theorem trip12_read (hh : Fin 4) (r : Fin 128) (x : Fin 32) :
    arg12.view.read (Elt Ideal) (arg12.view.writes (Elt Ideal) f12 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.2.1 acc f11 f12 f13 f14 f15)) (ix4 0 hh r x)
      = arg12.view.read (Elt Ideal) f12 (ix4 0 hh r x)
        + ((∑ j ∈ Finset.range 128, I.DS b (4 * hg + hh.val) (128 * (i 2).val + r.val) (128 * k.val + j) * I.kp b (128 * k.val + j) x.val : ℝ) : EReal) := by
  have hk6 := kpr_apply i arg6 X_arg6 k I b hX6
  have hG : ∀ (hh : Fin 4) (r c : Fin 128), (![(k0_pay27 (F := Ideal) v25 v33 v44 (vv0 i arg7 X_arg7 k) (k0_pay17 (F := Ideal) arg2 v9 v17 (kn0 i arg5 X_arg5 k) (kpr i arg6 X_arg6 k) (row0 i k))), (k0_pay27 (F := Ideal) v27 v35 v49 (vv1 i arg7 X_arg7 k) (k0_pay17 (F := Ideal) arg2 v11 v19 (kn1 i arg5 X_arg5 k) (kpr i arg6 X_arg6 k) (row0 i k))), (k0_pay27 (F := Ideal) v29 v37 v54 (vv2 i arg7 X_arg7 k) (k0_pay17 (F := Ideal) arg2 v13 v21 (kn2 i arg5 X_arg5 k) (kpr i arg6 X_arg6 k) (row0 i k))), (k0_pay27 (F := Ideal) v31 v39 v59 (vv3 i arg7 X_arg7 k) (k0_pay17 (F := Ideal) arg2 v15 v23 (kn3 i arg5 X_arg5 k) (kpr i arg6 X_arg6 k) (row0 i k)))] : Fin 4 → FVec Ideal S128x128 .f32) hh (ix2 r c) = (I.DS b (4 * hg + hh.val) (128 * (i 2).val + r.val) (128 * k.val + c.val) : EReal) :=
    fun hh r c => by apply G_apply <;> assumption
  rw [trip12]
  refine (read_heads arg12.view f12 _ _ _ _ 0 rfl rfl rfl rfl _ _ _ _ _ _ _ _ hh r x).trans ?_
  rw [dif_pos (by omega)]
  fin_cases hh
  · refine (pay56_apply _ _ _ _).trans (congrArg₂ (· + ·) ?_ (pay37_apply _ _ (fun r c => I.DS b (4 * hg + 0) (128 * (i 2).val + r) (128 * k.val + c)) (fun r x => I.kp b (128 * k.val + r) x) (hG 0) hk6 _ x))
    refine (readAt_rows arg12.view f12 _ 0 0 rfl _ _ x (by decide) (by simp)).trans ?_
    exact congrArg (fun y => arg12.view.read (Elt Ideal) f12 (ix4 0 0 y x)) (Fin.ext (by simp))
  · refine (pay56_apply _ _ _ _).trans (congrArg₂ (· + ·) ?_ (pay37_apply _ _ (fun r c => I.DS b (4 * hg + 1) (128 * (i 2).val + r) (128 * k.val + c)) (fun r x => I.kp b (128 * k.val + r) x) (hG 1) hk6 _ x))
    refine (readAt_rows arg12.view f12 _ 1 0 rfl _ _ x (by decide) (by simp)).trans ?_
    exact congrArg (fun y => arg12.view.read (Elt Ideal) f12 (ix4 0 1 y x)) (Fin.ext (by simp))
  · refine (pay56_apply _ _ _ _).trans (congrArg₂ (· + ·) ?_ (pay37_apply _ _ (fun r c => I.DS b (4 * hg + 2) (128 * (i 2).val + r) (128 * k.val + c)) (fun r x => I.kp b (128 * k.val + r) x) (hG 2) hk6 _ x))
    refine (readAt_rows arg12.view f12 _ 2 0 rfl _ _ x (by decide) (by simp)).trans ?_
    exact congrArg (fun y => arg12.view.read (Elt Ideal) f12 (ix4 0 2 y x)) (Fin.ext (by simp))
  · refine (pay56_apply _ _ _ _).trans (congrArg₂ (· + ·) ?_ (pay37_apply _ _ (fun r c => I.DS b (4 * hg + 3) (128 * (i 2).val + r) (128 * k.val + c)) (fun r x => I.kp b (128 * k.val + r) x) (hG 3) hk6 _ x))
    refine (readAt_rows arg12.view f12 _ 3 0 rfl _ _ x (by decide) (by simp)).trans ?_
    exact congrArg (fun y => arg12.view.read (Elt Ideal) f12 (ix4 0 3 y x)) (Fin.ext (by simp))

include hsc ha2 hq hqp hd hl he hX5 hX6 hX7 in
/-- The gradient of the keys after a trip. -/
theorem trip13_read (hh : Fin 4) (y : Fin 2048) (x : Fin 64) :
    arg13.view.read (Elt Ideal) (arg13.view.writes (Elt Ideal) f13 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.2.2.1 acc f11 f12 f13 f14 f15)) (ix4 0 hh y x)
      = arg13.view.read (Elt Ideal) f13 (ix4 0 hh y x)
        + ((if 128 * k.val ≤ y.val ∧ y.val < 128 * k.val + 128 then ∑ j ∈ Finset.range 128, I.DS b (4 * hg + hh.val) (128 * (i 2).val + j) y.val * I.qn b (4 * hg + hh.val) (128 * (i 2).val + j) x.val else 0 : ℝ) : EReal) := by
  have hG : ∀ (hh : Fin 4) (r c : Fin 128), (![(k0_pay27 (F := Ideal) v25 v33 v44 (vv0 i arg7 X_arg7 k) (k0_pay17 (F := Ideal) arg2 v9 v17 (kn0 i arg5 X_arg5 k) (kpr i arg6 X_arg6 k) (row0 i k))), (k0_pay27 (F := Ideal) v27 v35 v49 (vv1 i arg7 X_arg7 k) (k0_pay17 (F := Ideal) arg2 v11 v19 (kn1 i arg5 X_arg5 k) (kpr i arg6 X_arg6 k) (row0 i k))), (k0_pay27 (F := Ideal) v29 v37 v54 (vv2 i arg7 X_arg7 k) (k0_pay17 (F := Ideal) arg2 v13 v21 (kn2 i arg5 X_arg5 k) (kpr i arg6 X_arg6 k) (row0 i k))), (k0_pay27 (F := Ideal) v31 v39 v59 (vv3 i arg7 X_arg7 k) (k0_pay17 (F := Ideal) arg2 v15 v23 (kn3 i arg5 X_arg5 k) (kpr i arg6 X_arg6 k) (row0 i k)))] : Fin 4 → FVec Ideal S128x128 .f32) hh (ix2 r c) = (I.DS b (4 * hg + hh.val) (128 * (i 2).val + r.val) (128 * k.val + c.val) : EReal) :=
    fun hh r c => by apply G_apply <;> assumption
  rw [trip13]
  refine (read_heads arg13.view f13 _ _ _ _ (128 * k.val) (off1_eq i k) (off2_eq i k) (off3_eq i k) (off4_eq i k) _ _ _ _ _ _ _ _ hh y x).trans ?_
  split
  · next hy =>
    have e : 128 * k.val + (y.val - 128 * k.val) = y.val := by omega
    fin_cases hh
    · refine (pay55_apply _ _ _ _).trans (congrArg₂ (· + ·) ?_ ((pay41_apply _ _ (fun r c => I.DS b (4 * hg + 0) (128 * (i 2).val + r) (128 * k.val + c)) (fun r x => I.qn b (4 * hg + 0) (128 * (i 2).val + r) x) (hG 0) (hq 0) _ x).trans ?_))
      · refine (readAt_rows arg13.view f13 _ 0 (128 * k.val) (off1_eq i k) _ _ x (by decide) (by show 128 * k.val + (y.val - 128 * k.val) < 2048; omega)).trans ?_
        exact congrArg (fun y => arg13.view.read (Elt Ideal) f13 (ix4 0 0 y x)) (Fin.ext e)
      · rw [e]
    · refine (pay55_apply _ _ _ _).trans (congrArg₂ (· + ·) ?_ ((pay41_apply _ _ (fun r c => I.DS b (4 * hg + 1) (128 * (i 2).val + r) (128 * k.val + c)) (fun r x => I.qn b (4 * hg + 1) (128 * (i 2).val + r) x) (hG 1) (hq 1) _ x).trans ?_))
      · refine (readAt_rows arg13.view f13 _ 1 (128 * k.val) (off2_eq i k) _ _ x (by decide) (by show 128 * k.val + (y.val - 128 * k.val) < 2048; omega)).trans ?_
        exact congrArg (fun y => arg13.view.read (Elt Ideal) f13 (ix4 0 1 y x)) (Fin.ext e)
      · rw [e]
    · refine (pay55_apply _ _ _ _).trans (congrArg₂ (· + ·) ?_ ((pay41_apply _ _ (fun r c => I.DS b (4 * hg + 2) (128 * (i 2).val + r) (128 * k.val + c)) (fun r x => I.qn b (4 * hg + 2) (128 * (i 2).val + r) x) (hG 2) (hq 2) _ x).trans ?_))
      · refine (readAt_rows arg13.view f13 _ 2 (128 * k.val) (off3_eq i k) _ _ x (by decide) (by show 128 * k.val + (y.val - 128 * k.val) < 2048; omega)).trans ?_
        exact congrArg (fun y => arg13.view.read (Elt Ideal) f13 (ix4 0 2 y x)) (Fin.ext e)
      · rw [e]
    · refine (pay55_apply _ _ _ _).trans (congrArg₂ (· + ·) ?_ ((pay41_apply _ _ (fun r c => I.DS b (4 * hg + 3) (128 * (i 2).val + r) (128 * k.val + c)) (fun r x => I.qn b (4 * hg + 3) (128 * (i 2).val + r) x) (hG 3) (hq 3) _ x).trans ?_))
      · refine (readAt_rows arg13.view f13 _ 3 (128 * k.val) (off4_eq i k) _ _ x (by decide) (by show 128 * k.val + (y.val - 128 * k.val) < 2048; omega)).trans ?_
        exact congrArg (fun y => arg13.view.read (Elt Ideal) f13 (ix4 0 3 y x)) (Fin.ext e)
      · rw [e]
  · rw [EReal.coe_zero, add_zero]

include hsc ha2 hq hqp hd hl he hX5 hX6 hX7 in
/-- The gradient of the values after a trip. -/
theorem trip15_read (hh : Fin 4) (y : Fin 2048) (x : Fin 64) :
    arg15.view.read (Elt Ideal) (arg15.view.writes (Elt Ideal) f15 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.2.2.2.2.1 acc f11 f12 f13 f14 f15)) (ix4 0 hh y x)
      = arg15.view.read (Elt Ideal) f15 (ix4 0 hh y x)
        + ((if 128 * k.val ≤ y.val ∧ y.val < 128 * k.val + 128 then ∑ j ∈ Finset.range 128, I.P b (4 * hg + hh.val) (128 * (i 2).val + j) y.val * I.dd b (4 * hg + hh.val) (128 * (i 2).val + j) x.val else 0 : ℝ) : EReal) := by
  have hP : ∀ (hh : Fin 4) (r c : Fin 128), (![(k0_pay23 (F := Ideal) v33 (k0_pay17 (F := Ideal) arg2 v9 v17 (kn0 i arg5 X_arg5 k) (kpr i arg6 X_arg6 k) (row0 i k))), (k0_pay23 (F := Ideal) v35 (k0_pay17 (F := Ideal) arg2 v11 v19 (kn1 i arg5 X_arg5 k) (kpr i arg6 X_arg6 k) (row0 i k))), (k0_pay23 (F := Ideal) v37 (k0_pay17 (F := Ideal) arg2 v13 v21 (kn2 i arg5 X_arg5 k) (kpr i arg6 X_arg6 k) (row0 i k))), (k0_pay23 (F := Ideal) v39 (k0_pay17 (F := Ideal) arg2 v15 v23 (kn3 i arg5 X_arg5 k) (kpr i arg6 X_arg6 k) (row0 i k)))] : Fin 4 → FVec Ideal S128x128 .f32) hh (ix2 r c) = (I.P b (4 * hg + hh.val) (128 * (i 2).val + r.val) (128 * k.val + c.val) : EReal) :=
    fun hh r c => by apply P_apply <;> assumption
  rw [trip15]
  refine (read_heads arg15.view f15 _ _ _ _ (128 * k.val) (off1_eq i k) (off2_eq i k) (off3_eq i k) (off4_eq i k) _ _ _ _ _ _ _ _ hh y x).trans ?_
  split
  · next hy =>
    have e : 128 * k.val + (y.val - 128 * k.val) = y.val := by omega
    fin_cases hh
    · refine (pay55_apply _ _ _ _).trans (congrArg₂ (· + ·) ?_ ((pay41_apply _ _ (fun r c => I.P b (4 * hg + 0) (128 * (i 2).val + r) (128 * k.val + c)) (fun r x => I.dd b (4 * hg + 0) (128 * (i 2).val + r) x) (hP 0) (hd 0) _ x).trans ?_))
      · refine (readAt_rows arg15.view f15 _ 0 (128 * k.val) (off1_eq i k) _ _ x (by decide) (by show 128 * k.val + (y.val - 128 * k.val) < 2048; omega)).trans ?_
        exact congrArg (fun y => arg15.view.read (Elt Ideal) f15 (ix4 0 0 y x)) (Fin.ext e)
      · rw [e]
    · refine (pay55_apply _ _ _ _).trans (congrArg₂ (· + ·) ?_ ((pay41_apply _ _ (fun r c => I.P b (4 * hg + 1) (128 * (i 2).val + r) (128 * k.val + c)) (fun r x => I.dd b (4 * hg + 1) (128 * (i 2).val + r) x) (hP 1) (hd 1) _ x).trans ?_))
      · refine (readAt_rows arg15.view f15 _ 1 (128 * k.val) (off2_eq i k) _ _ x (by decide) (by show 128 * k.val + (y.val - 128 * k.val) < 2048; omega)).trans ?_
        exact congrArg (fun y => arg15.view.read (Elt Ideal) f15 (ix4 0 1 y x)) (Fin.ext e)
      · rw [e]
    · refine (pay55_apply _ _ _ _).trans (congrArg₂ (· + ·) ?_ ((pay41_apply _ _ (fun r c => I.P b (4 * hg + 2) (128 * (i 2).val + r) (128 * k.val + c)) (fun r x => I.dd b (4 * hg + 2) (128 * (i 2).val + r) x) (hP 2) (hd 2) _ x).trans ?_))
      · refine (readAt_rows arg15.view f15 _ 2 (128 * k.val) (off3_eq i k) _ _ x (by decide) (by show 128 * k.val + (y.val - 128 * k.val) < 2048; omega)).trans ?_
        exact congrArg (fun y => arg15.view.read (Elt Ideal) f15 (ix4 0 2 y x)) (Fin.ext e)
      · rw [e]
    · refine (pay55_apply _ _ _ _).trans (congrArg₂ (· + ·) ?_ ((pay41_apply _ _ (fun r c => I.P b (4 * hg + 3) (128 * (i 2).val + r) (128 * k.val + c)) (fun r x => I.dd b (4 * hg + 3) (128 * (i 2).val + r) x) (hP 3) (hd 3) _ x).trans ?_))
      · refine (readAt_rows arg15.view f15 _ 3 (128 * k.val) (off4_eq i k) _ _ x (by decide) (by show 128 * k.val + (y.val - 128 * k.val) < 2048; omega)).trans ?_
        exact congrArg (fun y => arg15.view.read (Elt Ideal) f15 (ix4 0 3 y x)) (Fin.ext e)
      · rw [e]
  · rw [EReal.coe_zero, add_zero]

include hsc ha2 hq hqp hd hl he hX5 hX6 hX7 in
/-- The gradient of the rotary keys after a trip: the four heads' tiles together. -/
theorem trip14_read (y : Fin 2048) (x : Fin 32) :
    arg14.view.read (Elt Ideal) (arg14.view.writes (Elt Ideal) f14 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 k).2.2.2.2.1 acc f11 f12 f13 f14 f15)) (ix4 0 0 y x)
      = arg14.view.read (Elt Ideal) f14 (ix4 0 0 y x)
        + ((if 128 * k.val ≤ y.val ∧ y.val < 128 * k.val + 128 then ∑ hh ∈ Finset.range 4, ∑ j ∈ Finset.range 128, I.DS b (4 * hg + hh) (128 * (i 2).val + j) y.val * I.qp b (4 * hg + hh) (128 * (i 2).val + j) x.val else 0 : ℝ) : EReal) := by
  have hG : ∀ (hh : Fin 4) (r c : Fin 128), (![(k0_pay27 (F := Ideal) v25 v33 v44 (vv0 i arg7 X_arg7 k) (k0_pay17 (F := Ideal) arg2 v9 v17 (kn0 i arg5 X_arg5 k) (kpr i arg6 X_arg6 k) (row0 i k))), (k0_pay27 (F := Ideal) v27 v35 v49 (vv1 i arg7 X_arg7 k) (k0_pay17 (F := Ideal) arg2 v11 v19 (kn1 i arg5 X_arg5 k) (kpr i arg6 X_arg6 k) (row0 i k))), (k0_pay27 (F := Ideal) v29 v37 v54 (vv2 i arg7 X_arg7 k) (k0_pay17 (F := Ideal) arg2 v13 v21 (kn2 i arg5 X_arg5 k) (kpr i arg6 X_arg6 k) (row0 i k))), (k0_pay27 (F := Ideal) v31 v39 v59 (vv3 i arg7 X_arg7 k) (k0_pay17 (F := Ideal) arg2 v15 v23 (kn3 i arg5 X_arg5 k) (kpr i arg6 X_arg6 k) (row0 i k)))] : Fin 4 → FVec Ideal S128x128 .f32) hh (ix2 r c) = (I.DS b (4 * hg + hh.val) (128 * (i 2).val + r.val) (128 * k.val + c.val) : EReal) :=
    fun hh r c => by apply G_apply <;> assumption
  rw [trip14]
  refine (read_rows arg14.view f14 _ 0 (128 * k.val) (off5_eq i k) _ _ _ 0 y x).trans ?_
  split
  · next hy =>
    have e : 128 * k.val + (y.val - 128 * k.val) = y.val := by omega
    rw [if_pos hy.2]
    refine (pay3_apply _ _ _ _ _ _ _).trans (congrArg₂ (· + ·) ?_ ?_)
    · refine (readAt_rows arg14.view f14 _ 0 (128 * k.val) (off5_eq i k) _ _ x (by decide) (by show 128 * k.val + (y.val - 128 * k.val) < 2048; omega)).trans ?_
      exact congrArg (fun y => arg14.view.read (Elt Ideal) f14 (ix4 0 0 y x)) (Fin.ext e)
    · have hp : ∀ (hh : Fin 4) (a : FVec Ideal S128x32 .f32) (g : FVec Ideal S128x128 .f32) (hg' : ∀ r c : Fin 128, g (ix2 r c) = (I.DS b (4 * hg + hh.val) (128 * (i 2).val + r.val) (128 * k.val + c.val) : EReal))
          (ha : ∀ (r : Fin 128) (x : Fin 32), a (ix2 r x) = (I.qp b (4 * hg + hh.val) (128 * (i 2).val + r.val) x.val : EReal)) (hr : y.val - 128 * k.val < 128),
          k0_pay51 (F := Ideal) a g (ix2 ⟨y.val - 128 * k.val, hr⟩ x) = ((∑ j ∈ Finset.range 128, I.DS b (4 * hg + hh.val) (128 * (i 2).val + j) y.val * I.qp b (4 * hg + hh.val) (128 * (i 2).val + j) x.val : ℝ) : EReal) := by
        intro hh a g hg' ha hr
        rw [pay51_apply g a (fun r c => I.DS b (4 * hg + hh.val) (128 * (i 2).val + r) (128 * k.val + c)) (fun r x => I.qp b (4 * hg + hh.val) (128 * (i 2).val + r) x) hg' ha]
        simp only [e]
      refine (congrArg₂ (· + ·) (congrArg₂ (· + ·) (congrArg₂ (· + ·) (hp 0 _ _ (hG 0) (hqp 0) _) (hp 1 _ _ (hG 1) (hqp 1) _))
        (hp 2 _ _ (hG 2) (hqp 2) _)) (hp 3 _ _ (hG 3) (hqp 3) _)).trans ?_
      simp only [Finset.sum_range_succ (n := 3), Finset.sum_range_succ (n := 2), Finset.sum_range_succ (n := 1), Finset.sum_range_succ (n := 0), Finset.sum_range_zero (M := ℝ), zero_add, EReal.coe_add]
      rfl
  · next hy => rw [if_neg (fun h => hy ⟨rfl, h⟩), EReal.coe_zero, add_zero, View.writes_nil]

end Values

end Cert.Mla

end
-- ==== Proof.Mla.Loop.lean ====
/-
  The kernel's loop over key blocks: what each output holds after some number of trips, and after all of them. Key rows past
  the query block are masked, so after the last trip a row of the keys' gradients has gained the whole query block's sum.
-/
module

public import proofs.«01_k».proof.Proof.Mla.Trip

@[expose] public section

set_option maxRecDepth 16384

noncomputable section

open Idealize.ShloMosaic Idealize.ShloMosaic.TcCoe Idealize.SL.Sem
open Cert.KernelIdeal Cert.KernelIdeal.Gen

namespace Cert.Mla

variable (𝒱 : Variants)
  (c : Dev nD)
  (bd : Option 𝒱.V)
  (i : grid0.Coords)
  (arg3 : Memref sig .tc .vmem S1x4x128x64 .f32)
  (harg3 : arg3.IsWhole)
  (arg4 : Memref sig .tc .vmem S1x4x128x32 .f32)
  (harg4 : arg4.IsWhole)
  (arg5 : Memref sig .tc .vmem S1x4x2048x64 .f32)
  (harg5 : arg5.IsWhole)
  (arg6 : Memref sig .tc .vmem S1x1x2048x32 .f32)
  (harg6 : arg6.IsWhole)
  (arg7 : Memref sig .tc .vmem S1x4x2048x64 .f32)
  (harg7 : arg7.IsWhole)
  (arg8 : Memref sig .tc .vmem S1x4x128x64 .f32)
  (harg8 : arg8.IsWhole)
  (arg9 : Memref sig .tc .vmem S1x4x128x1 .f32)
  (harg9 : arg9.IsWhole)
  (arg10 : Memref sig .tc .vmem S1x4x128x64 .f32)
  (harg10 : arg10.IsWhole)
  (arg11 : Memref sig .tc .vmem S1x4x128x64 .f32)
  (harg11 : arg11.IsWhole)
  (arg12 : Memref sig .tc .vmem S1x4x128x32 .f32)
  (harg12 : arg12.IsWhole)
  (arg13 : Memref sig .tc .vmem S1x4x2048x64 .f32)
  (harg13 : arg13.IsWhole)
  (arg14 : Memref sig .tc .vmem S1x1x2048x32 .f32)
  (harg14 : arg14.IsWhole)
  (arg15 : Memref sig .tc .vmem S1x4x2048x64 .f32)
  (harg15 : arg15.IsWhole)
  (arg2 : BitVec 32)
  (v9 : FVec Ideal S128x64 .f32)
  (v11 : FVec Ideal S128x64 .f32)
  (v13 : FVec Ideal S128x64 .f32)
  (v15 : FVec Ideal S128x64 .f32)
  (v17 : FVec Ideal S128x32 .f32)
  (v19 : FVec Ideal S128x32 .f32)
  (v21 : FVec Ideal S128x32 .f32)
  (v23 : FVec Ideal S128x32 .f32)
  (v25 : FVec Ideal S128x64 .f32)
  (v27 : FVec Ideal S128x64 .f32)
  (v29 : FVec Ideal S128x64 .f32)
  (v31 : FVec Ideal S128x64 .f32)
  (v33 : FVec Ideal S128x1 .f32)
  (v35 : FVec Ideal S128x1 .f32)
  (v37 : FVec Ideal S128x1 .f32)
  (v39 : FVec Ideal S128x1 .f32)
  (v44 : FVec Ideal S128x1 .f32)
  (v49 : FVec Ideal S128x1 .f32)
  (v54 : FVec Ideal S128x1 .f32)
  (v59 : FVec Ideal S128x1 .f32)
  (X_arg5 : BufTy.Contents (Elt Ideal) arg5.view.ty)
  (X_arg6 : BufTy.Contents (Elt Ideal) arg6.view.ty)
  (X_arg7 : BufTy.Contents (Elt Ideal) arg7.view.ty)
  (acc : BitVec 32)
  (f11 : BufTy.Contents (Elt Ideal) arg11.view.ty) (f12 : BufTy.Contents (Elt Ideal) arg12.view.ty)
  (f13 : BufTy.Contents (Elt Ideal) arg13.view.ty) (f14 : BufTy.Contents (Elt Ideal) arg14.view.ty)
  (f15 : BufTy.Contents (Elt Ideal) arg15.view.ty)

/-- The loop's state before trip `n`. -/
abbrev lst (n : ℕ) := st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 f11 f12 f13 f14 f15 acc n

variable (I : Inp) (b hg : ℕ) (hsc : I.sc = scale) (ha2 : arg2 = BitVec.ofNat 32 (i 2).val)
  (hq : ∀ (hh : Fin 4) (r : Fin 128) (x : Fin 64), (![v9, v11, v13, v15] : Fin 4 → FVec Ideal S128x64 .f32) hh (ix2 r x) = (I.qn b (4 * hg + hh.val) (128 * (i 2).val + r.val) x.val : EReal))
  (hqp : ∀ (hh : Fin 4) (r : Fin 128) (x : Fin 32), (![v17, v19, v21, v23] : Fin 4 → FVec Ideal S128x32 .f32) hh (ix2 r x) = (I.qp b (4 * hg + hh.val) (128 * (i 2).val + r.val) x.val : EReal))
  (hd : ∀ (hh : Fin 4) (r : Fin 128) (x : Fin 64), (![v25, v27, v29, v31] : Fin 4 → FVec Ideal S128x64 .f32) hh (ix2 r x) = (I.dd b (4 * hg + hh.val) (128 * (i 2).val + r.val) x.val : EReal))
  (hl : ∀ (hh : Fin 4) (r : Fin 128), (![v33, v35, v37, v39] : Fin 4 → FVec Ideal S128x1 .f32) hh (ix2 r 0) = (I.Lse b (4 * hg + hh.val) (128 * (i 2).val + r.val) : EReal))
  (he : ∀ (hh : Fin 4) (r : Fin 128), (![v44, v49, v54, v59] : Fin 4 → FVec Ideal S128x1 .f32) hh (ix2 r 0) = (I.Del b (4 * hg + hh.val) (128 * (i 2).val + r.val) : EReal))
  (hX5 : ∀ (hh : Fin 4) (y : Fin 2048) (x : Fin 64), arg5.view.read (Elt Ideal) X_arg5 (ix4 0 hh y x) = (I.kn b (4 * hg + hh.val) y.val x.val : EReal))
  (hX6 : ∀ (y : Fin 2048) (x : Fin 32), arg6.view.read (Elt Ideal) X_arg6 (ix4 0 0 y x) = (I.kp b y.val x.val : EReal))
  (hX7 : ∀ (hh : Fin 4) (y : Fin 2048) (x : Fin 64), arg7.view.read (Elt Ideal) X_arg7 (ix4 0 hh y x) = (I.v b (4 * hg + hh.val) y.val x.val : EReal))

include hsc ha2 hq hqp hd hl he hX5 hX6 hX7 in
/-- The gradient of the queries, before trip `n`. -/
theorem st11 (n : ℕ) (hn : n ≤ (k0_t1_loop i).trips) (hh : Fin 4) (r : Fin 128) (x : Fin 64) :
    arg11.view.read (Elt Ideal) (arg11.view.writes (Elt Ideal) f11 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 n).2.1) (ix4 0 hh r x)
      = arg11.view.read (Elt Ideal) f11 (ix4 0 hh r x) + ((∑ j ∈ Finset.range (128 * n), I.DS b (4 * hg + hh.val) (128 * (i 2).val + r.val) j * I.kn b (4 * hg + hh.val) j x.val : ℝ) : EReal) := by
  induction n with
  | zero =>
    show arg11.view.read (Elt Ideal) f11 _ = _
    simp
  | succ n ih =>
    refine (congrArg (fun s : BitVec 32 × List _ × List _ × List _ × List _ × List _ => arg11.view.read (Elt Ideal) (arg11.view.writes (Elt Ideal) f11 s.2.1) (ix4 0 hh r x))
      (st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 f11 f12 f13 f14 f15 acc ⟨n, hn⟩)).trans ?_
    refine (congrFun (congrArg (arg11.view.read (Elt Ideal)) (View.writes_append arg11.view f11 _ _)) _).trans ?_
    refine (trip11_read (I := I) (b := b) (hg := hg) (hsc := hsc) (ha2 := ha2) (hq := hq) (hqp := hqp) (hd := hd) (hl := hl) (he := he) (hX5 := hX5) (hX6 := hX6) (hX7 := hX7) (hh := hh) (r := r) (x := x) ..).trans ?_
    rw [ih (by omega), add_assoc, ← EReal.coe_add, sum_tile]

include hsc ha2 hq hqp hd hl he hX5 hX6 hX7 in
/-- The gradient of the queries, after the loop. -/
theorem loop11 (hh : Fin 4) (r : Fin 128) (x : Fin 64) :
    arg11.view.read (Elt Ideal) (arg11.view.writes (Elt Ideal) f11 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 (k0_t1_loop i).trips).2.1) (ix4 0 hh r x)
      = arg11.view.read (Elt Ideal) f11 (ix4 0 hh r x) + ((∑ j ∈ Finset.range 2048, I.DS b (4 * hg + hh.val) (128 * (i 2).val + r.val) j * I.kn b (4 * hg + hh.val) j x.val : ℝ) : EReal) := by
  refine (st11 (I := I) (b := b) (hg := hg) (hsc := hsc) (ha2 := ha2) (hq := hq) (hqp := hqp) (hd := hd) (hl := hl) (he := he) (hX5 := hX5) (hX6 := hX6) (hX7 := hX7) (hh := hh) (r := r) (x := x) (n := (k0_t1_loop i).trips) (hn := le_rfl) ..).trans ?_
  rw [t1_trips]
  refine congrArg (fun z : ℝ => _ + (z : EReal)) ?_
  dsimp only
  have h2 := (i 2).isLt
  refine Finset.sum_subset (Finset.range_mono (by show 128 * ((i 2).val + 1) ≤ 2048; have : (i 2).val < 16 := h2; omega)) fun j _ hj => ?_
  rw [I.DS_masked b _ _ _ (by have := Finset.mem_range.not.mp hj; omega), zero_mul]

include hsc ha2 hq hqp hd hl he hX5 hX6 hX7 in
/-- The gradient of the rotary queries, before trip `n`. -/
theorem st12 (n : ℕ) (hn : n ≤ (k0_t1_loop i).trips) (hh : Fin 4) (r : Fin 128) (x : Fin 32) :
    arg12.view.read (Elt Ideal) (arg12.view.writes (Elt Ideal) f12 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 n).2.2.1) (ix4 0 hh r x)
      = arg12.view.read (Elt Ideal) f12 (ix4 0 hh r x) + ((∑ j ∈ Finset.range (128 * n), I.DS b (4 * hg + hh.val) (128 * (i 2).val + r.val) j * I.kp b j x.val : ℝ) : EReal) := by
  induction n with
  | zero =>
    show arg12.view.read (Elt Ideal) f12 _ = _
    simp
  | succ n ih =>
    refine (congrArg (fun s : BitVec 32 × List _ × List _ × List _ × List _ × List _ => arg12.view.read (Elt Ideal) (arg12.view.writes (Elt Ideal) f12 s.2.2.1) (ix4 0 hh r x))
      (st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 f11 f12 f13 f14 f15 acc ⟨n, hn⟩)).trans ?_
    refine (congrFun (congrArg (arg12.view.read (Elt Ideal)) (View.writes_append arg12.view f12 _ _)) _).trans ?_
    refine (trip12_read (I := I) (b := b) (hg := hg) (hsc := hsc) (ha2 := ha2) (hq := hq) (hqp := hqp) (hd := hd) (hl := hl) (he := he) (hX5 := hX5) (hX6 := hX6) (hX7 := hX7) (hh := hh) (r := r) (x := x) ..).trans ?_
    rw [ih (by omega), add_assoc, ← EReal.coe_add, sum_tile]

include hsc ha2 hq hqp hd hl he hX5 hX6 hX7 in
/-- The gradient of the rotary queries, after the loop. -/
theorem loop12 (hh : Fin 4) (r : Fin 128) (x : Fin 32) :
    arg12.view.read (Elt Ideal) (arg12.view.writes (Elt Ideal) f12 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 (k0_t1_loop i).trips).2.2.1) (ix4 0 hh r x)
      = arg12.view.read (Elt Ideal) f12 (ix4 0 hh r x) + ((∑ j ∈ Finset.range 2048, I.DS b (4 * hg + hh.val) (128 * (i 2).val + r.val) j * I.kp b j x.val : ℝ) : EReal) := by
  refine (st12 (I := I) (b := b) (hg := hg) (hsc := hsc) (ha2 := ha2) (hq := hq) (hqp := hqp) (hd := hd) (hl := hl) (he := he) (hX5 := hX5) (hX6 := hX6) (hX7 := hX7) (hh := hh) (r := r) (x := x) (n := (k0_t1_loop i).trips) (hn := le_rfl) ..).trans ?_
  rw [t1_trips]
  refine congrArg (fun z : ℝ => _ + (z : EReal)) ?_
  dsimp only
  have h2 := (i 2).isLt
  refine Finset.sum_subset (Finset.range_mono (by show 128 * ((i 2).val + 1) ≤ 2048; have : (i 2).val < 16 := h2; omega)) fun j _ hj => ?_
  rw [I.DS_masked b _ _ _ (by have := Finset.mem_range.not.mp hj; omega), zero_mul]

include hsc ha2 hq hqp hd hl he hX5 hX6 hX7 in
/-- The gradient of the keys, before trip `n`. -/
theorem st13 (n : ℕ) (hn : n ≤ (k0_t1_loop i).trips) (hh : Fin 4) (y : Fin 2048) (x : Fin 64) :
    arg13.view.read (Elt Ideal) (arg13.view.writes (Elt Ideal) f13 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 n).2.2.2.1) (ix4 0 hh y x)
      = arg13.view.read (Elt Ideal) f13 (ix4 0 hh y x) + ((if y.val < 128 * n then ∑ j ∈ Finset.range 128, I.DS b (4 * hg + hh.val) (128 * (i 2).val + j) y.val * I.qn b (4 * hg + hh.val) (128 * (i 2).val + j) x.val else 0 : ℝ) : EReal) := by
  induction n with
  | zero =>
    show arg13.view.read (Elt Ideal) f13 _ = _
    simp
  | succ n ih =>
    refine (congrArg (fun s : BitVec 32 × List _ × List _ × List _ × List _ × List _ => arg13.view.read (Elt Ideal) (arg13.view.writes (Elt Ideal) f13 s.2.2.2.1) (ix4 0 hh y x))
      (st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 f11 f12 f13 f14 f15 acc ⟨n, hn⟩)).trans ?_
    refine (congrFun (congrArg (arg13.view.read (Elt Ideal)) (View.writes_append arg13.view f13 _ _)) _).trans ?_
    refine (trip13_read (I := I) (b := b) (hg := hg) (hsc := hsc) (ha2 := ha2) (hq := hq) (hqp := hqp) (hd := hd) (hl := hl) (he := he) (hX5 := hX5) (hX6 := hX6) (hX7 := hX7) (hh := hh) (y := y) (x := x) ..).trans ?_
    rw [ih (by omega), add_assoc, ← EReal.coe_add]
    refine congrArg (fun z : ℝ => _ + (z : EReal)) ?_
    dsimp only
    by_cases h1 : y.val < 128 * n
    · rw [if_pos h1, if_neg (by omega), if_pos (by omega), add_zero]
    · rw [if_neg h1, zero_add]
      by_cases h2 : y.val < 128 * n + 128
      · rw [if_pos (by omega), if_pos (by omega)]
      · rw [if_neg (by omega), if_neg (by omega)]

include hsc ha2 hq hqp hd hl he hX5 hX6 hX7 in
/-- The gradient of the keys, after the loop. -/
theorem loop13 (hh : Fin 4) (y : Fin 2048) (x : Fin 64) :
    arg13.view.read (Elt Ideal) (arg13.view.writes (Elt Ideal) f13 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 (k0_t1_loop i).trips).2.2.2.1) (ix4 0 hh y x)
      = arg13.view.read (Elt Ideal) f13 (ix4 0 hh y x) + ((∑ j ∈ Finset.range 128, I.DS b (4 * hg + hh.val) (128 * (i 2).val + j) y.val * I.qn b (4 * hg + hh.val) (128 * (i 2).val + j) x.val : ℝ) : EReal) := by
  refine (st13 (I := I) (b := b) (hg := hg) (hsc := hsc) (ha2 := ha2) (hq := hq) (hqp := hqp) (hd := hd) (hl := hl) (he := he) (hX5 := hX5) (hX6 := hX6) (hX7 := hX7) (hh := hh) (y := y) (x := x) (n := (k0_t1_loop i).trips) (hn := le_rfl) ..).trans ?_
  rw [t1_trips]
  refine congrArg (fun z : ℝ => _ + (z : EReal)) ?_
  dsimp only
  split
  · rfl
  · next h =>
    symm
    refine Finset.sum_eq_zero fun j hj => ?_
    rw [I.DS_masked b _ _ _ (by have := Finset.mem_range.mp hj; omega), zero_mul]

include hsc ha2 hq hqp hd hl he hX5 hX6 hX7 in
/-- The gradient of the values, before trip `n`. -/
theorem st15 (n : ℕ) (hn : n ≤ (k0_t1_loop i).trips) (hh : Fin 4) (y : Fin 2048) (x : Fin 64) :
    arg15.view.read (Elt Ideal) (arg15.view.writes (Elt Ideal) f15 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 n).2.2.2.2.2) (ix4 0 hh y x)
      = arg15.view.read (Elt Ideal) f15 (ix4 0 hh y x) + ((if y.val < 128 * n then ∑ j ∈ Finset.range 128, I.P b (4 * hg + hh.val) (128 * (i 2).val + j) y.val * I.dd b (4 * hg + hh.val) (128 * (i 2).val + j) x.val else 0 : ℝ) : EReal) := by
  induction n with
  | zero =>
    show arg15.view.read (Elt Ideal) f15 _ = _
    simp
  | succ n ih =>
    refine (congrArg (fun s : BitVec 32 × List _ × List _ × List _ × List _ × List _ => arg15.view.read (Elt Ideal) (arg15.view.writes (Elt Ideal) f15 s.2.2.2.2.2) (ix4 0 hh y x))
      (st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 f11 f12 f13 f14 f15 acc ⟨n, hn⟩)).trans ?_
    refine (congrFun (congrArg (arg15.view.read (Elt Ideal)) (View.writes_append arg15.view f15 _ _)) _).trans ?_
    refine (trip15_read (I := I) (b := b) (hg := hg) (hsc := hsc) (ha2 := ha2) (hq := hq) (hqp := hqp) (hd := hd) (hl := hl) (he := he) (hX5 := hX5) (hX6 := hX6) (hX7 := hX7) (hh := hh) (y := y) (x := x) ..).trans ?_
    rw [ih (by omega), add_assoc, ← EReal.coe_add]
    refine congrArg (fun z : ℝ => _ + (z : EReal)) ?_
    dsimp only
    by_cases h1 : y.val < 128 * n
    · rw [if_pos h1, if_neg (by omega), if_pos (by omega), add_zero]
    · rw [if_neg h1, zero_add]
      by_cases h2 : y.val < 128 * n + 128
      · rw [if_pos (by omega), if_pos (by omega)]
      · rw [if_neg (by omega), if_neg (by omega)]

include hsc ha2 hq hqp hd hl he hX5 hX6 hX7 in
/-- The gradient of the values, after the loop. -/
theorem loop15 (hh : Fin 4) (y : Fin 2048) (x : Fin 64) :
    arg15.view.read (Elt Ideal) (arg15.view.writes (Elt Ideal) f15 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 (k0_t1_loop i).trips).2.2.2.2.2) (ix4 0 hh y x)
      = arg15.view.read (Elt Ideal) f15 (ix4 0 hh y x) + ((∑ j ∈ Finset.range 128, I.P b (4 * hg + hh.val) (128 * (i 2).val + j) y.val * I.dd b (4 * hg + hh.val) (128 * (i 2).val + j) x.val : ℝ) : EReal) := by
  refine (st15 (I := I) (b := b) (hg := hg) (hsc := hsc) (ha2 := ha2) (hq := hq) (hqp := hqp) (hd := hd) (hl := hl) (he := he) (hX5 := hX5) (hX6 := hX6) (hX7 := hX7) (hh := hh) (y := y) (x := x) (n := (k0_t1_loop i).trips) (hn := le_rfl) ..).trans ?_
  rw [t1_trips]
  refine congrArg (fun z : ℝ => _ + (z : EReal)) ?_
  dsimp only
  split
  · rfl
  · next h =>
    symm
    refine Finset.sum_eq_zero fun j hj => ?_
    rw [I.P_masked b _ _ _ (by have := Finset.mem_range.mp hj; omega), zero_mul]

include hsc ha2 hq hqp hd hl he hX5 hX6 hX7 in
/-- The gradient of the rotary keys, before trip `n`. -/
theorem st14 (n : ℕ) (hn : n ≤ (k0_t1_loop i).trips) (y : Fin 2048) (x : Fin 32) :
    arg14.view.read (Elt Ideal) (arg14.view.writes (Elt Ideal) f14 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 n).2.2.2.2.1) (ix4 0 0 y x)
      = arg14.view.read (Elt Ideal) f14 (ix4 0 0 y x) + ((if y.val < 128 * n then ∑ hh ∈ Finset.range 4, ∑ j ∈ Finset.range 128, I.DS b (4 * hg + hh) (128 * (i 2).val + j) y.val * I.qp b (4 * hg + hh) (128 * (i 2).val + j) x.val else 0 : ℝ) : EReal) := by
  induction n with
  | zero =>
    show arg14.view.read (Elt Ideal) f14 _ = _
    simp
  | succ n ih =>
    refine (congrArg (fun s : BitVec 32 × List _ × List _ × List _ × List _ × List _ => arg14.view.read (Elt Ideal) (arg14.view.writes (Elt Ideal) f14 s.2.2.2.2.1) (ix4 0 0 y x))
      (st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 0#32 X_arg5 X_arg6 X_arg7 f11 f12 f13 f14 f15 acc ⟨n, hn⟩)).trans ?_
    refine (congrFun (congrArg (arg14.view.read (Elt Ideal)) (View.writes_append arg14.view f14 _ _)) _).trans ?_
    refine (trip14_read (I := I) (b := b) (hg := hg) (hsc := hsc) (ha2 := ha2) (hq := hq) (hqp := hqp) (hd := hd) (hl := hl) (he := he) (hX5 := hX5) (hX6 := hX6) (hX7 := hX7) (y := y) (x := x) ..).trans ?_
    rw [ih (by omega), add_assoc, ← EReal.coe_add]
    refine congrArg (fun z : ℝ => _ + (z : EReal)) ?_
    dsimp only
    by_cases h1 : y.val < 128 * n
    · rw [if_pos h1, if_neg (by omega), if_pos (by omega), add_zero]
    · rw [if_neg h1, zero_add]
      by_cases h2 : y.val < 128 * n + 128
      · rw [if_pos (by omega), if_pos (by omega)]
      · rw [if_neg (by omega), if_neg (by omega)]

include hsc ha2 hq hqp hd hl he hX5 hX6 hX7 in
/-- The gradient of the rotary keys, after the loop. -/
theorem loop14 (y : Fin 2048) (x : Fin 32) :
    arg14.view.read (Elt Ideal) (arg14.view.writes (Elt Ideal) f14 (lst 𝒱 c bd i arg3 harg3 arg4 harg4 arg5 harg5 arg6 harg6 arg7 harg7 arg8 harg8 arg9 harg9 arg10 harg10 arg11 harg11 arg12 harg12 arg13 harg13 arg14 harg14 arg15 harg15 arg2 v9 v11 v13 v15 v17 v19 v21 v23 v25 v27 v29 v31 v33 v35 v37 v39 v44 v49 v54 v59 X_arg5 X_arg6 X_arg7 acc f11 f12 f13 f14 f15 (k0_t1_loop i).trips).2.2.2.2.1) (ix4 0 0 y x)
      = arg14.view.read (Elt Ideal) f14 (ix4 0 0 y x) + ((∑ hh ∈ Finset.range 4, ∑ j ∈ Finset.range 128, I.DS b (4 * hg + hh) (128 * (i 2).val + j) y.val * I.qp b (4 * hg + hh) (128 * (i 2).val + j) x.val : ℝ) : EReal) := by
  refine (st14 (I := I) (b := b) (hg := hg) (hsc := hsc) (ha2 := ha2) (hq := hq) (hqp := hqp) (hd := hd) (hl := hl) (he := he) (hX5 := hX5) (hX6 := hX6) (hX7 := hX7) (y := y) (x := x) (n := (k0_t1_loop i).trips) (hn := le_rfl) ..).trans ?_
  rw [t1_trips]
  refine congrArg (fun z : ℝ => _ + (z : EReal)) ?_
  dsimp only
  split
  · rfl
  · next h =>
    symm
    refine Finset.sum_eq_zero fun hh _ => Finset.sum_eq_zero fun j hj => ?_
    rw [I.DS_masked b _ _ _ (by have := Finset.mem_range.mp hj; omega), zero_mul]

end Cert.Mla

end
-- ==== Proof.Mla.Blocks.lean ====
/-
  The blocks a grid point reads before its loop: the four heads' query rows, gradient rows and log-sum-exps cut out of the
  staged blocks, the row sums of the incoming gradient times the output, and the zero fills.
-/
module

public import proofs.«01_k».proof.Proof.Mla.Loop
public import Idealize.ShloMosaic.Lib.WholeRead

@[expose] public section

set_option maxRecDepth 16384

noncomputable section

open Idealize.ShloMosaic Idealize.ShloMosaic.TcCoe Idealize.SL.Sem
open Cert.KernelIdeal Cert.KernelIdeal.Gen

namespace Cert.Mla

theorem pay154_apply (w : Vec Ideal S1x1x128x1 .f32) (r : Fin 128) : k0_pay154 (F := Ideal) w (ix2 r 0) = w (ix4 0 0 r 0) := by
  pointwise [k0_pay154]

/-- The row sum of the incoming gradient times the output. -/
theorem pay159_apply (I : Inp) (b h qi : ℕ) (d o : FVec Ideal S128x64 .f32)
    (hd : ∀ (r : Fin 128) (x : Fin 64), d (ix2 r x) = (I.dd b h (128 * qi + r.val) x.val : EReal))
    (ho : ∀ (r : Fin 128) (x : Fin 64), o (ix2 r x) = (I.O b h (128 * qi + r.val) x.val : EReal)) (r : Fin 128) :
    k0_pay159 (F := Ideal) d o (ix2 r 0) = (I.Del b h (128 * qi + r.val) : EReal) := by
  pointwise [k0_pay159]
  exact coe_sum_fin (fun x => I.dd b h (128 * qi + r.val) x * I.O b h (128 * qi + r.val) x) _ fun x => by rw [hd, ho, EReal.coe_mul]

/-- A head's rows of a staged block, read through the whole buffer. -/
theorem blk_apply {N W : ℕ} {e : EltTy} (m : Memref sig .tc .vmem ⟨4, ![1, 4, N, W]⟩ e) (hm : m.IsWhole) (x0 : Vec Ideal ⟨4, ![1, 4, N, W]⟩ e)
    (o : Fin 4 → ℕ) (hn : ℕ) (eo : o = ![0, hn, 0, 0]) (inb : ∀ a : Fin 4, o a + (![1, 1, 128, W] : Fin 4 → ℕ) a ≤ (![1, 4, N, W] : Fin 4 → ℕ) a)
    (hh : hn < 4) (r : Fin 128) (hr : r.val < N) (x : Fin W) :
    m.view.readAt (Elt Ideal) (Rect.unit (s := ⟨4, ![1, 4, N, W]⟩) o ![1, 1, 128, W] inb).toLoadRect (hm.unread x0) (ix4 0 0 r x)
      = x0 (ix4 0 ⟨hn, hh⟩ ⟨r.val, hr⟩ x) := by
  rw [readAt_rows m.view (hm.unread x0) o hn 0 eo inb r x hh (by omega), hm.read_unread]
  exact congrArg (fun y => x0 (ix4 0 ⟨hn, hh⟩ y x)) (Fin.ext (Nat.zero_add _))

/-- A whole block written last reads as what was written. -/
theorem read_fill {N H W : ℕ} {e : EltTy} (v : View sig .tc .vmem ⟨4, ![1, H, N, W]⟩ e) (f : v.ty.Contents (Elt Ideal))
    (inb : ∀ a : Fin 4, (![0, 0, 0, 0] : Fin 4 → ℕ) a + (![1, H, N, W] : Fin 4 → ℕ) a ≤ (![1, H, N, W] : Fin 4 → ℕ) a)
    (w : (⟨4, ![1, H, N, W]⟩ : Shape).Idx → Elt Ideal e) (y : (⟨4, ![1, H, N, W]⟩ : Shape).Idx) :
    v.read (Elt Ideal) (v.writes (Elt Ideal) f [(⟨Rect.unit (s := ⟨4, ![1, H, N, W]⟩) ![0, 0, 0, 0] ![1, H, N, W] inb, w⟩ : View.Piece (Elt Ideal) _ e)]) y = w y := by
  refine View.read_writes_cons_unit_of_mem v f inb w [] y y rfl fun a => ?_
  fin_cases a <;> simp

theorem pay163_apply (hh : Fin 4) (r : Fin 128) (x : Fin 64) : k0_pay163 (F := Ideal) (ix4 0 hh r x) = 0 := by
  pointwise [k0_pay163]
theorem pay164_apply (hh : Fin 4) (r : Fin 128) (x : Fin 32) : k0_pay164 (F := Ideal) (ix4 0 hh r x) = 0 := by
  pointwise [k0_pay164]
theorem pay139_apply (hh : Fin 4) (y : Fin 2048) (x : Fin 64) : k0_pay139 (F := Ideal) (ix4 0 hh y x) = 0 := by
  pointwise [k0_pay139]
theorem pay140_apply (hh : Fin 4) (y : Fin 2048) (x : Fin 64) : k0_pay140 (F := Ideal) (ix4 0 hh y x) = 0 := by
  pointwise [k0_pay140]
theorem pay141_apply (y : Fin 2048) (x : Fin 32) : k0_pay141 (F := Ideal) (ix4 0 0 y x) = 0 := by
  pointwise [k0_pay141]

end Cert.Mla

end
-- ==== Proof.Mla.CaseA.lean ====
/-
  One grid point of the kernel, case A: the first point of a batch row. What the point leaves in each output block is read at an index: the loop's
  sums over what the block held when the loop began.
-/
module

public import proofs.«01_k».proof.Proof.Gen.KernelIdeal.Frame
public import proofs.«01_k».proof.Proof.Mla.Blocks

@[expose] public section

set_option maxRecDepth 16384

noncomputable section

open Idealize.ShloMosaic Idealize.ShloMosaic.TcCoe Idealize.SL.Sem
open Cert.KernelIdeal Cert.KernelIdeal.Gen

namespace Cert.Mla.CaseA

variable (c : Dev nD) (i : grid0.Coords) (arg3 : Memref sig .tc .vmem S1x4x128x64 .f32) (harg3 : arg3.IsWhole) (arg4 : Memref sig .tc .vmem S1x4x128x32 .f32) (harg4 : arg4.IsWhole) (arg5 : Memref sig .tc .vmem S1x4x2048x64 .f32) (harg5 : arg5.IsWhole) (arg6 : Memref sig .tc .vmem S1x1x2048x32 .f32) (harg6 : arg6.IsWhole) (arg7 : Memref sig .tc .vmem S1x4x2048x64 .f32) (harg7 : arg7.IsWhole) (arg8 : Memref sig .tc .vmem S1x4x128x64 .f32) (harg8 : arg8.IsWhole) (arg9 : Memref sig .tc .vmem S1x4x128x1 .f32) (harg9 : arg9.IsWhole) (arg10 : Memref sig .tc .vmem S1x4x128x64 .f32) (harg10 : arg10.IsWhole) (arg11 : Memref sig .tc .vmem S1x4x128x64 .f32) (harg11 : arg11.IsWhole) (arg12 : Memref sig .tc .vmem S1x4x128x32 .f32) (harg12 : arg12.IsWhole) (arg13 : Memref sig .tc .vmem S1x4x2048x64 .f32) (harg13 : arg13.IsWhole) (arg14 : Memref sig .tc .vmem S1x1x2048x32 .f32) (harg14 : arg14.IsWhole) (arg15 : Memref sig .tc .vmem S1x4x2048x64 .f32) (harg15 : arg15.IsWhole) (hc0 : cond0_0 i) (hc1 : cond0_1 i)     (x0 : Vec Ideal S1x4x128x64 .f32) (x1 : Vec Ideal S1x4x128x32 .f32) (x2 : Vec Ideal S1x4x2048x64 .f32) (x3 : Vec Ideal S1x1x2048x32 .f32) (x4 : Vec Ideal S1x4x2048x64 .f32) (x5 : Vec Ideal S1x4x128x64 .f32) (x6 : Vec Ideal S1x4x128x1 .f32) (x7 : Vec Ideal S1x4x128x64 .f32)

/-- What the loop of the point leaves. -/
abbrev ls := (lst Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_4 c arg4 harg4 x1) (kernelRun0_A.sl.r_5 c arg4 harg4 x1) (kernelRun0_A.sl.r_6 c arg4 harg4 x1) (kernelRun0_A.sl.r_7 c arg4 harg4 x1) (kernelRun0_A.sl.r_8 c arg10 harg10 x7) (kernelRun0_A.sl.r_9 c arg10 harg10 x7) (kernelRun0_A.sl.r_10 c arg10 harg10 x7) (kernelRun0_A.sl.r_11 c arg10 harg10 x7) (kernelRun0_A.sl.r_12 c arg9 harg9 x6) (kernelRun0_A.sl.r_13 c arg9 harg9 x6) (kernelRun0_A.sl.r_14 c arg9 harg9 x6) (kernelRun0_A.sl.r_15 c arg9 harg9 x6) (kernelRun0_A.sl.r_17 c arg8 harg8 arg10 harg10 x5 x7) (kernelRun0_A.sl.r_18 c arg8 harg8 arg10 harg10 x5 x7) (kernelRun0_A.sl.r_19 c arg8 harg8 arg10 harg10 x5 x7) (kernelRun0_A.sl.r_20 c arg8 harg8 arg10 harg10 x5 x7) (harg5.unread x2) (harg6.unread x3) (harg7.unread x4) 0#32 (arg11.view.writes (Elt Ideal) arg11.view.junk kernelRun0_A.sl.H8_1) (arg12.view.writes (Elt Ideal) arg12.view.junk kernelRun0_A.sl.H9_1) (arg13.view.writes (Elt Ideal) arg13.view.junk kernelRun0_A.sl.H10_1) (arg14.view.writes (Elt Ideal) arg14.view.junk kernelRun0_A.sl.H11_1) (arg15.view.writes (Elt Ideal) arg15.view.junk kernelRun0_A.sl.H12_1) (k0_t1_loop i).trips)

theorem run8 (v : View sig .tc .vmem S1x4x128x64 .f32) (f : v.ty.Contents (Elt Ideal)) :
    v.writes (Elt Ideal) f (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1 = v.writes (Elt Ideal) (v.writes (Elt Ideal) f kernelRun0_A.sl.H8_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1 := by
  unfold kernelRun0_A
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1 kernelRun0_A.sl.H8_1

theorem run9 (v : View sig .tc .vmem S1x4x128x32 .f32) (f : v.ty.Contents (Elt Ideal)) :
    v.writes (Elt Ideal) f (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1 = v.writes (Elt Ideal) (v.writes (Elt Ideal) f kernelRun0_A.sl.H9_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1 := by
  unfold kernelRun0_A
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1 kernelRun0_A.sl.H9_1

theorem run10 (v : View sig .tc .vmem S1x4x2048x64 .f32) (f : v.ty.Contents (Elt Ideal)) :
    v.writes (Elt Ideal) f (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1 = v.writes (Elt Ideal) (v.writes (Elt Ideal) f kernelRun0_A.sl.H10_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1 := by
  unfold kernelRun0_A
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1 kernelRun0_A.sl.H10_1

theorem run11 (v : View sig .tc .vmem S1x1x2048x32 .f32) (f : v.ty.Contents (Elt Ideal)) :
    v.writes (Elt Ideal) f (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1 = v.writes (Elt Ideal) (v.writes (Elt Ideal) f kernelRun0_A.sl.H11_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1 := by
  unfold kernelRun0_A
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1 kernelRun0_A.sl.H11_1

theorem run12 (v : View sig .tc .vmem S1x4x2048x64 .f32) (f : v.ty.Contents (Elt Ideal)) :
    v.writes (Elt Ideal) f (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1 = v.writes (Elt Ideal) (v.writes (Elt Ideal) f kernelRun0_A.sl.H12_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2 := by
  unfold kernelRun0_A
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2 kernelRun0_A.sl.H12_1

variable (I : Inp) (b hg : ℕ) (hsc : I.sc = scale)
  (hx0 : ∀ (hh : Fin 4) (r : Fin 128) (x : Fin 64), x0 (ix4 0 hh r x) = (I.qn b (4 * hg + hh.val) (128 * (i 2).val + r.val) x.val : EReal))
  (hx1 : ∀ (hh : Fin 4) (r : Fin 128) (x : Fin 32), x1 (ix4 0 hh r x) = (I.qp b (4 * hg + hh.val) (128 * (i 2).val + r.val) x.val : EReal))
  (hx2 : ∀ (hh : Fin 4) (y : Fin 2048) (x : Fin 64), x2 (ix4 0 hh y x) = (I.kn b (4 * hg + hh.val) y.val x.val : EReal))
  (hx3 : ∀ (y : Fin 2048) (x : Fin 32), x3 (ix4 0 0 y x) = (I.kp b y.val x.val : EReal))
  (hx4 : ∀ (hh : Fin 4) (y : Fin 2048) (x : Fin 64), x4 (ix4 0 hh y x) = (I.v b (4 * hg + hh.val) y.val x.val : EReal))
  (hx5 : ∀ (hh : Fin 4) (r : Fin 128) (x : Fin 64), x5 (ix4 0 hh r x) = (I.O b (4 * hg + hh.val) (128 * (i 2).val + r.val) x.val : EReal))
  (hx6 : ∀ (hh : Fin 4) (r : Fin 128), x6 (ix4 0 hh r 0) = (I.Lse b (4 * hg + hh.val) (128 * (i 2).val + r.val) : EReal))
  (hx7 : ∀ (hh : Fin 4) (r : Fin 128) (x : Fin 64), x7 (ix4 0 hh r x) = (I.dd b (4 * hg + hh.val) (128 * (i 2).val + r.val) x.val : EReal))

include hx0 in
theorem hq (hh : Fin 4) (r : Fin 128) (x : Fin 64) : (![(kernelRun0_A.sl.r (F := Ideal) c arg3 harg3 x0), (kernelRun0_A.sl.r_1 (F := Ideal) c arg3 harg3 x0), (kernelRun0_A.sl.r_2 (F := Ideal) c arg3 harg3 x0), (kernelRun0_A.sl.r_3 (F := Ideal) c arg3 harg3 x0)] : Fin 4 → FVec Ideal S128x64 .f32) hh (ix2 r x) = (I.qn b (4 * hg + hh.val) (128 * (i 2).val + r.val) x.val : EReal) := by
  fin_cases hh
  · exact ((pay7_apply _ _ _).trans (blk_apply arg3 harg3 x0 ![0, 0, 0, 0] 0 rfl (by decide) (by decide) r r.isLt x)).trans (hx0 0 r x)
  · exact ((pay7_apply _ _ _).trans (blk_apply arg3 harg3 x0 ![0, 1, 0, 0] 1 rfl (by decide) (by decide) r r.isLt x)).trans (hx0 1 r x)
  · exact ((pay7_apply _ _ _).trans (blk_apply arg3 harg3 x0 ![0, 2, 0, 0] 2 rfl (by decide) (by decide) r r.isLt x)).trans (hx0 2 r x)
  · exact ((pay7_apply _ _ _).trans (blk_apply arg3 harg3 x0 ![0, 3, 0, 0] 3 rfl (by decide) (by decide) r r.isLt x)).trans (hx0 3 r x)

include hx1 in
theorem hqp (hh : Fin 4) (r : Fin 128) (x : Fin 32) : (![(kernelRun0_A.sl.r_4 (F := Ideal) c arg4 harg4 x1), (kernelRun0_A.sl.r_5 (F := Ideal) c arg4 harg4 x1), (kernelRun0_A.sl.r_6 (F := Ideal) c arg4 harg4 x1), (kernelRun0_A.sl.r_7 (F := Ideal) c arg4 harg4 x1)] : Fin 4 → FVec Ideal S128x32 .f32) hh (ix2 r x) = (I.qp b (4 * hg + hh.val) (128 * (i 2).val + r.val) x.val : EReal) := by
  fin_cases hh
  · exact ((pay15_apply _ _ _).trans (blk_apply arg4 harg4 x1 ![0, 0, 0, 0] 0 rfl (by decide) (by decide) r r.isLt x)).trans (hx1 0 r x)
  · exact ((pay15_apply _ _ _).trans (blk_apply arg4 harg4 x1 ![0, 1, 0, 0] 1 rfl (by decide) (by decide) r r.isLt x)).trans (hx1 1 r x)
  · exact ((pay15_apply _ _ _).trans (blk_apply arg4 harg4 x1 ![0, 2, 0, 0] 2 rfl (by decide) (by decide) r r.isLt x)).trans (hx1 2 r x)
  · exact ((pay15_apply _ _ _).trans (blk_apply arg4 harg4 x1 ![0, 3, 0, 0] 3 rfl (by decide) (by decide) r r.isLt x)).trans (hx1 3 r x)

include hx7 in
theorem hd (hh : Fin 4) (r : Fin 128) (x : Fin 64) : (![(kernelRun0_A.sl.r_8 (F := Ideal) c arg10 harg10 x7), (kernelRun0_A.sl.r_9 (F := Ideal) c arg10 harg10 x7), (kernelRun0_A.sl.r_10 (F := Ideal) c arg10 harg10 x7), (kernelRun0_A.sl.r_11 (F := Ideal) c arg10 harg10 x7)] : Fin 4 → FVec Ideal S128x64 .f32) hh (ix2 r x) = (I.dd b (4 * hg + hh.val) (128 * (i 2).val + r.val) x.val : EReal) := by
  fin_cases hh
  · exact ((pay7_apply _ _ _).trans (blk_apply arg10 harg10 x7 ![0, 0, 0, 0] 0 rfl (by decide) (by decide) r r.isLt x)).trans (hx7 0 r x)
  · exact ((pay7_apply _ _ _).trans (blk_apply arg10 harg10 x7 ![0, 1, 0, 0] 1 rfl (by decide) (by decide) r r.isLt x)).trans (hx7 1 r x)
  · exact ((pay7_apply _ _ _).trans (blk_apply arg10 harg10 x7 ![0, 2, 0, 0] 2 rfl (by decide) (by decide) r r.isLt x)).trans (hx7 2 r x)
  · exact ((pay7_apply _ _ _).trans (blk_apply arg10 harg10 x7 ![0, 3, 0, 0] 3 rfl (by decide) (by decide) r r.isLt x)).trans (hx7 3 r x)

include hx6 in
theorem hl (hh : Fin 4) (r : Fin 128) : (![(kernelRun0_A.sl.r_12 (F := Ideal) c arg9 harg9 x6), (kernelRun0_A.sl.r_13 (F := Ideal) c arg9 harg9 x6), (kernelRun0_A.sl.r_14 (F := Ideal) c arg9 harg9 x6), (kernelRun0_A.sl.r_15 (F := Ideal) c arg9 harg9 x6)] : Fin 4 → FVec Ideal S128x1 .f32) hh (ix2 r 0) = (I.Lse b (4 * hg + hh.val) (128 * (i 2).val + r.val) : EReal) := by
  fin_cases hh
  · exact ((pay154_apply _ _).trans (blk_apply arg9 harg9 x6 ![0, 0, 0, 0] 0 rfl (by decide) (by decide) r r.isLt 0)).trans (hx6 0 r)
  · exact ((pay154_apply _ _).trans (blk_apply arg9 harg9 x6 ![0, 1, 0, 0] 1 rfl (by decide) (by decide) r r.isLt 0)).trans (hx6 1 r)
  · exact ((pay154_apply _ _).trans (blk_apply arg9 harg9 x6 ![0, 2, 0, 0] 2 rfl (by decide) (by decide) r r.isLt 0)).trans (hx6 2 r)
  · exact ((pay154_apply _ _).trans (blk_apply arg9 harg9 x6 ![0, 3, 0, 0] 3 rfl (by decide) (by decide) r r.isLt 0)).trans (hx6 3 r)

include hx5 hx7 in
theorem he (hh : Fin 4) (r : Fin 128) : (![(kernelRun0_A.sl.r_17 (F := Ideal) c arg8 harg8 arg10 harg10 x5 x7), (kernelRun0_A.sl.r_18 (F := Ideal) c arg8 harg8 arg10 harg10 x5 x7), (kernelRun0_A.sl.r_19 (F := Ideal) c arg8 harg8 arg10 harg10 x5 x7), (kernelRun0_A.sl.r_20 (F := Ideal) c arg8 harg8 arg10 harg10 x5 x7)] : Fin 4 → FVec Ideal S128x1 .f32) hh (ix2 r 0) = (I.Del b (4 * hg + hh.val) (128 * (i 2).val + r.val) : EReal) := by
  fin_cases hh
  · exact pay159_apply I b (4 * hg + 0) (i 2).val _ _
      (fun r x => ((pay7_apply _ _ _).trans (blk_apply arg10 harg10 x7 ![0, 0, 0, 0] 0 rfl (by decide) (by decide) r r.isLt x)).trans (hx7 0 r x))
      (fun r x => ((pay7_apply _ _ _).trans (blk_apply arg8 harg8 x5 ![0, 0, 0, 0] 0 rfl (by decide) (by decide) r r.isLt x)).trans (hx5 0 r x)) r
  · exact pay159_apply I b (4 * hg + 1) (i 2).val _ _
      (fun r x => ((pay7_apply _ _ _).trans (blk_apply arg10 harg10 x7 ![0, 1, 0, 0] 1 rfl (by decide) (by decide) r r.isLt x)).trans (hx7 1 r x))
      (fun r x => ((pay7_apply _ _ _).trans (blk_apply arg8 harg8 x5 ![0, 1, 0, 0] 1 rfl (by decide) (by decide) r r.isLt x)).trans (hx5 1 r x)) r
  · exact pay159_apply I b (4 * hg + 2) (i 2).val _ _
      (fun r x => ((pay7_apply _ _ _).trans (blk_apply arg10 harg10 x7 ![0, 2, 0, 0] 2 rfl (by decide) (by decide) r r.isLt x)).trans (hx7 2 r x))
      (fun r x => ((pay7_apply _ _ _).trans (blk_apply arg8 harg8 x5 ![0, 2, 0, 0] 2 rfl (by decide) (by decide) r r.isLt x)).trans (hx5 2 r x)) r
  · exact pay159_apply I b (4 * hg + 3) (i 2).val _ _
      (fun r x => ((pay7_apply _ _ _).trans (blk_apply arg10 harg10 x7 ![0, 3, 0, 0] 3 rfl (by decide) (by decide) r r.isLt x)).trans (hx7 3 r x))
      (fun r x => ((pay7_apply _ _ _).trans (blk_apply arg8 harg8 x5 ![0, 3, 0, 0] 3 rfl (by decide) (by decide) r r.isLt x)).trans (hx5 3 r x)) r

include hsc hx0 hx1 hx2 hx3 hx4 hx5 hx6 hx7 in
/-- The query gradient block after the point. -/
theorem out8 (hh : Fin 4) (r : Fin 128) (x : Fin 64) : out0_A_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix4 0 hh r x) = ((∑ j ∈ Finset.range 2048, I.DS b (4 * hg + hh.val) (128 * (i 2).val + r.val) j * I.kn b (4 * hg + hh.val) j x.val : ℝ) : EReal) := by
  unfold out0_A_8
  refine (congrFun (View.read_writes_of_cover VO0_8 VO0_8.junk arg11.view arg11.view.junk _ (cover0_A_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)) _).trans ?_
  refine (congrFun (congrArg (arg11.view.read (Elt Ideal)) (run8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 arg11.view arg11.view.junk)) _).trans ?_
  refine (loop11 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (r := r) (x := x) ..).trans ?_
  rw [show arg11.view.read (Elt Ideal) (arg11.view.writes (Elt Ideal) arg11.view.junk kernelRun0_A.sl.H8_1) (ix4 0 hh r x) = 0 from (read_fill arg11.view arg11.view.junk (by decide) (k0_pay163 (F := Ideal)) _).trans (pay163_apply hh r x), zero_add]

include hsc hx0 hx1 hx2 hx3 hx4 hx5 hx6 hx7 in
/-- The rotary query gradient block after the point. -/
theorem out9 (hh : Fin 4) (r : Fin 128) (x : Fin 32) : out0_A_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix4 0 hh r x) = ((∑ j ∈ Finset.range 2048, I.DS b (4 * hg + hh.val) (128 * (i 2).val + r.val) j * I.kp b j x.val : ℝ) : EReal) := by
  unfold out0_A_9
  refine (congrFun (View.read_writes_of_cover VO0_9 VO0_9.junk arg12.view arg12.view.junk _ (cover0_A_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)) _).trans ?_
  refine (congrFun (congrArg (arg12.view.read (Elt Ideal)) (run9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 arg12.view arg12.view.junk)) _).trans ?_
  refine (loop12 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (r := r) (x := x) ..).trans ?_
  rw [show arg12.view.read (Elt Ideal) (arg12.view.writes (Elt Ideal) arg12.view.junk kernelRun0_A.sl.H9_1) (ix4 0 hh r x) = 0 from (read_fill arg12.view arg12.view.junk (by decide) (k0_pay164 (F := Ideal)) _).trans (pay164_apply hh r x), zero_add]

include hsc hx0 hx1 hx2 hx3 hx4 hx5 hx6 hx7 in
/-- The key gradient block after the point. -/
theorem out10 (hh : Fin 4) (y : Fin 2048) (x : Fin 64) : out0_A_10 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix4 0 hh y x) = ((∑ j ∈ Finset.range 128, I.DS b (4 * hg + hh.val) (128 * (i 2).val + j) y.val * I.qn b (4 * hg + hh.val) (128 * (i 2).val + j) x.val : ℝ) : EReal) := by
  unfold out0_A_10
  refine (congrFun (View.read_writes_of_cover VO0_10 VO0_10.junk arg13.view arg13.view.junk _ (cover0_A_10 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)) _).trans ?_
  refine (congrFun (congrArg (arg13.view.read (Elt Ideal)) (run10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 arg13.view arg13.view.junk)) _).trans ?_
  refine (loop13 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (y := y) (x := x) ..).trans ?_
  rw [show arg13.view.read (Elt Ideal) (arg13.view.writes (Elt Ideal) arg13.view.junk kernelRun0_A.sl.H10_1) (ix4 0 hh y x) = 0 from (read_fill arg13.view arg13.view.junk (by decide) (k0_pay139 (F := Ideal)) _).trans (pay139_apply hh y x), zero_add]

include hsc hx0 hx1 hx2 hx3 hx4 hx5 hx6 hx7 in
/-- The rotary key gradient block after the point. -/
theorem out11 (y : Fin 2048) (x : Fin 32) : out0_A_11 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix4 0 0 y x) = ((∑ hh ∈ Finset.range 4, ∑ j ∈ Finset.range 128, I.DS b (4 * hg + hh) (128 * (i 2).val + j) y.val * I.qp b (4 * hg + hh) (128 * (i 2).val + j) x.val : ℝ) : EReal) := by
  unfold out0_A_11
  refine (congrFun (View.read_writes_of_cover VO0_11 VO0_11.junk arg14.view arg14.view.junk _ (cover0_A_11 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)) _).trans ?_
  refine (congrFun (congrArg (arg14.view.read (Elt Ideal)) (run11 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 arg14.view arg14.view.junk)) _).trans ?_
  refine (loop14 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (y := y) (x := x) ..).trans ?_
  rw [show arg14.view.read (Elt Ideal) (arg14.view.writes (Elt Ideal) arg14.view.junk kernelRun0_A.sl.H11_1) (ix4 0 0 y x) = 0 from (read_fill arg14.view arg14.view.junk (by decide) (k0_pay141 (F := Ideal)) _).trans (pay141_apply y x), zero_add]

include hsc hx0 hx1 hx2 hx3 hx4 hx5 hx6 hx7 in
/-- The value gradient block after the point. -/
theorem out12 (hh : Fin 4) (y : Fin 2048) (x : Fin 64) : out0_A_12 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix4 0 hh y x) = ((∑ j ∈ Finset.range 128, I.P b (4 * hg + hh.val) (128 * (i 2).val + j) y.val * I.dd b (4 * hg + hh.val) (128 * (i 2).val + j) x.val : ℝ) : EReal) := by
  unfold out0_A_12
  refine (congrFun (View.read_writes_of_cover VO0_12 VO0_12.junk arg15.view arg15.view.junk _ (cover0_A_12 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)) _).trans ?_
  refine (congrFun (congrArg (arg15.view.read (Elt Ideal)) (run12 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 arg15.view arg15.view.junk)) _).trans ?_
  refine (loop15 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (y := y) (x := x) ..).trans ?_
  rw [show arg15.view.read (Elt Ideal) (arg15.view.writes (Elt Ideal) arg15.view.junk kernelRun0_A.sl.H12_1) (ix4 0 hh y x) = 0 from (read_fill arg15.view arg15.view.junk (by decide) (k0_pay140 (F := Ideal)) _).trans (pay140_apply hh y x), zero_add]

end Cert.Mla.CaseA

end
-- ==== Proof.Mla.CaseB.lean ====
/-
  One grid point of the kernel, case B: a point that goes on with its group of heads. What the point leaves in each output block is read at an index: the loop's
  sums over what the block held when the loop began.
-/
module

public import proofs.«01_k».proof.Proof.Gen.KernelIdeal.Frame
public import proofs.«01_k».proof.Proof.Mla.Blocks

@[expose] public section

set_option maxRecDepth 16384

noncomputable section

open Idealize.ShloMosaic Idealize.ShloMosaic.TcCoe Idealize.SL.Sem
open Cert.KernelIdeal Cert.KernelIdeal.Gen

namespace Cert.Mla.CaseB

variable (c : Dev nD) (i : grid0.Coords) (arg3 : Memref sig .tc .vmem S1x4x128x64 .f32) (harg3 : arg3.IsWhole) (arg4 : Memref sig .tc .vmem S1x4x128x32 .f32) (harg4 : arg4.IsWhole) (arg5 : Memref sig .tc .vmem S1x4x2048x64 .f32) (harg5 : arg5.IsWhole) (arg6 : Memref sig .tc .vmem S1x1x2048x32 .f32) (harg6 : arg6.IsWhole) (arg7 : Memref sig .tc .vmem S1x4x2048x64 .f32) (harg7 : arg7.IsWhole) (arg8 : Memref sig .tc .vmem S1x4x128x64 .f32) (harg8 : arg8.IsWhole) (arg9 : Memref sig .tc .vmem S1x4x128x1 .f32) (harg9 : arg9.IsWhole) (arg10 : Memref sig .tc .vmem S1x4x128x64 .f32) (harg10 : arg10.IsWhole) (arg11 : Memref sig .tc .vmem S1x4x128x64 .f32) (harg11 : arg11.IsWhole) (arg12 : Memref sig .tc .vmem S1x4x128x32 .f32) (harg12 : arg12.IsWhole) (arg13 : Memref sig .tc .vmem S1x4x2048x64 .f32) (harg13 : arg13.IsWhole) (arg14 : Memref sig .tc .vmem S1x1x2048x32 .f32) (harg14 : arg14.IsWhole) (arg15 : Memref sig .tc .vmem S1x4x2048x64 .f32) (harg15 : arg15.IsWhole) (hc0 : ¬cond0_0 i) (hc1 : ¬cond0_1 i)     (x0 : Vec Ideal S1x4x128x64 .f32) (x1 : Vec Ideal S1x4x128x32 .f32) (x2 : Vec Ideal S1x4x2048x64 .f32) (x3 : Vec Ideal S1x1x2048x32 .f32) (x4 : Vec Ideal S1x4x2048x64 .f32) (x5 : Vec Ideal S1x4x128x64 .f32) (x6 : Vec Ideal S1x4x128x1 .f32) (x7 : Vec Ideal S1x4x128x64 .f32) (xo10 : Vec Ideal S1x4x2048x64 .f32) (xo11 : Vec Ideal S1x1x2048x32 .f32) (xo12 : Vec Ideal S1x4x2048x64 .f32)

/-- What the loop of the point leaves. -/
abbrev ls := (lst Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_B.sl.r c arg3 harg3 x0) (kernelRun0_B.sl.r_1 c arg3 harg3 x0) (kernelRun0_B.sl.r_2 c arg3 harg3 x0) (kernelRun0_B.sl.r_3 c arg3 harg3 x0) (kernelRun0_B.sl.r_4 c arg4 harg4 x1) (kernelRun0_B.sl.r_5 c arg4 harg4 x1) (kernelRun0_B.sl.r_6 c arg4 harg4 x1) (kernelRun0_B.sl.r_7 c arg4 harg4 x1) (kernelRun0_B.sl.r_8 c arg10 harg10 x7) (kernelRun0_B.sl.r_9 c arg10 harg10 x7) (kernelRun0_B.sl.r_10 c arg10 harg10 x7) (kernelRun0_B.sl.r_11 c arg10 harg10 x7) (kernelRun0_B.sl.r_12 c arg9 harg9 x6) (kernelRun0_B.sl.r_13 c arg9 harg9 x6) (kernelRun0_B.sl.r_14 c arg9 harg9 x6) (kernelRun0_B.sl.r_15 c arg9 harg9 x6) (kernelRun0_B.sl.r_17 c arg8 harg8 arg10 harg10 x5 x7) (kernelRun0_B.sl.r_18 c arg8 harg8 arg10 harg10 x5 x7) (kernelRun0_B.sl.r_19 c arg8 harg8 arg10 harg10 x5 x7) (kernelRun0_B.sl.r_20 c arg8 harg8 arg10 harg10 x5 x7) (harg5.unread x2) (harg6.unread x3) (harg7.unread x4) 0#32 (arg11.view.writes (Elt Ideal) arg11.view.junk kernelRun0_B.sl.H8_1) (arg12.view.writes (Elt Ideal) arg12.view.junk kernelRun0_B.sl.H9_1) (harg13.unread xo10) (harg14.unread xo11) (harg15.unread xo12) (k0_t1_loop i).trips)

theorem run8 (v : View sig .tc .vmem S1x4x128x64 .f32) (f : v.ty.Contents (Elt Ideal)) :
    v.writes (Elt Ideal) f (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12).1 = v.writes (Elt Ideal) (v.writes (Elt Ideal) f kernelRun0_B.sl.H8_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo10 xo11 xo12).2.1 := by
  unfold kernelRun0_B
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo10 xo11 xo12).2.1 kernelRun0_B.sl.H8_1

theorem run9 (v : View sig .tc .vmem S1x4x128x32 .f32) (f : v.ty.Contents (Elt Ideal)) :
    v.writes (Elt Ideal) f (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12).2.1 = v.writes (Elt Ideal) (v.writes (Elt Ideal) f kernelRun0_B.sl.H9_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo10 xo11 xo12).2.2.1 := by
  unfold kernelRun0_B
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo10 xo11 xo12).2.2.1 kernelRun0_B.sl.H9_1

theorem run10 (v : View sig .tc .vmem S1x4x2048x64 .f32) (f : v.ty.Contents (Elt Ideal)) :
    v.writes (Elt Ideal) f (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12).2.2.1 = v.writes (Elt Ideal) f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo10 xo11 xo12).2.2.2.1 := by
  unfold kernelRun0_B
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact rfl

theorem run11 (v : View sig .tc .vmem S1x1x2048x32 .f32) (f : v.ty.Contents (Elt Ideal)) :
    v.writes (Elt Ideal) f (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12).2.2.2.1 = v.writes (Elt Ideal) f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo10 xo11 xo12).2.2.2.2.1 := by
  unfold kernelRun0_B
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact rfl

theorem run12 (v : View sig .tc .vmem S1x4x2048x64 .f32) (f : v.ty.Contents (Elt Ideal)) :
    v.writes (Elt Ideal) f (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12).2.2.2.2.1 = v.writes (Elt Ideal) f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo10 xo11 xo12).2.2.2.2.2 := by
  unfold kernelRun0_B
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact rfl

variable (I : Inp) (b hg : ℕ) (hsc : I.sc = scale)
  (hx0 : ∀ (hh : Fin 4) (r : Fin 128) (x : Fin 64), x0 (ix4 0 hh r x) = (I.qn b (4 * hg + hh.val) (128 * (i 2).val + r.val) x.val : EReal))
  (hx1 : ∀ (hh : Fin 4) (r : Fin 128) (x : Fin 32), x1 (ix4 0 hh r x) = (I.qp b (4 * hg + hh.val) (128 * (i 2).val + r.val) x.val : EReal))
  (hx2 : ∀ (hh : Fin 4) (y : Fin 2048) (x : Fin 64), x2 (ix4 0 hh y x) = (I.kn b (4 * hg + hh.val) y.val x.val : EReal))
  (hx3 : ∀ (y : Fin 2048) (x : Fin 32), x3 (ix4 0 0 y x) = (I.kp b y.val x.val : EReal))
  (hx4 : ∀ (hh : Fin 4) (y : Fin 2048) (x : Fin 64), x4 (ix4 0 hh y x) = (I.v b (4 * hg + hh.val) y.val x.val : EReal))
  (hx5 : ∀ (hh : Fin 4) (r : Fin 128) (x : Fin 64), x5 (ix4 0 hh r x) = (I.O b (4 * hg + hh.val) (128 * (i 2).val + r.val) x.val : EReal))
  (hx6 : ∀ (hh : Fin 4) (r : Fin 128), x6 (ix4 0 hh r 0) = (I.Lse b (4 * hg + hh.val) (128 * (i 2).val + r.val) : EReal))
  (hx7 : ∀ (hh : Fin 4) (r : Fin 128) (x : Fin 64), x7 (ix4 0 hh r x) = (I.dd b (4 * hg + hh.val) (128 * (i 2).val + r.val) x.val : EReal))

include hx0 in
theorem hq (hh : Fin 4) (r : Fin 128) (x : Fin 64) : (![(kernelRun0_B.sl.r (F := Ideal) c arg3 harg3 x0), (kernelRun0_B.sl.r_1 (F := Ideal) c arg3 harg3 x0), (kernelRun0_B.sl.r_2 (F := Ideal) c arg3 harg3 x0), (kernelRun0_B.sl.r_3 (F := Ideal) c arg3 harg3 x0)] : Fin 4 → FVec Ideal S128x64 .f32) hh (ix2 r x) = (I.qn b (4 * hg + hh.val) (128 * (i 2).val + r.val) x.val : EReal) := by
  fin_cases hh
  · exact ((pay7_apply _ _ _).trans (blk_apply arg3 harg3 x0 ![0, 0, 0, 0] 0 rfl (by decide) (by decide) r r.isLt x)).trans (hx0 0 r x)
  · exact ((pay7_apply _ _ _).trans (blk_apply arg3 harg3 x0 ![0, 1, 0, 0] 1 rfl (by decide) (by decide) r r.isLt x)).trans (hx0 1 r x)
  · exact ((pay7_apply _ _ _).trans (blk_apply arg3 harg3 x0 ![0, 2, 0, 0] 2 rfl (by decide) (by decide) r r.isLt x)).trans (hx0 2 r x)
  · exact ((pay7_apply _ _ _).trans (blk_apply arg3 harg3 x0 ![0, 3, 0, 0] 3 rfl (by decide) (by decide) r r.isLt x)).trans (hx0 3 r x)

include hx1 in
theorem hqp (hh : Fin 4) (r : Fin 128) (x : Fin 32) : (![(kernelRun0_B.sl.r_4 (F := Ideal) c arg4 harg4 x1), (kernelRun0_B.sl.r_5 (F := Ideal) c arg4 harg4 x1), (kernelRun0_B.sl.r_6 (F := Ideal) c arg4 harg4 x1), (kernelRun0_B.sl.r_7 (F := Ideal) c arg4 harg4 x1)] : Fin 4 → FVec Ideal S128x32 .f32) hh (ix2 r x) = (I.qp b (4 * hg + hh.val) (128 * (i 2).val + r.val) x.val : EReal) := by
  fin_cases hh
  · exact ((pay15_apply _ _ _).trans (blk_apply arg4 harg4 x1 ![0, 0, 0, 0] 0 rfl (by decide) (by decide) r r.isLt x)).trans (hx1 0 r x)
  · exact ((pay15_apply _ _ _).trans (blk_apply arg4 harg4 x1 ![0, 1, 0, 0] 1 rfl (by decide) (by decide) r r.isLt x)).trans (hx1 1 r x)
  · exact ((pay15_apply _ _ _).trans (blk_apply arg4 harg4 x1 ![0, 2, 0, 0] 2 rfl (by decide) (by decide) r r.isLt x)).trans (hx1 2 r x)
  · exact ((pay15_apply _ _ _).trans (blk_apply arg4 harg4 x1 ![0, 3, 0, 0] 3 rfl (by decide) (by decide) r r.isLt x)).trans (hx1 3 r x)

include hx7 in
theorem hd (hh : Fin 4) (r : Fin 128) (x : Fin 64) : (![(kernelRun0_B.sl.r_8 (F := Ideal) c arg10 harg10 x7), (kernelRun0_B.sl.r_9 (F := Ideal) c arg10 harg10 x7), (kernelRun0_B.sl.r_10 (F := Ideal) c arg10 harg10 x7), (kernelRun0_B.sl.r_11 (F := Ideal) c arg10 harg10 x7)] : Fin 4 → FVec Ideal S128x64 .f32) hh (ix2 r x) = (I.dd b (4 * hg + hh.val) (128 * (i 2).val + r.val) x.val : EReal) := by
  fin_cases hh
  · exact ((pay7_apply _ _ _).trans (blk_apply arg10 harg10 x7 ![0, 0, 0, 0] 0 rfl (by decide) (by decide) r r.isLt x)).trans (hx7 0 r x)
  · exact ((pay7_apply _ _ _).trans (blk_apply arg10 harg10 x7 ![0, 1, 0, 0] 1 rfl (by decide) (by decide) r r.isLt x)).trans (hx7 1 r x)
  · exact ((pay7_apply _ _ _).trans (blk_apply arg10 harg10 x7 ![0, 2, 0, 0] 2 rfl (by decide) (by decide) r r.isLt x)).trans (hx7 2 r x)
  · exact ((pay7_apply _ _ _).trans (blk_apply arg10 harg10 x7 ![0, 3, 0, 0] 3 rfl (by decide) (by decide) r r.isLt x)).trans (hx7 3 r x)

include hx6 in
theorem hl (hh : Fin 4) (r : Fin 128) : (![(kernelRun0_B.sl.r_12 (F := Ideal) c arg9 harg9 x6), (kernelRun0_B.sl.r_13 (F := Ideal) c arg9 harg9 x6), (kernelRun0_B.sl.r_14 (F := Ideal) c arg9 harg9 x6), (kernelRun0_B.sl.r_15 (F := Ideal) c arg9 harg9 x6)] : Fin 4 → FVec Ideal S128x1 .f32) hh (ix2 r 0) = (I.Lse b (4 * hg + hh.val) (128 * (i 2).val + r.val) : EReal) := by
  fin_cases hh
  · exact ((pay154_apply _ _).trans (blk_apply arg9 harg9 x6 ![0, 0, 0, 0] 0 rfl (by decide) (by decide) r r.isLt 0)).trans (hx6 0 r)
  · exact ((pay154_apply _ _).trans (blk_apply arg9 harg9 x6 ![0, 1, 0, 0] 1 rfl (by decide) (by decide) r r.isLt 0)).trans (hx6 1 r)
  · exact ((pay154_apply _ _).trans (blk_apply arg9 harg9 x6 ![0, 2, 0, 0] 2 rfl (by decide) (by decide) r r.isLt 0)).trans (hx6 2 r)
  · exact ((pay154_apply _ _).trans (blk_apply arg9 harg9 x6 ![0, 3, 0, 0] 3 rfl (by decide) (by decide) r r.isLt 0)).trans (hx6 3 r)

include hx5 hx7 in
theorem he (hh : Fin 4) (r : Fin 128) : (![(kernelRun0_B.sl.r_17 (F := Ideal) c arg8 harg8 arg10 harg10 x5 x7), (kernelRun0_B.sl.r_18 (F := Ideal) c arg8 harg8 arg10 harg10 x5 x7), (kernelRun0_B.sl.r_19 (F := Ideal) c arg8 harg8 arg10 harg10 x5 x7), (kernelRun0_B.sl.r_20 (F := Ideal) c arg8 harg8 arg10 harg10 x5 x7)] : Fin 4 → FVec Ideal S128x1 .f32) hh (ix2 r 0) = (I.Del b (4 * hg + hh.val) (128 * (i 2).val + r.val) : EReal) := by
  fin_cases hh
  · exact pay159_apply I b (4 * hg + 0) (i 2).val _ _
      (fun r x => ((pay7_apply _ _ _).trans (blk_apply arg10 harg10 x7 ![0, 0, 0, 0] 0 rfl (by decide) (by decide) r r.isLt x)).trans (hx7 0 r x))
      (fun r x => ((pay7_apply _ _ _).trans (blk_apply arg8 harg8 x5 ![0, 0, 0, 0] 0 rfl (by decide) (by decide) r r.isLt x)).trans (hx5 0 r x)) r
  · exact pay159_apply I b (4 * hg + 1) (i 2).val _ _
      (fun r x => ((pay7_apply _ _ _).trans (blk_apply arg10 harg10 x7 ![0, 1, 0, 0] 1 rfl (by decide) (by decide) r r.isLt x)).trans (hx7 1 r x))
      (fun r x => ((pay7_apply _ _ _).trans (blk_apply arg8 harg8 x5 ![0, 1, 0, 0] 1 rfl (by decide) (by decide) r r.isLt x)).trans (hx5 1 r x)) r
  · exact pay159_apply I b (4 * hg + 2) (i 2).val _ _
      (fun r x => ((pay7_apply _ _ _).trans (blk_apply arg10 harg10 x7 ![0, 2, 0, 0] 2 rfl (by decide) (by decide) r r.isLt x)).trans (hx7 2 r x))
      (fun r x => ((pay7_apply _ _ _).trans (blk_apply arg8 harg8 x5 ![0, 2, 0, 0] 2 rfl (by decide) (by decide) r r.isLt x)).trans (hx5 2 r x)) r
  · exact pay159_apply I b (4 * hg + 3) (i 2).val _ _
      (fun r x => ((pay7_apply _ _ _).trans (blk_apply arg10 harg10 x7 ![0, 3, 0, 0] 3 rfl (by decide) (by decide) r r.isLt x)).trans (hx7 3 r x))
      (fun r x => ((pay7_apply _ _ _).trans (blk_apply arg8 harg8 x5 ![0, 3, 0, 0] 3 rfl (by decide) (by decide) r r.isLt x)).trans (hx5 3 r x)) r

include hsc hx0 hx1 hx2 hx3 hx4 hx5 hx6 hx7 in
/-- The query gradient block after the point. -/
theorem out8 (hh : Fin 4) (r : Fin 128) (x : Fin 64) : out0_B_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 (ix4 0 hh r x) = ((∑ j ∈ Finset.range 2048, I.DS b (4 * hg + hh.val) (128 * (i 2).val + r.val) j * I.kn b (4 * hg + hh.val) j x.val : ℝ) : EReal) := by
  unfold out0_B_8
  refine (congrFun (View.read_writes_of_cover VO0_8 VO0_8.junk arg11.view arg11.view.junk _ (cover0_B_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12)) _).trans ?_
  refine (congrFun (congrArg (arg11.view.read (Elt Ideal)) (run8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 arg11.view arg11.view.junk)) _).trans ?_
  refine (loop11 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (r := r) (x := x) ..).trans ?_
  rw [show arg11.view.read (Elt Ideal) (arg11.view.writes (Elt Ideal) arg11.view.junk kernelRun0_B.sl.H8_1) (ix4 0 hh r x) = 0 from (read_fill arg11.view arg11.view.junk (by decide) (k0_pay163 (F := Ideal)) _).trans (pay163_apply hh r x), zero_add]

include hsc hx0 hx1 hx2 hx3 hx4 hx5 hx6 hx7 in
/-- The rotary query gradient block after the point. -/
theorem out9 (hh : Fin 4) (r : Fin 128) (x : Fin 32) : out0_B_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 (ix4 0 hh r x) = ((∑ j ∈ Finset.range 2048, I.DS b (4 * hg + hh.val) (128 * (i 2).val + r.val) j * I.kp b j x.val : ℝ) : EReal) := by
  unfold out0_B_9
  refine (congrFun (View.read_writes_of_cover VO0_9 VO0_9.junk arg12.view arg12.view.junk _ (cover0_B_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12)) _).trans ?_
  refine (congrFun (congrArg (arg12.view.read (Elt Ideal)) (run9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 arg12.view arg12.view.junk)) _).trans ?_
  refine (loop12 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (r := r) (x := x) ..).trans ?_
  rw [show arg12.view.read (Elt Ideal) (arg12.view.writes (Elt Ideal) arg12.view.junk kernelRun0_B.sl.H9_1) (ix4 0 hh r x) = 0 from (read_fill arg12.view arg12.view.junk (by decide) (k0_pay164 (F := Ideal)) _).trans (pay164_apply hh r x), zero_add]

include hsc hx0 hx1 hx2 hx3 hx4 hx5 hx6 hx7 in
/-- The key gradient block after the point. -/
theorem out10 (hh : Fin 4) (y : Fin 2048) (x : Fin 64) : out0_B_10 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 (ix4 0 hh y x) = xo10 (ix4 0 hh y x) + ((∑ j ∈ Finset.range 128, I.DS b (4 * hg + hh.val) (128 * (i 2).val + j) y.val * I.qn b (4 * hg + hh.val) (128 * (i 2).val + j) x.val : ℝ) : EReal) := by
  unfold out0_B_10
  skip
  refine (congrFun (congrArg (arg13.view.read (Elt Ideal)) (run10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 arg13.view (harg13.unread xo10))) _).trans ?_
  refine (loop13 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (y := y) (x := x) ..).trans ?_
  rw [harg13.read_unread]

include hsc hx0 hx1 hx2 hx3 hx4 hx5 hx6 hx7 in
/-- The rotary key gradient block after the point. -/
theorem out11 (y : Fin 2048) (x : Fin 32) : out0_B_11 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 (ix4 0 0 y x) = xo11 (ix4 0 0 y x) + ((∑ hh ∈ Finset.range 4, ∑ j ∈ Finset.range 128, I.DS b (4 * hg + hh) (128 * (i 2).val + j) y.val * I.qp b (4 * hg + hh) (128 * (i 2).val + j) x.val : ℝ) : EReal) := by
  unfold out0_B_11
  skip
  refine (congrFun (congrArg (arg14.view.read (Elt Ideal)) (run11 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 arg14.view (harg14.unread xo11))) _).trans ?_
  refine (loop14 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (y := y) (x := x) ..).trans ?_
  rw [harg14.read_unread]

include hsc hx0 hx1 hx2 hx3 hx4 hx5 hx6 hx7 in
/-- The value gradient block after the point. -/
theorem out12 (hh : Fin 4) (y : Fin 2048) (x : Fin 64) : out0_B_12 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 (ix4 0 hh y x) = xo12 (ix4 0 hh y x) + ((∑ j ∈ Finset.range 128, I.P b (4 * hg + hh.val) (128 * (i 2).val + j) y.val * I.dd b (4 * hg + hh.val) (128 * (i 2).val + j) x.val : ℝ) : EReal) := by
  unfold out0_B_12
  skip
  refine (congrFun (congrArg (arg15.view.read (Elt Ideal)) (run12 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 arg15.view (harg15.unread xo12))) _).trans ?_
  refine (loop15 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (y := y) (x := x) ..).trans ?_
  rw [harg15.read_unread]

end Cert.Mla.CaseB

end
-- ==== Proof.Mla.CaseC.lean ====
/-
  One grid point of the kernel, case C: the first point of a further group of heads. What the point leaves in each output block is read at an index: the loop's
  sums over what the block held when the loop began.
-/
module

public import proofs.«01_k».proof.Proof.Gen.KernelIdeal.Frame
public import proofs.«01_k».proof.Proof.Mla.Blocks

@[expose] public section

set_option maxRecDepth 16384

noncomputable section

open Idealize.ShloMosaic Idealize.ShloMosaic.TcCoe Idealize.SL.Sem
open Cert.KernelIdeal Cert.KernelIdeal.Gen

namespace Cert.Mla.CaseC

variable (c : Dev nD) (i : grid0.Coords) (arg3 : Memref sig .tc .vmem S1x4x128x64 .f32) (harg3 : arg3.IsWhole) (arg4 : Memref sig .tc .vmem S1x4x128x32 .f32) (harg4 : arg4.IsWhole) (arg5 : Memref sig .tc .vmem S1x4x2048x64 .f32) (harg5 : arg5.IsWhole) (arg6 : Memref sig .tc .vmem S1x1x2048x32 .f32) (harg6 : arg6.IsWhole) (arg7 : Memref sig .tc .vmem S1x4x2048x64 .f32) (harg7 : arg7.IsWhole) (arg8 : Memref sig .tc .vmem S1x4x128x64 .f32) (harg8 : arg8.IsWhole) (arg9 : Memref sig .tc .vmem S1x4x128x1 .f32) (harg9 : arg9.IsWhole) (arg10 : Memref sig .tc .vmem S1x4x128x64 .f32) (harg10 : arg10.IsWhole) (arg11 : Memref sig .tc .vmem S1x4x128x64 .f32) (harg11 : arg11.IsWhole) (arg12 : Memref sig .tc .vmem S1x4x128x32 .f32) (harg12 : arg12.IsWhole) (arg13 : Memref sig .tc .vmem S1x4x2048x64 .f32) (harg13 : arg13.IsWhole) (arg14 : Memref sig .tc .vmem S1x1x2048x32 .f32) (harg14 : arg14.IsWhole) (arg15 : Memref sig .tc .vmem S1x4x2048x64 .f32) (harg15 : arg15.IsWhole) (hc0 : cond0_0 i) (hc1 : ¬cond0_1 i)     (x0 : Vec Ideal S1x4x128x64 .f32) (x1 : Vec Ideal S1x4x128x32 .f32) (x2 : Vec Ideal S1x4x2048x64 .f32) (x3 : Vec Ideal S1x1x2048x32 .f32) (x4 : Vec Ideal S1x4x2048x64 .f32) (x5 : Vec Ideal S1x4x128x64 .f32) (x6 : Vec Ideal S1x4x128x1 .f32) (x7 : Vec Ideal S1x4x128x64 .f32) (xo11 : Vec Ideal S1x1x2048x32 .f32)

/-- What the loop of the point leaves. -/
abbrev ls := (lst Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_C.sl.r c arg3 harg3 x0) (kernelRun0_C.sl.r_1 c arg3 harg3 x0) (kernelRun0_C.sl.r_2 c arg3 harg3 x0) (kernelRun0_C.sl.r_3 c arg3 harg3 x0) (kernelRun0_C.sl.r_4 c arg4 harg4 x1) (kernelRun0_C.sl.r_5 c arg4 harg4 x1) (kernelRun0_C.sl.r_6 c arg4 harg4 x1) (kernelRun0_C.sl.r_7 c arg4 harg4 x1) (kernelRun0_C.sl.r_8 c arg10 harg10 x7) (kernelRun0_C.sl.r_9 c arg10 harg10 x7) (kernelRun0_C.sl.r_10 c arg10 harg10 x7) (kernelRun0_C.sl.r_11 c arg10 harg10 x7) (kernelRun0_C.sl.r_12 c arg9 harg9 x6) (kernelRun0_C.sl.r_13 c arg9 harg9 x6) (kernelRun0_C.sl.r_14 c arg9 harg9 x6) (kernelRun0_C.sl.r_15 c arg9 harg9 x6) (kernelRun0_C.sl.r_17 c arg8 harg8 arg10 harg10 x5 x7) (kernelRun0_C.sl.r_18 c arg8 harg8 arg10 harg10 x5 x7) (kernelRun0_C.sl.r_19 c arg8 harg8 arg10 harg10 x5 x7) (kernelRun0_C.sl.r_20 c arg8 harg8 arg10 harg10 x5 x7) (harg5.unread x2) (harg6.unread x3) (harg7.unread x4) 0#32 (arg11.view.writes (Elt Ideal) arg11.view.junk kernelRun0_C.sl.H8_1) (arg12.view.writes (Elt Ideal) arg12.view.junk kernelRun0_C.sl.H9_1) (arg13.view.writes (Elt Ideal) arg13.view.junk kernelRun0_C.sl.H10_1) (harg14.unread xo11) (arg15.view.writes (Elt Ideal) arg15.view.junk kernelRun0_C.sl.H12_1) (k0_t1_loop i).trips)

theorem run8 (v : View sig .tc .vmem S1x4x128x64 .f32) (f : v.ty.Contents (Elt Ideal)) :
    v.writes (Elt Ideal) f (kernelRun0_C (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11).1 = v.writes (Elt Ideal) (v.writes (Elt Ideal) f kernelRun0_C.sl.H8_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.1 := by
  unfold kernelRun0_C
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.1 kernelRun0_C.sl.H8_1

theorem run9 (v : View sig .tc .vmem S1x4x128x32 .f32) (f : v.ty.Contents (Elt Ideal)) :
    v.writes (Elt Ideal) f (kernelRun0_C (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11).2.1 = v.writes (Elt Ideal) (v.writes (Elt Ideal) f kernelRun0_C.sl.H9_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.2.1 := by
  unfold kernelRun0_C
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.2.1 kernelRun0_C.sl.H9_1

theorem run10 (v : View sig .tc .vmem S1x4x2048x64 .f32) (f : v.ty.Contents (Elt Ideal)) :
    v.writes (Elt Ideal) f (kernelRun0_C (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11).2.2.1 = v.writes (Elt Ideal) (v.writes (Elt Ideal) f kernelRun0_C.sl.H10_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.2.2.1 := by
  unfold kernelRun0_C
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.2.2.1 kernelRun0_C.sl.H10_1

theorem run11 (v : View sig .tc .vmem S1x1x2048x32 .f32) (f : v.ty.Contents (Elt Ideal)) :
    v.writes (Elt Ideal) f (kernelRun0_C (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11).2.2.2.1 = v.writes (Elt Ideal) f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.2.2.2.1 := by
  unfold kernelRun0_C
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact rfl

theorem run12 (v : View sig .tc .vmem S1x4x2048x64 .f32) (f : v.ty.Contents (Elt Ideal)) :
    v.writes (Elt Ideal) f (kernelRun0_C (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11).2.2.2.2.1 = v.writes (Elt Ideal) (v.writes (Elt Ideal) f kernelRun0_C.sl.H12_1) (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.2.2.2.2 := by
  unfold kernelRun0_C
  dsimp only
  have h : Scf.trips (Scalar.addi 0#32 (Scalar.muli (Scalar.divsi (Scalar.subi (Scalar.addi (BitVec.ofNat 32 (i 2).val) 1#32) 0#32) 1#32) 1#32)) (Scalar.addi 0#32 (Scalar.subi (Scalar.addi (BitVec.ofNat 32 (i 2).val) 1#32) 0#32)) 1#32 = 0 := t2_trips i
  rw [h]
  exact View.writes_append v f (ls c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo11).2.2.2.2.2 kernelRun0_C.sl.H12_1

variable (I : Inp) (b hg : ℕ) (hsc : I.sc = scale)
  (hx0 : ∀ (hh : Fin 4) (r : Fin 128) (x : Fin 64), x0 (ix4 0 hh r x) = (I.qn b (4 * hg + hh.val) (128 * (i 2).val + r.val) x.val : EReal))
  (hx1 : ∀ (hh : Fin 4) (r : Fin 128) (x : Fin 32), x1 (ix4 0 hh r x) = (I.qp b (4 * hg + hh.val) (128 * (i 2).val + r.val) x.val : EReal))
  (hx2 : ∀ (hh : Fin 4) (y : Fin 2048) (x : Fin 64), x2 (ix4 0 hh y x) = (I.kn b (4 * hg + hh.val) y.val x.val : EReal))
  (hx3 : ∀ (y : Fin 2048) (x : Fin 32), x3 (ix4 0 0 y x) = (I.kp b y.val x.val : EReal))
  (hx4 : ∀ (hh : Fin 4) (y : Fin 2048) (x : Fin 64), x4 (ix4 0 hh y x) = (I.v b (4 * hg + hh.val) y.val x.val : EReal))
  (hx5 : ∀ (hh : Fin 4) (r : Fin 128) (x : Fin 64), x5 (ix4 0 hh r x) = (I.O b (4 * hg + hh.val) (128 * (i 2).val + r.val) x.val : EReal))
  (hx6 : ∀ (hh : Fin 4) (r : Fin 128), x6 (ix4 0 hh r 0) = (I.Lse b (4 * hg + hh.val) (128 * (i 2).val + r.val) : EReal))
  (hx7 : ∀ (hh : Fin 4) (r : Fin 128) (x : Fin 64), x7 (ix4 0 hh r x) = (I.dd b (4 * hg + hh.val) (128 * (i 2).val + r.val) x.val : EReal))

include hx0 in
theorem hq (hh : Fin 4) (r : Fin 128) (x : Fin 64) : (![(kernelRun0_C.sl.r (F := Ideal) c arg3 harg3 x0), (kernelRun0_C.sl.r_1 (F := Ideal) c arg3 harg3 x0), (kernelRun0_C.sl.r_2 (F := Ideal) c arg3 harg3 x0), (kernelRun0_C.sl.r_3 (F := Ideal) c arg3 harg3 x0)] : Fin 4 → FVec Ideal S128x64 .f32) hh (ix2 r x) = (I.qn b (4 * hg + hh.val) (128 * (i 2).val + r.val) x.val : EReal) := by
  fin_cases hh
  · exact ((pay7_apply _ _ _).trans (blk_apply arg3 harg3 x0 ![0, 0, 0, 0] 0 rfl (by decide) (by decide) r r.isLt x)).trans (hx0 0 r x)
  · exact ((pay7_apply _ _ _).trans (blk_apply arg3 harg3 x0 ![0, 1, 0, 0] 1 rfl (by decide) (by decide) r r.isLt x)).trans (hx0 1 r x)
  · exact ((pay7_apply _ _ _).trans (blk_apply arg3 harg3 x0 ![0, 2, 0, 0] 2 rfl (by decide) (by decide) r r.isLt x)).trans (hx0 2 r x)
  · exact ((pay7_apply _ _ _).trans (blk_apply arg3 harg3 x0 ![0, 3, 0, 0] 3 rfl (by decide) (by decide) r r.isLt x)).trans (hx0 3 r x)

include hx1 in
theorem hqp (hh : Fin 4) (r : Fin 128) (x : Fin 32) : (![(kernelRun0_C.sl.r_4 (F := Ideal) c arg4 harg4 x1), (kernelRun0_C.sl.r_5 (F := Ideal) c arg4 harg4 x1), (kernelRun0_C.sl.r_6 (F := Ideal) c arg4 harg4 x1), (kernelRun0_C.sl.r_7 (F := Ideal) c arg4 harg4 x1)] : Fin 4 → FVec Ideal S128x32 .f32) hh (ix2 r x) = (I.qp b (4 * hg + hh.val) (128 * (i 2).val + r.val) x.val : EReal) := by
  fin_cases hh
  · exact ((pay15_apply _ _ _).trans (blk_apply arg4 harg4 x1 ![0, 0, 0, 0] 0 rfl (by decide) (by decide) r r.isLt x)).trans (hx1 0 r x)
  · exact ((pay15_apply _ _ _).trans (blk_apply arg4 harg4 x1 ![0, 1, 0, 0] 1 rfl (by decide) (by decide) r r.isLt x)).trans (hx1 1 r x)
  · exact ((pay15_apply _ _ _).trans (blk_apply arg4 harg4 x1 ![0, 2, 0, 0] 2 rfl (by decide) (by decide) r r.isLt x)).trans (hx1 2 r x)
  · exact ((pay15_apply _ _ _).trans (blk_apply arg4 harg4 x1 ![0, 3, 0, 0] 3 rfl (by decide) (by decide) r r.isLt x)).trans (hx1 3 r x)

include hx7 in
theorem hd (hh : Fin 4) (r : Fin 128) (x : Fin 64) : (![(kernelRun0_C.sl.r_8 (F := Ideal) c arg10 harg10 x7), (kernelRun0_C.sl.r_9 (F := Ideal) c arg10 harg10 x7), (kernelRun0_C.sl.r_10 (F := Ideal) c arg10 harg10 x7), (kernelRun0_C.sl.r_11 (F := Ideal) c arg10 harg10 x7)] : Fin 4 → FVec Ideal S128x64 .f32) hh (ix2 r x) = (I.dd b (4 * hg + hh.val) (128 * (i 2).val + r.val) x.val : EReal) := by
  fin_cases hh
  · exact ((pay7_apply _ _ _).trans (blk_apply arg10 harg10 x7 ![0, 0, 0, 0] 0 rfl (by decide) (by decide) r r.isLt x)).trans (hx7 0 r x)
  · exact ((pay7_apply _ _ _).trans (blk_apply arg10 harg10 x7 ![0, 1, 0, 0] 1 rfl (by decide) (by decide) r r.isLt x)).trans (hx7 1 r x)
  · exact ((pay7_apply _ _ _).trans (blk_apply arg10 harg10 x7 ![0, 2, 0, 0] 2 rfl (by decide) (by decide) r r.isLt x)).trans (hx7 2 r x)
  · exact ((pay7_apply _ _ _).trans (blk_apply arg10 harg10 x7 ![0, 3, 0, 0] 3 rfl (by decide) (by decide) r r.isLt x)).trans (hx7 3 r x)

include hx6 in
theorem hl (hh : Fin 4) (r : Fin 128) : (![(kernelRun0_C.sl.r_12 (F := Ideal) c arg9 harg9 x6), (kernelRun0_C.sl.r_13 (F := Ideal) c arg9 harg9 x6), (kernelRun0_C.sl.r_14 (F := Ideal) c arg9 harg9 x6), (kernelRun0_C.sl.r_15 (F := Ideal) c arg9 harg9 x6)] : Fin 4 → FVec Ideal S128x1 .f32) hh (ix2 r 0) = (I.Lse b (4 * hg + hh.val) (128 * (i 2).val + r.val) : EReal) := by
  fin_cases hh
  · exact ((pay154_apply _ _).trans (blk_apply arg9 harg9 x6 ![0, 0, 0, 0] 0 rfl (by decide) (by decide) r r.isLt 0)).trans (hx6 0 r)
  · exact ((pay154_apply _ _).trans (blk_apply arg9 harg9 x6 ![0, 1, 0, 0] 1 rfl (by decide) (by decide) r r.isLt 0)).trans (hx6 1 r)
  · exact ((pay154_apply _ _).trans (blk_apply arg9 harg9 x6 ![0, 2, 0, 0] 2 rfl (by decide) (by decide) r r.isLt 0)).trans (hx6 2 r)
  · exact ((pay154_apply _ _).trans (blk_apply arg9 harg9 x6 ![0, 3, 0, 0] 3 rfl (by decide) (by decide) r r.isLt 0)).trans (hx6 3 r)

include hx5 hx7 in
theorem he (hh : Fin 4) (r : Fin 128) : (![(kernelRun0_C.sl.r_17 (F := Ideal) c arg8 harg8 arg10 harg10 x5 x7), (kernelRun0_C.sl.r_18 (F := Ideal) c arg8 harg8 arg10 harg10 x5 x7), (kernelRun0_C.sl.r_19 (F := Ideal) c arg8 harg8 arg10 harg10 x5 x7), (kernelRun0_C.sl.r_20 (F := Ideal) c arg8 harg8 arg10 harg10 x5 x7)] : Fin 4 → FVec Ideal S128x1 .f32) hh (ix2 r 0) = (I.Del b (4 * hg + hh.val) (128 * (i 2).val + r.val) : EReal) := by
  fin_cases hh
  · exact pay159_apply I b (4 * hg + 0) (i 2).val _ _
      (fun r x => ((pay7_apply _ _ _).trans (blk_apply arg10 harg10 x7 ![0, 0, 0, 0] 0 rfl (by decide) (by decide) r r.isLt x)).trans (hx7 0 r x))
      (fun r x => ((pay7_apply _ _ _).trans (blk_apply arg8 harg8 x5 ![0, 0, 0, 0] 0 rfl (by decide) (by decide) r r.isLt x)).trans (hx5 0 r x)) r
  · exact pay159_apply I b (4 * hg + 1) (i 2).val _ _
      (fun r x => ((pay7_apply _ _ _).trans (blk_apply arg10 harg10 x7 ![0, 1, 0, 0] 1 rfl (by decide) (by decide) r r.isLt x)).trans (hx7 1 r x))
      (fun r x => ((pay7_apply _ _ _).trans (blk_apply arg8 harg8 x5 ![0, 1, 0, 0] 1 rfl (by decide) (by decide) r r.isLt x)).trans (hx5 1 r x)) r
  · exact pay159_apply I b (4 * hg + 2) (i 2).val _ _
      (fun r x => ((pay7_apply _ _ _).trans (blk_apply arg10 harg10 x7 ![0, 2, 0, 0] 2 rfl (by decide) (by decide) r r.isLt x)).trans (hx7 2 r x))
      (fun r x => ((pay7_apply _ _ _).trans (blk_apply arg8 harg8 x5 ![0, 2, 0, 0] 2 rfl (by decide) (by decide) r r.isLt x)).trans (hx5 2 r x)) r
  · exact pay159_apply I b (4 * hg + 3) (i 2).val _ _
      (fun r x => ((pay7_apply _ _ _).trans (blk_apply arg10 harg10 x7 ![0, 3, 0, 0] 3 rfl (by decide) (by decide) r r.isLt x)).trans (hx7 3 r x))
      (fun r x => ((pay7_apply _ _ _).trans (blk_apply arg8 harg8 x5 ![0, 3, 0, 0] 3 rfl (by decide) (by decide) r r.isLt x)).trans (hx5 3 r x)) r

include hsc hx0 hx1 hx2 hx3 hx4 hx5 hx6 hx7 in
/-- The query gradient block after the point. -/
theorem out8 (hh : Fin 4) (r : Fin 128) (x : Fin 64) : out0_C_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 (ix4 0 hh r x) = ((∑ j ∈ Finset.range 2048, I.DS b (4 * hg + hh.val) (128 * (i 2).val + r.val) j * I.kn b (4 * hg + hh.val) j x.val : ℝ) : EReal) := by
  unfold out0_C_8
  refine (congrFun (View.read_writes_of_cover VO0_8 VO0_8.junk arg11.view arg11.view.junk _ (cover0_C_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11)) _).trans ?_
  refine (congrFun (congrArg (arg11.view.read (Elt Ideal)) (run8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 arg11.view arg11.view.junk)) _).trans ?_
  refine (loop11 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (r := r) (x := x) ..).trans ?_
  rw [show arg11.view.read (Elt Ideal) (arg11.view.writes (Elt Ideal) arg11.view.junk kernelRun0_C.sl.H8_1) (ix4 0 hh r x) = 0 from (read_fill arg11.view arg11.view.junk (by decide) (k0_pay163 (F := Ideal)) _).trans (pay163_apply hh r x), zero_add]

include hsc hx0 hx1 hx2 hx3 hx4 hx5 hx6 hx7 in
/-- The rotary query gradient block after the point. -/
theorem out9 (hh : Fin 4) (r : Fin 128) (x : Fin 32) : out0_C_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 (ix4 0 hh r x) = ((∑ j ∈ Finset.range 2048, I.DS b (4 * hg + hh.val) (128 * (i 2).val + r.val) j * I.kp b j x.val : ℝ) : EReal) := by
  unfold out0_C_9
  refine (congrFun (View.read_writes_of_cover VO0_9 VO0_9.junk arg12.view arg12.view.junk _ (cover0_C_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11)) _).trans ?_
  refine (congrFun (congrArg (arg12.view.read (Elt Ideal)) (run9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 arg12.view arg12.view.junk)) _).trans ?_
  refine (loop12 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (r := r) (x := x) ..).trans ?_
  rw [show arg12.view.read (Elt Ideal) (arg12.view.writes (Elt Ideal) arg12.view.junk kernelRun0_C.sl.H9_1) (ix4 0 hh r x) = 0 from (read_fill arg12.view arg12.view.junk (by decide) (k0_pay164 (F := Ideal)) _).trans (pay164_apply hh r x), zero_add]

include hsc hx0 hx1 hx2 hx3 hx4 hx5 hx6 hx7 in
/-- The key gradient block after the point. -/
theorem out10 (hh : Fin 4) (y : Fin 2048) (x : Fin 64) : out0_C_10 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 (ix4 0 hh y x) = ((∑ j ∈ Finset.range 128, I.DS b (4 * hg + hh.val) (128 * (i 2).val + j) y.val * I.qn b (4 * hg + hh.val) (128 * (i 2).val + j) x.val : ℝ) : EReal) := by
  unfold out0_C_10
  refine (congrFun (View.read_writes_of_cover VO0_10 VO0_10.junk arg13.view arg13.view.junk _ (cover0_C_10 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11)) _).trans ?_
  refine (congrFun (congrArg (arg13.view.read (Elt Ideal)) (run10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 arg13.view arg13.view.junk)) _).trans ?_
  refine (loop13 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (y := y) (x := x) ..).trans ?_
  rw [show arg13.view.read (Elt Ideal) (arg13.view.writes (Elt Ideal) arg13.view.junk kernelRun0_C.sl.H10_1) (ix4 0 hh y x) = 0 from (read_fill arg13.view arg13.view.junk (by decide) (k0_pay139 (F := Ideal)) _).trans (pay139_apply hh y x), zero_add]

include hsc hx0 hx1 hx2 hx3 hx4 hx5 hx6 hx7 in
/-- The rotary key gradient block after the point. -/
theorem out11 (y : Fin 2048) (x : Fin 32) : out0_C_11 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 (ix4 0 0 y x) = xo11 (ix4 0 0 y x) + ((∑ hh ∈ Finset.range 4, ∑ j ∈ Finset.range 128, I.DS b (4 * hg + hh) (128 * (i 2).val + j) y.val * I.qp b (4 * hg + hh) (128 * (i 2).val + j) x.val : ℝ) : EReal) := by
  unfold out0_C_11
  skip
  refine (congrFun (congrArg (arg14.view.read (Elt Ideal)) (run11 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 arg14.view (harg14.unread xo11))) _).trans ?_
  refine (loop14 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (y := y) (x := x) ..).trans ?_
  rw [harg14.read_unread]

include hsc hx0 hx1 hx2 hx3 hx4 hx5 hx6 hx7 in
/-- The value gradient block after the point. -/
theorem out12 (hh : Fin 4) (y : Fin 2048) (x : Fin 64) : out0_C_12 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 (ix4 0 hh y x) = ((∑ j ∈ Finset.range 128, I.P b (4 * hg + hh.val) (128 * (i 2).val + j) y.val * I.dd b (4 * hg + hh.val) (128 * (i 2).val + j) x.val : ℝ) : EReal) := by
  unfold out0_C_12
  refine (congrFun (View.read_writes_of_cover VO0_12 VO0_12.junk arg15.view arg15.view.junk _ (cover0_C_12 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11)) _).trans ?_
  refine (congrFun (congrArg (arg15.view.read (Elt Ideal)) (run12 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo11 arg15.view arg15.view.junk)) _).trans ?_
  refine (loop15 (I := I) (b := b) (hg := hg) (hsc := hsc) (ha2 := rfl) (hq := fun hh r x => hq (c := c) (i := i) (I := I) (b := b) (hg := hg) (arg3 := arg3) (harg3 := harg3) (x0 := x0) (hx0 := hx0) hh r x) (hqp := fun hh r x => hqp (c := c) (i := i) (I := I) (b := b) (hg := hg) (arg4 := arg4) (harg4 := harg4) (x1 := x1) (hx1 := hx1) hh r x) (hd := fun hh r x => hd (c := c) (i := i) (I := I) (b := b) (hg := hg) (arg10 := arg10) (harg10 := harg10) (x7 := x7) (hx7 := hx7) hh r x) (hl := fun hh r => hl (c := c) (i := i) (I := I) (b := b) (hg := hg) (arg9 := arg9) (harg9 := harg9) (x6 := x6) (hx6 := hx6) hh r) (he := fun hh r => he (c := c) (i := i) (I := I) (b := b) (hg := hg) (arg8 := arg8) (harg8 := harg8) (x5 := x5) (arg10 := arg10) (harg10 := harg10) (x7 := x7) (hx5 := hx5) (hx7 := hx7) hh r) (hX5 := fun hh y x => (congrFun (harg5.read_unread x2) _).trans (hx2 hh y x)) (hX6 := fun y x => (congrFun (harg6.read_unread x3) _).trans (hx3 y x)) (hX7 := fun hh y x => (congrFun (harg7.read_unread x4) _).trans (hx4 hh y x)) (hh := hh) (y := y) (x := x) ..).trans ?_
  rw [show arg15.view.read (Elt Ideal) (arg15.view.writes (Elt Ideal) arg15.view.junk kernelRun0_C.sl.H12_1) (ix4 0 hh y x) = 0 from (read_fill arg15.view arg15.view.junk (by decide) (k0_pay140 (F := Ideal)) _).trans (pay140_apply hh y x), zero_add]

end Cert.Mla.CaseC

end
-- ==== Proof.Mla.Index.lean ====
/-
  The places of the windows' blocks: point `t` of the grid is batch row `t / 32`, head group `t / 16 % 2`, query block `t % 16`.
-/
module

public import proofs.«01_k».proof.Proof.Gen.KernelIdeal.Value
public import proofs.«01_k».proof.Proof.Mla.CaseA
public import proofs.«01_k».proof.Proof.Mla.CaseB
public import proofs.«01_k».proof.Proof.Mla.CaseC

@[expose] public section

set_option maxRecDepth 16384

noncomputable section

open Idealize.ShloMosaic Idealize.ShloMosaic.TcCoe Idealize.SL.Sem
open Cert.KernelIdeal Cert.KernelIdeal.Gen

namespace Cert.Mla

theorem coord0 : ∀ t : Fin cfg0.N, (grid0.coords t 0).val = t.val / 32 := by decide +kernel
theorem coord1 : ∀ t : Fin cfg0.N, (grid0.coords t 1).val = t.val / 16 % 2 := by decide +kernel
theorem coord2 : ∀ t : Fin cfg0.N, (grid0.coords t 2).val = t.val % 16 := by decide +kernel

theorem word0 (t : Fin cfg0.N) : (BitVec.ofNat 32 (grid0.coords t 0).val).toNat = t.val / 32 := by
  have h : t.val < 64 := t.isLt
  rw [coord0, BitVec.toNat_ofNat]
  omega
theorem word1 (t : Fin cfg0.N) : (BitVec.ofNat 32 (grid0.coords t 1).val).toNat = t.val / 16 % 2 := by
  rw [coord1, BitVec.toNat_ofNat]
  omega
theorem word2 (t : Fin cfg0.N) : (BitVec.ofNat 32 (grid0.coords t 2).val).toNat = t.val % 16 := by
  rw [coord2, BitVec.toNat_ofNat]
  omega

theorem idx0 (t : Fin cfg0.N) : win0_0.index t 0 = t.val / 32 ∧ win0_0.index t 1 = t.val / 16 % 2 ∧ win0_0.index t 2 = t.val % 16 ∧ win0_0.index t 3 = 0 :=
  ⟨word0 t, word1 t, word2 t, rfl⟩

theorem idx1 (t : Fin cfg0.N) : win0_1.index t 0 = t.val / 32 ∧ win0_1.index t 1 = t.val / 16 % 2 ∧ win0_1.index t 2 = t.val % 16 ∧ win0_1.index t 3 = 0 :=
  ⟨word0 t, word1 t, word2 t, rfl⟩

theorem idx2 (t : Fin cfg0.N) : win0_2.index t 0 = t.val / 32 ∧ win0_2.index t 1 = t.val / 16 % 2 ∧ win0_2.index t 2 = 0 ∧ win0_2.index t 3 = 0 :=
  ⟨word0 t, word1 t, rfl, rfl⟩

theorem idx3 (t : Fin cfg0.N) : win0_3.index t 0 = t.val / 32 ∧ win0_3.index t 1 = 0 ∧ win0_3.index t 2 = 0 ∧ win0_3.index t 3 = 0 :=
  ⟨word0 t, rfl, rfl, rfl⟩

theorem idx4 (t : Fin cfg0.N) : win0_4.index t 0 = t.val / 32 ∧ win0_4.index t 1 = t.val / 16 % 2 ∧ win0_4.index t 2 = 0 ∧ win0_4.index t 3 = 0 :=
  ⟨word0 t, word1 t, rfl, rfl⟩

theorem idx5 (t : Fin cfg0.N) : win0_5.index t 0 = t.val / 32 ∧ win0_5.index t 1 = t.val / 16 % 2 ∧ win0_5.index t 2 = t.val % 16 ∧ win0_5.index t 3 = 0 :=
  ⟨word0 t, word1 t, word2 t, rfl⟩

theorem idx6 (t : Fin cfg0.N) : win0_6.index t 0 = t.val / 32 ∧ win0_6.index t 1 = t.val / 16 % 2 ∧ win0_6.index t 2 = t.val % 16 ∧ win0_6.index t 3 = 0 :=
  ⟨word0 t, word1 t, word2 t, rfl⟩

theorem idx7 (t : Fin cfg0.N) : win0_7.index t 0 = t.val / 32 ∧ win0_7.index t 1 = t.val / 16 % 2 ∧ win0_7.index t 2 = t.val % 16 ∧ win0_7.index t 3 = 0 :=
  ⟨word0 t, word1 t, word2 t, rfl⟩

theorem idx8 (t : Fin cfg0.N) : win0_8.index t 0 = t.val / 32 ∧ win0_8.index t 1 = t.val / 16 % 2 ∧ win0_8.index t 2 = t.val % 16 ∧ win0_8.index t 3 = 0 :=
  ⟨word0 t, word1 t, word2 t, rfl⟩

theorem idx9 (t : Fin cfg0.N) : win0_9.index t 0 = t.val / 32 ∧ win0_9.index t 1 = t.val / 16 % 2 ∧ win0_9.index t 2 = t.val % 16 ∧ win0_9.index t 3 = 0 :=
  ⟨word0 t, word1 t, word2 t, rfl⟩

theorem idx10 (t : Fin cfg0.N) : win0_10.index t 0 = t.val / 32 ∧ win0_10.index t 1 = t.val / 16 % 2 ∧ win0_10.index t 2 = 0 ∧ win0_10.index t 3 = 0 :=
  ⟨word0 t, word1 t, rfl, rfl⟩

theorem idx11 (t : Fin cfg0.N) : win0_11.index t 0 = t.val / 32 ∧ win0_11.index t 1 = 0 ∧ win0_11.index t 2 = 0 ∧ win0_11.index t 3 = 0 :=
  ⟨word0 t, rfl, rfl, rfl⟩

theorem idx12 (t : Fin cfg0.N) : win0_12.index t 0 = t.val / 32 ∧ win0_12.index t 1 = t.val / 16 % 2 ∧ win0_12.index t 2 = 0 ∧ win0_12.index t 3 = 0 :=
  ⟨word0 t, word1 t, rfl, rfl⟩

variable (m : (ℓ : Loc nD τ sig) → Buf (Elt Ideal) ℓ) (c : Dev nD)

theorem blk0 (A : Buf (Elt Ideal) ((c : Thread nD τ).loc (Pipeline.arrRef spec0 0))) (t : Fin cfg0.N) (hh : Fin 4) (r : Fin 128) (x : Fin 64) (b : Fin 2) (h : Fin 8) (q : Fin 2048)
    (hb : b.val = t.val / 32) (eh : h.val = 4 * (t.val / 16 % 2) + hh.val) (hq : q.val = 128 * (t.val % 16) + r.val) :
    ((cfg0.win 0).blk t).view.read (Elt Ideal) A (ix4 0 hh r x) = A (ix4 b h q x) := by
  rw [View.read_apply]
  obtain ⟨h0, h1, h2, h3⟩ := idx0 t
  refine congrArg A (funext fun a => Fin.ext ?_)
  fin_cases a
  · show win0_0.index t 0 * 1 + 1 * 0 = b.val
    omega
  · show win0_0.index t 1 * 4 + 1 * hh.val = h.val
    omega
  · show win0_0.index t 2 * 128 + 1 * r.val = q.val
    omega
  · show win0_0.index t 3 * 64 + 1 * x.val = x.val
    omega

theorem blk1 (A : Buf (Elt Ideal) ((c : Thread nD τ).loc (Pipeline.arrRef spec0 1))) (t : Fin cfg0.N) (hh : Fin 4) (r : Fin 128) (x : Fin 32) (b : Fin 2) (h : Fin 8) (q : Fin 2048)
    (hb : b.val = t.val / 32) (eh : h.val = 4 * (t.val / 16 % 2) + hh.val) (hq : q.val = 128 * (t.val % 16) + r.val) :
    ((cfg0.win 1).blk t).view.read (Elt Ideal) A (ix4 0 hh r x) = A (ix4 b h q x) := by
  rw [View.read_apply]
  obtain ⟨h0, h1, h2, h3⟩ := idx1 t
  refine congrArg A (funext fun a => Fin.ext ?_)
  fin_cases a
  · show win0_1.index t 0 * 1 + 1 * 0 = b.val
    omega
  · show win0_1.index t 1 * 4 + 1 * hh.val = h.val
    omega
  · show win0_1.index t 2 * 128 + 1 * r.val = q.val
    omega
  · show win0_1.index t 3 * 32 + 1 * x.val = x.val
    omega

theorem blk2 (A : Buf (Elt Ideal) ((c : Thread nD τ).loc (Pipeline.arrRef spec0 2))) (t : Fin cfg0.N) (hh : Fin 4) (y : Fin 2048) (x : Fin 64) (b : Fin 2) (h : Fin 8)
    (hb : b.val = t.val / 32) (eh : h.val = 4 * (t.val / 16 % 2) + hh.val) :
    ((cfg0.win 2).blk t).view.read (Elt Ideal) A (ix4 0 hh y x) = A (ix4 b h y x) := by
  rw [View.read_apply]
  obtain ⟨h0, h1, h2, h3⟩ := idx2 t
  refine congrArg A (funext fun a => Fin.ext ?_)
  fin_cases a
  · show win0_2.index t 0 * 1 + 1 * 0 = b.val
    omega
  · show win0_2.index t 1 * 4 + 1 * hh.val = h.val
    omega
  · show win0_2.index t 2 * 2048 + 1 * y.val = y.val
    omega
  · show win0_2.index t 3 * 64 + 1 * x.val = x.val
    omega

theorem blk3 (A : Buf (Elt Ideal) ((c : Thread nD τ).loc (Pipeline.arrRef spec0 3))) (t : Fin cfg0.N) (y : Fin 2048) (x : Fin 32) (b : Fin 2)
    (hb : b.val = t.val / 32) :
    ((cfg0.win 3).blk t).view.read (Elt Ideal) A (ix4 0 0 y x) = A (ix4 b 0 y x) := by
  rw [View.read_apply]
  obtain ⟨h0, h1, h2, h3⟩ := idx3 t
  refine congrArg A (funext fun a => Fin.ext ?_)
  fin_cases a
  · show win0_3.index t 0 * 1 + 1 * 0 = b.val
    omega
  · show win0_3.index t 1 * 1 + 1 * 0 = 0
    omega
  · show win0_3.index t 2 * 2048 + 1 * y.val = y.val
    omega
  · show win0_3.index t 3 * 32 + 1 * x.val = x.val
    omega

theorem blk4 (A : Buf (Elt Ideal) ((c : Thread nD τ).loc (Pipeline.arrRef spec0 4))) (t : Fin cfg0.N) (hh : Fin 4) (y : Fin 2048) (x : Fin 64) (b : Fin 2) (h : Fin 8)
    (hb : b.val = t.val / 32) (eh : h.val = 4 * (t.val / 16 % 2) + hh.val) :
    ((cfg0.win 4).blk t).view.read (Elt Ideal) A (ix4 0 hh y x) = A (ix4 b h y x) := by
  rw [View.read_apply]
  obtain ⟨h0, h1, h2, h3⟩ := idx4 t
  refine congrArg A (funext fun a => Fin.ext ?_)
  fin_cases a
  · show win0_4.index t 0 * 1 + 1 * 0 = b.val
    omega
  · show win0_4.index t 1 * 4 + 1 * hh.val = h.val
    omega
  · show win0_4.index t 2 * 2048 + 1 * y.val = y.val
    omega
  · show win0_4.index t 3 * 64 + 1 * x.val = x.val
    omega

theorem blk5 (A : Buf (Elt Ideal) ((c : Thread nD τ).loc (Pipeline.arrRef spec0 5))) (t : Fin cfg0.N) (hh : Fin 4) (r : Fin 128) (x : Fin 64) (b : Fin 2) (h : Fin 8) (q : Fin 2048)
    (hb : b.val = t.val / 32) (eh : h.val = 4 * (t.val / 16 % 2) + hh.val) (hq : q.val = 128 * (t.val % 16) + r.val) :
    ((cfg0.win 5).blk t).view.read (Elt Ideal) A (ix4 0 hh r x) = A (ix4 b h q x) := by
  rw [View.read_apply]
  obtain ⟨h0, h1, h2, h3⟩ := idx5 t
  refine congrArg A (funext fun a => Fin.ext ?_)
  fin_cases a
  · show win0_5.index t 0 * 1 + 1 * 0 = b.val
    omega
  · show win0_5.index t 1 * 4 + 1 * hh.val = h.val
    omega
  · show win0_5.index t 2 * 128 + 1 * r.val = q.val
    omega
  · show win0_5.index t 3 * 64 + 1 * x.val = x.val
    omega

theorem blk6 (A : Buf (Elt Ideal) ((c : Thread nD τ).loc (Pipeline.arrRef spec0 6))) (t : Fin cfg0.N) (hh : Fin 4) (r : Fin 128) (b : Fin 2) (h : Fin 8) (q : Fin 2048)
    (hb : b.val = t.val / 32) (eh : h.val = 4 * (t.val / 16 % 2) + hh.val) (hq : q.val = 128 * (t.val % 16) + r.val) :
    ((cfg0.win 6).blk t).view.read (Elt Ideal) A (ix4 0 hh r 0) = A (ix4 b h q 0) := by
  rw [View.read_apply]
  obtain ⟨h0, h1, h2, h3⟩ := idx6 t
  refine congrArg A (funext fun a => Fin.ext ?_)
  fin_cases a
  · show win0_6.index t 0 * 1 + 1 * 0 = b.val
    omega
  · show win0_6.index t 1 * 4 + 1 * hh.val = h.val
    omega
  · show win0_6.index t 2 * 128 + 1 * r.val = q.val
    omega
  · show win0_6.index t 3 * 1 + 1 * 0 = 0
    omega

theorem blk7 (A : Buf (Elt Ideal) ((c : Thread nD τ).loc (Pipeline.arrRef spec0 7))) (t : Fin cfg0.N) (hh : Fin 4) (r : Fin 128) (x : Fin 64) (b : Fin 2) (h : Fin 8) (q : Fin 2048)
    (hb : b.val = t.val / 32) (eh : h.val = 4 * (t.val / 16 % 2) + hh.val) (hq : q.val = 128 * (t.val % 16) + r.val) :
    ((cfg0.win 7).blk t).view.read (Elt Ideal) A (ix4 0 hh r x) = A (ix4 b h q x) := by
  rw [View.read_apply]
  obtain ⟨h0, h1, h2, h3⟩ := idx7 t
  refine congrArg A (funext fun a => Fin.ext ?_)
  fin_cases a
  · show win0_7.index t 0 * 1 + 1 * 0 = b.val
    omega
  · show win0_7.index t 1 * 4 + 1 * hh.val = h.val
    omega
  · show win0_7.index t 2 * 128 + 1 * r.val = q.val
    omega
  · show win0_7.index t 3 * 64 + 1 * x.val = x.val
    omega

theorem blk8 (A : Buf (Elt Ideal) ((c : Thread nD τ).loc (Pipeline.arrRef spec0 8))) (t : Fin cfg0.N) (hh : Fin 4) (r : Fin 128) (x : Fin 64) (b : Fin 2) (h : Fin 8) (q : Fin 2048)
    (hb : b.val = t.val / 32) (eh : h.val = 4 * (t.val / 16 % 2) + hh.val) (hq : q.val = 128 * (t.val % 16) + r.val) :
    ((cfg0.win 8).blk t).view.read (Elt Ideal) A (ix4 0 hh r x) = A (ix4 b h q x) := by
  rw [View.read_apply]
  obtain ⟨h0, h1, h2, h3⟩ := idx8 t
  refine congrArg A (funext fun a => Fin.ext ?_)
  fin_cases a
  · show win0_8.index t 0 * 1 + 1 * 0 = b.val
    omega
  · show win0_8.index t 1 * 4 + 1 * hh.val = h.val
    omega
  · show win0_8.index t 2 * 128 + 1 * r.val = q.val
    omega
  · show win0_8.index t 3 * 64 + 1 * x.val = x.val
    omega

theorem blk9 (A : Buf (Elt Ideal) ((c : Thread nD τ).loc (Pipeline.arrRef spec0 9))) (t : Fin cfg0.N) (hh : Fin 4) (r : Fin 128) (x : Fin 32) (b : Fin 2) (h : Fin 8) (q : Fin 2048)
    (hb : b.val = t.val / 32) (eh : h.val = 4 * (t.val / 16 % 2) + hh.val) (hq : q.val = 128 * (t.val % 16) + r.val) :
    ((cfg0.win 9).blk t).view.read (Elt Ideal) A (ix4 0 hh r x) = A (ix4 b h q x) := by
  rw [View.read_apply]
  obtain ⟨h0, h1, h2, h3⟩ := idx9 t
  refine congrArg A (funext fun a => Fin.ext ?_)
  fin_cases a
  · show win0_9.index t 0 * 1 + 1 * 0 = b.val
    omega
  · show win0_9.index t 1 * 4 + 1 * hh.val = h.val
    omega
  · show win0_9.index t 2 * 128 + 1 * r.val = q.val
    omega
  · show win0_9.index t 3 * 32 + 1 * x.val = x.val
    omega

theorem blk10 (A : Buf (Elt Ideal) ((c : Thread nD τ).loc (Pipeline.arrRef spec0 10))) (t : Fin cfg0.N) (hh : Fin 4) (y : Fin 2048) (x : Fin 64) (b : Fin 2) (h : Fin 8)
    (hb : b.val = t.val / 32) (eh : h.val = 4 * (t.val / 16 % 2) + hh.val) :
    ((cfg0.win 10).blk t).view.read (Elt Ideal) A (ix4 0 hh y x) = A (ix4 b h y x) := by
  rw [View.read_apply]
  obtain ⟨h0, h1, h2, h3⟩ := idx10 t
  refine congrArg A (funext fun a => Fin.ext ?_)
  fin_cases a
  · show win0_10.index t 0 * 1 + 1 * 0 = b.val
    omega
  · show win0_10.index t 1 * 4 + 1 * hh.val = h.val
    omega
  · show win0_10.index t 2 * 2048 + 1 * y.val = y.val
    omega
  · show win0_10.index t 3 * 64 + 1 * x.val = x.val
    omega

theorem blk11 (A : Buf (Elt Ideal) ((c : Thread nD τ).loc (Pipeline.arrRef spec0 11))) (t : Fin cfg0.N) (y : Fin 2048) (x : Fin 32) (b : Fin 2)
    (hb : b.val = t.val / 32) :
    ((cfg0.win 11).blk t).view.read (Elt Ideal) A (ix4 0 0 y x) = A (ix4 b 0 y x) := by
  rw [View.read_apply]
  obtain ⟨h0, h1, h2, h3⟩ := idx11 t
  refine congrArg A (funext fun a => Fin.ext ?_)
  fin_cases a
  · show win0_11.index t 0 * 1 + 1 * 0 = b.val
    omega
  · show win0_11.index t 1 * 1 + 1 * 0 = 0
    omega
  · show win0_11.index t 2 * 2048 + 1 * y.val = y.val
    omega
  · show win0_11.index t 3 * 32 + 1 * x.val = x.val
    omega

theorem blk12 (A : Buf (Elt Ideal) ((c : Thread nD τ).loc (Pipeline.arrRef spec0 12))) (t : Fin cfg0.N) (hh : Fin 4) (y : Fin 2048) (x : Fin 64) (b : Fin 2) (h : Fin 8)
    (hb : b.val = t.val / 32) (eh : h.val = 4 * (t.val / 16 % 2) + hh.val) :
    ((cfg0.win 12).blk t).view.read (Elt Ideal) A (ix4 0 hh y x) = A (ix4 b h y x) := by
  rw [View.read_apply]
  obtain ⟨h0, h1, h2, h3⟩ := idx12 t
  refine congrArg A (funext fun a => Fin.ext ?_)
  fin_cases a
  · show win0_12.index t 0 * 1 + 1 * 0 = b.val
    omega
  · show win0_12.index t 1 * 4 + 1 * hh.val = h.val
    omega
  · show win0_12.index t 2 * 2048 + 1 * y.val = y.val
    omega
  · show win0_12.index t 3 * 64 + 1 * x.val = x.val
    omega

end Cert.Mla

end
-- ==== Proof.Mla.Points.lean ====
/-
  What the kernel leaves in its output blocks at every point of the grid: the gradients of the queries are sums over the keys,
  those of the keys and the values grow by one query block a point, that of the shared rotary keys over both groups of heads.
-/
module

public import proofs.«01_k».proof.Proof.Mla.Index

@[expose] public section

set_option maxRecDepth 16384

noncomputable section

open Idealize.ShloMosaic Idealize.ShloMosaic.TcCoe Idealize.SL.Sem
open Cert.KernelIdeal Cert.KernelIdeal.Gen

namespace Cert.Mla

variable (m : (ℓ : Loc nD τ sig) → Buf (Elt Ideal) ℓ) (c : Dev nD) (I : Inp) (hsc : I.sc = scale)

  (hA0 : ∀ (b : Fin 2) (h : Fin 8) (q : Fin 2048) (x : Fin 64), V (F := Ideal) m c (Pipeline.arrRef spec0 0) (ix4 b h q x) = (I.qn b.val h.val q.val x.val : EReal))
  (hA1 : ∀ (b : Fin 2) (h : Fin 8) (q : Fin 2048) (x : Fin 32), V (F := Ideal) m c (Pipeline.arrRef spec0 1) (ix4 b h q x) = (I.qp b.val h.val q.val x.val : EReal))
  (hA2 : ∀ (b : Fin 2) (h : Fin 8) (q : Fin 2048) (x : Fin 64), V (F := Ideal) m c (Pipeline.arrRef spec0 2) (ix4 b h q x) = (I.kn b.val h.val q.val x.val : EReal))
  (hA3 : ∀ (b : Fin 2) (q : Fin 2048) (x : Fin 32), V (F := Ideal) m c (Pipeline.arrRef spec0 3) (ix4 b 0 q x) = (I.kp b.val q.val x.val : EReal))
  (hA4 : ∀ (b : Fin 2) (h : Fin 8) (q : Fin 2048) (x : Fin 64), V (F := Ideal) m c (Pipeline.arrRef spec0 4) (ix4 b h q x) = (I.v b.val h.val q.val x.val : EReal))
  (hA5 : ∀ (b : Fin 2) (h : Fin 8) (q : Fin 2048) (x : Fin 64), V (F := Ideal) m c (Pipeline.arrRef spec0 5) (ix4 b h q x) = (I.O b.val h.val q.val x.val : EReal))
  (hA6 : ∀ (b : Fin 2) (h : Fin 8) (q : Fin 2048), V (F := Ideal) m c (Pipeline.arrRef spec0 6) (ix4 b h q 0) = (I.Lse b.val h.val q.val : EReal))
  (hA7 : ∀ (b : Fin 2) (h : Fin 8) (q : Fin 2048) (x : Fin 64), V (F := Ideal) m c (Pipeline.arrRef spec0 7) (ix4 b h q x) = (I.dd b.val h.val q.val x.val : EReal))

include hA0 in
theorem bx0 (t : Fin cfg0.N) (hh : Fin 4) (r : Fin 128) (x : Fin 64) : iblk (F := Ideal) m c 0 t (ix4 0 hh r x) = (I.qn (t.val / 32) (4 * (t.val / 16 % 2) + hh.val) (128 * (grid0.coords t 2).val + r.val) x.val : EReal) := by
  have ht : t.val < 64 := t.isLt
  rw [coord2]
  exact (blk0 c _ t hh r x ⟨t.val / 32, by omega⟩ ⟨4 * (t.val / 16 % 2) + hh.val, by omega⟩ ⟨128 * (t.val % 16) + r.val, by omega⟩ rfl rfl rfl).trans (hA0 _ _ _ _)

include hA1 in
theorem bx1 (t : Fin cfg0.N) (hh : Fin 4) (r : Fin 128) (x : Fin 32) : iblk (F := Ideal) m c 1 t (ix4 0 hh r x) = (I.qp (t.val / 32) (4 * (t.val / 16 % 2) + hh.val) (128 * (grid0.coords t 2).val + r.val) x.val : EReal) := by
  have ht : t.val < 64 := t.isLt
  rw [coord2]
  exact (blk1 c _ t hh r x ⟨t.val / 32, by omega⟩ ⟨4 * (t.val / 16 % 2) + hh.val, by omega⟩ ⟨128 * (t.val % 16) + r.val, by omega⟩ rfl rfl rfl).trans (hA1 _ _ _ _)

include hA2 in
theorem bx2 (t : Fin cfg0.N) (hh : Fin 4) (y : Fin 2048) (x : Fin 64) : iblk (F := Ideal) m c 2 t (ix4 0 hh y x) = (I.kn (t.val / 32) (4 * (t.val / 16 % 2) + hh.val) y.val x.val : EReal) := by
  have ht : t.val < 64 := t.isLt
  exact (blk2 c _ t hh y x ⟨t.val / 32, by omega⟩ ⟨4 * (t.val / 16 % 2) + hh.val, by omega⟩ rfl rfl).trans (hA2 _ _ _ _)

include hA3 in
theorem bx3 (t : Fin cfg0.N) (y : Fin 2048) (x : Fin 32) : iblk (F := Ideal) m c 3 t (ix4 0 0 y x) = (I.kp (t.val / 32) y.val x.val : EReal) := by
  have ht : t.val < 64 := t.isLt
  exact (blk3 c _ t y x ⟨t.val / 32, by omega⟩ rfl).trans (hA3 _ _ _)

include hA4 in
theorem bx4 (t : Fin cfg0.N) (hh : Fin 4) (y : Fin 2048) (x : Fin 64) : iblk (F := Ideal) m c 4 t (ix4 0 hh y x) = (I.v (t.val / 32) (4 * (t.val / 16 % 2) + hh.val) y.val x.val : EReal) := by
  have ht : t.val < 64 := t.isLt
  exact (blk4 c _ t hh y x ⟨t.val / 32, by omega⟩ ⟨4 * (t.val / 16 % 2) + hh.val, by omega⟩ rfl rfl).trans (hA4 _ _ _ _)

include hA5 in
theorem bx5 (t : Fin cfg0.N) (hh : Fin 4) (r : Fin 128) (x : Fin 64) : iblk (F := Ideal) m c 5 t (ix4 0 hh r x) = (I.O (t.val / 32) (4 * (t.val / 16 % 2) + hh.val) (128 * (grid0.coords t 2).val + r.val) x.val : EReal) := by
  have ht : t.val < 64 := t.isLt
  rw [coord2]
  exact (blk5 c _ t hh r x ⟨t.val / 32, by omega⟩ ⟨4 * (t.val / 16 % 2) + hh.val, by omega⟩ ⟨128 * (t.val % 16) + r.val, by omega⟩ rfl rfl rfl).trans (hA5 _ _ _ _)

include hA6 in
theorem bx6 (t : Fin cfg0.N) (hh : Fin 4) (r : Fin 128) : iblk (F := Ideal) m c 6 t (ix4 0 hh r 0) = (I.Lse (t.val / 32) (4 * (t.val / 16 % 2) + hh.val) (128 * (grid0.coords t 2).val + r.val) : EReal) := by
  have ht : t.val < 64 := t.isLt
  rw [coord2]
  exact (blk6 c _ t hh r ⟨t.val / 32, by omega⟩ ⟨4 * (t.val / 16 % 2) + hh.val, by omega⟩ ⟨128 * (t.val % 16) + r.val, by omega⟩ rfl rfl rfl).trans (hA6 _ _ _)

include hA7 in
theorem bx7 (t : Fin cfg0.N) (hh : Fin 4) (r : Fin 128) (x : Fin 64) : iblk (F := Ideal) m c 7 t (ix4 0 hh r x) = (I.dd (t.val / 32) (4 * (t.val / 16 % 2) + hh.val) (128 * (grid0.coords t 2).val + r.val) x.val : EReal) := by
  have ht : t.val < 64 := t.isLt
  rw [coord2]
  exact (blk7 c _ t hh r x ⟨t.val / 32, by omega⟩ ⟨4 * (t.val / 16 % 2) + hh.val, by omega⟩ ⟨128 * (t.val % 16) + r.val, by omega⟩ rfl rfl rfl).trans (hA7 _ _ _ _)

include hsc hA0 hA1 hA2 hA3 hA4 hA5 hA6 hA7 in
/-- The query gradient block at point `n`. -/
theorem outs8 (n : ℕ) (hn : n < cfg0.N) (hh : Fin 4) (r : Fin 128) (x : Fin 64) : (outsAt0 (F := Ideal) m c n hn).1 (ix4 0 hh r x) = ((∑ j ∈ Finset.range 2048, I.DS (n / 32) (4 * (n / 16 % 2) + hh.val) (128 * (n % 16) + r.val) j * I.kn (n / 32) (4 * (n / 16 % 2) + hh.val) j x.val : ℝ) : EReal) := by
  by_cases h0 : n % 16 = 0
  · by_cases h1 : n % 32 = 0
    · refine (congrArg (fun s => s.1 (ix4 0 hh r x)) (outsAt0_A (F := Ideal) m c ⟨n, hn⟩ h0 h1)).trans ?_
      refine (CaseA.out8 (I := I) (b := n / 32) (hg := n / 16 % 2) (hsc := hsc) (hx0 := bx0 m c I hA0 ⟨n, hn⟩) (hx1 := bx1 m c I hA1 ⟨n, hn⟩) (hx2 := bx2 m c I hA2 ⟨n, hn⟩) (hx3 := bx3 m c I hA3 ⟨n, hn⟩) (hx4 := bx4 m c I hA4 ⟨n, hn⟩) (hx5 := bx5 m c I hA5 ⟨n, hn⟩) (hx6 := bx6 m c I hA6 ⟨n, hn⟩) (hx7 := bx7 m c I hA7 ⟨n, hn⟩) (hh := hh) (r := r) (x := x) ..).trans ?_
      rw [show (grid0.coords (⟨n, hn⟩ : Fin cfg0.N) 2).val = n % 16 from coord2 ⟨n, hn⟩]
    · refine (congrArg (fun s => s.1 (ix4 0 hh r x)) (outsAt0_C (F := Ideal) m c ⟨n, hn⟩ h0 h1)).trans ?_
      refine (CaseC.out8 (I := I) (b := n / 32) (hg := n / 16 % 2) (hsc := hsc) (hx0 := bx0 m c I hA0 ⟨n, hn⟩) (hx1 := bx1 m c I hA1 ⟨n, hn⟩) (hx2 := bx2 m c I hA2 ⟨n, hn⟩) (hx3 := bx3 m c I hA3 ⟨n, hn⟩) (hx4 := bx4 m c I hA4 ⟨n, hn⟩) (hx5 := bx5 m c I hA5 ⟨n, hn⟩) (hx6 := bx6 m c I hA6 ⟨n, hn⟩) (hx7 := bx7 m c I hA7 ⟨n, hn⟩) (hh := hh) (r := r) (x := x) ..).trans ?_
      rw [show (grid0.coords (⟨n, hn⟩ : Fin cfg0.N) 2).val = n % 16 from coord2 ⟨n, hn⟩]
  · have h1 : ¬n % 32 = 0 := by omega
    refine (congrArg (fun s => s.1 (ix4 0 hh r x)) (outsAt0_B (F := Ideal) m c ⟨n, hn⟩ h0 h1)).trans ?_
    refine (CaseB.out8 (I := I) (b := n / 32) (hg := n / 16 % 2) (hsc := hsc) (hx0 := bx0 m c I hA0 ⟨n, hn⟩) (hx1 := bx1 m c I hA1 ⟨n, hn⟩) (hx2 := bx2 m c I hA2 ⟨n, hn⟩) (hx3 := bx3 m c I hA3 ⟨n, hn⟩) (hx4 := bx4 m c I hA4 ⟨n, hn⟩) (hx5 := bx5 m c I hA5 ⟨n, hn⟩) (hx6 := bx6 m c I hA6 ⟨n, hn⟩) (hx7 := bx7 m c I hA7 ⟨n, hn⟩) (hh := hh) (r := r) (x := x) ..).trans ?_
    rw [show (grid0.coords (⟨n, hn⟩ : Fin cfg0.N) 2).val = n % 16 from coord2 ⟨n, hn⟩]

include hsc hA0 hA1 hA2 hA3 hA4 hA5 hA6 hA7 in
/-- The rotary query gradient block at point `n`. -/
theorem outs9 (n : ℕ) (hn : n < cfg0.N) (hh : Fin 4) (r : Fin 128) (x : Fin 32) : (outsAt0 (F := Ideal) m c n hn).2.1 (ix4 0 hh r x) = ((∑ j ∈ Finset.range 2048, I.DS (n / 32) (4 * (n / 16 % 2) + hh.val) (128 * (n % 16) + r.val) j * I.kp (n / 32) j x.val : ℝ) : EReal) := by
  by_cases h0 : n % 16 = 0
  · by_cases h1 : n % 32 = 0
    · refine (congrArg (fun s => s.2.1 (ix4 0 hh r x)) (outsAt0_A (F := Ideal) m c ⟨n, hn⟩ h0 h1)).trans ?_
      refine (CaseA.out9 (I := I) (b := n / 32) (hg := n / 16 % 2) (hsc := hsc) (hx0 := bx0 m c I hA0 ⟨n, hn⟩) (hx1 := bx1 m c I hA1 ⟨n, hn⟩) (hx2 := bx2 m c I hA2 ⟨n, hn⟩) (hx3 := bx3 m c I hA3 ⟨n, hn⟩) (hx4 := bx4 m c I hA4 ⟨n, hn⟩) (hx5 := bx5 m c I hA5 ⟨n, hn⟩) (hx6 := bx6 m c I hA6 ⟨n, hn⟩) (hx7 := bx7 m c I hA7 ⟨n, hn⟩) (hh := hh) (r := r) (x := x) ..).trans ?_
      rw [show (grid0.coords (⟨n, hn⟩ : Fin cfg0.N) 2).val = n % 16 from coord2 ⟨n, hn⟩]
    · refine (congrArg (fun s => s.2.1 (ix4 0 hh r x)) (outsAt0_C (F := Ideal) m c ⟨n, hn⟩ h0 h1)).trans ?_
      refine (CaseC.out9 (I := I) (b := n / 32) (hg := n / 16 % 2) (hsc := hsc) (hx0 := bx0 m c I hA0 ⟨n, hn⟩) (hx1 := bx1 m c I hA1 ⟨n, hn⟩) (hx2 := bx2 m c I hA2 ⟨n, hn⟩) (hx3 := bx3 m c I hA3 ⟨n, hn⟩) (hx4 := bx4 m c I hA4 ⟨n, hn⟩) (hx5 := bx5 m c I hA5 ⟨n, hn⟩) (hx6 := bx6 m c I hA6 ⟨n, hn⟩) (hx7 := bx7 m c I hA7 ⟨n, hn⟩) (hh := hh) (r := r) (x := x) ..).trans ?_
      rw [show (grid0.coords (⟨n, hn⟩ : Fin cfg0.N) 2).val = n % 16 from coord2 ⟨n, hn⟩]
  · have h1 : ¬n % 32 = 0 := by omega
    refine (congrArg (fun s => s.2.1 (ix4 0 hh r x)) (outsAt0_B (F := Ideal) m c ⟨n, hn⟩ h0 h1)).trans ?_
    refine (CaseB.out9 (I := I) (b := n / 32) (hg := n / 16 % 2) (hsc := hsc) (hx0 := bx0 m c I hA0 ⟨n, hn⟩) (hx1 := bx1 m c I hA1 ⟨n, hn⟩) (hx2 := bx2 m c I hA2 ⟨n, hn⟩) (hx3 := bx3 m c I hA3 ⟨n, hn⟩) (hx4 := bx4 m c I hA4 ⟨n, hn⟩) (hx5 := bx5 m c I hA5 ⟨n, hn⟩) (hx6 := bx6 m c I hA6 ⟨n, hn⟩) (hx7 := bx7 m c I hA7 ⟨n, hn⟩) (hh := hh) (r := r) (x := x) ..).trans ?_
    rw [show (grid0.coords (⟨n, hn⟩ : Fin cfg0.N) 2).val = n % 16 from coord2 ⟨n, hn⟩]

include hsc hA0 hA1 hA2 hA3 hA4 hA5 hA6 hA7 in
/-- The key gradient block after point `n`: the query blocks of the head group so far. -/
theorem outs10 : ∀ (n : ℕ) (hn : n < cfg0.N) (hh : Fin 4) (y : Fin 2048) (x : Fin 64), (outsAt0 (F := Ideal) m c n hn).2.2.1 (ix4 0 hh y x) = ((∑ j ∈ Finset.range (128 * (n % 16 + 1)), I.DS (n / 32) (4 * (n / 16 % 2) + hh.val) j y.val * I.qn (n / 32) (4 * (n / 16 % 2) + hh.val) j x.val : ℝ) : EReal) := by
  intro n
  induction n with
  | zero =>
    intro hn hh y x
    refine (congrArg (fun s => s.2.2.1 (ix4 0 hh y x)) (outsAt0_A (F := Ideal) m c ⟨0, hn⟩ rfl rfl)).trans ?_
    refine (CaseA.out10 (I := I) (b := 0 / 32) (hg := 0 / 16 % 2) (hsc := hsc) (hx0 := bx0 m c I hA0 ⟨0, hn⟩) (hx1 := bx1 m c I hA1 ⟨0, hn⟩) (hx2 := bx2 m c I hA2 ⟨0, hn⟩) (hx3 := bx3 m c I hA3 ⟨0, hn⟩) (hx4 := bx4 m c I hA4 ⟨0, hn⟩) (hx5 := bx5 m c I hA5 ⟨0, hn⟩) (hx6 := bx6 m c I hA6 ⟨0, hn⟩) (hx7 := bx7 m c I hA7 ⟨0, hn⟩) (hh := hh) (y := y) (x := x) ..).trans ?_
    rw [show (grid0.coords (⟨0, hn⟩ : Fin cfg0.N) 2).val = 0 % 16 from coord2 ⟨0, hn⟩]
    simp
  | succ k ih =>
    intro hn hh y x
    by_cases h0 : (k + 1) % 16 = 0
    · have e : ∀ j, 128 * ((k + 1) % 16) + j = j := fun j => by omega
      have e' : 128 * ((k + 1) % 16 + 1) = 128 := by omega
      by_cases h1 : (k + 1) % 32 = 0
      · refine (congrArg (fun s => s.2.2.1 (ix4 0 hh y x)) (outsAt0_A (F := Ideal) m c ⟨k + 1, hn⟩ h0 h1)).trans ?_
        refine (CaseA.out10 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (hh := hh) (y := y) (x := x) ..).trans ?_
        rw [show (grid0.coords (⟨k + 1, hn⟩ : Fin cfg0.N) 2).val = (k + 1) % 16 from coord2 ⟨k + 1, hn⟩]
        simp only [e, e']
      · refine (congrArg (fun s => s.2.2.1 (ix4 0 hh y x)) (outsAt0_C (F := Ideal) m c ⟨k + 1, hn⟩ h0 h1)).trans ?_
        refine (CaseC.out10 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (hh := hh) (y := y) (x := x) ..).trans ?_
        rw [show (grid0.coords (⟨k + 1, hn⟩ : Fin cfg0.N) 2).val = (k + 1) % 16 from coord2 ⟨k + 1, hn⟩]
        simp only [e, e']
    · have h1 : ¬(k + 1) % 32 = 0 := by omega
      refine (congrArg (fun s => s.2.2.1 (ix4 0 hh y x)) (outsAt0_B (F := Ideal) m c ⟨k + 1, hn⟩ h0 h1)).trans ?_
      refine (CaseB.out10 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (hh := hh) (y := y) (x := x) ..).trans ?_
      rw [show (grid0.coords (⟨k + 1, hn⟩ : Fin cfg0.N) 2).val = (k + 1) % 16 from coord2 ⟨k + 1, hn⟩]
      refine (congrArg (· + _) (ih (by omega) hh y x)).trans ?_
      rw [show k / 32 = (k + 1) / 32 by omega, show k / 16 % 2 = (k + 1) / 16 % 2 by omega, show k % 16 + 1 = (k + 1) % 16 by omega]
      exact (EReal.coe_add _ _).symm.trans (congrArg (fun z : ℝ => (z : EReal)) (sum_tile (fun j => I.DS ((k + 1) / 32) (4 * ((k + 1) / 16 % 2) + hh.val) j y.val * I.qn ((k + 1) / 32) (4 * ((k + 1) / 16 % 2) + hh.val) j x.val) ((k + 1) % 16)).symm)

include hsc hA0 hA1 hA2 hA3 hA4 hA5 hA6 hA7 in
/-- The value gradient block after point `n`: the query blocks of the head group so far. -/
theorem outs12 : ∀ (n : ℕ) (hn : n < cfg0.N) (hh : Fin 4) (y : Fin 2048) (x : Fin 64), (outsAt0 (F := Ideal) m c n hn).2.2.2.2 (ix4 0 hh y x) = ((∑ j ∈ Finset.range (128 * (n % 16 + 1)), I.P (n / 32) (4 * (n / 16 % 2) + hh.val) j y.val * I.dd (n / 32) (4 * (n / 16 % 2) + hh.val) j x.val : ℝ) : EReal) := by
  intro n
  induction n with
  | zero =>
    intro hn hh y x
    refine (congrArg (fun s => s.2.2.2.2 (ix4 0 hh y x)) (outsAt0_A (F := Ideal) m c ⟨0, hn⟩ rfl rfl)).trans ?_
    refine (CaseA.out12 (I := I) (b := 0 / 32) (hg := 0 / 16 % 2) (hsc := hsc) (hx0 := bx0 m c I hA0 ⟨0, hn⟩) (hx1 := bx1 m c I hA1 ⟨0, hn⟩) (hx2 := bx2 m c I hA2 ⟨0, hn⟩) (hx3 := bx3 m c I hA3 ⟨0, hn⟩) (hx4 := bx4 m c I hA4 ⟨0, hn⟩) (hx5 := bx5 m c I hA5 ⟨0, hn⟩) (hx6 := bx6 m c I hA6 ⟨0, hn⟩) (hx7 := bx7 m c I hA7 ⟨0, hn⟩) (hh := hh) (y := y) (x := x) ..).trans ?_
    rw [show (grid0.coords (⟨0, hn⟩ : Fin cfg0.N) 2).val = 0 % 16 from coord2 ⟨0, hn⟩]
    simp
  | succ k ih =>
    intro hn hh y x
    by_cases h0 : (k + 1) % 16 = 0
    · have e : ∀ j, 128 * ((k + 1) % 16) + j = j := fun j => by omega
      have e' : 128 * ((k + 1) % 16 + 1) = 128 := by omega
      by_cases h1 : (k + 1) % 32 = 0
      · refine (congrArg (fun s => s.2.2.2.2 (ix4 0 hh y x)) (outsAt0_A (F := Ideal) m c ⟨k + 1, hn⟩ h0 h1)).trans ?_
        refine (CaseA.out12 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (hh := hh) (y := y) (x := x) ..).trans ?_
        rw [show (grid0.coords (⟨k + 1, hn⟩ : Fin cfg0.N) 2).val = (k + 1) % 16 from coord2 ⟨k + 1, hn⟩]
        simp only [e, e']
      · refine (congrArg (fun s => s.2.2.2.2 (ix4 0 hh y x)) (outsAt0_C (F := Ideal) m c ⟨k + 1, hn⟩ h0 h1)).trans ?_
        refine (CaseC.out12 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (hh := hh) (y := y) (x := x) ..).trans ?_
        rw [show (grid0.coords (⟨k + 1, hn⟩ : Fin cfg0.N) 2).val = (k + 1) % 16 from coord2 ⟨k + 1, hn⟩]
        simp only [e, e']
    · have h1 : ¬(k + 1) % 32 = 0 := by omega
      refine (congrArg (fun s => s.2.2.2.2 (ix4 0 hh y x)) (outsAt0_B (F := Ideal) m c ⟨k + 1, hn⟩ h0 h1)).trans ?_
      refine (CaseB.out12 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (hh := hh) (y := y) (x := x) ..).trans ?_
      rw [show (grid0.coords (⟨k + 1, hn⟩ : Fin cfg0.N) 2).val = (k + 1) % 16 from coord2 ⟨k + 1, hn⟩]
      refine (congrArg (· + _) (ih (by omega) hh y x)).trans ?_
      rw [show k / 32 = (k + 1) / 32 by omega, show k / 16 % 2 = (k + 1) / 16 % 2 by omega, show k % 16 + 1 = (k + 1) % 16 by omega]
      exact (EReal.coe_add _ _).symm.trans (congrArg (fun z : ℝ => (z : EReal)) (sum_tile (fun j => I.P ((k + 1) / 32) (4 * ((k + 1) / 16 % 2) + hh.val) j y.val * I.dd ((k + 1) / 32) (4 * ((k + 1) / 16 % 2) + hh.val) j x.val) ((k + 1) % 16)).symm)

include hsc hA0 hA1 hA2 hA3 hA4 hA5 hA6 hA7 in
/-- The rotary key gradient block after point `n`: the earlier heads whole, this group's query blocks so far. -/
theorem outs11 : ∀ (n : ℕ) (hn : n < cfg0.N) (y : Fin 2048) (x : Fin 32), (outsAt0 (F := Ideal) m c n hn).2.2.2.1 (ix4 0 0 y x) = (((∑ h ∈ Finset.range (4 * (n / 16 % 2)), ∑ j ∈ Finset.range 2048, I.DS (n / 32) h j y.val * I.qp (n / 32) h j x.val) + ∑ hh ∈ Finset.range 4, ∑ j ∈ Finset.range (128 * (n % 16 + 1)), I.DS (n / 32) (4 * (n / 16 % 2) + hh) j y.val * I.qp (n / 32) (4 * (n / 16 % 2) + hh) j x.val : ℝ) : EReal) := by
  intro n
  induction n with
  | zero =>
    intro hn y x
    refine (congrArg (fun s => s.2.2.2.1 (ix4 0 0 y x)) (outsAt0_A (F := Ideal) m c ⟨0, hn⟩ rfl rfl)).trans ?_
    refine (CaseA.out11 (I := I) (b := 0 / 32) (hg := 0 / 16 % 2) (hsc := hsc) (hx0 := bx0 m c I hA0 ⟨0, hn⟩) (hx1 := bx1 m c I hA1 ⟨0, hn⟩) (hx2 := bx2 m c I hA2 ⟨0, hn⟩) (hx3 := bx3 m c I hA3 ⟨0, hn⟩) (hx4 := bx4 m c I hA4 ⟨0, hn⟩) (hx5 := bx5 m c I hA5 ⟨0, hn⟩) (hx6 := bx6 m c I hA6 ⟨0, hn⟩) (hx7 := bx7 m c I hA7 ⟨0, hn⟩) (y := y) (x := x) ..).trans ?_
    rw [show (grid0.coords (⟨0, hn⟩ : Fin cfg0.N) 2).val = 0 % 16 from coord2 ⟨0, hn⟩]
    simp
  | succ k ih =>
    intro hn y x
    by_cases h0 : (k + 1) % 16 = 0
    · have e : ∀ j, 128 * ((k + 1) % 16) + j = j := fun j => by omega
      have e' : 128 * ((k + 1) % 16 + 1) = 128 := by omega
      by_cases h1 : (k + 1) % 32 = 0
      · refine (congrArg (fun s => s.2.2.2.1 (ix4 0 0 y x)) (outsAt0_A (F := Ideal) m c ⟨k + 1, hn⟩ h0 h1)).trans ?_
        refine (CaseA.out11 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (y := y) (x := x) ..).trans ?_
        rw [show (grid0.coords (⟨k + 1, hn⟩ : Fin cfg0.N) 2).val = (k + 1) % 16 from coord2 ⟨k + 1, hn⟩]
        have e2 : (k + 1) / 16 % 2 = 0 := by omega
        simp only [e, e', e2, Nat.mul_zero, Finset.range_zero, Finset.sum_empty, zero_add]
      · refine (congrArg (fun s => s.2.2.2.1 (ix4 0 0 y x)) (outsAt0_C (F := Ideal) m c ⟨k + 1, hn⟩ h0 h1)).trans ?_
        refine (CaseC.out11 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (y := y) (x := x) ..).trans ?_
        rw [show (grid0.coords (⟨k + 1, hn⟩ : Fin cfg0.N) 2).val = (k + 1) % 16 from coord2 ⟨k + 1, hn⟩]
        refine (congrArg (· + _) (ih (by omega) y x)).trans ?_
        rw [show k / 32 = (k + 1) / 32 by omega, show k / 16 % 2 = 0 by omega, show k % 16 + 1 = 16 by omega, show (k + 1) / 16 % 2 = 1 by omega]
        simp only [e, e', Nat.mul_zero, Finset.range_zero, Finset.sum_empty, zero_add, Nat.mul_one]
        exact (EReal.coe_add _ _).symm
    · have h1 : ¬(k + 1) % 32 = 0 := by omega
      refine (congrArg (fun s => s.2.2.2.1 (ix4 0 0 y x)) (outsAt0_B (F := Ideal) m c ⟨k + 1, hn⟩ h0 h1)).trans ?_
      refine (CaseB.out11 (I := I) (b := (k + 1) / 32) (hg := (k + 1) / 16 % 2) (hsc := hsc) (hx0 := bx0 m c I hA0 ⟨k + 1, hn⟩) (hx1 := bx1 m c I hA1 ⟨k + 1, hn⟩) (hx2 := bx2 m c I hA2 ⟨k + 1, hn⟩) (hx3 := bx3 m c I hA3 ⟨k + 1, hn⟩) (hx4 := bx4 m c I hA4 ⟨k + 1, hn⟩) (hx5 := bx5 m c I hA5 ⟨k + 1, hn⟩) (hx6 := bx6 m c I hA6 ⟨k + 1, hn⟩) (hx7 := bx7 m c I hA7 ⟨k + 1, hn⟩) (y := y) (x := x) ..).trans ?_
      rw [show (grid0.coords (⟨k + 1, hn⟩ : Fin cfg0.N) 2).val = (k + 1) % 16 from coord2 ⟨k + 1, hn⟩]
      refine (congrArg (· + _) (ih (by omega) y x)).trans ?_
      rw [show k / 32 = (k + 1) / 32 by omega, show k / 16 % 2 = (k + 1) / 16 % 2 by omega, show k % 16 + 1 = (k + 1) % 16 by omega]
      refine (EReal.coe_add _ _).symm.trans (congrArg (fun z : ℝ => (z : EReal)) ?_)
      rw [add_assoc, ← Finset.sum_add_distrib]
      exact congrArg (_ + ·) (Finset.sum_congr rfl fun hh _ => (sum_tile (fun j => I.DS ((k + 1) / 32) (4 * ((k + 1) / 16 % 2) + hh) j y.val * I.qp ((k + 1) / 32) (4 * ((k + 1) / 16 % 2) + hh) j x.val) ((k + 1) % 16)).symm)

end Cert.Mla

end
-- ==== Proof.Mla.Final.lean ====
/-
  The kernel's five result arrays after its run, at an index.
-/
module

public import proofs.«01_k».proof.Proof.Mla.Points

@[expose] public section

set_option maxRecDepth 16384

noncomputable section

open Idealize.ShloMosaic Idealize.ShloMosaic.TcCoe Idealize.SL.Sem
open Cert.KernelIdeal Cert.KernelIdeal.Gen

open Cert.KernelIdeal.Value

namespace Cert.Mla

variable (m : (ℓ : Loc nD τ sig) → Buf (Elt Ideal) ℓ) (c : Dev nD) (I : Inp) (hsc : I.sc = scale)

  (hA0 : ∀ (b : Fin 2) (h : Fin 8) (q : Fin 2048) (x : Fin 64), V (F := Ideal) m c (Pipeline.arrRef spec0 0) (ix4 b h q x) = (I.qn b.val h.val q.val x.val : EReal))
  (hA1 : ∀ (b : Fin 2) (h : Fin 8) (q : Fin 2048) (x : Fin 32), V (F := Ideal) m c (Pipeline.arrRef spec0 1) (ix4 b h q x) = (I.qp b.val h.val q.val x.val : EReal))
  (hA2 : ∀ (b : Fin 2) (h : Fin 8) (q : Fin 2048) (x : Fin 64), V (F := Ideal) m c (Pipeline.arrRef spec0 2) (ix4 b h q x) = (I.kn b.val h.val q.val x.val : EReal))
  (hA3 : ∀ (b : Fin 2) (q : Fin 2048) (x : Fin 32), V (F := Ideal) m c (Pipeline.arrRef spec0 3) (ix4 b 0 q x) = (I.kp b.val q.val x.val : EReal))
  (hA4 : ∀ (b : Fin 2) (h : Fin 8) (q : Fin 2048) (x : Fin 64), V (F := Ideal) m c (Pipeline.arrRef spec0 4) (ix4 b h q x) = (I.v b.val h.val q.val x.val : EReal))
  (hA5 : ∀ (b : Fin 2) (h : Fin 8) (q : Fin 2048) (x : Fin 64), V (F := Ideal) m c (Pipeline.arrRef spec0 5) (ix4 b h q x) = (I.O b.val h.val q.val x.val : EReal))
  (hA6 : ∀ (b : Fin 2) (h : Fin 8) (q : Fin 2048), V (F := Ideal) m c (Pipeline.arrRef spec0 6) (ix4 b h q 0) = (I.Lse b.val h.val q.val : EReal))
  (hA7 : ∀ (b : Fin 2) (h : Fin 8) (q : Fin 2048) (x : Fin 64), V (F := Ideal) m c (Pipeline.arrRef spec0 7) (ix4 b h q x) = (I.dd b.val h.val q.val x.val : EReal))

theorem disj10 : ∀ t t' : Fin cfg0.N, (cfg0.win 10).flush t = true → (cfg0.win 10).flush t' = true → t ≠ t' →
    Disjoint ((cfg0.win 10).blk t).view.set ((cfg0.win 10).blk t').view.set :=
  fun t t' hf hf' hne => (cfg0.win 10).disjoint_blk fun h => hne (by
    obtain ⟨h0, h1, h2, h3⟩ := idx10 t
    obtain ⟨k0, k1, k2, k3⟩ := idx10 t'
    have e0 : win0_10.index t 0 = win0_10.index t' 0 := congrFun h 0
    have e1 : win0_10.index t 1 = win0_10.index t' 1 := congrFun h 1
    have g := (flush0_10 t).mp hf
    have g' := (flush0_10 t').mp hf'
    have b : t.val < 64 := t.isLt
    have b' : t'.val < 64 := t'.isLt
    exact Fin.ext (by omega))

theorem disj12 : ∀ t t' : Fin cfg0.N, (cfg0.win 12).flush t = true → (cfg0.win 12).flush t' = true → t ≠ t' →
    Disjoint ((cfg0.win 12).blk t).view.set ((cfg0.win 12).blk t').view.set :=
  fun t t' hf hf' hne => (cfg0.win 12).disjoint_blk fun h => hne (by
    obtain ⟨h0, h1, h2, h3⟩ := idx12 t
    obtain ⟨k0, k1, k2, k3⟩ := idx12 t'
    have e0 : win0_12.index t 0 = win0_12.index t' 0 := congrFun h 0
    have e1 : win0_12.index t 1 = win0_12.index t' 1 := congrFun h 1
    have g := (flush0_12 t).mp hf
    have g' := (flush0_12 t').mp hf'
    have b : t.val < 64 := t.isLt
    have b' : t'.val < 64 := t'.isLt
    exact Fin.ext (by omega))

theorem disj11 : ∀ t t' : Fin cfg0.N, (cfg0.win 11).flush t = true → (cfg0.win 11).flush t' = true → t ≠ t' →
    Disjoint ((cfg0.win 11).blk t).view.set ((cfg0.win 11).blk t').view.set :=
  fun t t' hf hf' hne => (cfg0.win 11).disjoint_blk fun h => hne (by
    obtain ⟨h0, h1, h2, h3⟩ := idx11 t
    obtain ⟨k0, k1, k2, k3⟩ := idx11 t'
    have e0 : win0_11.index t 0 = win0_11.index t' 0 := congrFun h 0
    have e1 : win0_11.index t 1 = win0_11.index t' 1 := congrFun h 1
    have g := (flush0_11 t).mp hf
    have g' := (flush0_11 t').mp hf'
    have b : t.val < 64 := t.isLt
    have b' : t'.val < 64 := t'.isLt
    exact Fin.ext (by omega))

include hsc hA0 hA1 hA2 hA3 hA4 hA5 hA6 hA7 in
/-- The query gradient after the run. -/
theorem fin8 (b : Fin 2) (h : Fin 8) (q : Fin 2048) (x : Fin 64) : (dats (F := Ideal) m 0 c).arrAt 8 cfg0.N (ix4 b h q x) = ((∑ j ∈ Finset.range 2048, I.DS b.val h.val q.val j * I.kn b.val h.val j x.val : ℝ) : EReal) := by
  have b2 := b.isLt
  have q2 := q.isLt
  have hh4 : h.val < 8 := h.isLt
  let t : Fin cfg0.N := ⟨32 * b.val + 16 * (h.val / 4) + q.val / 128, by show _ < 64; omega⟩
  have ht : t.val = 32 * b.val + 16 * (h.val / 4) + q.val / 128 := rfl
  let hh : Fin 4 := ⟨h.val % 4, Nat.mod_lt _ (by decide)⟩
  let r : Fin 128 := ⟨q.val % 128, Nat.mod_lt _ (by decide)⟩
  refine (blk8 c ((dats (F := Ideal) m 0 c).arrAt 8 cfg0.N) t hh r x b h q (by omega) (by show h.val = 4 * (t.val / 16 % 2) + h.val % 4; omega) (by show q.val = 128 * (t.val % 16) + q.val % 128; omega)).symm.trans ?_
  refine (congrFun (blocks8 (F := Ideal) m c t (flush0_8 t)) (ix4 0 hh r x)).trans ?_
  rw [flushed8]
  refine (outs8 m c I hsc hA0 hA1 hA2 hA3 hA4 hA5 hA6 hA7 t.val t.isLt hh r x).trans ?_
  rw [show t.val / 32 = b.val by omega, show 4 * (t.val / 16 % 2) + hh.val = h.val by show 4 * (t.val / 16 % 2) + h.val % 4 = h.val; omega, show 128 * (t.val % 16) + r.val = q.val by show 128 * (t.val % 16) + q.val % 128 = q.val; omega]

include hsc hA0 hA1 hA2 hA3 hA4 hA5 hA6 hA7 in
/-- The rotary query gradient after the run. -/
theorem fin9 (b : Fin 2) (h : Fin 8) (q : Fin 2048) (x : Fin 32) : (dats (F := Ideal) m 0 c).arrAt 9 cfg0.N (ix4 b h q x) = ((∑ j ∈ Finset.range 2048, I.DS b.val h.val q.val j * I.kp b.val j x.val : ℝ) : EReal) := by
  have b2 := b.isLt
  have q2 := q.isLt
  have hh4 : h.val < 8 := h.isLt
  let t : Fin cfg0.N := ⟨32 * b.val + 16 * (h.val / 4) + q.val / 128, by show _ < 64; omega⟩
  have ht : t.val = 32 * b.val + 16 * (h.val / 4) + q.val / 128 := rfl
  let hh : Fin 4 := ⟨h.val % 4, Nat.mod_lt _ (by decide)⟩
  let r : Fin 128 := ⟨q.val % 128, Nat.mod_lt _ (by decide)⟩
  refine (blk9 c ((dats (F := Ideal) m 0 c).arrAt 9 cfg0.N) t hh r x b h q (by omega) (by show h.val = 4 * (t.val / 16 % 2) + h.val % 4; omega) (by show q.val = 128 * (t.val % 16) + q.val % 128; omega)).symm.trans ?_
  refine (congrFun (blocks9 (F := Ideal) m c t (flush0_9 t)) (ix4 0 hh r x)).trans ?_
  rw [flushed9]
  refine (outs9 m c I hsc hA0 hA1 hA2 hA3 hA4 hA5 hA6 hA7 t.val t.isLt hh r x).trans ?_
  rw [show t.val / 32 = b.val by omega, show 4 * (t.val / 16 % 2) + hh.val = h.val by show 4 * (t.val / 16 % 2) + h.val % 4 = h.val; omega, show 128 * (t.val % 16) + r.val = q.val by show 128 * (t.val % 16) + q.val % 128 = q.val; omega]

include hsc hA0 hA1 hA2 hA3 hA4 hA5 hA6 hA7 in
/-- The key gradient after the run. -/
theorem fin10 (b : Fin 2) (h : Fin 8) (q : Fin 2048) (x : Fin 64) : (dats (F := Ideal) m 0 c).arrAt 10 cfg0.N (ix4 b h q x) = ((∑ j ∈ Finset.range 2048, I.DS b.val h.val j q.val * I.qn b.val h.val j x.val : ℝ) : EReal) := by
  have b2 := b.isLt
  have q2 := q.isLt
  have hh4 : h.val < 8 := h.isLt
  let t : Fin cfg0.N := ⟨32 * b.val + 16 * (h.val / 4) + 15, by show _ < 64; omega⟩
  have ht : t.val = 32 * b.val + 16 * (h.val / 4) + 15 := rfl
  let hh : Fin 4 := ⟨h.val % 4, Nat.mod_lt _ (by decide)⟩
  refine (blk10 c ((dats (F := Ideal) m 0 c).arrAt 10 cfg0.N) t hh q x b h (by omega) (by show h.val = 4 * (t.val / 16 % 2) + h.val % 4; omega)).symm.trans ?_
  refine (congrFun ((dats (F := Ideal) m 0 c).read_blk_arrAt_eq_flushed 10 disj10 cfg0.N t t.isLt ((flush0_10 t).mpr (by omega))) (ix4 0 hh q x)).trans ?_
  rw [flushed10]
  refine (outs10 m c I hsc hA0 hA1 hA2 hA3 hA4 hA5 hA6 hA7 t.val t.isLt hh q x).trans ?_
  rw [show t.val / 32 = b.val by omega, show 4 * (t.val / 16 % 2) + hh.val = h.val by show 4 * (t.val / 16 % 2) + h.val % 4 = h.val; omega, show 128 * (t.val % 16 + 1) = 2048 by omega]

include hsc hA0 hA1 hA2 hA3 hA4 hA5 hA6 hA7 in
/-- The rotary key gradient after the run. -/
theorem fin11 (b : Fin 2) (q : Fin 2048) (x : Fin 32) : (dats (F := Ideal) m 0 c).arrAt 11 cfg0.N (ix4 b 0 q x) = ((∑ h ∈ Finset.range 8, ∑ j ∈ Finset.range 2048, I.DS b.val h j q.val * I.qp b.val h j x.val : ℝ) : EReal) := by
  have b2 := b.isLt
  have q2 := q.isLt
  let t : Fin cfg0.N := ⟨32 * b.val + 31, by show _ < 64; omega⟩
  have ht : t.val = 32 * b.val + 31 := rfl
  refine (blk11 c ((dats (F := Ideal) m 0 c).arrAt 11 cfg0.N) t q x b (by omega)).symm.trans ?_
  refine (congrFun ((dats (F := Ideal) m 0 c).read_blk_arrAt_eq_flushed 11 disj11 cfg0.N t t.isLt ((flush0_11 t).mpr (by omega))) (ix4 0 0 q x)).trans ?_
  rw [flushed11]
  refine (outs11 m c I hsc hA0 hA1 hA2 hA3 hA4 hA5 hA6 hA7 t.val t.isLt q x).trans ?_
  rw [show t.val / 32 = b.val by omega, show t.val / 16 % 2 = 1 by omega, show 128 * (t.val % 16 + 1) = 2048 by omega, Nat.mul_one]
  exact congrArg (fun z : ℝ => (z : EReal)) (Finset.sum_range_add (fun h => ∑ j ∈ Finset.range 2048, I.DS b.val h j q.val * I.qp b.val h j x.val) 4 4).symm

include hsc hA0 hA1 hA2 hA3 hA4 hA5 hA6 hA7 in
/-- The value gradient after the run. -/
theorem fin12 (b : Fin 2) (h : Fin 8) (q : Fin 2048) (x : Fin 64) : (dats (F := Ideal) m 0 c).arrAt 12 cfg0.N (ix4 b h q x) = ((∑ j ∈ Finset.range 2048, I.P b.val h.val j q.val * I.dd b.val h.val j x.val : ℝ) : EReal) := by
  have b2 := b.isLt
  have q2 := q.isLt
  have hh4 : h.val < 8 := h.isLt
  let t : Fin cfg0.N := ⟨32 * b.val + 16 * (h.val / 4) + 15, by show _ < 64; omega⟩
  have ht : t.val = 32 * b.val + 16 * (h.val / 4) + 15 := rfl
  let hh : Fin 4 := ⟨h.val % 4, Nat.mod_lt _ (by decide)⟩
  refine (blk12 c ((dats (F := Ideal) m 0 c).arrAt 12 cfg0.N) t hh q x b h (by omega) (by show h.val = 4 * (t.val / 16 % 2) + h.val % 4; omega)).symm.trans ?_
  refine (congrFun ((dats (F := Ideal) m 0 c).read_blk_arrAt_eq_flushed 12 disj12 cfg0.N t t.isLt ((flush0_12 t).mpr (by omega))) (ix4 0 hh q x)).trans ?_
  rw [flushed12]
  refine (outs12 m c I hsc hA0 hA1 hA2 hA3 hA4 hA5 hA6 hA7 t.val t.isLt hh q x).trans ?_
  rw [show t.val / 32 = b.val by omega, show 4 * (t.val / 16 % 2) + hh.val = h.val by show 4 * (t.val / 16 % 2) + h.val % 4 = h.val; omega, show 128 * (t.val % 16 + 1) = 2048 by omega]

end Cert.Mla

end
-- ==== Proof.Mla.Host.lean ====
/-
  The attention as the host computes it, in steps: masked scores, row maxima, exponentials, row sums, probabilities, output.
  Each step is read at an index over finite inputs.
-/
module

public import proofs.«01_k».proof.Proof.Gen.KernelIdeal.Value
public import proofs.«01_k».proof.Proof.Mla.Tile
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Cert.KernelIdeal Cert.KernelIdeal.Gen

namespace Cert.Mla

/-- The causal mask. -/
def hC : IVec S2048x2048 1 :=
  cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The masked scores. -/
def hS (a0 : FVec Ideal S2x8x2048x64 .f32) (a1 : FVec Ideal S2x8x2048x32 .f32) (a2 : FVec Ideal S2x8x2048x64 .f32) (a3 : FVec Ideal S2x1x2048x32 .f32) : FVec Ideal S2x8x2048x2048 .f32 :=
  select (broadcastInDim S2x8x2048x2048 ![2, 3] bcast_S2048x2048_S2x8x2048x2048_2_3 hC) (mulf (addf (Host.dotGeneral dot_S2x8x2048x64_S2x8x2048x64_S2x8x2048x2048_3_3_2_2_01_01 none a0 a2) (Host.dotGeneral dot_S2x8x2048x32_S2x2048x32_S2x8x2048x2048_3_2_12_1_0_0 none a1 (shapeCast S2x2048x32 a3 shapeCasts_S2x1x2048x32_S2x2048x32))) (broadcastInDim S2x8x2048x2048 ![] bcast_S_S2x8x2048x2048 (constant S_ .f32 0x3DD105EC#32))) (broadcastInDim S2x8x2048x2048 ![] bcast_S_S2x8x2048x2048 (id (constant S_ .f32 0xFF800000#32)))

/-- The row maxima. -/
def hM (s : FVec Ideal S2x8x2048x2048 .f32) : FVec Ideal S2x8x2048 .f32 :=
  Host.reduce FloatOps.maximumf s (constant S_ .f32 0xFF800000#32) reducesTo_S2x8x2048x2048_S2x8x2048_d3 h_S_

/-- A value a row, along the row. -/
def hB (x : FVec Ideal S2x8x2048 .f32) : FVec Ideal S2x8x2048x2048 .f32 :=
  broadcastInDim S2x8x2048x2048 ![0, 1, 2, 3] bcast_S2x8x2048x1_S2x8x2048x2048_0_1_2_3 (broadcastInDim S2x8x2048x1 ![0, 1, 2] bcast_S2x8x2048_S2x8x2048x1_0_1_2 x)

/-- The exponentials. -/
def hE (s : FVec Ideal S2x8x2048x2048 .f32) (x : FVec Ideal S2x8x2048 .f32) : FVec Ideal S2x8x2048x2048 .f32 :=
  Host.exp (subf s (hB x))

/-- The row sums. -/
def hZ (e : FVec Ideal S2x8x2048x2048 .f32) : FVec Ideal S2x8x2048 .f32 :=
  Host.reduceAdd e (constant S_ .f32 0x00000000#32) reducesTo_S2x8x2048x2048_S2x8x2048_d3 h_S_

/-- The probabilities. -/
def hP (e : FVec Ideal S2x8x2048x2048 .f32) (z : FVec Ideal S2x8x2048 .f32) : FVec Ideal S2x8x2048x2048 .f32 :=
  Host.divf e (hB z)

/-- The output. -/
def hO (p : FVec Ideal S2x8x2048x2048 .f32) (v : FVec Ideal S2x8x2048x64 .f32) : FVec Ideal S2x8x2048x64 .f32 :=
  Host.dotGeneral dot_S2x8x2048x2048_S2x8x2048x64_S2x8x2048x64_3_2_2_3_01_01 none p v

/-- The log-sum-exps. -/
def hL (x z : FVec Ideal S2x8x2048 .f32) : FVec Ideal S2x8x2048x1 .f32 :=
  addf (broadcastInDim S2x8x2048x1 ![0, 1, 2] bcast_S2x8x2048_S2x8x2048x1_0_1_2 x) (Host.log (broadcastInDim S2x8x2048x1 ![0, 1, 2] bcast_S2x8x2048_S2x8x2048x1_0_1_2 z))

theorem ninf_eq : Ideal.ofBits .f32 0xFF800000#32 = (⊥ : EReal) := by simp [Ideal.ofBits, Ideal.ieee]

/-- The row maxima against minus infinity. -/
def hN (x : FVec Ideal S2x8x2048 .f32) : FVec Ideal S2x8x2048 .f32 :=
  maximumf (broadcastInDim S2x8x2048 ![] bcast_S_S2x8x2048 (constant S_ .f32 0xFF800000#32)) x

theorem hN_eq (x : FVec Ideal S2x8x2048 .f32) : hN x = x := by
  funext i
  show max (Ideal.ofBits .f32 0xFF800000#32) (x i) = x i
  rw [ninf_eq]; exact max_eq_right bot_le

/-- The host's causal mask at an index. -/
theorem hC_apply (q k : Fin 2048) : hC (ix2 q k) = BitVec.ofBool (decide (k.val ≤ q.val)) := by
  pointwise [hC]
  rw [Idealize.ShloMosaic.WordCmp.cmpi_sle_ofNat (by omega) (by omega)]

section Steps

variable (I : Inp) (b : Fin 2) (h : Fin 8) (q k : Fin 2048)

theorem hS_apply (hsc : I.sc = scale) (a0 : FVec Ideal S2x8x2048x64 .f32) (a1 : FVec Ideal S2x8x2048x32 .f32)
    (a2 : FVec Ideal S2x8x2048x64 .f32) (a3 : FVec Ideal S2x1x2048x32 .f32)
    (h0 : ∀ b h q x, a0 (ix4 b h q x) = (I.qn b.val h.val q.val x.val : EReal))
    (h1 : ∀ b h q x, a1 (ix4 b h q x) = (I.qp b.val h.val q.val x.val : EReal))
    (h2 : ∀ b h q x, a2 (ix4 b h q x) = (I.kn b.val h.val q.val x.val : EReal))
    (h3 : ∀ b q x, a3 (ix4 b 0 q x) = (I.kp b.val q.val x.val : EReal)) :
    hS a0 a1 a2 a3 (ix4 b h q k) = if k.val ≤ q.val then (I.S b.val h.val q.val k.val : EReal) else ⊥ := by
  pointwise [hS, hC]
  rw [Idealize.ShloMosaic.WordCmp.cmpi_sle_ofNat (by omega) (by omega), scale_eq,
    coe_sum_fin (fun x => I.qn b h q x * I.kn b h k x) _ (fun x => by rw [h0, h2, EReal.coe_mul]),
    coe_sum_fin (fun x => I.qp b h q x * I.kp b k x) _ (fun x => by rw [h1, h3, EReal.coe_mul]),
    ← EReal.coe_add, ← EReal.coe_mul, ← hsc]
  by_cases hc : k.val ≤ q.val
  · rw [if_pos hc, decide_eq_true hc]; rfl
  · rw [if_neg hc, decide_eq_false hc]; exact ninf_eq

variable (s : FVec Ideal S2x8x2048x2048 .f32) (x : FVec Ideal S2x8x2048 .f32)

theorem hM_apply (hs : ∀ b h q k, s (ix4 b h q k) = if k.val ≤ q.val then (I.S b.val h.val q.val k.val : EReal) else ⊥) :
    hM s (ix3 b h q) = (I.M b.val h.val q.val : EReal) := by
  pointwise [hM]
  rw [ninf_eq]
  show Finset.univ.sup (fun k => s (ix4 b h q k)) = _
  refine le_antisymm (Finset.sup_le fun k _ => ?_) ?_
  · rw [hs]
    split
    · next hc => exact EReal.coe_le_coe_iff.2 (Finset.le_sup' (I.S b.val h.val q.val) (by simpa [Nat.lt_succ_iff] using hc))
    · exact bot_le
  · obtain ⟨k, hk, e⟩ := Finset.exists_mem_eq_sup' (⟨0, by simp⟩ : (Finset.range (q.val + 1)).Nonempty) (I.S b.val h.val q.val)
    have hk' : k ≤ q.val := by simpa [Nat.lt_succ_iff] using hk
    have hb : s (ix4 b h q ⟨k, by omega⟩) = (I.M b.val h.val q.val : EReal) := by
      rw [hs, if_pos hk']; unfold Inp.M; rw [e]
    rw [← hb]
    exact Finset.le_sup (f := fun k => s (ix4 b h q k)) (Finset.mem_univ _)

theorem hE_apply (hs : ∀ b h q k, s (ix4 b h q k) = if k.val ≤ q.val then (I.S b.val h.val q.val k.val : EReal) else ⊥)
    (hx : ∀ b h q, x (ix3 b h q) = (I.M b.val h.val q.val : EReal)) :
    hE s x (ix4 b h q k) = (I.E b.val h.val q.val k.val : EReal) := by
  pointwise [hE, hB]
  rw [hs, hx]
  unfold Inp.E
  split
  · rw [← EReal.coe_sub]; rfl
  · rw [EReal.bot_sub]; rfl

theorem hZ_apply (he : ∀ b h q k, s (ix4 b h q k) = (I.E b.val h.val q.val k.val : EReal)) :
    hZ s (ix3 b h q) = (I.Z b.val h.val q.val : EReal) := by
  pointwise [hZ]
  exact coe_sum_fin _ _ fun k => he b h q k

theorem hP_apply (he : ∀ b h q k, s (ix4 b h q k) = (I.E b.val h.val q.val k.val : EReal))
    (hz : ∀ b h q, x (ix3 b h q) = (I.Z b.val h.val q.val : EReal)) :
    hP s x (ix4 b h q k) = (I.P b.val h.val q.val k.val : EReal) := by
  pointwise [hP, hB]
  rw [he, hz, Ideal.div_coe (I.Z_pos _ _ _ q.isLt).ne', ← EReal.coe_mul, mul_one_div]
  rfl

theorem hO_apply (v : FVec Ideal S2x8x2048x64 .f32) (hp : ∀ b h q k, s (ix4 b h q k) = (I.P b.val h.val q.val k.val : EReal))
    (hv : ∀ b h q x, v (ix4 b h q x) = (I.v b.val h.val q.val x.val : EReal)) (d : Fin 64) :
    hO s v (ix4 b h q d) = (I.O b.val h.val q.val d.val : EReal) := by
  pointwise [hO]
  exact coe_sum_fin (fun k => I.P b h q k * I.v b h k d) _ fun k => by rw [hp, hv, EReal.coe_mul]

theorem log_pos_coe {r : ℝ} (hr : 0 < r) : Ideal.log (r : EReal) = (Real.log r : EReal) := if_neg (not_le.2 hr)

theorem hL_apply (z : FVec Ideal S2x8x2048 .f32) (hx : ∀ b h q, x (ix3 b h q) = (I.M b.val h.val q.val : EReal))
    (hz : ∀ b h q, z (ix3 b h q) = (I.Z b.val h.val q.val : EReal)) :
    hL x z (ix4 b h q 0) = (I.Lse b.val h.val q.val : EReal) := by
  pointwise [hL]
  rw [hx, hz, log_pos_coe (I.Z_pos _ _ _ q.isLt), ← EReal.coe_add]
  rfl

end Steps

section Launch

variable (m : (ℓ : Loc nD τ sig) → Buf (Elt Ideal) ℓ) (c : Dev nD)

/-- The scores of the memory's arrays. -/
abbrev mS : FVec Ideal S2x8x2048x2048 .f32 :=
  hS (m (c, Proc.tc.devRef main_arg0)) (m (c, Proc.tc.devRef main_arg1)) (m (c, Proc.tc.devRef main_arg2)) (m (c, Proc.tc.devRef main_arg3))

/-- The attention's output as the launch finds it. -/
theorem V_out : V (F := Ideal) m c main_v25
    = hO (hP (hE (mS m c) (hN (hM (mS m c)))) (hZ (hE (mS m c) (hN (hM (mS m c)))))) (m (c, Proc.tc.devRef main_arg4)) := by
  unfold V
  simp only [hostOps0, hostOps0_1, hostOps0_2, hostOps0_3, hostOps0_4, List.flatten_cons, List.flatten_nil, List.append_nil, List.cons_append, List.nil_append, StableHlo.TRef.nullary, StableHlo.TRef.ternary, StableHlo.TRef.unary, StableHlo.TRef.toBuf, StableHlo.TRef.ofBuf, cast_eq]
  after_reads_simp
  rfl

/-- The log-sum-exps as the launch finds them. -/
theorem V_lse : V (F := Ideal) m c main_v48 = hL (hM (mS m c)) (hZ (hE (mS m c) (hM (mS m c)))) := by
  unfold V
  simp only [hostOps0, hostOps0_1, hostOps0_2, hostOps0_3, hostOps0_4, List.flatten_cons, List.flatten_nil, List.append_nil, List.cons_append, List.nil_append, StableHlo.TRef.nullary, StableHlo.TRef.ternary, StableHlo.TRef.unary, StableHlo.TRef.toBuf, StableHlo.TRef.ofBuf, cast_eq]
  after_reads_simp
  rfl

end Launch

end Cert.Mla

end
-- ==== Proof.Mla.Ref.lean ====
/-
  The reference's gradient in steps: the products of the incoming gradient and the value rows, the score's gradient by the
  quotient rule, and the five products. Each step is read at an index over finite inputs.
-/
module

public import proofs.«01_k».proof.Proof.Gen.ReferenceIdeal.Run
public import proofs.«01_k».proof.Proof.Mla.Host

@[expose] public section

set_option maxRecDepth 16384

noncomputable section

open Idealize.ShloMosaic Idealize.ShloMosaic.TcCoe Idealize.SL.Sem
open Cert.ReferenceIdeal Cert.ReferenceIdeal.Gen

namespace Cert.Mla.Ref

/-- The gradients of the probabilities. -/
def rD (d v : FVec Ideal S2x8x2048x64 .f32) : FVec Ideal S2x8x2048x2048 .f32 :=
  Host.dotGeneral dot_S2x8x2048x64_S2x8x2048x64_S2x8x2048x2048_3_3_2_2_01_01 none d v

/-- A value a row, as a column. -/
def rB (z : FVec Ideal S2x8x2048 .f32) : FVec Ideal S2x8x2048x1 .f32 :=
  broadcastInDim S2x8x2048x1 ![0, 1, 2] bcast_S2x8x2048_S2x8x2048x1_0_1_2 z

/-- A column along the row. -/
def rW (z : FVec Ideal S2x8x2048x1 .f32) : FVec Ideal S2x8x2048x2048 .f32 :=
  broadcastInDim S2x8x2048x2048 ![0, 1, 2, 3] bcast_S2x8x2048x1_S2x8x2048x2048_0_1_2_3 z

/-- The row sums the quotient's denominator contributes. -/
def rT (e p : FVec Ideal S2x8x2048x2048 .f32) (z : FVec Ideal S2x8x2048 .f32) : FVec Ideal S2x8x2048 .f32 :=
  Host.reduceAdd (Host.negf (shapeCast S2x8x2048x1 (Host.reduceAdd (mulf (mulf p (rW (Host.divf (broadcastInDim S2x8x2048x1 ![] bcast_S_S2x8x2048x1 (constant S_ .f32 0x3F800000#32)) (mulf (rB z) (rB z))))) e) (constant S_ .f32 0x00000000#32) reducesTo_S2x8x2048x2048_S2x8x2048_d3 h_S_) shapeCasts_S2x8x2048_S2x8x2048x1)) (constant S_ .f32 0x00000000#32) reducesTo_S2x8x2048x1_S2x8x2048_d3 h_S_

/-- The causal mask. -/
def rC : IVec S2048x2048 1 :=
  cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The score's gradients. -/
def rG (e p : FVec Ideal S2x8x2048x2048 .f32) (z : FVec Ideal S2x8x2048 .f32) (t : FVec Ideal S2x8x2048 .f32) : FVec Ideal S2x8x2048x2048 .f32 :=
  mulf (select (broadcastInDim S2x8x2048x2048 ![2, 3] bcast_S2048x2048_S2x8x2048x2048_2_3 rC) (mulf (addf (Host.divf p (rW (rB z))) (broadcastInDim S2x8x2048x2048 ![0, 1, 2] bcast_S2x8x2048_S2x8x2048x2048_0_1_2 t)) e) (broadcastInDim S2x8x2048x2048 ![] bcast_S_S2x8x2048x2048 (constant S_ .f32 0x00000000#32))) (broadcastInDim S2x8x2048x2048 ![] bcast_S_S2x8x2048x2048 (constant S_ .f32 0x3DD105EC#32))

/-- The gradient of the first query part. -/
def r0 (g : FVec Ideal S2x8x2048x2048 .f32) (a : FVec Ideal S2x8x2048x64 .f32) : FVec Ideal S2x8x2048x64 .f32 :=
  Host.dotGeneral dot_S2x8x2048x2048_S2x8x2048x64_S2x8x2048x64_3_2_2_3_01_01 none g a

/-- The gradient of the second query part. -/
def r1 (g : FVec Ideal S2x8x2048x2048 .f32) (a : FVec Ideal S2x1x2048x32 .f32) : FVec Ideal S2x8x2048x32 .f32 :=
  Host.dotGeneral dot_S2x8x2048x2048_S2x2048x32_S2x8x2048x32_3_1_12_2_0_0 none g (shapeCast S2x2048x32 a shapeCasts_S2x1x2048x32_S2x2048x32)

/-- The gradient of the first key part. -/
def r2 (g : FVec Ideal S2x8x2048x2048 .f32) (a : FVec Ideal S2x8x2048x64 .f32) : FVec Ideal S2x8x2048x64 .f32 :=
  Host.dotGeneral dot_S2x8x2048x2048_S2x8x2048x64_S2x8x2048x64_2_2_3_3_01_01 none g a

/-- The gradient of the second key part. -/
def r3 (g : FVec Ideal S2x8x2048x2048 .f32) (a : FVec Ideal S2x8x2048x32 .f32) : FVec Ideal S2x1x2048x32 .f32 :=
  broadcastInDim S2x1x2048x32 ![0, 2, 3] bcast_S2x2048x32_S2x1x2048x32_0_2_3 (Host.dotGeneral dot_S2x8x2048x2048_S2x8x2048x32_S2x2048x32_12_12_3_3_0_0 none g a)

/-- The gradient of the values. -/
def r4 (d : FVec Ideal S2x8x2048x64 .f32) (p : FVec Ideal S2x8x2048x2048 .f32) : FVec Ideal S2x8x2048x64 .f32 :=
  transpose S2x8x2048x64 [0, 1, 3, 2] (Host.dotGeneral dot_S2x8x2048x64_S2x8x2048x2048_S2x8x64x2048_2_2_3_3_01_01 none d p) transposes_S2x8x64x2048_S2x8x2048x64_0_1_3_2

section Steps

variable (I : Inp) (b : Fin 2) (h : Fin 8) (q k : Fin 2048)

theorem rD_apply (d v : FVec Ideal S2x8x2048x64 .f32) (hd : ∀ b h q x, d (ix4 b h q x) = (I.dd b.val h.val q.val x.val : EReal))
    (hv : ∀ b h q x, v (ix4 b h q x) = (I.v b.val h.val q.val x.val : EReal)) :
    rD d v (ix4 b h q k) = (I.DP b.val h.val q.val k.val : EReal) := by
  pointwise [rD]
  exact coe_sum_fin (fun x => I.dd b h q x * I.v b h k x) _ fun x => by rw [hd, hv, EReal.coe_mul]

variable (e p : FVec Ideal S2x8x2048x2048 .f32) (z t : FVec Ideal S2x8x2048 .f32)

theorem rT_apply (he : ∀ b h q k, e (ix4 b h q k) = (I.E b.val h.val q.val k.val : EReal))
    (hp : ∀ b h q k, p (ix4 b h q k) = (I.DP b.val h.val q.val k.val : EReal))
    (hz : ∀ b h q, z (ix3 b h q) = (I.Z b.val h.val q.val : EReal)) :
    rT e p z (ix3 b h q) = ((-(∑ k ∈ Finset.range 2048, I.DP b h q k * (1 / (I.Z b h q * I.Z b h q)) * I.E b h q k) : ℝ) : EReal) := by
  have hZ := (I.Z_pos b h q q.isLt).ne'
  pointwise [rT, rW, rB]
  rw [Fin.sum_univ_one, hz, ← EReal.coe_mul, Ideal.div_coe (mul_ne_zero hZ hZ), one_mul,
    coe_sum_fin (fun k => I.DP b h q k * (1 / (I.Z b h q * I.Z b h q)) * I.E b h q k) _
      (fun k => by rw [hp, he, ← EReal.coe_mul, ← EReal.coe_mul]), EReal.coe_neg]

theorem rG_apply (hsc : I.sc = scale) (he : ∀ b h q k, e (ix4 b h q k) = (I.E b.val h.val q.val k.val : EReal))
    (hp : ∀ b h q k, p (ix4 b h q k) = (I.DP b.val h.val q.val k.val : EReal))
    (hz : ∀ b h q, z (ix3 b h q) = (I.Z b.val h.val q.val : EReal)) :
    rG e p z (rT e p z) (ix4 b h q k) = (I.DS b.val h.val q.val k.val : EReal) := by
  have ht := rT_apply I b h q e p z he hp hz
  generalize rT e p z = t at ht ⊢
  pointwise [rG, rW, rB, rC]
  rw [Idealize.ShloMosaic.WordCmp.cmpi_sle_ofNat (by omega) (by omega), scale_eq, ht, he, hp, hz,
    Ideal.div_coe (I.Z_pos b h q q.isLt).ne', ← EReal.coe_mul, ← EReal.coe_add, ← EReal.coe_mul, ← EReal.coe_mul, ← hsc,
    mul_one_div, I.DS_eq b h q k q.isLt]
  by_cases hc : k.val ≤ q.val
  · rw [decide_eq_true hc]; rfl
  · rw [decide_eq_false hc, I.DS_masked b h q k hc]; rfl

variable (g : FVec Ideal S2x8x2048x2048 .f32) (hg : ∀ b h q k, g (ix4 b h q k) = (I.DS b.val h.val q.val k.val : EReal))
include hg

theorem r0_apply (a : FVec Ideal S2x8x2048x64 .f32) (ha : ∀ b h q x, a (ix4 b h q x) = (I.kn b.val h.val q.val x.val : EReal)) (x : Fin 64) :
    r0 g a (ix4 b h q x) = ((∑ j ∈ Finset.range 2048, I.DS b h q j * I.kn b h j x : ℝ) : EReal) := by
  pointwise [r0]
  exact coe_sum_fin (fun j => I.DS b h q j * I.kn b h j x) _ fun j => by rw [hg, ha, EReal.coe_mul]

theorem r1_apply (a : FVec Ideal S2x1x2048x32 .f32) (ha : ∀ b q x, a (ix4 b 0 q x) = (I.kp b.val q.val x.val : EReal)) (x : Fin 32) :
    r1 g a (ix4 b h q x) = ((∑ j ∈ Finset.range 2048, I.DS b h q j * I.kp b j x : ℝ) : EReal) := by
  pointwise [r1]
  exact coe_sum_fin (fun j => I.DS b h q j * I.kp b j x) _ fun j => by rw [hg, ha, EReal.coe_mul]

theorem r2_apply (a : FVec Ideal S2x8x2048x64 .f32) (ha : ∀ b h q x, a (ix4 b h q x) = (I.qn b.val h.val q.val x.val : EReal)) (x : Fin 64) :
    r2 g a (ix4 b h q x) = ((∑ j ∈ Finset.range 2048, I.DS b h j q * I.qn b h j x : ℝ) : EReal) := by
  pointwise [r2]
  exact coe_sum_fin (fun j => I.DS b h j q * I.qn b h j x) _ fun j => by rw [hg, ha, EReal.coe_mul]

theorem r3_apply (a : FVec Ideal S2x8x2048x32 .f32) (ha : ∀ b h q x, a (ix4 b h q x) = (I.qp b.val h.val q.val x.val : EReal)) (x : Fin 32) :
    r3 g a (ix4 b 0 q x) = ((∑ h ∈ Finset.range 8, ∑ j ∈ Finset.range 2048, I.DS b h j q * I.qp b h j x : ℝ) : EReal) := by
  pointwise [r3]
  exact coe_sum_fin (fun h => ∑ j ∈ Finset.range 2048, I.DS b h j q * I.qp b h j x) _ fun h =>
    coe_sum_fin (fun j => I.DS b h j q * I.qp b h j x) _ fun j => by rw [hg, ha, EReal.coe_mul]

omit hg in
theorem r4_apply (d : FVec Ideal S2x8x2048x64 .f32) (hd : ∀ b h q x, d (ix4 b h q x) = (I.dd b.val h.val q.val x.val : EReal))
    (hp : ∀ b h q k, p (ix4 b h q k) = (I.P b.val h.val q.val k.val : EReal)) (x : Fin 64) :
    r4 d p (ix4 b h q x) = ((∑ j ∈ Finset.range 2048, I.P b h j q * I.dd b h j x : ℝ) : EReal) := by
  pointwise [r4]
  exact coe_sum_fin (fun j => I.P b h j q * I.dd b h j x) _ fun j => by rw [hd, hp, ← EReal.coe_mul, mul_comm]

end Steps

section Run

open Cert.ReferenceIdeal.Value

variable (m : (ℓ : Loc nD τ sig) → Buf (Elt Ideal) ℓ) (c : Dev nD)

/-- The reference's six arrays. -/
abbrev A0 : FVec Ideal S2x8x2048x64 .f32 := m (c, Proc.tc.devRef main_arg0)
@[inherit_doc A0] abbrev A1 : FVec Ideal S2x8x2048x32 .f32 := m (c, Proc.tc.devRef main_arg1)
@[inherit_doc A0] abbrev A2 : FVec Ideal S2x8x2048x64 .f32 := m (c, Proc.tc.devRef main_arg2)
@[inherit_doc A0] abbrev A3 : FVec Ideal S2x1x2048x32 .f32 := m (c, Proc.tc.devRef main_arg3)
@[inherit_doc A0] abbrev A4 : FVec Ideal S2x8x2048x64 .f32 := m (c, Proc.tc.devRef main_arg4)
@[inherit_doc A0] abbrev A5 : FVec Ideal S2x8x2048x64 .f32 := m (c, Proc.tc.devRef main_arg5)
/-- Its scores, exponentials, row sums and score gradients. -/
abbrev rS : FVec Ideal S2x8x2048x2048 .f32 := hS (A0 m c) (A1 m c) (A2 m c) (A3 m c)
@[inherit_doc rS] abbrev rE : FVec Ideal S2x8x2048x2048 .f32 := hE (rS m c) (hN (hM (rS m c)))
@[inherit_doc rS] abbrev rZ : FVec Ideal S2x8x2048 .f32 := hZ (rE m c)
@[inherit_doc rS] abbrev rDS : FVec Ideal S2x8x2048x2048 .f32 :=
  rG (rE m c) (rD (A5 m c) (A4 m c)) (rZ m c) (rT (rE m c) (rD (A5 m c) (A4 m c)) (rZ m c))

theorem res0 : res_out0 (F := Ideal) m c = r0 (rDS m c) (A2 m c) := by unfold res_out0 res_main_v65; rfl
theorem res1 : res_out1 (F := Ideal) m c = r1 (rDS m c) (A3 m c) := by unfold res_out1 res_main_v62; rfl
theorem res2 : res_out2 (F := Ideal) m c = r2 (rDS m c) (A0 m c) := by unfold res_out2 res_main_v64; rfl
theorem res3 : res_out3 (F := Ideal) m c = r3 (rDS m c) (A1 m c) := by unfold res_out3 res_main_v63; rfl
theorem res4 : res_out4 (F := Ideal) m c = r4 (A5 m c) (hP (rE m c) (rZ m c)) := by unfold res_out4 res_main_v44; rfl

variable (I : Inp) (hsc : I.sc = scale)
  (h0 : ∀ b h q x, A0 m c (ix4 b h q x) = (I.qn b.val h.val q.val x.val : EReal))
  (h1 : ∀ b h q x, A1 m c (ix4 b h q x) = (I.qp b.val h.val q.val x.val : EReal))
  (h2 : ∀ b h q x, A2 m c (ix4 b h q x) = (I.kn b.val h.val q.val x.val : EReal))
  (h3 : ∀ b q x, A3 m c (ix4 b 0 q x) = (I.kp b.val q.val x.val : EReal))
  (h4 : ∀ b h q x, A4 m c (ix4 b h q x) = (I.v b.val h.val q.val x.val : EReal))
  (h5 : ∀ b h q x, A5 m c (ix4 b h q x) = (I.dd b.val h.val q.val x.val : EReal))
include hsc h0 h1 h2 h3

theorem rE_apply (b h q k) : rE m c (ix4 b h q k) = (I.E b.val h.val q.val k.val : EReal) := by
  have hs := fun b h q k => hS_apply I b h q k hsc _ _ _ _ h0 h1 h2 h3
  unfold rE
  rw [hN_eq]
  exact hE_apply I b h q k _ _ hs fun b h q => hM_apply I b h q _ hs

theorem rZ_apply (b h q) : rZ m c (ix3 b h q) = (I.Z b.val h.val q.val : EReal) :=
  hZ_apply I b h q _ (rE_apply m c I hsc h0 h1 h2 h3)

include h4 h5

theorem rDS_apply (b h q k) : rDS m c (ix4 b h q k) = (I.DS b.val h.val q.val k.val : EReal) :=
  rG_apply I b h q k _ _ _ hsc (rE_apply m c I hsc h0 h1 h2 h3) (fun b h q k => rD_apply I b h q k _ _ h5 h4)
    (rZ_apply m c I hsc h0 h1 h2 h3)

theorem ref0 (b h q x) : res_out0 (F := Ideal) m c (ix4 b h q x) = ((∑ j ∈ Finset.range 2048, I.DS b.val h.val q.val j * I.kn b.val h.val j x.val : ℝ) : EReal) := by
  rw [res0]; exact r0_apply I b h q _ (rDS_apply m c I hsc h0 h1 h2 h3 h4 h5) _ h2 x
theorem ref1 (b h q x) : res_out1 (F := Ideal) m c (ix4 b h q x) = ((∑ j ∈ Finset.range 2048, I.DS b.val h.val q.val j * I.kp b.val j x.val : ℝ) : EReal) := by
  rw [res1]; exact r1_apply I b h q _ (rDS_apply m c I hsc h0 h1 h2 h3 h4 h5) _ h3 x
theorem ref2 (b h q x) : res_out2 (F := Ideal) m c (ix4 b h q x) = ((∑ j ∈ Finset.range 2048, I.DS b.val h.val j q.val * I.qn b.val h.val j x.val : ℝ) : EReal) := by
  rw [res2]; exact r2_apply I b h q _ (rDS_apply m c I hsc h0 h1 h2 h3 h4 h5) _ h0 x
theorem ref3 (b q x) : res_out3 (F := Ideal) m c (ix4 b 0 q x) = ((∑ h ∈ Finset.range 8, ∑ j ∈ Finset.range 2048, I.DS b.val h j q.val * I.qp b.val h j x.val : ℝ) : EReal) := by
  rw [res3]; exact r3_apply I b q _ (rDS_apply m c I hsc h0 h1 h2 h3 h4 h5) _ h1 x
omit h4 in
theorem ref4 (b h q x) : res_out4 (F := Ideal) m c (ix4 b h q x) = ((∑ j ∈ Finset.range 2048, I.P b.val h.val j q.val * I.dd b.val h.val j x.val : ℝ) : EReal) := by
  rw [res4]
  exact r4_apply I b h q _ _ h5 (fun b h q k => hP_apply I b h q k _ _ (rE_apply m c I hsc h0 h1 h2 h3) (rZ_apply m c I hsc h0 h1 h2 h3)) x

end Run

end Cert.Mla.Ref

end
-- ==== Proof.Mla.Pre.lean ====
/-
  Finite arrays read as real numbers: the precondition gives a real number at every index of the six arguments, and the six
  arrays together make one `Inp`.
-/
module

public import proofs.«01_k».proof.Pre_finite
public import proofs.«01_k».proof.Proof.Mla.Tile
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.Mla

/-- The side conditions the precondition's text states. -/
theorem pre_facts : Cert.Pre_finite.Facts where
  bcast_S_S2x8x2048x64 := by decide
  reducesTo_S2x8x2048x64_S_d0_1_2_3 := by decide
  h_S_ := by decide
  bcast_S_S2x8x2048x32 := by decide
  reducesTo_S2x8x2048x32_S_d0_1_2_3 := by decide
  bcast_S_S2x1x2048x32 := by decide
  reducesTo_S2x1x2048x32_S_d0_1_2_3 := by decide

/-- An array none of whose elements is infinite. -/
def Fin4 {s : Shape} (a : FVec Ideal s .f32) : Prop := ∀ i, a i ≠ (⊥ : EReal) ∧ a i ≠ (⊤ : EReal)

theorem ne_of_cmp {x : EReal} (h : Ideal.cmp .olt (max x (-x)) (Ideal.ofBits .f32 0x7F800000#32) = 1#1) : x ≠ ⊥ ∧ x ≠ ⊤ := by
  have e : Ideal.ofBits .f32 0x7F800000#32 = (⊤ : EReal) := by simp [Ideal.ofBits, Ideal.ieee]
  rw [e] at h
  have h' : max x (-x) < ⊤ := by
    have h2 : BitVec.ofBool (decide (max x (-x) < ⊤)) = 1#1 := h
    by_contra hc
    rw [decide_eq_false hc] at h2
    exact absurd h2 (by decide)
  constructor
  · rintro rfl; simp at h'
  · rintro rfl; simp at h'

instance : Subsingleton Cert.Pre_finite.S_.Idx := ⟨fun a b => funext fun i => i.elim0⟩

section

attribute [local instance] pre_facts

theorem all_fin {a0 : FVec Ideal Cert.Pre_finite.S2x8x2048x64 .f32} {a1 : FVec Ideal Cert.Pre_finite.S2x8x2048x32 .f32}
    {a2 : FVec Ideal Cert.Pre_finite.S2x8x2048x64 .f32} {a3 : FVec Ideal Cert.Pre_finite.S2x1x2048x32 .f32}
    {a4 a5 : FVec Ideal Cert.Pre_finite.S2x8x2048x64 .f32} (h : Cert.Pre_finite.fn (F := Ideal) a0 a1 a2 a3 a4 a5 = fun _ => 1#1) :
    Fin4 a0 ∧ Fin4 a1 ∧ Fin4 a2 ∧ Fin4 a3 ∧ Fin4 a4 ∧ Fin4 a5 := by
  have e := congrFun h (Shape.Idx.first Cert.Pre_finite.Facts.h_S_)
  dsimp only [Cert.Pre_finite.fn, Cert.Pre_finite.fn_part1] at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => ne_of_cmp (Host.reduce_andi_all _ _ _ _ _ h0 i), fun i => ne_of_cmp (Host.reduce_andi_all _ _ _ _ _ h1 i),
    fun i => ne_of_cmp (Host.reduce_andi_all _ _ _ _ _ h2 i), fun i => ne_of_cmp (Host.reduce_andi_all _ _ _ _ _ h3 i),
    fun i => ne_of_cmp (Host.reduce_andi_all _ _ _ _ _ h4 i), fun i => ne_of_cmp (Host.reduce_andi_all _ _ _ _ _ h5 i)⟩

end

/-- An array's reals, indexed by natural numbers. -/
def real4 {n0 n1 n2 n3 : ℕ} (a : FVec Ideal ⟨4, ![n0, n1, n2, n3]⟩ .f32) (b h q x : ℕ) : ℝ :=
  if hb : b < n0 ∧ h < n1 ∧ q < n2 ∧ x < n3 then (a (ix4 ⟨b, hb.1⟩ ⟨h, hb.2.1⟩ ⟨q, hb.2.2.1⟩ ⟨x, hb.2.2.2⟩) : EReal).toReal else 0

theorem real4_eq {n0 n1 n2 n3 : ℕ} (a : FVec Ideal ⟨4, ![n0, n1, n2, n3]⟩ .f32) (ha : Fin4 a) (b : Fin n0) (h : Fin n1) (q : Fin n2) (x : Fin n3) :
    a (ix4 b h q x) = (real4 a b.val h.val q.val x.val : EReal) := by
  unfold real4
  rw [dif_pos ⟨b.isLt, h.isLt, q.isLt, x.isLt⟩]
  exact (EReal.coe_toReal (ha _).2 (ha _).1).symm

/-- The six arrays' reals. -/
def inp (a0 : FVec Ideal ⟨4, ![2, 8, 2048, 64]⟩ .f32) (a1 : FVec Ideal ⟨4, ![2, 8, 2048, 32]⟩ .f32) (a2 : FVec Ideal ⟨4, ![2, 8, 2048, 64]⟩ .f32)
    (a3 : FVec Ideal ⟨4, ![2, 1, 2048, 32]⟩ .f32) (a4 a5 : FVec Ideal ⟨4, ![2, 8, 2048, 64]⟩ .f32) : Inp where
  qn := real4 a0
  qp := real4 a1
  kn := real4 a2
  kp b q x := real4 a3 b 0 q x
  v := real4 a4
  dd := real4 a5
  sc := scale

end Cert.Mla

end
-- ==== Proof.Mm.Sums.lean ====
/-
  Matrices read at natural indices, and sums of their products taken in blocks.
-/
module

public import Idealize.ShloMosaic.Lib.Pointwise
public import Idealize.ShloMosaic.Lib.ValueIdx
public import Idealize.ShloMosaic.Lib.Pipeline.Value

@[expose] public section

noncomputable section

open Idealize.ShloMosaic

namespace Cert.Mm

/-- A matrix at natural indices, zero outside its extents. -/
def at2 {M K : ℕ} (a : (⟨2, ![M, K]⟩ : Shape).Idx → EReal) (i k : ℕ) : EReal :=
  if h : i < M ∧ k < K then a (ix2 ⟨i, h.1⟩ ⟨k, h.2⟩) else 0

theorem at2_val {M K : ℕ} (a : (⟨2, ![M, K]⟩ : Shape).Idx → EReal) (i : Fin M) (k : Fin K) : at2 a i.val k.val = a (ix2 i k) :=
  dif_pos ⟨i.isLt, k.isLt⟩

theorem at2_eq {M K : ℕ} (a : (⟨2, ![M, K]⟩ : Shape).Idx → EReal) {i k : ℕ} (hi : i < M) (hk : k < K) : at2 a i k = a (ix2 ⟨i, hi⟩ ⟨k, hk⟩) :=
  dif_pos ⟨hi, hk⟩

theorem at2_right {M K : ℕ} (a : (⟨2, ![M, K]⟩ : Shape).Idx → EReal) {i k : ℕ} (hk : K ≤ k) : at2 a i k = 0 :=
  dif_neg fun h => absurd h.2 (not_lt.mpr hk)

/-- An entry whose two coordinates are known. -/
theorem at2_idx {M K : ℕ} (a : (⟨2, ![M, K]⟩ : Shape).Idx → EReal) (x : (⟨2, ![M, K]⟩ : Shape).Idx) {i k : ℕ} (h0 : (x 0).val = i) (h1 : (x 1).val = k) :
    a x = at2 a i k := by
  subst h0 h1
  exact (congrArg a (eq_ix2 x)).trans (at2_val a _ _).symm

/-- Two index pairs with the same coordinates. -/
theorem entry_congr {α : Type} {M K : ℕ} (a : (⟨2, ![M, K]⟩ : Shape).Idx → α) (x : (⟨2, ![M, K]⟩ : Shape).Idx) (i : Fin M) (k : Fin K)
    (h0 : (x 0).val = i.val) (h1 : (x 1).val = k.val) : a x = a (ix2 i k) :=
  congrArg a ((eq_ix2 x).trans (by rw [Fin.ext h0, Fin.ext h1]))

theorem off0 : (![0, 0] : Fin 2 → ℕ) = fun _ => 0 := by
  funext a; fin_cases a <;> rfl

/-- A sum over an axis is the sum over the naturals below its extent. -/
theorem sum_axis {K : ℕ} (f : ℕ → EReal) : ∑ k : Fin K, f k.val = ∑ k ∈ Finset.range K, f k :=
  Fin.sum_univ_eq_sum_range f K

/-- A sum over the first blocks of an axis, and the next block's sum, are the sum over one block more. -/
theorem sum_block (f : ℕ → EReal) (T n : ℕ) :
    ∑ k ∈ Finset.range (T * n), f k + ∑ k ∈ Finset.range T, f (T * n + k) = ∑ k ∈ Finset.range (T * (n + 1)), f k := by
  rw [Nat.mul_succ, Finset.sum_range_add]

/-- What a row's first point sets and its later points leave is the row's. -/
theorem kept_row {α : Type} {p N : ℕ} (s : ∀ n, n < N → α) (g : ℕ → α) (h0 : ∀ n h, n % p = 0 → s n h = g (n / p))
    (h1 : ∀ n (h : n + 1 < N), ¬(n + 1) % p = 0 → s (n + 1) h = s n (Nat.lt_of_succ_lt h)) : ∀ n h, s n h = g (n / p) := by
  intro n
  induction n with
  | zero => exact fun h => h0 0 h (Nat.zero_mod p)
  | succ n ih =>
    intro h
    by_cases hp : (n + 1) % p = 0
    · exact h0 _ h hp
    · rw [h1 n h hp, ih, Nat.succ_div_of_not_dvd (fun d => hp (Nat.mod_eq_zero_of_dvd d))]

/-- A sum that starts anew at a row's first point and takes one more part at each later one. -/
theorem running {T p N : ℕ} (s : ∀ n, n < N → EReal) (f : ℕ → ℕ → EReal)
    (h0 : ∀ n h, n % p = 0 → s n h = ∑ k ∈ Finset.range T, f (n / p) (T * (n % p) + k))
    (h1 : ∀ n (h : n + 1 < N), ¬(n + 1) % p = 0 →
      s (n + 1) h = s n (Nat.lt_of_succ_lt h) + ∑ k ∈ Finset.range T, f ((n + 1) / p) (T * ((n + 1) % p) + k)) :
    ∀ n h, s n h = ∑ k ∈ Finset.range (T * (n % p + 1)), f (n / p) k := by
  have first : ∀ n h, n % p = 0 → s n h = ∑ k ∈ Finset.range (T * (n % p + 1)), f (n / p) k := fun n h hp => by
    rw [h0 n h hp, hp]
    simp only [Nat.mul_zero, Nat.zero_add, Nat.mul_one]
  intro n
  induction n with
  | zero => exact fun h => first 0 h (Nat.zero_mod p)
  | succ n ih =>
    intro h
    by_cases hp : (n + 1) % p = 0
    · exact first _ h hp
    · have e : (n + 1) / p = n / p := Nat.succ_div_of_not_dvd fun d => hp (Nat.mod_eq_zero_of_dvd d)
      have r : (n + 1) % p = n % p + 1 := by
        have a := Nat.div_add_mod (n + 1) p
        have b := Nat.div_add_mod n p
        rw [e] at a
        omega
      rw [h1 n h hp, ih, e, r, sum_block]

theorem sum_mul_congr {K : ℕ} {f f' g g' : Fin K → EReal} (hf : ∀ k, f k = f' k) (hg : ∀ k, g k = g' k) :
    ∑ k, f k * g k = ∑ k, f' k * g' k :=
  Finset.sum_congr rfl fun k _ => congrArg₂ (· * ·) (hf k) (hg k)

/-- The factors of a sum of products, the other way round. -/
theorem sum_swap {K : ℕ} (f g : Fin K → EReal) : ∑ k, f k * g k = ∑ k, g k * f k :=
  Finset.sum_congr rfl fun k _ => mul_comm _ _

/-- A sum whose later terms are zero. -/
theorem sum_cut {f : ℕ → EReal} {K L : ℕ} (h : K ≤ L) (hz : ∀ k, K ≤ k → f k = 0) : ∑ k ∈ Finset.range L, f k = ∑ k ∈ Finset.range K, f k :=
  (Finset.sum_subset (Finset.range_subset_range.mpr h) fun k _ hk => hz k (not_lt.mp fun g => hk (Finset.mem_range.mpr g))).symm

/-- The column of layer 0's input projection that lies at a regrouped column: the first 1536, the 1536 after the first
    1792, the 256 between, the rest. -/
def col (p : ℕ) : ℕ := if p < 1536 then p else if p < 3072 then p + 256 else if p < 3328 then p - 1536 else p

theorem at2_col {M K : ℕ} (a : (⟨2, ![M, K]⟩ : Shape).Idx → EReal) (i : Fin M) (k : Fin K) {p : ℕ} (h : k.val = col p) : a (ix2 i k) = at2 a i.val (col p) :=
  h ▸ (at2_val a i k).symm

/-- Where a column lies after the regrouping. -/
def place (p : ℕ) : ℕ := if p < 1536 then p else if p < 1792 then p + 1536 else if p < 3328 then p - 256 else p

theorem at2_place {M K : ℕ} (a : (⟨2, ![M, K]⟩ : Shape).Idx → EReal) (i : Fin M) (k : Fin K) {p : ℕ} (h : k.val = place p) : a (ix2 i k) = at2 a i.val (place p) :=
  h ▸ (at2_val a i k).symm

/-- A sum of products over the regrouped and padded columns is the sum over the columns. -/
theorem sum_col (f : ℕ → EReal) {g : ℕ → EReal} (hg : ∀ k, 3336 ≤ k → g k = 0) :
    ∑ k ∈ Finset.range 3456, f k * g (col k) = ∑ k ∈ Finset.range 3336, f (place k) * g k := by
  rw [sum_cut (K := 3336) (by decide) fun k h => by rw [hg _ (by unfold col; split_ifs <;> omega), mul_zero]]
  refine Finset.sum_nbij' col place ?_ ?_ ?_ ?_ ?_ <;> intro k hk <;> rw [Finset.mem_range] at hk
  · rw [Finset.mem_range]; unfold col; split_ifs <;> omega
  · rw [Finset.mem_range]; unfold place; split_ifs <;> omega
  · unfold place col; split_ifs <;> omega
  · unfold place col; split_ifs <;> omega
  · rw [show place (col k) = k by unfold place col; split_ifs <;> omega]

end Cert.Mm

end
-- ==== Proof.Mm.FfnUp.lean ====
/-
  The ConvFFN's first product. The kernel converts a block of rows once, keeps it, and multiplies it by one block of
  columns after the other.
-/
module

public import proofs.«01_k».proof.Proof.Mm.Sums
public import Idealize.ShloMosaic.Lib.StableHlo.RunRead
public import proofs.«01_k».proof.Proof.Gen.Kernel2Ideal.Value
public import proofs.«01_k».proof.Proof.Gen.Reference2Ideal.Run
public import proofs.«01_k».proof.Defs

@[expose] public section

set_option maxRecDepth 16384

noncomputable section

open Idealize.ShloMosaic Idealize.ShloMosaic.TcCoe Idealize.SL.Sem

namespace Cert.Kernel2Ideal.Mm

open Cert.Mm Cert.Kernel2Ideal Cert.Kernel2Ideal.Gen Cert.Kernel2Ideal.Value

variable (m : (ℓ : Loc nD τ sig) → Buf (Elt Ideal) ℓ) (c : Dev nD)

theorem pay1_apply (a : Vec Ideal S2048x1024 .f32) (i : Fin 2048) (k : Fin 1024) : k0_pay1 (F := Ideal) a (ix2 i k) = a (ix2 i k) := by
  pointwise [k0_pay1]

theorem pay2_apply (a : Vec Ideal S2048x1024 .bf16) (b : Vec Ideal S1024x512 .bf16) (i : Fin 2048) (j : Fin 512) :
    k0_pay2 (F := Ideal) a b (ix2 i j) = ∑ k : Fin 1024, a (ix2 i k) * b (ix2 k j) := by
  pointwise [k0_pay2]

/-- A row's first point keeps its first block … -/
theorem kept (i : grid0.Coords) (a1 : Memref sig .tc .vmem S2048x1024 .f32) (h1 : a1.IsWhole) (a2 : Memref sig .tc .vmem S1024x512 .bf16) (h2 : a2.IsWhole)
    (a3 : Memref sig .tc .vmem S2048x512 .bf16) (h3 : a3.IsWhole) (a4 : Memref sig .tc .vmem S2048x1024 .bf16) (h4 : a4.IsWhole)
    (hc0 : cond0_0 i) (hc1 : cond0_1 i) (x : Vec Ideal S2048x1024 .f32) (y : Vec Ideal S1024x512 .bf16) :
    sout0_A_0 c i a1 h1 a2 h2 a3 h3 a4 h4 hc0 hc1 x y = k0_pay1 x := by
  unfold sout0_A_0
  rw [View.read_writes_eq_canon _ _ _ (scover0_A_0 c i a1 h1 a2 h2 a3 h3 a4 h4 hc0 hc1 x y)]
  unfold kernelRun0_A
  dsimp only
  unfold kernelRun0_A.sl.HS0_1
  rw [View.canon_unit_zero off0]
  simp only [View.readAt_eq_ld, h1.read_unread, View.ld_unit_zero (S := S2048x1024) off0]

/-- … and its block is that one's product. -/
theorem first (i : grid0.Coords) (a1 : Memref sig .tc .vmem S2048x1024 .f32) (h1 : a1.IsWhole) (a2 : Memref sig .tc .vmem S1024x512 .bf16) (h2 : a2.IsWhole)
    (a3 : Memref sig .tc .vmem S2048x512 .bf16) (h3 : a3.IsWhole) (a4 : Memref sig .tc .vmem S2048x1024 .bf16) (h4 : a4.IsWhole)
    (hc0 : cond0_0 i) (hc1 : cond0_1 i) (x : Vec Ideal S2048x1024 .f32) (y : Vec Ideal S1024x512 .bf16) :
    out0_A_2 c i a1 h1 a2 h2 a3 h3 a4 h4 hc0 hc1 x y = k0_pay2 (k0_pay1 x) y := by
  unfold out0_A_2
  rw [View.read_writes_eq_canon _ _ _ (cover0_A_2 c i a1 h1 a2 h2 a3 h3 a4 h4 hc0 hc1 x y)]
  unfold kernelRun0_A
  dsimp only
  rw [View.canon_unit_zero off0]
  unfold kernelRun0_A.sl.v3 kernelRun0_A.sl.HS0_1
  rw [View.readCov_unit_zero (S := S2048x1024) _ off0]
  simp only [View.readAt_eq_ld, h1.read_unread, h2.read_unread, View.ld_unit_zero (S := S2048x1024) off0, View.ld_unit_zero (S := S1024x512) off0]

/-- A later point of the row multiplies what was kept. -/
theorem later (i : grid0.Coords) (a1 : Memref sig .tc .vmem S2048x1024 .f32) (h1 : a1.IsWhole) (a2 : Memref sig .tc .vmem S1024x512 .bf16) (h2 : a2.IsWhole)
    (a3 : Memref sig .tc .vmem S2048x512 .bf16) (h3 : a3.IsWhole) (a4 : Memref sig .tc .vmem S2048x1024 .bf16) (h4 : a4.IsWhole)
    (hc0 : ¬cond0_0 i) (hc1 : cond0_1 i) (x : Vec Ideal S2048x1024 .f32) (y : Vec Ideal S1024x512 .bf16) (s : Vec Ideal S2048x1024 .bf16) :
    out0_B_2 c i a1 h1 a2 h2 a3 h3 a4 h4 hc0 hc1 x y s = k0_pay2 s y := by
  unfold out0_B_2
  rw [View.read_writes_eq_canon _ _ _ (cover0_B_2 c i a1 h1 a2 h2 a3 h3 a4 h4 hc0 hc1 x y s)]
  unfold kernelRun0_B
  dsimp only
  rw [View.canon_unit_zero off0]
  simp only [View.readAt_eq_ld, h2.read_unread, h4.read_unread, View.ld_unit_zero (S := S2048x1024) off0, View.ld_unit_zero (S := S1024x512) off0]

theorem idx0 : ∀ t : Fin cfg0.N, win0_0.index t 0 = t.val / 11 ∧ win0_0.index t 1 = 0 :=
  (by decide +kernel : ∀ t : Fin grid0.N, win0_0.index t 0 = t.val / 11 ∧ win0_0.index t 1 = 0)
theorem idx1 : ∀ t : Fin cfg0.N, win0_1.index t 0 = 0 ∧ win0_1.index t 1 = t.val % 11 :=
  (by decide +kernel : ∀ t : Fin grid0.N, win0_1.index t 0 = 0 ∧ win0_1.index t 1 = t.val % 11)
theorem idx2 : ∀ t : Fin cfg0.N, win0_2.index t 0 = t.val / 11 ∧ win0_2.index t 1 = t.val % 11 :=
  (by decide +kernel : ∀ t : Fin grid0.N, win0_2.index t 0 = t.val / 11 ∧ win0_2.index t 1 = t.val % 11)

/-- The first operand's array, at natural indices. -/
abbrev A (i k : ℕ) : EReal := at2 (M := 4096) (K := 1024) (V (F := Ideal) m c (Pipeline.arrRef spec0 0)) i k
/-- The second operand's array, at natural indices. -/
abbrev B (k j : ℕ) : EReal := at2 (M := 1024) (K := 5632) (V (F := Ideal) m c (Pipeline.arrRef spec0 1)) k j

/-- The first operand's block at a point. -/
abbrev X (t : Fin cfg0.N) : Vec Ideal S2048x1024 .f32 := iblk (F := Ideal) m c 0 t
/-- The second operand's block at a point. -/
abbrev Y (t : Fin cfg0.N) : Vec Ideal S1024x512 .bf16 := iblk (F := Ideal) m c 1 t

theorem blkA (t : Fin cfg0.N) (i : Fin 2048) (k : Fin 1024) : X m c t (ix2 i k) = A m c (2048 * (t.val / 11) + i.val) k.val := by
  obtain ⟨h0, h1⟩ := idx0 t
  refine at2_idx (M := 4096) (K := 1024) (V (F := Ideal) m c (Pipeline.arrRef spec0 0)) _ ?_ ?_
  · show win0_0.index t 0 * 2048 + 1 * i.val = 2048 * (t.val / 11) + i.val
    omega
  · show win0_0.index t 1 * 1024 + 1 * k.val = k.val
    omega

theorem blkB (t : Fin cfg0.N) (k : Fin 1024) (j : Fin 512) : Y m c t (ix2 k j) = B m c k.val (512 * (t.val % 11) + j.val) := by
  obtain ⟨h0, h1⟩ := idx1 t
  refine at2_idx (M := 1024) (K := 5632) (V (F := Ideal) m c (Pipeline.arrRef spec0 1)) _ ?_ ?_
  · show win0_1.index t 0 * 1024 + 1 * k.val = k.val
    omega
  · show win0_1.index t 1 * 512 + 1 * j.val = 512 * (t.val % 11) + j.val
    omega

theorem blkO (o : Buf (Elt Ideal) ((c : Thread nD τ).loc (Pipeline.arrRef spec0 2))) (t : Fin cfg0.N) (i : Fin 2048) (j : Fin 512) (i' : Fin 4096) (j' : Fin 5632)
    (hi : i'.val = 2048 * (t.val / 11) + i.val) (hj : j'.val = 512 * (t.val % 11) + j.val) :
    ((cfg0.win 2).blk t).view.read (Elt Ideal) o (ix2 i j) = o (ix2 i' j') := by
  obtain ⟨h0, h1⟩ := idx2 t
  refine entry_congr (M := 4096) (K := 5632) o _ i' j' ?_ ?_
  · show win0_2.index t 0 * 2048 + 1 * i.val = i'.val
    omega
  · show win0_2.index t 1 * 512 + 1 * j.val = j'.val
    omega

/-- What is kept at a point: its row's first block. -/
theorem keeps (i : Fin 2048) (k : Fin 1024) : ∀ (n : ℕ) (h : n < cfg0.N),
    (outsAt0 (F := Ideal) m c n h).2 (ix2 i k) = A m c (2048 * (n / 11) + i.val) k.val := by
  refine kept_row (p := 11) (fun n h => (outsAt0 (F := Ideal) m c n h).2 (ix2 i k)) (fun q => A m c (2048 * (q) + i.val) k.val) (fun n h h0 => ?_) (fun n h h0 => ?_)
  · rw [outsAt0_A m c ⟨n, h⟩ h0]
    dsimp only
    rw [kept]
    exact (pay1_apply _ i k).trans (blkA m c ⟨n, h⟩ i k)
  · rw [show outsAt0 m c (n + 1) h = _ from outsAt0_B m c ⟨n + 1, h⟩ h0]
    rfl

/-- A point's block is the product of its row's block and its own. -/
theorem outs (t : Fin cfg0.N) (i : Fin 2048) (j : Fin 512) :
    (outsAt0 (F := Ideal) m c t.val t.isLt).1 (ix2 i j)
      = ∑ k : Fin 1024, A m c (2048 * (t.val / 11) + i.val) k.val * B m c k.val (512 * (t.val % 11) + j.val) := by
  by_cases h0 : t.val % 11 = 0
  · rw [outsAt0_A m c t h0]
    dsimp only
    rw [first, pay2_apply]
    exact Finset.sum_congr rfl fun k _ => congrArg₂ (· * ·) ((pay1_apply _ i k).trans (blkA m c t i k)) (blkB m c t k j)
  · rw [outsAt0_B m c t h0]
    dsimp only
    rw [later, pay2_apply]
    refine Finset.sum_congr rfl fun k _ => congrArg₂ (· * ·) ((keeps m c i k (t.val - 1) _).trans ?_) (blkB m c t k j)
    rw [show (t.val - 1) / 11 = t.val / 11 by omega]

/-- The result array after the run. -/
theorem final (i : Fin 4096) (j : Fin 5632) :
    (dats (F := Ideal) m 0 c).arrAt 2 cfg0.N (ix2 i j) = ∑ k : Fin 1024, A m c i.val k.val * B m c k.val j.val := by
  have hi := i.isLt
  have hj := j.isLt
  let t : Fin cfg0.N := ⟨11 * (i.val / 2048) + j.val / 512, by show _ < 22; omega⟩
  have ht : t.val = 11 * (i.val / 2048) + j.val / 512 := rfl
  let r : Fin 2048 := ⟨i.val % 2048, Nat.mod_lt _ (by decide)⟩
  let s : Fin 512 := ⟨j.val % 512, Nat.mod_lt _ (by decide)⟩
  have er : 2048 * (t.val / 11) + r.val = i.val := by show 2048 * (t.val / 11) + i.val % 2048 = i.val; omega
  have es : 512 * (t.val % 11) + s.val = j.val := by show 512 * (t.val % 11) + j.val % 512 = j.val; omega
  refine (blkO c ((dats (F := Ideal) m 0 c).arrAt 2 cfg0.N) t r s i j er.symm es.symm).symm.trans ?_
  refine (congrFun (blocks2 m c t (flush0_2 t)) (ix2 r s)).trans ?_
  rw [flushed2]
  refine (outs m c t r s).trans ?_
  rw [er, es]

/-- The second operand, as the launch finds it: the weight, whose cast keeps every entry. -/
theorem host : B m c = at2 (M := 1024) (K := 5632) (m (c, Proc.tc.devRef main_arg1)) := by
  have e : V (F := Ideal) m c (Pipeline.arrRef spec0 1) = (truncf .bf16 (m (c, Proc.tc.devRef main_arg1) : FVec Ideal S1024x5632 .f32) bitsLt_bf16_f32 : FVec Ideal S1024x5632 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x1024 .f32) (b : FVec Ideal S1024x5632 .f32) : FVec Ideal S4096x5632 .bf16 :=
  truncf .bf16 (Host.dotGeneral Cert.Reference2Ideal.dot_S4096x1024_S1024x5632_S4096x5632_1_0_0_1_n_n none a b) bitsLt_bf16_f32

theorem ref_apply (a : FVec Ideal S4096x1024 .f32) (b : FVec Ideal S1024x5632 .f32) (i : Fin 4096) (j : Fin 5632) :
    ref a b (ix2 i j) = ∑ k : Fin 1024, a (ix2 i k) * b (ix2 k j) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 5632), x = ix2 i j := ⟨_, _, eq_ix2 x⟩
  refine (final m c i j).trans (Eq.trans ?_ (ref_apply _ _ i j).symm)
  rw [host]
  simp only [A, at2_val]
  rfl

end Cert.Kernel2Ideal.Mm

namespace Cert.Proof

/-- The reference's frame. -/
theorem frame_ref2 : Cert.quiescent_Reference2Ideal := by
  intro m ρ _
  exact (θ_run Cert.Reference2Ideal.defs _ _).mono
    (fun r h => ⟨fun c => (h c).2, sem_eq_zero_of_no_sems (by decide) r.2⟩)
    (Cert.Reference2Ideal.Value.run (F := Ideal) m ρ)

/-- The kernel's product is the reference's. -/
theorem algebraic2 : Cert.algebraic_Kernel2Ideal_Reference2Ideal := by
  intro m ρ m' ρ' _ hag
  refine ⟨fun c => (Cert.Kernel2Ideal.Gen.dats (F := Ideal) m 0 c).arrAt 2 Cert.Kernel2Ideal.cfg0.N, Cert.Kernel2Ideal.Value.run_blocks (F := Ideal) m ρ,
    (θ_run Cert.Reference2Ideal.defs _ _).mono (fun r h c => ?_) (Cert.Reference2Ideal.Value.run (F := Ideal) m' ρ')⟩
  obtain ⟨g0, g1⟩ := hag c
  refine ⟨(h c).1.trans ?_, (h c).2⟩
  rw [g0, g1]
  exact (Cert.Kernel2Ideal.Mm.value m c).symm

end Cert.Proof

end
-- ==== Proof.Mm.FfnDown.lean ====
/-
  The ConvFFN's second product: one block of rows at a point.
-/
module

public import proofs.«01_k».proof.Proof.Mm.Sums
public import Idealize.ShloMosaic.Lib.StableHlo.RunRead
public import proofs.«01_k».proof.Proof.Gen.Kernel3Ideal.Value
public import proofs.«01_k».proof.Proof.Gen.Reference3Ideal.Run
public import proofs.«01_k».proof.Defs

@[expose] public section

set_option maxRecDepth 16384

noncomputable section

open Idealize.ShloMosaic Idealize.ShloMosaic.TcCoe Idealize.SL.Sem

namespace Cert.Kernel3Ideal.Mm

open Cert.Mm Cert.Kernel3Ideal Cert.Kernel3Ideal.Gen Cert.Kernel3Ideal.Value

variable (m : (ℓ : Loc nD τ sig) → Buf (Elt Ideal) ℓ) (c : Dev nD)

theorem pay1_apply (a : Vec Ideal S512x2816 .bf16) (b : Vec Ideal S2816x1024 .bf16) (i : Fin 512) (j : Fin 1024) :
    k0_pay1 (F := Ideal) a b (ix2 i j) = ∑ k : Fin 2816, a (ix2 i k) * b (ix2 k j) := by
  pointwise [k0_pay1]

/-- A point's block is the product of its blocks. -/
theorem one (i : grid0.Coords) (a1 : Memref sig .tc .vmem S512x2816 .bf16) (h1 : a1.IsWhole) (a2 : Memref sig .tc .vmem S2816x1024 .bf16) (h2 : a2.IsWhole)
    (a3 : Memref sig .tc .vmem S512x1024 .f32) (h3 : a3.IsWhole) (hc0 : cond0_0 i)
    (x : Vec Ideal S512x2816 .bf16) (y : Vec Ideal S2816x1024 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S512x2816) off0, View.ld_unit_zero (S := S2816x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 2816) (V (F := Ideal) m c (Pipeline.arrRef spec0 0)) i k
/-- The second operand's array, at natural indices. -/
abbrev B (k j : ℕ) : EReal := at2 (M := 2816) (K := 1024) (V (F := Ideal) m c (Pipeline.arrRef spec0 1)) k j

/-- The first operand's block at a point. -/
abbrev X (t : Fin cfg0.N) : Vec Ideal S512x2816 .bf16 := iblk (F := Ideal) m c 0 t
/-- The second operand's block at a point. -/
abbrev Y (t : Fin cfg0.N) : Vec Ideal S2816x1024 .bf16 := iblk (F := Ideal) m c 1 t

theorem blkA (t : Fin cfg0.N) (i : Fin 512) (k : Fin 2816) : X m c t (ix2 i k) = A m c (512 * t.val + i.val) k.val := by
  obtain ⟨h0, h1⟩ := idx0 t
  refine at2_idx (M := 4096) (K := 2816) (V (F := Ideal) m c (Pipeline.arrRef spec0 0)) _ ?_ ?_
  · show win0_0.index t 0 * 512 + 1 * i.val = 512 * t.val + i.val
    omega
  · show win0_0.index t 1 * 2816 + 1 * k.val = k.val
    omega

theorem blkB (t : Fin cfg0.N) (k : Fin 2816) (j : Fin 1024) : Y m c t (ix2 k j) = B m c k.val j.val := by
  obtain ⟨h0, h1⟩ := idx1 t
  refine at2_idx (M := 2816) (K := 1024) (V (F := Ideal) m c (Pipeline.arrRef spec0 1)) _ ?_ ?_
  · show win0_1.index t 0 * 2816 + 1 * k.val = k.val
    omega
  · show win0_1.index t 1 * 1024 + 1 * j.val = j.val
    omega

theorem blkO (o : Buf (Elt Ideal) ((c : Thread nD τ).loc (Pipeline.arrRef spec0 2))) (t : Fin cfg0.N) (i : Fin 512) (j : Fin 1024) (i' : Fin 4096)
    (hi : i'.val = 512 * t.val + i.val) :
    ((cfg0.win 2).blk t).view.read (Elt Ideal) o (ix2 i j) = o (ix2 i' j) := by
  obtain ⟨h0, h1⟩ := idx2 t
  refine entry_congr (M := 4096) (K := 1024) o _ i' j ?_ ?_
  · show win0_2.index t 0 * 512 + 1 * i.val = i'.val
    omega
  · show win0_2.index t 1 * 1024 + 1 * j.val = j.val
    omega

/-- The result array after the run. -/
theorem final (i : Fin 4096) (j : Fin 1024) :
    (dats (F := Ideal) m 0 c).arrAt 2 cfg0.N (ix2 i j) = ∑ k : Fin 2816, A m c i.val k.val * B m c k.val j.val := by
  have hi := i.isLt
  let t : Fin cfg0.N := ⟨i.val / 512, by show _ < 8; omega⟩
  have ht : t.val = i.val / 512 := rfl
  let r : Fin 512 := ⟨i.val % 512, Nat.mod_lt _ (by decide)⟩
  have er : 512 * t.val + r.val = i.val := by show 512 * t.val + i.val % 512 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The second operand, as the launch finds it: the weight, whose cast keeps every entry. -/
theorem host : B m c = at2 (M := 2816) (K := 1024) (m (c, Proc.tc.devRef main_arg1)) := by
  have e : V (F := Ideal) m c (Pipeline.arrRef spec0 1) = (truncf .bf16 (m (c, Proc.tc.devRef main_arg1) : FVec Ideal S2816x1024 .f32) bitsLt_bf16_f32 : FVec Ideal S2816x1024 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x2816 .bf16) (b : FVec Ideal S2816x1024 .f32) : FVec Ideal S4096x1024 .f32 :=
  Host.dotGeneral Cert.Reference3Ideal.dot_S4096x2816_S2816x1024_S4096x1024_1_0_0_1_n_n none (extf .f32 a Cert.Reference3Ideal.Gen.bitsLt_bf16_f32) b

theorem ref_apply (a : FVec Ideal S4096x2816 .bf16) (b : FVec Ideal S2816x1024 .f32) (i : Fin 4096) (j : Fin 1024) :
    ref a b (ix2 i j) = ∑ k : Fin 2816, a (ix2 i k) * b (ix2 k j) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 1024), x = ix2 i j := ⟨_, _, eq_ix2 x⟩
  refine (final m c i j).trans (Eq.trans ?_ (ref_apply _ _ i j).symm)
  rw [host]
  simp only [A, at2_val]
  rfl

end Cert.Kernel3Ideal.Mm

namespace Cert.Proof

/-- The reference's frame. -/
theorem frame_ref3 : Cert.quiescent_Reference3Ideal := by
  intro m ρ _
  exact (θ_run Cert.Reference3Ideal.defs _ _).mono
    (fun r h => ⟨fun c => (h c).2, sem_eq_zero_of_no_sems (by decide) r.2⟩)
    (Cert.Reference3Ideal.Value.run (F := Ideal) m ρ)

/-- The kernel's product is the reference's. -/
theorem algebraic3 : Cert.algebraic_Kernel3Ideal_Reference3Ideal := by
  intro m ρ m' ρ' _ hag
  refine ⟨fun c => (Cert.Kernel3Ideal.Gen.dats (F := Ideal) m 0 c).arrAt 2 Cert.Kernel3Ideal.cfg0.N, Cert.Kernel3Ideal.Value.run_blocks (F := Ideal) m ρ,
    (θ_run Cert.Reference3Ideal.defs _ _).mono (fun r h c => ?_) (Cert.Reference3Ideal.Value.run (F := Ideal) m' ρ')⟩
  obtain ⟨g0, g1⟩ := hag c
  refine ⟨(h c).1.trans ?_, (h c).2⟩
  rw [g0, g1]
  exact (Cert.Kernel3Ideal.Mm.value m c).symm

end Cert.Proof

end
-- ==== Proof.Mm.FfnDwUp.lean ====
/-
  The gradient of either half of the ConvFFN's first weight. The kernel sums over the rows in four parts.
-/
module

public import proofs.«01_k».proof.Proof.Mm.Sums
public import Idealize.ShloMosaic.Lib.StableHlo.RunRead
public import proofs.«01_k».proof.Proof.Gen.Kernel4Ideal.Value
public import proofs.«01_k».proof.Proof.Gen.Reference4Ideal.Run
public import proofs.«01_k».proof.Defs

@[expose] public section

set_option maxRecDepth 16384

noncomputable section

open Idealize.ShloMosaic Idealize.ShloMosaic.TcCoe Idealize.SL.Sem

namespace Cert.Kernel4Ideal.Mm

open Cert.Mm Cert.Kernel4Ideal Cert.Kernel4Ideal.Gen Cert.Kernel4Ideal.Value

variable (m : (ℓ : Loc nD τ sig) → Buf (Elt Ideal) ℓ) (c : Dev nD)

theorem pay1_apply (a : Vec Ideal S1024x1024 .f32) (b : Vec Ideal S1024x1408 .bf16) (i : Fin 1024) (j : Fin 1408) :
    k0_pay1 (F := Ideal) a b (ix2 i j) = ∑ k : Fin 1024, a (ix2 k i) * b (ix2 k j) := by
  pointwise [k0_pay1]

theorem pay2_apply (a : Vec Ideal S1024x1024 .f32) (b : Vec Ideal S1024x1408 .bf16) (o : Vec Ideal S1024x1408 .f32) (i : Fin 1024) (j : Fin 1408) :
    k0_pay2 (F := Ideal) a b o (ix2 i j) = o (ix2 i j) + ∑ k : Fin 1024, a (ix2 k i) * b (ix2 k j) := by
  rw [← pay1_apply]
  pointwise [k0_pay2]

/-- A first point's block is the product of its blocks. -/
theorem first (i : grid0.Coords) (a1 : Memref sig .tc .vmem S1024x1024 .f32) (h1 : a1.IsWhole) (a2 : Memref sig .tc .vmem S1024x1408 .bf16) (h2 : a2.IsWhole)
    (a3 : Memref sig .tc .vmem S1024x1408 .f32) (h3 : a3.IsWhole)
    (hc0 : cond0_0 i) (hc1 : ¬cond0_1 i) (x : Vec Ideal S1024x1024 .f32) (y : Vec Ideal S1024x1408 .bf16) :
    out0_A_2 c i a1 h1 a2 h2 a3 h3 hc0 hc1 x y = k0_pay1 x y := by
  unfold out0_A_2
  rw [View.read_writes_eq_canon _ _ _ (cover0_A_2 c i a1 h1 a2 h2 a3 h3 hc0 hc1 x y)]
  unfold kernelRun0_A
  dsimp only
  rw [View.canon_unit_zero off0]
  simp only [View.readAt_eq_ld, h1.read_unread, h2.read_unread, View.ld_unit_zero (S := S1024x1024) off0, View.ld_unit_zero (S := S1024x1408) off0]

/-- A later point adds the product of its blocks. -/
theorem later (i : grid0.Coords) (a1 : Memref sig .tc .vmem S1024x1024 .f32) (h1 : a1.IsWhole) (a2 : Memref sig .tc .vmem S1024x1408 .bf16) (h2 : a2.IsWhole)
    (a3 : Memref sig .tc .vmem S1024x1408 .f32) (h3 : a3.IsWhole)
    (hc0 : ¬cond0_0 i) (hc1 : cond0_1 i) (x : Vec Ideal S1024x1024 .f32) (y : Vec Ideal S1024x1408 .bf16) (o : Vec Ideal S1024x1408 .f32) :
    out0_B_2 c i a1 h1 a2 h2 a3 h3 hc0 hc1 x y o = k0_pay2 x y o := by
  unfold out0_B_2
  rw [View.read_writes_eq_canon _ _ _ (cover0_B_2 c i a1 h1 a2 h2 a3 h3 hc0 hc1 x y o)]
  unfold kernelRun0_B
  dsimp only
  rw [View.canon_unit_zero off0]
  simp only [View.readAt_eq_ld, h1.read_unread, h2.read_unread, h3.read_unread, View.ld_unit_zero (S := S1024x1024) off0, View.ld_unit_zero (S := S1024x1408) off0]

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)
theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)
theorem idx2 : ∀ t : Fin cfg0.N, win0_2.index t 0 = 0 ∧ win0_2.index t 1 = t.val / 4 :=
  (by decide +kernel : ∀ t : Fin grid0.N, win0_2.index t 0 = 0 ∧ win0_2.index t 1 = t.val / 4)

/-- The first operand's array, at natural indices. -/
abbrev A (k i : ℕ) : EReal := at2 (M := 4096) (K := 1024) (V (F := Ideal) m c (Pipeline.arrRef spec0 0)) k i
/-- The second operand's array, at natural indices. -/
abbrev B (k j : ℕ) : EReal := at2 (M := 4096) (K := 2816) (V (F := Ideal) m c (Pipeline.arrRef spec0 1)) k j

/-- The first operand's block at a point. -/
abbrev X (t : Fin cfg0.N) : Vec Ideal S1024x1024 .f32 := iblk (F := Ideal) m c 0 t
/-- The second operand's block at a point. -/
abbrev Y (t : Fin cfg0.N) : Vec Ideal S1024x1408 .bf16 := iblk (F := Ideal) m c 1 t

theorem blkA (t : Fin cfg0.N) (k : Fin 1024) (i : Fin 1024) : X m c t (ix2 k i) = A m c (1024 * (t.val % 4) + k.val) i.val := by
  obtain ⟨h0, h1⟩ := idx0 t
  refine at2_idx (M := 4096) (K := 1024) (V (F := Ideal) m c (Pipeline.arrRef spec0 0)) _ ?_ ?_
  · show win0_0.index t 0 * 1024 + 1 * k.val = 1024 * (t.val % 4) + k.val
    omega
  · show win0_0.index t 1 * 1024 + 1 * i.val = i.val
    omega

theorem blkB (t : Fin cfg0.N) (k : Fin 1024) (j : Fin 1408) : Y m c t (ix2 k j) = B m c (1024 * (t.val % 4) + k.val) (1408 * (t.val / 4) + j.val) := by
  obtain ⟨h0, h1⟩ := idx1 t
  refine at2_idx (M := 4096) (K := 2816) (V (F := Ideal) m c (Pipeline.arrRef spec0 1)) _ ?_ ?_
  · show win0_1.index t 0 * 1024 + 1 * k.val = 1024 * (t.val % 4) + k.val
    omega
  · show win0_1.index t 1 * 1408 + 1 * j.val = 1408 * (t.val / 4) + j.val
    omega

theorem blkO (o : Buf (Elt Ideal) ((c : Thread nD τ).loc (Pipeline.arrRef spec0 2))) (t : Fin cfg0.N) (i : Fin 1024) (j : Fin 1408) (j' : Fin 2816)
    (hj : j'.val = 1408 * (t.val / 4) + j.val) :
    ((cfg0.win 2).blk t).view.read (Elt Ideal) o (ix2 i j) = o (ix2 i j') := by
  obtain ⟨h0, h1⟩ := idx2 t
  refine entry_congr (M := 1024) (K := 2816) o _ i j' ?_ ?_
  · show win0_2.index t 0 * 1024 + 1 * i.val = i.val
    omega
  · show win0_2.index t 1 * 1408 + 1 * j.val = j'.val
    omega

/-- A point's product, as a part of the whole sum. -/
theorem part (t : Fin cfg0.N) (i : Fin 1024) (j : Fin 1408) :
    ∑ k : Fin 1024, X m c t (ix2 k i) * Y m c t (ix2 k j)
      = ∑ k ∈ Finset.range 1024, A m c (1024 * (t.val % 4) + k) i.val * B m c (1024 * (t.val % 4) + k) (1408 * (t.val / 4) + j.val) := by
  rw [← sum_axis]
  exact Finset.sum_congr rfl fun k _ => by rw [blkA, blkB]

/-- The running sum: after a point the block holds the sum over the rows read so far. -/
theorem outs (i : Fin 1024) (j : Fin 1408) : ∀ (n : ℕ) (h : n < cfg0.N),
    outsAt0 (F := Ideal) m c n h (ix2 i j)
      = ∑ k ∈ Finset.range (1024 * (n % 4 + 1)), A m c k i.val * B m c k (1408 * (n / 4) + j.val) := by
  refine running (fun n h => outsAt0 (F := Ideal) m c n h (ix2 i j)) (fun q k => A m c k i.val * B m c k (1408 * (q) + j.val)) (fun n h h0 => ?_) (fun n h h0 => ?_)
  · rw [outsAt0_A m c ⟨n, h⟩ h0 (by dsimp only; omega), first, pay1_apply, part]
  · rw [show outsAt0 m c (n + 1) h = _ from outsAt0_B m c ⟨n + 1, h⟩ h0 (by dsimp only; omega), later, pay2_apply, part]
    rfl

theorem apart : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (by
    have e : win0_2.index t 1 = win0_2.index t' 1 := congrFun h 1
    rw [(idx2 t).2, (idx2 t').2] at e
    have g := (flush0_2 t).mp hf
    have g' := (flush0_2 t').mp hf'
    exact Fin.ext (by omega))

/-- The result array after the run. -/
theorem final (i : Fin 1024) (j : Fin 2816) :
    (dats (F := Ideal) m 0 c).arrAt 2 cfg0.N (ix2 i j) = ∑ k ∈ Finset.range 4096, A m c k i.val * B m c k j.val := by
  have hj := j.isLt
  let t : Fin cfg0.N := ⟨4 * (j.val / 1408) + 3, by show _ < 8; omega⟩
  have ht : t.val = 4 * (j.val / 1408) + 3 := rfl
  let s : Fin 1408 := ⟨j.val % 1408, Nat.mod_lt _ (by decide)⟩
  have es : 1408 * (t.val / 4) + s.val = j.val := by show 1408 * (t.val / 4) + j.val % 1408 = j.val; omega
  refine (blkO c ((dats (F := Ideal) m 0 c).arrAt 2 cfg0.N) t i s j es.symm).symm.trans ?_
  refine (congrFun ((dats (F := Ideal) m 0 c).read_blk_arrAt_eq_flushed 2 apart cfg0.N t t.isLt ((flush0_2 t).mpr (by omega))) (ix2 i s)).trans ?_
  rw [flushed2]
  refine (outs m c i s t.val t.isLt).trans ?_
  rw [es, show 1024 * (t.val % 4 + 1) = 4096 by omega]

/-- The reference's result. -/
abbrev ref (a : FVec Ideal S4096x1024 .f32) (b : FVec Ideal S4096x2816 .bf16) : FVec Ideal S1024x2816 .f32 :=
  transpose S1024x2816 [1, 0] (Host.dotGeneral Cert.Reference4Ideal.dot_S4096x2816_S4096x1024_S2816x1024_0_0_1_1_n_n none (extf .f32 b bitsLt_bf16_f32) a) Cert.Reference4Ideal.Gen.transposes_S2816x1024_S1024x2816_1_0

theorem ref_apply (a : FVec Ideal S4096x1024 .f32) (b : FVec Ideal S4096x2816 .bf16) (i : Fin 1024) (j : Fin 2816) :
    ref a b (ix2 i j) = ∑ k : Fin 4096, b (ix2 k j) * a (ix2 k i) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 1024) (j : Fin 2816), x = ix2 i j := ⟨_, _, eq_ix2 x⟩
  refine (final m c i j).trans ((sum_axis _).symm.trans ((Finset.sum_congr rfl fun k _ => ?_).trans (ref_apply _ _ i j).symm))
  rw [A, B, at2_val, at2_val, mul_comm]

end Cert.Kernel4Ideal.Mm

namespace Cert.Proof

/-- The reference's frame. -/
theorem frame_ref4 : Cert.quiescent_Reference4Ideal := by
  intro m ρ _
  exact (θ_run Cert.Reference4Ideal.defs _ _).mono
    (fun r h => ⟨fun c => (h c).2, sem_eq_zero_of_no_sems (by decide) r.2⟩)
    (Cert.Reference4Ideal.Value.run (F := Ideal) m ρ)

/-- The kernel's gradient is the reference's. -/
theorem algebraic4 : Cert.algebraic_Kernel4Ideal_Reference4Ideal := by
  intro m ρ m' ρ' _ hag
  refine ⟨fun c => (Cert.Kernel4Ideal.Gen.dats (F := Ideal) m 0 c).arrAt 2 Cert.Kernel4Ideal.cfg0.N, Cert.Kernel4Ideal.Value.run_blocks (F := Ideal) m ρ,
    (θ_run Cert.Reference4Ideal.defs _ _).mono (fun r h c => ?_) (Cert.Reference4Ideal.Value.run (F := Ideal) m' ρ')⟩
  obtain ⟨g0, g1⟩ := hag c
  refine ⟨(h c).1.trans ?_, (h c).2⟩
  rw [g0, g1]
  exact (Cert.Kernel4Ideal.Mm.value m c).symm

end Cert.Proof

end
-- ==== Proof.Mm.FfnDwDown.lean ====
/-
  The gradient of the ConvFFN's second weight. The kernel sums over the rows in four parts.
-/
module

public import proofs.«01_k».proof.Proof.Mm.Sums
public import Idealize.ShloMosaic.Lib.StableHlo.RunRead
public import proofs.«01_k».proof.Proof.Gen.Kernel5Ideal.Value
public import proofs.«01_k».proof.Proof.Gen.Reference5Ideal.Run
public import proofs.«01_k».proof.Defs

@[expose] public section

set_option maxRecDepth 16384

noncomputable section

open Idealize.ShloMosaic Idealize.ShloMosaic.TcCoe Idealize.SL.Sem

namespace Cert.Kernel5Ideal.Mm

open Cert.Mm Cert.Kernel5Ideal Cert.Kernel5Ideal.Gen Cert.Kernel5Ideal.Value

variable (m : (ℓ : Loc nD τ sig) → Buf (Elt Ideal) ℓ) (c : Dev nD)

theorem pay1_apply (a : Vec Ideal S1024x1408 .bf16) (b : Vec Ideal S1024x1024 .f32) (i : Fin 1408) (j : Fin 1024) :
    k0_pay1 (F := Ideal) a b (ix2 i j) = ∑ k : Fin 1024, a (ix2 k i) * b (ix2 k j) := by
  pointwise [k0_pay1]

theorem pay2_apply (a : Vec Ideal S1024x1408 .bf16) (b : Vec Ideal S1024x1024 .f32) (o : Vec Ideal S1408x1024 .f32) (i : Fin 1408) (j : Fin 1024) :
    k0_pay2 (F := Ideal) a b o (ix2 i j) = o (ix2 i j) + ∑ k : Fin 1024, a (ix2 k i) * b (ix2 k j) := by
  rw [← pay1_apply]
  pointwise [k0_pay2]

/-- A first point's block is the product of its blocks. -/
theorem first (i : grid0.Coords) (a1 : Memref sig .tc .vmem S1024x1408 .bf16) (h1 : a1.IsWhole) (a2 : Memref sig .tc .vmem S1024x1024 .f32) (h2 : a2.IsWhole)
    (a3 : Memref sig .tc .vmem S1408x1024 .f32) (h3 : a3.IsWhole)
    (hc0 : cond0_0 i) (hc1 : ¬cond0_1 i) (x : Vec Ideal S1024x1408 .bf16) (y : Vec Ideal S1024x1024 .f32) :
    out0_A_2 c i a1 h1 a2 h2 a3 h3 hc0 hc1 x y = k0_pay1 x y := by
  unfold out0_A_2
  rw [View.read_writes_eq_canon _ _ _ (cover0_A_2 c i a1 h1 a2 h2 a3 h3 hc0 hc1 x y)]
  unfold kernelRun0_A
  dsimp only
  rw [View.canon_unit_zero off0]
  simp only [View.readAt_eq_ld, h1.read_unread, h2.read_unread, View.ld_unit_zero (S := S1024x1408) off0, View.ld_unit_zero (S := S1024x1024) off0]

/-- A later point adds the product of its blocks. -/
theorem later (i : grid0.Coords) (a1 : Memref sig .tc .vmem S1024x1408 .bf16) (h1 : a1.IsWhole) (a2 : Memref sig .tc .vmem S1024x1024 .f32) (h2 : a2.IsWhole)
    (a3 : Memref sig .tc .vmem S1408x1024 .f32) (h3 : a3.IsWhole)
    (hc0 : ¬cond0_0 i) (hc1 : cond0_1 i) (x : Vec Ideal S1024x1408 .bf16) (y : Vec Ideal S1024x1024 .f32) (o : Vec Ideal S1408x1024 .f32) :
    out0_B_2 c i a1 h1 a2 h2 a3 h3 hc0 hc1 x y o = k0_pay2 x y o := by
  unfold out0_B_2
  rw [View.read_writes_eq_canon _ _ _ (cover0_B_2 c i a1 h1 a2 h2 a3 h3 hc0 hc1 x y o)]
  unfold kernelRun0_B
  dsimp only
  rw [View.canon_unit_zero off0]
  simp only [View.readAt_eq_ld, h1.read_unread, h2.read_unread, h3.read_unread, View.ld_unit_zero (S := S1024x1408) off0, View.ld_unit_zero (S := S1024x1024) off0, View.ld_unit_zero (S := S1408x1024) off0]

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- The first operand's array, at natural indices. -/
abbrev A (k i : ℕ) : EReal := at2 (M := 4096) (K := 2816) (V (F := Ideal) m c (Pipeline.arrRef spec0 0)) k i
/-- The second operand's array, at natural indices. -/
abbrev B (k j : ℕ) : EReal := at2 (M := 4096) (K := 1024) (V (F := Ideal) m c (Pipeline.arrRef spec0 1)) k j

/-- The first operand's block at a point. -/
abbrev X (t : Fin cfg0.N) : Vec Ideal S1024x1408 .bf16 := iblk (F := Ideal) m c 0 t
/-- The second operand's block at a point. -/
abbrev Y (t : Fin cfg0.N) : Vec Ideal S1024x1024 .f32 := iblk (F := Ideal) m c 1 t

theorem blkA (t : Fin cfg0.N) (k : Fin 1024) (i : Fin 1408) : X m c t (ix2 k i) = A m c (1024 * (t.val % 4) + k.val) (1408 * (t.val / 4) + i.val) := by
  obtain ⟨h0, h1⟩ := idx0 t
  refine at2_idx (M := 4096) (K := 2816) (V (F := Ideal) m c (Pipeline.arrRef spec0 0)) _ ?_ ?_
  · show win0_0.index t 0 * 1024 + 1 * k.val = 1024 * (t.val % 4) + k.val
    omega
  · show win0_0.index t 1 * 1408 + 1 * i.val = 1408 * (t.val / 4) + i.val
    omega

theorem blkB (t : Fin cfg0.N) (k : Fin 1024) (j : Fin 1024) : Y m c t (ix2 k j) = B m c (1024 * (t.val % 4) + k.val) j.val := by
  obtain ⟨h0, h1⟩ := idx1 t
  refine at2_idx (M := 4096) (K := 1024) (V (F := Ideal) m c (Pipeline.arrRef spec0 1)) _ ?_ ?_
  · show win0_1.index t 0 * 1024 + 1 * k.val = 1024 * (t.val % 4) + k.val
    omega
  · show win0_1.index t 1 * 1024 + 1 * j.val = j.val
    omega

theorem blkO (o : Buf (Elt Ideal) ((c : Thread nD τ).loc (Pipeline.arrRef spec0 2))) (t : Fin cfg0.N) (i : Fin 1408) (j : Fin 1024) (i' : Fin 2816)
    (hi : i'.val = 1408 * (t.val / 4) + i.val) :
    ((cfg0.win 2).blk t).view.read (Elt Ideal) o (ix2 i j) = o (ix2 i' j) := by
  obtain ⟨h0, h1⟩ := idx2 t
  refine entry_congr (M := 2816) (K := 1024) o _ i' j ?_ ?_
  · show win0_2.index t 0 * 1408 + 1 * i.val = i'.val
    omega
  · show win0_2.index t 1 * 1024 + 1 * j.val = j.val
    omega

/-- A point's product, as a part of the whole sum. -/
theorem part (t : Fin cfg0.N) (i : Fin 1408) (j : Fin 1024) :
    ∑ k : Fin 1024, X m c t (ix2 k i) * Y m c t (ix2 k j)
      = ∑ k ∈ Finset.range 1024, A m c (1024 * (t.val % 4) + k) (1408 * (t.val / 4) + i.val) * B m c (1024 * (t.val % 4) + k) j.val := by
  rw [← sum_axis]
  exact Finset.sum_congr rfl fun k _ => by rw [blkA, blkB]

/-- The running sum: after a point the block holds the sum over the rows read so far. -/
theorem outs (i : Fin 1408) (j : Fin 1024) : ∀ (n : ℕ) (h : n < cfg0.N),
    outsAt0 (F := Ideal) m c n h (ix2 i j)
      = ∑ k ∈ Finset.range (1024 * (n % 4 + 1)), A m c k (1408 * (n / 4) + i.val) * B m c k j.val := by
  refine running (fun n h => outsAt0 (F := Ideal) m c n h (ix2 i j)) (fun q k => A m c k (1408 * (q) + i.val) * B m c k j.val) (fun n h h0 => ?_) (fun n h h0 => ?_)
  · rw [outsAt0_A m c ⟨n, h⟩ h0 (by dsimp only; omega), first, pay1_apply, part]
  · rw [show outsAt0 m c (n + 1) h = _ from outsAt0_B m c ⟨n + 1, h⟩ h0 (by dsimp only; omega), later, pay2_apply, part]
    rfl

theorem apart : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (by
    have e : win0_2.index t 0 = win0_2.index t' 0 := congrFun h 0
    rw [(idx2 t).1, (idx2 t').1] at e
    have g := (flush0_2 t).mp hf
    have g' := (flush0_2 t').mp hf'
    exact Fin.ext (by omega))

/-- The result array after the run. -/
theorem final (i : Fin 2816) (j : Fin 1024) :
    (dats (F := Ideal) m 0 c).arrAt 2 cfg0.N (ix2 i j) = ∑ k ∈ Finset.range 4096, A m c k i.val * B m c k j.val := by
  have hi := i.isLt
  let t : Fin cfg0.N := ⟨4 * (i.val / 1408) + 3, by show _ < 8; omega⟩
  have ht : t.val = 4 * (i.val / 1408) + 3 := rfl
  let r : Fin 1408 := ⟨i.val % 1408, Nat.mod_lt _ (by decide)⟩
  have er : 1408 * (t.val / 4) + r.val = i.val := by show 1408 * (t.val / 4) + i.val % 1408 = i.val; omega
  refine (blkO c ((dats (F := Ideal) m 0 c).arrAt 2 cfg0.N) t r j i er.symm).symm.trans ?_
  refine (congrFun ((dats (F := Ideal) m 0 c).read_blk_arrAt_eq_flushed 2 apart cfg0.N t t.isLt ((flush0_2 t).mpr (by omega))) (ix2 r j)).trans ?_
  rw [flushed2]
  refine (outs m c r j t.val t.isLt).trans ?_
  rw [er, show 1024 * (t.val % 4 + 1) = 4096 by omega]

/-- The reference's result. -/
abbrev ref (a : FVec Ideal S4096x2816 .bf16) (b : FVec Ideal S4096x1024 .f32) : FVec Ideal S2816x1024 .f32 :=
  transpose S2816x1024 [1, 0] (Host.dotGeneral Cert.Reference5Ideal.dot_S4096x1024_S4096x2816_S1024x2816_0_0_1_1_n_n none b (extf .f32 a Cert.Reference5Ideal.Gen.bitsLt_bf16_f32)) Cert.Reference5Ideal.Gen.transposes_S1024x2816_S2816x1024_1_0

theorem ref_apply (a : FVec Ideal S4096x2816 .bf16) (b : FVec Ideal S4096x1024 .f32) (i : Fin 2816) (j : Fin 1024) :
    ref a b (ix2 i j) = ∑ k : Fin 4096, b (ix2 k j) * a (ix2 k i) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 2816) (j : Fin 1024), x = ix2 i j := ⟨_, _, eq_ix2 x⟩
  refine (final m c i j).trans ((sum_axis _).symm.trans ((Finset.sum_congr rfl fun k _ => ?_).trans (ref_apply _ _ i j).symm))
  rw [A, B, at2_val, at2_val, mul_comm]

end Cert.Kernel5Ideal.Mm

namespace Cert.Proof

/-- The reference's frame. -/
theorem frame_ref5 : Cert.quiescent_Reference5Ideal := by
  intro m ρ _
  exact (θ_run Cert.Reference5Ideal.defs _ _).mono
    (fun r h => ⟨fun c => (h c).2, sem_eq_zero_of_no_sems (by decide) r.2⟩)
    (Cert.Reference5Ideal.Value.run (F := Ideal) m ρ)

/-- The kernel's gradient is the reference's. -/
theorem algebraic5 : Cert.algebraic_Kernel5Ideal_Reference5Ideal := by
  intro m ρ m' ρ' _ hag
  refine ⟨fun c => (Cert.Kernel5Ideal.Gen.dats (F := Ideal) m 0 c).arrAt 2 Cert.Kernel5Ideal.cfg0.N, Cert.Kernel5Ideal.Value.run_blocks (F := Ideal) m ρ,
    (θ_run Cert.Reference5Ideal.defs _ _).mono (fun r h c => ?_) (Cert.Reference5Ideal.Value.run (F := Ideal) m' ρ')⟩
  obtain ⟨g0, g1⟩ := hag c
  refine ⟨(h c).1.trans ?_, (h c).2⟩
  rw [g0, g1]
  exact (Cert.Kernel5Ideal.Mm.value m c).symm

end Cert.Proof

end
-- ==== Proof.Mm.FfnDact.lean ====
/-
  The gradient of the ConvFFN's second product's input: one block of rows at a point.
-/
module

public import proofs.«01_k».proof.Proof.Mm.Sums
public import Idealize.ShloMosaic.Lib.StableHlo.RunRead
public import proofs.«01_k».proof.Proof.Gen.Kernel6Ideal.Value
public import proofs.«01_k».proof.Proof.Gen.Reference6Ideal.Run
public import proofs.«01_k».proof.Defs

@[expose] public section

set_option maxRecDepth 16384

noncomputable section

open Idealize.ShloMosaic Idealize.ShloMosaic.TcCoe Idealize.SL.Sem

namespace Cert.Kernel6Ideal.Mm

open Cert.Mm Cert.Kernel6Ideal Cert.Kernel6Ideal.Gen Cert.Kernel6Ideal.Value

variable (m : (ℓ : Loc nD τ sig) → Buf (Elt Ideal) ℓ) (c : Dev nD)

theorem pay1_apply (a : Vec Ideal S512x1024 .f32) (b : Vec Ideal S2816x1024 .bf16) (i : Fin 512) (j : Fin 2816) :
    k0_pay1 (F := Ideal) a b (ix2 i j) = ∑ k : Fin 1024, a (ix2 i k) * b (ix2 j k) := by
  pointwise [k0_pay1]

/-- A point's block is the product of its blocks. -/
theorem one (i : grid0.Coords) (a1 : Memref sig .tc .vmem S512x1024 .f32) (h1 : a1.IsWhole) (a2 : Memref sig .tc .vmem S2816x1024 .bf16) (h2 : a2.IsWhole)
    (a3 : Memref sig .tc .vmem S512x2816 .f32) (h3 : a3.IsWhole) (hc0 : cond0_0 i)
    (x : Vec Ideal S512x1024 .f32) (y : Vec Ideal S2816x1024 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S512x1024) off0, View.ld_unit_zero (S := S2816x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 1024) (V (F := Ideal) m c (Pipeline.arrRef spec0 0)) i k
/-- The second operand's array, at natural indices. -/
abbrev B (j k : ℕ) : EReal := at2 (M := 2816) (K := 1024) (V (F := Ideal) m c (Pipeline.arrRef spec0 1)) j k

/-- The first operand's block at a point. -/
abbrev X (t : Fin cfg0.N) : Vec Ideal S512x1024 .f32 := iblk (F := Ideal) m c 0 t
/-- The second operand's block at a point. -/
abbrev Y (t : Fin cfg0.N) : Vec Ideal S2816x1024 .bf16 := iblk (F := Ideal) m c 1 t

theorem blkA (t : Fin cfg0.N) (i : Fin 512) (k : Fin 1024) : X m c t (ix2 i k) = A m c (512 * t.val + i.val) k.val := by
  obtain ⟨h0, h1⟩ := idx0 t
  refine at2_idx (M := 4096) (K := 1024) (V (F := Ideal) m c (Pipeline.arrRef spec0 0)) _ ?_ ?_
  · show win0_0.index t 0 * 512 + 1 * i.val = 512 * t.val + i.val
    omega
  · show win0_0.index t 1 * 1024 + 1 * k.val = k.val
    omega

theorem blkB (t : Fin cfg0.N) (j : Fin 2816) (k : Fin 1024) : Y m c t (ix2 j k) = B m c j.val k.val := by
  obtain ⟨h0, h1⟩ := idx1 t
  refine at2_idx (M := 2816) (K := 1024) (V (F := Ideal) m c (Pipeline.arrRef spec0 1)) _ ?_ ?_
  · show win0_1.index t 0 * 2816 + 1 * j.val = j.val
    omega
  · show win0_1.index t 1 * 1024 + 1 * k.val = k.val
    omega

theorem blkO (o : Buf (Elt Ideal) ((c : Thread nD τ).loc (Pipeline.arrRef spec0 2))) (t : Fin cfg0.N) (i : Fin 512) (j : Fin 2816) (i' : Fin 4096)
    (hi : i'.val = 512 * t.val + i.val) :
    ((cfg0.win 2).blk t).view.read (Elt Ideal) o (ix2 i j) = o (ix2 i' j) := by
  obtain ⟨h0, h1⟩ := idx2 t
  refine entry_congr (M := 4096) (K := 2816) o _ i' j ?_ ?_
  · show win0_2.index t 0 * 512 + 1 * i.val = i'.val
    omega
  · show win0_2.index t 1 * 2816 + 1 * j.val = j.val
    omega

/-- The result array after the run. -/
theorem final (i : Fin 4096) (j : Fin 2816) :
    (dats (F := Ideal) m 0 c).arrAt 2 cfg0.N (ix2 i j) = ∑ k : Fin 1024, A m c i.val k.val * B m c j.val k.val := by
  have hi := i.isLt
  let t : Fin cfg0.N := ⟨i.val / 512, by show _ < 8; omega⟩
  have ht : t.val = i.val / 512 := rfl
  let r : Fin 512 := ⟨i.val % 512, Nat.mod_lt _ (by decide)⟩
  have er : 512 * t.val + r.val = i.val := by show 512 * t.val + i.val % 512 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The second operand, as the launch finds it: the weight, whose cast keeps every entry. -/
theorem host : B m c = at2 (M := 2816) (K := 1024) (m (c, Proc.tc.devRef main_arg1)) := by
  have e : V (F := Ideal) m c (Pipeline.arrRef spec0 1) = (truncf .bf16 (m (c, Proc.tc.devRef main_arg1) : FVec Ideal S2816x1024 .f32) bitsLt_bf16_f32 : FVec Ideal S2816x1024 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x1024 .f32) (b : FVec Ideal S2816x1024 .f32) : FVec Ideal S4096x2816 .f32 :=
  Host.dotGeneral Cert.Reference6Ideal.dot_S4096x1024_S2816x1024_S4096x2816_1_1_0_0_n_n none a b

theorem ref_apply (a : FVec Ideal S4096x1024 .f32) (b : FVec Ideal S2816x1024 .f32) (i : Fin 4096) (j : Fin 2816) :
    ref a b (ix2 i j) = ∑ k : Fin 1024, a (ix2 i k) * b (ix2 j k) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 2816), x = ix2 i j := ⟨_, _, eq_ix2 x⟩
  refine (final m c i j).trans (Eq.trans ?_ (ref_apply _ _ i j).symm)
  rw [host]
  simp only [A, at2_val]
  rfl

end Cert.Kernel6Ideal.Mm

namespace Cert.Proof

/-- The reference's frame. -/
theorem frame_ref6 : Cert.quiescent_Reference6Ideal := by
  intro m ρ _
  exact (θ_run Cert.Reference6Ideal.defs _ _).mono
    (fun r h => ⟨fun c => (h c).2, sem_eq_zero_of_no_sems (by decide) r.2⟩)
    (Cert.Reference6Ideal.Value.run (F := Ideal) m ρ)

/-- The kernel's gradient is the reference's. -/
theorem algebraic6 : Cert.algebraic_Kernel6Ideal_Reference6Ideal := by
  intro m ρ m' ρ' _ hag
  refine ⟨fun c => (Cert.Kernel6Ideal.Gen.dats (F := Ideal) m 0 c).arrAt 2 Cert.Kernel6Ideal.cfg0.N, Cert.Kernel6Ideal.Value.run_blocks (F := Ideal) m ρ,
    (θ_run Cert.Reference6Ideal.defs _ _).mono (fun r h c => ?_) (Cert.Reference6Ideal.Value.run (F := Ideal) m' ρ')⟩
  obtain ⟨g0, g1⟩ := hag c
  refine ⟨(h c).1.trans ?_, (h c).2⟩
  rw [g0, g1]
  exact (Cert.Kernel6Ideal.Mm.value m c).symm

end Cert.Proof

end
-- ==== Proof.Mm.FfnDhGate.lean ====
/-
  The gradient of the ConvFFN's input through the gate's half of the first weight, added to the gradient so far: one block
  of rows at a point, the weight's half read where it lies. The reference differentiates the split product.
-/
module

public import proofs.«01_k».proof.Proof.Mm.Sums
public import Idealize.ShloMosaic.Lib.StableHlo.RunRead
public import proofs.«01_k».proof.Proof.Gen.Kernel7Ideal.Value
public import proofs.«01_k».proof.Proof.Gen.Reference7Ideal.Run
public import proofs.«01_k».proof.Defs

@[expose] public section

set_option maxRecDepth 16384

noncomputable section

open Idealize.ShloMosaic Idealize.ShloMosaic.TcCoe Idealize.SL.Sem

namespace Cert.Kernel7Ideal.Mm

open Cert.Mm Cert.Kernel7Ideal Cert.Kernel7Ideal.Gen Cert.Kernel7Ideal.Value

variable (m : (ℓ : Loc nD τ sig) → Buf (Elt Ideal) ℓ) (c : Dev nD)

theorem pay1_apply (a : Vec Ideal S512x2816 .bf16) (b : Vec Ideal S1024x2816 .bf16) (d : Vec Ideal S512x1024 .f32) (i : Fin 512) (j : Fin 1024) :
    k0_pay1 (F := Ideal) a b d (ix2 i j) = (∑ k : Fin 2816, a (ix2 i k) * b (ix2 j k)) + d (ix2 i j) := by
  pointwise [k0_pay1]

/-- A point's block is the product of its blocks, and what is added. -/
theorem one (i : grid0.Coords) (a1 : Memref sig .tc .vmem S512x2816 .bf16) (h1 : a1.IsWhole) (a2 : Memref sig .tc .vmem S1024x2816 .bf16) (h2 : a2.IsWhole)
    (a3 : Memref sig .tc .vmem S512x1024 .f32) (h3 : a3.IsWhole) (a4 : Memref sig .tc .vmem S512x1024 .f32) (h4 : a4.IsWhole) (hc0 : cond0_0 i)
    (x : Vec Ideal S512x2816 .bf16) (y : Vec Ideal S1024x2816 .bf16) (z : Vec Ideal S512x1024 .f32) :
    out0_A_3 c i a1 h1 a2 h2 a3 h3 a4 h4 hc0 x y z = k0_pay1 x y z := by
  unfold out0_A_3
  rw [View.read_writes_eq_canon _ _ _ (cover0_A_3 c i a1 h1 a2 h2 a3 h3 a4 h4 hc0 x y z)]
  unfold kernelRun0_A
  dsimp only
  rw [View.canon_unit_zero off0]
  simp only [View.readAt_eq_ld, h1.read_unread, h2.read_unread, h3.read_unread,
    View.ld_unit_zero (S := S512x2816) off0, View.ld_unit_zero (S := S1024x2816) off0, View.ld_unit_zero (S := S512x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- The first operand's array, at natural indices. -/
abbrev A (i k : ℕ) : EReal := at2 (M := 4096) (K := 2816) (V (F := Ideal) m c (Pipeline.arrRef spec0 0)) i k
/-- The second operand's array, at natural indices. -/
abbrev B (j k : ℕ) : EReal := at2 (M := 1024) (K := 5632) (V (F := Ideal) m c (Pipeline.arrRef spec0 1)) j k
/-- The third operand's array, at natural indices. -/
abbrev D (i j : ℕ) : EReal := at2 (M := 4096) (K := 1024) (V (F := Ideal) m c (Pipeline.arrRef spec0 2)) i j

/-- The first operand's block at a point. -/
abbrev X (t : Fin cfg0.N) : Vec Ideal S512x2816 .bf16 := iblk (F := Ideal) m c 0 t
/-- The second operand's block at a point. -/
abbrev Y (t : Fin cfg0.N) : Vec Ideal S1024x2816 .bf16 := iblk (F := Ideal) m c 1 t
/-- The third operand's block at a point. -/
abbrev Z (t : Fin cfg0.N) : Vec Ideal S512x1024 .f32 := iblk (F := Ideal) m c 2 t

theorem blkA (t : Fin cfg0.N) (i : Fin 512) (k : Fin 2816) : X m c t (ix2 i k) = A m c (512 * t.val + i.val) k.val := by
  obtain ⟨h0, h1⟩ := idx0 t
  refine at2_idx (M := 4096) (K := 2816) (V (F := Ideal) m c (Pipeline.arrRef spec0 0)) _ ?_ ?_
  · show win0_0.index t 0 * 512 + 1 * i.val = 512 * t.val + i.val
    omega
  · show win0_0.index t 1 * 2816 + 1 * k.val = k.val
    omega

theorem blkB (t : Fin cfg0.N) (j : Fin 1024) (k : Fin 2816) : Y m c t (ix2 j k) = B m c j.val k.val := by
  obtain ⟨h0, h1⟩ := idx1 t
  refine at2_idx (M := 1024) (K := 5632) (V (F := Ideal) m c (Pipeline.arrRef spec0 1)) _ ?_ ?_
  · show win0_1.index t 0 * 1024 + 1 * j.val = j.val
    omega
  · show win0_1.index t 1 * 2816 + 1 * k.val = k.val
    omega

theorem blkD (t : Fin cfg0.N) (i : Fin 512) (j : Fin 1024) : Z m c t (ix2 i j) = D m c (512 * t.val + i.val) j.val := by
  obtain ⟨h0, h1⟩ := idx2 t
  refine at2_idx (M := 4096) (K := 1024) (V (F := Ideal) m c (Pipeline.arrRef spec0 2)) _ ?_ ?_
  · show win0_2.index t 0 * 512 + 1 * i.val = 512 * t.val + i.val
    omega
  · show win0_2.index t 1 * 1024 + 1 * j.val = j.val
    omega

theorem blkO (o : Buf (Elt Ideal) ((c : Thread nD τ).loc (Pipeline.arrRef spec0 3))) (t : Fin cfg0.N) (i : Fin 512) (j : Fin 1024) (i' : Fin 4096)
    (hi : i'.val = 512 * t.val + i.val) :
    ((cfg0.win 3).blk t).view.read (Elt Ideal) o (ix2 i j) = o (ix2 i' j) := by
  obtain ⟨h0, h1⟩ := idx3 t
  refine entry_congr (M := 4096) (K := 1024) o _ i' j ?_ ?_
  · show win0_3.index t 0 * 512 + 1 * i.val = i'.val
    omega
  · show win0_3.index t 1 * 1024 + 1 * j.val = j.val
    omega

/-- The result array after the run. -/
theorem final (i : Fin 4096) (j : Fin 1024) :
    (dats (F := Ideal) m 0 c).arrAt 3 cfg0.N (ix2 i j) = (∑ k : Fin 2816, A m c i.val k.val * B m c j.val k.val) + D m c i.val j.val := by
  have hi := i.isLt
  let t : Fin cfg0.N := ⟨i.val / 512, by show _ < 8; omega⟩
  have ht : t.val = i.val / 512 := rfl
  let r : Fin 512 := ⟨i.val % 512, Nat.mod_lt _ (by decide)⟩
  have er : 512 * t.val + r.val = i.val := by show 512 * t.val + i.val % 512 = i.val; omega
  refine (blkO c ((dats (F := Ideal) m 0 c).arrAt 3 cfg0.N) t r j i er.symm).symm.trans ?_
  refine (congrFun (blocks3 m c t (flush0_3 t)) (ix2 r j)).trans ?_
  rw [flushed3_A, one]
  refine (pay1_apply (X m c t) (Y m c t) (Z m c t) r j).trans ?_
  simp only [blkA, blkB, blkD, er]

/-- The second operand, as the launch finds it: the weight, whose cast keeps every entry. -/
theorem host : B m c = at2 (M := 1024) (K := 5632) (m (c, Proc.tc.devRef main_arg1)) := by
  have e : V (F := Ideal) m c (Pipeline.arrRef spec0 1) = (truncf .bf16 (m (c, Proc.tc.devRef main_arg1) : FVec Ideal S1024x5632 .f32) bitsLt_bf16_f32 : FVec Ideal S1024x5632 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x2816 .bf16) (b : FVec Ideal S1024x5632 .f32) (d : FVec Ideal S4096x1024 .f32) : FVec Ideal S4096x1024 .f32 :=
  addf d (Host.dotGeneral Cert.Reference7Ideal.dot_S4096x5632_S1024x5632_S4096x1024_1_1_0_0_n_n none
    (concatenate Cert.Reference7Ideal.S4096x5632 1 [⟨S4096x2816, (extf .f32 a bitsLt_bf16_f32)⟩, ⟨S4096x2816, (broadcastInDim S4096x2816 ![] Cert.Reference7Ideal.Gen.bcast_S_S4096x2816 (constant Cert.Reference7Ideal.S_ .f32 0x00000000#32))⟩] Cert.Reference7Ideal.Gen.concatenates_S4096x2816_S4096x2816_S4096x5632_d1) b)

theorem ref_apply (a : FVec Ideal S4096x2816 .bf16) (b : FVec Ideal S1024x5632 .f32) (d : FVec Ideal S4096x1024 .f32) (i : Fin 4096) (j : Fin 1024) :
    ref a b d (ix2 i j) = (∑ k : Fin 2816, a (ix2 i k) * at2 b j.val k.val) + d (ix2 i j) := by
  pointwise [ref]
  simp only [zero_mul, Finset.sum_const_zero, add_zero, zero_add]
  rw [add_comm]
  exact congrArg (· + _) (Finset.sum_congr rfl fun k _ => congrArg (_ * ·) (at2_eq _ j.isLt _).symm)

/-- The kernel's result is the reference's. -/
theorem value : (dats (F := Ideal) m 0 c).arrAt 3 cfg0.N
    = ref (m (c, Proc.tc.devRef main_arg0)) (m (c, Proc.tc.devRef main_arg1)) (m (c, Proc.tc.devRef main_arg2)) := by
  funext x
  obtain ⟨i, j, rfl⟩ : ∃ (i : Fin 4096) (j : Fin 1024), x = ix2 i j := ⟨_, _, eq_ix2 x⟩
  refine (final m c i j).trans (Eq.trans ?_ (ref_apply _ _ _ i j).symm)
  rw [host]
  simp only [A, D, at2_val]
  rfl

end Cert.Kernel7Ideal.Mm

namespace Cert.Proof

/-- The reference's frame. -/
theorem frame_ref7 : Cert.quiescent_Reference7Ideal := by
  intro m ρ _
  exact (θ_run Cert.Reference7Ideal.defs _ _).mono
    (fun r h => ⟨fun c => (h c).2, sem_eq_zero_of_no_sems (by decide) r.2⟩)
    (Cert.Reference7Ideal.Value.run (F := Ideal) m ρ)

/-- The kernel's gradient is the reference's. -/
theorem algebraic7 : Cert.algebraic_Kernel7Ideal_Reference7Ideal := by
  intro m ρ m' ρ' _ hag
  refine ⟨fun c => (Cert.Kernel7Ideal.Gen.dats (F := Ideal) m 0 c).arrAt 3 Cert.Kernel7Ideal.cfg0.N, Cert.Kernel7Ideal.Value.run_blocks (F := Ideal) m ρ,
    (θ_run Cert.Reference7Ideal.defs _ _).mono (fun r h c => ?_) (Cert.Reference7Ideal.Value.run (F := Ideal) m' ρ')⟩
  obtain ⟨g0, g1, g2⟩ := hag c
  refine ⟨(h c).1.trans ?_, (h c).2⟩
  rw [g0, g1, g2]
  exact (Cert.Kernel7Ideal.Mm.value m c).symm

end Cert.Proof

end
-- ==== Proof.Mm.FfnDhUp.lean ====
/-
  The gradient of the ConvFFN's input through the second half of the first weight, added to the gradient so far: one block
  of rows at a point, the weight's half read where it lies. The reference differentiates the split product.
-/
module

public import proofs.«01_k».proof.Proof.Mm.Sums
public import Idealize.ShloMosaic.Lib.StableHlo.RunRead
public import proofs.«01_k».proof.Proof.Gen.Kernel8Ideal.Value
public import proofs.«01_k».proof.Proof.Gen.Reference8Ideal.Run
public import proofs.«01_k».proof.Defs

@[expose] public section

set_option maxRecDepth 16384

noncomputable section

open Idealize.ShloMosaic Idealize.ShloMosaic.TcCoe Idealize.SL.Sem

namespace Cert.Kernel8Ideal.Mm

open Cert.Mm Cert.Kernel8Ideal Cert.Kernel8Ideal.Gen Cert.Kernel8Ideal.Value

variable (m : (ℓ : Loc nD τ sig) → Buf (Elt Ideal) ℓ) (c : Dev nD)

theorem pay1_apply (a : Vec Ideal S512x2816 .bf16) (b : Vec Ideal S1024x2816 .bf16) (d : Vec Ideal S512x1024 .f32) (i : Fin 512) (j : Fin 1024) :
    k0_pay1 (F := Ideal) a b d (ix2 i j) = (∑ k : Fin 2816, a (ix2 i k) * b (ix2 j k)) + d (ix2 i j) := by
  pointwise [k0_pay1]

/-- A point's block is the product of its blocks, and what is added. -/
theorem one (i : grid0.Coords) (a1 : Memref sig .tc .vmem S512x2816 .bf16) (h1 : a1.IsWhole) (a2 : Memref sig .tc .vmem S1024x2816 .bf16) (h2 : a2.IsWhole)
    (a3 : Memref sig .tc .vmem S512x1024 .f32) (h3 : a3.IsWhole) (a4 : Memref sig .tc .vmem S512x1024 .f32) (h4 : a4.IsWhole) (hc0 : cond0_0 i)
    (x : Vec Ideal S512x2816 .bf16) (y : Vec Ideal S1024x2816 .bf16) (z : Vec Ideal S512x1024 .f32) :
    out0_A_3 c i a1 h1 a2 h2 a3 h3 a4 h4 hc0 x y z = k0_pay1 x y z := by
  unfold out0_A_3
  rw [View.read_writes_eq_canon _ _ _ (cover0_A_3 c i a1 h1 a2 h2 a3 h3 a4 h4 hc0 x y z)]
  unfold kernelRun0_A
  dsimp only
  rw [View.canon_unit_zero off0]
  simp only [View.readAt_eq_ld, h1.read_unread, h2.read_unread, h3.read_unread,
    View.ld_unit_zero (S := S512x2816) off0, View.ld_unit_zero (S := S1024x2816) off0, View.ld_unit_zero (S := S512x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 1 :=
  (by decide +kernel : ∀ t : Fin grid0.N, win0_1.index t 0 = 0 ∧ win0_1.index t 1 = 1)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- The first operand's array, at natural indices. -/
abbrev A (i k : ℕ) : EReal := at2 (M := 4096) (K := 2816) (V (F := Ideal) m c (Pipeline.arrRef spec0 0)) i k
/-- The second operand's array, at natural indices. -/
abbrev B (j k : ℕ) : EReal := at2 (M := 1024) (K := 5632) (V (F := Ideal) m c (Pipeline.arrRef spec0 1)) j k
/-- The third operand's array, at natural indices. -/
abbrev D (i j : ℕ) : EReal := at2 (M := 4096) (K := 1024) (V (F := Ideal) m c (Pipeline.arrRef spec0 2)) i j

/-- The first operand's block at a point. -/
abbrev X (t : Fin cfg0.N) : Vec Ideal S512x2816 .bf16 := iblk (F := Ideal) m c 0 t
/-- The second operand's block at a point. -/
abbrev Y (t : Fin cfg0.N) : Vec Ideal S1024x2816 .bf16 := iblk (F := Ideal) m c 1 t
/-- The third operand's block at a point. -/
abbrev Z (t : Fin cfg0.N) : Vec Ideal S512x1024 .f32 := iblk (F := Ideal) m c 2 t

theorem blkA (t : Fin cfg0.N) (i : Fin 512) (k : Fin 2816) : X m c t (ix2 i k) = A m c (512 * t.val + i.val) k.val := by
  obtain ⟨h0, h1⟩ := idx0 t
  refine at2_idx (M := 4096) (K := 2816) (V (F := Ideal) m c (Pipeline.arrRef spec0 0)) _ ?_ ?_
  · show win0_0.index t 0 * 512 + 1 * i.val = 512 * t.val + i.val
    omega
  · show win0_0.index t 1 * 2816 + 1 * k.val = k.val
    omega

theorem blkB (t : Fin cfg0.N) (j : Fin 1024) (k : Fin 2816) : Y m c t (ix2 j k) = B m c j.val (2816 + k.val) := by
  obtain ⟨h0, h1⟩ := idx1 t
  refine at2_idx (M := 1024) (K := 5632) (V (F := Ideal) m c (Pipeline.arrRef spec0 1)) _ ?_ ?_
  · show win0_1.index t 0 * 1024 + 1 * j.val = j.val
    omega
  · show win0_1.index t 1 * 2816 + 1 * k.val = 2816 + k.val
    omega

theorem blkD (t : Fin cfg0.N) (i : Fin 512) (j : Fin 1024) : Z m c t (ix2 i j) = D m c (512 * t.val + i.val) j.val := by
  obtain ⟨h0, h1⟩ := idx2 t
  refine at2_idx (M := 4096) (K := 1024) (V (F := Ideal) m c (Pipeline.arrRef spec0 2)) _ ?_ ?_
  · show win0_2.index t 0 * 512 + 1 * i.val = 512 * t.val + i.val
    omega
  · show win0_2.index t 1 * 1024 + 1 * j.val = j.val
    omega

theorem blkO (o : Buf (Elt Ideal) ((c : Thread nD τ).loc (Pipeline.arrRef spec0 3))) (t : Fin cfg0.N) (i : Fin 512) (j : Fin 1024) (i' : Fin 4096)
    (hi : i'.val = 512 * t.val + i.val) :
    ((cfg0.win 3).blk t).view.read (Elt Ideal) o (ix2 i j) = o (ix2 i' j) := by
  obtain ⟨h0, h1⟩ := idx3 t
  refine entry_congr (M := 4096) (K := 1024) o _ i' j ?_ ?_
  · show win0_3.index t 0 * 512 + 1 * i.val = i'.val
    omega
  · show win0_3.index t 1 * 1024 + 1 * j.val = j.val
    omega

/-- The result array after the run. -/
theorem final (i : Fin 4096) (j : Fin 1024) :
    (dats (F := Ideal) m 0 c).arrAt 3 cfg0.N (ix2 i j) = (∑ k : Fin 2816, A m c i.val k.val * B m c j.val (2816 + k.val)) + D m c i.val j.val := by
  have hi := i.isLt
  let t : Fin cfg0.N := ⟨i.val / 512, by show _ < 8; omega⟩
  have ht : t.val = i.val / 512 := rfl
  let r : Fin 512 := ⟨i.val % 512, Nat.mod_lt _ (by decide)⟩
  have er : 512 * t.val + r.val = i.val := by show 512 * t.val + i.val % 512 = i.val; omega
  refine (blkO c ((dats (F := Ideal) m 0 c).arrAt 3 cfg0.N) t r j i er.symm).symm.trans ?_
  refine (congrFun (blocks3 m c t (flush0_3 t)) (ix2 r j)).trans ?_
  rw [flushed3_A, one]
  refine (pay1_apply (X m c t) (Y m c t) (Z m c t) r j).trans ?_
  simp only [blkA, blkB, blkD, er]

/-- The second operand, as the launch finds it: the weight, whose cast keeps every entry. -/
theorem host : B m c = at2 (M := 1024) (K := 5632) (m (c, Proc.tc.devRef main_arg1)) := by
  have e : V (F := Ideal) m c (Pipeline.arrRef spec0 1) = (truncf .bf16 (m (c, Proc.tc.devRef main_arg1) : FVec Ideal S1024x5632 .f32) bitsLt_bf16_f32 : FVec Ideal S1024x5632 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x2816 .bf16) (b : FVec Ideal S1024x5632 .f32) (d : FVec Ideal S4096x1024 .f32) : FVec Ideal S4096x1024 .f32 :=
  addf d (Host.dotGeneral Cert.Reference8Ideal.dot_S4096x5632_S1024x5632_S4096x1024_1_1_0_0_n_n none
    (concatenate Cert.Reference8Ideal.S4096x5632 1 [⟨S4096x2816, (broadcastInDim S4096x2816 ![] Cert.Reference8Ideal.Gen.bcast_S_S4096x2816 (constant Cert.Reference8Ideal.S_ .f32 0x00000000#32))⟩, ⟨S4096x2816, (extf .f32 a bitsLt_bf16_f32)⟩] Cert.Reference8Ideal.Gen.concatenates_S4096x2816_S4096x2816_S4096x5632_d1) b)

theorem ref_apply (a : FVec Ideal S4096x2816 .bf16) (b : FVec Ideal S1024x5632 .f32) (d : FVec Ideal S4096x1024 .f32) (i : Fin 4096) (j : Fin 1024) :
    ref a b d (ix2 i j) = (∑ k : Fin 2816, a (ix2 i k) * at2 b j.val (2816 + k.val)) + d (ix2 i j) := by
  pointwise [ref]
  simp only [zero_mul, Finset.sum_const_zero, add_zero, zero_add]
  rw [add_comm]
  exact congrArg (· + _) (Finset.sum_congr rfl fun k _ => congrArg (_ * ·) (at2_eq _ j.isLt _).symm)

/-- The kernel's result is the reference's. -/
theorem value : (dats (F := Ideal) m 0 c).arrAt 3 cfg0.N
    = ref (m (c, Proc.tc.devRef main_arg0)) (m (c, Proc.tc.devRef main_arg1)) (m (c, Proc.tc.devRef main_arg2)) := by
  funext x
  obtain ⟨i, j, rfl⟩ : ∃ (i : Fin 4096) (j : Fin 1024), x = ix2 i j := ⟨_, _, eq_ix2 x⟩
  refine (final m c i j).trans (Eq.trans ?_ (ref_apply _ _ _ i j).symm)
  rw [host]
  simp only [A, D, at2_val]
  rfl

end Cert.Kernel8Ideal.Mm

namespace Cert.Proof

/-- The reference's frame. -/
theorem frame_ref8 : Cert.quiescent_Reference8Ideal := by
  intro m ρ _
  exact (θ_run Cert.Reference8Ideal.defs _ _).mono
    (fun r h => ⟨fun c => (h c).2, sem_eq_zero_of_no_sems (by decide) r.2⟩)
    (Cert.Reference8Ideal.Value.run (F := Ideal) m ρ)

/-- The kernel's gradient is the reference's. -/
theorem algebraic8 : Cert.algebraic_Kernel8Ideal_Reference8Ideal := by
  intro m ρ m' ρ' _ hag
  refine ⟨fun c => (Cert.Kernel8Ideal.Gen.dats (F := Ideal) m 0 c).arrAt 3 Cert.Kernel8Ideal.cfg0.N, Cert.Kernel8Ideal.Value.run_blocks (F := Ideal) m ρ,
    (θ_run Cert.Reference8Ideal.defs _ _).mono (fun r h c => ?_) (Cert.Reference8Ideal.Value.run (F := Ideal) m' ρ')⟩
  obtain ⟨g0, g1, g2⟩ := hag c
  refine ⟨(h c).1.trans ?_, (h c).2⟩
  rw [g0, g1, g2]
  exact (Cert.Kernel8Ideal.Mm.value m c).symm

end Cert.Proof

end
-- ==== Proof.Mm.L1In.lean ====
/-
  Layer 1's input projection: one block of rows at a point, the weight padded with columns of zeros before the launch.
-/
module

public import proofs.«01_k».proof.Proof.Mm.Sums
public import Idealize.ShloMosaic.Lib.StableHlo.RunRead
public import proofs.«01_k».proof.Proof.Gen.Kernel9Ideal.Value
public import proofs.«01_k».proof.Proof.Gen.Reference9Ideal.Run
public import proofs.«01_k».proof.Defs

@[expose] public section

set_option maxRecDepth 16384

noncomputable section

open Idealize.ShloMosaic Idealize.ShloMosaic.TcCoe Idealize.SL.Sem

namespace Cert.Kernel9Ideal.Mm

open Cert.Mm Cert.Kernel9Ideal Cert.Kernel9Ideal.Gen Cert.Kernel9Ideal.Value

variable (m : (ℓ : Loc nD τ sig) → Buf (Elt Ideal) ℓ) (c : Dev nD)

theorem pay1_apply (a : Vec Ideal S512x1024 .f32) (b : Vec Ideal S1024x2048 .bf16) (i : Fin 512) (j : Fin 2048) :
    k0_pay1 (F := Ideal) a b (ix2 i j) = ∑ k : Fin 1024, a (ix2 i k) * b (ix2 k j) := by
  pointwise [k0_pay1]

/-- A point's block is the product of its blocks. -/
theorem one (i : grid0.Coords) (a1 : Memref sig .tc .vmem S512x1024 .f32) (h1 : a1.IsWhole) (a2 : Memref sig .tc .vmem S1024x2048 .bf16) (h2 : a2.IsWhole)
    (a3 : Memref sig .tc .vmem S512x2048 .f32) (h3 : a3.IsWhole) (hc0 : cond0_0 i)
    (x : Vec Ideal S512x1024 .f32) (y : Vec Ideal S1024x2048 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S512x1024) off0, View.ld_unit_zero (S := S1024x2048) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 1024) (V (F := Ideal) m c (Pipeline.arrRef spec0 0)) i k
/-- The second operand's array, at natural indices. -/
abbrev B (k j : ℕ) : EReal := at2 (M := 1024) (K := 2048) (V (F := Ideal) m c (Pipeline.arrRef spec0 1)) k j

/-- The first operand's block at a point. -/
abbrev X (t : Fin cfg0.N) : Vec Ideal S512x1024 .f32 := iblk (F := Ideal) m c 0 t
/-- The second operand's block at a point. -/
abbrev Y (t : Fin cfg0.N) : Vec Ideal S1024x2048 .bf16 := iblk (F := Ideal) m c 1 t

theorem blkA (t : Fin cfg0.N) (i : Fin 512) (k : Fin 1024) : X m c t (ix2 i k) = A m c (512 * t.val + i.val) k.val := by
  obtain ⟨h0, h1⟩ := idx0 t
  refine at2_idx (M := 4096) (K := 1024) (V (F := Ideal) m c (Pipeline.arrRef spec0 0)) _ ?_ ?_
  · show win0_0.index t 0 * 512 + 1 * i.val = 512 * t.val + i.val
    omega
  · show win0_0.index t 1 * 1024 + 1 * k.val = k.val
    omega

theorem blkB (t : Fin cfg0.N) (k : Fin 1024) (j : Fin 2048) : Y m c t (ix2 k j) = B m c k.val j.val := by
  obtain ⟨h0, h1⟩ := idx1 t
  refine at2_idx (M := 1024) (K := 2048) (V (F := Ideal) m c (Pipeline.arrRef spec0 1)) _ ?_ ?_
  · show win0_1.index t 0 * 1024 + 1 * k.val = k.val
    omega
  · show win0_1.index t 1 * 2048 + 1 * j.val = j.val
    omega

theorem blkO (o : Buf (Elt Ideal) ((c : Thread nD τ).loc (Pipeline.arrRef spec0 2))) (t : Fin cfg0.N) (i : Fin 512) (j : Fin 2048) (i' : Fin 4096)
    (hi : i'.val = 512 * t.val + i.val) :
    ((cfg0.win 2).blk t).view.read (Elt Ideal) o (ix2 i j) = o (ix2 i' j) := by
  obtain ⟨h0, h1⟩ := idx2 t
  refine entry_congr (M := 4096) (K := 2048) o _ i' j ?_ ?_
  · show win0_2.index t 0 * 512 + 1 * i.val = i'.val
    omega
  · show win0_2.index t 1 * 2048 + 1 * j.val = j.val
    omega

/-- The result array after the run. -/
theorem final (i : Fin 4096) (j : Fin 2048) :
    (dats (F := Ideal) m 0 c).arrAt 2 cfg0.N (ix2 i j) = ∑ k : Fin 1024, A m c i.val k.val * B m c k.val j.val := by
  have hi := i.isLt
  let t : Fin cfg0.N := ⟨i.val / 512, by show _ < 8; omega⟩
  have ht : t.val = i.val / 512 := rfl
  let r : Fin 512 := ⟨i.val % 512, Nat.mod_lt _ (by decide)⟩
  have er : 512 * t.val + r.val = i.val := by show 512 * t.val + i.val % 512 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The padded weight, as the launch finds it: zero past the weight's columns. -/
theorem host (k : Fin 1024) (j : Fin 2048) :
    B m c k.val j.val
      = at2 (M := 1024) (K := 1952) (m (c, Proc.tc.devRef main_arg1)) k.val j.val := by
  have e : V (F := Ideal) m c (Pipeline.arrRef spec0 1) = concatenate S1024x2048 1 [⟨S1024x1952, (truncf .bf16 (m (c, Proc.tc.devRef main_arg1) : FVec Ideal S1024x1952 .f32) bitsLt_bf16_f32 : FVec Ideal S1024x1952 .bf16)⟩, ⟨S1024x96, (broadcastInDim S1024x96 ![] bcast_S_S1024x96 (constant S_ .bf16 0x0000#16) : FVec Ideal S1024x96 .bf16)⟩] concatenates_S1024x1952_S1024x96_S1024x2048_d1 := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
    rfl
  rw [B, at2_val, e]
  pointwise
  unfold at2
  by_cases h : j.val < 1952
  · simp only [h, k.isLt, and_self, dite_true]
  · simp only [h, and_false, dite_false]

/-- The reference's result. -/
abbrev ref (a : FVec Ideal S4096x1024 .f32) (b : FVec Ideal S1024x1952 .f32) : FVec Ideal S4096x2048 .f32 :=
  pad Cert.Reference9Ideal.S4096x2048 ![0, 0] ![0, 96] ![0, 0] (Host.dotGeneral Cert.Reference9Ideal.dot_S4096x1024_S1024x1952_S4096x1952_1_0_0_1_n_n none a b : FVec Ideal Cert.Reference9Ideal.S4096x1952 .f32) (sitofp .f32 (constantI Cert.Reference9Ideal.S_ 32 0#32)) Cert.Reference9Ideal.Gen.pads_S4096x1952_S4096x2048_000_0960 Cert.Reference9Ideal.Gen.h_S_

theorem ref_apply (a : FVec Ideal S4096x1024 .f32) (b : FVec Ideal S1024x1952 .f32) (i : Fin 4096) (j : Fin 2048) :
    ref a b (ix2 i j) = ∑ k : Fin 1024, a (ix2 i k) * at2 b k.val j.val := by
  pointwise [ref]
  by_cases h : j.val < 1952
  · simp only [h, dite_true, at2_eq b (Fin.isLt _) h]
  · simp only [h, dite_false, at2, and_false, mul_zero, Finset.sum_const_zero]
    exact (congrArg (fun n : ℤ => ((n : ℝ) : EReal)) (by decide : (0#32).toInt = 0)).trans (by simp)

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 2048), x = ix2 i j := ⟨_, _, eq_ix2 x⟩
  refine (final m c i j).trans (Eq.trans ?_ (ref_apply _ _ i j).symm)
  exact sum_mul_congr (fun k => at2_val _ i k) fun k => host m c k j

end Cert.Kernel9Ideal.Mm

namespace Cert.Proof

/-- The reference's frame. -/
theorem frame_ref9 : Cert.quiescent_Reference9Ideal := by
  intro m ρ _
  exact (θ_run Cert.Reference9Ideal.defs _ _).mono
    (fun r h => ⟨fun c => (h c).2, sem_eq_zero_of_no_sems (by decide) r.2⟩)
    (Cert.Reference9Ideal.Value.run (F := Ideal) m ρ)

/-- The kernel's product is the reference's. -/
theorem algebraic9 : Cert.algebraic_Kernel9Ideal_Reference9Ideal := by
  intro m ρ m' ρ' _ hag
  refine ⟨fun c => (Cert.Kernel9Ideal.Gen.dats (F := Ideal) m 0 c).arrAt 2 Cert.Kernel9Ideal.cfg0.N, Cert.Kernel9Ideal.Value.run_blocks (F := Ideal) m ρ,
    (θ_run Cert.Reference9Ideal.defs _ _).mono (fun r h c => ?_) (Cert.Reference9Ideal.Value.run (F := Ideal) m' ρ')⟩
  obtain ⟨g0, g1⟩ := hag c
  refine ⟨(h c).1.trans ?_, (h c).2⟩
  rw [g0, g1]
  exact (Cert.Kernel9Ideal.Mm.value m c).symm

end Cert.Proof

end
-- ==== Proof.Mm.L1Dwin.lean ====
/-
  The gradient of layer 1's input projection, its columns padded. The kernel converts a block of columns of the first
  operand once and keeps it.
-/
module

public import proofs.«01_k».proof.Proof.Mm.Sums
public import Idealize.ShloMosaic.Lib.StableHlo.RunRead
public import proofs.«01_k».proof.Proof.Gen.Kernel10Ideal.Value
public import proofs.«01_k».proof.Proof.Gen.Reference10Ideal.Run
public import proofs.«01_k».proof.Defs

@[expose] public section

set_option maxRecDepth 16384

noncomputable section

open Idealize.ShloMosaic Idealize.ShloMosaic.TcCoe Idealize.SL.Sem

namespace Cert.Kernel10Ideal.Mm

open Cert.Mm Cert.Kernel10Ideal Cert.Kernel10Ideal.Gen Cert.Kernel10Ideal.Value

variable (m : (ℓ : Loc nD τ sig) → Buf (Elt Ideal) ℓ) (c : Dev nD)

theorem pay1_apply (a : Vec Ideal S4096x512 .f32) (k : Fin 4096) (i : Fin 512) : k0_pay1 (F := Ideal) a (ix2 k i) = a (ix2 k i) := by
  pointwise [k0_pay1]

theorem pay2_apply (a : Vec Ideal S4096x512 .bf16) (b : Vec Ideal S4096x512 .bf16) (i : Fin 512) (j : Fin 512) :
    k0_pay2 (F := Ideal) a b (ix2 i j) = ∑ k : Fin 4096, a (ix2 k i) * b (ix2 k j) := by
  pointwise [k0_pay2]

/-- A row's first point keeps its first block … -/
theorem kept (i : grid0.Coords) (a1 : Memref sig .tc .vmem S4096x512 .f32) (h1 : a1.IsWhole) (a2 : Memref sig .tc .vmem S4096x512 .bf16) (h2 : a2.IsWhole)
    (a3 : Memref sig .tc .vmem S512x512 .f32) (h3 : a3.IsWhole) (a4 : Memref sig .tc .vmem S4096x512 .bf16) (h4 : a4.IsWhole)
    (hc0 : cond0_0 i) (hc1 : cond0_1 i) (x : Vec Ideal S4096x512 .f32) (y : Vec Ideal S4096x512 .bf16) :
    sout0_A_0 c i a1 h1 a2 h2 a3 h3 a4 h4 hc0 hc1 x y = k0_pay1 x := by
  unfold sout0_A_0
  rw [View.read_writes_eq_canon _ _ _ (scover0_A_0 c i a1 h1 a2 h2 a3 h3 a4 h4 hc0 hc1 x y)]
  unfold kernelRun0_A
  dsimp only
  unfold kernelRun0_A.sl.HS0_1
  rw [View.canon_unit_zero off0]
  simp only [View.readAt_eq_ld, h1.read_unread, View.ld_unit_zero (S := S4096x512) off0]

/-- … and its block is that one's product. -/
theorem first (i : grid0.Coords) (a1 : Memref sig .tc .vmem S4096x512 .f32) (h1 : a1.IsWhole) (a2 : Memref sig .tc .vmem S4096x512 .bf16) (h2 : a2.IsWhole)
    (a3 : Memref sig .tc .vmem S512x512 .f32) (h3 : a3.IsWhole) (a4 : Memref sig .tc .vmem S4096x512 .bf16) (h4 : a4.IsWhole)
    (hc0 : cond0_0 i) (hc1 : cond0_1 i) (x : Vec Ideal S4096x512 .f32) (y : Vec Ideal S4096x512 .bf16) :
    out0_A_2 c i a1 h1 a2 h2 a3 h3 a4 h4 hc0 hc1 x y = k0_pay2 (k0_pay1 x) y := by
  unfold out0_A_2
  rw [View.read_writes_eq_canon _ _ _ (cover0_A_2 c i a1 h1 a2 h2 a3 h3 a4 h4 hc0 hc1 x y)]
  unfold kernelRun0_A
  dsimp only
  rw [View.canon_unit_zero off0]
  unfold kernelRun0_A.sl.v3 kernelRun0_A.sl.HS0_1
  rw [View.readCov_unit_zero (S := S4096x512) _ off0]
  simp only [View.readAt_eq_ld, h1.read_unread, h2.read_unread, View.ld_unit_zero (S := S4096x512) off0]

/-- A later point of the row multiplies what was kept. -/
theorem later (i : grid0.Coords) (a1 : Memref sig .tc .vmem S4096x512 .f32) (h1 : a1.IsWhole) (a2 : Memref sig .tc .vmem S4096x512 .bf16) (h2 : a2.IsWhole)
    (a3 : Memref sig .tc .vmem S512x512 .f32) (h3 : a3.IsWhole) (a4 : Memref sig .tc .vmem S4096x512 .bf16) (h4 : a4.IsWhole)
    (hc0 : ¬cond0_0 i) (hc1 : cond0_1 i) (x : Vec Ideal S4096x512 .f32) (y : Vec Ideal S4096x512 .bf16) (s : Vec Ideal S4096x512 .bf16) :
    out0_B_2 c i a1 h1 a2 h2 a3 h3 a4 h4 hc0 hc1 x y s = k0_pay2 s y := by
  unfold out0_B_2
  rw [View.read_writes_eq_canon _ _ _ (cover0_B_2 c i a1 h1 a2 h2 a3 h3 a4 h4 hc0 hc1 x y s)]
  unfold kernelRun0_B
  dsimp only
  rw [View.canon_unit_zero off0]
  simp only [View.readAt_eq_ld, h2.read_unread, h4.read_unread, View.ld_unit_zero (S := S4096x512) off0]

theorem idx0 : ∀ t : Fin cfg0.N, win0_0.index t 0 = 0 ∧ win0_0.index t 1 = t.val / 4 :=
  (by decide +kernel : ∀ t : Fin grid0.N, win0_0.index t 0 = 0 ∧ win0_0.index t 1 = t.val / 4)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The first operand's array, at natural indices. -/
abbrev A (k i : ℕ) : EReal := at2 (M := 4096) (K := 1024) (V (F := Ideal) m c (Pipeline.arrRef spec0 0)) k i
/-- The second operand's array, at natural indices. -/
abbrev B (k j : ℕ) : EReal := at2 (M := 4096) (K := 2048) (V (F := Ideal) m c (Pipeline.arrRef spec0 1)) k j

/-- The first operand's block at a point. -/
abbrev X (t : Fin cfg0.N) : Vec Ideal S4096x512 .f32 := iblk (F := Ideal) m c 0 t
/-- The second operand's block at a point. -/
abbrev Y (t : Fin cfg0.N) : Vec Ideal S4096x512 .bf16 := iblk (F := Ideal) m c 1 t

theorem blkA (t : Fin cfg0.N) (k : Fin 4096) (i : Fin 512) : X m c t (ix2 k i) = A m c k.val (512 * (t.val / 4) + i.val) := by
  obtain ⟨h0, h1⟩ := idx0 t
  refine at2_idx (M := 4096) (K := 1024) (V (F := Ideal) m c (Pipeline.arrRef spec0 0)) _ ?_ ?_
  · show win0_0.index t 0 * 4096 + 1 * k.val = k.val
    omega
  · show win0_0.index t 1 * 512 + 1 * i.val = 512 * (t.val / 4) + i.val
    omega

theorem blkB (t : Fin cfg0.N) (k : Fin 4096) (j : Fin 512) : Y m c t (ix2 k j) = B m c k.val (512 * (t.val % 4) + j.val) := by
  obtain ⟨h0, h1⟩ := idx1 t
  refine at2_idx (M := 4096) (K := 2048) (V (F := Ideal) m c (Pipeline.arrRef spec0 1)) _ ?_ ?_
  · show win0_1.index t 0 * 4096 + 1 * k.val = k.val
    omega
  · show win0_1.index t 1 * 512 + 1 * j.val = 512 * (t.val % 4) + j.val
    omega

theorem blkO (o : Buf (Elt Ideal) ((c : Thread nD τ).loc (Pipeline.arrRef spec0 2))) (t : Fin cfg0.N) (i : Fin 512) (j : Fin 512) (i' : Fin 1024) (j' : Fin 2048)
    (hi : i'.val = 512 * (t.val / 4) + i.val) (hj : j'.val = 512 * (t.val % 4) + j.val) :
    ((cfg0.win 2).blk t).view.read (Elt Ideal) o (ix2 i j) = o (ix2 i' j') := by
  obtain ⟨h0, h1⟩ := idx2 t
  refine entry_congr (M := 1024) (K := 2048) o _ i' j' ?_ ?_
  · show win0_2.index t 0 * 512 + 1 * i.val = i'.val
    omega
  · show win0_2.index t 1 * 512 + 1 * j.val = j'.val
    omega

/-- What is kept at a point: its row's first block. -/
theorem keeps (k : Fin 4096) (i : Fin 512) : ∀ (n : ℕ) (h : n < cfg0.N),
    (outsAt0 (F := Ideal) m c n h).2 (ix2 k i) = A m c k.val (512 * (n / 4) + i.val) := by
  refine kept_row (p := 4) (fun n h => (outsAt0 (F := Ideal) m c n h).2 (ix2 k i)) (fun q => A m c k.val (512 * (q) + i.val)) (fun n h h0 => ?_) (fun n h h0 => ?_)
  · rw [outsAt0_A m c ⟨n, h⟩ h0]
    dsimp only
    rw [kept]
    exact (pay1_apply _ k i).trans (blkA m c ⟨n, h⟩ k i)
  · rw [show outsAt0 m c (n + 1) h = _ from outsAt0_B m c ⟨n + 1, h⟩ h0]
    rfl

/-- A point's block is the product of its row's block and its own. -/
theorem outs (t : Fin cfg0.N) (i : Fin 512) (j : Fin 512) :
    (outsAt0 (F := Ideal) m c t.val t.isLt).1 (ix2 i j)
      = ∑ k : Fin 4096, A m c k.val (512 * (t.val / 4) + i.val) * B m c k.val (512 * (t.val % 4) + j.val) := by
  by_cases h0 : t.val % 4 = 0
  · rw [outsAt0_A m c t h0]
    dsimp only
    rw [first, pay2_apply]
    exact Finset.sum_congr rfl fun k _ => congrArg₂ (· * ·) ((pay1_apply _ k i).trans (blkA m c t k i)) (blkB m c t k j)
  · rw [outsAt0_B m c t h0]
    dsimp only
    rw [later, pay2_apply]
    refine Finset.sum_congr rfl fun k _ => congrArg₂ (· * ·) ((keeps m c k i (t.val - 1) _).trans ?_) (blkB m c t k j)
    rw [show (t.val - 1) / 4 = t.val / 4 by omega]

/-- The result array after the run. -/
theorem final (i : Fin 1024) (j : Fin 2048) :
    (dats (F := Ideal) m 0 c).arrAt 2 cfg0.N (ix2 i j) = ∑ k : Fin 4096, A m c k.val i.val * B m c k.val j.val := by
  have hi := i.isLt
  have hj := j.isLt
  let t : Fin cfg0.N := ⟨4 * (i.val / 512) + j.val / 512, by show _ < 8; omega⟩
  have ht : t.val = 4 * (i.val / 512) + j.val / 512 := rfl
  let r : Fin 512 := ⟨i.val % 512, Nat.mod_lt _ (by decide)⟩
  let s : Fin 512 := ⟨j.val % 512, Nat.mod_lt _ (by decide)⟩
  have er : 512 * (t.val / 4) + r.val = i.val := by show 512 * (t.val / 4) + i.val % 512 = i.val; omega
  have es : 512 * (t.val % 4) + s.val = j.val := by show 512 * (t.val % 4) + j.val % 512 = j.val; omega
  refine (blkO c ((dats (F := Ideal) m 0 c).arrAt 2 cfg0.N) t r s i j er.symm es.symm).symm.trans ?_
  refine (congrFun (blocks2 m c t (flush0_2 t)) (ix2 r s)).trans ?_
  rw [flushed2]
  refine (outs m c t r s).trans ?_
  rw [er, es]

/-- The reference's result. -/
abbrev ref (a : FVec Ideal S4096x1024 .f32) (b : FVec Ideal S4096x2048 .bf16) : FVec Ideal S1024x2048 .f32 :=
  transpose S1024x2048 [1, 0] (Host.dotGeneral Cert.Reference10Ideal.dot_S4096x2048_S4096x1024_S2048x1024_0_0_1_1_n_n none (extf .f32 b bitsLt_bf16_f32) a) Cert.Reference10Ideal.Gen.transposes_S2048x1024_S1024x2048_1_0

theorem ref_apply (a : FVec Ideal S4096x1024 .f32) (b : FVec Ideal S4096x2048 .bf16) (i : Fin 1024) (j : Fin 2048) :
    ref a b (ix2 i j) = ∑ k : Fin 4096, b (ix2 k j) * a (ix2 k i) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 1024) (j : Fin 2048), x = ix2 i j := ⟨_, _, eq_ix2 x⟩
  refine (final m c i j).trans (Eq.trans ?_ (ref_apply _ _ i j).symm)
  simp only [A, B, at2_val]
  exact sum_swap _ _

end Cert.Kernel10Ideal.Mm

namespace Cert.Proof

/-- The reference's frame. -/
theorem frame_ref10 : Cert.quiescent_Reference10Ideal := by
  intro m ρ _
  exact (θ_run Cert.Reference10Ideal.defs _ _).mono
    (fun r h => ⟨fun c => (h c).2, sem_eq_zero_of_no_sems (by decide) r.2⟩)
    (Cert.Reference10Ideal.Value.run (F := Ideal) m ρ)

/-- The kernel's gradient is the reference's. -/
theorem algebraic10 : Cert.algebraic_Kernel10Ideal_Reference10Ideal := by
  intro m ρ m' ρ' _ hag
  refine ⟨fun c => (Cert.Kernel10Ideal.Gen.dats (F := Ideal) m 0 c).arrAt 2 Cert.Kernel10Ideal.cfg0.N, Cert.Kernel10Ideal.Value.run_blocks (F := Ideal) m ρ,
    (θ_run Cert.Reference10Ideal.defs _ _).mono (fun r h c => ?_) (Cert.Reference10Ideal.Value.run (F := Ideal) m' ρ')⟩
  obtain ⟨g0, g1⟩ := hag c
  refine ⟨(h c).1.trans ?_, (h c).2⟩
  rw [g0, g1]
  exact (Cert.Kernel10Ideal.Mm.value m c).symm

end Cert.Proof

end
-- ==== Proof.Mm.L1Dh.lean ====
/-
  The gradient of layer 1's input projection's input, added to the gradient so far: one block of rows at a point, the
  weight padded with columns of zeros before the launch.
-/
module

public import proofs.«01_k».proof.Proof.Mm.Sums
public import Idealize.ShloMosaic.Lib.StableHlo.RunRead
public import proofs.«01_k».proof.Proof.Gen.Kernel11Ideal.Value
public import proofs.«01_k».proof.Proof.Gen.Reference11Ideal.Run
public import proofs.«01_k».proof.Defs

@[expose] public section

set_option maxRecDepth 16384

noncomputable section

open Idealize.ShloMosaic Idealize.ShloMosaic.TcCoe Idealize.SL.Sem

namespace Cert.Kernel11Ideal.Mm

open Cert.Mm Cert.Kernel11Ideal Cert.Kernel11Ideal.Gen Cert.Kernel11Ideal.Value

variable (m : (ℓ : Loc nD τ sig) → Buf (Elt Ideal) ℓ) (c : Dev nD)

theorem pay1_apply (a : Vec Ideal S512x2048 .bf16) (b : Vec Ideal S1024x2048 .bf16) (d : Vec Ideal S512x1024 .f32) (i : Fin 512) (j : Fin 1024) :
    k0_pay1 (F := Ideal) a b d (ix2 i j) = (∑ k : Fin 2048, a (ix2 i k) * b (ix2 j k)) + d (ix2 i j) := by
  pointwise [k0_pay1]

/-- A point's block is the product of its blocks, and what is added. -/
theorem one (i : grid0.Coords) (a1 : Memref sig .tc .vmem S512x2048 .bf16) (h1 : a1.IsWhole) (a2 : Memref sig .tc .vmem S1024x2048 .bf16) (h2 : a2.IsWhole)
    (a3 : Memref sig .tc .vmem S512x1024 .f32) (h3 : a3.IsWhole) (a4 : Memref sig .tc .vmem S512x1024 .f32) (h4 : a4.IsWhole) (hc0 : cond0_0 i)
    (x : Vec Ideal S512x2048 .bf16) (y : Vec Ideal S1024x2048 .bf16) (z : Vec Ideal S512x1024 .f32) :
    out0_A_3 c i a1 h1 a2 h2 a3 h3 a4 h4 hc0 x y z = k0_pay1 x y z := by
  unfold out0_A_3
  rw [View.read_writes_eq_canon _ _ _ (cover0_A_3 c i a1 h1 a2 h2 a3 h3 a4 h4 hc0 x y z)]
  unfold kernelRun0_A
  dsimp only
  rw [View.canon_unit_zero off0]
  simp only [View.readAt_eq_ld, h1.read_unread, h2.read_unread, h3.read_unread,
    View.ld_unit_zero (S := S512x2048) off0, View.ld_unit_zero (S := S1024x2048) off0, View.ld_unit_zero (S := S512x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- The first operand's array, at natural indices. -/
abbrev A (i k : ℕ) : EReal := at2 (M := 4096) (K := 2048) (V (F := Ideal) m c (Pipeline.arrRef spec0 0)) i k
/-- The second operand's array, at natural indices. -/
abbrev B (j k : ℕ) : EReal := at2 (M := 1024) (K := 2048) (V (F := Ideal) m c (Pipeline.arrRef spec0 1)) j k
/-- The third operand's array, at natural indices. -/
abbrev D (i j : ℕ) : EReal := at2 (M := 4096) (K := 1024) (V (F := Ideal) m c (Pipeline.arrRef spec0 2)) i j

/-- The first operand's block at a point. -/
abbrev X (t : Fin cfg0.N) : Vec Ideal S512x2048 .bf16 := iblk (F := Ideal) m c 0 t
/-- The second operand's block at a point. -/
abbrev Y (t : Fin cfg0.N) : Vec Ideal S1024x2048 .bf16 := iblk (F := Ideal) m c 1 t
/-- The third operand's block at a point. -/
abbrev Z (t : Fin cfg0.N) : Vec Ideal S512x1024 .f32 := iblk (F := Ideal) m c 2 t

theorem blkA (t : Fin cfg0.N) (i : Fin 512) (k : Fin 2048) : X m c t (ix2 i k) = A m c (512 * t.val + i.val) k.val := by
  obtain ⟨h0, h1⟩ := idx0 t
  refine at2_idx (M := 4096) (K := 2048) (V (F := Ideal) m c (Pipeline.arrRef spec0 0)) _ ?_ ?_
  · show win0_0.index t 0 * 512 + 1 * i.val = 512 * t.val + i.val
    omega
  · show win0_0.index t 1 * 2048 + 1 * k.val = k.val
    omega

theorem blkB (t : Fin cfg0.N) (j : Fin 1024) (k : Fin 2048) : Y m c t (ix2 j k) = B m c j.val k.val := by
  obtain ⟨h0, h1⟩ := idx1 t
  refine at2_idx (M := 1024) (K := 2048) (V (F := Ideal) m c (Pipeline.arrRef spec0 1)) _ ?_ ?_
  · show win0_1.index t 0 * 1024 + 1 * j.val = j.val
    omega
  · show win0_1.index t 1 * 2048 + 1 * k.val = k.val
    omega

theorem blkD (t : Fin cfg0.N) (i : Fin 512) (j : Fin 1024) : Z m c t (ix2 i j) = D m c (512 * t.val + i.val) j.val := by
  obtain ⟨h0, h1⟩ := idx2 t
  refine at2_idx (M := 4096) (K := 1024) (V (F := Ideal) m c (Pipeline.arrRef spec0 2)) _ ?_ ?_
  · show win0_2.index t 0 * 512 + 1 * i.val = 512 * t.val + i.val
    omega
  · show win0_2.index t 1 * 1024 + 1 * j.val = j.val
    omega

theorem blkO (o : Buf (Elt Ideal) ((c : Thread nD τ).loc (Pipeline.arrRef spec0 3))) (t : Fin cfg0.N) (i : Fin 512) (j : Fin 1024) (i' : Fin 4096)
    (hi : i'.val = 512 * t.val + i.val) :
    ((cfg0.win 3).blk t).view.read (Elt Ideal) o (ix2 i j) = o (ix2 i' j) := by
  obtain ⟨h0, h1⟩ := idx3 t
  refine entry_congr (M := 4096) (K := 1024) o _ i' j ?_ ?_
  · show win0_3.index t 0 * 512 + 1 * i.val = i'.val
    omega
  · show win0_3.index t 1 * 1024 + 1 * j.val = j.val
    omega

/-- The result array after the run. -/
theorem final (i : Fin 4096) (j : Fin 1024) :
    (dats (F := Ideal) m 0 c).arrAt 3 cfg0.N (ix2 i j) = (∑ k : Fin 2048, A m c i.val k.val * B m c j.val k.val) + D m c i.val j.val := by
  have hi := i.isLt
  let t : Fin cfg0.N := ⟨i.val / 512, by show _ < 8; omega⟩
  have ht : t.val = i.val / 512 := rfl
  let r : Fin 512 := ⟨i.val % 512, Nat.mod_lt _ (by decide)⟩
  have er : 512 * t.val + r.val = i.val := by show 512 * t.val + i.val % 512 = i.val; omega
  refine (blkO c ((dats (F := Ideal) m 0 c).arrAt 3 cfg0.N) t r j i er.symm).symm.trans ?_
  refine (congrFun (blocks3 m c t (flush0_3 t)) (ix2 r j)).trans ?_
  rw [flushed3_A, one]
  refine (pay1_apply (X m c t) (Y m c t) (Z m c t) r j).trans ?_
  simp only [blkA, blkB, blkD, er]

/-- The padded weight, as the launch finds it: zero past the weight's columns. -/
theorem host (k : Fin 1024) (j : Fin 2048) :
    B m c k.val j.val
      = at2 (M := 1024) (K := 1952) (m (c, Proc.tc.devRef main_arg1)) k.val j.val := by
  have e : V (F := Ideal) m c (Pipeline.arrRef spec0 1) = concatenate S1024x2048 1 [⟨S1024x1952, (truncf .bf16 (m (c, Proc.tc.devRef main_arg1) : FVec Ideal S1024x1952 .f32) bitsLt_bf16_f32 : FVec Ideal S1024x1952 .bf16)⟩, ⟨S1024x96, (broadcastInDim S1024x96 ![] bcast_S_S1024x96 (constant S_ .bf16 0x0000#16) : FVec Ideal S1024x96 .bf16)⟩] concatenates_S1024x1952_S1024x96_S1024x2048_d1 := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
    rfl
  rw [B, at2_val, e]
  pointwise
  unfold at2
  by_cases h : j.val < 1952
  · simp only [h, k.isLt, and_self, dite_true]
  · simp only [h, and_false, dite_false]

/-- The reference's result. -/
abbrev ref (a : FVec Ideal S4096x2048 .bf16) (b : FVec Ideal S1024x1952 .f32) (d : FVec Ideal S4096x1024 .f32) : FVec Ideal S4096x1024 .f32 :=
  addf d (Host.dotGeneral Cert.Reference11Ideal.dot_S4096x1952_S1024x1952_S4096x1024_1_1_0_0_n_n none (extractStridedSlice Cert.Reference11Ideal.S4096x1952 ![0, 0] (extf .f32 a bitsLt_bf16_f32) Cert.Reference11Ideal.Gen.slices_S4096x2048_S4096x1952_0_0) b)

theorem ref_apply (a : FVec Ideal S4096x2048 .bf16) (b : FVec Ideal S1024x1952 .f32) (d : FVec Ideal S4096x1024 .f32) (i : Fin 4096) (j : Fin 1024) :
    ref a b d (ix2 i j) = (∑ k : Fin 2048, a (ix2 i k) * at2 b j.val k.val) + d (ix2 i j) := by
  have e : ∀ k : Fin 2048, a (ix2 i k) * at2 b j.val k.val = at2 a i.val k.val * at2 b j.val k.val := fun k => by rw [at2_val]
  simp only [e]
  rw [sum_axis (fun k => at2 a i.val k * at2 b j.val k), sum_cut (K := 1952) (by decide) fun k h => by rw [at2_right b h, mul_zero], ← sum_axis]
  pointwise [ref]
  rw [add_comm]
  exact congrArg (· + _) (Finset.sum_congr rfl fun k _ => congrArg₂ (· * ·) (at2_eq a i.isLt _).symm (at2_val b j k).symm)

/-- The kernel's result is the reference's. -/
theorem value : (dats (F := Ideal) m 0 c).arrAt 3 cfg0.N
    = ref (m (c, Proc.tc.devRef main_arg0)) (m (c, Proc.tc.devRef main_arg1)) (m (c, Proc.tc.devRef main_arg2)) := by
  funext x
  obtain ⟨i, j, rfl⟩ : ∃ (i : Fin 4096) (j : Fin 1024), x = ix2 i j := ⟨_, _, eq_ix2 x⟩
  refine (final m c i j).trans (Eq.trans ?_ (ref_apply _ _ _ i j).symm)
  exact congrArg₂ (fun x y : EReal => x + y) (sum_mul_congr (fun k => at2_val _ i k) fun k => host m c j k) (at2_val _ i j)

end Cert.Kernel11Ideal.Mm

namespace Cert.Proof

/-- The reference's frame. -/
theorem frame_ref11 : Cert.quiescent_Reference11Ideal := by
  intro m ρ _
  exact (θ_run Cert.Reference11Ideal.defs _ _).mono
    (fun r h => ⟨fun c => (h c).2, sem_eq_zero_of_no_sems (by decide) r.2⟩)
    (Cert.Reference11Ideal.Value.run (F := Ideal) m ρ)

/-- The kernel's gradient is the reference's. -/
theorem algebraic11 : Cert.algebraic_Kernel11Ideal_Reference11Ideal := by
  intro m ρ m' ρ' _ hag
  refine ⟨fun c => (Cert.Kernel11Ideal.Gen.dats (F := Ideal) m 0 c).arrAt 3 Cert.Kernel11Ideal.cfg0.N, Cert.Kernel11Ideal.Value.run_blocks (F := Ideal) m ρ,
    (θ_run Cert.Reference11Ideal.defs _ _).mono (fun r h c => ?_) (Cert.Reference11Ideal.Value.run (F := Ideal) m' ρ')⟩
  obtain ⟨g0, g1, g2⟩ := hag c
  refine ⟨(h c).1.trans ?_, (h c).2⟩
  rw [g0, g1, g2]
  exact (Cert.Kernel11Ideal.Mm.value m c).symm

end Cert.Proof

end
-- ==== Proof.Mm.L1Out.lean ====
/-
  Layer 1's output projection: one block of rows at a point.
-/
module

public import proofs.«01_k».proof.Proof.Mm.Sums
public import Idealize.ShloMosaic.Lib.StableHlo.RunRead
public import proofs.«01_k».proof.Proof.Gen.Kernel12Ideal.Value
public import proofs.«01_k».proof.Proof.Gen.Reference12Ideal.Run
public import proofs.«01_k».proof.Defs

@[expose] public section

set_option maxRecDepth 16384

noncomputable section

open Idealize.ShloMosaic Idealize.ShloMosaic.TcCoe Idealize.SL.Sem

namespace Cert.Kernel12Ideal.Mm

open Cert.Mm Cert.Kernel12Ideal Cert.Kernel12Ideal.Gen Cert.Kernel12Ideal.Value

variable (m : (ℓ : Loc nD τ sig) → Buf (Elt Ideal) ℓ) (c : Dev nD)

theorem pay1_apply (a : Vec Ideal S1024x1024 .bf16) (b : Vec Ideal S1024x1024 .bf16) (i : Fin 1024) (j : Fin 1024) :
    k0_pay1 (F := Ideal) a b (ix2 i j) = ∑ k : Fin 1024, a (ix2 i k) * b (ix2 k j) := by
  pointwise [k0_pay1]

/-- A point's block is the product of its blocks. -/
theorem one (i : grid0.Coords) (a1 : Memref sig .tc .vmem S1024x1024 .bf16) (h1 : a1.IsWhole) (a2 : Memref sig .tc .vmem S1024x1024 .bf16) (h2 : a2.IsWhole)
    (a3 : Memref sig .tc .vmem S1024x1024 .f32) (h3 : a3.IsWhole) (hc0 : cond0_0 i)
    (x : Vec Ideal S1024x1024 .bf16) (y : Vec Ideal S1024x1024 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S1024x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 1024) (V (F := Ideal) m c (Pipeline.arrRef spec0 0)) i k
/-- The second operand's array, at natural indices. -/
abbrev B (k j : ℕ) : EReal := at2 (M := 1024) (K := 1024) (V (F := Ideal) m c (Pipeline.arrRef spec0 1)) k j

/-- The first operand's block at a point. -/
abbrev X (t : Fin cfg0.N) : Vec Ideal S1024x1024 .bf16 := iblk (F := Ideal) m c 0 t
/-- The second operand's block at a point. -/
abbrev Y (t : Fin cfg0.N) : Vec Ideal S1024x1024 .bf16 := iblk (F := Ideal) m c 1 t

theorem blkA (t : Fin cfg0.N) (i : Fin 1024) (k : Fin 1024) : X m c t (ix2 i k) = A m c (1024 * t.val + i.val) k.val := by
  obtain ⟨h0, h1⟩ := idx0 t
  refine at2_idx (M := 4096) (K := 1024) (V (F := Ideal) m c (Pipeline.arrRef spec0 0)) _ ?_ ?_
  · show win0_0.index t 0 * 1024 + 1 * i.val = 1024 * t.val + i.val
    omega
  · show win0_0.index t 1 * 1024 + 1 * k.val = k.val
    omega

theorem blkB (t : Fin cfg0.N) (k : Fin 1024) (j : Fin 1024) : Y m c t (ix2 k j) = B m c k.val j.val := by
  obtain ⟨h0, h1⟩ := idx1 t
  refine at2_idx (M := 1024) (K := 1024) (V (F := Ideal) m c (Pipeline.arrRef spec0 1)) _ ?_ ?_
  · show win0_1.index t 0 * 1024 + 1 * k.val = k.val
    omega
  · show win0_1.index t 1 * 1024 + 1 * j.val = j.val
    omega

theorem blkO (o : Buf (Elt Ideal) ((c : Thread nD τ).loc (Pipeline.arrRef spec0 2))) (t : Fin cfg0.N) (i : Fin 1024) (j : Fin 1024) (i' : Fin 4096)
    (hi : i'.val = 1024 * t.val + i.val) :
    ((cfg0.win 2).blk t).view.read (Elt Ideal) o (ix2 i j) = o (ix2 i' j) := by
  obtain ⟨h0, h1⟩ := idx2 t
  refine entry_congr (M := 4096) (K := 1024) o _ i' j ?_ ?_
  · show win0_2.index t 0 * 1024 + 1 * i.val = i'.val
    omega
  · show win0_2.index t 1 * 1024 + 1 * j.val = j.val
    omega

/-- The result array after the run. -/
theorem final (i : Fin 4096) (j : Fin 1024) :
    (dats (F := Ideal) m 0 c).arrAt 2 cfg0.N (ix2 i j) = ∑ k : Fin 1024, A m c i.val k.val * B m c k.val j.val := by
  have hi := i.isLt
  let t : Fin cfg0.N := ⟨i.val / 1024, by show _ < 4; omega⟩
  have ht : t.val = i.val / 1024 := rfl
  let r : Fin 1024 := ⟨i.val % 1024, Nat.mod_lt _ (by decide)⟩
  have er : 1024 * t.val + r.val = i.val := by show 1024 * t.val + i.val % 1024 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The second operand, as the launch finds it: the weight, whose cast keeps every entry. -/
theorem host : B m c = at2 (M := 1024) (K := 1024) (m (c, Proc.tc.devRef main_arg1)) := by
  have e : V (F := Ideal) m c (Pipeline.arrRef spec0 1) = (truncf .bf16 (m (c, Proc.tc.devRef main_arg1) : FVec Ideal S1024x1024 .f32) bitsLt_bf16_f32 : FVec Ideal S1024x1024 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x1024 .bf16) (b : FVec Ideal S1024x1024 .f32) : FVec Ideal S4096x1024 .f32 :=
  Host.dotGeneral Cert.Reference12Ideal.dot_S4096x1024_S1024x1024_S4096x1024_1_0_0_1_n_n none (extf .f32 a Cert.Reference12Ideal.Gen.bitsLt_bf16_f32) b

theorem ref_apply (a : FVec Ideal S4096x1024 .bf16) (b : FVec Ideal S1024x1024 .f32) (i : Fin 4096) (j : Fin 1024) :
    ref a b (ix2 i j) = ∑ k : Fin 1024, a (ix2 i k) * b (ix2 k j) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 1024), x = ix2 i j := ⟨_, _, eq_ix2 x⟩
  refine (final m c i j).trans (Eq.trans ?_ (ref_apply _ _ i j).symm)
  rw [host]
  simp only [A, at2_val]
  rfl

end Cert.Kernel12Ideal.Mm

namespace Cert.Proof

/-- The reference's frame. -/
theorem frame_ref12 : Cert.quiescent_Reference12Ideal := by
  intro m ρ _
  exact (θ_run Cert.Reference12Ideal.defs _ _).mono
    (fun r h => ⟨fun c => (h c).2, sem_eq_zero_of_no_sems (by decide) r.2⟩)
    (Cert.Reference12Ideal.Value.run (F := Ideal) m ρ)

/-- The kernel's product is the reference's. -/
theorem algebraic12 : Cert.algebraic_Kernel12Ideal_Reference12Ideal := by
  intro m ρ m' ρ' _ hag
  refine ⟨fun c => (Cert.Kernel12Ideal.Gen.dats (F := Ideal) m 0 c).arrAt 2 Cert.Kernel12Ideal.cfg0.N, Cert.Kernel12Ideal.Value.run_blocks (F := Ideal) m ρ,
    (θ_run Cert.Reference12Ideal.defs _ _).mono (fun r h c => ?_) (Cert.Reference12Ideal.Value.run (F := Ideal) m' ρ')⟩
  obtain ⟨g0, g1⟩ := hag c
  refine ⟨(h c).1.trans ?_, (h c).2⟩
  rw [g0, g1]
  exact (Cert.Kernel12Ideal.Mm.value m c).symm

end Cert.Proof

end
-- ==== Proof.Mm.L1Dwout.lean ====
/-
  The gradient of layer 1's output projection: one block of columns at a point.
-/
module

public import proofs.«01_k».proof.Proof.Mm.Sums
public import Idealize.ShloMosaic.Lib.StableHlo.RunRead
public import proofs.«01_k».proof.Proof.Gen.Kernel13Ideal.Value
public import proofs.«01_k».proof.Proof.Gen.Reference13Ideal.Run
public import proofs.«01_k».proof.Defs

@[expose] public section

set_option maxRecDepth 16384

noncomputable section

open Idealize.ShloMosaic Idealize.ShloMosaic.TcCoe Idealize.SL.Sem

namespace Cert.Kernel13Ideal.Mm

open Cert.Mm Cert.Kernel13Ideal Cert.Kernel13Ideal.Gen Cert.Kernel13Ideal.Value

variable (m : (ℓ : Loc nD τ sig) → Buf (Elt Ideal) ℓ) (c : Dev nD)

theorem pay1_apply (a : Vec Ideal S4096x1024 .bf16) (b : Vec Ideal S4096x256 .f32) (i : Fin 1024) (j : Fin 256) :
    k0_pay1 (F := Ideal) a b (ix2 i j) = ∑ k : Fin 4096, a (ix2 k i) * b (ix2 k j) := by
  pointwise [k0_pay1]

/-- A point's block is the product of its blocks. -/
theorem one (i : grid0.Coords) (a1 : Memref sig .tc .vmem S4096x1024 .bf16) (h1 : a1.IsWhole) (a2 : Memref sig .tc .vmem S4096x256 .f32) (h2 : a2.IsWhole)
    (a3 : Memref sig .tc .vmem S1024x256 .f32) (h3 : a3.IsWhole) (hc0 : cond0_0 i)
    (x : Vec Ideal S4096x1024 .bf16) (y : Vec Ideal S4096x256 .f32) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S4096x1024) off0, View.ld_unit_zero (S := S4096x256) off0]

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

/-- The first operand's array, at natural indices. -/
abbrev A (k i : ℕ) : EReal := at2 (M := 4096) (K := 1024) (V (F := Ideal) m c (Pipeline.arrRef spec0 0)) k i
/-- The second operand's array, at natural indices. -/
abbrev B (k j : ℕ) : EReal := at2 (M := 4096) (K := 1024) (V (F := Ideal) m c (Pipeline.arrRef spec0 1)) k j

/-- The first operand's block at a point. -/
abbrev X (t : Fin cfg0.N) : Vec Ideal S4096x1024 .bf16 := iblk (F := Ideal) m c 0 t
/-- The second operand's block at a point. -/
abbrev Y (t : Fin cfg0.N) : Vec Ideal S4096x256 .f32 := iblk (F := Ideal) m c 1 t

theorem blkA (t : Fin cfg0.N) (k : Fin 4096) (i : Fin 1024) : X m c t (ix2 k i) = A m c k.val i.val := by
  obtain ⟨h0, h1⟩ := idx0 t
  refine at2_idx (M := 4096) (K := 1024) (V (F := Ideal) m c (Pipeline.arrRef spec0 0)) _ ?_ ?_
  · show win0_0.index t 0 * 4096 + 1 * k.val = k.val
    omega
  · show win0_0.index t 1 * 1024 + 1 * i.val = i.val
    omega

theorem blkB (t : Fin cfg0.N) (k : Fin 4096) (j : Fin 256) : Y m c t (ix2 k j) = B m c k.val (256 * t.val + j.val) := by
  obtain ⟨h0, h1⟩ := idx1 t
  refine at2_idx (M := 4096) (K := 1024) (V (F := Ideal) m c (Pipeline.arrRef spec0 1)) _ ?_ ?_
  · show win0_1.index t 0 * 4096 + 1 * k.val = k.val
    omega
  · show win0_1.index t 1 * 256 + 1 * j.val = 256 * t.val + j.val
    omega

theorem blkO (o : Buf (Elt Ideal) ((c : Thread nD τ).loc (Pipeline.arrRef spec0 2))) (t : Fin cfg0.N) (i : Fin 1024) (j : Fin 256) (j' : Fin 1024)
    (hj : j'.val = 256 * t.val + j.val) :
    ((cfg0.win 2).blk t).view.read (Elt Ideal) o (ix2 i j) = o (ix2 i j') := by
  obtain ⟨h0, h1⟩ := idx2 t
  refine entry_congr (M := 1024) (K := 1024) o _ i j' ?_ ?_
  · show win0_2.index t 0 * 1024 + 1 * i.val = i.val
    omega
  · show win0_2.index t 1 * 256 + 1 * j.val = j'.val
    omega

/-- The result array after the run. -/
theorem final (i : Fin 1024) (j : Fin 1024) :
    (dats (F := Ideal) m 0 c).arrAt 2 cfg0.N (ix2 i j) = ∑ k : Fin 4096, A m c k.val i.val * B m c k.val j.val := by
  have hj := j.isLt
  let t : Fin cfg0.N := ⟨j.val / 256, by show _ < 4; omega⟩
  have ht : t.val = j.val / 256 := rfl
  let s : Fin 256 := ⟨j.val % 256, Nat.mod_lt _ (by decide)⟩
  have es : 256 * t.val + s.val = j.val := by show 256 * t.val + j.val % 256 = j.val; omega
  refine (blkO c ((dats (F := Ideal) m 0 c).arrAt 2 cfg0.N) t i s j es.symm).symm.trans ?_
  refine (congrFun (blocks2 m c t (flush0_2 t)) (ix2 i s)).trans ?_
  rw [flushed2_A, one]
  refine (pay1_apply (X m c t) (Y m c t) i s).trans ?_
  simp only [blkA, blkB, es]

/-- The reference's result. -/
abbrev ref (a : FVec Ideal S4096x1024 .bf16) (b : FVec Ideal S4096x1024 .f32) : FVec Ideal S1024x1024 .f32 :=
  transpose S1024x1024 [1, 0] (Host.dotGeneral Cert.Reference13Ideal.dot_S4096x1024_S4096x1024_S1024x1024_0_0_1_1_n_n none b (extf .f32 a Cert.Reference13Ideal.Gen.bitsLt_bf16_f32)) Cert.Reference13Ideal.Gen.transposes_S1024x1024_S1024x1024_1_0

theorem ref_apply (a : FVec Ideal S4096x1024 .bf16) (b : FVec Ideal S4096x1024 .f32) (i : Fin 1024) (j : Fin 1024) :
    ref a b (ix2 i j) = ∑ k : Fin 4096, b (ix2 k j) * a (ix2 k i) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 1024) (j : Fin 1024), x = ix2 i j := ⟨_, _, eq_ix2 x⟩
  refine (final m c i j).trans (Eq.trans ?_ (ref_apply _ _ i j).symm)
  simp only [A, B, at2_val]
  exact sum_swap _ _

end Cert.Kernel13Ideal.Mm

namespace Cert.Proof

/-- The reference's frame. -/
theorem frame_ref13 : Cert.quiescent_Reference13Ideal := by
  intro m ρ _
  exact (θ_run Cert.Reference13Ideal.defs _ _).mono
    (fun r h => ⟨fun c => (h c).2, sem_eq_zero_of_no_sems (by decide) r.2⟩)
    (Cert.Reference13Ideal.Value.run (F := Ideal) m ρ)

/-- The kernel's gradient is the reference's. -/
theorem algebraic13 : Cert.algebraic_Kernel13Ideal_Reference13Ideal := by
  intro m ρ m' ρ' _ hag
  refine ⟨fun c => (Cert.Kernel13Ideal.Gen.dats (F := Ideal) m 0 c).arrAt 2 Cert.Kernel13Ideal.cfg0.N, Cert.Kernel13Ideal.Value.run_blocks (F := Ideal) m ρ,
    (θ_run Cert.Reference13Ideal.defs _ _).mono (fun r h c => ?_) (Cert.Reference13Ideal.Value.run (F := Ideal) m' ρ')⟩
  obtain ⟨g0, g1⟩ := hag c
  refine ⟨(h c).1.trans ?_, (h c).2⟩
  rw [g0, g1]
  exact (Cert.Kernel13Ideal.Mm.value m c).symm

end Cert.Proof

end
-- ==== Proof.Mm.L1Dy.lean ====
/-
  The gradient of layer 1's output projection's input: one block of rows at a point.
-/
module

public import proofs.«01_k».proof.Proof.Mm.Sums
public import Idealize.ShloMosaic.Lib.StableHlo.RunRead
public import proofs.«01_k».proof.Proof.Gen.Kernel14Ideal.Value
public import proofs.«01_k».proof.Proof.Gen.Reference14Ideal.Run
public import proofs.«01_k».proof.Defs

@[expose] public section

set_option maxRecDepth 16384

noncomputable section

open Idealize.ShloMosaic Idealize.ShloMosaic.TcCoe Idealize.SL.Sem

namespace Cert.Kernel14Ideal.Mm

open Cert.Mm Cert.Kernel14Ideal Cert.Kernel14Ideal.Gen Cert.Kernel14Ideal.Value

variable (m : (ℓ : Loc nD τ sig) → Buf (Elt Ideal) ℓ) (c : Dev nD)

theorem pay1_apply (a : Vec Ideal S1024x1024 .f32) (b : Vec Ideal S1024x1024 .bf16) (i : Fin 1024) (j : Fin 1024) :
    k0_pay1 (F := Ideal) a b (ix2 i j) = ∑ k : Fin 1024, a (ix2 i k) * b (ix2 j k) := by
  pointwise [k0_pay1]

/-- A point's block is the product of its blocks. -/
theorem one (i : grid0.Coords) (a1 : Memref sig .tc .vmem S1024x1024 .f32) (h1 : a1.IsWhole) (a2 : Memref sig .tc .vmem S1024x1024 .bf16) (h2 : a2.IsWhole)
    (a3 : Memref sig .tc .vmem S1024x1024 .f32) (h3 : a3.IsWhole) (hc0 : cond0_0 i)
    (x : Vec Ideal S1024x1024 .f32) (y : Vec Ideal S1024x1024 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S1024x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 1024) (V (F := Ideal) m c (Pipeline.arrRef spec0 0)) i k
/-- The second operand's array, at natural indices. -/
abbrev B (j k : ℕ) : EReal := at2 (M := 1024) (K := 1024) (V (F := Ideal) m c (Pipeline.arrRef spec0 1)) j k

/-- The first operand's block at a point. -/
abbrev X (t : Fin cfg0.N) : Vec Ideal S1024x1024 .f32 := iblk (F := Ideal) m c 0 t
/-- The second operand's block at a point. -/
abbrev Y (t : Fin cfg0.N) : Vec Ideal S1024x1024 .bf16 := iblk (F := Ideal) m c 1 t

theorem blkA (t : Fin cfg0.N) (i : Fin 1024) (k : Fin 1024) : X m c t (ix2 i k) = A m c (1024 * t.val + i.val) k.val := by
  obtain ⟨h0, h1⟩ := idx0 t
  refine at2_idx (M := 4096) (K := 1024) (V (F := Ideal) m c (Pipeline.arrRef spec0 0)) _ ?_ ?_
  · show win0_0.index t 0 * 1024 + 1 * i.val = 1024 * t.val + i.val
    omega
  · show win0_0.index t 1 * 1024 + 1 * k.val = k.val
    omega

theorem blkB (t : Fin cfg0.N) (j : Fin 1024) (k : Fin 1024) : Y m c t (ix2 j k) = B m c j.val k.val := by
  obtain ⟨h0, h1⟩ := idx1 t
  refine at2_idx (M := 1024) (K := 1024) (V (F := Ideal) m c (Pipeline.arrRef spec0 1)) _ ?_ ?_
  · show win0_1.index t 0 * 1024 + 1 * j.val = j.val
    omega
  · show win0_1.index t 1 * 1024 + 1 * k.val = k.val
    omega

theorem blkO (o : Buf (Elt Ideal) ((c : Thread nD τ).loc (Pipeline.arrRef spec0 2))) (t : Fin cfg0.N) (i : Fin 1024) (j : Fin 1024) (i' : Fin 4096)
    (hi : i'.val = 1024 * t.val + i.val) :
    ((cfg0.win 2).blk t).view.read (Elt Ideal) o (ix2 i j) = o (ix2 i' j) := by
  obtain ⟨h0, h1⟩ := idx2 t
  refine entry_congr (M := 4096) (K := 1024) o _ i' j ?_ ?_
  · show win0_2.index t 0 * 1024 + 1 * i.val = i'.val
    omega
  · show win0_2.index t 1 * 1024 + 1 * j.val = j.val
    omega

/-- The result array after the run. -/
theorem final (i : Fin 4096) (j : Fin 1024) :
    (dats (F := Ideal) m 0 c).arrAt 2 cfg0.N (ix2 i j) = ∑ k : Fin 1024, A m c i.val k.val * B m c j.val k.val := by
  have hi := i.isLt
  let t : Fin cfg0.N := ⟨i.val / 1024, by show _ < 4; omega⟩
  have ht : t.val = i.val / 1024 := rfl
  let r : Fin 1024 := ⟨i.val % 1024, Nat.mod_lt _ (by decide)⟩
  have er : 1024 * t.val + r.val = i.val := by show 1024 * t.val + i.val % 1024 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The second operand, as the launch finds it: the weight, whose cast keeps every entry. -/
theorem host : B m c = at2 (M := 1024) (K := 1024) (m (c, Proc.tc.devRef main_arg1)) := by
  have e : V (F := Ideal) m c (Pipeline.arrRef spec0 1) = (truncf .bf16 (m (c, Proc.tc.devRef main_arg1) : FVec Ideal S1024x1024 .f32) bitsLt_bf16_f32 : FVec Ideal S1024x1024 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x1024 .f32) (b : FVec Ideal S1024x1024 .f32) : FVec Ideal S4096x1024 .f32 :=
  Host.dotGeneral Cert.Reference14Ideal.dot_S4096x1024_S1024x1024_S4096x1024_1_1_0_0_n_n none a b

theorem ref_apply (a : FVec Ideal S4096x1024 .f32) (b : FVec Ideal S1024x1024 .f32) (i : Fin 4096) (j : Fin 1024) :
    ref a b (ix2 i j) = ∑ k : Fin 1024, a (ix2 i k) * b (ix2 j k) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 1024), x = ix2 i j := ⟨_, _, eq_ix2 x⟩
  refine (final m c i j).trans (Eq.trans ?_ (ref_apply _ _ i j).symm)
  rw [host]
  simp only [A, at2_val]
  rfl

end Cert.Kernel14Ideal.Mm

namespace Cert.Proof

/-- The reference's frame. -/
theorem frame_ref14 : Cert.quiescent_Reference14Ideal := by
  intro m ρ _
  exact (θ_run Cert.Reference14Ideal.defs _ _).mono
    (fun r h => ⟨fun c => (h c).2, sem_eq_zero_of_no_sems (by decide) r.2⟩)
    (Cert.Reference14Ideal.Value.run (F := Ideal) m ρ)

/-- The kernel's gradient is the reference's. -/
theorem algebraic14 : Cert.algebraic_Kernel14Ideal_Reference14Ideal := by
  intro m ρ m' ρ' _ hag
  refine ⟨fun c => (Cert.Kernel14Ideal.Gen.dats (F := Ideal) m 0 c).arrAt 2 Cert.Kernel14Ideal.cfg0.N, Cert.Kernel14Ideal.Value.run_blocks (F := Ideal) m ρ,
    (θ_run Cert.Reference14Ideal.defs _ _).mono (fun r h c => ?_) (Cert.Reference14Ideal.Value.run (F := Ideal) m' ρ')⟩
  obtain ⟨g0, g1⟩ := hag c
  refine ⟨(h c).1.trans ?_, (h c).2⟩
  rw [g0, g1]
  exact (Cert.Kernel14Ideal.Mm.value m c).symm

end Cert.Proof

end
-- ==== Proof.Mm.L0In.lean ====
/-
  Layer 0's input projection, its columns regrouped and padded before the launch. One block of rows at a
  point.
-/
module

public import proofs.«01_k».proof.Proof.Mm.Sums
public import Idealize.ShloMosaic.Lib.StableHlo.RunRead
public import proofs.«01_k».proof.Proof.Gen.Kernel15Ideal.Value
public import proofs.«01_k».proof.Proof.Gen.Reference15Ideal.Run
public import proofs.«01_k».proof.Defs

@[expose] public section

set_option maxRecDepth 16384

noncomputable section

open Idealize.ShloMosaic Idealize.ShloMosaic.TcCoe Idealize.SL.Sem

namespace Cert.Kernel15Ideal.Mm

open Cert.Mm Cert.Kernel15Ideal Cert.Kernel15Ideal.Gen Cert.Kernel15Ideal.Value

variable (m : (ℓ : Loc nD τ sig) → Buf (Elt Ideal) ℓ) (c : Dev nD)

theorem pay1_apply (a : Vec Ideal S256x1024 .f32) (b : Vec Ideal S1024x3456 .bf16) (i : Fin 256) (j : Fin 3456) :
    k0_pay1 (F := Ideal) a b (ix2 i j) = ∑ k : Fin 1024, a (ix2 i k) * b (ix2 k j) := by
  pointwise [k0_pay1]

/-- A point's block is the product of its blocks. -/
theorem one (i : grid0.Coords) (a1 : Memref sig .tc .vmem S256x1024 .f32) (h1 : a1.IsWhole) (a2 : Memref sig .tc .vmem S1024x3456 .bf16) (h2 : a2.IsWhole)
    (a3 : Memref sig .tc .vmem S256x3456 .f32) (h3 : a3.IsWhole) (hc0 : cond0_0 i)
    (x : Vec Ideal S256x1024 .f32) (y : Vec Ideal S1024x3456 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S256x1024) off0, View.ld_unit_zero (S := S1024x3456) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 1024) (V (F := Ideal) m c (Pipeline.arrRef spec0 0)) i k
/-- The second operand's array, at natural indices. -/
abbrev B (k j : ℕ) : EReal := at2 (M := 1024) (K := 3456) (V (F := Ideal) m c (Pipeline.arrRef spec0 1)) k j

/-- The first operand's block at a point. -/
abbrev X (t : Fin cfg0.N) : Vec Ideal S256x1024 .f32 := iblk (F := Ideal) m c 0 t
/-- The second operand's block at a point. -/
abbrev Y (t : Fin cfg0.N) : Vec Ideal S1024x3456 .bf16 := iblk (F := Ideal) m c 1 t

theorem blkA (t : Fin cfg0.N) (i : Fin 256) (k : Fin 1024) : X m c t (ix2 i k) = A m c (256 * t.val + i.val) k.val := by
  obtain ⟨h0, h1⟩ := idx0 t
  refine at2_idx (M := 4096) (K := 1024) (V (F := Ideal) m c (Pipeline.arrRef spec0 0)) _ ?_ ?_
  · show win0_0.index t 0 * 256 + 1 * i.val = 256 * t.val + i.val
    omega
  · show win0_0.index t 1 * 1024 + 1 * k.val = k.val
    omega

theorem blkB (t : Fin cfg0.N) (k : Fin 1024) (j : Fin 3456) : Y m c t (ix2 k j) = B m c k.val j.val := by
  obtain ⟨h0, h1⟩ := idx1 t
  refine at2_idx (M := 1024) (K := 3456) (V (F := Ideal) m c (Pipeline.arrRef spec0 1)) _ ?_ ?_
  · show win0_1.index t 0 * 1024 + 1 * k.val = k.val
    omega
  · show win0_1.index t 1 * 3456 + 1 * j.val = j.val
    omega

theorem blkO (o : Buf (Elt Ideal) ((c : Thread nD τ).loc (Pipeline.arrRef spec0 2))) (t : Fin cfg0.N) (i : Fin 256) (j : Fin 3456) (i' : Fin 4096)
    (hi : i'.val = 256 * t.val + i.val) :
    ((cfg0.win 2).blk t).view.read (Elt Ideal) o (ix2 i j) = o (ix2 i' j) := by
  obtain ⟨h0, h1⟩ := idx2 t
  refine entry_congr (M := 4096) (K := 3456) o _ i' j ?_ ?_
  · show win0_2.index t 0 * 256 + 1 * i.val = i'.val
    omega
  · show win0_2.index t 1 * 3456 + 1 * j.val = j.val
    omega

/-- The result array after the run. -/
theorem final (i : Fin 4096) (j : Fin 3456) :
    (dats (F := Ideal) m 0 c).arrAt 2 cfg0.N (ix2 i j) = ∑ k : Fin 1024, A m c i.val k.val * B m c k.val j.val := by
  have hi := i.isLt
  let t : Fin cfg0.N := ⟨i.val / 256, by show _ < 16; omega⟩
  have ht : t.val = i.val / 256 := rfl
  let r : Fin 256 := ⟨i.val % 256, Nat.mod_lt _ (by decide)⟩
  have er : 256 * t.val + r.val = i.val := by show 256 * t.val + i.val % 256 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The regrouped and padded weight, as the launch finds it. -/
theorem host (k : Fin 1024) (j : Fin 3456) :
    B m c k.val j.val
      = at2 (M := 1024) (K := 3336) (m (c, Proc.tc.devRef main_arg1)) k.val (col j.val) := by
  have e : V (F := Ideal) m c (Pipeline.arrRef spec0 1) = concatenate S1024x3456 1 [⟨S1024x1536, (extractStridedSlice S1024x1536 ![0, 0] (truncf .bf16 (m (c, Proc.tc.devRef main_arg1) : FVec Ideal S1024x3336 .f32) bitsLt_bf16_f32 : FVec Ideal S1024x3336 .bf16) slices_S1024x3336_S1024x1536_0_0 : FVec Ideal S1024x1536 .bf16)⟩,
      ⟨S1024x1536, (extractStridedSlice S1024x1536 ![0, 1792] (truncf .bf16 (m (c, Proc.tc.devRef main_arg1) : FVec Ideal S1024x3336 .f32) bitsLt_bf16_f32 : FVec Ideal S1024x3336 .bf16) slices_S1024x3336_S1024x1536_0_1792 : FVec Ideal S1024x1536 .bf16)⟩,
      ⟨S1024x256, (extractStridedSlice S1024x256 ![0, 1536] (truncf .bf16 (m (c, Proc.tc.devRef main_arg1) : FVec Ideal S1024x3336 .f32) bitsLt_bf16_f32 : FVec Ideal S1024x3336 .bf16) slices_S1024x3336_S1024x256_0_1536 : FVec Ideal S1024x256 .bf16)⟩,
      ⟨S1024x8, (extractStridedSlice S1024x8 ![0, 3328] (truncf .bf16 (m (c, Proc.tc.devRef main_arg1) : FVec Ideal S1024x3336 .f32) bitsLt_bf16_f32 : FVec Ideal S1024x3336 .bf16) slices_S1024x3336_S1024x8_0_3328 : FVec Ideal S1024x8 .bf16)⟩,
      ⟨S1024x120, (broadcastInDim S1024x120 ![] bcast_S_S1024x120 (constant S_ .bf16 0x0000#16) : FVec Ideal S1024x120 .bf16)⟩] concatenates_S1024x1536_S1024x1536_S1024x256_S1024x8_S1024x120_S1024x3456_d1 := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
    rfl
  rw [B, at2_val, e]
  pointwise
  have hj := j.isLt
  split_ifs <;> first
    | exact absurd rfl ‹¬(_ = _)›
    | exact at2_col _ k _ (by dsimp only; unfold col; split_ifs <;> omega)
    | exact (at2_right _ (by unfold col; split_ifs <;> omega)).symm

/-- The reference's result. -/
abbrev ref (a : FVec Ideal S4096x1024 .f32) (b : FVec Ideal S1024x3336 .f32) : FVec Ideal S4096x3456 .f32 :=
  concatenate Cert.Reference15Ideal.S4096x3456 1 [⟨Cert.Reference15Ideal.S4096x1536, (extractStridedSlice Cert.Reference15Ideal.S4096x1536 ![0, 0] (Host.dotGeneral Cert.Reference15Ideal.dot_S4096x1024_S1024x3336_S4096x3336_1_0_0_1_n_n none a b : FVec Ideal Cert.Reference15Ideal.S4096x3336 .f32) Cert.Reference15Ideal.Gen.slices_S4096x3336_S4096x1536_0_0 : FVec Ideal Cert.Reference15Ideal.S4096x1536 .f32)⟩,
    ⟨Cert.Reference15Ideal.S4096x1536, (extractStridedSlice Cert.Reference15Ideal.S4096x1536 ![0, 1792] (Host.dotGeneral Cert.Reference15Ideal.dot_S4096x1024_S1024x3336_S4096x3336_1_0_0_1_n_n none a b : FVec Ideal Cert.Reference15Ideal.S4096x3336 .f32) Cert.Reference15Ideal.Gen.slices_S4096x3336_S4096x1536_0_1792 : FVec Ideal Cert.Reference15Ideal.S4096x1536 .f32)⟩,
    ⟨Cert.Reference15Ideal.S4096x256, (extractStridedSlice Cert.Reference15Ideal.S4096x256 ![0, 1536] (Host.dotGeneral Cert.Reference15Ideal.dot_S4096x1024_S1024x3336_S4096x3336_1_0_0_1_n_n none a b : FVec Ideal Cert.Reference15Ideal.S4096x3336 .f32) Cert.Reference15Ideal.Gen.slices_S4096x3336_S4096x256_0_1536 : FVec Ideal Cert.Reference15Ideal.S4096x256 .f32)⟩,
    ⟨Cert.Reference15Ideal.S4096x8, (extractStridedSlice Cert.Reference15Ideal.S4096x8 ![0, 3328] (Host.dotGeneral Cert.Reference15Ideal.dot_S4096x1024_S1024x3336_S4096x3336_1_0_0_1_n_n none a b : FVec Ideal Cert.Reference15Ideal.S4096x3336 .f32) Cert.Reference15Ideal.Gen.slices_S4096x3336_S4096x8_0_3328 : FVec Ideal Cert.Reference15Ideal.S4096x8 .f32)⟩,
    ⟨Cert.Reference15Ideal.S4096x120, (broadcastInDim Cert.Reference15Ideal.S4096x120 ![] Cert.Reference15Ideal.Gen.bcast_S_S4096x120 (constant Cert.Reference15Ideal.S_ .f32 0x00000000#32) : FVec Ideal Cert.Reference15Ideal.S4096x120 .f32)⟩] Cert.Reference15Ideal.Gen.concatenates_S4096x1536_S4096x1536_S4096x256_S4096x8_S4096x120_S4096x3456_d1

theorem ref_apply (a : FVec Ideal S4096x1024 .f32) (b : FVec Ideal S1024x3336 .f32) (i : Fin 4096) (j : Fin 3456) :
    ref a b (ix2 i j) = ∑ k : Fin 1024, a (ix2 i k) * at2 b k.val (col j.val) := by
  pointwise [ref]
  have hj := j.isLt
  split_ifs <;> first
    | exact absurd rfl ‹¬(_ = _)›
    | exact Finset.sum_congr rfl fun k _ => congrArg (_ * ·) (at2_col b k _ (by dsimp only; unfold col; split_ifs <;> omega))
    | exact (Finset.sum_eq_zero fun k _ => by rw [at2_right b (by unfold col; split_ifs <;> omega), mul_zero]).symm

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 3456), x = ix2 i j := ⟨_, _, eq_ix2 x⟩
  refine (final m c i j).trans (Eq.trans ?_ (ref_apply _ _ i j).symm)
  exact sum_mul_congr (fun k => at2_val _ i k) fun k => host m c k j

end Cert.Kernel15Ideal.Mm

namespace Cert.Proof

/-- The reference's frame. -/
theorem frame_ref15 : Cert.quiescent_Reference15Ideal := by
  intro m ρ _
  exact (θ_run Cert.Reference15Ideal.defs _ _).mono
    (fun r h => ⟨fun c => (h c).2, sem_eq_zero_of_no_sems (by decide) r.2⟩)
    (Cert.Reference15Ideal.Value.run (F := Ideal) m ρ)

/-- The kernel's product is the reference's. -/
theorem algebraic15 : Cert.algebraic_Kernel15Ideal_Reference15Ideal := by
  intro m ρ m' ρ' _ hag
  refine ⟨fun c => (Cert.Kernel15Ideal.Gen.dats (F := Ideal) m 0 c).arrAt 2 Cert.Kernel15Ideal.cfg0.N, Cert.Kernel15Ideal.Value.run_blocks (F := Ideal) m ρ,
    (θ_run Cert.Reference15Ideal.defs _ _).mono (fun r h c => ?_) (Cert.Reference15Ideal.Value.run (F := Ideal) m' ρ')⟩
  obtain ⟨g0, g1⟩ := hag c
  refine ⟨(h c).1.trans ?_, (h c).2⟩
  rw [g0, g1]
  exact (Cert.Kernel15Ideal.Mm.value m c).symm

end Cert.Proof

end
-- ==== Proof.Mm.L0Dwin.lean ====
/-
  The gradient of layer 0's input projection, its columns regrouped and padded. The kernel converts a block of columns
  of the first operand once and keeps it.
-/
module

public import proofs.«01_k».proof.Proof.Mm.Sums
public import Idealize.ShloMosaic.Lib.StableHlo.RunRead
public import proofs.«01_k».proof.Proof.Gen.Kernel16Ideal.Value
public import proofs.«01_k».proof.Proof.Gen.Reference16Ideal.Run
public import proofs.«01_k».proof.Defs

@[expose] public section

set_option maxRecDepth 16384

noncomputable section

open Idealize.ShloMosaic Idealize.ShloMosaic.TcCoe Idealize.SL.Sem

namespace Cert.Kernel16Ideal.Mm

open Cert.Mm Cert.Kernel16Ideal Cert.Kernel16Ideal.Gen Cert.Kernel16Ideal.Value

variable (m : (ℓ : Loc nD τ sig) → Buf (Elt Ideal) ℓ) (c : Dev nD)

theorem pay1_apply (a : Vec Ideal S4096x512 .f32) (k : Fin 4096) (i : Fin 512) : k0_pay1 (F := Ideal) a (ix2 k i) = a (ix2 k i) := by
  pointwise [k0_pay1]

theorem pay2_apply (a : Vec Ideal S4096x512 .bf16) (b : Vec Ideal S4096x384 .bf16) (i : Fin 512) (j : Fin 384) :
    k0_pay2 (F := Ideal) a b (ix2 i j) = ∑ k : Fin 4096, a (ix2 k i) * b (ix2 k j) := by
  pointwise [k0_pay2]

/-- A row's first point keeps its first block … -/
theorem kept (i : grid0.Coords) (a1 : Memref sig .tc .vmem S4096x512 .f32) (h1 : a1.IsWhole) (a2 : Memref sig .tc .vmem S4096x384 .bf16) (h2 : a2.IsWhole)
    (a3 : Memref sig .tc .vmem S512x384 .f32) (h3 : a3.IsWhole) (a4 : Memref sig .tc .vmem S4096x512 .bf16) (h4 : a4.IsWhole)
    (hc0 : cond0_0 i) (hc1 : cond0_1 i) (x : Vec Ideal S4096x512 .f32) (y : Vec Ideal S4096x384 .bf16) :
    sout0_A_0 c i a1 h1 a2 h2 a3 h3 a4 h4 hc0 hc1 x y = k0_pay1 x := by
  unfold sout0_A_0
  rw [View.read_writes_eq_canon _ _ _ (scover0_A_0 c i a1 h1 a2 h2 a3 h3 a4 h4 hc0 hc1 x y)]
  unfold kernelRun0_A
  dsimp only
  unfold kernelRun0_A.sl.HS0_1
  rw [View.canon_unit_zero off0]
  simp only [View.readAt_eq_ld, h1.read_unread, View.ld_unit_zero (S := S4096x512) off0]

/-- … and its block is that one's product. -/
theorem first (i : grid0.Coords) (a1 : Memref sig .tc .vmem S4096x512 .f32) (h1 : a1.IsWhole) (a2 : Memref sig .tc .vmem S4096x384 .bf16) (h2 : a2.IsWhole)
    (a3 : Memref sig .tc .vmem S512x384 .f32) (h3 : a3.IsWhole) (a4 : Memref sig .tc .vmem S4096x512 .bf16) (h4 : a4.IsWhole)
    (hc0 : cond0_0 i) (hc1 : cond0_1 i) (x : Vec Ideal S4096x512 .f32) (y : Vec Ideal S4096x384 .bf16) :
    out0_A_2 c i a1 h1 a2 h2 a3 h3 a4 h4 hc0 hc1 x y = k0_pay2 (k0_pay1 x) y := by
  unfold out0_A_2
  rw [View.read_writes_eq_canon _ _ _ (cover0_A_2 c i a1 h1 a2 h2 a3 h3 a4 h4 hc0 hc1 x y)]
  unfold kernelRun0_A
  dsimp only
  rw [View.canon_unit_zero off0]
  unfold kernelRun0_A.sl.v3 kernelRun0_A.sl.HS0_1
  rw [View.readCov_unit_zero (S := S4096x512) _ off0]
  simp only [View.readAt_eq_ld, h1.read_unread, h2.read_unread, View.ld_unit_zero (S := S4096x512) off0, View.ld_unit_zero (S := S4096x384) off0]

/-- A later point of the row multiplies what was kept. -/
theorem later (i : grid0.Coords) (a1 : Memref sig .tc .vmem S4096x512 .f32) (h1 : a1.IsWhole) (a2 : Memref sig .tc .vmem S4096x384 .bf16) (h2 : a2.IsWhole)
    (a3 : Memref sig .tc .vmem S512x384 .f32) (h3 : a3.IsWhole) (a4 : Memref sig .tc .vmem S4096x512 .bf16) (h4 : a4.IsWhole)
    (hc0 : ¬cond0_0 i) (hc1 : cond0_1 i) (x : Vec Ideal S4096x512 .f32) (y : Vec Ideal S4096x384 .bf16) (s : Vec Ideal S4096x512 .bf16) :
    out0_B_2 c i a1 h1 a2 h2 a3 h3 a4 h4 hc0 hc1 x y s = k0_pay2 s y := by
  unfold out0_B_2
  rw [View.read_writes_eq_canon _ _ _ (cover0_B_2 c i a1 h1 a2 h2 a3 h3 a4 h4 hc0 hc1 x y s)]
  unfold kernelRun0_B
  dsimp only
  rw [View.canon_unit_zero off0]
  simp only [View.readAt_eq_ld, h2.read_unread, h4.read_unread, View.ld_unit_zero (S := S4096x512) off0, View.ld_unit_zero (S := S4096x384) off0]

theorem idx0 : ∀ t : Fin cfg0.N, win0_0.index t 0 = 0 ∧ win0_0.index t 1 = t.val / 9 :=
  (by decide +kernel : ∀ t : Fin grid0.N, win0_0.index t 0 = 0 ∧ win0_0.index t 1 = t.val / 9)
theorem idx1 : ∀ t : Fin cfg0.N, win0_1.index t 0 = 0 ∧ win0_1.index t 1 = t.val % 9 :=
  (by decide +kernel : ∀ t : Fin grid0.N, win0_1.index t 0 = 0 ∧ win0_1.index t 1 = t.val % 9)
theorem idx2 : ∀ t : Fin cfg0.N, win0_2.index t 0 = t.val / 9 ∧ win0_2.index t 1 = t.val % 9 :=
  (by decide +kernel : ∀ t : Fin grid0.N, win0_2.index t 0 = t.val / 9 ∧ win0_2.index t 1 = t.val % 9)

/-- The first operand's array, at natural indices. -/
abbrev A (k i : ℕ) : EReal := at2 (M := 4096) (K := 1024) (V (F := Ideal) m c (Pipeline.arrRef spec0 0)) k i
/-- The second operand's array, at natural indices. -/
abbrev B (k j : ℕ) : EReal := at2 (M := 4096) (K := 3456) (V (F := Ideal) m c (Pipeline.arrRef spec0 1)) k j

/-- The first operand's block at a point. -/
abbrev X (t : Fin cfg0.N) : Vec Ideal S4096x512 .f32 := iblk (F := Ideal) m c 0 t
/-- The second operand's block at a point. -/
abbrev Y (t : Fin cfg0.N) : Vec Ideal S4096x384 .bf16 := iblk (F := Ideal) m c 1 t

theorem blkA (t : Fin cfg0.N) (k : Fin 4096) (i : Fin 512) : X m c t (ix2 k i) = A m c k.val (512 * (t.val / 9) + i.val) := by
  obtain ⟨h0, h1⟩ := idx0 t
  refine at2_idx (M := 4096) (K := 1024) (V (F := Ideal) m c (Pipeline.arrRef spec0 0)) _ ?_ ?_
  · show win0_0.index t 0 * 4096 + 1 * k.val = k.val
    omega
  · show win0_0.index t 1 * 512 + 1 * i.val = 512 * (t.val / 9) + i.val
    omega

theorem blkB (t : Fin cfg0.N) (k : Fin 4096) (j : Fin 384) : Y m c t (ix2 k j) = B m c k.val (384 * (t.val % 9) + j.val) := by
  obtain ⟨h0, h1⟩ := idx1 t
  refine at2_idx (M := 4096) (K := 3456) (V (F := Ideal) m c (Pipeline.arrRef spec0 1)) _ ?_ ?_
  · show win0_1.index t 0 * 4096 + 1 * k.val = k.val
    omega
  · show win0_1.index t 1 * 384 + 1 * j.val = 384 * (t.val % 9) + j.val
    omega

theorem blkO (o : Buf (Elt Ideal) ((c : Thread nD τ).loc (Pipeline.arrRef spec0 2))) (t : Fin cfg0.N) (i : Fin 512) (j : Fin 384) (i' : Fin 1024) (j' : Fin 3456)
    (hi : i'.val = 512 * (t.val / 9) + i.val) (hj : j'.val = 384 * (t.val % 9) + j.val) :
    ((cfg0.win 2).blk t).view.read (Elt Ideal) o (ix2 i j) = o (ix2 i' j') := by
  obtain ⟨h0, h1⟩ := idx2 t
  refine entry_congr (M := 1024) (K := 3456) o _ i' j' ?_ ?_
  · show win0_2.index t 0 * 512 + 1 * i.val = i'.val
    omega
  · show win0_2.index t 1 * 384 + 1 * j.val = j'.val
    omega

/-- What is kept at a point: its row's first block. -/
theorem keeps (k : Fin 4096) (i : Fin 512) : ∀ (n : ℕ) (h : n < cfg0.N),
    (outsAt0 (F := Ideal) m c n h).2 (ix2 k i) = A m c k.val (512 * (n / 9) + i.val) := by
  refine kept_row (p := 9) (fun n h => (outsAt0 (F := Ideal) m c n h).2 (ix2 k i)) (fun q => A m c k.val (512 * (q) + i.val)) (fun n h h0 => ?_) (fun n h h0 => ?_)
  · rw [outsAt0_A m c ⟨n, h⟩ h0]
    dsimp only
    rw [kept]
    exact (pay1_apply _ k i).trans (blkA m c ⟨n, h⟩ k i)
  · rw [show outsAt0 m c (n + 1) h = _ from outsAt0_B m c ⟨n + 1, h⟩ h0]
    rfl

/-- A point's block is the product of its row's block and its own. -/
theorem outs (t : Fin cfg0.N) (i : Fin 512) (j : Fin 384) :
    (outsAt0 (F := Ideal) m c t.val t.isLt).1 (ix2 i j)
      = ∑ k : Fin 4096, A m c k.val (512 * (t.val / 9) + i.val) * B m c k.val (384 * (t.val % 9) + j.val) := by
  by_cases h0 : t.val % 9 = 0
  · rw [outsAt0_A m c t h0]
    dsimp only
    rw [first, pay2_apply]
    exact Finset.sum_congr rfl fun k _ => congrArg₂ (· * ·) ((pay1_apply _ k i).trans (blkA m c t k i)) (blkB m c t k j)
  · rw [outsAt0_B m c t h0]
    dsimp only
    rw [later, pay2_apply]
    refine Finset.sum_congr rfl fun k _ => congrArg₂ (· * ·) ((keeps m c k i (t.val - 1) _).trans ?_) (blkB m c t k j)
    rw [show (t.val - 1) / 9 = t.val / 9 by omega]

/-- The result array after the run. -/
theorem final (i : Fin 1024) (j : Fin 3456) :
    (dats (F := Ideal) m 0 c).arrAt 2 cfg0.N (ix2 i j) = ∑ k : Fin 4096, A m c k.val i.val * B m c k.val j.val := by
  have hi := i.isLt
  have hj := j.isLt
  let t : Fin cfg0.N := ⟨9 * (i.val / 512) + j.val / 384, by show _ < 18; omega⟩
  have ht : t.val = 9 * (i.val / 512) + j.val / 384 := rfl
  let r : Fin 512 := ⟨i.val % 512, Nat.mod_lt _ (by decide)⟩
  let s : Fin 384 := ⟨j.val % 384, Nat.mod_lt _ (by decide)⟩
  have er : 512 * (t.val / 9) + r.val = i.val := by show 512 * (t.val / 9) + i.val % 512 = i.val; omega
  have es : 384 * (t.val % 9) + s.val = j.val := by show 384 * (t.val % 9) + j.val % 384 = j.val; omega
  refine (blkO c ((dats (F := Ideal) m 0 c).arrAt 2 cfg0.N) t r s i j er.symm es.symm).symm.trans ?_
  refine (congrFun (blocks2 m c t (flush0_2 t)) (ix2 r s)).trans ?_
  rw [flushed2]
  refine (outs m c t r s).trans ?_
  rw [er, es]

/-- The reference's result. -/
abbrev ref (a : FVec Ideal S4096x1024 .f32) (b : FVec Ideal S4096x3456 .bf16) : FVec Ideal S1024x3456 .f32 :=
  transpose S1024x3456 [1, 0] (Host.dotGeneral Cert.Reference16Ideal.dot_S4096x3456_S4096x1024_S3456x1024_0_0_1_1_n_n none (extf .f32 b bitsLt_bf16_f32) a) Cert.Reference16Ideal.Gen.transposes_S3456x1024_S1024x3456_1_0

theorem ref_apply (a : FVec Ideal S4096x1024 .f32) (b : FVec Ideal S4096x3456 .bf16) (i : Fin 1024) (j : Fin 3456) :
    ref a b (ix2 i j) = ∑ k : Fin 4096, b (ix2 k j) * a (ix2 k i) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 1024) (j : Fin 3456), x = ix2 i j := ⟨_, _, eq_ix2 x⟩
  refine (final m c i j).trans (Eq.trans ?_ (ref_apply _ _ i j).symm)
  simp only [A, B, at2_val]
  exact sum_swap _ _

end Cert.Kernel16Ideal.Mm

namespace Cert.Proof

/-- The reference's frame. -/
theorem frame_ref16 : Cert.quiescent_Reference16Ideal := by
  intro m ρ _
  exact (θ_run Cert.Reference16Ideal.defs _ _).mono
    (fun r h => ⟨fun c => (h c).2, sem_eq_zero_of_no_sems (by decide) r.2⟩)
    (Cert.Reference16Ideal.Value.run (F := Ideal) m ρ)

/-- The kernel's gradient is the reference's. -/
theorem algebraic16 : Cert.algebraic_Kernel16Ideal_Reference16Ideal := by
  intro m ρ m' ρ' _ hag
  refine ⟨fun c => (Cert.Kernel16Ideal.Gen.dats (F := Ideal) m 0 c).arrAt 2 Cert.Kernel16Ideal.cfg0.N, Cert.Kernel16Ideal.Value.run_blocks (F := Ideal) m ρ,
    (θ_run Cert.Reference16Ideal.defs _ _).mono (fun r h c => ?_) (Cert.Reference16Ideal.Value.run (F := Ideal) m' ρ')⟩
  obtain ⟨g0, g1⟩ := hag c
  refine ⟨(h c).1.trans ?_, (h c).2⟩
  rw [g0, g1]
  exact (Cert.Kernel16Ideal.Mm.value m c).symm

end Cert.Proof

end
-- ==== Proof.Mm.L0Dx.lean ====
/-
  The gradient of layer 0's input projection's input, added to the gradient so far: one block of rows at a point,
  the weight's columns regrouped and padded before the launch.
-/
module

public import proofs.«01_k».proof.Proof.Mm.Sums
public import Idealize.ShloMosaic.Lib.StableHlo.RunRead
public import proofs.«01_k».proof.Proof.Gen.Kernel17Ideal.Value
public import proofs.«01_k».proof.Proof.Gen.Reference17Ideal.Run
public import proofs.«01_k».proof.Defs

@[expose] public section

set_option maxRecDepth 16384

noncomputable section

open Idealize.ShloMosaic Idealize.ShloMosaic.TcCoe Idealize.SL.Sem

namespace Cert.Kernel17Ideal.Mm

open Cert.Mm Cert.Kernel17Ideal Cert.Kernel17Ideal.Gen Cert.Kernel17Ideal.Value

variable (m : (ℓ : Loc nD τ sig) → Buf (Elt Ideal) ℓ) (c : Dev nD)

theorem pay1_apply (a : Vec Ideal S256x3456 .bf16) (b : Vec Ideal S1024x3456 .bf16) (d : Vec Ideal S256x1024 .f32) (i : Fin 256) (j : Fin 1024) :
    k0_pay1 (F := Ideal) a b d (ix2 i j) = (∑ k : Fin 3456, a (ix2 i k) * b (ix2 j k)) + d (ix2 i j) := by
  pointwise [k0_pay1]

/-- A point's block is the product of its blocks, and what is added. -/
theorem one (i : grid0.Coords) (a1 : Memref sig .tc .vmem S256x3456 .bf16) (h1 : a1.IsWhole) (a2 : Memref sig .tc .vmem S1024x3456 .bf16) (h2 : a2.IsWhole)
    (a3 : Memref sig .tc .vmem S256x1024 .f32) (h3 : a3.IsWhole) (a4 : Memref sig .tc .vmem S256x1024 .f32) (h4 : a4.IsWhole) (hc0 : cond0_0 i)
    (x : Vec Ideal S256x3456 .bf16) (y : Vec Ideal S1024x3456 .bf16) (z : Vec Ideal S256x1024 .f32) :
    out0_A_3 c i a1 h1 a2 h2 a3 h3 a4 h4 hc0 x y z = k0_pay1 x y z := by
  unfold out0_A_3
  rw [View.read_writes_eq_canon _ _ _ (cover0_A_3 c i a1 h1 a2 h2 a3 h3 a4 h4 hc0 x y z)]
  unfold kernelRun0_A
  dsimp only
  rw [View.canon_unit_zero off0]
  simp only [View.readAt_eq_ld, h1.read_unread, h2.read_unread, h3.read_unread,
    View.ld_unit_zero (S := S256x3456) off0, View.ld_unit_zero (S := S1024x3456) off0, View.ld_unit_zero (S := S256x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- The first operand's array, at natural indices. -/
abbrev A (i k : ℕ) : EReal := at2 (M := 4096) (K := 3456) (V (F := Ideal) m c (Pipeline.arrRef spec0 0)) i k
/-- The second operand's array, at natural indices. -/
abbrev B (j k : ℕ) : EReal := at2 (M := 1024) (K := 3456) (V (F := Ideal) m c (Pipeline.arrRef spec0 1)) j k
/-- The third operand's array, at natural indices. -/
abbrev D (i j : ℕ) : EReal := at2 (M := 4096) (K := 1024) (V (F := Ideal) m c (Pipeline.arrRef spec0 2)) i j

/-- The first operand's block at a point. -/
abbrev X (t : Fin cfg0.N) : Vec Ideal S256x3456 .bf16 := iblk (F := Ideal) m c 0 t
/-- The second operand's block at a point. -/
abbrev Y (t : Fin cfg0.N) : Vec Ideal S1024x3456 .bf16 := iblk (F := Ideal) m c 1 t
/-- The third operand's block at a point. -/
abbrev Z (t : Fin cfg0.N) : Vec Ideal S256x1024 .f32 := iblk (F := Ideal) m c 2 t

theorem blkA (t : Fin cfg0.N) (i : Fin 256) (k : Fin 3456) : X m c t (ix2 i k) = A m c (256 * t.val + i.val) k.val := by
  obtain ⟨h0, h1⟩ := idx0 t
  refine at2_idx (M := 4096) (K := 3456) (V (F := Ideal) m c (Pipeline.arrRef spec0 0)) _ ?_ ?_
  · show win0_0.index t 0 * 256 + 1 * i.val = 256 * t.val + i.val
    omega
  · show win0_0.index t 1 * 3456 + 1 * k.val = k.val
    omega

theorem blkB (t : Fin cfg0.N) (j : Fin 1024) (k : Fin 3456) : Y m c t (ix2 j k) = B m c j.val k.val := by
  obtain ⟨h0, h1⟩ := idx1 t
  refine at2_idx (M := 1024) (K := 3456) (V (F := Ideal) m c (Pipeline.arrRef spec0 1)) _ ?_ ?_
  · show win0_1.index t 0 * 1024 + 1 * j.val = j.val
    omega
  · show win0_1.index t 1 * 3456 + 1 * k.val = k.val
    omega

theorem blkD (t : Fin cfg0.N) (i : Fin 256) (j : Fin 1024) : Z m c t (ix2 i j) = D m c (256 * t.val + i.val) j.val := by
  obtain ⟨h0, h1⟩ := idx2 t
  refine at2_idx (M := 4096) (K := 1024) (V (F := Ideal) m c (Pipeline.arrRef spec0 2)) _ ?_ ?_
  · show win0_2.index t 0 * 256 + 1 * i.val = 256 * t.val + i.val
    omega
  · show win0_2.index t 1 * 1024 + 1 * j.val = j.val
    omega

theorem blkO (o : Buf (Elt Ideal) ((c : Thread nD τ).loc (Pipeline.arrRef spec0 3))) (t : Fin cfg0.N) (i : Fin 256) (j : Fin 1024) (i' : Fin 4096)
    (hi : i'.val = 256 * t.val + i.val) :
    ((cfg0.win 3).blk t).view.read (Elt Ideal) o (ix2 i j) = o (ix2 i' j) := by
  obtain ⟨h0, h1⟩ := idx3 t
  refine entry_congr (M := 4096) (K := 1024) o _ i' j ?_ ?_
  · show win0_3.index t 0 * 256 + 1 * i.val = i'.val
    omega
  · show win0_3.index t 1 * 1024 + 1 * j.val = j.val
    omega

/-- The result array after the run. -/
theorem final (i : Fin 4096) (j : Fin 1024) :
    (dats (F := Ideal) m 0 c).arrAt 3 cfg0.N (ix2 i j) = (∑ k : Fin 3456, A m c i.val k.val * B m c j.val k.val) + D m c i.val j.val := by
  have hi := i.isLt
  let t : Fin cfg0.N := ⟨i.val / 256, by show _ < 16; omega⟩
  have ht : t.val = i.val / 256 := rfl
  let r : Fin 256 := ⟨i.val % 256, Nat.mod_lt _ (by decide)⟩
  have er : 256 * t.val + r.val = i.val := by show 256 * t.val + i.val % 256 = i.val; omega
  refine (blkO c ((dats (F := Ideal) m 0 c).arrAt 3 cfg0.N) t r j i er.symm).symm.trans ?_
  refine (congrFun (blocks3 m c t (flush0_3 t)) (ix2 r j)).trans ?_
  rw [flushed3_A, one]
  refine (pay1_apply (X m c t) (Y m c t) (Z m c t) r j).trans ?_
  simp only [blkA, blkB, blkD, er]

/-- The regrouped and padded weight, as the launch finds it. -/
theorem host (k : Fin 1024) (j : Fin 3456) :
    B m c k.val j.val
      = at2 (M := 1024) (K := 3336) (m (c, Proc.tc.devRef main_arg1)) k.val (col j.val) := by
  have e : V (F := Ideal) m c (Pipeline.arrRef spec0 1) = concatenate S1024x3456 1 [⟨S1024x1536, (extractStridedSlice S1024x1536 ![0, 0] (truncf .bf16 (m (c, Proc.tc.devRef main_arg1) : FVec Ideal S1024x3336 .f32) bitsLt_bf16_f32 : FVec Ideal S1024x3336 .bf16) slices_S1024x3336_S1024x1536_0_0 : FVec Ideal S1024x1536 .bf16)⟩,
      ⟨S1024x1536, (extractStridedSlice S1024x1536 ![0, 1792] (truncf .bf16 (m (c, Proc.tc.devRef main_arg1) : FVec Ideal S1024x3336 .f32) bitsLt_bf16_f32 : FVec Ideal S1024x3336 .bf16) slices_S1024x3336_S1024x1536_0_1792 : FVec Ideal S1024x1536 .bf16)⟩,
      ⟨S1024x256, (extractStridedSlice S1024x256 ![0, 1536] (truncf .bf16 (m (c, Proc.tc.devRef main_arg1) : FVec Ideal S1024x3336 .f32) bitsLt_bf16_f32 : FVec Ideal S1024x3336 .bf16) slices_S1024x3336_S1024x256_0_1536 : FVec Ideal S1024x256 .bf16)⟩,
      ⟨S1024x8, (extractStridedSlice S1024x8 ![0, 3328] (truncf .bf16 (m (c, Proc.tc.devRef main_arg1) : FVec Ideal S1024x3336 .f32) bitsLt_bf16_f32 : FVec Ideal S1024x3336 .bf16) slices_S1024x3336_S1024x8_0_3328 : FVec Ideal S1024x8 .bf16)⟩,
      ⟨S1024x120, (broadcastInDim S1024x120 ![] bcast_S_S1024x120 (constant S_ .bf16 0x0000#16) : FVec Ideal S1024x120 .bf16)⟩] concatenates_S1024x1536_S1024x1536_S1024x256_S1024x8_S1024x120_S1024x3456_d1 := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
    rfl
  rw [B, at2_val, e]
  pointwise
  have hj := j.isLt
  split_ifs <;> first
    | exact absurd rfl ‹¬(_ = _)›
    | exact at2_col _ k _ (by dsimp only; unfold col; split_ifs <;> omega)
    | exact (at2_right _ (by unfold col; split_ifs <;> omega)).symm

/-- The reference's result. -/
abbrev ref (a : FVec Ideal S4096x3456 .bf16) (b : FVec Ideal S1024x3336 .f32) (d : FVec Ideal S4096x1024 .f32) : FVec Ideal S4096x1024 .f32 :=
  addf d (Host.dotGeneral Cert.Reference17Ideal.dot_S4096x3336_S1024x3336_S4096x1024_1_1_0_0_n_n none
    (concatenate Cert.Reference17Ideal.S4096x3336 1 [⟨Cert.Reference17Ideal.S4096x1536, (extractStridedSlice Cert.Reference17Ideal.S4096x1536 ![0, 0] (extf .f32 a bitsLt_bf16_f32) Cert.Reference17Ideal.Gen.slices_S4096x3456_S4096x1536_0_0 : FVec Ideal Cert.Reference17Ideal.S4096x1536 .f32)⟩,
      ⟨Cert.Reference17Ideal.S4096x256, (extractStridedSlice Cert.Reference17Ideal.S4096x256 ![0, 3072] (extf .f32 a bitsLt_bf16_f32) Cert.Reference17Ideal.Gen.slices_S4096x3456_S4096x256_0_3072 : FVec Ideal Cert.Reference17Ideal.S4096x256 .f32)⟩,
      ⟨Cert.Reference17Ideal.S4096x1536, (extractStridedSlice Cert.Reference17Ideal.S4096x1536 ![0, 1536] (extf .f32 a bitsLt_bf16_f32) Cert.Reference17Ideal.Gen.slices_S4096x3456_S4096x1536_0_1536 : FVec Ideal Cert.Reference17Ideal.S4096x1536 .f32)⟩,
      ⟨Cert.Reference17Ideal.S4096x8, (extractStridedSlice Cert.Reference17Ideal.S4096x8 ![0, 3328] (extf .f32 a bitsLt_bf16_f32) Cert.Reference17Ideal.Gen.slices_S4096x3456_S4096x8_0_3328 : FVec Ideal Cert.Reference17Ideal.S4096x8 .f32)⟩] Cert.Reference17Ideal.Gen.concatenates_S4096x1536_S4096x256_S4096x1536_S4096x8_S4096x3336_d1 : FVec Ideal Cert.Reference17Ideal.S4096x3336 .f32) b)

theorem ref_apply (a : FVec Ideal S4096x3456 .bf16) (b : FVec Ideal S1024x3336 .f32) (d : FVec Ideal S4096x1024 .f32) (i : Fin 4096) (j : Fin 1024) :
    ref a b d (ix2 i j) = (∑ k : Fin 3456, a (ix2 i k) * at2 b j.val (col k.val)) + d (ix2 i j) := by
  have e : ∀ k : Fin 3456, a (ix2 i k) * at2 b j.val (col k.val) = at2 a i.val k.val * at2 b j.val (col k.val) := fun k => by rw [at2_val]
  simp only [e]
  rw [sum_axis (fun k => at2 a i.val k * at2 b j.val (col k)), sum_col (at2 a i.val) fun k h => at2_right b h, ← sum_axis]
  pointwise [ref]
  rw [add_comm]
  refine congrArg (· + _) (Finset.sum_congr rfl fun k _ => congrArg₂ (· * ·) ?_ (at2_val b j k).symm)
  have hk := k.isLt
  split_ifs <;> exact at2_place a i _ (by dsimp only; unfold place; split_ifs <;> omega)

/-- The kernel's result is the reference's. -/
theorem value : (dats (F := Ideal) m 0 c).arrAt 3 cfg0.N
    = ref (m (c, Proc.tc.devRef main_arg0)) (m (c, Proc.tc.devRef main_arg1)) (m (c, Proc.tc.devRef main_arg2)) := by
  funext x
  obtain ⟨i, j, rfl⟩ : ∃ (i : Fin 4096) (j : Fin 1024), x = ix2 i j := ⟨_, _, eq_ix2 x⟩
  refine (final m c i j).trans (Eq.trans ?_ (ref_apply _ _ _ i j).symm)
  exact congrArg₂ (fun x y : EReal => x + y) (sum_mul_congr (fun k => at2_val _ i k) fun k => host m c j k) (at2_val _ i j)

end Cert.Kernel17Ideal.Mm

namespace Cert.Proof

/-- The reference's frame. -/
theorem frame_ref17 : Cert.quiescent_Reference17Ideal := by
  intro m ρ _
  exact (θ_run Cert.Reference17Ideal.defs _ _).mono
    (fun r h => ⟨fun c => (h c).2, sem_eq_zero_of_no_sems (by decide) r.2⟩)
    (Cert.Reference17Ideal.Value.run (F := Ideal) m ρ)

/-- The kernel's gradient is the reference's. -/
theorem algebraic17 : Cert.algebraic_Kernel17Ideal_Reference17Ideal := by
  intro m ρ m' ρ' _ hag
  refine ⟨fun c => (Cert.Kernel17Ideal.Gen.dats (F := Ideal) m 0 c).arrAt 3 Cert.Kernel17Ideal.cfg0.N, Cert.Kernel17Ideal.Value.run_blocks (F := Ideal) m ρ,
    (θ_run Cert.Reference17Ideal.defs _ _).mono (fun r h c => ?_) (Cert.Reference17Ideal.Value.run (F := Ideal) m' ρ')⟩
  obtain ⟨g0, g1, g2⟩ := hag c
  refine ⟨(h c).1.trans ?_, (h c).2⟩
  rw [g0, g1, g2]
  exact (Cert.Kernel17Ideal.Mm.value m c).symm

end Cert.Proof

end
-- ==== Proof.Mm.L0OutA.lean ====
/-
  Layer 0's output projection of its first mixer's output: one block of rows at a point, the weight's
  rows read where they lie.
-/
module

public import proofs.«01_k».proof.Proof.Mm.Sums
public import Idealize.ShloMosaic.Lib.StableHlo.RunRead
public import proofs.«01_k».proof.Proof.Gen.Kernel18Ideal.Value
public import proofs.«01_k».proof.Proof.Gen.Reference18Ideal.Run
public import proofs.«01_k».proof.Defs

@[expose] public section

set_option maxRecDepth 16384

noncomputable section

open Idealize.ShloMosaic Idealize.ShloMosaic.TcCoe Idealize.SL.Sem

namespace Cert.Kernel18Ideal.Mm

open Cert.Mm Cert.Kernel18Ideal Cert.Kernel18Ideal.Gen Cert.Kernel18Ideal.Value

variable (m : (ℓ : Loc nD τ sig) → Buf (Elt Ideal) ℓ) (c : Dev nD)

theorem pay1_apply (a : Vec Ideal S2048x512 .f32) (b : Vec Ideal S512x1024 .bf16) (i : Fin 2048) (j : Fin 1024) :
    k0_pay1 (F := Ideal) a b (ix2 i j) = ∑ k : Fin 512, a (ix2 i k) * b (ix2 k j) := by
  pointwise [k0_pay1]

/-- A point's block is the product of its blocks. -/
theorem one (i : grid0.Coords) (a1 : Memref sig .tc .vmem S2048x512 .f32) (h1 : a1.IsWhole) (a2 : Memref sig .tc .vmem S512x1024 .bf16) (h2 : a2.IsWhole)
    (a3 : Memref sig .tc .vmem S2048x1024 .f32) (h3 : a3.IsWhole) (hc0 : cond0_0 i)
    (x : Vec Ideal S2048x512 .f32) (y : Vec Ideal S512x1024 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S2048x512) off0, View.ld_unit_zero (S := S512x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 512) (V (F := Ideal) m c (Pipeline.arrRef spec0 0)) i k
/-- The second operand's array, at natural indices. -/
abbrev B (k j : ℕ) : EReal := at2 (M := 1024) (K := 1024) (V (F := Ideal) m c (Pipeline.arrRef spec0 1)) k j

/-- The first operand's block at a point. -/
abbrev X (t : Fin cfg0.N) : Vec Ideal S2048x512 .f32 := iblk (F := Ideal) m c 0 t
/-- The second operand's block at a point. -/
abbrev Y (t : Fin cfg0.N) : Vec Ideal S512x1024 .bf16 := iblk (F := Ideal) m c 1 t

theorem blkA (t : Fin cfg0.N) (i : Fin 2048) (k : Fin 512) : X m c t (ix2 i k) = A m c (2048 * t.val + i.val) k.val := by
  obtain ⟨h0, h1⟩ := idx0 t
  refine at2_idx (M := 4096) (K := 512) (V (F := Ideal) m c (Pipeline.arrRef spec0 0)) _ ?_ ?_
  · show win0_0.index t 0 * 2048 + 1 * i.val = 2048 * t.val + i.val
    omega
  · show win0_0.index t 1 * 512 + 1 * k.val = k.val
    omega

theorem blkB (t : Fin cfg0.N) (k : Fin 512) (j : Fin 1024) : Y m c t (ix2 k j) = B m c k.val j.val := by
  obtain ⟨h0, h1⟩ := idx1 t
  refine at2_idx (M := 1024) (K := 1024) (V (F := Ideal) m c (Pipeline.arrRef spec0 1)) _ ?_ ?_
  · show win0_1.index t 0 * 512 + 1 * k.val = k.val
    omega
  · show win0_1.index t 1 * 1024 + 1 * j.val = j.val
    omega

theorem blkO (o : Buf (Elt Ideal) ((c : Thread nD τ).loc (Pipeline.arrRef spec0 2))) (t : Fin cfg0.N) (i : Fin 2048) (j : Fin 1024) (i' : Fin 4096)
    (hi : i'.val = 2048 * t.val + i.val) :
    ((cfg0.win 2).blk t).view.read (Elt Ideal) o (ix2 i j) = o (ix2 i' j) := by
  obtain ⟨h0, h1⟩ := idx2 t
  refine entry_congr (M := 4096) (K := 1024) o _ i' j ?_ ?_
  · show win0_2.index t 0 * 2048 + 1 * i.val = i'.val
    omega
  · show win0_2.index t 1 * 1024 + 1 * j.val = j.val
    omega

/-- The result array after the run. -/
theorem final (i : Fin 4096) (j : Fin 1024) :
    (dats (F := Ideal) m 0 c).arrAt 2 cfg0.N (ix2 i j) = ∑ k : Fin 512, A m c i.val k.val * B m c k.val j.val := by
  have hi := i.isLt
  let t : Fin cfg0.N := ⟨i.val / 2048, by show _ < 2; omega⟩
  have ht : t.val = i.val / 2048 := rfl
  let r : Fin 2048 := ⟨i.val % 2048, Nat.mod_lt _ (by decide)⟩
  have er : 2048 * t.val + r.val = i.val := by show 2048 * t.val + i.val % 2048 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The second operand, as the launch finds it: the weight, whose cast keeps every entry. -/
theorem host : B m c = at2 (M := 1024) (K := 1024) (m (c, Proc.tc.devRef main_arg1)) := by
  have e : V (F := Ideal) m c (Pipeline.arrRef spec0 1) = (truncf .bf16 (m (c, Proc.tc.devRef main_arg1) : FVec Ideal S1024x1024 .f32) bitsLt_bf16_f32 : FVec Ideal S1024x1024 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x512 .f32) (b : FVec Ideal S1024x1024 .f32) : FVec Ideal S4096x1024 .f32 :=
  Host.dotGeneral Cert.Reference18Ideal.dot_S4096x512_S512x1024_S4096x1024_1_0_0_1_n_n none a (extractStridedSlice Cert.Reference18Ideal.S512x1024 ![0, 0] b Cert.Reference18Ideal.Gen.slices_S1024x1024_S512x1024_0_0 : FVec Ideal Cert.Reference18Ideal.S512x1024 .f32)

theorem ref_apply (a : FVec Ideal S4096x512 .f32) (b : FVec Ideal S1024x1024 .f32) (i : Fin 4096) (j : Fin 1024) :
    ref a b (ix2 i j) = ∑ k : Fin 512, a (ix2 i k) * at2 b k.val j.val := by
  pointwise [ref]
  exact Finset.sum_congr rfl fun k _ => congrArg (_ * ·) (at2_eq b _ j.isLt).symm

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 1024), x = ix2 i j := ⟨_, _, eq_ix2 x⟩
  refine (final m c i j).trans (Eq.trans ?_ (ref_apply _ _ i j).symm)
  rw [host]
  simp only [A, at2_val]
  rfl

end Cert.Kernel18Ideal.Mm

namespace Cert.Proof

/-- The reference's frame. -/
theorem frame_ref18 : Cert.quiescent_Reference18Ideal := by
  intro m ρ _
  exact (θ_run Cert.Reference18Ideal.defs _ _).mono
    (fun r h => ⟨fun c => (h c).2, sem_eq_zero_of_no_sems (by decide) r.2⟩)
    (Cert.Reference18Ideal.Value.run (F := Ideal) m ρ)

/-- The kernel's product is the reference's. -/
theorem algebraic18 : Cert.algebraic_Kernel18Ideal_Reference18Ideal := by
  intro m ρ m' ρ' _ hag
  refine ⟨fun c => (Cert.Kernel18Ideal.Gen.dats (F := Ideal) m 0 c).arrAt 2 Cert.Kernel18Ideal.cfg0.N, Cert.Kernel18Ideal.Value.run_blocks (F := Ideal) m ρ,
    (θ_run Cert.Reference18Ideal.defs _ _).mono (fun r h c => ?_) (Cert.Reference18Ideal.Value.run (F := Ideal) m' ρ')⟩
  obtain ⟨g0, g1⟩ := hag c
  refine ⟨(h c).1.trans ?_, (h c).2⟩
  rw [g0, g1]
  exact (Cert.Kernel18Ideal.Mm.value m c).symm

end Cert.Proof

end
-- ==== Proof.Mm.L0OutB.lean ====
/-
  Layer 0's output projection of its second mixer's output, added to the first's: one block of rows at a point, the weight's
  rows read where they lie.
-/
module

public import proofs.«01_k».proof.Proof.Mm.Sums
public import Idealize.ShloMosaic.Lib.StableHlo.RunRead
public import proofs.«01_k».proof.Proof.Gen.Kernel19Ideal.Value
public import proofs.«01_k».proof.Proof.Gen.Reference19Ideal.Run
public import proofs.«01_k».proof.Defs

@[expose] public section

set_option maxRecDepth 16384

noncomputable section

open Idealize.ShloMosaic Idealize.ShloMosaic.TcCoe Idealize.SL.Sem

namespace Cert.Kernel19Ideal.Mm

open Cert.Mm Cert.Kernel19Ideal Cert.Kernel19Ideal.Gen Cert.Kernel19Ideal.Value

variable (m : (ℓ : Loc nD τ sig) → Buf (Elt Ideal) ℓ) (c : Dev nD)

theorem pay1_apply (a : Vec Ideal S1024x512 .f32) (b : Vec Ideal S512x1024 .bf16) (d : Vec Ideal S1024x1024 .f32) (i : Fin 1024) (j : Fin 1024) :
    k0_pay1 (F := Ideal) a b d (ix2 i j) = (∑ k : Fin 512, a (ix2 i k) * b (ix2 k j)) + d (ix2 i j) := by
  pointwise [k0_pay1]

/-- A point's block is the product of its blocks, and what is added. -/
theorem one (i : grid0.Coords) (a1 : Memref sig .tc .vmem S1024x512 .f32) (h1 : a1.IsWhole) (a2 : Memref sig .tc .vmem S512x1024 .bf16) (h2 : a2.IsWhole)
    (a3 : Memref sig .tc .vmem S1024x1024 .f32) (h3 : a3.IsWhole) (a4 : Memref sig .tc .vmem S1024x1024 .f32) (h4 : a4.IsWhole) (hc0 : cond0_0 i)
    (x : Vec Ideal S1024x512 .f32) (y : Vec Ideal S512x1024 .bf16) (z : Vec Ideal S1024x1024 .f32) :
    out0_A_3 c i a1 h1 a2 h2 a3 h3 a4 h4 hc0 x y z = k0_pay1 x y z := by
  unfold out0_A_3
  rw [View.read_writes_eq_canon _ _ _ (cover0_A_3 c i a1 h1 a2 h2 a3 h3 a4 h4 hc0 x y z)]
  unfold kernelRun0_A
  dsimp only
  rw [View.canon_unit_zero off0]
  simp only [View.readAt_eq_ld, h1.read_unread, h2.read_unread, h3.read_unread,
    View.ld_unit_zero (S := S1024x512) off0, View.ld_unit_zero (S := S512x1024) off0, View.ld_unit_zero (S := S1024x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 1 ∧ win0_1.index t 1 = 0 :=
  (by decide +kernel : ∀ t : Fin grid0.N, win0_1.index t 0 = 1 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- The first operand's array, at natural indices. -/
abbrev A (i k : ℕ) : EReal := at2 (M := 4096) (K := 512) (V (F := Ideal) m c (Pipeline.arrRef spec0 0)) i k
/-- The second operand's array, at natural indices. -/
abbrev B (k j : ℕ) : EReal := at2 (M := 1024) (K := 1024) (V (F := Ideal) m c (Pipeline.arrRef spec0 1)) k j
/-- The third operand's array, at natural indices. -/
abbrev D (i j : ℕ) : EReal := at2 (M := 4096) (K := 1024) (V (F := Ideal) m c (Pipeline.arrRef spec0 2)) i j

/-- The first operand's block at a point. -/
abbrev X (t : Fin cfg0.N) : Vec Ideal S1024x512 .f32 := iblk (F := Ideal) m c 0 t
/-- The second operand's block at a point. -/
abbrev Y (t : Fin cfg0.N) : Vec Ideal S512x1024 .bf16 := iblk (F := Ideal) m c 1 t
/-- The third operand's block at a point. -/
abbrev Z (t : Fin cfg0.N) : Vec Ideal S1024x1024 .f32 := iblk (F := Ideal) m c 2 t

theorem blkA (t : Fin cfg0.N) (i : Fin 1024) (k : Fin 512) : X m c t (ix2 i k) = A m c (1024 * t.val + i.val) k.val := by
  obtain ⟨h0, h1⟩ := idx0 t
  refine at2_idx (M := 4096) (K := 512) (V (F := Ideal) m c (Pipeline.arrRef spec0 0)) _ ?_ ?_
  · show win0_0.index t 0 * 1024 + 1 * i.val = 1024 * t.val + i.val
    omega
  · show win0_0.index t 1 * 512 + 1 * k.val = k.val
    omega

theorem blkB (t : Fin cfg0.N) (k : Fin 512) (j : Fin 1024) : Y m c t (ix2 k j) = B m c (512 + k.val) j.val := by
  obtain ⟨h0, h1⟩ := idx1 t
  refine at2_idx (M := 1024) (K := 1024) (V (F := Ideal) m c (Pipeline.arrRef spec0 1)) _ ?_ ?_
  · show win0_1.index t 0 * 512 + 1 * k.val = 512 + k.val
    omega
  · show win0_1.index t 1 * 1024 + 1 * j.val = j.val
    omega

theorem blkD (t : Fin cfg0.N) (i : Fin 1024) (j : Fin 1024) : Z m c t (ix2 i j) = D m c (1024 * t.val + i.val) j.val := by
  obtain ⟨h0, h1⟩ := idx2 t
  refine at2_idx (M := 4096) (K := 1024) (V (F := Ideal) m c (Pipeline.arrRef spec0 2)) _ ?_ ?_
  · show win0_2.index t 0 * 1024 + 1 * i.val = 1024 * t.val + i.val
    omega
  · show win0_2.index t 1 * 1024 + 1 * j.val = j.val
    omega

theorem blkO (o : Buf (Elt Ideal) ((c : Thread nD τ).loc (Pipeline.arrRef spec0 3))) (t : Fin cfg0.N) (i : Fin 1024) (j : Fin 1024) (i' : Fin 4096)
    (hi : i'.val = 1024 * t.val + i.val) :
    ((cfg0.win 3).blk t).view.read (Elt Ideal) o (ix2 i j) = o (ix2 i' j) := by
  obtain ⟨h0, h1⟩ := idx3 t
  refine entry_congr (M := 4096) (K := 1024) o _ i' j ?_ ?_
  · show win0_3.index t 0 * 1024 + 1 * i.val = i'.val
    omega
  · show win0_3.index t 1 * 1024 + 1 * j.val = j.val
    omega

/-- The result array after the run. -/
theorem final (i : Fin 4096) (j : Fin 1024) :
    (dats (F := Ideal) m 0 c).arrAt 3 cfg0.N (ix2 i j) = (∑ k : Fin 512, A m c i.val k.val * B m c (512 + k.val) j.val) + D m c i.val j.val := by
  have hi := i.isLt
  let t : Fin cfg0.N := ⟨i.val / 1024, by show _ < 4; omega⟩
  have ht : t.val = i.val / 1024 := rfl
  let r : Fin 1024 := ⟨i.val % 1024, Nat.mod_lt _ (by decide)⟩
  have er : 1024 * t.val + r.val = i.val := by show 1024 * t.val + i.val % 1024 = i.val; omega
  refine (blkO c ((dats (F := Ideal) m 0 c).arrAt 3 cfg0.N) t r j i er.symm).symm.trans ?_
  refine (congrFun (blocks3 m c t (flush0_3 t)) (ix2 r j)).trans ?_
  rw [flushed3_A, one]
  refine (pay1_apply (X m c t) (Y m c t) (Z m c t) r j).trans ?_
  simp only [blkA, blkB, blkD, er]

/-- The second operand, as the launch finds it: the weight, whose cast keeps every entry. -/
theorem host : B m c = at2 (M := 1024) (K := 1024) (m (c, Proc.tc.devRef main_arg1)) := by
  have e : V (F := Ideal) m c (Pipeline.arrRef spec0 1) = (truncf .bf16 (m (c, Proc.tc.devRef main_arg1) : FVec Ideal S1024x1024 .f32) bitsLt_bf16_f32 : FVec Ideal S1024x1024 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x512 .f32) (b : FVec Ideal S1024x1024 .f32) (d : FVec Ideal S4096x1024 .f32) : FVec Ideal S4096x1024 .f32 :=
  addf d (Host.dotGeneral Cert.Reference19Ideal.dot_S4096x512_S512x1024_S4096x1024_1_0_0_1_n_n none a (extractStridedSlice Cert.Reference19Ideal.S512x1024 ![512, 0] b Cert.Reference19Ideal.Gen.slices_S1024x1024_S512x1024_512_0 : FVec Ideal Cert.Reference19Ideal.S512x1024 .f32))

theorem ref_apply (a : FVec Ideal S4096x512 .f32) (b : FVec Ideal S1024x1024 .f32) (d : FVec Ideal S4096x1024 .f32) (i : Fin 4096) (j : Fin 1024) :
    ref a b d (ix2 i j) = (∑ k : Fin 512, a (ix2 i k) * at2 b (512 + k.val) j.val) + d (ix2 i j) := by
  pointwise [ref]
  rw [add_comm]
  exact congrArg (· + _) (Finset.sum_congr rfl fun k _ => congrArg (_ * ·) (at2_eq b _ j.isLt).symm)

/-- The kernel's result is the reference's. -/
theorem value : (dats (F := Ideal) m 0 c).arrAt 3 cfg0.N
    = ref (m (c, Proc.tc.devRef main_arg0)) (m (c, Proc.tc.devRef main_arg1)) (m (c, Proc.tc.devRef main_arg2)) := by
  funext x
  obtain ⟨i, j, rfl⟩ : ∃ (i : Fin 4096) (j : Fin 1024), x = ix2 i j := ⟨_, _, eq_ix2 x⟩
  refine (final m c i j).trans (Eq.trans ?_ (ref_apply _ _ _ i j).symm)
  rw [host]
  simp only [A, D, at2_val]
  rfl

end Cert.Kernel19Ideal.Mm

namespace Cert.Proof

/-- The reference's frame. -/
theorem frame_ref19 : Cert.quiescent_Reference19Ideal := by
  intro m ρ _
  exact (θ_run Cert.Reference19Ideal.defs _ _).mono
    (fun r h => ⟨fun c => (h c).2, sem_eq_zero_of_no_sems (by decide) r.2⟩)
    (Cert.Reference19Ideal.Value.run (F := Ideal) m ρ)

/-- The kernel's product is the reference's. -/
theorem algebraic19 : Cert.algebraic_Kernel19Ideal_Reference19Ideal := by
  intro m ρ m' ρ' _ hag
  refine ⟨fun c => (Cert.Kernel19Ideal.Gen.dats (F := Ideal) m 0 c).arrAt 3 Cert.Kernel19Ideal.cfg0.N, Cert.Kernel19Ideal.Value.run_blocks (F := Ideal) m ρ,
    (θ_run Cert.Reference19Ideal.defs _ _).mono (fun r h c => ?_) (Cert.Reference19Ideal.Value.run (F := Ideal) m' ρ')⟩
  obtain ⟨g0, g1, g2⟩ := hag c
  refine ⟨(h c).1.trans ?_, (h c).2⟩
  rw [g0, g1, g2]
  exact (Cert.Kernel19Ideal.Mm.value m c).symm

end Cert.Proof

end
-- ==== Proof.Mm.L0Dwout.lean ====
/-
  The gradient of either half of layer 0's output projection. The kernel sums over the rows in two parts.
-/
module

public import proofs.«01_k».proof.Proof.Mm.Sums
public import Idealize.ShloMosaic.Lib.StableHlo.RunRead
public import proofs.«01_k».proof.Proof.Gen.Kernel20Ideal.Value
public import proofs.«01_k».proof.Proof.Gen.Reference20Ideal.Run
public import proofs.«01_k».proof.Defs

@[expose] public section

set_option maxRecDepth 16384

noncomputable section

open Idealize.ShloMosaic Idealize.ShloMosaic.TcCoe Idealize.SL.Sem

namespace Cert.Kernel20Ideal.Mm

open Cert.Mm Cert.Kernel20Ideal Cert.Kernel20Ideal.Gen Cert.Kernel20Ideal.Value

variable (m : (ℓ : Loc nD τ sig) → Buf (Elt Ideal) ℓ) (c : Dev nD)

theorem pay1_apply (a : Vec Ideal S2048x512 .f32) (b : Vec Ideal S2048x1024 .f32) (i : Fin 512) (j : Fin 1024) :
    k0_pay1 (F := Ideal) a b (ix2 i j) = ∑ k : Fin 2048, a (ix2 k i) * b (ix2 k j) := by
  pointwise [k0_pay1]

theorem pay2_apply (a : Vec Ideal S2048x512 .f32) (b : Vec Ideal S2048x1024 .f32) (o : Vec Ideal S512x1024 .f32) (i : Fin 512) (j : Fin 1024) :
    k0_pay2 (F := Ideal) a b o (ix2 i j) = o (ix2 i j) + ∑ k : Fin 2048, a (ix2 k i) * b (ix2 k j) := by
  rw [← pay1_apply]
  pointwise [k0_pay2]

/-- A first point's block is the product of its blocks. -/
theorem first (i : grid0.Coords) (a1 : Memref sig .tc .vmem S2048x512 .f32) (h1 : a1.IsWhole) (a2 : Memref sig .tc .vmem S2048x1024 .f32) (h2 : a2.IsWhole)
    (a3 : Memref sig .tc .vmem S512x1024 .f32) (h3 : a3.IsWhole)
    (hc0 : cond0_0 i) (hc1 : ¬cond0_1 i) (x : Vec Ideal S2048x512 .f32) (y : Vec Ideal S2048x1024 .f32) :
    out0_A_2 c i a1 h1 a2 h2 a3 h3 hc0 hc1 x y = k0_pay1 x y := by
  unfold out0_A_2
  rw [View.read_writes_eq_canon _ _ _ (cover0_A_2 c i a1 h1 a2 h2 a3 h3 hc0 hc1 x y)]
  unfold kernelRun0_A
  dsimp only
  rw [View.canon_unit_zero off0]
  simp only [View.readAt_eq_ld, h1.read_unread, h2.read_unread, View.ld_unit_zero (S := S2048x512) off0, View.ld_unit_zero (S := S2048x1024) off0]

/-- A later point adds the product of its blocks. -/
theorem later (i : grid0.Coords) (a1 : Memref sig .tc .vmem S2048x512 .f32) (h1 : a1.IsWhole) (a2 : Memref sig .tc .vmem S2048x1024 .f32) (h2 : a2.IsWhole)
    (a3 : Memref sig .tc .vmem S512x1024 .f32) (h3 : a3.IsWhole)
    (hc0 : ¬cond0_0 i) (hc1 : cond0_1 i) (x : Vec Ideal S2048x512 .f32) (y : Vec Ideal S2048x1024 .f32) (o : Vec Ideal S512x1024 .f32) :
    out0_B_2 c i a1 h1 a2 h2 a3 h3 hc0 hc1 x y o = k0_pay2 x y o := by
  unfold out0_B_2
  rw [View.read_writes_eq_canon _ _ _ (cover0_B_2 c i a1 h1 a2 h2 a3 h3 hc0 hc1 x y o)]
  unfold kernelRun0_B
  dsimp only
  rw [View.canon_unit_zero off0]
  simp only [View.readAt_eq_ld, h1.read_unread, h2.read_unread, h3.read_unread, View.ld_unit_zero (S := S2048x512) off0, View.ld_unit_zero (S := S2048x1024) off0, View.ld_unit_zero (S := S512x1024) off0]

theorem idx0 : ∀ t : Fin cfg0.N, win0_0.index t 0 = t.val % 2 ∧ win0_0.index t 1 = 0 :=
  (by decide +kernel : ∀ t : Fin grid0.N, win0_0.index t 0 = t.val % 2 ∧ win0_0.index t 1 = 0)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

/-- The first operand's array, at natural indices. -/
abbrev A (k i : ℕ) : EReal := at2 (M := 4096) (K := 512) (V (F := Ideal) m c (Pipeline.arrRef spec0 0)) k i
/-- The second operand's array, at natural indices. -/
abbrev B (k j : ℕ) : EReal := at2 (M := 4096) (K := 1024) (V (F := Ideal) m c (Pipeline.arrRef spec0 1)) k j

/-- The first operand's block at a point. -/
abbrev X (t : Fin cfg0.N) : Vec Ideal S2048x512 .f32 := iblk (F := Ideal) m c 0 t
/-- The second operand's block at a point. -/
abbrev Y (t : Fin cfg0.N) : Vec Ideal S2048x1024 .f32 := iblk (F := Ideal) m c 1 t

theorem blkA (t : Fin cfg0.N) (k : Fin 2048) (i : Fin 512) : X m c t (ix2 k i) = A m c (2048 * (t.val % 2) + k.val) i.val := by
  obtain ⟨h0, h1⟩ := idx0 t
  refine at2_idx (M := 4096) (K := 512) (V (F := Ideal) m c (Pipeline.arrRef spec0 0)) _ ?_ ?_
  · show win0_0.index t 0 * 2048 + 1 * k.val = 2048 * (t.val % 2) + k.val
    omega
  · show win0_0.index t 1 * 512 + 1 * i.val = i.val
    omega

theorem blkB (t : Fin cfg0.N) (k : Fin 2048) (j : Fin 1024) : Y m c t (ix2 k j) = B m c (2048 * (t.val % 2) + k.val) j.val := by
  obtain ⟨h0, h1⟩ := idx1 t
  refine at2_idx (M := 4096) (K := 1024) (V (F := Ideal) m c (Pipeline.arrRef spec0 1)) _ ?_ ?_
  · show win0_1.index t 0 * 2048 + 1 * k.val = 2048 * (t.val % 2) + k.val
    omega
  · show win0_1.index t 1 * 1024 + 1 * j.val = j.val
    omega

theorem blkO (o : Buf (Elt Ideal) ((c : Thread nD τ).loc (Pipeline.arrRef spec0 2))) (t : Fin cfg0.N) (i : Fin 512) (j : Fin 1024) :
    ((cfg0.win 2).blk t).view.read (Elt Ideal) o (ix2 i j) = o (ix2 i j) := by
  obtain ⟨h0, h1⟩ := idx2 t
  refine entry_congr (M := 512) (K := 1024) o _ i j ?_ ?_
  · show win0_2.index t 0 * 512 + 1 * i.val = i.val
    omega
  · show win0_2.index t 1 * 1024 + 1 * j.val = j.val
    omega

/-- A point's product, as a part of the whole sum. -/
theorem part (t : Fin cfg0.N) (i : Fin 512) (j : Fin 1024) :
    ∑ k : Fin 2048, X m c t (ix2 k i) * Y m c t (ix2 k j)
      = ∑ k ∈ Finset.range 2048, A m c (2048 * (t.val % 2) + k) i.val * B m c (2048 * (t.val % 2) + k) j.val := by
  rw [← sum_axis]
  exact Finset.sum_congr rfl fun k _ => by rw [blkA, blkB]

/-- The running sum: after a point the block holds the sum over the rows read so far. -/
theorem outs (i : Fin 512) (j : Fin 1024) : ∀ (n : ℕ) (h : n < cfg0.N),
    outsAt0 (F := Ideal) m c n h (ix2 i j)
      = ∑ k ∈ Finset.range (2048 * (n % 2 + 1)), A m c k i.val * B m c k j.val := by
  refine running (fun n h => outsAt0 (F := Ideal) m c n h (ix2 i j)) (fun _ k => A m c k i.val * B m c k j.val) (fun n h h0 => ?_) (fun n h h0 => ?_)
  · rw [outsAt0_A m c ⟨n, h⟩ h0 (by dsimp only; omega), first, pay1_apply, part]
  · rw [show outsAt0 m c (n + 1) h = _ from outsAt0_B m c ⟨n + 1, h⟩ h0 (by dsimp only; omega), later, pay2_apply, part]
    rfl

theorem apart : ∀ t t' : Fin cfg0.N, (cfg0.win 2).flush t = true → (cfg0.win 2).flush t' = true → t ≠ t' →
    Disjoint ((cfg0.win 2).blk t).view.set ((cfg0.win 2).blk t').view.set :=
  fun t t' hf hf' hne => (hne (by
    have g := (flush0_2 t).mp hf
    have g' := (flush0_2 t').mp hf'
    have b : t.val < 2 := t.isLt
    have b' : t'.val < 2 := t'.isLt
    exact Fin.ext (by omega))).elim

/-- The result array after the run. -/
theorem final (i : Fin 512) (j : Fin 1024) :
    (dats (F := Ideal) m 0 c).arrAt 2 cfg0.N (ix2 i j) = ∑ k ∈ Finset.range 4096, A m c k i.val * B m c k j.val := by
  let t : Fin cfg0.N := ⟨1, by show _ < 2; omega⟩
  have ht : t.val = 1 := rfl
  refine (blkO c ((dats (F := Ideal) m 0 c).arrAt 2 cfg0.N) t i j).symm.trans ?_
  refine (congrFun ((dats (F := Ideal) m 0 c).read_blk_arrAt_eq_flushed 2 apart cfg0.N t t.isLt ((flush0_2 t).mpr (by omega))) (ix2 i j)).trans ?_
  rw [flushed2]
  refine (outs m c i j t.val t.isLt).trans ?_
  rw [show 2048 * (t.val % 2 + 1) = 4096 by omega]

/-- The reference's result. -/
abbrev ref (a : FVec Ideal S4096x512 .f32) (b : FVec Ideal S4096x1024 .f32) : FVec Ideal S512x1024 .f32 :=
  transpose S512x1024 [1, 0] (Host.dotGeneral Cert.Reference20Ideal.dot_S4096x1024_S4096x512_S1024x512_0_0_1_1_n_n none b a) Cert.Reference20Ideal.Gen.transposes_S1024x512_S512x1024_1_0

theorem ref_apply (a : FVec Ideal S4096x512 .f32) (b : FVec Ideal S4096x1024 .f32) (i : Fin 512) (j : Fin 1024) :
    ref a b (ix2 i j) = ∑ k : Fin 4096, b (ix2 k j) * a (ix2 k i) := by
  pointwise [ref]

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 512) (j : Fin 1024), x = ix2 i j := ⟨_, _, eq_ix2 x⟩
  refine (final m c i j).trans ((sum_axis _).symm.trans ((Finset.sum_congr rfl fun k _ => ?_).trans (ref_apply _ _ i j).symm))
  rw [A, B, at2_val, at2_val, mul_comm]

end Cert.Kernel20Ideal.Mm

namespace Cert.Proof

/-- The reference's frame. -/
theorem frame_ref20 : Cert.quiescent_Reference20Ideal := by
  intro m ρ _
  exact (θ_run Cert.Reference20Ideal.defs _ _).mono
    (fun r h => ⟨fun c => (h c).2, sem_eq_zero_of_no_sems (by decide) r.2⟩)
    (Cert.Reference20Ideal.Value.run (F := Ideal) m ρ)

/-- The kernel's gradient is the reference's. -/
theorem algebraic20 : Cert.algebraic_Kernel20Ideal_Reference20Ideal := by
  intro m ρ m' ρ' _ hag
  refine ⟨fun c => (Cert.Kernel20Ideal.Gen.dats (F := Ideal) m 0 c).arrAt 2 Cert.Kernel20Ideal.cfg0.N, Cert.Kernel20Ideal.Value.run_blocks (F := Ideal) m ρ,
    (θ_run Cert.Reference20Ideal.defs _ _).mono (fun r h c => ?_) (Cert.Reference20Ideal.Value.run (F := Ideal) m' ρ')⟩
  obtain ⟨g0, g1⟩ := hag c
  refine ⟨(h c).1.trans ?_, (h c).2⟩
  rw [g0, g1]
  exact (Cert.Kernel20Ideal.Mm.value m c).symm

end Cert.Proof

end
-- ==== Proof.Mm.L0DyA.lean ====
/-
  The gradient of layer 0's first mixer's output: one block of rows at a point, the weight's rows read where they lie.
-/
module

public import proofs.«01_k».proof.Proof.Mm.Sums
public import Idealize.ShloMosaic.Lib.StableHlo.RunRead
public import proofs.«01_k».proof.Proof.Gen.Kernel21Ideal.Value
public import proofs.«01_k».proof.Proof.Gen.Reference21Ideal.Run
public import proofs.«01_k».proof.Defs

@[expose] public section

set_option maxRecDepth 16384

noncomputable section

open Idealize.ShloMosaic Idealize.ShloMosaic.TcCoe Idealize.SL.Sem

namespace Cert.Kernel21Ideal.Mm

open Cert.Mm Cert.Kernel21Ideal Cert.Kernel21Ideal.Gen Cert.Kernel21Ideal.Value

variable (m : (ℓ : Loc nD τ sig) → Buf (Elt Ideal) ℓ) (c : Dev nD)

theorem pay1_apply (a : Vec Ideal S2048x1024 .f32) (b : Vec Ideal S512x1024 .bf16) (i : Fin 2048) (j : Fin 512) :
    k0_pay1 (F := Ideal) a b (ix2 i j) = ∑ k : Fin 1024, a (ix2 i k) * b (ix2 j k) := by
  pointwise [k0_pay1]

/-- A point's block is the product of its blocks. -/
theorem one (i : grid0.Coords) (a1 : Memref sig .tc .vmem S2048x1024 .f32) (h1 : a1.IsWhole) (a2 : Memref sig .tc .vmem S512x1024 .bf16) (h2 : a2.IsWhole)
    (a3 : Memref sig .tc .vmem S2048x512 .f32) (h3 : a3.IsWhole) (hc0 : cond0_0 i)
    (x : Vec Ideal S2048x1024 .f32) (y : Vec Ideal S512x1024 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S2048x1024) off0, View.ld_unit_zero (S := S512x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 1024) (V (F := Ideal) m c (Pipeline.arrRef spec0 0)) i k
/-- The second operand's array, at natural indices. -/
abbrev B (j k : ℕ) : EReal := at2 (M := 1024) (K := 1024) (V (F := Ideal) m c (Pipeline.arrRef spec0 1)) j k

/-- The first operand's block at a point. -/
abbrev X (t : Fin cfg0.N) : Vec Ideal S2048x1024 .f32 := iblk (F := Ideal) m c 0 t
/-- The second operand's block at a point. -/
abbrev Y (t : Fin cfg0.N) : Vec Ideal S512x1024 .bf16 := iblk (F := Ideal) m c 1 t

theorem blkA (t : Fin cfg0.N) (i : Fin 2048) (k : Fin 1024) : X m c t (ix2 i k) = A m c (2048 * t.val + i.val) k.val := by
  obtain ⟨h0, h1⟩ := idx0 t
  refine at2_idx (M := 4096) (K := 1024) (V (F := Ideal) m c (Pipeline.arrRef spec0 0)) _ ?_ ?_
  · show win0_0.index t 0 * 2048 + 1 * i.val = 2048 * t.val + i.val
    omega
  · show win0_0.index t 1 * 1024 + 1 * k.val = k.val
    omega

theorem blkB (t : Fin cfg0.N) (j : Fin 512) (k : Fin 1024) : Y m c t (ix2 j k) = B m c j.val k.val := by
  obtain ⟨h0, h1⟩ := idx1 t
  refine at2_idx (M := 1024) (K := 1024) (V (F := Ideal) m c (Pipeline.arrRef spec0 1)) _ ?_ ?_
  · show win0_1.index t 0 * 512 + 1 * j.val = j.val
    omega
  · show win0_1.index t 1 * 1024 + 1 * k.val = k.val
    omega

theorem blkO (o : Buf (Elt Ideal) ((c : Thread nD τ).loc (Pipeline.arrRef spec0 2))) (t : Fin cfg0.N) (i : Fin 2048) (j : Fin 512) (i' : Fin 4096)
    (hi : i'.val = 2048 * t.val + i.val) :
    ((cfg0.win 2).blk t).view.read (Elt Ideal) o (ix2 i j) = o (ix2 i' j) := by
  obtain ⟨h0, h1⟩ := idx2 t
  refine entry_congr (M := 4096) (K := 512) o _ i' j ?_ ?_
  · show win0_2.index t 0 * 2048 + 1 * i.val = i'.val
    omega
  · show win0_2.index t 1 * 512 + 1 * j.val = j.val
    omega

/-- The result array after the run. -/
theorem final (i : Fin 4096) (j : Fin 512) :
    (dats (F := Ideal) m 0 c).arrAt 2 cfg0.N (ix2 i j) = ∑ k : Fin 1024, A m c i.val k.val * B m c j.val k.val := by
  have hi := i.isLt
  let t : Fin cfg0.N := ⟨i.val / 2048, by show _ < 2; omega⟩
  have ht : t.val = i.val / 2048 := rfl
  let r : Fin 2048 := ⟨i.val % 2048, Nat.mod_lt _ (by decide)⟩
  have er : 2048 * t.val + r.val = i.val := by show 2048 * t.val + i.val % 2048 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The second operand, as the launch finds it: the weight, whose cast keeps every entry. -/
theorem host : B m c = at2 (M := 1024) (K := 1024) (m (c, Proc.tc.devRef main_arg1)) := by
  have e : V (F := Ideal) m c (Pipeline.arrRef spec0 1) = (truncf .bf16 (m (c, Proc.tc.devRef main_arg1) : FVec Ideal S1024x1024 .f32) bitsLt_bf16_f32 : FVec Ideal S1024x1024 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x1024 .f32) (b : FVec Ideal S1024x1024 .f32) : FVec Ideal S4096x512 .f32 :=
  Host.dotGeneral Cert.Reference21Ideal.dot_S4096x1024_S512x1024_S4096x512_1_1_0_0_n_n none a (extractStridedSlice Cert.Reference21Ideal.S512x1024 ![0, 0] b Cert.Reference21Ideal.Gen.slices_S1024x1024_S512x1024_0_0 : FVec Ideal Cert.Reference21Ideal.S512x1024 .f32)

theorem ref_apply (a : FVec Ideal S4096x1024 .f32) (b : FVec Ideal S1024x1024 .f32) (i : Fin 4096) (j : Fin 512) :
    ref a b (ix2 i j) = ∑ k : Fin 1024, a (ix2 i k) * at2 b j.val k.val := by
  pointwise [ref]
  exact Finset.sum_congr rfl fun k _ => congrArg (_ * ·) (at2_eq b _ k.isLt).symm

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 512), x = ix2 i j := ⟨_, _, eq_ix2 x⟩
  refine (final m c i j).trans (Eq.trans ?_ (ref_apply _ _ i j).symm)
  rw [host]
  simp only [A, at2_val]
  rfl

end Cert.Kernel21Ideal.Mm

namespace Cert.Proof

/-- The reference's frame. -/
theorem frame_ref21 : Cert.quiescent_Reference21Ideal := by
  intro m ρ _
  exact (θ_run Cert.Reference21Ideal.defs _ _).mono
    (fun r h => ⟨fun c => (h c).2, sem_eq_zero_of_no_sems (by decide) r.2⟩)
    (Cert.Reference21Ideal.Value.run (F := Ideal) m ρ)

/-- The kernel's gradient is the reference's. -/
theorem algebraic21 : Cert.algebraic_Kernel21Ideal_Reference21Ideal := by
  intro m ρ m' ρ' _ hag
  refine ⟨fun c => (Cert.Kernel21Ideal.Gen.dats (F := Ideal) m 0 c).arrAt 2 Cert.Kernel21Ideal.cfg0.N, Cert.Kernel21Ideal.Value.run_blocks (F := Ideal) m ρ,
    (θ_run Cert.Reference21Ideal.defs _ _).mono (fun r h c => ?_) (Cert.Reference21Ideal.Value.run (F := Ideal) m' ρ')⟩
  obtain ⟨g0, g1⟩ := hag c
  refine ⟨(h c).1.trans ?_, (h c).2⟩
  rw [g0, g1]
  exact (Cert.Kernel21Ideal.Mm.value m c).symm

end Cert.Proof

end
-- ==== Proof.Mm.L0DyB.lean ====
/-
  The gradient of layer 0's second mixer's output: one block of rows at a point, the weight's rows read where they lie.
-/
module

public import proofs.«01_k».proof.Proof.Mm.Sums
public import Idealize.ShloMosaic.Lib.StableHlo.RunRead
public import proofs.«01_k».proof.Proof.Gen.Kernel22Ideal.Value
public import proofs.«01_k».proof.Proof.Gen.Reference22Ideal.Run
public import proofs.«01_k».proof.Defs

@[expose] public section

set_option maxRecDepth 16384

noncomputable section

open Idealize.ShloMosaic Idealize.ShloMosaic.TcCoe Idealize.SL.Sem

namespace Cert.Kernel22Ideal.Mm

open Cert.Mm Cert.Kernel22Ideal Cert.Kernel22Ideal.Gen Cert.Kernel22Ideal.Value

variable (m : (ℓ : Loc nD τ sig) → Buf (Elt Ideal) ℓ) (c : Dev nD)

theorem pay1_apply (a : Vec Ideal S2048x1024 .f32) (b : Vec Ideal S512x1024 .bf16) (i : Fin 2048) (j : Fin 512) :
    k0_pay1 (F := Ideal) a b (ix2 i j) = ∑ k : Fin 1024, a (ix2 i k) * b (ix2 j k) := by
  pointwise [k0_pay1]

/-- A point's block is the product of its blocks. -/
theorem one (i : grid0.Coords) (a1 : Memref sig .tc .vmem S2048x1024 .f32) (h1 : a1.IsWhole) (a2 : Memref sig .tc .vmem S512x1024 .bf16) (h2 : a2.IsWhole)
    (a3 : Memref sig .tc .vmem S2048x512 .f32) (h3 : a3.IsWhole) (hc0 : cond0_0 i)
    (x : Vec Ideal S2048x1024 .f32) (y : Vec Ideal S512x1024 .bf16) :
    out0_A_2 c i a1 h1 a2 h2 a3 h3 hc0 x y = k0_pay1 x y := by
  unfold out0_A_2
  rw [View.read_writes_eq_canon _ _ _ (cover0_A_2 c i a1 h1 a2 h2 a3 h3 hc0 x y)]
  unfold kernelRun0_A
  dsimp only
  rw [View.canon_unit_zero off0]
  simp only [View.readAt_eq_ld, h1.read_unread, h2.read_unread,
    View.ld_unit_zero (S := S2048x1024) off0, View.ld_unit_zero (S := S512x1024) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 1 ∧ win0_1.index t 1 = 0 :=
  (by decide +kernel : ∀ t : Fin grid0.N, win0_1.index t 0 = 1 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The first operand's array, at natural indices. -/
abbrev A (i k : ℕ) : EReal := at2 (M := 4096) (K := 1024) (V (F := Ideal) m c (Pipeline.arrRef spec0 0)) i k
/-- The second operand's array, at natural indices. -/
abbrev B (j k : ℕ) : EReal := at2 (M := 1024) (K := 1024) (V (F := Ideal) m c (Pipeline.arrRef spec0 1)) j k

/-- The first operand's block at a point. -/
abbrev X (t : Fin cfg0.N) : Vec Ideal S2048x1024 .f32 := iblk (F := Ideal) m c 0 t
/-- The second operand's block at a point. -/
abbrev Y (t : Fin cfg0.N) : Vec Ideal S512x1024 .bf16 := iblk (F := Ideal) m c 1 t

theorem blkA (t : Fin cfg0.N) (i : Fin 2048) (k : Fin 1024) : X m c t (ix2 i k) = A m c (2048 * t.val + i.val) k.val := by
  obtain ⟨h0, h1⟩ := idx0 t
  refine at2_idx (M := 4096) (K := 1024) (V (F := Ideal) m c (Pipeline.arrRef spec0 0)) _ ?_ ?_
  · show win0_0.index t 0 * 2048 + 1 * i.val = 2048 * t.val + i.val
    omega
  · show win0_0.index t 1 * 1024 + 1 * k.val = k.val
    omega

theorem blkB (t : Fin cfg0.N) (j : Fin 512) (k : Fin 1024) : Y m c t (ix2 j k) = B m c (512 + j.val) k.val := by
  obtain ⟨h0, h1⟩ := idx1 t
  refine at2_idx (M := 1024) (K := 1024) (V (F := Ideal) m c (Pipeline.arrRef spec0 1)) _ ?_ ?_
  · show win0_1.index t 0 * 512 + 1 * j.val = 512 + j.val
    omega
  · show win0_1.index t 1 * 1024 + 1 * k.val = k.val
    omega

theorem blkO (o : Buf (Elt Ideal) ((c : Thread nD τ).loc (Pipeline.arrRef spec0 2))) (t : Fin cfg0.N) (i : Fin 2048) (j : Fin 512) (i' : Fin 4096)
    (hi : i'.val = 2048 * t.val + i.val) :
    ((cfg0.win 2).blk t).view.read (Elt Ideal) o (ix2 i j) = o (ix2 i' j) := by
  obtain ⟨h0, h1⟩ := idx2 t
  refine entry_congr (M := 4096) (K := 512) o _ i' j ?_ ?_
  · show win0_2.index t 0 * 2048 + 1 * i.val = i'.val
    omega
  · show win0_2.index t 1 * 512 + 1 * j.val = j.val
    omega

/-- The result array after the run. -/
theorem final (i : Fin 4096) (j : Fin 512) :
    (dats (F := Ideal) m 0 c).arrAt 2 cfg0.N (ix2 i j) = ∑ k : Fin 1024, A m c i.val k.val * B m c (512 + j.val) k.val := by
  have hi := i.isLt
  let t : Fin cfg0.N := ⟨i.val / 2048, by show _ < 2; omega⟩
  have ht : t.val = i.val / 2048 := rfl
  let r : Fin 2048 := ⟨i.val % 2048, Nat.mod_lt _ (by decide)⟩
  have er : 2048 * t.val + r.val = i.val := by show 2048 * t.val + i.val % 2048 = i.val; omega
  refine (blkO c ((dats (F := Ideal) m 0 c).arrAt 2 cfg0.N) t r j i er.symm).symm.trans ?_
  refine (congrFun (blocks2 m c t (flush0_2 t)) (ix2 r j)).trans ?_
  rw [flushed2_A, one]
  refine (pay1_apply (X m c t) (Y m c t) r j).trans ?_
  simp only [blkA, blkB, er]

/-- The second operand, as the launch finds it: the weight, whose cast keeps every entry. -/
theorem host : B m c = at2 (M := 1024) (K := 1024) (m (c, Proc.tc.devRef main_arg1)) := by
  have e : V (F := Ideal) m c (Pipeline.arrRef spec0 1) = (truncf .bf16 (m (c, Proc.tc.devRef main_arg1) : FVec Ideal S1024x1024 .f32) bitsLt_bf16_f32 : FVec Ideal S1024x1024 .bf16) := by
    unfold V
    simp only [hostOps0, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
    after_reads_simp
  exact congrArg at2 e

/-- The reference's result. -/
abbrev ref (a : FVec Ideal S4096x1024 .f32) (b : FVec Ideal S1024x1024 .f32) : FVec Ideal S4096x512 .f32 :=
  Host.dotGeneral Cert.Reference22Ideal.dot_S4096x1024_S512x1024_S4096x512_1_1_0_0_n_n none a (extractStridedSlice Cert.Reference22Ideal.S512x1024 ![512, 0] b Cert.Reference22Ideal.Gen.slices_S1024x1024_S512x1024_512_0 : FVec Ideal Cert.Reference22Ideal.S512x1024 .f32)

theorem ref_apply (a : FVec Ideal S4096x1024 .f32) (b : FVec Ideal S1024x1024 .f32) (i : Fin 4096) (j : Fin 512) :
    ref a b (ix2 i j) = ∑ k : Fin 1024, a (ix2 i k) * at2 b (512 + j.val) k.val := by
  pointwise [ref]
  exact Finset.sum_congr rfl fun k _ => congrArg (_ * ·) (at2_eq b _ k.isLt).symm

/-- The kernel's result is the reference's. -/
theorem value : (dats (F := Ideal) m 0 c).arrAt 2 cfg0.N
    = ref (m (c, Proc.tc.devRef main_arg0)) (m (c, Proc.tc.devRef main_arg1)) := by
  funext x
  obtain ⟨i, j, rfl⟩ : ∃ (i : Fin 4096) (j : Fin 512), x = ix2 i j := ⟨_, _, eq_ix2 x⟩
  refine (final m c i j).trans (Eq.trans ?_ (ref_apply _ _ i j).symm)
  rw [host]
  simp only [A, at2_val]
  rfl

end Cert.Kernel22Ideal.Mm

namespace Cert.Proof

/-- The reference's frame. -/
theorem frame_ref22 : Cert.quiescent_Reference22Ideal := by
  intro m ρ _
  exact (θ_run Cert.Reference22Ideal.defs _ _).mono
    (fun r h => ⟨fun c => (h c).2, sem_eq_zero_of_no_sems (by decide) r.2⟩)
    (Cert.Reference22Ideal.Value.run (F := Ideal) m ρ)

/-- The kernel's gradient is the reference's. -/
theorem algebraic22 : Cert.algebraic_Kernel22Ideal_Reference22Ideal := by
  intro m ρ m' ρ' _ hag
  refine ⟨fun c => (Cert.Kernel22Ideal.Gen.dats (F := Ideal) m 0 c).arrAt 2 Cert.Kernel22Ideal.cfg0.N, Cert.Kernel22Ideal.Value.run_blocks (F := Ideal) m ρ,
    (θ_run Cert.Reference22Ideal.defs _ _).mono (fun r h c => ?_) (Cert.Reference22Ideal.Value.run (F := Ideal) m' ρ')⟩
  obtain ⟨g0, g1⟩ := hag c
  refine ⟨(h c).1.trans ?_, (h c).2⟩
  rw [g0, g1]
  exact (Cert.Kernel22Ideal.Mm.value m c).symm

end Cert.Proof

end
-- ==== Proof.Adam.Step.lean ====
/-
  AdamW on one entry of a weight, from the eight parts of its gradient, and the reference's arrays read entry by entry.
-/
module

public import Idealize.ShloMosaic.Lib.Pointwise
public import Idealize.ShloMosaic.Lib.ValueIdx
public import Idealize.ShloMosaic.Lib.Pipeline.Value

@[expose] public section

noncomputable section

open Idealize.ShloMosaic

namespace Cert.Adam

/-- The sum of the eight parts, in the order of the devices. -/
def total (p : Fin 8 → EReal) : EReal := p 0 + p 1 + p 2 + p 3 + p 4 + p 5 + p 6 + p 7

/-- The first moment's next value. -/
def moment (m g : Ideal .f32) : Ideal .f32 :=
  FloatOps.addf (FloatOps.mulf (Scalar.ofBits .f32 0x3F666666#32) m) (FloatOps.mulf (Scalar.ofBits .f32 0x3DCCCCCD#32) g)

/-- The second moment's next value. -/
def moment2 (v g : Ideal .f32) : Ideal .f32 :=
  FloatOps.addf (FloatOps.mulf (Scalar.ofBits .f32 0x3F7FBE77#32) v)
    (FloatOps.mulf (Scalar.ofBits .f32 0x3A83126F#32) (FloatOps.mulf g g))

/-- The weight's change, from the weight and the two new moments. -/
def change (w m v : Ideal .f32) : Ideal .f32 :=
  FloatOps.mulf (Scalar.ofBits .f32 0xBA83126F#32)
    (FloatOps.addf
      (FloatOps.divf (FloatOps.divf m (Scalar.ofBits .f32 0x3F26BD02#32))
        (FloatOps.addf (FloatOps.sqrt (FloatOps.divf v (Scalar.ofBits .f32 0x3C231ACC#32))) (Scalar.ofBits .f32 0x322BCC77#32)))
      (FloatOps.mulf (Scalar.ofBits .f32 0x3C23D70A#32) w))

theorem change_congr {w w' m m' v v' : Ideal .f32} (hw : w = w') (hm : m = m') (hv : v = v') : change w m v = change w' m' v' := by
  rw [hw, hm, hv]

variable {R C : ℕ}

/-- A weight's shape, and its gradient's parts'. -/
abbrev Two (R C : ℕ) : Shape := ⟨2, ![R, C]⟩
abbrev Parts (R C : ℕ) : Shape := ⟨3, ![8, R, C]⟩

/-- The gradient's entries. -/
def grad (p : FVec Ideal (Parts R C) .f32) : FVec Ideal (Two R C) .f32 := fun x => total fun d => p (ix3 d (x 0) (x 1))

theorem off : (![0, 0] : Fin 2 → ℕ) = fun _ => 0 := by
  funext a; fin_cases a <;> rfl

theorem inb {d : ℕ} (hd : d < 8) : ∀ a, (![d, 0, 0] : Fin 3 → ℕ) a + (![1, R, C] : Fin 3 → ℕ) a ≤ (Parts R C).size a := by
  intro a
  fin_cases a
  · exact hd
  · exact (Nat.zero_add R).le
  · exact (Nat.zero_add C).le

/-- One part of a block of the parts. -/
theorem part (p : Vec Ideal (Parts R C) .f32) (d : ℕ) (hd : d < 8) (inb : ∀ a, (![d, 0, 0] : Fin 3 → ℕ) a + (![1, R, C] : Fin 3 → ℕ) a ≤ (Parts R C).size a)
    (h : (⟨3, ![1, R, C]⟩ : Shape).ShapeCasts (Two R C)) (x : (Two R C).Idx) :
    shapeCast (Two R C) (View.ld p (Rect.unit (s := Parts R C) ![d, 0, 0] ![1, R, C] inb)) h x = p (ix3 ⟨d, hd⟩ (x 0) (x 1)) := by
  refine (shapeCast_dropUnit_apply ![R, C] _ h x).trans (congrArg p (funext fun a => Fin.ext ?_))
  fin_cases a
  · rfl
  · show 0 + 1 * (x 0).val = (x 0).val
    omega
  · show 0 + 1 * (x 1).val = (x 1).val
    omega

/-- The kernel's sum over the parts. -/
theorem sum_parts (p : Vec Ideal (Parts R C) .f32) (h : (⟨3, ![1, R, C]⟩ : Shape).ShapeCasts (Two R C)) :
    let q (d : ℕ) (hd : d < 8) : FVec Ideal (Two R C) .f32 :=
      shapeCast (Two R C) (View.ld p (Rect.unit (s := Parts R C) ![d, 0, 0] ![1, R, C] (inb hd))) h
    addf (addf (addf (addf (addf (addf (addf (q 0 (by decide)) (q 1 (by decide))) (q 2 (by decide))) (q 3 (by decide))) (q 4 (by decide))) (q 5 (by decide)))
      (q 6 (by decide))) (q 7 (by decide)) = grad p := by
  intro q
  have e : ∀ d hd x, q d hd x = p (ix3 ⟨d, hd⟩ (x 0) (x 1)) := fun d hd x => part p d hd (inb hd) h x
  funext x
  simp only [addf, e]
  rfl

/-- The reference's sum over the parts. -/
theorem sum_eq (p : FVec Ideal (Parts R C) .f32) (h : (Parts R C).ReducesTo [0] (Two R C)) {u : Shape} (hu : 0 < u.numel) :
    Host.reduceAdd p (constant u .f32 0x00000000#32) h hu = grad p := by
  funext x
  obtain ⟨i, j, rfl⟩ : ∃ (i : Fin R) (j : Fin C), x = ix2 i j := ⟨_, _, eq_ix2 x⟩
  pointwise
  rw [Fin.sum_univ_eight]
  rfl

/-- What the reference spreads over the weight is one number. -/
abbrev all (R C : ℕ) (h : (⟨0, ![]⟩ : Shape).BroadcastsInDim (Two R C) ![]) (b : BitVec 32) : FVec Ideal (Two R C) .f32 :=
  broadcastInDim (Two R C) ![] h (constant ⟨0, ![]⟩ .f32 b)

variable (h : (⟨0, ![]⟩ : Shape).BroadcastsInDim (Two R C) ![]) (w m v g : FVec Ideal (Two R C) .f32)

variable {w m v g}
variable {w' m' v' g' : FVec Ideal (Two R C) .f32}

/-- The reference's first moment. -/
theorem moment_of (hm : m = m') (hg : g = g') :
    addf (mulf (all R C h 0x3F666666#32) m) (mulf (all R C h 0x3DCCCCCD#32) g) = fun x => moment (m' x) (g' x) := by
  subst hm; subst hg; rfl

/-- The reference's second moment. -/
theorem moment2_of (hv : v = v') (hg : g = g') :
    addf (mulf (all R C h 0x3F7FBE77#32) v) (mulf (all R C h 0x3A83126F#32) (mulf g g)) = fun x => moment2 (v' x) (g' x) := by
  subst hv; subst hg; rfl

/-- The reference's change of the weight. -/
theorem change_of (hw : w = w') (hm : m = m') (hv : v = v') (hg : g = g') :
    mulf (all R C h 0xBA83126F#32)
        (addf (Host.divf (Host.divf (addf (mulf (all R C h 0x3F666666#32) m) (mulf (all R C h 0x3DCCCCCD#32) g)) (all R C h 0x3F26BD02#32))
            (addf (Host.sqrt (Host.divf (addf (mulf (all R C h 0x3F7FBE77#32) v) (mulf (all R C h 0x3A83126F#32) (mulf g g))) (all R C h 0x3C231ACC#32)))
              (all R C h 0x322BCC77#32)))
          (mulf (all R C h 0x3C23D70A#32) w))
      = fun x => change (w' x) (moment (m' x) (g' x)) (moment2 (v' x) (g' x)) := by
  subst hw; subst hm; subst hv; subst hg; rfl

end Cert.Adam

end
-- ==== Proof.Adam.FfnUp.lean ====
/-
  AdamW of one device's part of the ConvFFN's first weights, taken in blocks of 128 rows.
-/
module

public import proofs.«01_k».proof.Proof.Adam.Step
public import proofs.«01_k».proof.Proof.Gen.Kernel24Ideal.Value
public import proofs.«01_k».proof.Proof.Gen.Reference24Ideal.Run
public import proofs.«01_k».proof.Defs

@[expose] public section

set_option maxRecDepth 16384

noncomputable section

open Idealize.ShloMosaic Idealize.ShloMosaic.TcCoe Idealize.SL.Sem

namespace Cert.Kernel24Ideal.Adam

open Cert.Adam Cert.Kernel24Ideal Cert.Kernel24Ideal.Gen Cert.Kernel24Ideal.Value

variable (m : (ℓ : Loc nD τ sig) → Buf (Elt Ideal) ℓ) (c : Dev nD)

/-- The arguments: the parts of the gradient, the weight and its moments. -/
abbrev P : Vec Ideal S8x1024x704 .f32 := m (c, Proc.tc.devRef main_arg0)
abbrev W : Vec Ideal S1024x704 .f32 := m (c, Proc.tc.devRef main_arg1)
abbrev M : Vec Ideal S1024x704 .f32 := m (c, Proc.tc.devRef main_arg2)
abbrev V2 : Vec Ideal S1024x704 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S128x704.Idx) : S1024x704.Idx := ((cfg0.win 4).blk t).view.emb y

theorem place_row (t : Fin cfg0.N) (y : S128x704.Idx) : (place t y 0).val = 128 * t.val + (y 0).val := by
  obtain ⟨h, -⟩ := idx4 t
  show win0_4.index t 0 * 128 + 1 * (y 0).val = _
  omega

theorem place_col (t : Fin cfg0.N) (y : S128x704.Idx) : (place t y 1).val = (y 1).val := by
  obtain ⟨-, h⟩ := idx4 t
  show win0_4.index t 1 * 704 + 1 * (y 1).val = _
  omega

/-- Every entry lies in a block. -/
theorem placed (x : S1024x704.Idx) : ∃ t y, place t y = x := by
  have h : (x 0).val < 1024 := (x 0).isLt
  refine ⟨⟨(x 0).val / 128, by show _ < 8; omega⟩, ix2 ⟨(x 0).val % 128, Nat.mod_lt _ (by decide)⟩ (x 1), funext fun a => Fin.ext ?_⟩
  fin_cases a
  · refine (place_row _ _).trans ?_
    show 128 * ((x 0).val / 128) + (x 0).val % 128 = (x 0).val
    omega
  · exact place_col _ _

/-- The sum over the parts of a block is the gradient's block. -/
theorem grad_block (t : Fin cfg0.N) (y : S128x704.Idx) :
    k0_pay5 (F := Ideal) (iblk m c 0 t) (iblk m c 1 t) (iblk m c 2 t) (iblk m c 3 t) y = grad (P m c) (place t y) := by
  refine (congrFun (sum_parts (R := 128) (C := 704) (iblk m c 0 t) shapeCasts_S1x128x704_S128x704) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 128 + 1 * (y 0).val = (place t y 0).val
    omega
  · show win0_0.index t 2 * 704 + 1 * (y 1).val = (place t y 1).val
    omega

/-- The four results, entry by entry. -/
abbrev G : Vec Ideal S1024x704 .f32 := grad (P m c)
abbrev NM : Vec Ideal S1024x704 .f32 := fun x => moment (M m c x) (G m c x)
abbrev NV : Vec Ideal S1024x704 .f32 := fun x => moment2 (V2 m c x) (G m c x)
abbrev NW : Vec Ideal S1024x704 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S128x704) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S128x704) off _ _) y).trans ?_
  exact congrArg₂ moment (congrFun (View.ld_unit_zero (S := S128x704) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S128x704) off _ _) y).trans ?_
  exact congrArg₂ moment2 (congrFun (View.ld_unit_zero (S := S128x704) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S128x704) off _ _) y).trans ?_
  exact change_congr (congrFun (View.ld_unit_zero (S := S128x704) off _ _) y)
    (congrArg₂ moment (congrFun (View.ld_unit_zero (S := S128x704) off _ _) y) (grad_block m c t y))
    (congrArg₂ moment2 (congrFun (View.ld_unit_zero (S := S128x704) off _ _) y) (grad_block m c t y))

end Cert.Kernel24Ideal.Adam

namespace Cert.Proof

/-- The reference's frame. -/
theorem frame_ref24 : Cert.quiescent_Reference24Ideal := by
  intro m ρ _
  exact (θ_run Cert.Reference24Ideal.defs _ _).mono
    (fun r h => ⟨fun c => (h c).2.2.2.2, sem_eq_zero_of_no_sems (by decide) r.2⟩)
    (Cert.Reference24Ideal.Value.run (F := Ideal) m ρ)

/-- The kernel's four results are the reference's. -/
theorem algebraic24 : Cert.algebraic_Kernel24Ideal_Reference24Ideal := by
  intro m ρ m' ρ' _ hag
  refine ⟨_, _, _, _, Cert.Kernel24Ideal.Value.run_blocks (F := Ideal) m ρ,
    (θ_run Cert.Reference24Ideal.defs _ _).mono (fun r h c => ?_) (Cert.Reference24Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel24Ideal.Adam.value4 m c).symm, h1.trans (Cert.Kernel24Ideal.Adam.value5 m c).symm,
    h2.trans (Cert.Kernel24Ideal.Adam.value6 m c).symm, h3.trans (Cert.Kernel24Ideal.Adam.value7 m c).symm, rest⟩

end Cert.Proof

end
-- ==== Proof.Adam.FfnDown.lean ====
/-
  AdamW of one device's part of the ConvFFN's second weights, taken in blocks of 88 rows.
-/
module

public import proofs.«01_k».proof.Proof.Adam.Step
public import proofs.«01_k».proof.Proof.Gen.Kernel25Ideal.Value
public import proofs.«01_k».proof.Proof.Gen.Reference25Ideal.Run
public import proofs.«01_k».proof.Defs

@[expose] public section

set_option maxRecDepth 16384

noncomputable section

open Idealize.ShloMosaic Idealize.ShloMosaic.TcCoe Idealize.SL.Sem

namespace Cert.Kernel25Ideal.Adam

open Cert.Adam Cert.Kernel25Ideal Cert.Kernel25Ideal.Gen Cert.Kernel25Ideal.Value

variable (m : (ℓ : Loc nD τ sig) → Buf (Elt Ideal) ℓ) (c : Dev nD)

/-- The arguments: the parts of the gradient, the weight and its moments. -/
abbrev P : Vec Ideal S8x352x1024 .f32 := m (c, Proc.tc.devRef main_arg0)
abbrev W : Vec Ideal S352x1024 .f32 := m (c, Proc.tc.devRef main_arg1)
abbrev M : Vec Ideal S352x1024 .f32 := m (c, Proc.tc.devRef main_arg2)
abbrev V2 : Vec Ideal S352x1024 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S88x1024.Idx) : S352x1024.Idx := ((cfg0.win 4).blk t).view.emb y

theorem place_row (t : Fin cfg0.N) (y : S88x1024.Idx) : (place t y 0).val = 88 * t.val + (y 0).val := by
  obtain ⟨h, -⟩ := idx4 t
  show win0_4.index t 0 * 88 + 1 * (y 0).val = _
  omega

theorem place_col (t : Fin cfg0.N) (y : S88x1024.Idx) : (place t y 1).val = (y 1).val := by
  obtain ⟨-, h⟩ := idx4 t
  show win0_4.index t 1 * 1024 + 1 * (y 1).val = _
  omega

/-- Every entry lies in a block. -/
theorem placed (x : S352x1024.Idx) : ∃ t y, place t y = x := by
  have h : (x 0).val < 352 := (x 0).isLt
  refine ⟨⟨(x 0).val / 88, by show _ < 4; omega⟩, ix2 ⟨(x 0).val % 88, Nat.mod_lt _ (by decide)⟩ (x 1), funext fun a => Fin.ext ?_⟩
  fin_cases a
  · refine (place_row _ _).trans ?_
    show 88 * ((x 0).val / 88) + (x 0).val % 88 = (x 0).val
    omega
  · exact place_col _ _

/-- The sum over the parts of a block is the gradient's block. -/
theorem grad_block (t : Fin cfg0.N) (y : S88x1024.Idx) :
    k0_pay5 (F := Ideal) (iblk m c 0 t) (iblk m c 1 t) (iblk m c 2 t) (iblk m c 3 t) y = grad (P m c) (place t y) := by
  refine (congrFun (sum_parts (R := 88) (C := 1024) (iblk m c 0 t) shapeCasts_S1x88x1024_S88x1024) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 88 + 1 * (y 0).val = (place t y 0).val
    omega
  · show win0_0.index t 2 * 1024 + 1 * (y 1).val = (place t y 1).val
    omega

/-- The four results, entry by entry. -/
abbrev G : Vec Ideal S352x1024 .f32 := grad (P m c)
abbrev NM : Vec Ideal S352x1024 .f32 := fun x => moment (M m c x) (G m c x)
abbrev NV : Vec Ideal S352x1024 .f32 := fun x => moment2 (V2 m c x) (G m c x)
abbrev NW : Vec Ideal S352x1024 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S88x1024) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S88x1024) off _ _) y).trans ?_
  exact congrArg₂ moment (congrFun (View.ld_unit_zero (S := S88x1024) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S88x1024) off _ _) y).trans ?_
  exact congrArg₂ moment2 (congrFun (View.ld_unit_zero (S := S88x1024) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S88x1024) off _ _) y).trans ?_
  exact change_congr (congrFun (View.ld_unit_zero (S := S88x1024) off _ _) y)
    (congrArg₂ moment (congrFun (View.ld_unit_zero (S := S88x1024) off _ _) y) (grad_block m c t y))
    (congrArg₂ moment2 (congrFun (View.ld_unit_zero (S := S88x1024) off _ _) y) (grad_block m c t y))

end Cert.Kernel25Ideal.Adam

namespace Cert.Proof

/-- The reference's frame. -/
theorem frame_ref25 : Cert.quiescent_Reference25Ideal := by
  intro m ρ _
  exact (θ_run Cert.Reference25Ideal.defs _ _).mono
    (fun r h => ⟨fun c => (h c).2.2.2.2, sem_eq_zero_of_no_sems (by decide) r.2⟩)
    (Cert.Reference25Ideal.Value.run (F := Ideal) m ρ)

/-- The kernel's four results are the reference's. -/
theorem algebraic25 : Cert.algebraic_Kernel25Ideal_Reference25Ideal := by
  intro m ρ m' ρ' _ hag
  refine ⟨_, _, _, _, Cert.Kernel25Ideal.Value.run_blocks (F := Ideal) m ρ,
    (θ_run Cert.Reference25Ideal.defs _ _).mono (fun r h c => ?_) (Cert.Reference25Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel25Ideal.Adam.value4 m c).symm, h1.trans (Cert.Kernel25Ideal.Adam.value5 m c).symm,
    h2.trans (Cert.Kernel25Ideal.Adam.value6 m c).symm, h3.trans (Cert.Kernel25Ideal.Adam.value7 m c).symm, rest⟩

end Cert.Proof

end
-- ==== Proof.Adam.L0In.lean ====
/-
  AdamW of one device's part of layer 0's input projection, taken in blocks of 256 rows.
-/
module

public import proofs.«01_k».proof.Proof.Adam.Step
public import proofs.«01_k».proof.Proof.Gen.Kernel26Ideal.Value
public import proofs.«01_k».proof.Proof.Gen.Reference26Ideal.Run
public import proofs.«01_k».proof.Defs

@[expose] public section

set_option maxRecDepth 16384

noncomputable section

open Idealize.ShloMosaic Idealize.ShloMosaic.TcCoe Idealize.SL.Sem

namespace Cert.Kernel26Ideal.Adam

open Cert.Adam Cert.Kernel26Ideal Cert.Kernel26Ideal.Gen Cert.Kernel26Ideal.Value

variable (m : (ℓ : Loc nD τ sig) → Buf (Elt Ideal) ℓ) (c : Dev nD)

/-- The arguments: the parts of the gradient, the weight and its moments. -/
abbrev P : Vec Ideal S8x1024x417 .f32 := m (c, Proc.tc.devRef main_arg0)
abbrev W : Vec Ideal S1024x417 .f32 := m (c, Proc.tc.devRef main_arg1)
abbrev M : Vec Ideal S1024x417 .f32 := m (c, Proc.tc.devRef main_arg2)
abbrev V2 : Vec Ideal S1024x417 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S256x417.Idx) : S1024x417.Idx := ((cfg0.win 4).blk t).view.emb y

theorem place_row (t : Fin cfg0.N) (y : S256x417.Idx) : (place t y 0).val = 256 * t.val + (y 0).val := by
  obtain ⟨h, -⟩ := idx4 t
  show win0_4.index t 0 * 256 + 1 * (y 0).val = _
  omega

theorem place_col (t : Fin cfg0.N) (y : S256x417.Idx) : (place t y 1).val = (y 1).val := by
  obtain ⟨-, h⟩ := idx4 t
  show win0_4.index t 1 * 417 + 1 * (y 1).val = _
  omega

/-- Every entry lies in a block. -/
theorem placed (x : S1024x417.Idx) : ∃ t y, place t y = x := by
  have h : (x 0).val < 1024 := (x 0).isLt
  refine ⟨⟨(x 0).val / 256, by show _ < 4; omega⟩, ix2 ⟨(x 0).val % 256, Nat.mod_lt _ (by decide)⟩ (x 1), funext fun a => Fin.ext ?_⟩
  fin_cases a
  · refine (place_row _ _).trans ?_
    show 256 * ((x 0).val / 256) + (x 0).val % 256 = (x 0).val
    omega
  · exact place_col _ _

/-- The sum over the parts of a block is the gradient's block. -/
theorem grad_block (t : Fin cfg0.N) (y : S256x417.Idx) :
    k0_pay5 (F := Ideal) (iblk m c 0 t) (iblk m c 1 t) (iblk m c 2 t) (iblk m c 3 t) y = grad (P m c) (place t y) := by
  refine (congrFun (sum_parts (R := 256) (C := 417) (iblk m c 0 t) shapeCasts_S1x256x417_S256x417) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 256 + 1 * (y 0).val = (place t y 0).val
    omega
  · show win0_0.index t 2 * 417 + 1 * (y 1).val = (place t y 1).val
    omega

/-- The four results, entry by entry. -/
abbrev G : Vec Ideal S1024x417 .f32 := grad (P m c)
abbrev NM : Vec Ideal S1024x417 .f32 := fun x => moment (M m c x) (G m c x)
abbrev NV : Vec Ideal S1024x417 .f32 := fun x => moment2 (V2 m c x) (G m c x)
abbrev NW : Vec Ideal S1024x417 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S256x417) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S256x417) off _ _) y).trans ?_
  exact congrArg₂ moment (congrFun (View.ld_unit_zero (S := S256x417) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S256x417) off _ _) y).trans ?_
  exact congrArg₂ moment2 (congrFun (View.ld_unit_zero (S := S256x417) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S256x417) off _ _) y).trans ?_
  exact change_congr (congrFun (View.ld_unit_zero (S := S256x417) off _ _) y)
    (congrArg₂ moment (congrFun (View.ld_unit_zero (S := S256x417) off _ _) y) (grad_block m c t y))
    (congrArg₂ moment2 (congrFun (View.ld_unit_zero (S := S256x417) off _ _) y) (grad_block m c t y))

end Cert.Kernel26Ideal.Adam

namespace Cert.Proof

/-- The reference's frame. -/
theorem frame_ref26 : Cert.quiescent_Reference26Ideal := by
  intro m ρ _
  exact (θ_run Cert.Reference26Ideal.defs _ _).mono
    (fun r h => ⟨fun c => (h c).2.2.2.2, sem_eq_zero_of_no_sems (by decide) r.2⟩)
    (Cert.Reference26Ideal.Value.run (F := Ideal) m ρ)

/-- The kernel's four results are the reference's. -/
theorem algebraic26 : Cert.algebraic_Kernel26Ideal_Reference26Ideal := by
  intro m ρ m' ρ' _ hag
  refine ⟨_, _, _, _, Cert.Kernel26Ideal.Value.run_blocks (F := Ideal) m ρ,
    (θ_run Cert.Reference26Ideal.defs _ _).mono (fun r h c => ?_) (Cert.Reference26Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel26Ideal.Adam.value4 m c).symm, h1.trans (Cert.Kernel26Ideal.Adam.value5 m c).symm,
    h2.trans (Cert.Kernel26Ideal.Adam.value6 m c).symm, h3.trans (Cert.Kernel26Ideal.Adam.value7 m c).symm, rest⟩

end Cert.Proof

end
-- ==== Proof.Adam.L1In.lean ====
/-
  AdamW of one device's part of layer 1's input projection, taken in blocks of 512 rows.
-/
module

public import proofs.«01_k».proof.Proof.Adam.Step
public import proofs.«01_k».proof.Proof.Gen.Kernel27Ideal.Value
public import proofs.«01_k».proof.Proof.Gen.Reference27Ideal.Run
public import proofs.«01_k».proof.Defs

@[expose] public section

set_option maxRecDepth 16384

noncomputable section

open Idealize.ShloMosaic Idealize.ShloMosaic.TcCoe Idealize.SL.Sem

namespace Cert.Kernel27Ideal.Adam

open Cert.Adam Cert.Kernel27Ideal Cert.Kernel27Ideal.Gen Cert.Kernel27Ideal.Value

variable (m : (ℓ : Loc nD τ sig) → Buf (Elt Ideal) ℓ) (c : Dev nD)

/-- The arguments: the parts of the gradient, the weight and its moments. -/
abbrev P : Vec Ideal S8x1024x244 .f32 := m (c, Proc.tc.devRef main_arg0)
abbrev W : Vec Ideal S1024x244 .f32 := m (c, Proc.tc.devRef main_arg1)
abbrev M : Vec Ideal S1024x244 .f32 := m (c, Proc.tc.devRef main_arg2)
abbrev V2 : Vec Ideal S1024x244 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S512x244.Idx) : S1024x244.Idx := ((cfg0.win 4).blk t).view.emb y

theorem place_row (t : Fin cfg0.N) (y : S512x244.Idx) : (place t y 0).val = 512 * t.val + (y 0).val := by
  obtain ⟨h, -⟩ := idx4 t
  show win0_4.index t 0 * 512 + 1 * (y 0).val = _
  omega

theorem place_col (t : Fin cfg0.N) (y : S512x244.Idx) : (place t y 1).val = (y 1).val := by
  obtain ⟨-, h⟩ := idx4 t
  show win0_4.index t 1 * 244 + 1 * (y 1).val = _
  omega

/-- Every entry lies in a block. -/
theorem placed (x : S1024x244.Idx) : ∃ t y, place t y = x := by
  have h : (x 0).val < 1024 := (x 0).isLt
  refine ⟨⟨(x 0).val / 512, by show _ < 2; omega⟩, ix2 ⟨(x 0).val % 512, Nat.mod_lt _ (by decide)⟩ (x 1), funext fun a => Fin.ext ?_⟩
  fin_cases a
  · refine (place_row _ _).trans ?_
    show 512 * ((x 0).val / 512) + (x 0).val % 512 = (x 0).val
    omega
  · exact place_col _ _

/-- The sum over the parts of a block is the gradient's block. -/
theorem grad_block (t : Fin cfg0.N) (y : S512x244.Idx) :
    k0_pay5 (F := Ideal) (iblk m c 0 t) (iblk m c 1 t) (iblk m c 2 t) (iblk m c 3 t) y = grad (P m c) (place t y) := by
  refine (congrFun (sum_parts (R := 512) (C := 244) (iblk m c 0 t) shapeCasts_S1x512x244_S512x244) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 512 + 1 * (y 0).val = (place t y 0).val
    omega
  · show win0_0.index t 2 * 244 + 1 * (y 1).val = (place t y 1).val
    omega

/-- The four results, entry by entry. -/
abbrev G : Vec Ideal S1024x244 .f32 := grad (P m c)
abbrev NM : Vec Ideal S1024x244 .f32 := fun x => moment (M m c x) (G m c x)
abbrev NV : Vec Ideal S1024x244 .f32 := fun x => moment2 (V2 m c x) (G m c x)
abbrev NW : Vec Ideal S1024x244 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S512x244) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S512x244) off _ _) y).trans ?_
  exact congrArg₂ moment (congrFun (View.ld_unit_zero (S := S512x244) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S512x244) off _ _) y).trans ?_
  exact congrArg₂ moment2 (congrFun (View.ld_unit_zero (S := S512x244) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S512x244) off _ _) y).trans ?_
  exact change_congr (congrFun (View.ld_unit_zero (S := S512x244) off _ _) y)
    (congrArg₂ moment (congrFun (View.ld_unit_zero (S := S512x244) off _ _) y) (grad_block m c t y))
    (congrArg₂ moment2 (congrFun (View.ld_unit_zero (S := S512x244) off _ _) y) (grad_block m c t y))

end Cert.Kernel27Ideal.Adam

namespace Cert.Proof

/-- The reference's frame. -/
theorem frame_ref27 : Cert.quiescent_Reference27Ideal := by
  intro m ρ _
  exact (θ_run Cert.Reference27Ideal.defs _ _).mono
    (fun r h => ⟨fun c => (h c).2.2.2.2, sem_eq_zero_of_no_sems (by decide) r.2⟩)
    (Cert.Reference27Ideal.Value.run (F := Ideal) m ρ)

/-- The kernel's four results are the reference's. -/
theorem algebraic27 : Cert.algebraic_Kernel27Ideal_Reference27Ideal := by
  intro m ρ m' ρ' _ hag
  refine ⟨_, _, _, _, Cert.Kernel27Ideal.Value.run_blocks (F := Ideal) m ρ,
    (θ_run Cert.Reference27Ideal.defs _ _).mono (fun r h c => ?_) (Cert.Reference27Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel27Ideal.Adam.value4 m c).symm, h1.trans (Cert.Kernel27Ideal.Adam.value5 m c).symm,
    h2.trans (Cert.Kernel27Ideal.Adam.value6 m c).symm, h3.trans (Cert.Kernel27Ideal.Adam.value7 m c).symm, rest⟩

end Cert.Proof

end
-- ==== Proof.Adam.Out.lean ====
/-
  AdamW of one device's part of both output projections, taken in blocks of 128 rows.
-/
module

public import proofs.«01_k».proof.Proof.Adam.Step
public import proofs.«01_k».proof.Proof.Gen.Kernel28Ideal.Value
public import proofs.«01_k».proof.Proof.Gen.Reference28Ideal.Run
public import proofs.«01_k».proof.Defs

@[expose] public section

set_option maxRecDepth 16384

noncomputable section

open Idealize.ShloMosaic Idealize.ShloMosaic.TcCoe Idealize.SL.Sem

namespace Cert.Kernel28Ideal.Adam

open Cert.Adam Cert.Kernel28Ideal Cert.Kernel28Ideal.Gen Cert.Kernel28Ideal.Value

variable (m : (ℓ : Loc nD τ sig) → Buf (Elt Ideal) ℓ) (c : Dev nD)

/-- The arguments: the parts of the gradient, the weight and its moments. -/
abbrev P : Vec Ideal S8x128x1024 .f32 := m (c, Proc.tc.devRef main_arg0)
abbrev W : Vec Ideal S128x1024 .f32 := m (c, Proc.tc.devRef main_arg1)
abbrev M : Vec Ideal S128x1024 .f32 := m (c, Proc.tc.devRef main_arg2)
abbrev V2 : Vec Ideal S128x1024 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S128x1024.Idx) : S128x1024.Idx := ((cfg0.win 4).blk t).view.emb y

theorem place_row (t : Fin cfg0.N) (y : S128x1024.Idx) : (place t y 0).val = 128 * t.val + (y 0).val := by
  obtain ⟨h, -⟩ := idx4 t
  show win0_4.index t 0 * 128 + 1 * (y 0).val = _
  omega

theorem place_col (t : Fin cfg0.N) (y : S128x1024.Idx) : (place t y 1).val = (y 1).val := by
  obtain ⟨-, h⟩ := idx4 t
  show win0_4.index t 1 * 1024 + 1 * (y 1).val = _
  omega

/-- Every entry lies in a block. -/
theorem placed (x : S128x1024.Idx) : ∃ t y, place t y = x := by
  have h : (x 0).val < 128 := (x 0).isLt
  refine ⟨⟨(x 0).val / 128, by show _ < 1; omega⟩, ix2 ⟨(x 0).val % 128, Nat.mod_lt _ (by decide)⟩ (x 1), funext fun a => Fin.ext ?_⟩
  fin_cases a
  · refine (place_row _ _).trans ?_
    show 128 * ((x 0).val / 128) + (x 0).val % 128 = (x 0).val
    omega
  · exact place_col _ _

/-- The sum over the parts of a block is the gradient's block. -/
theorem grad_block (t : Fin cfg0.N) (y : S128x1024.Idx) :
    k0_pay5 (F := Ideal) (iblk m c 0 t) (iblk m c 1 t) (iblk m c 2 t) (iblk m c 3 t) y = grad (P m c) (place t y) := by
  refine (congrFun (sum_parts (R := 128) (C := 1024) (iblk m c 0 t) shapeCasts_S1x128x1024_S128x1024) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 128 + 1 * (y 0).val = (place t y 0).val
    omega
  · show win0_0.index t 2 * 1024 + 1 * (y 1).val = (place t y 1).val
    omega

/-- The four results, entry by entry. -/
abbrev G : Vec Ideal S128x1024 .f32 := grad (P m c)
abbrev NM : Vec Ideal S128x1024 .f32 := fun x => moment (M m c x) (G m c x)
abbrev NV : Vec Ideal S128x1024 .f32 := fun x => moment2 (V2 m c x) (G m c x)
abbrev NW : Vec Ideal S128x1024 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S128x1024) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S128x1024) off _ _) y).trans ?_
  exact congrArg₂ moment (congrFun (View.ld_unit_zero (S := S128x1024) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S128x1024) off _ _) y).trans ?_
  exact congrArg₂ moment2 (congrFun (View.ld_unit_zero (S := S128x1024) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S128x1024) off _ _) y).trans ?_
  exact change_congr (congrFun (View.ld_unit_zero (S := S128x1024) off _ _) y)
    (congrArg₂ moment (congrFun (View.ld_unit_zero (S := S128x1024) off _ _) y) (grad_block m c t y))
    (congrArg₂ moment2 (congrFun (View.ld_unit_zero (S := S128x1024) off _ _) y) (grad_block m c t y))

end Cert.Kernel28Ideal.Adam

namespace Cert.Proof

/-- The reference's frame. -/
theorem frame_ref28 : Cert.quiescent_Reference28Ideal := by
  intro m ρ _
  exact (θ_run Cert.Reference28Ideal.defs _ _).mono
    (fun r h => ⟨fun c => (h c).2.2.2.2, sem_eq_zero_of_no_sems (by decide) r.2⟩)
    (Cert.Reference28Ideal.Value.run (F := Ideal) m ρ)

/-- The kernel's four results are the reference's. -/
theorem algebraic28 : Cert.algebraic_Kernel28Ideal_Reference28Ideal := by
  intro m ρ m' ρ' _ hag
  refine ⟨_, _, _, _, Cert.Kernel28Ideal.Value.run_blocks (F := Ideal) m ρ,
    (θ_run Cert.Reference28Ideal.defs _ _).mono (fun r h c => ?_) (Cert.Reference28Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel28Ideal.Adam.value4 m c).symm, h1.trans (Cert.Kernel28Ideal.Adam.value5 m c).symm,
    h2.trans (Cert.Kernel28Ideal.Adam.value6 m c).symm, h3.trans (Cert.Kernel28Ideal.Adam.value7 m c).symm, rest⟩

end Cert.Proof

end
-- ==== Proof.Adam.Rwkv.lean ====
/-
  AdamW of one device's part of RWKV-7's two 64 by 64 low-rank weights, taken in blocks of 64 rows.
-/
module

public import proofs.«01_k».proof.Proof.Adam.Step
public import proofs.«01_k».proof.Proof.Gen.Kernel29Ideal.Value
public import proofs.«01_k».proof.Proof.Gen.Reference29Ideal.Run
public import proofs.«01_k».proof.Defs

@[expose] public section

set_option maxRecDepth 16384

noncomputable section

open Idealize.ShloMosaic Idealize.ShloMosaic.TcCoe Idealize.SL.Sem

namespace Cert.Kernel29Ideal.Adam

open Cert.Adam Cert.Kernel29Ideal Cert.Kernel29Ideal.Gen Cert.Kernel29Ideal.Value

variable (m : (ℓ : Loc nD τ sig) → Buf (Elt Ideal) ℓ) (c : Dev nD)

/-- The arguments: the parts of the gradient, the weight and its moments. -/
abbrev P : Vec Ideal S8x64x64 .f32 := m (c, Proc.tc.devRef main_arg0)
abbrev W : Vec Ideal S64x64 .f32 := m (c, Proc.tc.devRef main_arg1)
abbrev M : Vec Ideal S64x64 .f32 := m (c, Proc.tc.devRef main_arg2)
abbrev V2 : Vec Ideal S64x64 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S64x64.Idx) : S64x64.Idx := ((cfg0.win 4).blk t).view.emb y

theorem place_row (t : Fin cfg0.N) (y : S64x64.Idx) : (place t y 0).val = 64 * t.val + (y 0).val := by
  obtain ⟨h, -⟩ := idx4 t
  show win0_4.index t 0 * 64 + 1 * (y 0).val = _
  omega

theorem place_col (t : Fin cfg0.N) (y : S64x64.Idx) : (place t y 1).val = (y 1).val := by
  obtain ⟨-, h⟩ := idx4 t
  show win0_4.index t 1 * 64 + 1 * (y 1).val = _
  omega

/-- Every entry lies in a block. -/
theorem placed (x : S64x64.Idx) : ∃ t y, place t y = x := by
  have h : (x 0).val < 64 := (x 0).isLt
  refine ⟨⟨(x 0).val / 64, by show _ < 1; omega⟩, ix2 ⟨(x 0).val % 64, Nat.mod_lt _ (by decide)⟩ (x 1), funext fun a => Fin.ext ?_⟩
  fin_cases a
  · refine (place_row _ _).trans ?_
    show 64 * ((x 0).val / 64) + (x 0).val % 64 = (x 0).val
    omega
  · exact place_col _ _

/-- The sum over the parts of a block is the gradient's block. -/
theorem grad_block (t : Fin cfg0.N) (y : S64x64.Idx) :
    k0_pay5 (F := Ideal) (iblk m c 0 t) (iblk m c 1 t) (iblk m c 2 t) (iblk m c 3 t) y = grad (P m c) (place t y) := by
  refine (congrFun (sum_parts (R := 64) (C := 64) (iblk m c 0 t) shapeCasts_S1x64x64_S64x64) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 64 + 1 * (y 0).val = (place t y 0).val
    omega
  · show win0_0.index t 2 * 64 + 1 * (y 1).val = (place t y 1).val
    omega

/-- The four results, entry by entry. -/
abbrev G : Vec Ideal S64x64 .f32 := grad (P m c)
abbrev NM : Vec Ideal S64x64 .f32 := fun x => moment (M m c x) (G m c x)
abbrev NV : Vec Ideal S64x64 .f32 := fun x => moment2 (V2 m c x) (G m c x)
abbrev NW : Vec Ideal S64x64 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S64x64) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S64x64) off _ _) y).trans ?_
  exact congrArg₂ moment (congrFun (View.ld_unit_zero (S := S64x64) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S64x64) off _ _) y).trans ?_
  exact congrArg₂ moment2 (congrFun (View.ld_unit_zero (S := S64x64) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S64x64) off _ _) y).trans ?_
  exact change_congr (congrFun (View.ld_unit_zero (S := S64x64) off _ _) y)
    (congrArg₂ moment (congrFun (View.ld_unit_zero (S := S64x64) off _ _) y) (grad_block m c t y))
    (congrArg₂ moment2 (congrFun (View.ld_unit_zero (S := S64x64) off _ _) y) (grad_block m c t y))

end Cert.Kernel29Ideal.Adam

namespace Cert.Proof

/-- The reference's frame. -/
theorem frame_ref29 : Cert.quiescent_Reference29Ideal := by
  intro m ρ _
  exact (θ_run Cert.Reference29Ideal.defs _ _).mono
    (fun r h => ⟨fun c => (h c).2.2.2.2, sem_eq_zero_of_no_sems (by decide) r.2⟩)
    (Cert.Reference29Ideal.Value.run (F := Ideal) m ρ)

/-- The kernel's four results are the reference's. -/
theorem algebraic29 : Cert.algebraic_Kernel29Ideal_Reference29Ideal := by
  intro m ρ m' ρ' _ hag
  refine ⟨_, _, _, _, Cert.Kernel29Ideal.Value.run_blocks (F := Ideal) m ρ,
    (θ_run Cert.Reference29Ideal.defs _ _).mono (fun r h c => ?_) (Cert.Reference29Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel29Ideal.Adam.value4 m c).symm, h1.trans (Cert.Kernel29Ideal.Adam.value5 m c).symm,
    h2.trans (Cert.Kernel29Ideal.Adam.value6 m c).symm, h3.trans (Cert.Kernel29Ideal.Adam.value7 m c).symm, rest⟩

end Cert.Proof

end
-- ==== Proof.Adam.RwkvG.lean ====
/-
  AdamW of one device's part of RWKV-7's gate's low-rank weight, taken in blocks of 128 rows.
-/
module

public import proofs.«01_k».proof.Proof.Adam.Step
public import proofs.«01_k».proof.Proof.Gen.Kernel30Ideal.Value
public import proofs.«01_k».proof.Proof.Gen.Reference30Ideal.Run
public import proofs.«01_k».proof.Defs

@[expose] public section

set_option maxRecDepth 16384

noncomputable section

open Idealize.ShloMosaic Idealize.ShloMosaic.TcCoe Idealize.SL.Sem

namespace Cert.Kernel30Ideal.Adam

open Cert.Adam Cert.Kernel30Ideal Cert.Kernel30Ideal.Gen Cert.Kernel30Ideal.Value

variable (m : (ℓ : Loc nD τ sig) → Buf (Elt Ideal) ℓ) (c : Dev nD)

/-- The arguments: the parts of the gradient, the weight and its moments. -/
abbrev P : Vec Ideal S8x128x64 .f32 := m (c, Proc.tc.devRef main_arg0)
abbrev W : Vec Ideal S128x64 .f32 := m (c, Proc.tc.devRef main_arg1)
abbrev M : Vec Ideal S128x64 .f32 := m (c, Proc.tc.devRef main_arg2)
abbrev V2 : Vec Ideal S128x64 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S128x64.Idx) : S128x64.Idx := ((cfg0.win 4).blk t).view.emb y

theorem place_row (t : Fin cfg0.N) (y : S128x64.Idx) : (place t y 0).val = 128 * t.val + (y 0).val := by
  obtain ⟨h, -⟩ := idx4 t
  show win0_4.index t 0 * 128 + 1 * (y 0).val = _
  omega

theorem place_col (t : Fin cfg0.N) (y : S128x64.Idx) : (place t y 1).val = (y 1).val := by
  obtain ⟨-, h⟩ := idx4 t
  show win0_4.index t 1 * 64 + 1 * (y 1).val = _
  omega

/-- Every entry lies in a block. -/
theorem placed (x : S128x64.Idx) : ∃ t y, place t y = x := by
  have h : (x 0).val < 128 := (x 0).isLt
  refine ⟨⟨(x 0).val / 128, by show _ < 1; omega⟩, ix2 ⟨(x 0).val % 128, Nat.mod_lt _ (by decide)⟩ (x 1), funext fun a => Fin.ext ?_⟩
  fin_cases a
  · refine (place_row _ _).trans ?_
    show 128 * ((x 0).val / 128) + (x 0).val % 128 = (x 0).val
    omega
  · exact place_col _ _

/-- The sum over the parts of a block is the gradient's block. -/
theorem grad_block (t : Fin cfg0.N) (y : S128x64.Idx) :
    k0_pay5 (F := Ideal) (iblk m c 0 t) (iblk m c 1 t) (iblk m c 2 t) (iblk m c 3 t) y = grad (P m c) (place t y) := by
  refine (congrFun (sum_parts (R := 128) (C := 64) (iblk m c 0 t) shapeCasts_S1x128x64_S128x64) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 128 + 1 * (y 0).val = (place t y 0).val
    omega
  · show win0_0.index t 2 * 64 + 1 * (y 1).val = (place t y 1).val
    omega

/-- The four results, entry by entry. -/
abbrev G : Vec Ideal S128x64 .f32 := grad (P m c)
abbrev NM : Vec Ideal S128x64 .f32 := fun x => moment (M m c x) (G m c x)
abbrev NV : Vec Ideal S128x64 .f32 := fun x => moment2 (V2 m c x) (G m c x)
abbrev NW : Vec Ideal S128x64 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S128x64) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S128x64) off _ _) y).trans ?_
  exact congrArg₂ moment (congrFun (View.ld_unit_zero (S := S128x64) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S128x64) off _ _) y).trans ?_
  exact congrArg₂ moment2 (congrFun (View.ld_unit_zero (S := S128x64) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S128x64) off _ _) y).trans ?_
  exact change_congr (congrFun (View.ld_unit_zero (S := S128x64) off _ _) y)
    (congrArg₂ moment (congrFun (View.ld_unit_zero (S := S128x64) off _ _) y) (grad_block m c t y))
    (congrArg₂ moment2 (congrFun (View.ld_unit_zero (S := S128x64) off _ _) y) (grad_block m c t y))

end Cert.Kernel30Ideal.Adam

namespace Cert.Proof

/-- The reference's frame. -/
theorem frame_ref30 : Cert.quiescent_Reference30Ideal := by
  intro m ρ _
  exact (θ_run Cert.Reference30Ideal.defs _ _).mono
    (fun r h => ⟨fun c => (h c).2.2.2.2, sem_eq_zero_of_no_sems (by decide) r.2⟩)
    (Cert.Reference30Ideal.Value.run (F := Ideal) m ρ)

/-- The kernel's four results are the reference's. -/
theorem algebraic30 : Cert.algebraic_Kernel30Ideal_Reference30Ideal := by
  intro m ρ m' ρ' _ hag
  refine ⟨_, _, _, _, Cert.Kernel30Ideal.Value.run_blocks (F := Ideal) m ρ,
    (θ_run Cert.Reference30Ideal.defs _ _).mono (fun r h c => ?_) (Cert.Reference30Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel30Ideal.Adam.value4 m c).symm, h1.trans (Cert.Kernel30Ideal.Adam.value5 m c).symm,
    h2.trans (Cert.Kernel30Ideal.Adam.value6 m c).symm, h3.trans (Cert.Kernel30Ideal.Adam.value7 m c).symm, rest⟩

end Cert.Proof

end
-- ==== Proof.Adam.MlaQ.lean ====
/-
  AdamW of one device's part of the latent attention's query weight, taken in blocks of 256 rows.
-/
module

public import proofs.«01_k».proof.Proof.Adam.Step
public import proofs.«01_k».proof.Proof.Gen.Kernel31Ideal.Value
public import proofs.«01_k».proof.Proof.Gen.Reference31Ideal.Run
public import proofs.«01_k».proof.Defs

@[expose] public section

set_option maxRecDepth 16384

noncomputable section

open Idealize.ShloMosaic Idealize.ShloMosaic.TcCoe Idealize.SL.Sem

namespace Cert.Kernel31Ideal.Adam

open Cert.Adam Cert.Kernel31Ideal Cert.Kernel31Ideal.Gen Cert.Kernel31Ideal.Value

variable (m : (ℓ : Loc nD τ sig) → Buf (Elt Ideal) ℓ) (c : Dev nD)

/-- The arguments: the parts of the gradient, the weight and its moments. -/
abbrev P : Vec Ideal S8x256x96 .f32 := m (c, Proc.tc.devRef main_arg0)
abbrev W : Vec Ideal S256x96 .f32 := m (c, Proc.tc.devRef main_arg1)
abbrev M : Vec Ideal S256x96 .f32 := m (c, Proc.tc.devRef main_arg2)
abbrev V2 : Vec Ideal S256x96 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S256x96.Idx) : S256x96.Idx := ((cfg0.win 4).blk t).view.emb y

theorem place_row (t : Fin cfg0.N) (y : S256x96.Idx) : (place t y 0).val = 256 * t.val + (y 0).val := by
  obtain ⟨h, -⟩ := idx4 t
  show win0_4.index t 0 * 256 + 1 * (y 0).val = _
  omega

theorem place_col (t : Fin cfg0.N) (y : S256x96.Idx) : (place t y 1).val = (y 1).val := by
  obtain ⟨-, h⟩ := idx4 t
  show win0_4.index t 1 * 96 + 1 * (y 1).val = _
  omega

/-- Every entry lies in a block. -/
theorem placed (x : S256x96.Idx) : ∃ t y, place t y = x := by
  have h : (x 0).val < 256 := (x 0).isLt
  refine ⟨⟨(x 0).val / 256, by show _ < 1; omega⟩, ix2 ⟨(x 0).val % 256, Nat.mod_lt _ (by decide)⟩ (x 1), funext fun a => Fin.ext ?_⟩
  fin_cases a
  · refine (place_row _ _).trans ?_
    show 256 * ((x 0).val / 256) + (x 0).val % 256 = (x 0).val
    omega
  · exact place_col _ _

/-- The sum over the parts of a block is the gradient's block. -/
theorem grad_block (t : Fin cfg0.N) (y : S256x96.Idx) :
    k0_pay5 (F := Ideal) (iblk m c 0 t) (iblk m c 1 t) (iblk m c 2 t) (iblk m c 3 t) y = grad (P m c) (place t y) := by
  refine (congrFun (sum_parts (R := 256) (C := 96) (iblk m c 0 t) shapeCasts_S1x256x96_S256x96) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 256 + 1 * (y 0).val = (place t y 0).val
    omega
  · show win0_0.index t 2 * 96 + 1 * (y 1).val = (place t y 1).val
    omega

/-- The four results, entry by entry. -/
abbrev G : Vec Ideal S256x96 .f32 := grad (P m c)
abbrev NM : Vec Ideal S256x96 .f32 := fun x => moment (M m c x) (G m c x)
abbrev NV : Vec Ideal S256x96 .f32 := fun x => moment2 (V2 m c x) (G m c x)
abbrev NW : Vec Ideal S256x96 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S256x96) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S256x96) off _ _) y).trans ?_
  exact congrArg₂ moment (congrFun (View.ld_unit_zero (S := S256x96) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S256x96) off _ _) y).trans ?_
  exact congrArg₂ moment2 (congrFun (View.ld_unit_zero (S := S256x96) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S256x96) off _ _) y).trans ?_
  exact change_congr (congrFun (View.ld_unit_zero (S := S256x96) off _ _) y)
    (congrArg₂ moment (congrFun (View.ld_unit_zero (S := S256x96) off _ _) y) (grad_block m c t y))
    (congrArg₂ moment2 (congrFun (View.ld_unit_zero (S := S256x96) off _ _) y) (grad_block m c t y))

end Cert.Kernel31Ideal.Adam

namespace Cert.Proof

/-- The reference's frame. -/
theorem frame_ref31 : Cert.quiescent_Reference31Ideal := by
  intro m ρ _
  exact (θ_run Cert.Reference31Ideal.defs _ _).mono
    (fun r h => ⟨fun c => (h c).2.2.2.2, sem_eq_zero_of_no_sems (by decide) r.2⟩)
    (Cert.Reference31Ideal.Value.run (F := Ideal) m ρ)

/-- The kernel's four results are the reference's. -/
theorem algebraic31 : Cert.algebraic_Kernel31Ideal_Reference31Ideal := by
  intro m ρ m' ρ' _ hag
  refine ⟨_, _, _, _, Cert.Kernel31Ideal.Value.run_blocks (F := Ideal) m ρ,
    (θ_run Cert.Reference31Ideal.defs _ _).mono (fun r h c => ?_) (Cert.Reference31Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel31Ideal.Adam.value4 m c).symm, h1.trans (Cert.Kernel31Ideal.Adam.value5 m c).symm,
    h2.trans (Cert.Kernel31Ideal.Adam.value6 m c).symm, h3.trans (Cert.Kernel31Ideal.Adam.value7 m c).symm, rest⟩

end Cert.Proof

end
-- ==== Proof.Adam.MlaKv.lean ====
/-
  AdamW of one device's part of the latent attention's key and value weight, taken in blocks of 128 rows.
-/
module

public import proofs.«01_k».proof.Proof.Adam.Step
public import proofs.«01_k».proof.Proof.Gen.Kernel32Ideal.Value
public import proofs.«01_k».proof.Proof.Gen.Reference32Ideal.Run
public import proofs.«01_k».proof.Defs

@[expose] public section

set_option maxRecDepth 16384

noncomputable section

open Idealize.ShloMosaic Idealize.ShloMosaic.TcCoe Idealize.SL.Sem

namespace Cert.Kernel32Ideal.Adam

open Cert.Adam Cert.Kernel32Ideal Cert.Kernel32Ideal.Gen Cert.Kernel32Ideal.Value

variable (m : (ℓ : Loc nD τ sig) → Buf (Elt Ideal) ℓ) (c : Dev nD)

/-- The arguments: the parts of the gradient, the weight and its moments. -/
abbrev P : Vec Ideal S8x128x128 .f32 := m (c, Proc.tc.devRef main_arg0)
abbrev W : Vec Ideal S128x128 .f32 := m (c, Proc.tc.devRef main_arg1)
abbrev M : Vec Ideal S128x128 .f32 := m (c, Proc.tc.devRef main_arg2)
abbrev V2 : Vec Ideal S128x128 .f32 := m (c, Proc.tc.devRef main_arg3)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S128x128.Idx) : S128x128.Idx := ((cfg0.win 4).blk t).view.emb y

theorem place_row (t : Fin cfg0.N) (y : S128x128.Idx) : (place t y 0).val = 128 * t.val + (y 0).val := by
  obtain ⟨h, -⟩ := idx4 t
  show win0_4.index t 0 * 128 + 1 * (y 0).val = _
  omega

theorem place_col (t : Fin cfg0.N) (y : S128x128.Idx) : (place t y 1).val = (y 1).val := by
  obtain ⟨-, h⟩ := idx4 t
  show win0_4.index t 1 * 128 + 1 * (y 1).val = _
  omega

/-- Every entry lies in a block. -/
theorem placed (x : S128x128.Idx) : ∃ t y, place t y = x := by
  have h : (x 0).val < 128 := (x 0).isLt
  refine ⟨⟨(x 0).val / 128, by show _ < 1; omega⟩, ix2 ⟨(x 0).val % 128, Nat.mod_lt _ (by decide)⟩ (x 1), funext fun a => Fin.ext ?_⟩
  fin_cases a
  · refine (place_row _ _).trans ?_
    show 128 * ((x 0).val / 128) + (x 0).val % 128 = (x 0).val
    omega
  · exact place_col _ _

/-- The sum over the parts of a block is the gradient's block. -/
theorem grad_block (t : Fin cfg0.N) (y : S128x128.Idx) :
    k0_pay5 (F := Ideal) (iblk m c 0 t) (iblk m c 1 t) (iblk m c 2 t) (iblk m c 3 t) y = grad (P m c) (place t y) := by
  refine (congrFun (sum_parts (R := 128) (C := 128) (iblk m c 0 t) shapeCasts_S1x128x128_S128x128) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 128 + 1 * (y 0).val = (place t y 0).val
    omega
  · show win0_0.index t 2 * 128 + 1 * (y 1).val = (place t y 1).val
    omega

/-- The four results, entry by entry. -/
abbrev G : Vec Ideal S128x128 .f32 := grad (P m c)
abbrev NM : Vec Ideal S128x128 .f32 := fun x => moment (M m c x) (G m c x)
abbrev NV : Vec Ideal S128x128 .f32 := fun x => moment2 (V2 m c x) (G m c x)
abbrev NW : Vec Ideal S128x128 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S128x128) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S128x128) off _ _) y).trans ?_
  exact congrArg₂ moment (congrFun (View.ld_unit_zero (S := S128x128) off _ _) y) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S128x128) off _ _) y).trans ?_
  exact congrArg₂ moment2 (congrFun (View.ld_unit_zero (S := S128x128) off _ _) y) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S128x128) off _ _) y).trans ?_
  exact change_congr (congrFun (View.ld_unit_zero (S := S128x128) off _ _) y)
    (congrArg₂ moment (congrFun (View.ld_unit_zero (S := S128x128) off _ _) y) (grad_block m c t y))
    (congrArg₂ moment2 (congrFun (View.ld_unit_zero (S := S128x128) off _ _) y) (grad_block m c t y))

end Cert.Kernel32Ideal.Adam

namespace Cert.Proof

/-- The reference's frame. -/
theorem frame_ref32 : Cert.quiescent_Reference32Ideal := by
  intro m ρ _
  exact (θ_run Cert.Reference32Ideal.defs _ _).mono
    (fun r h => ⟨fun c => (h c).2.2.2.2, sem_eq_zero_of_no_sems (by decide) r.2⟩)
    (Cert.Reference32Ideal.Value.run (F := Ideal) m ρ)

/-- The kernel's four results are the reference's. -/
theorem algebraic32 : Cert.algebraic_Kernel32Ideal_Reference32Ideal := by
  intro m ρ m' ρ' _ hag
  refine ⟨_, _, _, _, Cert.Kernel32Ideal.Value.run_blocks (F := Ideal) m ρ,
    (θ_run Cert.Reference32Ideal.defs _ _).mono (fun r h c => ?_) (Cert.Reference32Ideal.Value.run (F := Ideal) m' ρ')⟩
  obtain ⟨g0, g1, g2, g3⟩ := hag c
  obtain ⟨h0, h1, h2, h3, rest⟩ := h c
  rw [g0] at h0
  rw [g0, g1, g2, g3] at h1
  rw [g0, g2] at h2
  rw [g0, g3] at h3
  rw [Cert.Adam.sum_eq] at h0 h1 h2 h3
  exact ⟨h0.trans (Cert.Kernel32Ideal.Adam.value4 m c).symm, h1.trans (Cert.Kernel32Ideal.Adam.value5 m c).symm,
    h2.trans (Cert.Kernel32Ideal.Adam.value6 m c).symm, h3.trans (Cert.Kernel32Ideal.Adam.value7 m c).symm, rest⟩

end Cert.Proof

end
-- ==== Proof.Adam.GroupA.lean ====
/-
  AdamW of the small weights of group a: a convolution's weight, and three vectors, laid one after
  another in 512 rows of 128, one block.
-/
module

public import proofs.«01_k».proof.Proof.Adam.Step
public import Idealize.ShloMosaic.Lib.StableHlo.RunRead
public import proofs.«01_k».proof.Proof.Gen.Kernel23Ideal.Value
public import proofs.«01_k».proof.Proof.Gen.Reference23Ideal.Run
public import proofs.«01_k».proof.Defs

@[expose] public section

set_option maxRecDepth 16384

noncomputable section

open Idealize.ShloMosaic Idealize.ShloMosaic.TcCoe Idealize.SL.Sem

namespace Cert.Kernel23Ideal.Adam

open Cert.Adam Cert.Kernel23Ideal Cert.Kernel23Ideal.Gen Cert.Kernel23Ideal.Value

variable (m : (ℓ : Loc nD τ sig) → Buf (Elt Ideal) ℓ) (c : Dev nD)

/-- The group's arrays one after another, filled with zeros. -/
def rows (a1 : FVec Ideal S3x352 .f32) (a2 : FVec Ideal S2816 .f32) (a3 a4 : FVec Ideal S1024 .f32) : FVec Ideal S512x128 .f32 :=
  let fill : FVec Ideal S_ .f32 := sitofp .f32 (constantI S_ 32 0#32)
  let vectors : FVec Ideal S4864 .f32 := concatenate S4864 0
    [⟨S2816, a2⟩,
      ⟨S1024, a3⟩,
      ⟨S1024, a4⟩]
    concatenates_S2816_S1024_S1024_S4864_d0
  shapeCast S512x128 (concatenate S65536 0
    [⟨S2048, pad S2048 ![0] ![992] ![0] (shapeCast S1056 a1 shapeCasts_S3x352_S1056) fill pads_S1056_S2048_09920 h_S_⟩,
      ⟨S5120, pad S5120 ![0] ![256] ![0] vectors fill pads_S4864_S5120_02560 h_S_⟩,
      ⟨S58368, broadcastInDim S58368 ![] bcast_S_S58368 (constant S_ .f32 0x00000000#32)⟩]
    concatenates_S2048_S5120_S58368_S65536_d0) shapeCasts_S65536_S512x128

/-- The arguments: the parts of the gradient, the packed weights and moments. -/
abbrev P : Vec Ideal S8x512x128 .f32 := m (c, Proc.tc.devRef main_arg0)
abbrev W : Vec Ideal S512x128 .f32 := V (F := Ideal) m c (Pipeline.arrRef spec0 1)
abbrev M : Vec Ideal S512x128 .f32 := V (F := Ideal) m c (Pipeline.arrRef spec0 2)
abbrev V2 : Vec Ideal S512x128 .f32 := V (F := Ideal) m c (Pipeline.arrRef spec0 3)

theorem host1 : W m c = rows (m (c, Proc.tc.devRef main_arg1)) (m (c, Proc.tc.devRef main_arg2)) (m (c, Proc.tc.devRef main_arg3)) (m (c, Proc.tc.devRef main_arg4)) := by
  unfold W V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem host2 : M m c = rows (m (c, Proc.tc.devRef main_arg5)) (m (c, Proc.tc.devRef main_arg6)) (m (c, Proc.tc.devRef main_arg7)) (m (c, Proc.tc.devRef main_arg8)) := by
  unfold M V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem host3 : V2 m c = rows (m (c, Proc.tc.devRef main_arg9)) (m (c, Proc.tc.devRef main_arg10)) (m (c, Proc.tc.devRef main_arg11)) (m (c, Proc.tc.devRef main_arg12)) := by
  unfold V2 V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S512x128.Idx) : S512x128.Idx := ((cfg0.win 4).blk t).view.emb y

theorem place_row (t : Fin cfg0.N) (y : S512x128.Idx) : (place t y 0).val = 512 * t.val + (y 0).val := by
  obtain ⟨h, -⟩ := idx4 t
  show win0_4.index t 0 * 512 + 1 * (y 0).val = _
  omega

theorem place_col (t : Fin cfg0.N) (y : S512x128.Idx) : (place t y 1).val = (y 1).val := by
  obtain ⟨-, h⟩ := idx4 t
  show win0_4.index t 1 * 128 + 1 * (y 1).val = _
  omega

/-- Every entry lies in a block. -/
theorem placed (x : S512x128.Idx) : ∃ t y, place t y = x := by
  have h : (x 0).val < 512 := (x 0).isLt
  refine ⟨⟨(x 0).val / 512, by show _ < 1; omega⟩, ix2 ⟨(x 0).val % 512, Nat.mod_lt _ (by decide)⟩ (x 1), funext fun a => Fin.ext ?_⟩
  fin_cases a
  · refine (place_row _ _).trans ?_
    show 512 * ((x 0).val / 512) + (x 0).val % 512 = (x 0).val
    omega
  · exact place_col _ _

/-- The sum over the parts of a block is the gradient's block. -/
theorem grad_block (t : Fin cfg0.N) (y : S512x128.Idx) :
    k0_pay5 (F := Ideal) (iblk m c 0 t) (iblk m c 1 t) (iblk m c 2 t) (iblk m c 3 t) y = grad (P m c) (place t y) := by
  refine (congrFun (sum_parts (R := 512) (C := 128) (iblk m c 0 t) shapeCasts_S1x512x128_S512x128) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 512 + 1 * (y 0).val = (place t y 0).val
    omega
  · show win0_0.index t 2 * 128 + 1 * (y 1).val = (place t y 1).val
    omega

/-- The four results, entry by entry. -/
abbrev G : Vec Ideal S512x128 .f32 := grad (P m c)
abbrev NM : Vec Ideal S512x128 .f32 := fun x => moment (M m c x) (G m c x)
abbrev NV : Vec Ideal S512x128 .f32 := fun x => moment2 (V2 m c x) (G m c x)
abbrev NW : Vec Ideal S512x128 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S512x128) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S512x128) off _ _) y).trans ?_
  exact congrArg₂ moment ((congrFun (shapeCast_self _ _) y).trans (congrFun (View.ld_unit_zero (S := S512x128) off _ _) y)) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S512x128) off _ _) y).trans ?_
  exact congrArg₂ moment2 ((congrFun (shapeCast_self _ _) y).trans (congrFun (View.ld_unit_zero (S := S512x128) off _ _) y)) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S512x128) off _ _) y).trans ?_
  exact change_congr ((congrFun (shapeCast_self _ _) y).trans (congrFun (View.ld_unit_zero (S := S512x128) off _ _) y))
    (congrArg₂ moment ((congrFun (shapeCast_self _ _) y).trans (congrFun (View.ld_unit_zero (S := S512x128) off _ _) y)) (grad_block m c t y))
    (congrArg₂ moment2 ((congrFun (shapeCast_self _ _) y).trans (congrFun (View.ld_unit_zero (S := S512x128) off _ _) y)) (grad_block m c t y))

end Cert.Kernel23Ideal.Adam

namespace Cert.Proof

/-- The reference's frame. -/
theorem frame_ref23 : Cert.quiescent_Reference23Ideal := by
  intro m ρ _
  exact (θ_run Cert.Reference23Ideal.defs _ _).mono
    (fun r h => ⟨fun c => (h c).2.2.2.2, sem_eq_zero_of_no_sems (by decide) r.2⟩)
    (Cert.Reference23Ideal.Value.run (F := Ideal) m ρ)

/-- The kernel's four results are the reference's. -/
theorem algebraic23 : Cert.algebraic_Kernel23Ideal_Reference23Ideal := by
  intro m ρ m' ρ' _ hag
  refine ⟨_, _, _, _, Cert.Kernel23Ideal.Value.run_blocks (F := Ideal) m ρ,
    (θ_run Cert.Reference23Ideal.defs _ _).mono (fun r h c => ?_) (Cert.Reference23Ideal.Value.run (F := Ideal) m' ρ')⟩
  obtain ⟨g0, g1, g2, g3, g4, g5, g6, g7, g8, g9, g10, g11, g12⟩ := hag c
  obtain ⟨h0, h1, h2, h3, rest⟩ := h c
  have e0 h u hu := (Cert.Adam.sum_eq (R := 512) (C := 128) (m' (c.tc.loc Cert.Reference23Ideal.main_arg0)) h (u := u) hu).trans (congrArg Cert.Adam.grad g0)
  have e1 : Cert.Kernel23Ideal.Adam.rows (m' (c.tc.loc Cert.Reference23Ideal.main_arg1)) (m' (c.tc.loc Cert.Reference23Ideal.main_arg2)) (m' (c.tc.loc Cert.Reference23Ideal.main_arg3)) (m' (c.tc.loc Cert.Reference23Ideal.main_arg4)) = Cert.Kernel23Ideal.Adam.W m c := by
    rw [g1, g2, g3, g4]
    exact (Cert.Kernel23Ideal.Adam.host1 m c).symm
  have e2 : Cert.Kernel23Ideal.Adam.rows (m' (c.tc.loc Cert.Reference23Ideal.main_arg5)) (m' (c.tc.loc Cert.Reference23Ideal.main_arg6)) (m' (c.tc.loc Cert.Reference23Ideal.main_arg7)) (m' (c.tc.loc Cert.Reference23Ideal.main_arg8)) = Cert.Kernel23Ideal.Adam.M m c := by
    rw [g5, g6, g7, g8]
    exact (Cert.Kernel23Ideal.Adam.host2 m c).symm
  have e3 : Cert.Kernel23Ideal.Adam.rows (m' (c.tc.loc Cert.Reference23Ideal.main_arg9)) (m' (c.tc.loc Cert.Reference23Ideal.main_arg10)) (m' (c.tc.loc Cert.Reference23Ideal.main_arg11)) (m' (c.tc.loc Cert.Reference23Ideal.main_arg12)) = Cert.Kernel23Ideal.Adam.V2 m c := by
    rw [g9, g10, g11, g12]
    exact (Cert.Kernel23Ideal.Adam.host3 m c).symm
  exact ⟨(h0.trans (e0 _ _ _)).trans (Cert.Kernel23Ideal.Adam.value4 m c).symm, (h1.trans (Cert.Adam.change_of _ e1 e2 e3 (e0 _ _ _))).trans (Cert.Kernel23Ideal.Adam.value5 m c).symm,
    (h2.trans (Cert.Adam.moment_of _ e2 (e0 _ _ _))).trans (Cert.Kernel23Ideal.Adam.value6 m c).symm,
    (h3.trans (Cert.Adam.moment2_of _ e3 (e0 _ _ _))).trans (Cert.Kernel23Ideal.Adam.value7 m c).symm, rest⟩

end Cert.Proof

end
-- ==== Proof.Adam.GroupB.lean ====
/-
  AdamW of the small weights of group b: two convolutions' weights, and 17 vectors, laid one after
  another in 512 rows of 128, one block.
-/
module

public import proofs.«01_k».proof.Proof.Adam.Step
public import Idealize.ShloMosaic.Lib.StableHlo.RunRead
public import proofs.«01_k».proof.Proof.Gen.Kernel33Ideal.Value
public import proofs.«01_k».proof.Proof.Gen.Reference33Ideal.Run
public import proofs.«01_k».proof.Defs

@[expose] public section

set_option maxRecDepth 16384
set_option maxHeartbeats 4000000

noncomputable section

open Idealize.ShloMosaic Idealize.ShloMosaic.TcCoe Idealize.SL.Sem

namespace Cert.Kernel33Ideal.Adam

open Cert.Adam Cert.Kernel33Ideal Cert.Kernel33Ideal.Gen Cert.Kernel33Ideal.Value

variable (m : (ℓ : Loc nD τ sig) → Buf (Elt Ideal) ℓ) (c : Dev nD)

/-- The group's arrays one after another, filled with zeros. -/
def rows (a1 : FVec Ideal S4x128 .f32) (a2 : FVec Ideal S3x352 .f32) (a3 : FVec Ideal S8x64 .f32) (a4 a5 : FVec Ideal S512 .f32) (a6 : FVec Ideal S1024 .f32) (a7 a8 a9 : FVec Ideal S8 .f32) (a10 : FVec Ideal S512 .f32) (a11 a12 : FVec Ideal S1024 .f32) (a13 : FVec Ideal S2816 .f32) (a14 a15 : FVec Ideal S1024 .f32) (a16 : FVec Ideal S256 .f32) (a17 : FVec Ideal S128 .f32) (a18 a19 : FVec Ideal S1024 .f32) : FVec Ideal S512x128 .f32 :=
  let fill : FVec Ideal S_ .f32 := sitofp .f32 (constantI S_ 32 0#32)
  let most : FVec Ideal S11416 .f32 := concatenate S11416 0
    [⟨S512, (shapeCast S512 a3 shapeCasts_S8x64_S512)⟩,
      ⟨S512, a4⟩,
      ⟨S512, a5⟩,
      ⟨S1024, a6⟩,
      ⟨S8, a7⟩,
      ⟨S8, a8⟩,
      ⟨S8, a9⟩,
      ⟨S512, a10⟩,
      ⟨S1024, a11⟩,
      ⟨S1024, a12⟩,
      ⟨S2816, a13⟩,
      ⟨S1024, a14⟩,
      ⟨S1024, a15⟩,
      ⟨S256, a16⟩,
      ⟨S128, a17⟩,
      ⟨S1024, a18⟩]
    concatenates_S512_S512_S512_S1024_S8_S8_S8_S512_S1024_S1024_S2816_S1024_S1024_S256_S128_S1024_S11416_d0
  let vectors : FVec Ideal S12440 .f32 := concatenate S12440 0
    [⟨S11416, most⟩,
      ⟨S1024, a19⟩]
    concatenates_S11416_S1024_S12440_d0
  shapeCast S512x128 (concatenate S65536 0
    [⟨S1024, pad S1024 ![0] ![512] ![0] (shapeCast S512 a1 shapeCasts_S4x128_S512) fill pads_S512_S1024_05120 h_S_⟩,
      ⟨S2048, pad S2048 ![0] ![992] ![0] (shapeCast S1056 a2 shapeCasts_S3x352_S1056) fill pads_S1056_S2048_09920 h_S_⟩,
      ⟨S13312, pad S13312 ![0] ![872] ![0] vectors fill pads_S12440_S13312_08720 h_S_⟩,
      ⟨S49152, broadcastInDim S49152 ![] bcast_S_S49152 (constant S_ .f32 0x00000000#32)⟩]
    concatenates_S1024_S2048_S13312_S49152_S65536_d0) shapeCasts_S65536_S512x128

/-- The arguments: the parts of the gradient, the packed weights and moments. -/
abbrev P : Vec Ideal S8x512x128 .f32 := m (c, Proc.tc.devRef main_arg0)
abbrev W : Vec Ideal S512x128 .f32 := V (F := Ideal) m c (Pipeline.arrRef spec0 1)
abbrev M : Vec Ideal S512x128 .f32 := V (F := Ideal) m c (Pipeline.arrRef spec0 2)
abbrev V2 : Vec Ideal S512x128 .f32 := V (F := Ideal) m c (Pipeline.arrRef spec0 3)

theorem host1 : W m c = rows (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) (m (c, Proc.tc.devRef main_arg16)) (m (c, Proc.tc.devRef main_arg17)) (m (c, Proc.tc.devRef main_arg18)) (m (c, Proc.tc.devRef main_arg19)) := by
  unfold W V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem host2 : M m c = rows (m (c, Proc.tc.devRef main_arg20)) (m (c, Proc.tc.devRef main_arg21)) (m (c, Proc.tc.devRef main_arg22)) (m (c, Proc.tc.devRef main_arg23)) (m (c, Proc.tc.devRef main_arg24)) (m (c, Proc.tc.devRef main_arg25)) (m (c, Proc.tc.devRef main_arg26)) (m (c, Proc.tc.devRef main_arg27)) (m (c, Proc.tc.devRef main_arg28)) (m (c, Proc.tc.devRef main_arg29)) (m (c, Proc.tc.devRef main_arg30)) (m (c, Proc.tc.devRef main_arg31)) (m (c, Proc.tc.devRef main_arg32)) (m (c, Proc.tc.devRef main_arg33)) (m (c, Proc.tc.devRef main_arg34)) (m (c, Proc.tc.devRef main_arg35)) (m (c, Proc.tc.devRef main_arg36)) (m (c, Proc.tc.devRef main_arg37)) (m (c, Proc.tc.devRef main_arg38)) := by
  unfold M V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem host3 : V2 m c = rows (m (c, Proc.tc.devRef main_arg39)) (m (c, Proc.tc.devRef main_arg40)) (m (c, Proc.tc.devRef main_arg41)) (m (c, Proc.tc.devRef main_arg42)) (m (c, Proc.tc.devRef main_arg43)) (m (c, Proc.tc.devRef main_arg44)) (m (c, Proc.tc.devRef main_arg45)) (m (c, Proc.tc.devRef main_arg46)) (m (c, Proc.tc.devRef main_arg47)) (m (c, Proc.tc.devRef main_arg48)) (m (c, Proc.tc.devRef main_arg49)) (m (c, Proc.tc.devRef main_arg50)) (m (c, Proc.tc.devRef main_arg51)) (m (c, Proc.tc.devRef main_arg52)) (m (c, Proc.tc.devRef main_arg53)) (m (c, Proc.tc.devRef main_arg54)) (m (c, Proc.tc.devRef main_arg55)) (m (c, Proc.tc.devRef main_arg56)) (m (c, Proc.tc.devRef main_arg57)) := by
  unfold V2 V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S512x128.Idx) : S512x128.Idx := ((cfg0.win 4).blk t).view.emb y

theorem place_row (t : Fin cfg0.N) (y : S512x128.Idx) : (place t y 0).val = 512 * t.val + (y 0).val := by
  obtain ⟨h, -⟩ := idx4 t
  show win0_4.index t 0 * 512 + 1 * (y 0).val = _
  omega

theorem place_col (t : Fin cfg0.N) (y : S512x128.Idx) : (place t y 1).val = (y 1).val := by
  obtain ⟨-, h⟩ := idx4 t
  show win0_4.index t 1 * 128 + 1 * (y 1).val = _
  omega

/-- Every entry lies in a block. -/
theorem placed (x : S512x128.Idx) : ∃ t y, place t y = x := by
  have h : (x 0).val < 512 := (x 0).isLt
  refine ⟨⟨(x 0).val / 512, by show _ < 1; omega⟩, ix2 ⟨(x 0).val % 512, Nat.mod_lt _ (by decide)⟩ (x 1), funext fun a => Fin.ext ?_⟩
  fin_cases a
  · refine (place_row _ _).trans ?_
    show 512 * ((x 0).val / 512) + (x 0).val % 512 = (x 0).val
    omega
  · exact place_col _ _

/-- The sum over the parts of a block is the gradient's block. -/
theorem grad_block (t : Fin cfg0.N) (y : S512x128.Idx) :
    k0_pay5 (F := Ideal) (iblk m c 0 t) (iblk m c 1 t) (iblk m c 2 t) (iblk m c 3 t) y = grad (P m c) (place t y) := by
  refine (congrFun (sum_parts (R := 512) (C := 128) (iblk m c 0 t) shapeCasts_S1x512x128_S512x128) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 512 + 1 * (y 0).val = (place t y 0).val
    omega
  · show win0_0.index t 2 * 128 + 1 * (y 1).val = (place t y 1).val
    omega

/-- The four results, entry by entry. -/
abbrev G : Vec Ideal S512x128 .f32 := grad (P m c)
abbrev NM : Vec Ideal S512x128 .f32 := fun x => moment (M m c x) (G m c x)
abbrev NV : Vec Ideal S512x128 .f32 := fun x => moment2 (V2 m c x) (G m c x)
abbrev NW : Vec Ideal S512x128 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S512x128) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S512x128) off _ _) y).trans ?_
  exact congrArg₂ moment ((congrFun (shapeCast_self _ _) y).trans (congrFun (View.ld_unit_zero (S := S512x128) off _ _) y)) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S512x128) off _ _) y).trans ?_
  exact congrArg₂ moment2 ((congrFun (shapeCast_self _ _) y).trans (congrFun (View.ld_unit_zero (S := S512x128) off _ _) y)) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S512x128) off _ _) y).trans ?_
  exact change_congr ((congrFun (shapeCast_self _ _) y).trans (congrFun (View.ld_unit_zero (S := S512x128) off _ _) y))
    (congrArg₂ moment ((congrFun (shapeCast_self _ _) y).trans (congrFun (View.ld_unit_zero (S := S512x128) off _ _) y)) (grad_block m c t y))
    (congrArg₂ moment2 ((congrFun (shapeCast_self _ _) y).trans (congrFun (View.ld_unit_zero (S := S512x128) off _ _) y)) (grad_block m c t y))

end Cert.Kernel33Ideal.Adam

namespace Cert.Proof

/-- The reference's frame. -/
theorem frame_ref33 : Cert.quiescent_Reference33Ideal := by
  intro m ρ _
  exact (θ_run Cert.Reference33Ideal.defs _ _).mono
    (fun r h => ⟨fun c => (h c).2.2.2.2, sem_eq_zero_of_no_sems (by decide) r.2⟩)
    (Cert.Reference33Ideal.Value.run (F := Ideal) m ρ)

/-- The kernel's four results are the reference's. -/
theorem algebraic33 : Cert.algebraic_Kernel33Ideal_Reference33Ideal := by
  intro m ρ m' ρ' _ hag
  refine ⟨_, _, _, _, Cert.Kernel33Ideal.Value.run_blocks (F := Ideal) m ρ,
    (θ_run Cert.Reference33Ideal.defs _ _).mono (fun r h c => ?_) (Cert.Reference33Ideal.Value.run (F := Ideal) m' ρ')⟩
  obtain ⟨g0, g1, g2, g3, g4, g5, g6, g7, g8, g9, g10, g11, g12, g13, g14, g15, g16, g17, g18, g19, g20, g21, g22, g23, g24, g25, g26, g27, g28, g29, g30, g31, g32, g33, g34, g35, g36, g37, g38, g39, g40, g41, g42, g43, g44, g45, g46, g47, g48, g49, g50, g51, g52, g53, g54, g55, g56, g57⟩ := hag c
  obtain ⟨h0, h1, h2, h3, rest⟩ := h c
  have e0 h u hu := (Cert.Adam.sum_eq (R := 512) (C := 128) (m' (c.tc.loc Cert.Reference33Ideal.main_arg0)) h (u := u) hu).trans (congrArg Cert.Adam.grad g0)
  have e1 : Cert.Kernel33Ideal.Adam.rows (m' (c.tc.loc Cert.Reference33Ideal.main_arg1)) (m' (c.tc.loc Cert.Reference33Ideal.main_arg2)) (m' (c.tc.loc Cert.Reference33Ideal.main_arg3)) (m' (c.tc.loc Cert.Reference33Ideal.main_arg4)) (m' (c.tc.loc Cert.Reference33Ideal.main_arg5)) (m' (c.tc.loc Cert.Reference33Ideal.main_arg6)) (m' (c.tc.loc Cert.Reference33Ideal.main_arg7)) (m' (c.tc.loc Cert.Reference33Ideal.main_arg8)) (m' (c.tc.loc Cert.Reference33Ideal.main_arg9)) (m' (c.tc.loc Cert.Reference33Ideal.main_arg10)) (m' (c.tc.loc Cert.Reference33Ideal.main_arg11)) (m' (c.tc.loc Cert.Reference33Ideal.main_arg12)) (m' (c.tc.loc Cert.Reference33Ideal.main_arg13)) (m' (c.tc.loc Cert.Reference33Ideal.main_arg14)) (m' (c.tc.loc Cert.Reference33Ideal.main_arg15)) (m' (c.tc.loc Cert.Reference33Ideal.main_arg16)) (m' (c.tc.loc Cert.Reference33Ideal.main_arg17)) (m' (c.tc.loc Cert.Reference33Ideal.main_arg18)) (m' (c.tc.loc Cert.Reference33Ideal.main_arg19)) = Cert.Kernel33Ideal.Adam.W m c := by
    rw [g1, g2, g3, g4, g5, g6, g7, g8, g9, g10, g11, g12, g13, g14, g15, g16, g17, g18, g19]
    exact (Cert.Kernel33Ideal.Adam.host1 m c).symm
  have e2 : Cert.Kernel33Ideal.Adam.rows (m' (c.tc.loc Cert.Reference33Ideal.main_arg20)) (m' (c.tc.loc Cert.Reference33Ideal.main_arg21)) (m' (c.tc.loc Cert.Reference33Ideal.main_arg22)) (m' (c.tc.loc Cert.Reference33Ideal.main_arg23)) (m' (c.tc.loc Cert.Reference33Ideal.main_arg24)) (m' (c.tc.loc Cert.Reference33Ideal.main_arg25)) (m' (c.tc.loc Cert.Reference33Ideal.main_arg26)) (m' (c.tc.loc Cert.Reference33Ideal.main_arg27)) (m' (c.tc.loc Cert.Reference33Ideal.main_arg28)) (m' (c.tc.loc Cert.Reference33Ideal.main_arg29)) (m' (c.tc.loc Cert.Reference33Ideal.main_arg30)) (m' (c.tc.loc Cert.Reference33Ideal.main_arg31)) (m' (c.tc.loc Cert.Reference33Ideal.main_arg32)) (m' (c.tc.loc Cert.Reference33Ideal.main_arg33)) (m' (c.tc.loc Cert.Reference33Ideal.main_arg34)) (m' (c.tc.loc Cert.Reference33Ideal.main_arg35)) (m' (c.tc.loc Cert.Reference33Ideal.main_arg36)) (m' (c.tc.loc Cert.Reference33Ideal.main_arg37)) (m' (c.tc.loc Cert.Reference33Ideal.main_arg38)) = Cert.Kernel33Ideal.Adam.M m c := by
    rw [g20, g21, g22, g23, g24, g25, g26, g27, g28, g29, g30, g31, g32, g33, g34, g35, g36, g37, g38]
    exact (Cert.Kernel33Ideal.Adam.host2 m c).symm
  have e3 : Cert.Kernel33Ideal.Adam.rows (m' (c.tc.loc Cert.Reference33Ideal.main_arg39)) (m' (c.tc.loc Cert.Reference33Ideal.main_arg40)) (m' (c.tc.loc Cert.Reference33Ideal.main_arg41)) (m' (c.tc.loc Cert.Reference33Ideal.main_arg42)) (m' (c.tc.loc Cert.Reference33Ideal.main_arg43)) (m' (c.tc.loc Cert.Reference33Ideal.main_arg44)) (m' (c.tc.loc Cert.Reference33Ideal.main_arg45)) (m' (c.tc.loc Cert.Reference33Ideal.main_arg46)) (m' (c.tc.loc Cert.Reference33Ideal.main_arg47)) (m' (c.tc.loc Cert.Reference33Ideal.main_arg48)) (m' (c.tc.loc Cert.Reference33Ideal.main_arg49)) (m' (c.tc.loc Cert.Reference33Ideal.main_arg50)) (m' (c.tc.loc Cert.Reference33Ideal.main_arg51)) (m' (c.tc.loc Cert.Reference33Ideal.main_arg52)) (m' (c.tc.loc Cert.Reference33Ideal.main_arg53)) (m' (c.tc.loc Cert.Reference33Ideal.main_arg54)) (m' (c.tc.loc Cert.Reference33Ideal.main_arg55)) (m' (c.tc.loc Cert.Reference33Ideal.main_arg56)) (m' (c.tc.loc Cert.Reference33Ideal.main_arg57)) = Cert.Kernel33Ideal.Adam.V2 m c := by
    rw [g39, g40, g41, g42, g43, g44, g45, g46, g47, g48, g49, g50, g51, g52, g53, g54, g55, g56, g57]
    exact (Cert.Kernel33Ideal.Adam.host3 m c).symm
  exact ⟨(h0.trans (e0 _ _ _)).trans (Cert.Kernel33Ideal.Adam.value4 m c).symm, (h1.trans (Cert.Adam.change_of _ e1 e2 e3 (e0 _ _ _))).trans (Cert.Kernel33Ideal.Adam.value5 m c).symm,
    (h2.trans (Cert.Adam.moment_of _ e2 (e0 _ _ _))).trans (Cert.Kernel33Ideal.Adam.value6 m c).symm,
    (h3.trans (Cert.Adam.moment2_of _ e3 (e0 _ _ _))).trans (Cert.Kernel33Ideal.Adam.value7 m c).symm, rest⟩

end Cert.Proof

end
-- ==== Proof.Adam.GroupC.lean ====
/-
  AdamW of the small weights of group c: five vectors, laid one after
  another in 512 rows of 128, one block.
-/
module

public import proofs.«01_k».proof.Proof.Adam.Step
public import Idealize.ShloMosaic.Lib.StableHlo.RunRead
public import proofs.«01_k».proof.Proof.Gen.Kernel34Ideal.Value
public import proofs.«01_k».proof.Proof.Gen.Reference34Ideal.Run
public import proofs.«01_k».proof.Defs

@[expose] public section

set_option maxRecDepth 16384

noncomputable section

open Idealize.ShloMosaic Idealize.ShloMosaic.TcCoe Idealize.SL.Sem

namespace Cert.Kernel34Ideal.Adam

open Cert.Adam Cert.Kernel34Ideal Cert.Kernel34Ideal.Gen Cert.Kernel34Ideal.Value

variable (m : (ℓ : Loc nD τ sig) → Buf (Elt Ideal) ℓ) (c : Dev nD)

/-- The group's arrays one after another, filled with zeros. -/
def rows (a1 : FVec Ideal S1792 .f32) (a2 a3 a4 a5 : FVec Ideal S512 .f32) : FVec Ideal S512x128 .f32 :=
  let fill : FVec Ideal S_ .f32 := sitofp .f32 (constantI S_ 32 0#32)
  let vectors : FVec Ideal S3840 .f32 := concatenate S3840 0
    [⟨S1792, a1⟩,
      ⟨S512, a2⟩,
      ⟨S512, a3⟩,
      ⟨S512, a4⟩,
      ⟨S512, a5⟩]
    concatenates_S1792_S512_S512_S512_S512_S3840_d0
  shapeCast S512x128 (concatenate S65536 0
    [⟨S4096, pad S4096 ![0] ![256] ![0] vectors fill pads_S3840_S4096_02560 h_S_⟩,
      ⟨S61440, broadcastInDim S61440 ![] bcast_S_S61440 (constant S_ .f32 0x00000000#32)⟩]
    concatenates_S4096_S61440_S65536_d0) shapeCasts_S65536_S512x128

/-- The arguments: the parts of the gradient, the packed weights and moments. -/
abbrev P : Vec Ideal S8x512x128 .f32 := m (c, Proc.tc.devRef main_arg0)
abbrev W : Vec Ideal S512x128 .f32 := V (F := Ideal) m c (Pipeline.arrRef spec0 1)
abbrev M : Vec Ideal S512x128 .f32 := V (F := Ideal) m c (Pipeline.arrRef spec0 2)
abbrev V2 : Vec Ideal S512x128 .f32 := V (F := Ideal) m c (Pipeline.arrRef spec0 3)

theorem host1 : W m c = rows (m (c, Proc.tc.devRef main_arg1)) (m (c, Proc.tc.devRef main_arg2)) (m (c, Proc.tc.devRef main_arg3)) (m (c, Proc.tc.devRef main_arg4)) (m (c, Proc.tc.devRef main_arg5)) := by
  unfold W V
  simp only [hostOps0, hostOps0_1, hostOps0_2, hostOps0_3, hostOps0_4, hostOps0_5, hostOps0_6, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem host2 : M m c = rows (m (c, Proc.tc.devRef main_arg6)) (m (c, Proc.tc.devRef main_arg7)) (m (c, Proc.tc.devRef main_arg8)) (m (c, Proc.tc.devRef main_arg9)) (m (c, Proc.tc.devRef main_arg10)) := by
  unfold M V
  simp only [hostOps0, hostOps0_1, hostOps0_2, hostOps0_3, hostOps0_4, hostOps0_5, hostOps0_6, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem host3 : V2 m c = rows (m (c, Proc.tc.devRef main_arg11)) (m (c, Proc.tc.devRef main_arg12)) (m (c, Proc.tc.devRef main_arg13)) (m (c, Proc.tc.devRef main_arg14)) (m (c, Proc.tc.devRef main_arg15)) := by
  unfold V2 V
  simp only [hostOps0, hostOps0_1, hostOps0_2, hostOps0_3, hostOps0_4, hostOps0_5, hostOps0_6, List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_reads_simp
  rfl

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Where a block's entry lies in the weight. -/
abbrev place (t : Fin cfg0.N) (y : S512x128.Idx) : S512x128.Idx := ((cfg0.win 4).blk t).view.emb y

theorem place_row (t : Fin cfg0.N) (y : S512x128.Idx) : (place t y 0).val = 512 * t.val + (y 0).val := by
  obtain ⟨h, -⟩ := idx4 t
  show win0_4.index t 0 * 512 + 1 * (y 0).val = _
  omega

theorem place_col (t : Fin cfg0.N) (y : S512x128.Idx) : (place t y 1).val = (y 1).val := by
  obtain ⟨-, h⟩ := idx4 t
  show win0_4.index t 1 * 128 + 1 * (y 1).val = _
  omega

/-- Every entry lies in a block. -/
theorem placed (x : S512x128.Idx) : ∃ t y, place t y = x := by
  have h : (x 0).val < 512 := (x 0).isLt
  refine ⟨⟨(x 0).val / 512, by show _ < 1; omega⟩, ix2 ⟨(x 0).val % 512, Nat.mod_lt _ (by decide)⟩ (x 1), funext fun a => Fin.ext ?_⟩
  fin_cases a
  · refine (place_row _ _).trans ?_
    show 512 * ((x 0).val / 512) + (x 0).val % 512 = (x 0).val
    omega
  · exact place_col _ _

/-- The sum over the parts of a block is the gradient's block. -/
theorem grad_block (t : Fin cfg0.N) (y : S512x128.Idx) :
    k0_pay5 (F := Ideal) (iblk m c 0 t) (iblk m c 1 t) (iblk m c 2 t) (iblk m c 3 t) y = grad (P m c) (place t y) := by
  refine (congrFun (sum_parts (R := 512) (C := 128) (iblk m c 0 t) shapeCasts_S1x512x128_S512x128) y).trans ?_
  refine congrArg total (funext fun d => congrArg (P m c) (funext fun a => Fin.ext ?_))
  obtain ⟨h0, h1, h2⟩ := idx0 t
  have hr := place_row t y
  have hc := place_col t y
  fin_cases a
  · show win0_0.index t 0 * 8 + 1 * d.val = d.val
    omega
  · show win0_0.index t 1 * 512 + 1 * (y 0).val = (place t y 0).val
    omega
  · show win0_0.index t 2 * 128 + 1 * (y 1).val = (place t y 1).val
    omega

/-- The four results, entry by entry. -/
abbrev G : Vec Ideal S512x128 .f32 := grad (P m c)
abbrev NM : Vec Ideal S512x128 .f32 := fun x => moment (M m c x) (G m c x)
abbrev NV : Vec Ideal S512x128 .f32 := fun x => moment2 (V2 m c x) (G m c x)
abbrev NW : Vec Ideal S512x128 .f32 := fun x => change (W m c x) (NM m c x) (NV m c x)

theorem value4 : (dats (F := Ideal) m 0 c).arrAt 4 cfg0.N = G m c := by
  funext x
  obtain ⟨t, y, rfl⟩ := placed x
  refine (congrFun (blocks4 m c t (flush0_4 t)) y).trans ?_
  rw [flushed4]
  refine (congrFun (View.canon_unit_zero (S := S512x128) off _ _) y).trans ?_
  exact grad_block m c t y

theorem value6 : (dats (F := Ideal) m 0 c).arrAt 6 cfg0.N = NM m c := by
  funext x
  obtain ⟨t, y, rfl⟩ := placed x
  refine (congrFun (blocks6 m c t (flush0_6 t)) y).trans ?_
  rw [flushed6]
  refine (congrFun (View.canon_unit_zero (S := S512x128) off _ _) y).trans ?_
  exact congrArg₂ moment ((congrFun (shapeCast_self _ _) y).trans (congrFun (View.ld_unit_zero (S := S512x128) off _ _) y)) (grad_block m c t y)

theorem value7 : (dats (F := Ideal) m 0 c).arrAt 7 cfg0.N = NV m c := by
  funext x
  obtain ⟨t, y, rfl⟩ := placed x
  refine (congrFun (blocks7 m c t (flush0_7 t)) y).trans ?_
  rw [flushed7]
  refine (congrFun (View.canon_unit_zero (S := S512x128) off _ _) y).trans ?_
  exact congrArg₂ moment2 ((congrFun (shapeCast_self _ _) y).trans (congrFun (View.ld_unit_zero (S := S512x128) off _ _) y)) (grad_block m c t y)

theorem value5 : (dats (F := Ideal) m 0 c).arrAt 5 cfg0.N = NW m c := by
  funext x
  obtain ⟨t, y, rfl⟩ := placed x
  refine (congrFun (blocks5 m c t (flush0_5 t)) y).trans ?_
  rw [flushed5]
  refine (congrFun (View.canon_unit_zero (S := S512x128) off _ _) y).trans ?_
  exact change_congr ((congrFun (shapeCast_self _ _) y).trans (congrFun (View.ld_unit_zero (S := S512x128) off _ _) y))
    (congrArg₂ moment ((congrFun (shapeCast_self _ _) y).trans (congrFun (View.ld_unit_zero (S := S512x128) off _ _) y)) (grad_block m c t y))
    (congrArg₂ moment2 ((congrFun (shapeCast_self _ _) y).trans (congrFun (View.ld_unit_zero (S := S512x128) off _ _) y)) (grad_block m c t y))

end Cert.Kernel34Ideal.Adam

namespace Cert.Proof

/-- The reference's frame. -/
theorem frame_ref34 : Cert.quiescent_Reference34Ideal := by
  intro m ρ _
  exact (θ_run Cert.Reference34Ideal.defs _ _).mono
    (fun r h => ⟨fun c => (h c).2.2.2.2, sem_eq_zero_of_no_sems (by decide) r.2⟩)
    (Cert.Reference34Ideal.Value.run (F := Ideal) m ρ)

/-- The kernel's four results are the reference's. -/
theorem algebraic34 : Cert.algebraic_Kernel34Ideal_Reference34Ideal := by
  intro m ρ m' ρ' _ hag
  refine ⟨_, _, _, _, Cert.Kernel34Ideal.Value.run_blocks (F := Ideal) m ρ,
    (θ_run Cert.Reference34Ideal.defs _ _).mono (fun r h c => ?_) (Cert.Reference34Ideal.Value.run (F := Ideal) m' ρ')⟩
  obtain ⟨g0, g1, g2, g3, g4, g5, g6, g7, g8, g9, g10, g11, g12, g13, g14, g15⟩ := hag c
  obtain ⟨h0, h1, h2, h3, rest⟩ := h c
  have e0 h u hu := (Cert.Adam.sum_eq (R := 512) (C := 128) (m' (c.tc.loc Cert.Reference34Ideal.main_arg0)) h (u := u) hu).trans (congrArg Cert.Adam.grad g0)
  have e1 : Cert.Kernel34Ideal.Adam.rows (m' (c.tc.loc Cert.Reference34Ideal.main_arg1)) (m' (c.tc.loc Cert.Reference34Ideal.main_arg2)) (m' (c.tc.loc Cert.Reference34Ideal.main_arg3)) (m' (c.tc.loc Cert.Reference34Ideal.main_arg4)) (m' (c.tc.loc Cert.Reference34Ideal.main_arg5)) = Cert.Kernel34Ideal.Adam.W m c := by
    rw [g1, g2, g3, g4, g5]
    exact (Cert.Kernel34Ideal.Adam.host1 m c).symm
  have e2 : Cert.Kernel34Ideal.Adam.rows (m' (c.tc.loc Cert.Reference34Ideal.main_arg6)) (m' (c.tc.loc Cert.Reference34Ideal.main_arg7)) (m' (c.tc.loc Cert.Reference34Ideal.main_arg8)) (m' (c.tc.loc Cert.Reference34Ideal.main_arg9)) (m' (c.tc.loc Cert.Reference34Ideal.main_arg10)) = Cert.Kernel34Ideal.Adam.M m c := by
    rw [g6, g7, g8, g9, g10]
    exact (Cert.Kernel34Ideal.Adam.host2 m c).symm
  have e3 : Cert.Kernel34Ideal.Adam.rows (m' (c.tc.loc Cert.Reference34Ideal.main_arg11)) (m' (c.tc.loc Cert.Reference34Ideal.main_arg12)) (m' (c.tc.loc Cert.Reference34Ideal.main_arg13)) (m' (c.tc.loc Cert.Reference34Ideal.main_arg14)) (m' (c.tc.loc Cert.Reference34Ideal.main_arg15)) = Cert.Kernel34Ideal.Adam.V2 m c := by
    rw [g11, g12, g13, g14, g15]
    exact (Cert.Kernel34Ideal.Adam.host3 m c).symm
  exact ⟨(h0.trans (e0 _ _ _)).trans (Cert.Kernel34Ideal.Adam.value4 m c).symm, (h1.trans (Cert.Adam.change_of _ e1 e2 e3 (e0 _ _ _))).trans (Cert.Kernel34Ideal.Adam.value5 m c).symm,
    (h2.trans (Cert.Adam.moment_of _ e2 (e0 _ _ _))).trans (Cert.Kernel34Ideal.Adam.value6 m c).symm,
    (h3.trans (Cert.Adam.moment2_of _ e3 (e0 _ _ _))).trans (Cert.Kernel34Ideal.Adam.value7 m c).symm, rest⟩

end Cert.Proof

end
-- ==== Proof.Loss.Head.lean ====
/-
  The loss of one device's positions and its gradient. The kernel adds up scaled sums of squares block by block.
-/
module

public import proofs.«01_k».proof.Proof.Mm.Sums
public import Idealize.ShloMosaic.Lib.StableHlo.RunRead
public import proofs.«01_k».proof.Proof.Gen.Kernel35Ideal.Value
public import proofs.«01_k».proof.Proof.Gen.Reference35Ideal.Run
public import proofs.«01_k».proof.Defs

@[expose] public section

set_option maxRecDepth 16384

noncomputable section

open Idealize.ShloMosaic Idealize.ShloMosaic.TcCoe Idealize.SL.Sem

namespace Cert.Loss

theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem width_eq : Ideal.ofBits .f32 0x44800000#32 = ((1024 : ℝ) : EReal) := by
  simp [Ideal.ofBits, Ideal.ieee, -EReal.coe_mul]; norm_num
theorem unit_eq : Ideal.ofBits .f32 0x3A800000#32 = ((1 / 1024 : ℝ) : EReal) := by
  simp [Ideal.ofBits, Ideal.ieee, -EReal.coe_mul]; norm_num
theorem part_eq : Ideal.ofBits .f32 0x3A000000#32 = ((1 / 2048 : ℝ) : EReal) := by
  simp [Ideal.ofBits, Ideal.ieee, -EReal.coe_mul]; norm_num

theorem square_nonneg (e : EReal) : 0 ≤ e * e := by
  rcases le_total 0 e with h | h
  · exact mul_nonneg h h
  · rw [← neg_mul_neg]
    exact mul_nonneg (EReal.neg_nonneg.mpr h) (EReal.neg_nonneg.mpr h)

/-- A sum of numbers that are not negative may be scaled term by term. -/
theorem sum_scale {ι : Type} (s : Finset ι) (f : ι → EReal) (c : EReal) (h : ∀ i, 0 ≤ f i) : (∑ i ∈ s, f i) * c = ∑ i ∈ s, f i * c := by
  classical
  induction s using Finset.induction with
  | empty => simp
  | insert a s ha ih => rw [Finset.sum_insert ha, Finset.sum_insert ha, EReal.right_distrib_of_nonneg (h a) (Finset.sum_nonneg fun i _ => h i), ih]

end Cert.Loss

namespace Cert.Kernel35Ideal.Loss

open Cert.Mm Cert.Loss Cert.Kernel35Ideal Cert.Kernel35Ideal.Gen Cert.Kernel35Ideal.Value

variable (m : (ℓ : Loc nD τ sig) → Buf (Elt Ideal) ℓ) (c : Dev nD)

theorem pay3_apply (a b : Vec Ideal S256x1024 .f32) (i : Fin 256) (j : Fin 1024) :
    k0_pay3 (F := Ideal) a b (ix2 i j) = (a (ix2 i j) - b (ix2 i j)) * Ideal.ofBits .f32 0x3A800000#32 := by
  pointwise [k0_pay3, k0_pay2]

theorem pay4_apply (a b : Vec Ideal S256x1024 .f32) (o : Vec Ideal S8x128 .f32) (i : Fin 8) (j : Fin 128) :
    k0_pay4 (F := Ideal) a b o (ix2 i j) = o (ix2 i j) + (∑ r : Fin 256, ∑ k : Fin 1024, (a (ix2 r k) - b (ix2 r k)) * (a (ix2 r k) - b (ix2 r k))) * Ideal.ofBits .f32 0x3A000000#32 := by
  pointwise [k0_pay4, k0_pay2]

/-- What the points leave in the gradient's block, and in the loss: the first one starts from zero. -/
theorem grad_first (i : grid0.Coords) (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S8x128 .f32) (h4 : a4.IsWhole)
    (hc0 : cond0_0 i) (x y : Vec Ideal S256x1024 .f32) :
    out0_A_2 c i a1 h1 a2 h2 a3 h3 a4 h4 hc0 x y = k0_pay3 x y := by
  unfold out0_A_2
  rw [View.read_writes_eq_canon _ _ _ (cover0_A_2 c i a1 h1 a2 h2 a3 h3 a4 h4 hc0 x y)]
  unfold kernelRun0_A
  dsimp only
  rw [View.canon_unit_zero off0]
  simp only [View.readAt_eq_ld, h1.read_unread, h2.read_unread, View.ld_unit_zero (S := S256x1024) off0]

theorem grad_later (i : grid0.Coords) (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S8x128 .f32) (h4 : a4.IsWhole)
    (hc0 : ¬cond0_0 i) (x y : Vec Ideal S256x1024 .f32) (o : Vec Ideal S8x128 .f32) :
    out0_B_2 c i a1 h1 a2 h2 a3 h3 a4 h4 hc0 x y o = k0_pay3 x y := by
  unfold out0_B_2
  rw [View.read_writes_eq_canon _ _ _ (cover0_B_2 c i a1 h1 a2 h2 a3 h3 a4 h4 hc0 x y o)]
  unfold kernelRun0_B
  dsimp only
  rw [View.canon_unit_zero off0]
  simp only [View.readAt_eq_ld, h1.read_unread, h2.read_unread, View.ld_unit_zero (S := S256x1024) off0]

theorem loss_first (i : grid0.Coords) (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S8x128 .f32) (h4 : a4.IsWhole)
    (hc0 : cond0_0 i) (x y : Vec Ideal S256x1024 .f32) :
    out0_A_3 c i a1 h1 a2 h2 a3 h3 a4 h4 hc0 x y = k0_pay4 x y (k0_pay1 (F := Ideal)) := by
  unfold out0_A_3
  rw [View.read_writes_eq_canon _ _ _ (cover0_A_3 c i a1 h1 a2 h2 a3 h3 a4 h4 hc0 x y)]
  unfold kernelRun0_A
  dsimp only
  rw [View.canon_cons_unit_zero off0]
  unfold kernelRun0_A.sl.v10 kernelRun0_A.sl.H3_1
  rw [View.readCov_unit_zero (S := S8x128) _ off0]
  simp only [View.readAt_eq_ld, h1.read_unread, h2.read_unread, View.ld_unit_zero (S := S256x1024) off0, View.ld_unit_zero (S := S8x128) off0]

theorem loss_later (i : grid0.Coords) (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S8x128 .f32) (h4 : a4.IsWhole)
    (hc0 : ¬cond0_0 i) (x y : Vec Ideal S256x1024 .f32) (o : Vec Ideal S8x128 .f32) :
    out0_B_3 c i a1 h1 a2 h2 a3 h3 a4 h4 hc0 x y o = k0_pay4 x y o := by
  unfold out0_B_3
  rw [View.read_writes_eq_canon _ _ _ (cover0_B_3 c i a1 h1 a2 h2 a3 h3 a4 h4 hc0 x y o)]
  unfold kernelRun0_B
  dsimp only
  rw [View.canon_unit_zero off0]
  simp only [View.readAt_eq_ld, h1.read_unread, h2.read_unread, h4.read_unread, View.ld_unit_zero (S := S256x1024) off0, View.ld_unit_zero (S := S8x128) off0]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

/-- The prediction and the target, the latter with both sequences one after the other. -/
abbrev H : Vec Ideal S4096x1024 .f32 := m (c, Proc.tc.devRef main_arg0)
abbrev T : Vec Ideal S4096x1024 .f32 := shapeCast S4096x1024 (m (c, Proc.tc.devRef main_arg1)) shapeCasts_S2x2048x1024_S4096x1024

theorem host : V (F := Ideal) m c (Pipeline.arrRef spec0 1) = T m c := by
  unfold V
  simp only [hostOps0, List.flatten_cons, List.flatten_nil, List.append_nil, List.cons_append, List.nil_append, StableHlo.TRef.unary, StableHlo.TRef.toBuf, StableHlo.TRef.ofBuf, cast_eq]
  after_reads_simp
  rfl

/-- The difference at natural indices. -/
abbrev E (p k : ℕ) : EReal := at2 (M := 4096) (K := 1024) (H m c) p k - at2 (M := 4096) (K := 1024) (T m c) p k

/-- A row's sum of squares. -/
abbrev S (p : ℕ) : EReal := ∑ k : Fin 1024, E m c p k.val * E m c p k.val

theorem S_nonneg (p : ℕ) : 0 ≤ S m c p := Finset.sum_nonneg fun _ _ => square_nonneg _

/-- The blocks at a point. -/
abbrev X (t : Fin cfg0.N) : Vec Ideal S256x1024 .f32 := iblk (F := Ideal) m c 0 t
abbrev Y (t : Fin cfg0.N) : Vec Ideal S256x1024 .f32 := iblk (F := Ideal) m c 1 t

theorem blk (t : Fin cfg0.N) (r : Fin 256) (k : Fin 1024) : X m c t (ix2 r k) - Y m c t (ix2 r k) = E m c (256 * t.val + r.val) k.val := by
  obtain ⟨h0, h1⟩ := idx0 t
  obtain ⟨h2, h3⟩ := idx1 t
  refine congrArg₂ (· - ·) (at2_idx (M := 4096) (K := 1024) (H m c) _ ?_ ?_)
    ((at2_idx (M := 4096) (K := 1024) (V (F := Ideal) m c (Pipeline.arrRef spec0 1)) _ ?_ ?_).trans (congrArg (fun a => at2 (M := 4096) (K := 1024) a (256 * t.val + r.val) k.val) (host m c)))
  · show win0_0.index t 0 * 256 + 1 * r.val = 256 * t.val + r.val
    omega
  · show win0_0.index t 1 * 1024 + 1 * k.val = k.val
    omega
  · show win0_1.index t 0 * 256 + 1 * r.val = 256 * t.val + r.val
    omega
  · show win0_1.index t 1 * 1024 + 1 * k.val = k.val
    omega

/-- A point's part of the loss. -/
theorem part (t : Fin cfg0.N) :
    (∑ r : Fin 256, ∑ k : Fin 1024, (X m c t (ix2 r k) - Y m c t (ix2 r k)) * (X m c t (ix2 r k) - Y m c t (ix2 r k))) * Ideal.ofBits .f32 0x3A000000#32
      = ∑ r ∈ Finset.range 256, S m c (256 * t.val + r) * Ideal.ofBits .f32 0x3A000000#32 := by
  rw [← sum_scale _ _ _ fun r => S_nonneg m c _, ← sum_axis]
  exact congrArg (· * _) (Finset.sum_congr rfl fun r _ => Finset.sum_congr rfl fun k _ => by rw [blk])

/-- The running loss. -/
theorem outs (i : Fin 8) (j : Fin 128) : ∀ (n : ℕ) (h : n < cfg0.N),
    (outsAt0 (F := Ideal) m c n h).2 (ix2 i j) = ∑ p ∈ Finset.range (256 * (n % 16 + 1)), S m c p * Ideal.ofBits .f32 0x3A000000#32 := by
  refine running (p := 16) (fun n h => (outsAt0 (F := Ideal) m c n h).2 (ix2 i j)) (fun _ p => S m c p * Ideal.ofBits .f32 0x3A000000#32) (fun n h h0 => ?_) (fun n h h0 => ?_)
  · have hn : n < 16 := h
    rw [outsAt0_A m c ⟨n, h⟩ h0]
    dsimp only
    rw [loss_first, pay4_apply, part, show n % 16 = n by omega]
    rw [show k0_pay1 (F := Ideal) (ix2 i j) = 0 from Ideal.ofBits_zero_f32, zero_add]
  · have hn : n + 1 < 16 := h
    rw [show outsAt0 m c (n + 1) h = _ from outsAt0_B m c ⟨n + 1, h⟩ h0]
    dsimp only
    rw [loss_later, pay4_apply, part, show (n + 1) % 16 = n + 1 by omega]
    rfl

theorem flush3 (t : Fin cfg0.N) (h : (cfg0.win 3).flush t = true) : t.val = 15 := by
  have h := (flush0_3 t).mp h
  have g : t.val < 16 := t.isLt
  omega

/-- The loss array after the run. -/
theorem loss_final (i : Fin 8) (j : Fin 128) :
    (dats (F := Ideal) m 0 c).arrAt 3 cfg0.N (ix2 i j) = ∑ p ∈ Finset.range 4096, S m c p * Ideal.ofBits .f32 0x3A000000#32 := by
  let t : Fin cfg0.N := ⟨15, by decide⟩
  have e : ((cfg0.win 3).blk t).view.read (Elt Ideal) ((dats (F := Ideal) m 0 c).arrAt 3 cfg0.N) (ix2 i j) = (dats (F := Ideal) m 0 c).arrAt 3 cfg0.N (ix2 i j) := by
    obtain ⟨h0, h1⟩ := idx3 t
    refine entry_congr (M := 8) (K := 128) ((dats (F := Ideal) m 0 c).arrAt 3 cfg0.N) _ i j ?_ ?_
    · show win0_3.index t 0 * 8 + 1 * i.val = i.val
      omega
    · show win0_3.index t 1 * 128 + 1 * j.val = j.val
      omega
  refine e.symm.trans ?_
  refine (congrFun ((dats (F := Ideal) m 0 c).read_blk_arrAt_eq_flushed 3 (fun a b ha hb hne => absurd (Fin.ext ((flush3 a ha).trans (flush3 b hb).symm)) hne)
    cfg0.N t t.isLt ((flush0_3 t).mpr rfl)) (ix2 i j)).trans ?_
  rw [flushed3]
  refine (outs m c i j t.val t.isLt).trans ?_
  rw [show 256 * (t.val % 16 + 1) = 4096 from rfl]

/-- The gradient after the run. -/
theorem grad_final (p : Fin 4096) (k : Fin 1024) :
    (dats (F := Ideal) m 0 c).arrAt 2 cfg0.N (ix2 p k) = E m c p.val k.val * Ideal.ofBits .f32 0x3A800000#32 := by
  have hp := p.isLt
  let t : Fin cfg0.N := ⟨p.val / 256, by show _ < 16; omega⟩
  have ht : t.val = p.val / 256 := rfl
  let r : Fin 256 := ⟨p.val % 256, Nat.mod_lt _ (by decide)⟩
  have er : 256 * t.val + r.val = p.val := by show 256 * (p.val / 256) + p.val % 256 = p.val; omega
  have e : ((cfg0.win 2).blk t).view.read (Elt Ideal) ((dats (F := Ideal) m 0 c).arrAt 2 cfg0.N) (ix2 r k) = (dats (F := Ideal) m 0 c).arrAt 2 cfg0.N (ix2 p k) := by
    obtain ⟨h0, h1⟩ := idx2 t
    refine entry_congr (M := 4096) (K := 1024) ((dats (F := Ideal) m 0 c).arrAt 2 cfg0.N) _ p k ?_ ?_
    · show win0_2.index t 0 * 256 + 1 * r.val = p.val
      omega
    · show win0_2.index t 1 * 1024 + 1 * k.val = k.val
      omega
  have g : (outsAt0 (F := Ideal) m c t.val t.isLt).1 = k0_pay3 (X m c t) (Y m c t) := by
    by_cases h0 : t.val % 16 = 0
    · rw [outsAt0_A m c t h0]
      dsimp only
      exact grad_first c _ _ _ _ _ _ _ _ _ _ _ _
    · rw [outsAt0_B m c t h0]
      dsimp only
      exact grad_later c _ _ _ _ _ _ _ _ _ _ _ _ _
  refine e.symm.trans ((congrFun (blocks2 m c t (flush0_2 t)) (ix2 r k)).trans ?_)
  rw [flushed2]
  refine (congrFun g (ix2 r k)).trans ?_
  rw [pay3_apply, blk, er]

/-- The reference's results. -/
abbrev refGrad (h t : FVec Ideal S4096x1024 .f32) : FVec Ideal S4096x1024 .f32 :=
  mulf (broadcastInDim S4096x1024 ![0] Cert.Reference35Ideal.Gen.bcast_S4096_S4096x1024_0 (Host.divf (broadcastInDim Cert.Reference35Ideal.S4096 ![] Cert.Reference35Ideal.Gen.bcast_S_S4096 (mulf (constant Cert.Reference35Ideal.S_ .f32 0x3F000000#32) (constant Cert.Reference35Ideal.S_ .f32 0x3F800000#32))) (broadcastInDim Cert.Reference35Ideal.S4096 ![] Cert.Reference35Ideal.Gen.bcast_S_S4096 (constant Cert.Reference35Ideal.S_ .f32 0x44800000#32)))) (mulf (broadcastInDim S4096x1024 ![] Cert.Reference35Ideal.Gen.bcast_S_S4096x1024 (constant Cert.Reference35Ideal.S_ .f32 0x40000000#32)) (subf h t))

abbrev refLoss (h t : FVec Ideal S4096x1024 .f32) : FVec Ideal S8x128 .f32 :=
  broadcastInDim S8x128 ![] Cert.Reference35Ideal.Gen.bcast_S_S8x128 (mulf (constant Cert.Reference35Ideal.S_ .f32 0x3F000000#32) (Host.reduceAdd (Host.divf (Host.reduceAdd (mulf (subf h t) (subf h t)) (constant Cert.Reference35Ideal.S_ .f32 0x00000000#32) Cert.Reference35Ideal.Gen.reducesTo_S4096x1024_S4096_d1 Cert.Reference35Ideal.Gen.h_S_) (broadcastInDim Cert.Reference35Ideal.S4096 ![] Cert.Reference35Ideal.Gen.bcast_S_S4096 (constant Cert.Reference35Ideal.S_ .f32 0x44800000#32))) (constant Cert.Reference35Ideal.S_ .f32 0x00000000#32) Cert.Reference35Ideal.Gen.reducesTo_S4096_S_d0 Cert.Reference35Ideal.Gen.h_S_))

theorem refGrad_apply (h t : FVec Ideal S4096x1024 .f32) (p : Fin 4096) (k : Fin 1024) :
    refGrad h t (ix2 p k) = (h (ix2 p k) - t (ix2 p k)) * Ideal.ofBits .f32 0x3A800000#32 := by
  pointwise [refGrad]
  rw [half_eq, width_eq, two_eq, unit_eq, Ideal.div_coe (by norm_num), ← EReal.coe_mul, ← mul_assoc, ← EReal.coe_mul, mul_comm]
  norm_num

theorem refLoss_apply (h t : FVec Ideal S4096x1024 .f32) (i : Fin 8) (j : Fin 128) :
    refLoss h t (ix2 i j) = Ideal.ofBits .f32 0x3F000000#32 * ∑ p : Fin 4096, (∑ k : Fin 1024, (h (ix2 p k) - t (ix2 p k)) * (h (ix2 p k) - t (ix2 p k))) * Ideal.ofBits .f32 0x3A800000#32 := by
  pointwise [refLoss]
  rw [width_eq, unit_eq]
  refine congrArg _ (Finset.sum_congr rfl fun p _ => ?_)
  exact Ideal.div_coe (y := 1024) (by norm_num) _

/-- The kernel's gradient is the reference's. -/
theorem grad_value : (dats (F := Ideal) m 0 c).arrAt 2 cfg0.N = refGrad (H m c) (T m c) := by
  funext x
  obtain ⟨p, k, rfl⟩ : ∃ (p : Fin 4096) (k : Fin 1024), x = ix2 p k := ⟨_, _, eq_ix2 x⟩
  refine (grad_final m c p k).trans ?_
  rw [refGrad_apply, E, at2_val, at2_val]

/-- The kernel's loss is the reference's. -/
theorem loss_value : (dats (F := Ideal) m 0 c).arrAt 3 cfg0.N = refLoss (H m c) (T m c) := by
  funext x
  obtain ⟨i, j, rfl⟩ : ∃ (i : Fin 8) (j : Fin 128), x = ix2 i j := ⟨_, _, eq_ix2 x⟩
  have e (p : Fin 4096) : ∑ k : Fin 1024, (H m c (ix2 p k) - T m c (ix2 p k)) * (H m c (ix2 p k) - T m c (ix2 p k)) = S m c p.val :=
    Finset.sum_congr rfl fun k _ => by rw [E, at2_val, at2_val]
  have h : Ideal.ofBits .f32 0x3F000000#32 * Ideal.ofBits .f32 0x3A800000#32 = Ideal.ofBits .f32 0x3A000000#32 := by
    rw [half_eq, unit_eq, part_eq, ← EReal.coe_mul]
    norm_num
  refine (loss_final m c i j).trans ?_
  rw [refLoss_apply, ← sum_scale _ _ _ fun p => S_nonneg m c p, ← sum_axis]
  simp only [e]
  rw [← sum_scale _ _ _ fun p : Fin 4096 => S_nonneg m c p.val, mul_left_comm, h]

end Cert.Kernel35Ideal.Loss

namespace Cert.Proof

/-- The reference's frame. -/
theorem frame_ref35 : Cert.quiescent_Reference35Ideal := by
  intro m ρ _
  exact (θ_run Cert.Reference35Ideal.defs _ _).mono
    (fun r h => ⟨fun c => (h c).2.2, sem_eq_zero_of_no_sems (by decide) r.2⟩)
    (Cert.Reference35Ideal.Value.run (F := Ideal) m ρ)

/-- The kernel's gradient and loss are the reference's. -/
theorem algebraic35 : Cert.algebraic_Kernel35Ideal_Reference35Ideal := by
  intro m ρ m' ρ' _ hag
  refine ⟨_, _, Cert.Kernel35Ideal.Value.run_blocks (F := Ideal) m ρ,
    (θ_run Cert.Reference35Ideal.defs _ _).mono (fun r h c => ?_) (Cert.Reference35Ideal.Value.run (F := Ideal) m' ρ')⟩
  obtain ⟨g0, g1⟩ := hag c
  obtain ⟨h0, h1, rest⟩ := h c
  rw [g0, g1] at h0 h1
  exact ⟨h0.trans (Cert.Kernel35Ideal.Loss.grad_value m c).symm, h1.trans (Cert.Kernel35Ideal.Loss.loss_value m c).symm, rest⟩

end Cert.Proof

end
-- ==== Proof.lean ====
/-
  The claims of this certificate. Of the latent attention's gradient: the frames of the three programs, the named constant,
  and the equality of the kernel's five gradients with the reference's over the extended reals where every argument is
  finite. The kernel's values are Proof/Mla/Final.lean's, the reference's Proof/Mla/Ref.lean's; both are the same real sums.
  Of each matrix product of the step, of the optimiser's step for each shape of weight and each group of small weights, and of
  the loss: its frames, and the equality with the reference over the extended reals, from its module under Proof/Mm/,
  Proof/Adam/ or Proof/Loss/.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Mla.Final
public import proofs.«01_k».proof.Proof.Mla.Ref
public import proofs.«01_k».proof.Proof.Mla.Pre
public import proofs.«01_k».proof.Proof.Gen.Kernel2.Frame
public import proofs.«01_k».proof.Proof.Gen.Kernel2Ideal.Value
public import proofs.«01_k».proof.Proof.Gen.Reference2Ideal.Run
public import proofs.«01_k».proof.Proof.Mm.FfnUp
public import proofs.«01_k».proof.Proof.Gen.Kernel3.Frame
public import proofs.«01_k».proof.Proof.Gen.Kernel3Ideal.Value
public import proofs.«01_k».proof.Proof.Gen.Reference3Ideal.Run
public import proofs.«01_k».proof.Proof.Mm.FfnDown
public import proofs.«01_k».proof.Proof.Gen.Kernel4.Frame
public import proofs.«01_k».proof.Proof.Gen.Kernel4Ideal.Value
public import proofs.«01_k».proof.Proof.Gen.Reference4Ideal.Run
public import proofs.«01_k».proof.Proof.Mm.FfnDwUp
public import proofs.«01_k».proof.Proof.Gen.Kernel5.Frame
public import proofs.«01_k».proof.Proof.Gen.Kernel5Ideal.Value
public import proofs.«01_k».proof.Proof.Gen.Reference5Ideal.Run
public import proofs.«01_k».proof.Proof.Mm.FfnDwDown
public import proofs.«01_k».proof.Proof.Gen.Kernel6.Frame
public import proofs.«01_k».proof.Proof.Gen.Kernel6Ideal.Value
public import proofs.«01_k».proof.Proof.Gen.Reference6Ideal.Run
public import proofs.«01_k».proof.Proof.Mm.FfnDact
public import proofs.«01_k».proof.Proof.Gen.Kernel7.Frame
public import proofs.«01_k».proof.Proof.Gen.Kernel7Ideal.Value
public import proofs.«01_k».proof.Proof.Gen.Reference7Ideal.Run
public import proofs.«01_k».proof.Proof.Mm.FfnDhGate
public import proofs.«01_k».proof.Proof.Gen.Kernel8.Frame
public import proofs.«01_k».proof.Proof.Gen.Kernel8Ideal.Value
public import proofs.«01_k».proof.Proof.Gen.Reference8Ideal.Run
public import proofs.«01_k».proof.Proof.Mm.FfnDhUp
public import proofs.«01_k».proof.Proof.Gen.Kernel9.Frame
public import proofs.«01_k».proof.Proof.Gen.Kernel9Ideal.Value
public import proofs.«01_k».proof.Proof.Gen.Reference9Ideal.Run
public import proofs.«01_k».proof.Proof.Mm.L1In
public import proofs.«01_k».proof.Proof.Gen.Kernel10.Frame
public import proofs.«01_k».proof.Proof.Gen.Kernel10Ideal.Value
public import proofs.«01_k».proof.Proof.Gen.Reference10Ideal.Run
public import proofs.«01_k».proof.Proof.Mm.L1Dwin
public import proofs.«01_k».proof.Proof.Gen.Kernel11.Frame
public import proofs.«01_k».proof.Proof.Gen.Kernel11Ideal.Value
public import proofs.«01_k».proof.Proof.Gen.Reference11Ideal.Run
public import proofs.«01_k».proof.Proof.Mm.L1Dh
public import proofs.«01_k».proof.Proof.Gen.Kernel12.Frame
public import proofs.«01_k».proof.Proof.Gen.Kernel12Ideal.Value
public import proofs.«01_k».proof.Proof.Gen.Reference12Ideal.Run
public import proofs.«01_k».proof.Proof.Mm.L1Out
public import proofs.«01_k».proof.Proof.Gen.Kernel13.Frame
public import proofs.«01_k».proof.Proof.Gen.Kernel13Ideal.Value
public import proofs.«01_k».proof.Proof.Gen.Reference13Ideal.Run
public import proofs.«01_k».proof.Proof.Mm.L1Dwout
public import proofs.«01_k».proof.Proof.Gen.Kernel14.Frame
public import proofs.«01_k».proof.Proof.Gen.Kernel14Ideal.Value
public import proofs.«01_k».proof.Proof.Gen.Reference14Ideal.Run
public import proofs.«01_k».proof.Proof.Mm.L1Dy
public import proofs.«01_k».proof.Proof.Gen.Kernel15.Frame
public import proofs.«01_k».proof.Proof.Gen.Kernel15Ideal.Value
public import proofs.«01_k».proof.Proof.Gen.Reference15Ideal.Run
public import proofs.«01_k».proof.Proof.Mm.L0In
public import proofs.«01_k».proof.Proof.Gen.Kernel16.Frame
public import proofs.«01_k».proof.Proof.Gen.Kernel16Ideal.Value
public import proofs.«01_k».proof.Proof.Gen.Reference16Ideal.Run
public import proofs.«01_k».proof.Proof.Mm.L0Dwin
public import proofs.«01_k».proof.Proof.Gen.Kernel17.Frame
public import proofs.«01_k».proof.Proof.Gen.Kernel17Ideal.Value
public import proofs.«01_k».proof.Proof.Gen.Reference17Ideal.Run
public import proofs.«01_k».proof.Proof.Mm.L0Dx
public import proofs.«01_k».proof.Proof.Gen.Kernel18.Frame
public import proofs.«01_k».proof.Proof.Gen.Kernel18Ideal.Value
public import proofs.«01_k».proof.Proof.Gen.Reference18Ideal.Run
public import proofs.«01_k».proof.Proof.Mm.L0OutA
public import proofs.«01_k».proof.Proof.Gen.Kernel19.Frame
public import proofs.«01_k».proof.Proof.Gen.Kernel19Ideal.Value
public import proofs.«01_k».proof.Proof.Gen.Reference19Ideal.Run
public import proofs.«01_k».proof.Proof.Mm.L0OutB
public import proofs.«01_k».proof.Proof.Gen.Kernel20.Frame
public import proofs.«01_k».proof.Proof.Gen.Kernel20Ideal.Value
public import proofs.«01_k».proof.Proof.Gen.Reference20Ideal.Run
public import proofs.«01_k».proof.Proof.Mm.L0Dwout
public import proofs.«01_k».proof.Proof.Gen.Kernel21.Frame
public import proofs.«01_k».proof.Proof.Gen.Kernel21Ideal.Value
public import proofs.«01_k».proof.Proof.Gen.Reference21Ideal.Run
public import proofs.«01_k».proof.Proof.Mm.L0DyA
public import proofs.«01_k».proof.Proof.Gen.Kernel22.Frame
public import proofs.«01_k».proof.Proof.Gen.Kernel22Ideal.Value
public import proofs.«01_k».proof.Proof.Gen.Reference22Ideal.Run
public import proofs.«01_k».proof.Proof.Mm.L0DyB
public import proofs.«01_k».proof.Proof.Gen.Kernel24.Frame
public import proofs.«01_k».proof.Proof.Gen.Kernel24Ideal.Value
public import proofs.«01_k».proof.Proof.Gen.Reference24Ideal.Run
public import proofs.«01_k».proof.Proof.Adam.FfnUp
public import proofs.«01_k».proof.Proof.Gen.Kernel25.Frame
public import proofs.«01_k».proof.Proof.Gen.Kernel25Ideal.Value
public import proofs.«01_k».proof.Proof.Gen.Reference25Ideal.Run
public import proofs.«01_k».proof.Proof.Adam.FfnDown
public import proofs.«01_k».proof.Proof.Gen.Kernel26.Frame
public import proofs.«01_k».proof.Proof.Gen.Kernel26Ideal.Value
public import proofs.«01_k».proof.Proof.Gen.Reference26Ideal.Run
public import proofs.«01_k».proof.Proof.Adam.L0In
public import proofs.«01_k».proof.Proof.Gen.Kernel27.Frame
public import proofs.«01_k».proof.Proof.Gen.Kernel27Ideal.Value
public import proofs.«01_k».proof.Proof.Gen.Reference27Ideal.Run
public import proofs.«01_k».proof.Proof.Adam.L1In
public import proofs.«01_k».proof.Proof.Gen.Kernel28.Frame
public import proofs.«01_k».proof.Proof.Gen.Kernel28Ideal.Value
public import proofs.«01_k».proof.Proof.Gen.Reference28Ideal.Run
public import proofs.«01_k».proof.Proof.Adam.Out
public import proofs.«01_k».proof.Proof.Gen.Kernel29.Frame
public import proofs.«01_k».proof.Proof.Gen.Kernel29Ideal.Value
public import proofs.«01_k».proof.Proof.Gen.Reference29Ideal.Run
public import proofs.«01_k».proof.Proof.Adam.Rwkv
public import proofs.«01_k».proof.Proof.Gen.Kernel30.Frame
public import proofs.«01_k».proof.Proof.Gen.Kernel30Ideal.Value
public import proofs.«01_k».proof.Proof.Gen.Reference30Ideal.Run
public import proofs.«01_k».proof.Proof.Adam.RwkvG
public import proofs.«01_k».proof.Proof.Gen.Kernel31.Frame
public import proofs.«01_k».proof.Proof.Gen.Kernel31Ideal.Value
public import proofs.«01_k».proof.Proof.Gen.Reference31Ideal.Run
public import proofs.«01_k».proof.Proof.Adam.MlaQ
public import proofs.«01_k».proof.Proof.Gen.Kernel32.Frame
public import proofs.«01_k».proof.Proof.Gen.Kernel32Ideal.Value
public import proofs.«01_k».proof.Proof.Gen.Reference32Ideal.Run
public import proofs.«01_k».proof.Proof.Adam.MlaKv
public import proofs.«01_k».proof.Proof.Gen.Kernel23.Frame
public import proofs.«01_k».proof.Proof.Gen.Kernel23Ideal.Value
public import proofs.«01_k».proof.Proof.Gen.Reference23Ideal.Run
public import proofs.«01_k».proof.Proof.Adam.GroupA
public import proofs.«01_k».proof.Proof.Gen.Kernel33.Frame
public import proofs.«01_k».proof.Proof.Gen.Kernel33Ideal.Value
public import proofs.«01_k».proof.Proof.Gen.Reference33Ideal.Run
public import proofs.«01_k».proof.Proof.Adam.GroupB
public import proofs.«01_k».proof.Proof.Gen.Kernel34.Frame
public import proofs.«01_k».proof.Proof.Gen.Kernel34Ideal.Value
public import proofs.«01_k».proof.Proof.Gen.Reference34Ideal.Run
public import proofs.«01_k».proof.Proof.Adam.GroupC
public import proofs.«01_k».proof.Proof.Gen.Kernel35.Frame
public import proofs.«01_k».proof.Proof.Gen.Kernel35Ideal.Value
public import proofs.«01_k».proof.Proof.Gen.Reference35Ideal.Run
public import proofs.«01_k».proof.Proof.Loss.Head
public import Idealize.ShloMosaic.Adequacy
public import Idealize.ShloMosaic.Init

@[expose] public section

set_option maxRecDepth 16384

noncomputable section

namespace Cert.Proof

open Idealize.ShloMosaic Idealize.SL.Sem Cert.Mla

/-- The kernel's frame. -/
theorem frame_kernel : Cert.quiescent_Kernel := fun m ρ _ => Cert.Kernel.Gen.frame m ρ

/-- The kernel's frame over the extended reals. -/
theorem frame_ideal : Cert.quiescent_KernelIdeal := fun m ρ _ => Cert.KernelIdeal.Gen.frame m ρ

/-- The reference's frame: its arguments are never written, and it declares no semaphore. -/
theorem frame_ref : Cert.quiescent_ReferenceIdeal := by
  intro m ρ _
  exact (θ_run Cert.ReferenceIdeal.defs _ _).mono
    (fun r h => ⟨fun c => (h c).2.2.2.2.2, sem_eq_zero_of_no_sems (by decide) r.2⟩)
    (Cert.ReferenceIdeal.Value.run (F := Ideal) m ρ)

section Value

open Cert.KernelIdeal Cert.KernelIdeal.Gen

variable (m : (ℓ : Loc nD τ sig) → Buf (Elt Ideal) ℓ) (c : Dev nD)

/-- The arguments' reals. -/
def inpOf : Inp :=
  inp (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))

variable
  (h0 : Fin4 (s := S2x8x2048x64) (m (c, Proc.tc.devRef main_arg0))) (h1 : Fin4 (s := S2x8x2048x32) (m (c, Proc.tc.devRef main_arg1)))
  (h2 : Fin4 (s := S2x8x2048x64) (m (c, Proc.tc.devRef main_arg2))) (h3 : Fin4 (s := S2x1x2048x32) (m (c, Proc.tc.devRef main_arg3)))
  (h4 : Fin4 (s := S2x8x2048x64) (m (c, Proc.tc.devRef main_arg4))) (h5 : Fin4 (s := S2x8x2048x64) (m (c, Proc.tc.devRef main_arg5)))

include h0 in
theorem a0 (b : Fin 2) (h : Fin 8) (q : Fin 2048) (x : Fin 64) : m (c, Proc.tc.devRef main_arg0) (ix4 b h q x) = ((inpOf m c).qn b.val h.val q.val x.val : EReal) := real4_eq _ h0 b h q x
include h1 in
theorem a1 (b : Fin 2) (h : Fin 8) (q : Fin 2048) (x : Fin 32) : m (c, Proc.tc.devRef main_arg1) (ix4 b h q x) = ((inpOf m c).qp b.val h.val q.val x.val : EReal) := real4_eq _ h1 b h q x
include h2 in
theorem a2 (b : Fin 2) (h : Fin 8) (q : Fin 2048) (x : Fin 64) : m (c, Proc.tc.devRef main_arg2) (ix4 b h q x) = ((inpOf m c).kn b.val h.val q.val x.val : EReal) := real4_eq _ h2 b h q x
include h3 in
theorem a3 (b : Fin 2) (q : Fin 2048) (x : Fin 32) : m (c, Proc.tc.devRef main_arg3) (ix4 b (0 : Fin 1) q x) = ((inpOf m c).kp b.val q.val x.val : EReal) := real4_eq _ h3 b 0 q x
include h4 in
theorem a4 (b : Fin 2) (h : Fin 8) (q : Fin 2048) (x : Fin 64) : m (c, Proc.tc.devRef main_arg4) (ix4 b h q x) = ((inpOf m c).v b.val h.val q.val x.val : EReal) := real4_eq _ h4 b h q x
include h5 in
theorem a5 (b : Fin 2) (h : Fin 8) (q : Fin 2048) (x : Fin 64) : m (c, Proc.tc.devRef main_arg5) (ix4 b h q x) = ((inpOf m c).dd b.val h.val q.val x.val : EReal) := real4_eq _ h5 b h q x

include h0 h1 h2 h3 in
/-- The launch's scores. -/
theorem s_eq (b h q k) : mS m c (ix4 b h q k) = if k.val ≤ q.val then ((inpOf m c).S b.val h.val q.val k.val : EReal) else ⊥ :=
  hS_apply (inpOf m c) b h q k rfl _ _ _ _ (a0 m c h0) (a1 m c h1) (a2 m c h2) (a3 m c h3)

include h0 h1 h2 h3 in
theorem e_eq (b h q k) : hE (mS m c) (hM (mS m c)) (ix4 b h q k) = ((inpOf m c).E b.val h.val q.val k.val : EReal) :=
  hE_apply (inpOf m c) b h q k _ _ (s_eq m c h0 h1 h2 h3) fun b h q => hM_apply (inpOf m c) b h q _ (s_eq m c h0 h1 h2 h3)

include h0 h1 h2 h3 h4 in
/-- The output the launch reads. -/
theorem out_eq (b h q x) : V (F := Ideal) m c main_v25 (ix4 b h q x) = ((inpOf m c).O b.val h.val q.val x.val : EReal) := by
  rw [V_out, hN_eq]
  exact hO_apply (inpOf m c) b h q _ _ (fun b h q k => hP_apply (inpOf m c) b h q k _ _ (e_eq m c h0 h1 h2 h3)
    fun b h q => hZ_apply (inpOf m c) b h q _ (e_eq m c h0 h1 h2 h3)) (a4 m c h4) x

include h0 h1 h2 h3 in
/-- The log-sum-exps the launch reads. -/
theorem lse_eq (b h q) : V (F := Ideal) m c main_v48 (ix4 b h q (0 : Fin 1)) = ((inpOf m c).Lse b.val h.val q.val : EReal) := by
  rw [V_lse]
  exact hL_apply (inpOf m c) b h q _ _ (fun b h q => hM_apply (inpOf m c) b h q _ (s_eq m c h0 h1 h2 h3))
    fun b h q => hZ_apply (inpOf m c) b h q _ (e_eq m c h0 h1 h2 h3)

/-- Each input window's array, as the launch finds it, holds the named reals. -/
structure Found : Prop where
  f0 : ∀ (b : Fin 2) (h : Fin 8) (q : Fin 2048) (x : Fin 64), V (F := Ideal) m c (Pipeline.arrRef spec0 0) (ix4 b h q x) = ((inpOf m c).qn b.val h.val q.val x.val : EReal)
  f1 : ∀ (b : Fin 2) (h : Fin 8) (q : Fin 2048) (x : Fin 32), V (F := Ideal) m c (Pipeline.arrRef spec0 1) (ix4 b h q x) = ((inpOf m c).qp b.val h.val q.val x.val : EReal)
  f2 : ∀ (b : Fin 2) (h : Fin 8) (q : Fin 2048) (x : Fin 64), V (F := Ideal) m c (Pipeline.arrRef spec0 2) (ix4 b h q x) = ((inpOf m c).kn b.val h.val q.val x.val : EReal)
  f3 : ∀ (b : Fin 2) (q : Fin 2048) (x : Fin 32), V (F := Ideal) m c (Pipeline.arrRef spec0 3) (ix4 b 0 q x) = ((inpOf m c).kp b.val q.val x.val : EReal)
  f4 : ∀ (b : Fin 2) (h : Fin 8) (q : Fin 2048) (x : Fin 64), V (F := Ideal) m c (Pipeline.arrRef spec0 4) (ix4 b h q x) = ((inpOf m c).v b.val h.val q.val x.val : EReal)
  f5 : ∀ (b : Fin 2) (h : Fin 8) (q : Fin 2048) (x : Fin 64), V (F := Ideal) m c (Pipeline.arrRef spec0 5) (ix4 b h q x) = ((inpOf m c).O b.val h.val q.val x.val : EReal)
  f6 : ∀ (b : Fin 2) (h : Fin 8) (q : Fin 2048), V (F := Ideal) m c (Pipeline.arrRef spec0 6) (ix4 b h q 0) = ((inpOf m c).Lse b.val h.val q.val : EReal)
  f7 : ∀ (b : Fin 2) (h : Fin 8) (q : Fin 2048) (x : Fin 64), V (F := Ideal) m c (Pipeline.arrRef spec0 7) (ix4 b h q x) = ((inpOf m c).dd b.val h.val q.val x.val : EReal)

include h0 h1 h2 h3 h4 h5 in
theorem found : Found m c where
  f0 b h q x := (congrFun (V_main_arg0 (F := Ideal) m c) (ix4 b h q x)).trans (a0 m c h0 b h q x)
  f1 b h q x := (congrFun (V_main_arg1 (F := Ideal) m c) (ix4 b h q x)).trans (a1 m c h1 b h q x)
  f2 b h q x := (congrFun (V_main_arg2 (F := Ideal) m c) (ix4 b h q x)).trans (a2 m c h2 b h q x)
  f3 b q x := (congrFun (V_main_arg3 (F := Ideal) m c) (ix4 b 0 q x)).trans (a3 m c h3 b q x)
  f4 b h q x := (congrFun (V_main_arg4 (F := Ideal) m c) (ix4 b h q x)).trans (a4 m c h4 b h q x)
  f5 b h q x := out_eq m c h0 h1 h2 h3 h4 b h q x
  f6 b h q := lse_eq m c h0 h1 h2 h3 b h q
  f7 b h q x := (congrFun (V_main_arg5 (F := Ideal) m c) (ix4 b h q x)).trans (a5 m c h5 b h q x)

/-- The reference's memory holds the same arguments. -/
structure Agree (m' : (ℓ : Loc Cert.ReferenceIdeal.nD Cert.ReferenceIdeal.τ Cert.ReferenceIdeal.sig) → Buf (Elt Ideal) ℓ) : Prop where
  g0 : Ref.A0 m' c = (m (c, Proc.tc.devRef main_arg0) : FVec Ideal S2x8x2048x64 .f32)
  g1 : Ref.A1 m' c = (m (c, Proc.tc.devRef main_arg1) : FVec Ideal S2x8x2048x32 .f32)
  g2 : Ref.A2 m' c = (m (c, Proc.tc.devRef main_arg2) : FVec Ideal S2x8x2048x64 .f32)
  g3 : Ref.A3 m' c = (m (c, Proc.tc.devRef main_arg3) : FVec Ideal S2x1x2048x32 .f32)
  g4 : Ref.A4 m' c = (m (c, Proc.tc.devRef main_arg4) : FVec Ideal S2x8x2048x64 .f32)
  g5 : Ref.A5 m' c = (m (c, Proc.tc.devRef main_arg5) : FVec Ideal S2x8x2048x64 .f32)

variable (m' : (ℓ : Loc Cert.ReferenceIdeal.nD Cert.ReferenceIdeal.τ Cert.ReferenceIdeal.sig) → Buf (Elt Ideal) ℓ) (g : Agree m c m')

include h0 h1 h2 h3 h4 h5 g in
/-- The two programs' query gradients agree. -/
theorem val0 : (Cert.ReferenceIdeal.Value.res_out0 (F := Ideal) m' c : FVec Ideal S2x8x2048x64 .f32) = (dats (F := Ideal) m 0 c).arrAt 8 cfg0.N := by
  have F := found m c h0 h1 h2 h3 h4 h5
  funext i
  obtain ⟨b, h, q, x, rfl⟩ : ∃ (b : Fin 2) (h : Fin 8) (q : Fin 2048) (x : Fin 64), i = ix4 b h q x := ⟨_, _, _, _, eq_ix4 i⟩
  exact (Ref.ref0 m' c (inpOf m c) rfl (fun b h q x => (congrFun g.g0 (ix4 b h q x)).trans (a0 m c h0 b h q x)) (fun b h q x => (congrFun g.g1 (ix4 b h q x)).trans (a1 m c h1 b h q x)) (fun b h q x => (congrFun g.g2 (ix4 b h q x)).trans (a2 m c h2 b h q x)) (fun b q x => (congrFun g.g3 (ix4 b 0 q x)).trans (a3 m c h3 b q x)) (fun b h q x => (congrFun g.g4 (ix4 b h q x)).trans (a4 m c h4 b h q x)) (fun b h q x => (congrFun g.g5 (ix4 b h q x)).trans (a5 m c h5 b h q x)) b h q x).trans
    (fin8 m c (inpOf m c) rfl F.f0 F.f1 F.f2 F.f3 F.f4 F.f5 F.f6 F.f7 b h q x).symm

include h0 h1 h2 h3 h4 h5 g in
/-- The two programs' second query part gradients agree. -/
theorem val1 : (Cert.ReferenceIdeal.Value.res_out1 (F := Ideal) m' c : FVec Ideal S2x8x2048x32 .f32) = (dats (F := Ideal) m 0 c).arrAt 9 cfg0.N := by
  have F := found m c h0 h1 h2 h3 h4 h5
  funext i
  obtain ⟨b, h, q, x, rfl⟩ : ∃ (b : Fin 2) (h : Fin 8) (q : Fin 2048) (x : Fin 32), i = ix4 b h q x := ⟨_, _, _, _, eq_ix4 i⟩
  exact (Ref.ref1 m' c (inpOf m c) rfl (fun b h q x => (congrFun g.g0 (ix4 b h q x)).trans (a0 m c h0 b h q x)) (fun b h q x => (congrFun g.g1 (ix4 b h q x)).trans (a1 m c h1 b h q x)) (fun b h q x => (congrFun g.g2 (ix4 b h q x)).trans (a2 m c h2 b h q x)) (fun b q x => (congrFun g.g3 (ix4 b 0 q x)).trans (a3 m c h3 b q x)) (fun b h q x => (congrFun g.g4 (ix4 b h q x)).trans (a4 m c h4 b h q x)) (fun b h q x => (congrFun g.g5 (ix4 b h q x)).trans (a5 m c h5 b h q x)) b h q x).trans
    (fin9 m c (inpOf m c) rfl F.f0 F.f1 F.f2 F.f3 F.f4 F.f5 F.f6 F.f7 b h q x).symm

include h0 h1 h2 h3 h4 h5 g in
/-- The two programs' key gradients agree. -/
theorem val2 : (Cert.ReferenceIdeal.Value.res_out2 (F := Ideal) m' c : FVec Ideal S2x8x2048x64 .f32) = (dats (F := Ideal) m 0 c).arrAt 10 cfg0.N := by
  have F := found m c h0 h1 h2 h3 h4 h5
  funext i
  obtain ⟨b, h, q, x, rfl⟩ : ∃ (b : Fin 2) (h : Fin 8) (q : Fin 2048) (x : Fin 64), i = ix4 b h q x := ⟨_, _, _, _, eq_ix4 i⟩
  exact (Ref.ref2 m' c (inpOf m c) rfl (fun b h q x => (congrFun g.g0 (ix4 b h q x)).trans (a0 m c h0 b h q x)) (fun b h q x => (congrFun g.g1 (ix4 b h q x)).trans (a1 m c h1 b h q x)) (fun b h q x => (congrFun g.g2 (ix4 b h q x)).trans (a2 m c h2 b h q x)) (fun b q x => (congrFun g.g3 (ix4 b 0 q x)).trans (a3 m c h3 b q x)) (fun b h q x => (congrFun g.g4 (ix4 b h q x)).trans (a4 m c h4 b h q x)) (fun b h q x => (congrFun g.g5 (ix4 b h q x)).trans (a5 m c h5 b h q x)) b h q x).trans
    (fin10 m c (inpOf m c) rfl F.f0 F.f1 F.f2 F.f3 F.f4 F.f5 F.f6 F.f7 b h q x).symm

include h0 h1 h2 h3 h4 h5 g in
/-- The two programs' second key part gradients agree. -/
theorem val3 : (Cert.ReferenceIdeal.Value.res_out3 (F := Ideal) m' c : FVec Ideal S2x1x2048x32 .f32) = (dats (F := Ideal) m 0 c).arrAt 11 cfg0.N := by
  have F := found m c h0 h1 h2 h3 h4 h5
  funext i
  obtain ⟨b, z, q, x, rfl⟩ : ∃ (b : Fin 2) (z : Fin 1) (q : Fin 2048) (x : Fin 32), i = ix4 b z q x := ⟨_, _, _, _, eq_ix4 i⟩
  obtain rfl : z = 0 := Subsingleton.elim _ _
  exact (Ref.ref3 m' c (inpOf m c) rfl (fun b h q x => (congrFun g.g0 (ix4 b h q x)).trans (a0 m c h0 b h q x)) (fun b h q x => (congrFun g.g1 (ix4 b h q x)).trans (a1 m c h1 b h q x)) (fun b h q x => (congrFun g.g2 (ix4 b h q x)).trans (a2 m c h2 b h q x)) (fun b q x => (congrFun g.g3 (ix4 b 0 q x)).trans (a3 m c h3 b q x)) (fun b h q x => (congrFun g.g4 (ix4 b h q x)).trans (a4 m c h4 b h q x)) (fun b h q x => (congrFun g.g5 (ix4 b h q x)).trans (a5 m c h5 b h q x)) b q x).trans
    (fin11 m c (inpOf m c) rfl F.f0 F.f1 F.f2 F.f3 F.f4 F.f5 F.f6 F.f7 b q x).symm

include h0 h1 h2 h3 h4 h5 g in
/-- The two programs' value gradients agree. -/
theorem val4 : (Cert.ReferenceIdeal.Value.res_out4 (F := Ideal) m' c : FVec Ideal S2x8x2048x64 .f32) = (dats (F := Ideal) m 0 c).arrAt 12 cfg0.N := by
  have F := found m c h0 h1 h2 h3 h4 h5
  funext i
  obtain ⟨b, h, q, x, rfl⟩ : ∃ (b : Fin 2) (h : Fin 8) (q : Fin 2048) (x : Fin 64), i = ix4 b h q x := ⟨_, _, _, _, eq_ix4 i⟩
  exact (Ref.ref4 m' c (inpOf m c) rfl (fun b h q x => (congrFun g.g0 (ix4 b h q x)).trans (a0 m c h0 b h q x)) (fun b h q x => (congrFun g.g1 (ix4 b h q x)).trans (a1 m c h1 b h q x)) (fun b h q x => (congrFun g.g2 (ix4 b h q x)).trans (a2 m c h2 b h q x)) (fun b q x => (congrFun g.g3 (ix4 b 0 q x)).trans (a3 m c h3 b q x)) (fun b h q x => (congrFun g.g5 (ix4 b h q x)).trans (a5 m c h5 b h q x)) b h q x).trans
    (fin12 m c (inpOf m c) rfl F.f0 F.f1 F.f2 F.f3 F.f4 F.f5 F.f6 F.f7 b h q x).symm

end Value

attribute [local instance] pre_facts

/-- The kernel's five gradients are the reference's. -/
theorem algebraic : Cert.algebraic_KernelIdeal_ReferenceIdeal_pre_finite := by
  intro m ρ m' ρ' hpre hag
  refine ⟨fun c => (Cert.KernelIdeal.Gen.dats (F := Ideal) m 0 c).arrAt 8 Cert.KernelIdeal.cfg0.N,
    fun c => (Cert.KernelIdeal.Gen.dats (F := Ideal) m 0 c).arrAt 9 Cert.KernelIdeal.cfg0.N,
    fun c => (Cert.KernelIdeal.Gen.dats (F := Ideal) m 0 c).arrAt 10 Cert.KernelIdeal.cfg0.N,
    fun c => (Cert.KernelIdeal.Gen.dats (F := Ideal) m 0 c).arrAt 11 Cert.KernelIdeal.cfg0.N,
    fun c => (Cert.KernelIdeal.Gen.dats (F := Ideal) m 0 c).arrAt 12 Cert.KernelIdeal.cfg0.N,
    Cert.KernelIdeal.Value.run_blocks (F := Ideal) m ρ,
    (θ_run Cert.ReferenceIdeal.defs _ _).mono (fun r h c => ?_) (Cert.ReferenceIdeal.Value.run (F := Ideal) m' ρ')⟩
  obtain ⟨f0, f1, f2, f3, f4, f5⟩ := all_fin (hpre c)
  obtain ⟨g0, g1, g2, g3, g4, g5⟩ := hag c
  have g : Agree m c m' := ⟨g0, g1, g2, g3, g4, g5⟩
  obtain ⟨r0, r1, r2, r3, r4, rs⟩ := h c
  exact ⟨r0.trans (val0 m c f0 f1 f2 f3 f4 f5 m' g), r1.trans (val1 m c f0 f1 f2 f3 f4 f5 m' g),
    r2.trans (val2 m c f0 f1 f2 f3 f4 f5 m' g), r3.trans (val3 m c f0 f1 f2 f3 f4 f5 m' g),
    r4.trans (val4 m c f0 f1 f2 f3 f4 f5 m' g), rs⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts, Cert.Kernel10Ideal.Gen.facts,
    Cert.Reference10Ideal.Gen.facts, Cert.Kernel11.Gen.facts, Cert.Kernel11Ideal.Gen.facts, Cert.Reference11Ideal.Gen.facts, Cert.Kernel12.Gen.facts,
    Cert.Kernel12Ideal.Gen.facts, Cert.Reference12Ideal.Gen.facts, Cert.Kernel13.Gen.facts, Cert.Kernel13Ideal.Gen.facts,
    Cert.Reference13Ideal.Gen.facts, Cert.Kernel14.Gen.facts, Cert.Kernel14Ideal.Gen.facts, Cert.Reference14Ideal.Gen.facts, Cert.Kernel15.Gen.facts,
    Cert.Kernel15Ideal.Gen.facts, Cert.Reference15Ideal.Gen.facts, Cert.Kernel16.Gen.facts, Cert.Kernel16Ideal.Gen.facts,
    Cert.Reference16Ideal.Gen.facts, Cert.Kernel17.Gen.facts, Cert.Kernel17Ideal.Gen.facts, Cert.Reference17Ideal.Gen.facts, Cert.Kernel18.Gen.facts,
    Cert.Kernel18Ideal.Gen.facts, Cert.Reference18Ideal.Gen.facts, Cert.Kernel19.Gen.facts, Cert.Kernel19Ideal.Gen.facts,
    Cert.Reference19Ideal.Gen.facts, Cert.Kernel20.Gen.facts, Cert.Kernel20Ideal.Gen.facts, Cert.Reference20Ideal.Gen.facts, Cert.Kernel21.Gen.facts,
    Cert.Kernel21Ideal.Gen.facts, Cert.Reference21Ideal.Gen.facts, Cert.Kernel22.Gen.facts, Cert.Kernel22Ideal.Gen.facts,
    Cert.Reference22Ideal.Gen.facts, Cert.Kernel24.Gen.facts, Cert.Kernel24Ideal.Gen.facts, Cert.Reference24Ideal.Gen.facts, Cert.Kernel25.Gen.facts,
    Cert.Kernel25Ideal.Gen.facts, Cert.Reference25Ideal.Gen.facts, Cert.Kernel26.Gen.facts, Cert.Kernel26Ideal.Gen.facts,
    Cert.Reference26Ideal.Gen.facts, Cert.Kernel27.Gen.facts, Cert.Kernel27Ideal.Gen.facts, Cert.Reference27Ideal.Gen.facts, Cert.Kernel28.Gen.facts,
    Cert.Kernel28Ideal.Gen.facts, Cert.Reference28Ideal.Gen.facts, Cert.Kernel29.Gen.facts, Cert.Kernel29Ideal.Gen.facts,
    Cert.Reference29Ideal.Gen.facts, Cert.Kernel30.Gen.facts, Cert.Kernel30Ideal.Gen.facts, Cert.Reference30Ideal.Gen.facts, Cert.Kernel31.Gen.facts,
    Cert.Kernel31Ideal.Gen.facts, Cert.Reference31Ideal.Gen.facts, Cert.Kernel32.Gen.facts, Cert.Kernel32Ideal.Gen.facts,
    Cert.Reference32Ideal.Gen.facts, Cert.Kernel23.Gen.facts, Cert.Kernel23Ideal.Gen.facts, Cert.Reference23Ideal.Gen.facts, Cert.Kernel33.Gen.facts,
    Cert.Kernel33Ideal.Gen.facts, Cert.Reference33Ideal.Gen.facts, Cert.Kernel34.Gen.facts, Cert.Kernel34Ideal.Gen.facts,
    Cert.Reference34Ideal.Gen.facts, Cert.Kernel35.Gen.facts, Cert.Kernel35Ideal.Gen.facts, Cert.Reference35Ideal.Gen.facts, pre_facts,
    frame_kernel, frame_ideal, fun m ρ _ => Cert.KernelIdeal.Gen.frame m ρ, frame_ref, fun m ρ _ => frame_ref m ρ trivial,
    fun m ρ _ => Cert.Kernel2.Gen.frame m ρ, fun m ρ _ => Cert.Kernel2Ideal.Gen.frame m ρ, frame_ref2, fun m ρ _ => Cert.Kernel3.Gen.frame m ρ,
    fun m ρ _ => Cert.Kernel3Ideal.Gen.frame m ρ, frame_ref3, fun m ρ _ => Cert.Kernel4.Gen.frame m ρ, fun m ρ _ => Cert.Kernel4Ideal.Gen.frame m ρ,
    frame_ref4, fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6, fun m ρ _ => Cert.Kernel7.Gen.frame m ρ,
    fun m ρ _ => Cert.Kernel7Ideal.Gen.frame m ρ, frame_ref7, fun m ρ _ => Cert.Kernel8.Gen.frame m ρ, fun m ρ _ => Cert.Kernel8Ideal.Gen.frame m ρ,
    frame_ref8, fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ, frame_ref10, fun m ρ _ => Cert.Kernel11.Gen.frame m ρ,
    fun m ρ _ => Cert.Kernel11Ideal.Gen.frame m ρ, frame_ref11, fun m ρ _ => Cert.Kernel12.Gen.frame m ρ,
    fun m ρ _ => Cert.Kernel12Ideal.Gen.frame m ρ, frame_ref12, fun m ρ _ => Cert.Kernel13.Gen.frame m ρ,
    fun m ρ _ => Cert.Kernel13Ideal.Gen.frame m ρ, frame_ref13, fun m ρ _ => Cert.Kernel14.Gen.frame m ρ,
    fun m ρ _ => Cert.Kernel14Ideal.Gen.frame m ρ, frame_ref14, fun m ρ _ => Cert.Kernel15.Gen.frame m ρ,
    fun m ρ _ => Cert.Kernel15Ideal.Gen.frame m ρ, frame_ref15, fun m ρ _ => Cert.Kernel16.Gen.frame m ρ,
    fun m ρ _ => Cert.Kernel16Ideal.Gen.frame m ρ, frame_ref16, fun m ρ _ => Cert.Kernel17.Gen.frame m ρ,
    fun m ρ _ => Cert.Kernel17Ideal.Gen.frame m ρ, frame_ref17, fun m ρ _ => Cert.Kernel18.Gen.frame m ρ,
    fun m ρ _ => Cert.Kernel18Ideal.Gen.frame m ρ, frame_ref18, fun m ρ _ => Cert.Kernel19.Gen.frame m ρ,
    fun m ρ _ => Cert.Kernel19Ideal.Gen.frame m ρ, frame_ref19, fun m ρ _ => Cert.Kernel20.Gen.frame m ρ,
    fun m ρ _ => Cert.Kernel20Ideal.Gen.frame m ρ, frame_ref20, fun m ρ _ => Cert.Kernel21.Gen.frame m ρ,
    fun m ρ _ => Cert.Kernel21Ideal.Gen.frame m ρ, frame_ref21, fun m ρ _ => Cert.Kernel22.Gen.frame m ρ,
    fun m ρ _ => Cert.Kernel22Ideal.Gen.frame m ρ, frame_ref22, fun m ρ _ => Cert.Kernel24.Gen.frame m ρ,
    fun m ρ _ => Cert.Kernel24Ideal.Gen.frame m ρ, frame_ref24, fun m ρ _ => Cert.Kernel25.Gen.frame m ρ,
    fun m ρ _ => Cert.Kernel25Ideal.Gen.frame m ρ, frame_ref25, fun m ρ _ => Cert.Kernel26.Gen.frame m ρ,
    fun m ρ _ => Cert.Kernel26Ideal.Gen.frame m ρ, frame_ref26, fun m ρ _ => Cert.Kernel27.Gen.frame m ρ,
    fun m ρ _ => Cert.Kernel27Ideal.Gen.frame m ρ, frame_ref27, fun m ρ _ => Cert.Kernel28.Gen.frame m ρ,
    fun m ρ _ => Cert.Kernel28Ideal.Gen.frame m ρ, frame_ref28, fun m ρ _ => Cert.Kernel29.Gen.frame m ρ,
    fun m ρ _ => Cert.Kernel29Ideal.Gen.frame m ρ, frame_ref29, fun m ρ _ => Cert.Kernel30.Gen.frame m ρ,
    fun m ρ _ => Cert.Kernel30Ideal.Gen.frame m ρ, frame_ref30, fun m ρ _ => Cert.Kernel31.Gen.frame m ρ,
    fun m ρ _ => Cert.Kernel31Ideal.Gen.frame m ρ, frame_ref31, fun m ρ _ => Cert.Kernel32.Gen.frame m ρ,
    fun m ρ _ => Cert.Kernel32Ideal.Gen.frame m ρ, frame_ref32, fun m ρ _ => Cert.Kernel23.Gen.frame m ρ,
    fun m ρ _ => Cert.Kernel23Ideal.Gen.frame m ρ, frame_ref23, fun m ρ _ => Cert.Kernel33.Gen.frame m ρ,
    fun m ρ _ => Cert.Kernel33Ideal.Gen.frame m ρ, frame_ref33, fun m ρ _ => Cert.Kernel34.Gen.frame m ρ,
    fun m ρ _ => Cert.Kernel34Ideal.Gen.frame m ρ, frame_ref34, fun m ρ _ => Cert.Kernel35.Gen.frame m ρ,
    fun m ρ _ => Cert.Kernel35Ideal.Gen.frame m ρ, frame_ref35,
    IdealRules.named_const.statement Cert.KernelIdeal.κ "mask" .f32 0xF149F2CA#32 ⊥ rfl, algebraic, trivial, algebraic2, trivial, algebraic3, trivial,
    algebraic4, trivial, algebraic5, trivial, algebraic6, trivial, algebraic7, trivial, algebraic8, trivial, algebraic9, trivial, algebraic10, trivial,
    algebraic11, trivial, algebraic12, trivial, algebraic13, trivial, algebraic14, trivial, algebraic15, trivial, algebraic16, trivial, algebraic17,
    trivial, algebraic18, trivial, algebraic19, trivial, algebraic20, trivial, algebraic21, trivial, algebraic22, trivial, algebraic24, trivial,
    algebraic25, trivial, algebraic26, trivial, algebraic27, trivial, algebraic28, trivial, algebraic29, trivial, algebraic30, trivial, algebraic31,
    trivial, algebraic32, trivial, algebraic23, trivial, algebraic33, trivial, algebraic34, trivial, algebraic35⟩

end Cert.Proof

end
